-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_reach [hPre_in_reach : Cert.Pre_in_reach.Facts] (m : (ℓ : Loc Cert.KernelIdeal.nD Cert.KernelIdeal.τ Cert.KernelIdeal.sig) → Buf (Elt Ideal) ℓ) : Prop :=
  ∀ c : Dev Cert.KernelIdeal.nD,
    (Cert.Pre_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_reach [hPre_in_reach : Cert.Pre_in_reach.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_reach.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_reach [hKernelIdeal : Cert.KernelIdeal.Facts] [hPre_in_reach : Cert.Pre_in_reach.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_reach m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_reach [hReferenceIdeal : Cert.ReferenceIdeal.Facts] [hPre_in_reach : Cert.Pre_in_reach.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_reach m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_reach [hKernelIdeal : Cert.KernelIdeal.Facts] [hReferenceIdeal : Cert.ReferenceIdeal.Facts] [hPre_in_reach : Cert.Pre_in_reach.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_reach m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v370) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_reach : Cert.Pre_in_reach.Facts),
    quiescent_Kernel (hKernel := hKernel)
    ∧ quiescent_KernelIdeal (hKernelIdeal := hKernelIdeal)
    ∧ quiescent_KernelIdeal_pre_in_reach (hKernelIdeal := hKernelIdeal) (hPre_in_reach := hPre_in_reach)
    ∧ quiescent_ReferenceIdeal (hReferenceIdeal := hReferenceIdeal)
    ∧ quiescent_ReferenceIdeal_pre_in_reach (hReferenceIdeal := hReferenceIdeal) (hPre_in_reach := hPre_in_reach)
    ∧ preserves_Kernel_KernelIdeal
    ∧ algebraic_KernelIdeal_ReferenceIdeal_pre_in_reach (hKernelIdeal := hKernelIdeal) (hReferenceIdeal := hReferenceIdeal) (hPre_in_reach := hPre_in_reach)
-- ==== Pre_in_reach.lean ====
abbrev S4x12x8x16x16 : Shape := ⟨5, ![4, 12, 8, 16, 16]⟩
abbrev S4x512x512 : Shape := ⟨3, ![4, 512, 512]⟩
abbrev S4x3x512x512 : Shape := ⟨4, ![4, 3, 512, 512]⟩
abbrev S_ : Shape := ⟨0, ![]⟩

class Facts : Prop where
  bcast_S_S4x12x8x16x16 : S_.BroadcastsInDim S4x12x8x16x16 (![] : Fin 0 → Fin S4x12x8x16x16.rank)
  reducesTo_S4x12x8x16x16_S_d0_1_2_3_4 : S4x12x8x16x16.ReducesTo [0, 1, 2, 3, 4] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_

variable [Facts]

def fn {F : FTy → Type} [FloatOps F] (main_arg0 : FVec F S4x12x8x16x16 .f32) (main_arg1 : FVec F S4x512x512 .f32) (main_arg2 : FVec F S4x3x512x512 .f32) : IVec S_ 1 :=
  let main_v0 : FVec F S4x12x8x16x16 .f32 := Host.absf main_arg0
  let main_cst : FVec F S_ .f32 := constant S_ .f32 0x7F800000#32
  let main_v1 : FVec F S4x12x8x16x16 .f32 := broadcastInDim S4x12x8x16x16 ![] bcast_S_S4x12x8x16x16 main_cst
  let main_v2 : IVec S4x12x8x16x16 1 := cmpf .olt main_v0 main_v1
  let main_c : IVec S_ 1 := constantI S_ 1 1#1
  let main_v3 : IVec S_ 1 := (fun x v => Host.reduce IntOp.andi x v reducesTo_S4x12x8x16x16_S_d0_1_2_3_4 h_S_) main_v2 main_c
  let main_v4 : FVec F S4x512x512 .f32 := Host.absf main_arg1
  let main_cst_0 : FVec F S_ .f32 := constant S_ .f32 0x7F800000#32
  let main_v5 : FVec F S4x512x512 .f32 := broadcastInDim S4x512x512 ![] bcast_S_S4x512x512 main_cst_0
  let main_v6 : IVec S4x512x512 1 := cmpf .olt main_v4 main_v5
  let main_c_1 : IVec S_ 1 := constantI S_ 1 1#1
  let main_v7 : IVec S_ 1 := (fun x v => Host.reduce IntOp.andi x v reducesTo_S4x512x512_S_d0_1_2 h_S_) main_v6 main_c_1
  let main_v8 : IVec S_ 1 := andi main_v3 main_v7
  let main_cst_2 : FVec F S_ .f32 := constant S_ .f32 0xCD000000#32
  let main_v9 : FVec F S4x512x512 .f32 := broadcastInDim S4x512x512 ![] bcast_S_S4x512x512 main_cst_2
  let main_v10 : IVec S4x512x512 1 := cmpf .oge main_arg1 main_v9
  let main_c_3 : IVec S_ 1 := constantI S_ 1 1#1
  let main_v11 : IVec S_ 1 := (fun x v => Host.reduce IntOp.andi x v reducesTo_S4x512x512_S_d0_1_2 h_S_) main_v10 main_c_3
  let main_v12 : IVec S_ 1 := andi main_v8 main_v11
  main_v12
-- ==== Kernel.lean ====
abbrev S4x12x8x16x16 : Shape := ⟨5, ![4, 12, 8, 16, 16]⟩
abbrev S4x512x512 : Shape := ⟨3, ![4, 512, 512]⟩
abbrev S4x3x512x512 : Shape := ⟨4, ![4, 3, 512, 512]⟩
abbrev S512 : Shape := ⟨1, ![512]⟩
abbrev S4x24576 : Shape := ⟨2, ![4, 24576]⟩
abbrev S4x262144 : Shape := ⟨2, ![4, 262144]⟩
abbrev S12x262144 : Shape := ⟨2, ![12, 262144]⟩
abbrev S49152 : Shape := ⟨1, ![49152]⟩
abbrev S1824 : Shape := ⟨1, ![1824]⟩
abbrev S4096 : Shape := ⟨1, ![4096]⟩
abbrev S12288 : Shape := ⟨1, ![12288]⟩
abbrev S_ : Shape := ⟨0, ![]⟩
abbrev S24576 : Shape := ⟨1, ![24576]⟩
abbrev S1x24576 : Shape := ⟨2, ![1, 24576]⟩
abbrev S1x4096 : Shape := ⟨2, ![1, 4096]⟩
abbrev S16 : Shape := ⟨1, ![16]⟩

abbrev nBuf : Table → Nat
  | .hbm => 11
  | .local .scVector .vmem => 10
  | _ => 0

abbrev bufTy : (tb : Table) → Fin (nBuf tb) → BufTy
  | .hbm, ⟨0, _⟩ => ⟨S4x12x8x16x16, .f32⟩
  | .hbm, ⟨1, _⟩ => ⟨S4x512x512, .f32⟩
  | .hbm, ⟨2, _⟩ => ⟨S4x3x512x512, .f32⟩
  | .hbm, ⟨3, _⟩ => ⟨S512, .i32⟩
  | .hbm, ⟨4, _⟩ => ⟨S512, .i32⟩
  | .hbm, ⟨5, _⟩ => ⟨S512, .f32⟩
  | .hbm, ⟨6, _⟩ => ⟨S4x24576, .f32⟩
  | .hbm, ⟨7, _⟩ => ⟨S4x262144, .f32⟩
  | .hbm, ⟨8, _⟩ => ⟨S12x262144, .f32⟩
  | .hbm, ⟨9, _⟩ => ⟨S12x262144, .f32⟩
  | .hbm, ⟨10, _⟩ => ⟨S4x3x512x512, .f32⟩
  | .local .scVector .vmem, ⟨0, _⟩ => ⟨S49152, .f32⟩
  | .local .scVector .vmem, ⟨1, _⟩ => ⟨S1824, .f32⟩
  | .local .scVector .vmem, ⟨2, _⟩ => ⟨S4096, .f32⟩
  | .local .scVector .vmem, ⟨3, _⟩ => ⟨S12288, .f32⟩
  | .local .scVector .vmem, ⟨4, _⟩ => ⟨S4096, .f32⟩
  | .local .scVector .vmem, ⟨5, _⟩ => ⟨S12288, .f32⟩
  | .local .scVector .vmem, ⟨6, _⟩ => ⟨S12288, .f32⟩
  | .local .scVector .vmem, ⟨7, _⟩ => ⟨S512, .i32⟩
  | .local .scVector .vmem, ⟨8, _⟩ => ⟨S512, .i32⟩
  | .local .scVector .vmem, ⟨9, _⟩ => ⟨S512, .f32⟩
  | _, _ => ⟨S4x12x8x16x16, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v0_scv : Ref sig .scVector := ⟨.hbm, 6, rfl⟩
abbrev main_v1_scv : Ref sig .scVector := ⟨.hbm, 7, rfl⟩
abbrev main_v2_scv : Ref sig .scVector := ⟨.hbm, 8, rfl⟩
abbrev main_c_scv : Ref sig .scVector := ⟨.hbm, 3, rfl⟩
abbrev main_c_0_scv : Ref sig .scVector := ⟨.hbm, 4, rfl⟩
abbrev main_cst_scv : Ref sig .scVector := ⟨.hbm, 5, rfl⟩
abbrev main_v3_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_8 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v8 : BitVec 32 := Scalar.muli v1 c16_i32
  let c0_i32_4 : BitVec 32 := 0#32
  let v9 : BitVec 32 := Scalar.addi v8 c0_i32_4
  let c512_i32 : BitVec 32 := 512#32
  let v10 : BitVec 32 := Scalar.muli v9 c512_i32
  ![0, v10.toNat]
def k0_off2 (i : grid0.Coords) : Fin 2 → Nat :=
  let c0_i32_9 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v8 : BitVec 32 := Scalar.muli v1 c16_i32
  let c0_i32_4 : BitVec 32 := 0#32
  let v9 : BitVec 32 := Scalar.addi v8 c0_i32_4
  let c512_i32_5 : BitVec 32 := 512#32
  let v11 : BitVec 32 := Scalar.muli v9 c512_i32_5
  ![0, v11.toNat]
def k0_off3 (i : grid0.Coords) : Fin 2 → Nat :=
  let c1_i32 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v8 : BitVec 32 := Scalar.muli v1 c16_i32
  let c0_i32_4 : BitVec 32 := 0#32
  let v9 : BitVec 32 := Scalar.addi v8 c0_i32_4
  let c512_i32_6 : BitVec 32 := 512#32
  let v12 : BitVec 32 := Scalar.muli v9 c512_i32_6
  ![1, v12.toNat]
def k0_off4 (i : grid0.Coords) : Fin 2 → Nat :=
  let c2_i32_13 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v8 : BitVec 32 := Scalar.muli v1 c16_i32
  let c0_i32_4 : BitVec 32 := 0#32
  let v9 : BitVec 32 := Scalar.addi v8 c0_i32_4
  let c512_i32_7 : BitVec 32 := 512#32
  let v13 : BitVec 32 := Scalar.muli v9 c512_i32_7
  ![2, v13.toNat]
@[reducible] def k0_t1_loop : Scf.Loop 32 :=
  let c0_i32_16 : BitVec 32 := 0#32
  let c4_i32 : BitVec 32 := 4#32
  let v36 : BitVec 32 := Scalar.addi c0_i32_16 c4_i32
  let c1_i32_17 : BitVec 32 := 1#32
  ⟨c0_i32_16, v36, c1_i32_17⟩
def k0_off5 (i : grid0.Coords) (k0_t1 : Fin k0_t1_loop.trips) : Fin 2 → Nat :=
  let c0_i32_16 : BitVec 32 := 0#32
  let c1_i32_17 : BitVec 32 := 1#32
  let arg22 : BitVec 32 := Scf.iv c0_i32_16 c1_i32_17 k0_t1
  let c2_i32_19 : BitVec 32 := 2#32
  let v37 : BitVec 32 := Scalar.muli arg22 c2_i32_19
  let c1_i32_20 : BitVec 32 := 1#32
  let v38 : BitVec 32 := Scalar.addi v37 c1_i32_20
  let c0_i32_23 : BitVec 32 := 0#32
  let v42 : BitVec 1 := Scalar.cmpi .sgt v38 c0_i32_23
  let v43 : BitVec 32 := Scalar.extui v42
  let c0_i32_24 : BitVec 32 := 0#32
  let v44 : BitVec 1 := Scalar.cmpi .slt v38 c0_i32_24
  let v45 : BitVec 32 := Scalar.extui v44
  let v46 : BitVec 32 := Scalar.subi v43 v45
  let c2_i32_22 : BitVec 32 := 2#32
  let c0_i32_25 : BitVec 32 := 0#32
  let v47 : BitVec 1 := Scalar.cmpi .sgt c2_i32_22 c0_i32_25
  let v48 : BitVec 32 := Scalar.extui v47
  let c0_i32_26 : BitVec 32 := 0#32
  let v49 : BitVec 1 := Scalar.cmpi .slt c2_i32_22 c0_i32_26
  let v50 : BitVec 32 := Scalar.extui v49
  let v51 : BitVec 32 := Scalar.subi v48 v50
  let v52 : BitVec 1 := Scalar.cmpi .ne v46 v51
  let v53 : BitVec 32 := Scalar.remsi v38 c2_i32_22
  let c0_i32_27 : BitVec 32 := 0#32
  let v54 : BitVec 1 := Scalar.cmpi .ne v53 c0_i32_27
  let v55 : BitVec 1 := Scalar.andi v52 v54
  let v41 : BitVec 32 := Scalar.divsi v38 c2_i32_22
  let c1_i32_28 : BitVec 32 := 1#32
  let v56 : BitVec 32 := Scalar.subi v41 c1_i32_28
  let v57 : BitVec 32 := Scalar.select v55 v56 v41
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_29 : BitVec 32 := 16#32
  let v58 : BitVec 32 := Scalar.muli v1 c16_i32_29
  let c2_i32_30 : BitVec 32 := 2#32
  let c0_i32_31 : BitVec 32 := 0#32
  let v59 : BitVec 1 := Scalar.cmpi .eq c2_i32_30 c0_i32_31
  let c1_i32_32 : BitVec 32 := 1#32
  let v60 : BitVec 32 := Scalar.select v59 c1_i32_32 c2_i32_30
  let v61 : BitVec 32 := Scalar.remsi v38 v60
  let c0_i32_34 : BitVec 32 := 0#32
  let v63 : BitVec 1 := Scalar.cmpi .slt v61 c0_i32_34
  let c0_i32_35 : BitVec 32 := 0#32
  let v64 : BitVec 1 := Scalar.cmpi .slt v60 c0_i32_35
  let v65 : BitVec 1 := Scalar.xori v63 v64
  let c0_i32_33 : BitVec 32 := 0#32
  let v62 : BitVec 1 := Scalar.cmpi .ne v61 c0_i32_33
  let v66 : BitVec 1 := Scalar.andi v65 v62
  let v67 : BitVec 32 := Scalar.addi v61 v60
  let v68 : BitVec 32 := Scalar.select v66 v67 v61
  let c8_i32 : BitVec 32 := 8#32
  let v69 : BitVec 32 := Scalar.muli v68 c8_i32
  let v70 : BitVec 32 := Scalar.addi v58 v69
  let c512_i32_36 : BitVec 32 := 512#32
  let v71 : BitVec 32 := Scalar.muli v70 c512_i32_36
  ![v57.toNat, v71.toNat]
def k0_off6 (i : grid0.Coords) (k0_t1 : Fin k0_t1_loop.trips) (c0_i32_37 : BitVec 32) : Fin 2 → Nat :=
  let c0_i32_16 : BitVec 32 := 0#32
  let c1_i32_17 : BitVec 32 := 1#32
  let arg22 : BitVec 32 := Scf.iv c0_i32_16 c1_i32_17 k0_t1
  let c2_i32_19 : BitVec 32 := 2#32
  let v37 : BitVec 32 := Scalar.muli arg22 c2_i32_19
  let c1_i32_20 : BitVec 32 := 1#32
  let v38 : BitVec 32 := Scalar.addi v37 c1_i32_20
  let c0_i32_23 : BitVec 32 := 0#32
  let v42 : BitVec 1 := Scalar.cmpi .sgt v38 c0_i32_23
  let v43 : BitVec 32 := Scalar.extui v42
  let c0_i32_24 : BitVec 32 := 0#32
  let v44 : BitVec 1 := Scalar.cmpi .slt v38 c0_i32_24
  let v45 : BitVec 32 := Scalar.extui v44
  let v46 : BitVec 32 := Scalar.subi v43 v45
  let c2_i32_22 : BitVec 32 := 2#32
  let c0_i32_25 : BitVec 32 := 0#32
  let v47 : BitVec 1 := Scalar.cmpi .sgt c2_i32_22 c0_i32_25
  let v48 : BitVec 32 := Scalar.extui v47
  let c0_i32_26 : BitVec 32 := 0#32
  let v49 : BitVec 1 := Scalar.cmpi .slt c2_i32_22 c0_i32_26
  let v50 : BitVec 32 := Scalar.extui v49
  let v51 : BitVec 32 := Scalar.subi v48 v50
  let v52 : BitVec 1 := Scalar.cmpi .ne v46 v51
  let v53 : BitVec 32 := Scalar.remsi v38 c2_i32_22
  let c0_i32_27 : BitVec 32 := 0#32
  let v54 : BitVec 1 := Scalar.cmpi .ne v53 c0_i32_27
  let v55 : BitVec 1 := Scalar.andi v52 v54
  let v41 : BitVec 32 := Scalar.divsi v38 c2_i32_22
  let c1_i32_28 : BitVec 32 := 1#32
  let v56 : BitVec 32 := Scalar.subi v41 c1_i32_28
  let v57 : BitVec 32 := Scalar.select v55 v56 v41
  let c3_i32 : BitVec 32 := 3#32
  let v72 : BitVec 32 := Scalar.muli v57 c3_i32
  let v73 : BitVec 32 := Scalar.addi v72 c0_i32_37
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_29 : BitVec 32 := 16#32
  let v58 : BitVec 32 := Scalar.muli v1 c16_i32_29
  let c2_i32_30 : BitVec 32 := 2#32
  let c0_i32_31 : BitVec 32 := 0#32
  let v59 : BitVec 1 := Scalar.cmpi .eq c2_i32_30 c0_i32_31
  let c1_i32_32 : BitVec 32 := 1#32
  let v60 : BitVec 32 := Scalar.select v59 c1_i32_32 c2_i32_30
  let v61 : BitVec 32 := Scalar.remsi v38 v60
  let c0_i32_34 : BitVec 32 := 0#32
  let v63 : BitVec 1 := Scalar.cmpi .slt v61 c0_i32_34
  let c0_i32_35 : BitVec 32 := 0#32
  let v64 : BitVec 1 := Scalar.cmpi .slt v60 c0_i32_35
  let v65 : BitVec 1 := Scalar.xori v63 v64
  let c0_i32_33 : BitVec 32 := 0#32
  let v62 : BitVec 1 := Scalar.cmpi .ne v61 c0_i32_33
  let v66 : BitVec 1 := Scalar.andi v65 v62
  let v67 : BitVec 32 := Scalar.addi v61 v60
  let v68 : BitVec 32 := Scalar.select v66 v67 v61
  let c8_i32 : BitVec 32 := 8#32
  let v69 : BitVec 32 := Scalar.muli v68 c8_i32
  let v70 : BitVec 32 := Scalar.addi v58 v69
  let c512_i32_38 : BitVec 32 := 512#32
  let v74 : BitVec 32 := Scalar.muli v70 c512_i32_38
  ![v73.toNat, v74.toNat]
def k0_off7 (k0_t1 : Fin k0_t1_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32_51 : BitVec 32 := 24576#32
  let v103 : BitVec 32 := Scalar.muli v39 c24576_i32_51
  ![v103.toNat]
def k0_off8 (k0_t1 : Fin k0_t1_loop.trips) : Fin 2 → Nat :=
  let c0_i32_16 : BitVec 32 := 0#32
  let c1_i32_17 : BitVec 32 := 1#32
  let arg22 : BitVec 32 := Scf.iv c0_i32_16 c1_i32_17 k0_t1
  let c0_i32_52 : BitVec 32 := 0#32
  ![arg22.toNat, 0]
def k0_cond1 (k0_t1 : Fin k0_t1_loop.trips) : BitVec 1 :=
  let c0_i32_16 : BitVec 32 := 0#32
  let c1_i32_17 : BitVec 32 := 1#32
  let arg22 : BitVec 32 := Scf.iv c0_i32_16 c1_i32_17 k0_t1
  let c1_i32_54 : BitVec 32 := 1#32
  let v110 : BitVec 32 := Scalar.addi arg22 c1_i32_54
  let c4_i32_55 : BitVec 32 := 4#32
  let v111 : BitVec 1 := Scalar.cmpi .slt v110 c4_i32_55
  let v112 : BitVec 32 := Scalar.extui v111
  let c0_i32_56 : BitVec 32 := 0#32
  let v113 : BitVec 1 := Scalar.cmpi .ne v112 c0_i32_56
  v113

def k0_off9 (k0_t1 : Fin k0_t1_loop.trips) : Fin 1 → Nat :=
  let c1_i32_532 : BitVec 32 := 1#32
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let v689 : BitVec 32 := Scalar.subi c1_i32_532 v39
  let c24576_i32_533 : BitVec 32 := 24576#32
  let v690 : BitVec 32 := Scalar.muli v689 c24576_i32_533
  ![v690.toNat]
def k0_off10 (k0_t1 : Fin k0_t1_loop.trips) : Fin 2 → Nat :=
  let c0_i32_16 : BitVec 32 := 0#32
  let c1_i32_17 : BitVec 32 := 1#32
  let arg22 : BitVec 32 := Scf.iv c0_i32_16 c1_i32_17 k0_t1
  let c1_i32_531 : BitVec 32 := 1#32
  let v688 : BitVec 32 := Scalar.addi arg22 c1_i32_531
  let c0_i32_534 : BitVec 32 := 0#32
  ![v688.toNat, 0]
def k0_off11 (i : grid0.Coords) (k0_t1 : Fin k0_t1_loop.trips) : Fin 2 → Nat :=
  let c0_i32_16 : BitVec 32 := 0#32
  let c1_i32_17 : BitVec 32 := 1#32
  let arg22 : BitVec 32 := Scf.iv c0_i32_16 c1_i32_17 k0_t1
  let c2_i32_19 : BitVec 32 := 2#32
  let v37 : BitVec 32 := Scalar.muli arg22 c2_i32_19
  let c0_i32_58 : BitVec 32 := 0#32
  let v115 : BitVec 1 := Scalar.cmpi .sgt v37 c0_i32_58
  let v116 : BitVec 32 := Scalar.extui v115
  let c0_i32_59 : BitVec 32 := 0#32
  let v117 : BitVec 1 := Scalar.cmpi .slt v37 c0_i32_59
  let v118 : BitVec 32 := Scalar.extui v117
  let v119 : BitVec 32 := Scalar.subi v116 v118
  let c2_i32_57 : BitVec 32 := 2#32
  let c0_i32_60 : BitVec 32 := 0#32
  let v120 : BitVec 1 := Scalar.cmpi .sgt c2_i32_57 c0_i32_60
  let v121 : BitVec 32 := Scalar.extui v120
  let c0_i32_61 : BitVec 32 := 0#32
  let v122 : BitVec 1 := Scalar.cmpi .slt c2_i32_57 c0_i32_61
  let v123 : BitVec 32 := Scalar.extui v122
  let v124 : BitVec 32 := Scalar.subi v121 v123
  let v125 : BitVec 1 := Scalar.cmpi .ne v119 v124
  let v126 : BitVec 32 := Scalar.remsi v37 c2_i32_57
  let c0_i32_62 : BitVec 32 := 0#32
  let v127 : BitVec 1 := Scalar.cmpi .ne v126 c0_i32_62
  let v128 : BitVec 1 := Scalar.andi v125 v127
  let v114 : BitVec 32 := Scalar.divsi v37 c2_i32_57
  let c1_i32_63 : BitVec 32 := 1#32
  let v129 : BitVec 32 := Scalar.subi v114 c1_i32_63
  let v130 : BitVec 32 := Scalar.select v128 v129 v114
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_64 : BitVec 32 := 16#32
  let v131 : BitVec 32 := Scalar.muli v1 c16_i32_64
  let c2_i32_65 : BitVec 32 := 2#32
  let c0_i32_66 : BitVec 32 := 0#32
  let v132 : BitVec 1 := Scalar.cmpi .eq c2_i32_65 c0_i32_66
  let c1_i32_67 : BitVec 32 := 1#32
  let v133 : BitVec 32 := Scalar.select v132 c1_i32_67 c2_i32_65
  let v134 : BitVec 32 := Scalar.remsi v37 v133
  let c0_i32_69 : BitVec 32 := 0#32
  let v136 : BitVec 1 := Scalar.cmpi .slt v134 c0_i32_69
  let c0_i32_70 : BitVec 32 := 0#32
  let v137 : BitVec 1 := Scalar.cmpi .slt v133 c0_i32_70
  let v138 : BitVec 1 := Scalar.xori v136 v137
  let c0_i32_68 : BitVec 32 := 0#32
  let v135 : BitVec 1 := Scalar.cmpi .ne v134 c0_i32_68
  let v139 : BitVec 1 := Scalar.andi v138 v135
  let v140 : BitVec 32 := Scalar.addi v134 v133
  let v141 : BitVec 32 := Scalar.select v139 v140 v134
  let c8_i32_71 : BitVec 32 := 8#32
  let v142 : BitVec 32 := Scalar.muli v141 c8_i32_71
  let v143 : BitVec 32 := Scalar.addi v131 v142
  let c512_i32_72 : BitVec 32 := 512#32
  let v144 : BitVec 32 := Scalar.muli v143 c512_i32_72
  ![v130.toNat, v144.toNat]
def k0_off12 (i : grid0.Coords) (k0_t1 : Fin k0_t1_loop.trips) (c0_i32_74 : BitVec 32) : Fin 2 → Nat :=
  let c0_i32_16 : BitVec 32 := 0#32
  let c1_i32_17 : BitVec 32 := 1#32
  let arg22 : BitVec 32 := Scf.iv c0_i32_16 c1_i32_17 k0_t1
  let c2_i32_19 : BitVec 32 := 2#32
  let v37 : BitVec 32 := Scalar.muli arg22 c2_i32_19
  let c0_i32_58 : BitVec 32 := 0#32
  let v115 : BitVec 1 := Scalar.cmpi .sgt v37 c0_i32_58
  let v116 : BitVec 32 := Scalar.extui v115
  let c0_i32_59 : BitVec 32 := 0#32
  let v117 : BitVec 1 := Scalar.cmpi .slt v37 c0_i32_59
  let v118 : BitVec 32 := Scalar.extui v117
  let v119 : BitVec 32 := Scalar.subi v116 v118
  let c2_i32_57 : BitVec 32 := 2#32
  let c0_i32_60 : BitVec 32 := 0#32
  let v120 : BitVec 1 := Scalar.cmpi .sgt c2_i32_57 c0_i32_60
  let v121 : BitVec 32 := Scalar.extui v120
  let c0_i32_61 : BitVec 32 := 0#32
  let v122 : BitVec 1 := Scalar.cmpi .slt c2_i32_57 c0_i32_61
  let v123 : BitVec 32 := Scalar.extui v122
  let v124 : BitVec 32 := Scalar.subi v121 v123
  let v125 : BitVec 1 := Scalar.cmpi .ne v119 v124
  let v126 : BitVec 32 := Scalar.remsi v37 c2_i32_57
  let c0_i32_62 : BitVec 32 := 0#32
  let v127 : BitVec 1 := Scalar.cmpi .ne v126 c0_i32_62
  let v128 : BitVec 1 := Scalar.andi v125 v127
  let v114 : BitVec 32 := Scalar.divsi v37 c2_i32_57
  let c1_i32_63 : BitVec 32 := 1#32
  let v129 : BitVec 32 := Scalar.subi v114 c1_i32_63
  let v130 : BitVec 32 := Scalar.select v128 v129 v114
  let c3_i32_73 : BitVec 32 := 3#32
  let v145 : BitVec 32 := Scalar.muli v130 c3_i32_73
  let v146 : BitVec 32 := Scalar.addi v145 c0_i32_74
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_64 : BitVec 32 := 16#32
  let v131 : BitVec 32 := Scalar.muli v1 c16_i32_64
  let c2_i32_65 : BitVec 32 := 2#32
  let c0_i32_66 : BitVec 32 := 0#32
  let v132 : BitVec 1 := Scalar.cmpi .eq c2_i32_65 c0_i32_66
  let c1_i32_67 : BitVec 32 := 1#32
  let v133 : BitVec 32 := Scalar.select v132 c1_i32_67 c2_i32_65
  let v134 : BitVec 32 := Scalar.remsi v37 v133
  let c0_i32_69 : BitVec 32 := 0#32
  let v136 : BitVec 1 := Scalar.cmpi .slt v134 c0_i32_69
  let c0_i32_70 : BitVec 32 := 0#32
  let v137 : BitVec 1 := Scalar.cmpi .slt v133 c0_i32_70
  let v138 : BitVec 1 := Scalar.xori v136 v137
  let c0_i32_68 : BitVec 32 := 0#32
  let v135 : BitVec 1 := Scalar.cmpi .ne v134 c0_i32_68
  let v139 : BitVec 1 := Scalar.andi v138 v135
  let v140 : BitVec 32 := Scalar.addi v134 v133
  let v141 : BitVec 32 := Scalar.select v139 v140 v134
  let c8_i32_71 : BitVec 32 := 8#32
  let v142 : BitVec 32 := Scalar.muli v141 c8_i32_71
  let v143 : BitVec 32 := Scalar.addi v131 v142
  let c512_i32_75 : BitVec 32 := 512#32
  let v147 : BitVec 32 := Scalar.muli v143 c512_i32_75
  ![v146.toNat, v147.toNat]
@[reducible] def k0_t2_loop : Scf.Loop 32 :=
  let c0_i32_114 : BitVec 32 := 0#32
  let c96_i32 : BitVec 32 := 96#32
  let v227 : BitVec 32 := Scalar.addi c0_i32_114 c96_i32
  let c1_i32_115 : BitVec 32 := 1#32
  ⟨c0_i32_114, v227, c1_i32_115⟩
def k0_off13 (i : grid0.Coords) (k0_t1 : Fin k0_t1_loop.trips) (k0_t2 : Fin k0_t2_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_114 : BitVec 32 := 0#32
  let c1_i32_115 : BitVec 32 := 1#32
  let arg23 : BitVec 32 := Scf.iv c0_i32_114 c1_i32_115 k0_t2
  let c256_i32 : BitVec 32 := 256#32
  let v688 : BitVec 32 := Scalar.muli arg23 c256_i32
  let v689 : BitVec 32 := Scalar.addi v40 v688
  let c15_i32 : BitVec 32 := 15#32
  let c0_i32_105 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_95 : BitVec 32 := 16#32
  let v193 : BitVec 32 := Scalar.muli v1 c16_i32_95
  let c2_i32_19 : BitVec 32 := 2#32
  let v37 : BitVec 32 := Scalar.muli arg22 c2_i32_19
  let c2_i32_96 : BitVec 32 := 2#32
  let c0_i32_97 : BitVec 32 := 0#32
  let v194 : BitVec 1 := Scalar.cmpi .eq c2_i32_96 c0_i32_97
  let c1_i32_98 : BitVec 32 := 1#32
  let v195 : BitVec 32 := Scalar.select v194 c1_i32_98 c2_i32_96
  let v196 : BitVec 32 := Scalar.remsi v37 v195
  let c0_i32_100 : BitVec 32 := 0#32
  let v198 : BitVec 1 := Scalar.cmpi .slt v196 c0_i32_100
  let c0_i32_101 : BitVec 32 := 0#32
  let v199 : BitVec 1 := Scalar.cmpi .slt v195 c0_i32_101
  let v200 : BitVec 1 := Scalar.xori v198 v199
  let c0_i32_99 : BitVec 32 := 0#32
  let v197 : BitVec 1 := Scalar.cmpi .ne v196 c0_i32_99
  let v201 : BitVec 1 := Scalar.andi v200 v197
  let v202 : BitVec 32 := Scalar.addi v196 v195
  let v203 : BitVec 32 := Scalar.select v201 v202 v196
  let c8_i32_102 : BitVec 32 := 8#32
  let v204 : BitVec 32 := Scalar.muli v203 c8_i32_102
  let v205 : BitVec 32 := Scalar.addi v193 v204
  let c0_i32_103 : BitVec 32 := 0#32
  let v206 : BitVec 32 := Scalar.addi v205 c0_i32_103
  let c16_i32_104 : BitVec 32 := 16#32
  let v207 : BitVec 32 := Scalar.subi v206 c16_i32_104
  let c5_i32 : BitVec 32 := 5#32
  let v208 : BitVec 32 := Scalar.shrsi v207 c5_i32
  let v209 : BitVec 32 := Scalar.maxsi c0_i32_105 v208
  let v210 : BitVec 32 := Scalar.minsi c15_i32 v209
  let c16_i32_106 : BitVec 32 := 16#32
  let v211 : BitVec 32 := Scalar.muli v210 c16_i32_106
  let v690 : BitVec 32 := Scalar.addi v689 v211
  let v691 : Index := Scalar.indexCast v690
  ![v691.toNat]
def k0_off14 (i : grid0.Coords) (k0_t1 : Fin k0_t1_loop.trips) (k0_t2 : Fin k0_t2_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_114 : BitVec 32 := 0#32
  let c1_i32_115 : BitVec 32 := 1#32
  let arg23 : BitVec 32 := Scf.iv c0_i32_114 c1_i32_115 k0_t2
  let c256_i32 : BitVec 32 := 256#32
  let v688 : BitVec 32 := Scalar.muli arg23 c256_i32
  let v689 : BitVec 32 := Scalar.addi v40 v688
  let c15_i32_109 : BitVec 32 := 15#32
  let c0_i32_108 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_95 : BitVec 32 := 16#32
  let v193 : BitVec 32 := Scalar.muli v1 c16_i32_95
  let c2_i32_19 : BitVec 32 := 2#32
  let v37 : BitVec 32 := Scalar.muli arg22 c2_i32_19
  let c2_i32_96 : BitVec 32 := 2#32
  let c0_i32_97 : BitVec 32 := 0#32
  let v194 : BitVec 1 := Scalar.cmpi .eq c2_i32_96 c0_i32_97
  let c1_i32_98 : BitVec 32 := 1#32
  let v195 : BitVec 32 := Scalar.select v194 c1_i32_98 c2_i32_96
  let v196 : BitVec 32 := Scalar.remsi v37 v195
  let c0_i32_100 : BitVec 32 := 0#32
  let v198 : BitVec 1 := Scalar.cmpi .slt v196 c0_i32_100
  let c0_i32_101 : BitVec 32 := 0#32
  let v199 : BitVec 1 := Scalar.cmpi .slt v195 c0_i32_101
  let v200 : BitVec 1 := Scalar.xori v198 v199
  let c0_i32_99 : BitVec 32 := 0#32
  let v197 : BitVec 1 := Scalar.cmpi .ne v196 c0_i32_99
  let v201 : BitVec 1 := Scalar.andi v200 v197
  let v202 : BitVec 32 := Scalar.addi v196 v195
  let v203 : BitVec 32 := Scalar.select v201 v202 v196
  let c8_i32_102 : BitVec 32 := 8#32
  let v204 : BitVec 32 := Scalar.muli v203 c8_i32_102
  let v205 : BitVec 32 := Scalar.addi v193 v204
  let c0_i32_103 : BitVec 32 := 0#32
  let v206 : BitVec 32 := Scalar.addi v205 c0_i32_103
  let c16_i32_104 : BitVec 32 := 16#32
  let v207 : BitVec 32 := Scalar.subi v206 c16_i32_104
  let c5_i32 : BitVec 32 := 5#32
  let v208 : BitVec 32 := Scalar.shrsi v207 c5_i32
  let c1_i32_107 : BitVec 32 := 1#32
  let v212 : BitVec 32 := Scalar.addi v208 c1_i32_107
  let v213 : BitVec 32 := Scalar.maxsi c0_i32_108 v212
  let v214 : BitVec 32 := Scalar.minsi c15_i32_109 v213
  let c16_i32_110 : BitVec 32 := 16#32
  let v215 : BitVec 32 := Scalar.muli v214 c16_i32_110
  let v693 : BitVec 32 := Scalar.addi v689 v215
  let v694 : Index := Scalar.indexCast v693
  ![v694.toNat]
def k0_off15 (k0_t2 : Fin k0_t2_loop.trips) : Fin 1 → Nat :=
  let c0_i32_114 : BitVec 32 := 0#32
  let c1_i32_115 : BitVec 32 := 1#32
  let arg23 : BitVec 32 := Scf.iv c0_i32_114 c1_i32_115 k0_t2
  let c19_i32 : BitVec 32 := 19#32
  let v699 : BitVec 32 := Scalar.muli arg23 c19_i32
  let v700 : Index := Scalar.indexCast v699
  ![v700.toNat]
@[reducible] def k0_t3_loop : Scf.Loop 32 :=
  let c0_i32_118 : BitVec 32 := 0#32
  let c32_i32 : BitVec 32 := 32#32
  let v228 : BitVec 32 := Scalar.addi c0_i32_118 c32_i32
  let c1_i32_119 : BitVec 32 := 1#32
  ⟨c0_i32_118, v228, c1_i32_119⟩
def k0_off16 (k0_t3 : Fin k0_t3_loop.trips) : Fin 1 → Nat :=
  let c0_i32_532 : BitVec 32 := 0#32
  let c0_i32_118 : BitVec 32 := 0#32
  let c1_i32_119 : BitVec 32 := 1#32
  let arg23 : BitVec 32 := Scf.iv c0_i32_118 c1_i32_119 k0_t3
  let c16_i32_531 : BitVec 32 := 16#32
  let v688 : BitVec 32 := Scalar.muli arg23 c16_i32_531
  let v689 : BitVec 32 := Scalar.addi c0_i32_532 v688
  let v690 : Index := Scalar.indexCast v689
  ![v690.toNat]
def k0_off17 (k0_t3 : Fin k0_t3_loop.trips) : Fin 1 → Nat :=
  let c0_i32_118 : BitVec 32 := 0#32
  let c1_i32_119 : BitVec 32 := 1#32
  let arg23 : BitVec 32 := Scf.iv c0_i32_118 c1_i32_119 k0_t3
  let c16_i32_542 : BitVec 32 := 16#32
  let v715 : BitVec 32 := Scalar.muli arg23 c16_i32_542
  let v716 : Index := Scalar.indexCast v715
  ![v716.toNat]
def k0_off18 (k0_t3 : Fin k0_t3_loop.trips) (c0_i32_545 : BitVec 32) : Fin 1 → Nat :=
  let c0_i32_532 : BitVec 32 := 0#32
  let c0_i32_118 : BitVec 32 := 0#32
  let c1_i32_119 : BitVec 32 := 1#32
  let arg23 : BitVec 32 := Scf.iv c0_i32_118 c1_i32_119 k0_t3
  let c16_i32_531 : BitVec 32 := 16#32
  let v688 : BitVec 32 := Scalar.muli arg23 c16_i32_531
  let v689 : BitVec 32 := Scalar.addi c0_i32_532 v688
  let v728 : BitVec 32 := Scalar.addi c0_i32_545 v689
  let v729 : Index := Scalar.indexCast v728
  ![v729.toNat]

def k0_chk1 (v738 : IVec S16 32) : Prop :=
  (∀ a x, ((![v738] : Fin 1 → IVec S16 32) a x).toNat < S1824.size a)
theorem k0_idx1_inb : ∀ (v738 : IVec S16 32) (k0_hw1 : k0_chk1 v738), ∀ a x, ((![v738] : Fin 1 → IVec S16 32) a x).toNat < S1824.size a := fun v738 k0_hw1 => k0_hw1

def k0_chk2 (v741 : IVec S16 32) : Prop :=
  (∀ a x, ((![v741] : Fin 1 → IVec S16 32) a x).toNat < S1824.size a)
theorem k0_idx2_inb : ∀ (v741 : IVec S16 32) (k0_hw2 : k0_chk2 v741), ∀ a x, ((![v741] : Fin 1 → IVec S16 32) a x).toNat < S1824.size a := fun v741 k0_hw2 => k0_hw2

def k0_chk3 (v744 : IVec S16 32) : Prop :=
  (∀ a x, ((![v744] : Fin 1 → IVec S16 32) a x).toNat < S1824.size a)
theorem k0_idx3_inb : ∀ (v744 : IVec S16 32) (k0_hw3 : k0_chk3 v744), ∀ a x, ((![v744] : Fin 1 → IVec S16 32) a x).toNat < S1824.size a := fun v744 k0_hw3 => k0_hw3

def k0_chk4 (v747 : IVec S16 32) : Prop :=
  (∀ a x, ((![v747] : Fin 1 → IVec S16 32) a x).toNat < S1824.size a)
theorem k0_idx4_inb : ∀ (v747 : IVec S16 32) (k0_hw4 : k0_chk4 v747), ∀ a x, ((![v747] : Fin 1 → IVec S16 32) a x).toNat < S1824.size a := fun v747 k0_hw4 => k0_hw4

def k0_chk5 (v760 : IVec S16 32) : Prop :=
  (∀ a x, ((![v760] : Fin 1 → IVec S16 32) a x).toNat < S1824.size a)
theorem k0_idx5_inb : ∀ (v760 : IVec S16 32) (k0_hw5 : k0_chk5 v760), ∀ a x, ((![v760] : Fin 1 → IVec S16 32) a x).toNat < S1824.size a := fun v760 k0_hw5 => k0_hw5

def k0_chk6 (v763 : IVec S16 32) : Prop :=
  (∀ a x, ((![v763] : Fin 1 → IVec S16 32) a x).toNat < S1824.size a)
theorem k0_idx6_inb : ∀ (v763 : IVec S16 32) (k0_hw6 : k0_chk6 v763), ∀ a x, ((![v763] : Fin 1 → IVec S16 32) a x).toNat < S1824.size a := fun v763 k0_hw6 => k0_hw6

def k0_chk7 (v766 : IVec S16 32) : Prop :=
  (∀ a x, ((![v766] : Fin 1 → IVec S16 32) a x).toNat < S1824.size a)
theorem k0_idx7_inb : ∀ (v766 : IVec S16 32) (k0_hw7 : k0_chk7 v766), ∀ a x, ((![v766] : Fin 1 → IVec S16 32) a x).toNat < S1824.size a := fun v766 k0_hw7 => k0_hw7

def k0_chk8 (v769 : IVec S16 32) : Prop :=
  (∀ a x, ((![v769] : Fin 1 → IVec S16 32) a x).toNat < S1824.size a)
theorem k0_idx8_inb : ∀ (v769 : IVec S16 32) (k0_hw8 : k0_chk8 v769), ∀ a x, ((![v769] : Fin 1 → IVec S16 32) a x).toNat < S1824.size a := fun v769 k0_hw8 => k0_hw8

def k0_chk9 (v783 : IVec S16 32) : Prop :=
  (∀ a x, ((![v783] : Fin 1 → IVec S16 32) a x).toNat < S1824.size a)
theorem k0_idx9_inb : ∀ (v783 : IVec S16 32) (k0_hw9 : k0_chk9 v783), ∀ a x, ((![v783] : Fin 1 → IVec S16 32) a x).toNat < S1824.size a := fun v783 k0_hw9 => k0_hw9

def k0_chk10 (v786 : IVec S16 32) : Prop :=
  (∀ a x, ((![v786] : Fin 1 → IVec S16 32) a x).toNat < S1824.size a)
theorem k0_idx10_inb : ∀ (v786 : IVec S16 32) (k0_hw10 : k0_chk10 v786), ∀ a x, ((![v786] : Fin 1 → IVec S16 32) a x).toNat < S1824.size a := fun v786 k0_hw10 => k0_hw10

def k0_chk11 (v789 : IVec S16 32) : Prop :=
  (∀ a x, ((![v789] : Fin 1 → IVec S16 32) a x).toNat < S1824.size a)
theorem k0_idx11_inb : ∀ (v789 : IVec S16 32) (k0_hw11 : k0_chk11 v789), ∀ a x, ((![v789] : Fin 1 → IVec S16 32) a x).toNat < S1824.size a := fun v789 k0_hw11 => k0_hw11

def k0_chk12 (v792 : IVec S16 32) : Prop :=
  (∀ a x, ((![v792] : Fin 1 → IVec S16 32) a x).toNat < S1824.size a)
theorem k0_idx12_inb : ∀ (v792 : IVec S16 32) (k0_hw12 : k0_chk12 v792), ∀ a x, ((![v792] : Fin 1 → IVec S16 32) a x).toNat < S1824.size a := fun v792 k0_hw12 => k0_hw12

def k0_chk13 (v806 : IVec S16 32) : Prop :=
  (∀ a x, ((![v806] : Fin 1 → IVec S16 32) a x).toNat < S1824.size a)
theorem k0_idx13_inb : ∀ (v806 : IVec S16 32) (k0_hw13 : k0_chk13 v806), ∀ a x, ((![v806] : Fin 1 → IVec S16 32) a x).toNat < S1824.size a := fun v806 k0_hw13 => k0_hw13

def k0_chk14 (v809 : IVec S16 32) : Prop :=
  (∀ a x, ((![v809] : Fin 1 → IVec S16 32) a x).toNat < S1824.size a)
theorem k0_idx14_inb : ∀ (v809 : IVec S16 32) (k0_hw14 : k0_chk14 v809), ∀ a x, ((![v809] : Fin 1 → IVec S16 32) a x).toNat < S1824.size a := fun v809 k0_hw14 => k0_hw14

def k0_chk15 (v812 : IVec S16 32) : Prop :=
  (∀ a x, ((![v812] : Fin 1 → IVec S16 32) a x).toNat < S1824.size a)
theorem k0_idx15_inb : ∀ (v812 : IVec S16 32) (k0_hw15 : k0_chk15 v812), ∀ a x, ((![v812] : Fin 1 → IVec S16 32) a x).toNat < S1824.size a := fun v812 k0_hw15 => k0_hw15

def k0_chk16 (v815 : IVec S16 32) : Prop :=
  (∀ a x, ((![v815] : Fin 1 → IVec S16 32) a x).toNat < S1824.size a)
theorem k0_idx16_inb : ∀ (v815 : IVec S16 32) (k0_hw16 : k0_chk16 v815), ∀ a x, ((![v815] : Fin 1 → IVec S16 32) a x).toNat < S1824.size a := fun v815 k0_hw16 => k0_hw16
def k0_off19 (k0_t3 : Fin k0_t3_loop.trips) : Fin 1 → Nat :=
  let c0_i32_561 : BitVec 32 := 0#32
  let c0_i32_532 : BitVec 32 := 0#32
  let c0_i32_118 : BitVec 32 := 0#32
  let c1_i32_119 : BitVec 32 := 1#32
  let arg23 : BitVec 32 := Scf.iv c0_i32_118 c1_i32_119 k0_t3
  let c16_i32_531 : BitVec 32 := 16#32
  let v688 : BitVec 32 := Scalar.muli arg23 c16_i32_531
  let v689 : BitVec 32 := Scalar.addi c0_i32_532 v688
  let v827 : BitVec 32 := Scalar.addi c0_i32_561 v689
  let v828 : Index := Scalar.indexCast v827
  ![v828.toNat]

def k0_chk17 (v831 : IVec S16 32) : Prop :=
  (∀ a x, ((![v831] : Fin 1 → IVec S16 32) a x).toNat < S1824.size a)
theorem k0_idx17_inb : ∀ (v831 : IVec S16 32) (k0_hw17 : k0_chk17 v831), ∀ a x, ((![v831] : Fin 1 → IVec S16 32) a x).toNat < S1824.size a := fun v831 k0_hw17 => k0_hw17

def k0_chk18 (v834 : IVec S16 32) : Prop :=
  (∀ a x, ((![v834] : Fin 1 → IVec S16 32) a x).toNat < S1824.size a)
theorem k0_idx18_inb : ∀ (v834 : IVec S16 32) (k0_hw18 : k0_chk18 v834), ∀ a x, ((![v834] : Fin 1 → IVec S16 32) a x).toNat < S1824.size a := fun v834 k0_hw18 => k0_hw18

def k0_chk19 (v837 : IVec S16 32) : Prop :=
  (∀ a x, ((![v837] : Fin 1 → IVec S16 32) a x).toNat < S1824.size a)
theorem k0_idx19_inb : ∀ (v837 : IVec S16 32) (k0_hw19 : k0_chk19 v837), ∀ a x, ((![v837] : Fin 1 → IVec S16 32) a x).toNat < S1824.size a := fun v837 k0_hw19 => k0_hw19

def k0_chk20 (v840 : IVec S16 32) : Prop :=
  (∀ a x, ((![v840] : Fin 1 → IVec S16 32) a x).toNat < S1824.size a)
theorem k0_idx20_inb : ∀ (v840 : IVec S16 32) (k0_hw20 : k0_chk20 v840), ∀ a x, ((![v840] : Fin 1 → IVec S16 32) a x).toNat < S1824.size a := fun v840 k0_hw20 => k0_hw20

def k0_chk21 (v853 : IVec S16 32) : Prop :=
  (∀ a x, ((![v853] : Fin 1 → IVec S16 32) a x).toNat < S1824.size a)
theorem k0_idx21_inb : ∀ (v853 : IVec S16 32) (k0_hw21 : k0_chk21 v853), ∀ a x, ((![v853] : Fin 1 → IVec S16 32) a x).toNat < S1824.size a := fun v853 k0_hw21 => k0_hw21

def k0_chk22 (v856 : IVec S16 32) : Prop :=
  (∀ a x, ((![v856] : Fin 1 → IVec S16 32) a x).toNat < S1824.size a)
theorem k0_idx22_inb : ∀ (v856 : IVec S16 32) (k0_hw22 : k0_chk22 v856), ∀ a x, ((![v856] : Fin 1 → IVec S16 32) a x).toNat < S1824.size a := fun v856 k0_hw22 => k0_hw22

def k0_chk23 (v859 : IVec S16 32) : Prop :=
  (∀ a x, ((![v859] : Fin 1 → IVec S16 32) a x).toNat < S1824.size a)
theorem k0_idx23_inb : ∀ (v859 : IVec S16 32) (k0_hw23 : k0_chk23 v859), ∀ a x, ((![v859] : Fin 1 → IVec S16 32) a x).toNat < S1824.size a := fun v859 k0_hw23 => k0_hw23

def k0_chk24 (v862 : IVec S16 32) : Prop :=
  (∀ a x, ((![v862] : Fin 1 → IVec S16 32) a x).toNat < S1824.size a)
theorem k0_idx24_inb : ∀ (v862 : IVec S16 32) (k0_hw24 : k0_chk24 v862), ∀ a x, ((![v862] : Fin 1 → IVec S16 32) a x).toNat < S1824.size a := fun v862 k0_hw24 => k0_hw24

def k0_chk25 (v876 : IVec S16 32) : Prop :=
  (∀ a x, ((![v876] : Fin 1 → IVec S16 32) a x).toNat < S1824.size a)
theorem k0_idx25_inb : ∀ (v876 : IVec S16 32) (k0_hw25 : k0_chk25 v876), ∀ a x, ((![v876] : Fin 1 → IVec S16 32) a x).toNat < S1824.size a := fun v876 k0_hw25 => k0_hw25

def k0_chk26 (v879 : IVec S16 32) : Prop :=
  (∀ a x, ((![v879] : Fin 1 → IVec S16 32) a x).toNat < S1824.size a)
theorem k0_idx26_inb : ∀ (v879 : IVec S16 32) (k0_hw26 : k0_chk26 v879), ∀ a x, ((![v879] : Fin 1 → IVec S16 32) a x).toNat < S1824.size a := fun v879 k0_hw26 => k0_hw26

def k0_chk27 (v882 : IVec S16 32) : Prop :=
  (∀ a x, ((![v882] : Fin 1 → IVec S16 32) a x).toNat < S1824.size a)
theorem k0_idx27_inb : ∀ (v882 : IVec S16 32) (k0_hw27 : k0_chk27 v882), ∀ a x, ((![v882] : Fin 1 → IVec S16 32) a x).toNat < S1824.size a := fun v882 k0_hw27 => k0_hw27

def k0_chk28 (v885 : IVec S16 32) : Prop :=
  (∀ a x, ((![v885] : Fin 1 → IVec S16 32) a x).toNat < S1824.size a)
theorem k0_idx28_inb : ∀ (v885 : IVec S16 32) (k0_hw28 : k0_chk28 v885), ∀ a x, ((![v885] : Fin 1 → IVec S16 32) a x).toNat < S1824.size a := fun v885 k0_hw28 => k0_hw28

def k0_chk29 (v899 : IVec S16 32) : Prop :=
  (∀ a x, ((![v899] : Fin 1 → IVec S16 32) a x).toNat < S1824.size a)
theorem k0_idx29_inb : ∀ (v899 : IVec S16 32) (k0_hw29 : k0_chk29 v899), ∀ a x, ((![v899] : Fin 1 → IVec S16 32) a x).toNat < S1824.size a := fun v899 k0_hw29 => k0_hw29

def k0_chk30 (v902 : IVec S16 32) : Prop :=
  (∀ a x, ((![v902] : Fin 1 → IVec S16 32) a x).toNat < S1824.size a)
theorem k0_idx30_inb : ∀ (v902 : IVec S16 32) (k0_hw30 : k0_chk30 v902), ∀ a x, ((![v902] : Fin 1 → IVec S16 32) a x).toNat < S1824.size a := fun v902 k0_hw30 => k0_hw30

def k0_chk31 (v905 : IVec S16 32) : Prop :=
  (∀ a x, ((![v905] : Fin 1 → IVec S16 32) a x).toNat < S1824.size a)
theorem k0_idx31_inb : ∀ (v905 : IVec S16 32) (k0_hw31 : k0_chk31 v905), ∀ a x, ((![v905] : Fin 1 → IVec S16 32) a x).toNat < S1824.size a := fun v905 k0_hw31 => k0_hw31

def k0_chk32 (v908 : IVec S16 32) : Prop :=
  (∀ a x, ((![v908] : Fin 1 → IVec S16 32) a x).toNat < S1824.size a)
theorem k0_idx32_inb : ∀ (v908 : IVec S16 32) (k0_hw32 : k0_chk32 v908), ∀ a x, ((![v908] : Fin 1 → IVec S16 32) a x).toNat < S1824.size a := fun v908 k0_hw32 => k0_hw32
def k0_off20 (k0_t3 : Fin k0_t3_loop.trips) : Fin 1 → Nat :=
  let c4096_i32_574 : BitVec 32 := 4096#32
  let c0_i32_532 : BitVec 32 := 0#32
  let c0_i32_118 : BitVec 32 := 0#32
  let c1_i32_119 : BitVec 32 := 1#32
  let arg23 : BitVec 32 := Scf.iv c0_i32_118 c1_i32_119 k0_t3
  let c16_i32_531 : BitVec 32 := 16#32
  let v688 : BitVec 32 := Scalar.muli arg23 c16_i32_531
  let v689 : BitVec 32 := Scalar.addi c0_i32_532 v688
  let v920 : BitVec 32 := Scalar.addi c4096_i32_574 v689
  let v921 : Index := Scalar.indexCast v920
  ![v921.toNat]

def k0_chk33 (v924 : IVec S16 32) : Prop :=
  (∀ a x, ((![v924] : Fin 1 → IVec S16 32) a x).toNat < S1824.size a)
theorem k0_idx33_inb : ∀ (v924 : IVec S16 32) (k0_hw33 : k0_chk33 v924), ∀ a x, ((![v924] : Fin 1 → IVec S16 32) a x).toNat < S1824.size a := fun v924 k0_hw33 => k0_hw33

def k0_chk34 (v927 : IVec S16 32) : Prop :=
  (∀ a x, ((![v927] : Fin 1 → IVec S16 32) a x).toNat < S1824.size a)
theorem k0_idx34_inb : ∀ (v927 : IVec S16 32) (k0_hw34 : k0_chk34 v927), ∀ a x, ((![v927] : Fin 1 → IVec S16 32) a x).toNat < S1824.size a := fun v927 k0_hw34 => k0_hw34

def k0_chk35 (v930 : IVec S16 32) : Prop :=
  (∀ a x, ((![v930] : Fin 1 → IVec S16 32) a x).toNat < S1824.size a)
theorem k0_idx35_inb : ∀ (v930 : IVec S16 32) (k0_hw35 : k0_chk35 v930), ∀ a x, ((![v930] : Fin 1 → IVec S16 32) a x).toNat < S1824.size a := fun v930 k0_hw35 => k0_hw35

def k0_chk36 (v933 : IVec S16 32) : Prop :=
  (∀ a x, ((![v933] : Fin 1 → IVec S16 32) a x).toNat < S1824.size a)
theorem k0_idx36_inb : ∀ (v933 : IVec S16 32) (k0_hw36 : k0_chk36 v933), ∀ a x, ((![v933] : Fin 1 → IVec S16 32) a x).toNat < S1824.size a := fun v933 k0_hw36 => k0_hw36

def k0_chk37 (v946 : IVec S16 32) : Prop :=
  (∀ a x, ((![v946] : Fin 1 → IVec S16 32) a x).toNat < S1824.size a)
theorem k0_idx37_inb : ∀ (v946 : IVec S16 32) (k0_hw37 : k0_chk37 v946), ∀ a x, ((![v946] : Fin 1 → IVec S16 32) a x).toNat < S1824.size a := fun v946 k0_hw37 => k0_hw37

def k0_chk38 (v949 : IVec S16 32) : Prop :=
  (∀ a x, ((![v949] : Fin 1 → IVec S16 32) a x).toNat < S1824.size a)
theorem k0_idx38_inb : ∀ (v949 : IVec S16 32) (k0_hw38 : k0_chk38 v949), ∀ a x, ((![v949] : Fin 1 → IVec S16 32) a x).toNat < S1824.size a := fun v949 k0_hw38 => k0_hw38

def k0_chk39 (v952 : IVec S16 32) : Prop :=
  (∀ a x, ((![v952] : Fin 1 → IVec S16 32) a x).toNat < S1824.size a)
theorem k0_idx39_inb : ∀ (v952 : IVec S16 32) (k0_hw39 : k0_chk39 v952), ∀ a x, ((![v952] : Fin 1 → IVec S16 32) a x).toNat < S1824.size a := fun v952 k0_hw39 => k0_hw39

def k0_chk40 (v955 : IVec S16 32) : Prop :=
  (∀ a x, ((![v955] : Fin 1 → IVec S16 32) a x).toNat < S1824.size a)
theorem k0_idx40_inb : ∀ (v955 : IVec S16 32) (k0_hw40 : k0_chk40 v955), ∀ a x, ((![v955] : Fin 1 → IVec S16 32) a x).toNat < S1824.size a := fun v955 k0_hw40 => k0_hw40

def k0_chk41 (v969 : IVec S16 32) : Prop :=
  (∀ a x, ((![v969] : Fin 1 → IVec S16 32) a x).toNat < S1824.size a)
theorem k0_idx41_inb : ∀ (v969 : IVec S16 32) (k0_hw41 : k0_chk41 v969), ∀ a x, ((![v969] : Fin 1 → IVec S16 32) a x).toNat < S1824.size a := fun v969 k0_hw41 => k0_hw41

def k0_chk42 (v972 : IVec S16 32) : Prop :=
  (∀ a x, ((![v972] : Fin 1 → IVec S16 32) a x).toNat < S1824.size a)
theorem k0_idx42_inb : ∀ (v972 : IVec S16 32) (k0_hw42 : k0_chk42 v972), ∀ a x, ((![v972] : Fin 1 → IVec S16 32) a x).toNat < S1824.size a := fun v972 k0_hw42 => k0_hw42

def k0_chk43 (v975 : IVec S16 32) : Prop :=
  (∀ a x, ((![v975] : Fin 1 → IVec S16 32) a x).toNat < S1824.size a)
theorem k0_idx43_inb : ∀ (v975 : IVec S16 32) (k0_hw43 : k0_chk43 v975), ∀ a x, ((![v975] : Fin 1 → IVec S16 32) a x).toNat < S1824.size a := fun v975 k0_hw43 => k0_hw43

def k0_chk44 (v978 : IVec S16 32) : Prop :=
  (∀ a x, ((![v978] : Fin 1 → IVec S16 32) a x).toNat < S1824.size a)
theorem k0_idx44_inb : ∀ (v978 : IVec S16 32) (k0_hw44 : k0_chk44 v978), ∀ a x, ((![v978] : Fin 1 → IVec S16 32) a x).toNat < S1824.size a := fun v978 k0_hw44 => k0_hw44

def k0_chk45 (v992 : IVec S16 32) : Prop :=
  (∀ a x, ((![v992] : Fin 1 → IVec S16 32) a x).toNat < S1824.size a)
theorem k0_idx45_inb : ∀ (v992 : IVec S16 32) (k0_hw45 : k0_chk45 v992), ∀ a x, ((![v992] : Fin 1 → IVec S16 32) a x).toNat < S1824.size a := fun v992 k0_hw45 => k0_hw45

def k0_chk46 (v995 : IVec S16 32) : Prop :=
  (∀ a x, ((![v995] : Fin 1 → IVec S16 32) a x).toNat < S1824.size a)
theorem k0_idx46_inb : ∀ (v995 : IVec S16 32) (k0_hw46 : k0_chk46 v995), ∀ a x, ((![v995] : Fin 1 → IVec S16 32) a x).toNat < S1824.size a := fun v995 k0_hw46 => k0_hw46

def k0_chk47 (v998 : IVec S16 32) : Prop :=
  (∀ a x, ((![v998] : Fin 1 → IVec S16 32) a x).toNat < S1824.size a)
theorem k0_idx47_inb : ∀ (v998 : IVec S16 32) (k0_hw47 : k0_chk47 v998), ∀ a x, ((![v998] : Fin 1 → IVec S16 32) a x).toNat < S1824.size a := fun v998 k0_hw47 => k0_hw47

def k0_chk48 (v1001 : IVec S16 32) : Prop :=
  (∀ a x, ((![v1001] : Fin 1 → IVec S16 32) a x).toNat < S1824.size a)
theorem k0_idx48_inb : ∀ (v1001 : IVec S16 32) (k0_hw48 : k0_chk48 v1001), ∀ a x, ((![v1001] : Fin 1 → IVec S16 32) a x).toNat < S1824.size a := fun v1001 k0_hw48 => k0_hw48
def k0_off21 (k0_t3 : Fin k0_t3_loop.trips) : Fin 1 → Nat :=
  let c8192_i32_587 : BitVec 32 := 8192#32
  let c0_i32_532 : BitVec 32 := 0#32
  let c0_i32_118 : BitVec 32 := 0#32
  let c1_i32_119 : BitVec 32 := 1#32
  let arg23 : BitVec 32 := Scf.iv c0_i32_118 c1_i32_119 k0_t3
  let c16_i32_531 : BitVec 32 := 16#32
  let v688 : BitVec 32 := Scalar.muli arg23 c16_i32_531
  let v689 : BitVec 32 := Scalar.addi c0_i32_532 v688
  let v1013 : BitVec 32 := Scalar.addi c8192_i32_587 v689
  let v1014 : Index := Scalar.indexCast v1013
  ![v1014.toNat]
@[reducible] def k0_t4_loop : Scf.Loop 32 :=
  let c0_i32_135 : BitVec 32 := 0#32
  let c96_i32_136 : BitVec 32 := 96#32
  let v250 : BitVec 32 := Scalar.addi c0_i32_135 c96_i32_136
  let c1_i32_137 : BitVec 32 := 1#32
  ⟨c0_i32_135, v250, c1_i32_137⟩
def k0_off22 (i : grid0.Coords) (k0_t1 : Fin k0_t1_loop.trips) (k0_t4 : Fin k0_t4_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_135 : BitVec 32 := 0#32
  let c1_i32_137 : BitVec 32 := 1#32
  let arg23 : BitVec 32 := Scf.iv c0_i32_135 c1_i32_137 k0_t4
  let c256_i32 : BitVec 32 := 256#32
  let v688 : BitVec 32 := Scalar.muli arg23 c256_i32
  let v689 : BitVec 32 := Scalar.addi v40 v688
  let c15_i32_125 : BitVec 32 := 15#32
  let c0_i32_124 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_95 : BitVec 32 := 16#32
  let v193 : BitVec 32 := Scalar.muli v1 c16_i32_95
  let c2_i32_19 : BitVec 32 := 2#32
  let v37 : BitVec 32 := Scalar.muli arg22 c2_i32_19
  let c2_i32_96 : BitVec 32 := 2#32
  let c0_i32_97 : BitVec 32 := 0#32
  let v194 : BitVec 1 := Scalar.cmpi .eq c2_i32_96 c0_i32_97
  let c1_i32_98 : BitVec 32 := 1#32
  let v195 : BitVec 32 := Scalar.select v194 c1_i32_98 c2_i32_96
  let v196 : BitVec 32 := Scalar.remsi v37 v195
  let c0_i32_100 : BitVec 32 := 0#32
  let v198 : BitVec 1 := Scalar.cmpi .slt v196 c0_i32_100
  let c0_i32_101 : BitVec 32 := 0#32
  let v199 : BitVec 1 := Scalar.cmpi .slt v195 c0_i32_101
  let v200 : BitVec 1 := Scalar.xori v198 v199
  let c0_i32_99 : BitVec 32 := 0#32
  let v197 : BitVec 1 := Scalar.cmpi .ne v196 c0_i32_99
  let v201 : BitVec 1 := Scalar.andi v200 v197
  let v202 : BitVec 32 := Scalar.addi v196 v195
  let v203 : BitVec 32 := Scalar.select v201 v202 v196
  let c8_i32_102 : BitVec 32 := 8#32
  let v204 : BitVec 32 := Scalar.muli v203 c8_i32_102
  let v205 : BitVec 32 := Scalar.addi v193 v204
  let c1_i32_121 : BitVec 32 := 1#32
  let v229 : BitVec 32 := Scalar.addi v205 c1_i32_121
  let c16_i32_122 : BitVec 32 := 16#32
  let v230 : BitVec 32 := Scalar.subi v229 c16_i32_122
  let c5_i32_123 : BitVec 32 := 5#32
  let v231 : BitVec 32 := Scalar.shrsi v230 c5_i32_123
  let v232 : BitVec 32 := Scalar.maxsi c0_i32_124 v231
  let v233 : BitVec 32 := Scalar.minsi c15_i32_125 v232
  let c16_i32_126 : BitVec 32 := 16#32
  let v234 : BitVec 32 := Scalar.muli v233 c16_i32_126
  let v690 : BitVec 32 := Scalar.addi v689 v234
  let v691 : Index := Scalar.indexCast v690
  ![v691.toNat]
def k0_off23 (i : grid0.Coords) (k0_t1 : Fin k0_t1_loop.trips) (k0_t4 : Fin k0_t4_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_135 : BitVec 32 := 0#32
  let c1_i32_137 : BitVec 32 := 1#32
  let arg23 : BitVec 32 := Scf.iv c0_i32_135 c1_i32_137 k0_t4
  let c256_i32 : BitVec 32 := 256#32
  let v688 : BitVec 32 := Scalar.muli arg23 c256_i32
  let v689 : BitVec 32 := Scalar.addi v40 v688
  let c15_i32_129 : BitVec 32 := 15#32
  let c0_i32_128 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_95 : BitVec 32 := 16#32
  let v193 : BitVec 32 := Scalar.muli v1 c16_i32_95
  let c2_i32_19 : BitVec 32 := 2#32
  let v37 : BitVec 32 := Scalar.muli arg22 c2_i32_19
  let c2_i32_96 : BitVec 32 := 2#32
  let c0_i32_97 : BitVec 32 := 0#32
  let v194 : BitVec 1 := Scalar.cmpi .eq c2_i32_96 c0_i32_97
  let c1_i32_98 : BitVec 32 := 1#32
  let v195 : BitVec 32 := Scalar.select v194 c1_i32_98 c2_i32_96
  let v196 : BitVec 32 := Scalar.remsi v37 v195
  let c0_i32_100 : BitVec 32 := 0#32
  let v198 : BitVec 1 := Scalar.cmpi .slt v196 c0_i32_100
  let c0_i32_101 : BitVec 32 := 0#32
  let v199 : BitVec 1 := Scalar.cmpi .slt v195 c0_i32_101
  let v200 : BitVec 1 := Scalar.xori v198 v199
  let c0_i32_99 : BitVec 32 := 0#32
  let v197 : BitVec 1 := Scalar.cmpi .ne v196 c0_i32_99
  let v201 : BitVec 1 := Scalar.andi v200 v197
  let v202 : BitVec 32 := Scalar.addi v196 v195
  let v203 : BitVec 32 := Scalar.select v201 v202 v196
  let c8_i32_102 : BitVec 32 := 8#32
  let v204 : BitVec 32 := Scalar.muli v203 c8_i32_102
  let v205 : BitVec 32 := Scalar.addi v193 v204
  let c1_i32_121 : BitVec 32 := 1#32
  let v229 : BitVec 32 := Scalar.addi v205 c1_i32_121
  let c16_i32_122 : BitVec 32 := 16#32
  let v230 : BitVec 32 := Scalar.subi v229 c16_i32_122
  let c5_i32_123 : BitVec 32 := 5#32
  let v231 : BitVec 32 := Scalar.shrsi v230 c5_i32_123
  let c1_i32_127 : BitVec 32 := 1#32
  let v235 : BitVec 32 := Scalar.addi v231 c1_i32_127
  let v236 : BitVec 32 := Scalar.maxsi c0_i32_128 v235
  let v237 : BitVec 32 := Scalar.minsi c15_i32_129 v236
  let c16_i32_130 : BitVec 32 := 16#32
  let v238 : BitVec 32 := Scalar.muli v237 c16_i32_130
  let v693 : BitVec 32 := Scalar.addi v689 v238
  let v694 : Index := Scalar.indexCast v693
  ![v694.toNat]
def k0_off24 (k0_t4 : Fin k0_t4_loop.trips) : Fin 1 → Nat :=
  let c0_i32_135 : BitVec 32 := 0#32
  let c1_i32_137 : BitVec 32 := 1#32
  let arg23 : BitVec 32 := Scf.iv c0_i32_135 c1_i32_137 k0_t4
  let c19_i32 : BitVec 32 := 19#32
  let v699 : BitVec 32 := Scalar.muli arg23 c19_i32
  let v700 : Index := Scalar.indexCast v699
  ![v700.toNat]
@[reducible] def k0_t5_loop : Scf.Loop 32 :=
  let c0_i32_140 : BitVec 32 := 0#32
  let c32_i32_141 : BitVec 32 := 32#32
  let v251 : BitVec 32 := Scalar.addi c0_i32_140 c32_i32_141
  let c1_i32_142 : BitVec 32 := 1#32
  ⟨c0_i32_140, v251, c1_i32_142⟩
def k0_off25 (k0_t5 : Fin k0_t5_loop.trips) : Fin 1 → Nat :=
  let c512_i32_532 : BitVec 32 := 512#32
  let c0_i32_140 : BitVec 32 := 0#32
  let c1_i32_142 : BitVec 32 := 1#32
  let arg23 : BitVec 32 := Scf.iv c0_i32_140 c1_i32_142 k0_t5
  let c16_i32_531 : BitVec 32 := 16#32
  let v688 : BitVec 32 := Scalar.muli arg23 c16_i32_531
  let v689 : BitVec 32 := Scalar.addi c512_i32_532 v688
  let v690 : Index := Scalar.indexCast v689
  ![v690.toNat]
def k0_off26 (k0_t5 : Fin k0_t5_loop.trips) : Fin 1 → Nat :=
  let c0_i32_140 : BitVec 32 := 0#32
  let c1_i32_142 : BitVec 32 := 1#32
  let arg23 : BitVec 32 := Scf.iv c0_i32_140 c1_i32_142 k0_t5
  let c16_i32_542 : BitVec 32 := 16#32
  let v715 : BitVec 32 := Scalar.muli arg23 c16_i32_542
  let v716 : Index := Scalar.indexCast v715
  ![v716.toNat]
def k0_off27 (k0_t5 : Fin k0_t5_loop.trips) (c0_i32_545 : BitVec 32) : Fin 1 → Nat :=
  let c512_i32_532 : BitVec 32 := 512#32
  let c0_i32_140 : BitVec 32 := 0#32
  let c1_i32_142 : BitVec 32 := 1#32
  let arg23 : BitVec 32 := Scf.iv c0_i32_140 c1_i32_142 k0_t5
  let c16_i32_531 : BitVec 32 := 16#32
  let v688 : BitVec 32 := Scalar.muli arg23 c16_i32_531
  let v689 : BitVec 32 := Scalar.addi c512_i32_532 v688
  let v728 : BitVec 32 := Scalar.addi c0_i32_545 v689
  let v729 : Index := Scalar.indexCast v728
  ![v729.toNat]

def k0_chk49 (v738 : IVec S16 32) : Prop :=
  (∀ a x, ((![v738] : Fin 1 → IVec S16 32) a x).toNat < S1824.size a)
theorem k0_idx49_inb : ∀ (v738 : IVec S16 32) (k0_hw49 : k0_chk49 v738), ∀ a x, ((![v738] : Fin 1 → IVec S16 32) a x).toNat < S1824.size a := fun v738 k0_hw49 => k0_hw49

def k0_chk50 (v741 : IVec S16 32) : Prop :=
  (∀ a x, ((![v741] : Fin 1 → IVec S16 32) a x).toNat < S1824.size a)
theorem k0_idx50_inb : ∀ (v741 : IVec S16 32) (k0_hw50 : k0_chk50 v741), ∀ a x, ((![v741] : Fin 1 → IVec S16 32) a x).toNat < S1824.size a := fun v741 k0_hw50 => k0_hw50

def k0_chk51 (v744 : IVec S16 32) : Prop :=
  (∀ a x, ((![v744] : Fin 1 → IVec S16 32) a x).toNat < S1824.size a)
theorem k0_idx51_inb : ∀ (v744 : IVec S16 32) (k0_hw51 : k0_chk51 v744), ∀ a x, ((![v744] : Fin 1 → IVec S16 32) a x).toNat < S1824.size a := fun v744 k0_hw51 => k0_hw51

def k0_chk52 (v747 : IVec S16 32) : Prop :=
  (∀ a x, ((![v747] : Fin 1 → IVec S16 32) a x).toNat < S1824.size a)
theorem k0_idx52_inb : ∀ (v747 : IVec S16 32) (k0_hw52 : k0_chk52 v747), ∀ a x, ((![v747] : Fin 1 → IVec S16 32) a x).toNat < S1824.size a := fun v747 k0_hw52 => k0_hw52

def k0_chk53 (v760 : IVec S16 32) : Prop :=
  (∀ a x, ((![v760] : Fin 1 → IVec S16 32) a x).toNat < S1824.size a)
theorem k0_idx53_inb : ∀ (v760 : IVec S16 32) (k0_hw53 : k0_chk53 v760), ∀ a x, ((![v760] : Fin 1 → IVec S16 32) a x).toNat < S1824.size a := fun v760 k0_hw53 => k0_hw53

def k0_chk54 (v763 : IVec S16 32) : Prop :=
  (∀ a x, ((![v763] : Fin 1 → IVec S16 32) a x).toNat < S1824.size a)
theorem k0_idx54_inb : ∀ (v763 : IVec S16 32) (k0_hw54 : k0_chk54 v763), ∀ a x, ((![v763] : Fin 1 → IVec S16 32) a x).toNat < S1824.size a := fun v763 k0_hw54 => k0_hw54

def k0_chk55 (v766 : IVec S16 32) : Prop :=
  (∀ a x, ((![v766] : Fin 1 → IVec S16 32) a x).toNat < S1824.size a)
theorem k0_idx55_inb : ∀ (v766 : IVec S16 32) (k0_hw55 : k0_chk55 v766), ∀ a x, ((![v766] : Fin 1 → IVec S16 32) a x).toNat < S1824.size a := fun v766 k0_hw55 => k0_hw55

def k0_chk56 (v769 : IVec S16 32) : Prop :=
  (∀ a x, ((![v769] : Fin 1 → IVec S16 32) a x).toNat < S1824.size a)
theorem k0_idx56_inb : ∀ (v769 : IVec S16 32) (k0_hw56 : k0_chk56 v769), ∀ a x, ((![v769] : Fin 1 → IVec S16 32) a x).toNat < S1824.size a := fun v769 k0_hw56 => k0_hw56

def k0_chk57 (v783 : IVec S16 32) : Prop :=
  (∀ a x, ((![v783] : Fin 1 → IVec S16 32) a x).toNat < S1824.size a)
theorem k0_idx57_inb : ∀ (v783 : IVec S16 32) (k0_hw57 : k0_chk57 v783), ∀ a x, ((![v783] : Fin 1 → IVec S16 32) a x).toNat < S1824.size a := fun v783 k0_hw57 => k0_hw57

def k0_chk58 (v786 : IVec S16 32) : Prop :=
  (∀ a x, ((![v786] : Fin 1 → IVec S16 32) a x).toNat < S1824.size a)
theorem k0_idx58_inb : ∀ (v786 : IVec S16 32) (k0_hw58 : k0_chk58 v786), ∀ a x, ((![v786] : Fin 1 → IVec S16 32) a x).toNat < S1824.size a := fun v786 k0_hw58 => k0_hw58

def k0_chk59 (v789 : IVec S16 32) : Prop :=
  (∀ a x, ((![v789] : Fin 1 → IVec S16 32) a x).toNat < S1824.size a)
theorem k0_idx59_inb : ∀ (v789 : IVec S16 32) (k0_hw59 : k0_chk59 v789), ∀ a x, ((![v789] : Fin 1 → IVec S16 32) a x).toNat < S1824.size a := fun v789 k0_hw59 => k0_hw59

def k0_chk60 (v792 : IVec S16 32) : Prop :=
  (∀ a x, ((![v792] : Fin 1 → IVec S16 32) a x).toNat < S1824.size a)
theorem k0_idx60_inb : ∀ (v792 : IVec S16 32) (k0_hw60 : k0_chk60 v792), ∀ a x, ((![v792] : Fin 1 → IVec S16 32) a x).toNat < S1824.size a := fun v792 k0_hw60 => k0_hw60

def k0_chk61 (v806 : IVec S16 32) : Prop :=
  (∀ a x, ((![v806] : Fin 1 → IVec S16 32) a x).toNat < S1824.size a)
theorem k0_idx61_inb : ∀ (v806 : IVec S16 32) (k0_hw61 : k0_chk61 v806), ∀ a x, ((![v806] : Fin 1 → IVec S16 32) a x).toNat < S1824.size a := fun v806 k0_hw61 => k0_hw61

def k0_chk62 (v809 : IVec S16 32) : Prop :=
  (∀ a x, ((![v809] : Fin 1 → IVec S16 32) a x).toNat < S1824.size a)
theorem k0_idx62_inb : ∀ (v809 : IVec S16 32) (k0_hw62 : k0_chk62 v809), ∀ a x, ((![v809] : Fin 1 → IVec S16 32) a x).toNat < S1824.size a := fun v809 k0_hw62 => k0_hw62

def k0_chk63 (v812 : IVec S16 32) : Prop :=
  (∀ a x, ((![v812] : Fin 1 → IVec S16 32) a x).toNat < S1824.size a)
theorem k0_idx63_inb : ∀ (v812 : IVec S16 32) (k0_hw63 : k0_chk63 v812), ∀ a x, ((![v812] : Fin 1 → IVec S16 32) a x).toNat < S1824.size a := fun v812 k0_hw63 => k0_hw63

def k0_chk64 (v815 : IVec S16 32) : Prop :=
  (∀ a x, ((![v815] : Fin 1 → IVec S16 32) a x).toNat < S1824.size a)
theorem k0_idx64_inb : ∀ (v815 : IVec S16 32) (k0_hw64 : k0_chk64 v815), ∀ a x, ((![v815] : Fin 1 → IVec S16 32) a x).toNat < S1824.size a := fun v815 k0_hw64 => k0_hw64
def k0_off28 (k0_t5 : Fin k0_t5_loop.trips) : Fin 1 → Nat :=
  let c0_i32_561 : BitVec 32 := 0#32
  let c512_i32_532 : BitVec 32 := 512#32
  let c0_i32_140 : BitVec 32 := 0#32
  let c1_i32_142 : BitVec 32 := 1#32
  let arg23 : BitVec 32 := Scf.iv c0_i32_140 c1_i32_142 k0_t5
  let c16_i32_531 : BitVec 32 := 16#32
  let v688 : BitVec 32 := Scalar.muli arg23 c16_i32_531
  let v689 : BitVec 32 := Scalar.addi c512_i32_532 v688
  let v827 : BitVec 32 := Scalar.addi c0_i32_561 v689
  let v828 : Index := Scalar.indexCast v827
  ![v828.toNat]

def k0_chk65 (v831 : IVec S16 32) : Prop :=
  (∀ a x, ((![v831] : Fin 1 → IVec S16 32) a x).toNat < S1824.size a)
theorem k0_idx65_inb : ∀ (v831 : IVec S16 32) (k0_hw65 : k0_chk65 v831), ∀ a x, ((![v831] : Fin 1 → IVec S16 32) a x).toNat < S1824.size a := fun v831 k0_hw65 => k0_hw65

def k0_chk66 (v834 : IVec S16 32) : Prop :=
  (∀ a x, ((![v834] : Fin 1 → IVec S16 32) a x).toNat < S1824.size a)
theorem k0_idx66_inb : ∀ (v834 : IVec S16 32) (k0_hw66 : k0_chk66 v834), ∀ a x, ((![v834] : Fin 1 → IVec S16 32) a x).toNat < S1824.size a := fun v834 k0_hw66 => k0_hw66

def k0_chk67 (v837 : IVec S16 32) : Prop :=
  (∀ a x, ((![v837] : Fin 1 → IVec S16 32) a x).toNat < S1824.size a)
theorem k0_idx67_inb : ∀ (v837 : IVec S16 32) (k0_hw67 : k0_chk67 v837), ∀ a x, ((![v837] : Fin 1 → IVec S16 32) a x).toNat < S1824.size a := fun v837 k0_hw67 => k0_hw67

def k0_chk68 (v840 : IVec S16 32) : Prop :=
  (∀ a x, ((![v840] : Fin 1 → IVec S16 32) a x).toNat < S1824.size a)
theorem k0_idx68_inb : ∀ (v840 : IVec S16 32) (k0_hw68 : k0_chk68 v840), ∀ a x, ((![v840] : Fin 1 → IVec S16 32) a x).toNat < S1824.size a := fun v840 k0_hw68 => k0_hw68

def k0_chk69 (v853 : IVec S16 32) : Prop :=
  (∀ a x, ((![v853] : Fin 1 → IVec S16 32) a x).toNat < S1824.size a)
theorem k0_idx69_inb : ∀ (v853 : IVec S16 32) (k0_hw69 : k0_chk69 v853), ∀ a x, ((![v853] : Fin 1 → IVec S16 32) a x).toNat < S1824.size a := fun v853 k0_hw69 => k0_hw69

def k0_chk70 (v856 : IVec S16 32) : Prop :=
  (∀ a x, ((![v856] : Fin 1 → IVec S16 32) a x).toNat < S1824.size a)
theorem k0_idx70_inb : ∀ (v856 : IVec S16 32) (k0_hw70 : k0_chk70 v856), ∀ a x, ((![v856] : Fin 1 → IVec S16 32) a x).toNat < S1824.size a := fun v856 k0_hw70 => k0_hw70

def k0_chk71 (v859 : IVec S16 32) : Prop :=
  (∀ a x, ((![v859] : Fin 1 → IVec S16 32) a x).toNat < S1824.size a)
theorem k0_idx71_inb : ∀ (v859 : IVec S16 32) (k0_hw71 : k0_chk71 v859), ∀ a x, ((![v859] : Fin 1 → IVec S16 32) a x).toNat < S1824.size a := fun v859 k0_hw71 => k0_hw71

def k0_chk72 (v862 : IVec S16 32) : Prop :=
  (∀ a x, ((![v862] : Fin 1 → IVec S16 32) a x).toNat < S1824.size a)
theorem k0_idx72_inb : ∀ (v862 : IVec S16 32) (k0_hw72 : k0_chk72 v862), ∀ a x, ((![v862] : Fin 1 → IVec S16 32) a x).toNat < S1824.size a := fun v862 k0_hw72 => k0_hw72

def k0_chk73 (v876 : IVec S16 32) : Prop :=
  (∀ a x, ((![v876] : Fin 1 → IVec S16 32) a x).toNat < S1824.size a)
theorem k0_idx73_inb : ∀ (v876 : IVec S16 32) (k0_hw73 : k0_chk73 v876), ∀ a x, ((![v876] : Fin 1 → IVec S16 32) a x).toNat < S1824.size a := fun v876 k0_hw73 => k0_hw73

def k0_chk74 (v879 : IVec S16 32) : Prop :=
  (∀ a x, ((![v879] : Fin 1 → IVec S16 32) a x).toNat < S1824.size a)
theorem k0_idx74_inb : ∀ (v879 : IVec S16 32) (k0_hw74 : k0_chk74 v879), ∀ a x, ((![v879] : Fin 1 → IVec S16 32) a x).toNat < S1824.size a := fun v879 k0_hw74 => k0_hw74

def k0_chk75 (v882 : IVec S16 32) : Prop :=
  (∀ a x, ((![v882] : Fin 1 → IVec S16 32) a x).toNat < S1824.size a)
theorem k0_idx75_inb : ∀ (v882 : IVec S16 32) (k0_hw75 : k0_chk75 v882), ∀ a x, ((![v882] : Fin 1 → IVec S16 32) a x).toNat < S1824.size a := fun v882 k0_hw75 => k0_hw75

def k0_chk76 (v885 : IVec S16 32) : Prop :=
  (∀ a x, ((![v885] : Fin 1 → IVec S16 32) a x).toNat < S1824.size a)
theorem k0_idx76_inb : ∀ (v885 : IVec S16 32) (k0_hw76 : k0_chk76 v885), ∀ a x, ((![v885] : Fin 1 → IVec S16 32) a x).toNat < S1824.size a := fun v885 k0_hw76 => k0_hw76

def k0_chk77 (v899 : IVec S16 32) : Prop :=
  (∀ a x, ((![v899] : Fin 1 → IVec S16 32) a x).toNat < S1824.size a)
theorem k0_idx77_inb : ∀ (v899 : IVec S16 32) (k0_hw77 : k0_chk77 v899), ∀ a x, ((![v899] : Fin 1 → IVec S16 32) a x).toNat < S1824.size a := fun v899 k0_hw77 => k0_hw77

def k0_chk78 (v902 : IVec S16 32) : Prop :=
  (∀ a x, ((![v902] : Fin 1 → IVec S16 32) a x).toNat < S1824.size a)
theorem k0_idx78_inb : ∀ (v902 : IVec S16 32) (k0_hw78 : k0_chk78 v902), ∀ a x, ((![v902] : Fin 1 → IVec S16 32) a x).toNat < S1824.size a := fun v902 k0_hw78 => k0_hw78

def k0_chk79 (v905 : IVec S16 32) : Prop :=
  (∀ a x, ((![v905] : Fin 1 → IVec S16 32) a x).toNat < S1824.size a)
theorem k0_idx79_inb : ∀ (v905 : IVec S16 32) (k0_hw79 : k0_chk79 v905), ∀ a x, ((![v905] : Fin 1 → IVec S16 32) a x).toNat < S1824.size a := fun v905 k0_hw79 => k0_hw79

def k0_chk80 (v908 : IVec S16 32) : Prop :=
  (∀ a x, ((![v908] : Fin 1 → IVec S16 32) a x).toNat < S1824.size a)
theorem k0_idx80_inb : ∀ (v908 : IVec S16 32) (k0_hw80 : k0_chk80 v908), ∀ a x, ((![v908] : Fin 1 → IVec S16 32) a x).toNat < S1824.size a := fun v908 k0_hw80 => k0_hw80
def k0_off29 (k0_t5 : Fin k0_t5_loop.trips) : Fin 1 → Nat :=
  let c4096_i32_574 : BitVec 32 := 4096#32
  let c512_i32_532 : BitVec 32 := 512#32
  let c0_i32_140 : BitVec 32 := 0#32
  let c1_i32_142 : BitVec 32 := 1#32
  let arg23 : BitVec 32 := Scf.iv c0_i32_140 c1_i32_142 k0_t5
  let c16_i32_531 : BitVec 32 := 16#32
  let v688 : BitVec 32 := Scalar.muli arg23 c16_i32_531
  let v689 : BitVec 32 := Scalar.addi c512_i32_532 v688
  let v920 : BitVec 32 := Scalar.addi c4096_i32_574 v689
  let v921 : Index := Scalar.indexCast v920
  ![v921.toNat]

def k0_chk81 (v924 : IVec S16 32) : Prop :=
  (∀ a x, ((![v924] : Fin 1 → IVec S16 32) a x).toNat < S1824.size a)
theorem k0_idx81_inb : ∀ (v924 : IVec S16 32) (k0_hw81 : k0_chk81 v924), ∀ a x, ((![v924] : Fin 1 → IVec S16 32) a x).toNat < S1824.size a := fun v924 k0_hw81 => k0_hw81

def k0_chk82 (v927 : IVec S16 32) : Prop :=
  (∀ a x, ((![v927] : Fin 1 → IVec S16 32) a x).toNat < S1824.size a)
theorem k0_idx82_inb : ∀ (v927 : IVec S16 32) (k0_hw82 : k0_chk82 v927), ∀ a x, ((![v927] : Fin 1 → IVec S16 32) a x).toNat < S1824.size a := fun v927 k0_hw82 => k0_hw82

def k0_chk83 (v930 : IVec S16 32) : Prop :=
  (∀ a x, ((![v930] : Fin 1 → IVec S16 32) a x).toNat < S1824.size a)
theorem k0_idx83_inb : ∀ (v930 : IVec S16 32) (k0_hw83 : k0_chk83 v930), ∀ a x, ((![v930] : Fin 1 → IVec S16 32) a x).toNat < S1824.size a := fun v930 k0_hw83 => k0_hw83

def k0_chk84 (v933 : IVec S16 32) : Prop :=
  (∀ a x, ((![v933] : Fin 1 → IVec S16 32) a x).toNat < S1824.size a)
theorem k0_idx84_inb : ∀ (v933 : IVec S16 32) (k0_hw84 : k0_chk84 v933), ∀ a x, ((![v933] : Fin 1 → IVec S16 32) a x).toNat < S1824.size a := fun v933 k0_hw84 => k0_hw84

def k0_chk85 (v946 : IVec S16 32) : Prop :=
  (∀ a x, ((![v946] : Fin 1 → IVec S16 32) a x).toNat < S1824.size a)
theorem k0_idx85_inb : ∀ (v946 : IVec S16 32) (k0_hw85 : k0_chk85 v946), ∀ a x, ((![v946] : Fin 1 → IVec S16 32) a x).toNat < S1824.size a := fun v946 k0_hw85 => k0_hw85

def k0_chk86 (v949 : IVec S16 32) : Prop :=
  (∀ a x, ((![v949] : Fin 1 → IVec S16 32) a x).toNat < S1824.size a)
theorem k0_idx86_inb : ∀ (v949 : IVec S16 32) (k0_hw86 : k0_chk86 v949), ∀ a x, ((![v949] : Fin 1 → IVec S16 32) a x).toNat < S1824.size a := fun v949 k0_hw86 => k0_hw86

def k0_chk87 (v952 : IVec S16 32) : Prop :=
  (∀ a x, ((![v952] : Fin 1 → IVec S16 32) a x).toNat < S1824.size a)
theorem k0_idx87_inb : ∀ (v952 : IVec S16 32) (k0_hw87 : k0_chk87 v952), ∀ a x, ((![v952] : Fin 1 → IVec S16 32) a x).toNat < S1824.size a := fun v952 k0_hw87 => k0_hw87

def k0_chk88 (v955 : IVec S16 32) : Prop :=
  (∀ a x, ((![v955] : Fin 1 → IVec S16 32) a x).toNat < S1824.size a)
theorem k0_idx88_inb : ∀ (v955 : IVec S16 32) (k0_hw88 : k0_chk88 v955), ∀ a x, ((![v955] : Fin 1 → IVec S16 32) a x).toNat < S1824.size a := fun v955 k0_hw88 => k0_hw88

def k0_chk89 (v969 : IVec S16 32) : Prop :=
  (∀ a x, ((![v969] : Fin 1 → IVec S16 32) a x).toNat < S1824.size a)
theorem k0_idx89_inb : ∀ (v969 : IVec S16 32) (k0_hw89 : k0_chk89 v969), ∀ a x, ((![v969] : Fin 1 → IVec S16 32) a x).toNat < S1824.size a := fun v969 k0_hw89 => k0_hw89

def k0_chk90 (v972 : IVec S16 32) : Prop :=
  (∀ a x, ((![v972] : Fin 1 → IVec S16 32) a x).toNat < S1824.size a)
theorem k0_idx90_inb : ∀ (v972 : IVec S16 32) (k0_hw90 : k0_chk90 v972), ∀ a x, ((![v972] : Fin 1 → IVec S16 32) a x).toNat < S1824.size a := fun v972 k0_hw90 => k0_hw90

def k0_chk91 (v975 : IVec S16 32) : Prop :=
  (∀ a x, ((![v975] : Fin 1 → IVec S16 32) a x).toNat < S1824.size a)
theorem k0_idx91_inb : ∀ (v975 : IVec S16 32) (k0_hw91 : k0_chk91 v975), ∀ a x, ((![v975] : Fin 1 → IVec S16 32) a x).toNat < S1824.size a := fun v975 k0_hw91 => k0_hw91

def k0_chk92 (v978 : IVec S16 32) : Prop :=
  (∀ a x, ((![v978] : Fin 1 → IVec S16 32) a x).toNat < S1824.size a)
theorem k0_idx92_inb : ∀ (v978 : IVec S16 32) (k0_hw92 : k0_chk92 v978), ∀ a x, ((![v978] : Fin 1 → IVec S16 32) a x).toNat < S1824.size a := fun v978 k0_hw92 => k0_hw92

def k0_chk93 (v992 : IVec S16 32) : Prop :=
  (∀ a x, ((![v992] : Fin 1 → IVec S16 32) a x).toNat < S1824.size a)
theorem k0_idx93_inb : ∀ (v992 : IVec S16 32) (k0_hw93 : k0_chk93 v992), ∀ a x, ((![v992] : Fin 1 → IVec S16 32) a x).toNat < S1824.size a := fun v992 k0_hw93 => k0_hw93

def k0_chk94 (v995 : IVec S16 32) : Prop :=
  (∀ a x, ((![v995] : Fin 1 → IVec S16 32) a x).toNat < S1824.size a)
theorem k0_idx94_inb : ∀ (v995 : IVec S16 32) (k0_hw94 : k0_chk94 v995), ∀ a x, ((![v995] : Fin 1 → IVec S16 32) a x).toNat < S1824.size a := fun v995 k0_hw94 => k0_hw94

def k0_chk95 (v998 : IVec S16 32) : Prop :=
  (∀ a x, ((![v998] : Fin 1 → IVec S16 32) a x).toNat < S1824.size a)
theorem k0_idx95_inb : ∀ (v998 : IVec S16 32) (k0_hw95 : k0_chk95 v998), ∀ a x, ((![v998] : Fin 1 → IVec S16 32) a x).toNat < S1824.size a := fun v998 k0_hw95 => k0_hw95

def k0_chk96 (v1001 : IVec S16 32) : Prop :=
  (∀ a x, ((![v1001] : Fin 1 → IVec S16 32) a x).toNat < S1824.size a)
theorem k0_idx96_inb : ∀ (v1001 : IVec S16 32) (k0_hw96 : k0_chk96 v1001), ∀ a x, ((![v1001] : Fin 1 → IVec S16 32) a x).toNat < S1824.size a := fun v1001 k0_hw96 => k0_hw96
def k0_off30 (k0_t5 : Fin k0_t5_loop.trips) : Fin 1 → Nat :=
  let c8192_i32_587 : BitVec 32 := 8192#32
  let c512_i32_532 : BitVec 32 := 512#32
  let c0_i32_140 : BitVec 32 := 0#32
  let c1_i32_142 : BitVec 32 := 1#32
  let arg23 : BitVec 32 := Scf.iv c0_i32_140 c1_i32_142 k0_t5
  let c16_i32_531 : BitVec 32 := 16#32
  let v688 : BitVec 32 := Scalar.muli arg23 c16_i32_531
  let v689 : BitVec 32 := Scalar.addi c512_i32_532 v688
  let v1013 : BitVec 32 := Scalar.addi c8192_i32_587 v689
  let v1014 : Index := Scalar.indexCast v1013
  ![v1014.toNat]
@[reducible] def k0_t6_loop : Scf.Loop 32 :=
  let c0_i32_158 : BitVec 32 := 0#32
  let c96_i32_159 : BitVec 32 := 96#32
  let v273 : BitVec 32 := Scalar.addi c0_i32_158 c96_i32_159
  let c1_i32_160 : BitVec 32 := 1#32
  ⟨c0_i32_158, v273, c1_i32_160⟩
def k0_off31 (i : grid0.Coords) (k0_t1 : Fin k0_t1_loop.trips) (k0_t6 : Fin k0_t6_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_158 : BitVec 32 := 0#32
  let c1_i32_160 : BitVec 32 := 1#32
  let arg23 : BitVec 32 := Scf.iv c0_i32_158 c1_i32_160 k0_t6
  let c256_i32 : BitVec 32 := 256#32
  let v688 : BitVec 32 := Scalar.muli arg23 c256_i32
  let v689 : BitVec 32 := Scalar.addi v40 v688
  let c15_i32_148 : BitVec 32 := 15#32
  let c0_i32_147 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_95 : BitVec 32 := 16#32
  let v193 : BitVec 32 := Scalar.muli v1 c16_i32_95
  let c2_i32_19 : BitVec 32 := 2#32
  let v37 : BitVec 32 := Scalar.muli arg22 c2_i32_19
  let c2_i32_96 : BitVec 32 := 2#32
  let c0_i32_97 : BitVec 32 := 0#32
  let v194 : BitVec 1 := Scalar.cmpi .eq c2_i32_96 c0_i32_97
  let c1_i32_98 : BitVec 32 := 1#32
  let v195 : BitVec 32 := Scalar.select v194 c1_i32_98 c2_i32_96
  let v196 : BitVec 32 := Scalar.remsi v37 v195
  let c0_i32_100 : BitVec 32 := 0#32
  let v198 : BitVec 1 := Scalar.cmpi .slt v196 c0_i32_100
  let c0_i32_101 : BitVec 32 := 0#32
  let v199 : BitVec 1 := Scalar.cmpi .slt v195 c0_i32_101
  let v200 : BitVec 1 := Scalar.xori v198 v199
  let c0_i32_99 : BitVec 32 := 0#32
  let v197 : BitVec 1 := Scalar.cmpi .ne v196 c0_i32_99
  let v201 : BitVec 1 := Scalar.andi v200 v197
  let v202 : BitVec 32 := Scalar.addi v196 v195
  let v203 : BitVec 32 := Scalar.select v201 v202 v196
  let c8_i32_102 : BitVec 32 := 8#32
  let v204 : BitVec 32 := Scalar.muli v203 c8_i32_102
  let v205 : BitVec 32 := Scalar.addi v193 v204
  let c2_i32_144 : BitVec 32 := 2#32
  let v252 : BitVec 32 := Scalar.addi v205 c2_i32_144
  let c16_i32_145 : BitVec 32 := 16#32
  let v253 : BitVec 32 := Scalar.subi v252 c16_i32_145
  let c5_i32_146 : BitVec 32 := 5#32
  let v254 : BitVec 32 := Scalar.shrsi v253 c5_i32_146
  let v255 : BitVec 32 := Scalar.maxsi c0_i32_147 v254
  let v256 : BitVec 32 := Scalar.minsi c15_i32_148 v255
  let c16_i32_149 : BitVec 32 := 16#32
  let v257 : BitVec 32 := Scalar.muli v256 c16_i32_149
  let v690 : BitVec 32 := Scalar.addi v689 v257
  let v691 : Index := Scalar.indexCast v690
  ![v691.toNat]
def k0_off32 (i : grid0.Coords) (k0_t1 : Fin k0_t1_loop.trips) (k0_t6 : Fin k0_t6_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_158 : BitVec 32 := 0#32
  let c1_i32_160 : BitVec 32 := 1#32
  let arg23 : BitVec 32 := Scf.iv c0_i32_158 c1_i32_160 k0_t6
  let c256_i32 : BitVec 32 := 256#32
  let v688 : BitVec 32 := Scalar.muli arg23 c256_i32
  let v689 : BitVec 32 := Scalar.addi v40 v688
  let c15_i32_152 : BitVec 32 := 15#32
  let c0_i32_151 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_95 : BitVec 32 := 16#32
  let v193 : BitVec 32 := Scalar.muli v1 c16_i32_95
  let c2_i32_19 : BitVec 32 := 2#32
  let v37 : BitVec 32 := Scalar.muli arg22 c2_i32_19
  let c2_i32_96 : BitVec 32 := 2#32
  let c0_i32_97 : BitVec 32 := 0#32
  let v194 : BitVec 1 := Scalar.cmpi .eq c2_i32_96 c0_i32_97
  let c1_i32_98 : BitVec 32 := 1#32
  let v195 : BitVec 32 := Scalar.select v194 c1_i32_98 c2_i32_96
  let v196 : BitVec 32 := Scalar.remsi v37 v195
  let c0_i32_100 : BitVec 32 := 0#32
  let v198 : BitVec 1 := Scalar.cmpi .slt v196 c0_i32_100
  let c0_i32_101 : BitVec 32 := 0#32
  let v199 : BitVec 1 := Scalar.cmpi .slt v195 c0_i32_101
  let v200 : BitVec 1 := Scalar.xori v198 v199
  let c0_i32_99 : BitVec 32 := 0#32
  let v197 : BitVec 1 := Scalar.cmpi .ne v196 c0_i32_99
  let v201 : BitVec 1 := Scalar.andi v200 v197
  let v202 : BitVec 32 := Scalar.addi v196 v195
  let v203 : BitVec 32 := Scalar.select v201 v202 v196
  let c8_i32_102 : BitVec 32 := 8#32
  let v204 : BitVec 32 := Scalar.muli v203 c8_i32_102
  let v205 : BitVec 32 := Scalar.addi v193 v204
  let c2_i32_144 : BitVec 32 := 2#32
  let v252 : BitVec 32 := Scalar.addi v205 c2_i32_144
  let c16_i32_145 : BitVec 32 := 16#32
  let v253 : BitVec 32 := Scalar.subi v252 c16_i32_145
  let c5_i32_146 : BitVec 32 := 5#32
  let v254 : BitVec 32 := Scalar.shrsi v253 c5_i32_146
  let c1_i32_150 : BitVec 32 := 1#32
  let v258 : BitVec 32 := Scalar.addi v254 c1_i32_150
  let v259 : BitVec 32 := Scalar.maxsi c0_i32_151 v258
  let v260 : BitVec 32 := Scalar.minsi c15_i32_152 v259
  let c16_i32_153 : BitVec 32 := 16#32
  let v261 : BitVec 32 := Scalar.muli v260 c16_i32_153
  let v693 : BitVec 32 := Scalar.addi v689 v261
  let v694 : Index := Scalar.indexCast v693
  ![v694.toNat]
def k0_off33 (k0_t6 : Fin k0_t6_loop.trips) : Fin 1 → Nat :=
  let c0_i32_158 : BitVec 32 := 0#32
  let c1_i32_160 : BitVec 32 := 1#32
  let arg23 : BitVec 32 := Scf.iv c0_i32_158 c1_i32_160 k0_t6
  let c19_i32 : BitVec 32 := 19#32
  let v699 : BitVec 32 := Scalar.muli arg23 c19_i32
  let v700 : Index := Scalar.indexCast v699
  ![v700.toNat]
@[reducible] def k0_t7_loop : Scf.Loop 32 :=
  let c0_i32_163 : BitVec 32 := 0#32
  let c32_i32_164 : BitVec 32 := 32#32
  let v274 : BitVec 32 := Scalar.addi c0_i32_163 c32_i32_164
  let c1_i32_165 : BitVec 32 := 1#32
  ⟨c0_i32_163, v274, c1_i32_165⟩
def k0_off34 (k0_t7 : Fin k0_t7_loop.trips) : Fin 1 → Nat :=
  let c1024_i32 : BitVec 32 := 1024#32
  let c0_i32_163 : BitVec 32 := 0#32
  let c1_i32_165 : BitVec 32 := 1#32
  let arg23 : BitVec 32 := Scf.iv c0_i32_163 c1_i32_165 k0_t7
  let c16_i32_531 : BitVec 32 := 16#32
  let v688 : BitVec 32 := Scalar.muli arg23 c16_i32_531
  let v689 : BitVec 32 := Scalar.addi c1024_i32 v688
  let v690 : Index := Scalar.indexCast v689
  ![v690.toNat]
def k0_off35 (k0_t7 : Fin k0_t7_loop.trips) : Fin 1 → Nat :=
  let c0_i32_163 : BitVec 32 := 0#32
  let c1_i32_165 : BitVec 32 := 1#32
  let arg23 : BitVec 32 := Scf.iv c0_i32_163 c1_i32_165 k0_t7
  let c16_i32_541 : BitVec 32 := 16#32
  let v715 : BitVec 32 := Scalar.muli arg23 c16_i32_541
  let v716 : Index := Scalar.indexCast v715
  ![v716.toNat]
def k0_off36 (k0_t7 : Fin k0_t7_loop.trips) (c0_i32_544 : BitVec 32) : Fin 1 → Nat :=
  let c1024_i32 : BitVec 32 := 1024#32
  let c0_i32_163 : BitVec 32 := 0#32
  let c1_i32_165 : BitVec 32 := 1#32
  let arg23 : BitVec 32 := Scf.iv c0_i32_163 c1_i32_165 k0_t7
  let c16_i32_531 : BitVec 32 := 16#32
  let v688 : BitVec 32 := Scalar.muli arg23 c16_i32_531
  let v689 : BitVec 32 := Scalar.addi c1024_i32 v688
  let v728 : BitVec 32 := Scalar.addi c0_i32_544 v689
  let v729 : Index := Scalar.indexCast v728
  ![v729.toNat]

def k0_chk97 (v738 : IVec S16 32) : Prop :=
  (∀ a x, ((![v738] : Fin 1 → IVec S16 32) a x).toNat < S1824.size a)
theorem k0_idx97_inb : ∀ (v738 : IVec S16 32) (k0_hw97 : k0_chk97 v738), ∀ a x, ((![v738] : Fin 1 → IVec S16 32) a x).toNat < S1824.size a := fun v738 k0_hw97 => k0_hw97

def k0_chk98 (v741 : IVec S16 32) : Prop :=
  (∀ a x, ((![v741] : Fin 1 → IVec S16 32) a x).toNat < S1824.size a)
theorem k0_idx98_inb : ∀ (v741 : IVec S16 32) (k0_hw98 : k0_chk98 v741), ∀ a x, ((![v741] : Fin 1 → IVec S16 32) a x).toNat < S1824.size a := fun v741 k0_hw98 => k0_hw98

def k0_chk99 (v744 : IVec S16 32) : Prop :=
  (∀ a x, ((![v744] : Fin 1 → IVec S16 32) a x).toNat < S1824.size a)
theorem k0_idx99_inb : ∀ (v744 : IVec S16 32) (k0_hw99 : k0_chk99 v744), ∀ a x, ((![v744] : Fin 1 → IVec S16 32) a x).toNat < S1824.size a := fun v744 k0_hw99 => k0_hw99

def k0_chk100 (v747 : IVec S16 32) : Prop :=
  (∀ a x, ((![v747] : Fin 1 → IVec S16 32) a x).toNat < S1824.size a)
theorem k0_idx100_inb : ∀ (v747 : IVec S16 32) (k0_hw100 : k0_chk100 v747), ∀ a x, ((![v747] : Fin 1 → IVec S16 32) a x).toNat < S1824.size a := fun v747 k0_hw100 => k0_hw100

def k0_chk101 (v760 : IVec S16 32) : Prop :=
  (∀ a x, ((![v760] : Fin 1 → IVec S16 32) a x).toNat < S1824.size a)
theorem k0_idx101_inb : ∀ (v760 : IVec S16 32) (k0_hw101 : k0_chk101 v760), ∀ a x, ((![v760] : Fin 1 → IVec S16 32) a x).toNat < S1824.size a := fun v760 k0_hw101 => k0_hw101

def k0_chk102 (v763 : IVec S16 32) : Prop :=
  (∀ a x, ((![v763] : Fin 1 → IVec S16 32) a x).toNat < S1824.size a)
theorem k0_idx102_inb : ∀ (v763 : IVec S16 32) (k0_hw102 : k0_chk102 v763), ∀ a x, ((![v763] : Fin 1 → IVec S16 32) a x).toNat < S1824.size a := fun v763 k0_hw102 => k0_hw102

def k0_chk103 (v766 : IVec S16 32) : Prop :=
  (∀ a x, ((![v766] : Fin 1 → IVec S16 32) a x).toNat < S1824.size a)
theorem k0_idx103_inb : ∀ (v766 : IVec S16 32) (k0_hw103 : k0_chk103 v766), ∀ a x, ((![v766] : Fin 1 → IVec S16 32) a x).toNat < S1824.size a := fun v766 k0_hw103 => k0_hw103

def k0_chk104 (v769 : IVec S16 32) : Prop :=
  (∀ a x, ((![v769] : Fin 1 → IVec S16 32) a x).toNat < S1824.size a)
theorem k0_idx104_inb : ∀ (v769 : IVec S16 32) (k0_hw104 : k0_chk104 v769), ∀ a x, ((![v769] : Fin 1 → IVec S16 32) a x).toNat < S1824.size a := fun v769 k0_hw104 => k0_hw104

def k0_chk105 (v783 : IVec S16 32) : Prop :=
  (∀ a x, ((![v783] : Fin 1 → IVec S16 32) a x).toNat < S1824.size a)
theorem k0_idx105_inb : ∀ (v783 : IVec S16 32) (k0_hw105 : k0_chk105 v783), ∀ a x, ((![v783] : Fin 1 → IVec S16 32) a x).toNat < S1824.size a := fun v783 k0_hw105 => k0_hw105

def k0_chk106 (v786 : IVec S16 32) : Prop :=
  (∀ a x, ((![v786] : Fin 1 → IVec S16 32) a x).toNat < S1824.size a)
theorem k0_idx106_inb : ∀ (v786 : IVec S16 32) (k0_hw106 : k0_chk106 v786), ∀ a x, ((![v786] : Fin 1 → IVec S16 32) a x).toNat < S1824.size a := fun v786 k0_hw106 => k0_hw106

def k0_chk107 (v789 : IVec S16 32) : Prop :=
  (∀ a x, ((![v789] : Fin 1 → IVec S16 32) a x).toNat < S1824.size a)
theorem k0_idx107_inb : ∀ (v789 : IVec S16 32) (k0_hw107 : k0_chk107 v789), ∀ a x, ((![v789] : Fin 1 → IVec S16 32) a x).toNat < S1824.size a := fun v789 k0_hw107 => k0_hw107

def k0_chk108 (v792 : IVec S16 32) : Prop :=
  (∀ a x, ((![v792] : Fin 1 → IVec S16 32) a x).toNat < S1824.size a)
theorem k0_idx108_inb : ∀ (v792 : IVec S16 32) (k0_hw108 : k0_chk108 v792), ∀ a x, ((![v792] : Fin 1 → IVec S16 32) a x).toNat < S1824.size a := fun v792 k0_hw108 => k0_hw108

def k0_chk109 (v806 : IVec S16 32) : Prop :=
  (∀ a x, ((![v806] : Fin 1 → IVec S16 32) a x).toNat < S1824.size a)
theorem k0_idx109_inb : ∀ (v806 : IVec S16 32) (k0_hw109 : k0_chk109 v806), ∀ a x, ((![v806] : Fin 1 → IVec S16 32) a x).toNat < S1824.size a := fun v806 k0_hw109 => k0_hw109

def k0_chk110 (v809 : IVec S16 32) : Prop :=
  (∀ a x, ((![v809] : Fin 1 → IVec S16 32) a x).toNat < S1824.size a)
theorem k0_idx110_inb : ∀ (v809 : IVec S16 32) (k0_hw110 : k0_chk110 v809), ∀ a x, ((![v809] : Fin 1 → IVec S16 32) a x).toNat < S1824.size a := fun v809 k0_hw110 => k0_hw110

def k0_chk111 (v812 : IVec S16 32) : Prop :=
  (∀ a x, ((![v812] : Fin 1 → IVec S16 32) a x).toNat < S1824.size a)
theorem k0_idx111_inb : ∀ (v812 : IVec S16 32) (k0_hw111 : k0_chk111 v812), ∀ a x, ((![v812] : Fin 1 → IVec S16 32) a x).toNat < S1824.size a := fun v812 k0_hw111 => k0_hw111

def k0_chk112 (v815 : IVec S16 32) : Prop :=
  (∀ a x, ((![v815] : Fin 1 → IVec S16 32) a x).toNat < S1824.size a)
theorem k0_idx112_inb : ∀ (v815 : IVec S16 32) (k0_hw112 : k0_chk112 v815), ∀ a x, ((![v815] : Fin 1 → IVec S16 32) a x).toNat < S1824.size a := fun v815 k0_hw112 => k0_hw112
def k0_off37 (k0_t7 : Fin k0_t7_loop.trips) : Fin 1 → Nat :=
  let c0_i32_560 : BitVec 32 := 0#32
  let c1024_i32 : BitVec 32 := 1024#32
  let c0_i32_163 : BitVec 32 := 0#32
  let c1_i32_165 : BitVec 32 := 1#32
  let arg23 : BitVec 32 := Scf.iv c0_i32_163 c1_i32_165 k0_t7
  let c16_i32_531 : BitVec 32 := 16#32
  let v688 : BitVec 32 := Scalar.muli arg23 c16_i32_531
  let v689 : BitVec 32 := Scalar.addi c1024_i32 v688
  let v827 : BitVec 32 := Scalar.addi c0_i32_560 v689
  let v828 : Index := Scalar.indexCast v827
  ![v828.toNat]

def k0_chk113 (v831 : IVec S16 32) : Prop :=
  (∀ a x, ((![v831] : Fin 1 → IVec S16 32) a x).toNat < S1824.size a)
theorem k0_idx113_inb : ∀ (v831 : IVec S16 32) (k0_hw113 : k0_chk113 v831), ∀ a x, ((![v831] : Fin 1 → IVec S16 32) a x).toNat < S1824.size a := fun v831 k0_hw113 => k0_hw113

def k0_chk114 (v834 : IVec S16 32) : Prop :=
  (∀ a x, ((![v834] : Fin 1 → IVec S16 32) a x).toNat < S1824.size a)
theorem k0_idx114_inb : ∀ (v834 : IVec S16 32) (k0_hw114 : k0_chk114 v834), ∀ a x, ((![v834] : Fin 1 → IVec S16 32) a x).toNat < S1824.size a := fun v834 k0_hw114 => k0_hw114

def k0_chk115 (v837 : IVec S16 32) : Prop :=
  (∀ a x, ((![v837] : Fin 1 → IVec S16 32) a x).toNat < S1824.size a)
theorem k0_idx115_inb : ∀ (v837 : IVec S16 32) (k0_hw115 : k0_chk115 v837), ∀ a x, ((![v837] : Fin 1 → IVec S16 32) a x).toNat < S1824.size a := fun v837 k0_hw115 => k0_hw115

def k0_chk116 (v840 : IVec S16 32) : Prop :=
  (∀ a x, ((![v840] : Fin 1 → IVec S16 32) a x).toNat < S1824.size a)
theorem k0_idx116_inb : ∀ (v840 : IVec S16 32) (k0_hw116 : k0_chk116 v840), ∀ a x, ((![v840] : Fin 1 → IVec S16 32) a x).toNat < S1824.size a := fun v840 k0_hw116 => k0_hw116

def k0_chk117 (v853 : IVec S16 32) : Prop :=
  (∀ a x, ((![v853] : Fin 1 → IVec S16 32) a x).toNat < S1824.size a)
theorem k0_idx117_inb : ∀ (v853 : IVec S16 32) (k0_hw117 : k0_chk117 v853), ∀ a x, ((![v853] : Fin 1 → IVec S16 32) a x).toNat < S1824.size a := fun v853 k0_hw117 => k0_hw117

def k0_chk118 (v856 : IVec S16 32) : Prop :=
  (∀ a x, ((![v856] : Fin 1 → IVec S16 32) a x).toNat < S1824.size a)
theorem k0_idx118_inb : ∀ (v856 : IVec S16 32) (k0_hw118 : k0_chk118 v856), ∀ a x, ((![v856] : Fin 1 → IVec S16 32) a x).toNat < S1824.size a := fun v856 k0_hw118 => k0_hw118

def k0_chk119 (v859 : IVec S16 32) : Prop :=
  (∀ a x, ((![v859] : Fin 1 → IVec S16 32) a x).toNat < S1824.size a)
theorem k0_idx119_inb : ∀ (v859 : IVec S16 32) (k0_hw119 : k0_chk119 v859), ∀ a x, ((![v859] : Fin 1 → IVec S16 32) a x).toNat < S1824.size a := fun v859 k0_hw119 => k0_hw119

def k0_chk120 (v862 : IVec S16 32) : Prop :=
  (∀ a x, ((![v862] : Fin 1 → IVec S16 32) a x).toNat < S1824.size a)
theorem k0_idx120_inb : ∀ (v862 : IVec S16 32) (k0_hw120 : k0_chk120 v862), ∀ a x, ((![v862] : Fin 1 → IVec S16 32) a x).toNat < S1824.size a := fun v862 k0_hw120 => k0_hw120

def k0_chk121 (v876 : IVec S16 32) : Prop :=
  (∀ a x, ((![v876] : Fin 1 → IVec S16 32) a x).toNat < S1824.size a)
theorem k0_idx121_inb : ∀ (v876 : IVec S16 32) (k0_hw121 : k0_chk121 v876), ∀ a x, ((![v876] : Fin 1 → IVec S16 32) a x).toNat < S1824.size a := fun v876 k0_hw121 => k0_hw121

def k0_chk122 (v879 : IVec S16 32) : Prop :=
  (∀ a x, ((![v879] : Fin 1 → IVec S16 32) a x).toNat < S1824.size a)
theorem k0_idx122_inb : ∀ (v879 : IVec S16 32) (k0_hw122 : k0_chk122 v879), ∀ a x, ((![v879] : Fin 1 → IVec S16 32) a x).toNat < S1824.size a := fun v879 k0_hw122 => k0_hw122

def k0_chk123 (v882 : IVec S16 32) : Prop :=
  (∀ a x, ((![v882] : Fin 1 → IVec S16 32) a x).toNat < S1824.size a)
theorem k0_idx123_inb : ∀ (v882 : IVec S16 32) (k0_hw123 : k0_chk123 v882), ∀ a x, ((![v882] : Fin 1 → IVec S16 32) a x).toNat < S1824.size a := fun v882 k0_hw123 => k0_hw123

def k0_chk124 (v885 : IVec S16 32) : Prop :=
  (∀ a x, ((![v885] : Fin 1 → IVec S16 32) a x).toNat < S1824.size a)
theorem k0_idx124_inb : ∀ (v885 : IVec S16 32) (k0_hw124 : k0_chk124 v885), ∀ a x, ((![v885] : Fin 1 → IVec S16 32) a x).toNat < S1824.size a := fun v885 k0_hw124 => k0_hw124

def k0_chk125 (v899 : IVec S16 32) : Prop :=
  (∀ a x, ((![v899] : Fin 1 → IVec S16 32) a x).toNat < S1824.size a)
theorem k0_idx125_inb : ∀ (v899 : IVec S16 32) (k0_hw125 : k0_chk125 v899), ∀ a x, ((![v899] : Fin 1 → IVec S16 32) a x).toNat < S1824.size a := fun v899 k0_hw125 => k0_hw125

def k0_chk126 (v902 : IVec S16 32) : Prop :=
  (∀ a x, ((![v902] : Fin 1 → IVec S16 32) a x).toNat < S1824.size a)
theorem k0_idx126_inb : ∀ (v902 : IVec S16 32) (k0_hw126 : k0_chk126 v902), ∀ a x, ((![v902] : Fin 1 → IVec S16 32) a x).toNat < S1824.size a := fun v902 k0_hw126 => k0_hw126

def k0_chk127 (v905 : IVec S16 32) : Prop :=
  (∀ a x, ((![v905] : Fin 1 → IVec S16 32) a x).toNat < S1824.size a)
theorem k0_idx127_inb : ∀ (v905 : IVec S16 32) (k0_hw127 : k0_chk127 v905), ∀ a x, ((![v905] : Fin 1 → IVec S16 32) a x).toNat < S1824.size a := fun v905 k0_hw127 => k0_hw127

def k0_chk128 (v908 : IVec S16 32) : Prop :=
  (∀ a x, ((![v908] : Fin 1 → IVec S16 32) a x).toNat < S1824.size a)
theorem k0_idx128_inb : ∀ (v908 : IVec S16 32) (k0_hw128 : k0_chk128 v908), ∀ a x, ((![v908] : Fin 1 → IVec S16 32) a x).toNat < S1824.size a := fun v908 k0_hw128 => k0_hw128
def k0_off38 (k0_t7 : Fin k0_t7_loop.trips) : Fin 1 → Nat :=
  let c4096_i32_573 : BitVec 32 := 4096#32
  let c1024_i32 : BitVec 32 := 1024#32
  let c0_i32_163 : BitVec 32 := 0#32
  let c1_i32_165 : BitVec 32 := 1#32
  let arg23 : BitVec 32 := Scf.iv c0_i32_163 c1_i32_165 k0_t7
  let c16_i32_531 : BitVec 32 := 16#32
  let v688 : BitVec 32 := Scalar.muli arg23 c16_i32_531
  let v689 : BitVec 32 := Scalar.addi c1024_i32 v688
  let v920 : BitVec 32 := Scalar.addi c4096_i32_573 v689
  let v921 : Index := Scalar.indexCast v920
  ![v921.toNat]

def k0_chk129 (v924 : IVec S16 32) : Prop :=
  (∀ a x, ((![v924] : Fin 1 → IVec S16 32) a x).toNat < S1824.size a)
theorem k0_idx129_inb : ∀ (v924 : IVec S16 32) (k0_hw129 : k0_chk129 v924), ∀ a x, ((![v924] : Fin 1 → IVec S16 32) a x).toNat < S1824.size a := fun v924 k0_hw129 => k0_hw129

def k0_chk130 (v927 : IVec S16 32) : Prop :=
  (∀ a x, ((![v927] : Fin 1 → IVec S16 32) a x).toNat < S1824.size a)
theorem k0_idx130_inb : ∀ (v927 : IVec S16 32) (k0_hw130 : k0_chk130 v927), ∀ a x, ((![v927] : Fin 1 → IVec S16 32) a x).toNat < S1824.size a := fun v927 k0_hw130 => k0_hw130

def k0_chk131 (v930 : IVec S16 32) : Prop :=
  (∀ a x, ((![v930] : Fin 1 → IVec S16 32) a x).toNat < S1824.size a)
theorem k0_idx131_inb : ∀ (v930 : IVec S16 32) (k0_hw131 : k0_chk131 v930), ∀ a x, ((![v930] : Fin 1 → IVec S16 32) a x).toNat < S1824.size a := fun v930 k0_hw131 => k0_hw131

def k0_chk132 (v933 : IVec S16 32) : Prop :=
  (∀ a x, ((![v933] : Fin 1 → IVec S16 32) a x).toNat < S1824.size a)
theorem k0_idx132_inb : ∀ (v933 : IVec S16 32) (k0_hw132 : k0_chk132 v933), ∀ a x, ((![v933] : Fin 1 → IVec S16 32) a x).toNat < S1824.size a := fun v933 k0_hw132 => k0_hw132

def k0_chk133 (v946 : IVec S16 32) : Prop :=
  (∀ a x, ((![v946] : Fin 1 → IVec S16 32) a x).toNat < S1824.size a)
theorem k0_idx133_inb : ∀ (v946 : IVec S16 32) (k0_hw133 : k0_chk133 v946), ∀ a x, ((![v946] : Fin 1 → IVec S16 32) a x).toNat < S1824.size a := fun v946 k0_hw133 => k0_hw133

def k0_chk134 (v949 : IVec S16 32) : Prop :=
  (∀ a x, ((![v949] : Fin 1 → IVec S16 32) a x).toNat < S1824.size a)
theorem k0_idx134_inb : ∀ (v949 : IVec S16 32) (k0_hw134 : k0_chk134 v949), ∀ a x, ((![v949] : Fin 1 → IVec S16 32) a x).toNat < S1824.size a := fun v949 k0_hw134 => k0_hw134

def k0_chk135 (v952 : IVec S16 32) : Prop :=
  (∀ a x, ((![v952] : Fin 1 → IVec S16 32) a x).toNat < S1824.size a)
theorem k0_idx135_inb : ∀ (v952 : IVec S16 32) (k0_hw135 : k0_chk135 v952), ∀ a x, ((![v952] : Fin 1 → IVec S16 32) a x).toNat < S1824.size a := fun v952 k0_hw135 => k0_hw135

def k0_chk136 (v955 : IVec S16 32) : Prop :=
  (∀ a x, ((![v955] : Fin 1 → IVec S16 32) a x).toNat < S1824.size a)
theorem k0_idx136_inb : ∀ (v955 : IVec S16 32) (k0_hw136 : k0_chk136 v955), ∀ a x, ((![v955] : Fin 1 → IVec S16 32) a x).toNat < S1824.size a := fun v955 k0_hw136 => k0_hw136

def k0_chk137 (v969 : IVec S16 32) : Prop :=
  (∀ a x, ((![v969] : Fin 1 → IVec S16 32) a x).toNat < S1824.size a)
theorem k0_idx137_inb : ∀ (v969 : IVec S16 32) (k0_hw137 : k0_chk137 v969), ∀ a x, ((![v969] : Fin 1 → IVec S16 32) a x).toNat < S1824.size a := fun v969 k0_hw137 => k0_hw137

def k0_chk138 (v972 : IVec S16 32) : Prop :=
  (∀ a x, ((![v972] : Fin 1 → IVec S16 32) a x).toNat < S1824.size a)
theorem k0_idx138_inb : ∀ (v972 : IVec S16 32) (k0_hw138 : k0_chk138 v972), ∀ a x, ((![v972] : Fin 1 → IVec S16 32) a x).toNat < S1824.size a := fun v972 k0_hw138 => k0_hw138

def k0_chk139 (v975 : IVec S16 32) : Prop :=
  (∀ a x, ((![v975] : Fin 1 → IVec S16 32) a x).toNat < S1824.size a)
theorem k0_idx139_inb : ∀ (v975 : IVec S16 32) (k0_hw139 : k0_chk139 v975), ∀ a x, ((![v975] : Fin 1 → IVec S16 32) a x).toNat < S1824.size a := fun v975 k0_hw139 => k0_hw139

def k0_chk140 (v978 : IVec S16 32) : Prop :=
  (∀ a x, ((![v978] : Fin 1 → IVec S16 32) a x).toNat < S1824.size a)
theorem k0_idx140_inb : ∀ (v978 : IVec S16 32) (k0_hw140 : k0_chk140 v978), ∀ a x, ((![v978] : Fin 1 → IVec S16 32) a x).toNat < S1824.size a := fun v978 k0_hw140 => k0_hw140

def k0_chk141 (v992 : IVec S16 32) : Prop :=
  (∀ a x, ((![v992] : Fin 1 → IVec S16 32) a x).toNat < S1824.size a)
theorem k0_idx141_inb : ∀ (v992 : IVec S16 32) (k0_hw141 : k0_chk141 v992), ∀ a x, ((![v992] : Fin 1 → IVec S16 32) a x).toNat < S1824.size a := fun v992 k0_hw141 => k0_hw141

def k0_chk142 (v995 : IVec S16 32) : Prop :=
  (∀ a x, ((![v995] : Fin 1 → IVec S16 32) a x).toNat < S1824.size a)
theorem k0_idx142_inb : ∀ (v995 : IVec S16 32) (k0_hw142 : k0_chk142 v995), ∀ a x, ((![v995] : Fin 1 → IVec S16 32) a x).toNat < S1824.size a := fun v995 k0_hw142 => k0_hw142

def k0_chk143 (v998 : IVec S16 32) : Prop :=
  (∀ a x, ((![v998] : Fin 1 → IVec S16 32) a x).toNat < S1824.size a)
theorem k0_idx143_inb : ∀ (v998 : IVec S16 32) (k0_hw143 : k0_chk143 v998), ∀ a x, ((![v998] : Fin 1 → IVec S16 32) a x).toNat < S1824.size a := fun v998 k0_hw143 => k0_hw143

def k0_chk144 (v1001 : IVec S16 32) : Prop :=
  (∀ a x, ((![v1001] : Fin 1 → IVec S16 32) a x).toNat < S1824.size a)
theorem k0_idx144_inb : ∀ (v1001 : IVec S16 32) (k0_hw144 : k0_chk144 v1001), ∀ a x, ((![v1001] : Fin 1 → IVec S16 32) a x).toNat < S1824.size a := fun v1001 k0_hw144 => k0_hw144
def k0_off39 (k0_t7 : Fin k0_t7_loop.trips) : Fin 1 → Nat :=
  let c8192_i32_586 : BitVec 32 := 8192#32
  let c1024_i32 : BitVec 32 := 1024#32
  let c0_i32_163 : BitVec 32 := 0#32
  let c1_i32_165 : BitVec 32 := 1#32
  let arg23 : BitVec 32 := Scf.iv c0_i32_163 c1_i32_165 k0_t7
  let c16_i32_531 : BitVec 32 := 16#32
  let v688 : BitVec 32 := Scalar.muli arg23 c16_i32_531
  let v689 : BitVec 32 := Scalar.addi c1024_i32 v688
  let v1013 : BitVec 32 := Scalar.addi c8192_i32_586 v689
  let v1014 : Index := Scalar.indexCast v1013
  ![v1014.toNat]
@[reducible] def k0_t8_loop : Scf.Loop 32 :=
  let c0_i32_181 : BitVec 32 := 0#32
  let c96_i32_182 : BitVec 32 := 96#32
  let v296 : BitVec 32 := Scalar.addi c0_i32_181 c96_i32_182
  let c1_i32_183 : BitVec 32 := 1#32
  ⟨c0_i32_181, v296, c1_i32_183⟩
def k0_off40 (i : grid0.Coords) (k0_t1 : Fin k0_t1_loop.trips) (k0_t8 : Fin k0_t8_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_181 : BitVec 32 := 0#32
  let c1_i32_183 : BitVec 32 := 1#32
  let arg23 : BitVec 32 := Scf.iv c0_i32_181 c1_i32_183 k0_t8
  let c256_i32 : BitVec 32 := 256#32
  let v688 : BitVec 32 := Scalar.muli arg23 c256_i32
  let v689 : BitVec 32 := Scalar.addi v40 v688
  let c15_i32_171 : BitVec 32 := 15#32
  let c0_i32_170 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_95 : BitVec 32 := 16#32
  let v193 : BitVec 32 := Scalar.muli v1 c16_i32_95
  let c2_i32_19 : BitVec 32 := 2#32
  let v37 : BitVec 32 := Scalar.muli arg22 c2_i32_19
  let c2_i32_96 : BitVec 32 := 2#32
  let c0_i32_97 : BitVec 32 := 0#32
  let v194 : BitVec 1 := Scalar.cmpi .eq c2_i32_96 c0_i32_97
  let c1_i32_98 : BitVec 32 := 1#32
  let v195 : BitVec 32 := Scalar.select v194 c1_i32_98 c2_i32_96
  let v196 : BitVec 32 := Scalar.remsi v37 v195
  let c0_i32_100 : BitVec 32 := 0#32
  let v198 : BitVec 1 := Scalar.cmpi .slt v196 c0_i32_100
  let c0_i32_101 : BitVec 32 := 0#32
  let v199 : BitVec 1 := Scalar.cmpi .slt v195 c0_i32_101
  let v200 : BitVec 1 := Scalar.xori v198 v199
  let c0_i32_99 : BitVec 32 := 0#32
  let v197 : BitVec 1 := Scalar.cmpi .ne v196 c0_i32_99
  let v201 : BitVec 1 := Scalar.andi v200 v197
  let v202 : BitVec 32 := Scalar.addi v196 v195
  let v203 : BitVec 32 := Scalar.select v201 v202 v196
  let c8_i32_102 : BitVec 32 := 8#32
  let v204 : BitVec 32 := Scalar.muli v203 c8_i32_102
  let v205 : BitVec 32 := Scalar.addi v193 v204
  let c3_i32_167 : BitVec 32 := 3#32
  let v275 : BitVec 32 := Scalar.addi v205 c3_i32_167
  let c16_i32_168 : BitVec 32 := 16#32
  let v276 : BitVec 32 := Scalar.subi v275 c16_i32_168
  let c5_i32_169 : BitVec 32 := 5#32
  let v277 : BitVec 32 := Scalar.shrsi v276 c5_i32_169
  let v278 : BitVec 32 := Scalar.maxsi c0_i32_170 v277
  let v279 : BitVec 32 := Scalar.minsi c15_i32_171 v278
  let c16_i32_172 : BitVec 32 := 16#32
  let v280 : BitVec 32 := Scalar.muli v279 c16_i32_172
  let v690 : BitVec 32 := Scalar.addi v689 v280
  let v691 : Index := Scalar.indexCast v690
  ![v691.toNat]
def k0_off41 (i : grid0.Coords) (k0_t1 : Fin k0_t1_loop.trips) (k0_t8 : Fin k0_t8_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_181 : BitVec 32 := 0#32
  let c1_i32_183 : BitVec 32 := 1#32
  let arg23 : BitVec 32 := Scf.iv c0_i32_181 c1_i32_183 k0_t8
  let c256_i32 : BitVec 32 := 256#32
  let v688 : BitVec 32 := Scalar.muli arg23 c256_i32
  let v689 : BitVec 32 := Scalar.addi v40 v688
  let c15_i32_175 : BitVec 32 := 15#32
  let c0_i32_174 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_95 : BitVec 32 := 16#32
  let v193 : BitVec 32 := Scalar.muli v1 c16_i32_95
  let c2_i32_19 : BitVec 32 := 2#32
  let v37 : BitVec 32 := Scalar.muli arg22 c2_i32_19
  let c2_i32_96 : BitVec 32 := 2#32
  let c0_i32_97 : BitVec 32 := 0#32
  let v194 : BitVec 1 := Scalar.cmpi .eq c2_i32_96 c0_i32_97
  let c1_i32_98 : BitVec 32 := 1#32
  let v195 : BitVec 32 := Scalar.select v194 c1_i32_98 c2_i32_96
  let v196 : BitVec 32 := Scalar.remsi v37 v195
  let c0_i32_100 : BitVec 32 := 0#32
  let v198 : BitVec 1 := Scalar.cmpi .slt v196 c0_i32_100
  let c0_i32_101 : BitVec 32 := 0#32
  let v199 : BitVec 1 := Scalar.cmpi .slt v195 c0_i32_101
  let v200 : BitVec 1 := Scalar.xori v198 v199
  let c0_i32_99 : BitVec 32 := 0#32
  let v197 : BitVec 1 := Scalar.cmpi .ne v196 c0_i32_99
  let v201 : BitVec 1 := Scalar.andi v200 v197
  let v202 : BitVec 32 := Scalar.addi v196 v195
  let v203 : BitVec 32 := Scalar.select v201 v202 v196
  let c8_i32_102 : BitVec 32 := 8#32
  let v204 : BitVec 32 := Scalar.muli v203 c8_i32_102
  let v205 : BitVec 32 := Scalar.addi v193 v204
  let c3_i32_167 : BitVec 32 := 3#32
  let v275 : BitVec 32 := Scalar.addi v205 c3_i32_167
  let c16_i32_168 : BitVec 32 := 16#32
  let v276 : BitVec 32 := Scalar.subi v275 c16_i32_168
  let c5_i32_169 : BitVec 32 := 5#32
  let v277 : BitVec 32 := Scalar.shrsi v276 c5_i32_169
  let c1_i32_173 : BitVec 32 := 1#32
  let v281 : BitVec 32 := Scalar.addi v277 c1_i32_173
  let v282 : BitVec 32 := Scalar.maxsi c0_i32_174 v281
  let v283 : BitVec 32 := Scalar.minsi c15_i32_175 v282
  let c16_i32_176 : BitVec 32 := 16#32
  let v284 : BitVec 32 := Scalar.muli v283 c16_i32_176
  let v693 : BitVec 32 := Scalar.addi v689 v284
  let v694 : Index := Scalar.indexCast v693
  ![v694.toNat]
def k0_off42 (k0_t8 : Fin k0_t8_loop.trips) : Fin 1 → Nat :=
  let c0_i32_181 : BitVec 32 := 0#32
  let c1_i32_183 : BitVec 32 := 1#32
  let arg23 : BitVec 32 := Scf.iv c0_i32_181 c1_i32_183 k0_t8
  let c19_i32 : BitVec 32 := 19#32
  let v699 : BitVec 32 := Scalar.muli arg23 c19_i32
  let v700 : Index := Scalar.indexCast v699
  ![v700.toNat]
@[reducible] def k0_t9_loop : Scf.Loop 32 :=
  let c0_i32_186 : BitVec 32 := 0#32
  let c32_i32_187 : BitVec 32 := 32#32
  let v297 : BitVec 32 := Scalar.addi c0_i32_186 c32_i32_187
  let c1_i32_188 : BitVec 32 := 1#32
  ⟨c0_i32_186, v297, c1_i32_188⟩
def k0_off43 (k0_t9 : Fin k0_t9_loop.trips) : Fin 1 → Nat :=
  let c1536_i32 : BitVec 32 := 1536#32
  let c0_i32_186 : BitVec 32 := 0#32
  let c1_i32_188 : BitVec 32 := 1#32
  let arg23 : BitVec 32 := Scf.iv c0_i32_186 c1_i32_188 k0_t9
  let c16_i32_531 : BitVec 32 := 16#32
  let v688 : BitVec 32 := Scalar.muli arg23 c16_i32_531
  let v689 : BitVec 32 := Scalar.addi c1536_i32 v688
  let v690 : Index := Scalar.indexCast v689
  ![v690.toNat]
def k0_off44 (k0_t9 : Fin k0_t9_loop.trips) : Fin 1 → Nat :=
  let c0_i32_186 : BitVec 32 := 0#32
  let c1_i32_188 : BitVec 32 := 1#32
  let arg23 : BitVec 32 := Scf.iv c0_i32_186 c1_i32_188 k0_t9
  let c16_i32_541 : BitVec 32 := 16#32
  let v715 : BitVec 32 := Scalar.muli arg23 c16_i32_541
  let v716 : Index := Scalar.indexCast v715
  ![v716.toNat]
def k0_off45 (k0_t9 : Fin k0_t9_loop.trips) (c0_i32_544 : BitVec 32) : Fin 1 → Nat :=
  let c1536_i32 : BitVec 32 := 1536#32
  let c0_i32_186 : BitVec 32 := 0#32
  let c1_i32_188 : BitVec 32 := 1#32
  let arg23 : BitVec 32 := Scf.iv c0_i32_186 c1_i32_188 k0_t9
  let c16_i32_531 : BitVec 32 := 16#32
  let v688 : BitVec 32 := Scalar.muli arg23 c16_i32_531
  let v689 : BitVec 32 := Scalar.addi c1536_i32 v688
  let v728 : BitVec 32 := Scalar.addi c0_i32_544 v689
  let v729 : Index := Scalar.indexCast v728
  ![v729.toNat]

def k0_chk145 (v738 : IVec S16 32) : Prop :=
  (∀ a x, ((![v738] : Fin 1 → IVec S16 32) a x).toNat < S1824.size a)
theorem k0_idx145_inb : ∀ (v738 : IVec S16 32) (k0_hw145 : k0_chk145 v738), ∀ a x, ((![v738] : Fin 1 → IVec S16 32) a x).toNat < S1824.size a := fun v738 k0_hw145 => k0_hw145

def k0_chk146 (v741 : IVec S16 32) : Prop :=
  (∀ a x, ((![v741] : Fin 1 → IVec S16 32) a x).toNat < S1824.size a)
theorem k0_idx146_inb : ∀ (v741 : IVec S16 32) (k0_hw146 : k0_chk146 v741), ∀ a x, ((![v741] : Fin 1 → IVec S16 32) a x).toNat < S1824.size a := fun v741 k0_hw146 => k0_hw146

def k0_chk147 (v744 : IVec S16 32) : Prop :=
  (∀ a x, ((![v744] : Fin 1 → IVec S16 32) a x).toNat < S1824.size a)
theorem k0_idx147_inb : ∀ (v744 : IVec S16 32) (k0_hw147 : k0_chk147 v744), ∀ a x, ((![v744] : Fin 1 → IVec S16 32) a x).toNat < S1824.size a := fun v744 k0_hw147 => k0_hw147

def k0_chk148 (v747 : IVec S16 32) : Prop :=
  (∀ a x, ((![v747] : Fin 1 → IVec S16 32) a x).toNat < S1824.size a)
theorem k0_idx148_inb : ∀ (v747 : IVec S16 32) (k0_hw148 : k0_chk148 v747), ∀ a x, ((![v747] : Fin 1 → IVec S16 32) a x).toNat < S1824.size a := fun v747 k0_hw148 => k0_hw148

def k0_chk149 (v760 : IVec S16 32) : Prop :=
  (∀ a x, ((![v760] : Fin 1 → IVec S16 32) a x).toNat < S1824.size a)
theorem k0_idx149_inb : ∀ (v760 : IVec S16 32) (k0_hw149 : k0_chk149 v760), ∀ a x, ((![v760] : Fin 1 → IVec S16 32) a x).toNat < S1824.size a := fun v760 k0_hw149 => k0_hw149

def k0_chk150 (v763 : IVec S16 32) : Prop :=
  (∀ a x, ((![v763] : Fin 1 → IVec S16 32) a x).toNat < S1824.size a)
theorem k0_idx150_inb : ∀ (v763 : IVec S16 32) (k0_hw150 : k0_chk150 v763), ∀ a x, ((![v763] : Fin 1 → IVec S16 32) a x).toNat < S1824.size a := fun v763 k0_hw150 => k0_hw150

def k0_chk151 (v766 : IVec S16 32) : Prop :=
  (∀ a x, ((![v766] : Fin 1 → IVec S16 32) a x).toNat < S1824.size a)
theorem k0_idx151_inb : ∀ (v766 : IVec S16 32) (k0_hw151 : k0_chk151 v766), ∀ a x, ((![v766] : Fin 1 → IVec S16 32) a x).toNat < S1824.size a := fun v766 k0_hw151 => k0_hw151

def k0_chk152 (v769 : IVec S16 32) : Prop :=
  (∀ a x, ((![v769] : Fin 1 → IVec S16 32) a x).toNat < S1824.size a)
theorem k0_idx152_inb : ∀ (v769 : IVec S16 32) (k0_hw152 : k0_chk152 v769), ∀ a x, ((![v769] : Fin 1 → IVec S16 32) a x).toNat < S1824.size a := fun v769 k0_hw152 => k0_hw152

def k0_chk153 (v783 : IVec S16 32) : Prop :=
  (∀ a x, ((![v783] : Fin 1 → IVec S16 32) a x).toNat < S1824.size a)
theorem k0_idx153_inb : ∀ (v783 : IVec S16 32) (k0_hw153 : k0_chk153 v783), ∀ a x, ((![v783] : Fin 1 → IVec S16 32) a x).toNat < S1824.size a := fun v783 k0_hw153 => k0_hw153

def k0_chk154 (v786 : IVec S16 32) : Prop :=
  (∀ a x, ((![v786] : Fin 1 → IVec S16 32) a x).toNat < S1824.size a)
theorem k0_idx154_inb : ∀ (v786 : IVec S16 32) (k0_hw154 : k0_chk154 v786), ∀ a x, ((![v786] : Fin 1 → IVec S16 32) a x).toNat < S1824.size a := fun v786 k0_hw154 => k0_hw154

def k0_chk155 (v789 : IVec S16 32) : Prop :=
  (∀ a x, ((![v789] : Fin 1 → IVec S16 32) a x).toNat < S1824.size a)
theorem k0_idx155_inb : ∀ (v789 : IVec S16 32) (k0_hw155 : k0_chk155 v789), ∀ a x, ((![v789] : Fin 1 → IVec S16 32) a x).toNat < S1824.size a := fun v789 k0_hw155 => k0_hw155

def k0_chk156 (v792 : IVec S16 32) : Prop :=
  (∀ a x, ((![v792] : Fin 1 → IVec S16 32) a x).toNat < S1824.size a)
theorem k0_idx156_inb : ∀ (v792 : IVec S16 32) (k0_hw156 : k0_chk156 v792), ∀ a x, ((![v792] : Fin 1 → IVec S16 32) a x).toNat < S1824.size a := fun v792 k0_hw156 => k0_hw156

def k0_chk157 (v806 : IVec S16 32) : Prop :=
  (∀ a x, ((![v806] : Fin 1 → IVec S16 32) a x).toNat < S1824.size a)
theorem k0_idx157_inb : ∀ (v806 : IVec S16 32) (k0_hw157 : k0_chk157 v806), ∀ a x, ((![v806] : Fin 1 → IVec S16 32) a x).toNat < S1824.size a := fun v806 k0_hw157 => k0_hw157

def k0_chk158 (v809 : IVec S16 32) : Prop :=
  (∀ a x, ((![v809] : Fin 1 → IVec S16 32) a x).toNat < S1824.size a)
theorem k0_idx158_inb : ∀ (v809 : IVec S16 32) (k0_hw158 : k0_chk158 v809), ∀ a x, ((![v809] : Fin 1 → IVec S16 32) a x).toNat < S1824.size a := fun v809 k0_hw158 => k0_hw158

def k0_chk159 (v812 : IVec S16 32) : Prop :=
  (∀ a x, ((![v812] : Fin 1 → IVec S16 32) a x).toNat < S1824.size a)
theorem k0_idx159_inb : ∀ (v812 : IVec S16 32) (k0_hw159 : k0_chk159 v812), ∀ a x, ((![v812] : Fin 1 → IVec S16 32) a x).toNat < S1824.size a := fun v812 k0_hw159 => k0_hw159

def k0_chk160 (v815 : IVec S16 32) : Prop :=
  (∀ a x, ((![v815] : Fin 1 → IVec S16 32) a x).toNat < S1824.size a)
theorem k0_idx160_inb : ∀ (v815 : IVec S16 32) (k0_hw160 : k0_chk160 v815), ∀ a x, ((![v815] : Fin 1 → IVec S16 32) a x).toNat < S1824.size a := fun v815 k0_hw160 => k0_hw160
def k0_off46 (k0_t9 : Fin k0_t9_loop.trips) : Fin 1 → Nat :=
  let c0_i32_560 : BitVec 32 := 0#32
  let c1536_i32 : BitVec 32 := 1536#32
  let c0_i32_186 : BitVec 32 := 0#32
  let c1_i32_188 : BitVec 32 := 1#32
  let arg23 : BitVec 32 := Scf.iv c0_i32_186 c1_i32_188 k0_t9
  let c16_i32_531 : BitVec 32 := 16#32
  let v688 : BitVec 32 := Scalar.muli arg23 c16_i32_531
  let v689 : BitVec 32 := Scalar.addi c1536_i32 v688
  let v827 : BitVec 32 := Scalar.addi c0_i32_560 v689
  let v828 : Index := Scalar.indexCast v827
  ![v828.toNat]

def k0_chk161 (v831 : IVec S16 32) : Prop :=
  (∀ a x, ((![v831] : Fin 1 → IVec S16 32) a x).toNat < S1824.size a)
theorem k0_idx161_inb : ∀ (v831 : IVec S16 32) (k0_hw161 : k0_chk161 v831), ∀ a x, ((![v831] : Fin 1 → IVec S16 32) a x).toNat < S1824.size a := fun v831 k0_hw161 => k0_hw161

def k0_chk162 (v834 : IVec S16 32) : Prop :=
  (∀ a x, ((![v834] : Fin 1 → IVec S16 32) a x).toNat < S1824.size a)
theorem k0_idx162_inb : ∀ (v834 : IVec S16 32) (k0_hw162 : k0_chk162 v834), ∀ a x, ((![v834] : Fin 1 → IVec S16 32) a x).toNat < S1824.size a := fun v834 k0_hw162 => k0_hw162

def k0_chk163 (v837 : IVec S16 32) : Prop :=
  (∀ a x, ((![v837] : Fin 1 → IVec S16 32) a x).toNat < S1824.size a)
theorem k0_idx163_inb : ∀ (v837 : IVec S16 32) (k0_hw163 : k0_chk163 v837), ∀ a x, ((![v837] : Fin 1 → IVec S16 32) a x).toNat < S1824.size a := fun v837 k0_hw163 => k0_hw163

def k0_chk164 (v840 : IVec S16 32) : Prop :=
  (∀ a x, ((![v840] : Fin 1 → IVec S16 32) a x).toNat < S1824.size a)
theorem k0_idx164_inb : ∀ (v840 : IVec S16 32) (k0_hw164 : k0_chk164 v840), ∀ a x, ((![v840] : Fin 1 → IVec S16 32) a x).toNat < S1824.size a := fun v840 k0_hw164 => k0_hw164

def k0_chk165 (v853 : IVec S16 32) : Prop :=
  (∀ a x, ((![v853] : Fin 1 → IVec S16 32) a x).toNat < S1824.size a)
theorem k0_idx165_inb : ∀ (v853 : IVec S16 32) (k0_hw165 : k0_chk165 v853), ∀ a x, ((![v853] : Fin 1 → IVec S16 32) a x).toNat < S1824.size a := fun v853 k0_hw165 => k0_hw165

def k0_chk166 (v856 : IVec S16 32) : Prop :=
  (∀ a x, ((![v856] : Fin 1 → IVec S16 32) a x).toNat < S1824.size a)
theorem k0_idx166_inb : ∀ (v856 : IVec S16 32) (k0_hw166 : k0_chk166 v856), ∀ a x, ((![v856] : Fin 1 → IVec S16 32) a x).toNat < S1824.size a := fun v856 k0_hw166 => k0_hw166

def k0_chk167 (v859 : IVec S16 32) : Prop :=
  (∀ a x, ((![v859] : Fin 1 → IVec S16 32) a x).toNat < S1824.size a)
theorem k0_idx167_inb : ∀ (v859 : IVec S16 32) (k0_hw167 : k0_chk167 v859), ∀ a x, ((![v859] : Fin 1 → IVec S16 32) a x).toNat < S1824.size a := fun v859 k0_hw167 => k0_hw167

def k0_chk168 (v862 : IVec S16 32) : Prop :=
  (∀ a x, ((![v862] : Fin 1 → IVec S16 32) a x).toNat < S1824.size a)
theorem k0_idx168_inb : ∀ (v862 : IVec S16 32) (k0_hw168 : k0_chk168 v862), ∀ a x, ((![v862] : Fin 1 → IVec S16 32) a x).toNat < S1824.size a := fun v862 k0_hw168 => k0_hw168

def k0_chk169 (v876 : IVec S16 32) : Prop :=
  (∀ a x, ((![v876] : Fin 1 → IVec S16 32) a x).toNat < S1824.size a)
theorem k0_idx169_inb : ∀ (v876 : IVec S16 32) (k0_hw169 : k0_chk169 v876), ∀ a x, ((![v876] : Fin 1 → IVec S16 32) a x).toNat < S1824.size a := fun v876 k0_hw169 => k0_hw169

def k0_chk170 (v879 : IVec S16 32) : Prop :=
  (∀ a x, ((![v879] : Fin 1 → IVec S16 32) a x).toNat < S1824.size a)
theorem k0_idx170_inb : ∀ (v879 : IVec S16 32) (k0_hw170 : k0_chk170 v879), ∀ a x, ((![v879] : Fin 1 → IVec S16 32) a x).toNat < S1824.size a := fun v879 k0_hw170 => k0_hw170

def k0_chk171 (v882 : IVec S16 32) : Prop :=
  (∀ a x, ((![v882] : Fin 1 → IVec S16 32) a x).toNat < S1824.size a)
theorem k0_idx171_inb : ∀ (v882 : IVec S16 32) (k0_hw171 : k0_chk171 v882), ∀ a x, ((![v882] : Fin 1 → IVec S16 32) a x).toNat < S1824.size a := fun v882 k0_hw171 => k0_hw171

def k0_chk172 (v885 : IVec S16 32) : Prop :=
  (∀ a x, ((![v885] : Fin 1 → IVec S16 32) a x).toNat < S1824.size a)
theorem k0_idx172_inb : ∀ (v885 : IVec S16 32) (k0_hw172 : k0_chk172 v885), ∀ a x, ((![v885] : Fin 1 → IVec S16 32) a x).toNat < S1824.size a := fun v885 k0_hw172 => k0_hw172

def k0_chk173 (v899 : IVec S16 32) : Prop :=
  (∀ a x, ((![v899] : Fin 1 → IVec S16 32) a x).toNat < S1824.size a)
theorem k0_idx173_inb : ∀ (v899 : IVec S16 32) (k0_hw173 : k0_chk173 v899), ∀ a x, ((![v899] : Fin 1 → IVec S16 32) a x).toNat < S1824.size a := fun v899 k0_hw173 => k0_hw173

def k0_chk174 (v902 : IVec S16 32) : Prop :=
  (∀ a x, ((![v902] : Fin 1 → IVec S16 32) a x).toNat < S1824.size a)
theorem k0_idx174_inb : ∀ (v902 : IVec S16 32) (k0_hw174 : k0_chk174 v902), ∀ a x, ((![v902] : Fin 1 → IVec S16 32) a x).toNat < S1824.size a := fun v902 k0_hw174 => k0_hw174

def k0_chk175 (v905 : IVec S16 32) : Prop :=
  (∀ a x, ((![v905] : Fin 1 → IVec S16 32) a x).toNat < S1824.size a)
theorem k0_idx175_inb : ∀ (v905 : IVec S16 32) (k0_hw175 : k0_chk175 v905), ∀ a x, ((![v905] : Fin 1 → IVec S16 32) a x).toNat < S1824.size a := fun v905 k0_hw175 => k0_hw175

def k0_chk176 (v908 : IVec S16 32) : Prop :=
  (∀ a x, ((![v908] : Fin 1 → IVec S16 32) a x).toNat < S1824.size a)
theorem k0_idx176_inb : ∀ (v908 : IVec S16 32) (k0_hw176 : k0_chk176 v908), ∀ a x, ((![v908] : Fin 1 → IVec S16 32) a x).toNat < S1824.size a := fun v908 k0_hw176 => k0_hw176
def k0_off47 (k0_t9 : Fin k0_t9_loop.trips) : Fin 1 → Nat :=
  let c4096_i32_573 : BitVec 32 := 4096#32
  let c1536_i32 : BitVec 32 := 1536#32
  let c0_i32_186 : BitVec 32 := 0#32
  let c1_i32_188 : BitVec 32 := 1#32
  let arg23 : BitVec 32 := Scf.iv c0_i32_186 c1_i32_188 k0_t9
  let c16_i32_531 : BitVec 32 := 16#32
  let v688 : BitVec 32 := Scalar.muli arg23 c16_i32_531
  let v689 : BitVec 32 := Scalar.addi c1536_i32 v688
  let v920 : BitVec 32 := Scalar.addi c4096_i32_573 v689
  let v921 : Index := Scalar.indexCast v920
  ![v921.toNat]

def k0_chk177 (v924 : IVec S16 32) : Prop :=
  (∀ a x, ((![v924] : Fin 1 → IVec S16 32) a x).toNat < S1824.size a)
theorem k0_idx177_inb : ∀ (v924 : IVec S16 32) (k0_hw177 : k0_chk177 v924), ∀ a x, ((![v924] : Fin 1 → IVec S16 32) a x).toNat < S1824.size a := fun v924 k0_hw177 => k0_hw177

def k0_chk178 (v927 : IVec S16 32) : Prop :=
  (∀ a x, ((![v927] : Fin 1 → IVec S16 32) a x).toNat < S1824.size a)
theorem k0_idx178_inb : ∀ (v927 : IVec S16 32) (k0_hw178 : k0_chk178 v927), ∀ a x, ((![v927] : Fin 1 → IVec S16 32) a x).toNat < S1824.size a := fun v927 k0_hw178 => k0_hw178

def k0_chk179 (v930 : IVec S16 32) : Prop :=
  (∀ a x, ((![v930] : Fin 1 → IVec S16 32) a x).toNat < S1824.size a)
theorem k0_idx179_inb : ∀ (v930 : IVec S16 32) (k0_hw179 : k0_chk179 v930), ∀ a x, ((![v930] : Fin 1 → IVec S16 32) a x).toNat < S1824.size a := fun v930 k0_hw179 => k0_hw179

def k0_chk180 (v933 : IVec S16 32) : Prop :=
  (∀ a x, ((![v933] : Fin 1 → IVec S16 32) a x).toNat < S1824.size a)
theorem k0_idx180_inb : ∀ (v933 : IVec S16 32) (k0_hw180 : k0_chk180 v933), ∀ a x, ((![v933] : Fin 1 → IVec S16 32) a x).toNat < S1824.size a := fun v933 k0_hw180 => k0_hw180

def k0_chk181 (v946 : IVec S16 32) : Prop :=
  (∀ a x, ((![v946] : Fin 1 → IVec S16 32) a x).toNat < S1824.size a)
theorem k0_idx181_inb : ∀ (v946 : IVec S16 32) (k0_hw181 : k0_chk181 v946), ∀ a x, ((![v946] : Fin 1 → IVec S16 32) a x).toNat < S1824.size a := fun v946 k0_hw181 => k0_hw181

def k0_chk182 (v949 : IVec S16 32) : Prop :=
  (∀ a x, ((![v949] : Fin 1 → IVec S16 32) a x).toNat < S1824.size a)
theorem k0_idx182_inb : ∀ (v949 : IVec S16 32) (k0_hw182 : k0_chk182 v949), ∀ a x, ((![v949] : Fin 1 → IVec S16 32) a x).toNat < S1824.size a := fun v949 k0_hw182 => k0_hw182

def k0_chk183 (v952 : IVec S16 32) : Prop :=
  (∀ a x, ((![v952] : Fin 1 → IVec S16 32) a x).toNat < S1824.size a)
theorem k0_idx183_inb : ∀ (v952 : IVec S16 32) (k0_hw183 : k0_chk183 v952), ∀ a x, ((![v952] : Fin 1 → IVec S16 32) a x).toNat < S1824.size a := fun v952 k0_hw183 => k0_hw183

def k0_chk184 (v955 : IVec S16 32) : Prop :=
  (∀ a x, ((![v955] : Fin 1 → IVec S16 32) a x).toNat < S1824.size a)
theorem k0_idx184_inb : ∀ (v955 : IVec S16 32) (k0_hw184 : k0_chk184 v955), ∀ a x, ((![v955] : Fin 1 → IVec S16 32) a x).toNat < S1824.size a := fun v955 k0_hw184 => k0_hw184

def k0_chk185 (v969 : IVec S16 32) : Prop :=
  (∀ a x, ((![v969] : Fin 1 → IVec S16 32) a x).toNat < S1824.size a)
theorem k0_idx185_inb : ∀ (v969 : IVec S16 32) (k0_hw185 : k0_chk185 v969), ∀ a x, ((![v969] : Fin 1 → IVec S16 32) a x).toNat < S1824.size a := fun v969 k0_hw185 => k0_hw185

def k0_chk186 (v972 : IVec S16 32) : Prop :=
  (∀ a x, ((![v972] : Fin 1 → IVec S16 32) a x).toNat < S1824.size a)
theorem k0_idx186_inb : ∀ (v972 : IVec S16 32) (k0_hw186 : k0_chk186 v972), ∀ a x, ((![v972] : Fin 1 → IVec S16 32) a x).toNat < S1824.size a := fun v972 k0_hw186 => k0_hw186

def k0_chk187 (v975 : IVec S16 32) : Prop :=
  (∀ a x, ((![v975] : Fin 1 → IVec S16 32) a x).toNat < S1824.size a)
theorem k0_idx187_inb : ∀ (v975 : IVec S16 32) (k0_hw187 : k0_chk187 v975), ∀ a x, ((![v975] : Fin 1 → IVec S16 32) a x).toNat < S1824.size a := fun v975 k0_hw187 => k0_hw187

def k0_chk188 (v978 : IVec S16 32) : Prop :=
  (∀ a x, ((![v978] : Fin 1 → IVec S16 32) a x).toNat < S1824.size a)
theorem k0_idx188_inb : ∀ (v978 : IVec S16 32) (k0_hw188 : k0_chk188 v978), ∀ a x, ((![v978] : Fin 1 → IVec S16 32) a x).toNat < S1824.size a := fun v978 k0_hw188 => k0_hw188

def k0_chk189 (v992 : IVec S16 32) : Prop :=
  (∀ a x, ((![v992] : Fin 1 → IVec S16 32) a x).toNat < S1824.size a)
theorem k0_idx189_inb : ∀ (v992 : IVec S16 32) (k0_hw189 : k0_chk189 v992), ∀ a x, ((![v992] : Fin 1 → IVec S16 32) a x).toNat < S1824.size a := fun v992 k0_hw189 => k0_hw189

def k0_chk190 (v995 : IVec S16 32) : Prop :=
  (∀ a x, ((![v995] : Fin 1 → IVec S16 32) a x).toNat < S1824.size a)
theorem k0_idx190_inb : ∀ (v995 : IVec S16 32) (k0_hw190 : k0_chk190 v995), ∀ a x, ((![v995] : Fin 1 → IVec S16 32) a x).toNat < S1824.size a := fun v995 k0_hw190 => k0_hw190

def k0_chk191 (v998 : IVec S16 32) : Prop :=
  (∀ a x, ((![v998] : Fin 1 → IVec S16 32) a x).toNat < S1824.size a)
theorem k0_idx191_inb : ∀ (v998 : IVec S16 32) (k0_hw191 : k0_chk191 v998), ∀ a x, ((![v998] : Fin 1 → IVec S16 32) a x).toNat < S1824.size a := fun v998 k0_hw191 => k0_hw191

def k0_chk192 (v1001 : IVec S16 32) : Prop :=
  (∀ a x, ((![v1001] : Fin 1 → IVec S16 32) a x).toNat < S1824.size a)
theorem k0_idx192_inb : ∀ (v1001 : IVec S16 32) (k0_hw192 : k0_chk192 v1001), ∀ a x, ((![v1001] : Fin 1 → IVec S16 32) a x).toNat < S1824.size a := fun v1001 k0_hw192 => k0_hw192
def k0_off48 (k0_t9 : Fin k0_t9_loop.trips) : Fin 1 → Nat :=
  let c8192_i32_586 : BitVec 32 := 8192#32
  let c1536_i32 : BitVec 32 := 1536#32
  let c0_i32_186 : BitVec 32 := 0#32
  let c1_i32_188 : BitVec 32 := 1#32
  let arg23 : BitVec 32 := Scf.iv c0_i32_186 c1_i32_188 k0_t9
  let c16_i32_531 : BitVec 32 := 16#32
  let v688 : BitVec 32 := Scalar.muli arg23 c16_i32_531
  let v689 : BitVec 32 := Scalar.addi c1536_i32 v688
  let v1013 : BitVec 32 := Scalar.addi c8192_i32_586 v689
  let v1014 : Index := Scalar.indexCast v1013
  ![v1014.toNat]
@[reducible] def k0_t10_loop : Scf.Loop 32 :=
  let c0_i32_204 : BitVec 32 := 0#32
  let c96_i32_205 : BitVec 32 := 96#32
  let v319 : BitVec 32 := Scalar.addi c0_i32_204 c96_i32_205
  let c1_i32_206 : BitVec 32 := 1#32
  ⟨c0_i32_204, v319, c1_i32_206⟩
def k0_off49 (i : grid0.Coords) (k0_t1 : Fin k0_t1_loop.trips) (k0_t10 : Fin k0_t10_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_204 : BitVec 32 := 0#32
  let c1_i32_206 : BitVec 32 := 1#32
  let arg23 : BitVec 32 := Scf.iv c0_i32_204 c1_i32_206 k0_t10
  let c256_i32 : BitVec 32 := 256#32
  let v688 : BitVec 32 := Scalar.muli arg23 c256_i32
  let v689 : BitVec 32 := Scalar.addi v40 v688
  let c15_i32_194 : BitVec 32 := 15#32
  let c0_i32_193 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_95 : BitVec 32 := 16#32
  let v193 : BitVec 32 := Scalar.muli v1 c16_i32_95
  let c2_i32_19 : BitVec 32 := 2#32
  let v37 : BitVec 32 := Scalar.muli arg22 c2_i32_19
  let c2_i32_96 : BitVec 32 := 2#32
  let c0_i32_97 : BitVec 32 := 0#32
  let v194 : BitVec 1 := Scalar.cmpi .eq c2_i32_96 c0_i32_97
  let c1_i32_98 : BitVec 32 := 1#32
  let v195 : BitVec 32 := Scalar.select v194 c1_i32_98 c2_i32_96
  let v196 : BitVec 32 := Scalar.remsi v37 v195
  let c0_i32_100 : BitVec 32 := 0#32
  let v198 : BitVec 1 := Scalar.cmpi .slt v196 c0_i32_100
  let c0_i32_101 : BitVec 32 := 0#32
  let v199 : BitVec 1 := Scalar.cmpi .slt v195 c0_i32_101
  let v200 : BitVec 1 := Scalar.xori v198 v199
  let c0_i32_99 : BitVec 32 := 0#32
  let v197 : BitVec 1 := Scalar.cmpi .ne v196 c0_i32_99
  let v201 : BitVec 1 := Scalar.andi v200 v197
  let v202 : BitVec 32 := Scalar.addi v196 v195
  let v203 : BitVec 32 := Scalar.select v201 v202 v196
  let c8_i32_102 : BitVec 32 := 8#32
  let v204 : BitVec 32 := Scalar.muli v203 c8_i32_102
  let v205 : BitVec 32 := Scalar.addi v193 v204
  let c4_i32_190 : BitVec 32 := 4#32
  let v298 : BitVec 32 := Scalar.addi v205 c4_i32_190
  let c16_i32_191 : BitVec 32 := 16#32
  let v299 : BitVec 32 := Scalar.subi v298 c16_i32_191
  let c5_i32_192 : BitVec 32 := 5#32
  let v300 : BitVec 32 := Scalar.shrsi v299 c5_i32_192
  let v301 : BitVec 32 := Scalar.maxsi c0_i32_193 v300
  let v302 : BitVec 32 := Scalar.minsi c15_i32_194 v301
  let c16_i32_195 : BitVec 32 := 16#32
  let v303 : BitVec 32 := Scalar.muli v302 c16_i32_195
  let v690 : BitVec 32 := Scalar.addi v689 v303
  let v691 : Index := Scalar.indexCast v690
  ![v691.toNat]
def k0_off50 (i : grid0.Coords) (k0_t1 : Fin k0_t1_loop.trips) (k0_t10 : Fin k0_t10_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_204 : BitVec 32 := 0#32
  let c1_i32_206 : BitVec 32 := 1#32
  let arg23 : BitVec 32 := Scf.iv c0_i32_204 c1_i32_206 k0_t10
  let c256_i32 : BitVec 32 := 256#32
  let v688 : BitVec 32 := Scalar.muli arg23 c256_i32
  let v689 : BitVec 32 := Scalar.addi v40 v688
  let c15_i32_198 : BitVec 32 := 15#32
  let c0_i32_197 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_95 : BitVec 32 := 16#32
  let v193 : BitVec 32 := Scalar.muli v1 c16_i32_95
  let c2_i32_19 : BitVec 32 := 2#32
  let v37 : BitVec 32 := Scalar.muli arg22 c2_i32_19
  let c2_i32_96 : BitVec 32 := 2#32
  let c0_i32_97 : BitVec 32 := 0#32
  let v194 : BitVec 1 := Scalar.cmpi .eq c2_i32_96 c0_i32_97
  let c1_i32_98 : BitVec 32 := 1#32
  let v195 : BitVec 32 := Scalar.select v194 c1_i32_98 c2_i32_96
  let v196 : BitVec 32 := Scalar.remsi v37 v195
  let c0_i32_100 : BitVec 32 := 0#32
  let v198 : BitVec 1 := Scalar.cmpi .slt v196 c0_i32_100
  let c0_i32_101 : BitVec 32 := 0#32
  let v199 : BitVec 1 := Scalar.cmpi .slt v195 c0_i32_101
  let v200 : BitVec 1 := Scalar.xori v198 v199
  let c0_i32_99 : BitVec 32 := 0#32
  let v197 : BitVec 1 := Scalar.cmpi .ne v196 c0_i32_99
  let v201 : BitVec 1 := Scalar.andi v200 v197
  let v202 : BitVec 32 := Scalar.addi v196 v195
  let v203 : BitVec 32 := Scalar.select v201 v202 v196
  let c8_i32_102 : BitVec 32 := 8#32
  let v204 : BitVec 32 := Scalar.muli v203 c8_i32_102
  let v205 : BitVec 32 := Scalar.addi v193 v204
  let c4_i32_190 : BitVec 32 := 4#32
  let v298 : BitVec 32 := Scalar.addi v205 c4_i32_190
  let c16_i32_191 : BitVec 32 := 16#32
  let v299 : BitVec 32 := Scalar.subi v298 c16_i32_191
  let c5_i32_192 : BitVec 32 := 5#32
  let v300 : BitVec 32 := Scalar.shrsi v299 c5_i32_192
  let c1_i32_196 : BitVec 32 := 1#32
  let v304 : BitVec 32 := Scalar.addi v300 c1_i32_196
  let v305 : BitVec 32 := Scalar.maxsi c0_i32_197 v304
  let v306 : BitVec 32 := Scalar.minsi c15_i32_198 v305
  let c16_i32_199 : BitVec 32 := 16#32
  let v307 : BitVec 32 := Scalar.muli v306 c16_i32_199
  let v693 : BitVec 32 := Scalar.addi v689 v307
  let v694 : Index := Scalar.indexCast v693
  ![v694.toNat]
def k0_off51 (k0_t10 : Fin k0_t10_loop.trips) : Fin 1 → Nat :=
  let c0_i32_204 : BitVec 32 := 0#32
  let c1_i32_206 : BitVec 32 := 1#32
  let arg23 : BitVec 32 := Scf.iv c0_i32_204 c1_i32_206 k0_t10
  let c19_i32 : BitVec 32 := 19#32
  let v699 : BitVec 32 := Scalar.muli arg23 c19_i32
  let v700 : Index := Scalar.indexCast v699
  ![v700.toNat]
@[reducible] def k0_t11_loop : Scf.Loop 32 :=
  let c0_i32_209 : BitVec 32 := 0#32
  let c32_i32_210 : BitVec 32 := 32#32
  let v320 : BitVec 32 := Scalar.addi c0_i32_209 c32_i32_210
  let c1_i32_211 : BitVec 32 := 1#32
  ⟨c0_i32_209, v320, c1_i32_211⟩
def k0_off52 (k0_t11 : Fin k0_t11_loop.trips) : Fin 1 → Nat :=
  let c2048_i32 : BitVec 32 := 2048#32
  let c0_i32_209 : BitVec 32 := 0#32
  let c1_i32_211 : BitVec 32 := 1#32
  let arg23 : BitVec 32 := Scf.iv c0_i32_209 c1_i32_211 k0_t11
  let c16_i32_531 : BitVec 32 := 16#32
  let v688 : BitVec 32 := Scalar.muli arg23 c16_i32_531
  let v689 : BitVec 32 := Scalar.addi c2048_i32 v688
  let v690 : Index := Scalar.indexCast v689
  ![v690.toNat]
def k0_off53 (k0_t11 : Fin k0_t11_loop.trips) : Fin 1 → Nat :=
  let c0_i32_209 : BitVec 32 := 0#32
  let c1_i32_211 : BitVec 32 := 1#32
  let arg23 : BitVec 32 := Scf.iv c0_i32_209 c1_i32_211 k0_t11
  let c16_i32_541 : BitVec 32 := 16#32
  let v715 : BitVec 32 := Scalar.muli arg23 c16_i32_541
  let v716 : Index := Scalar.indexCast v715
  ![v716.toNat]
def k0_off54 (k0_t11 : Fin k0_t11_loop.trips) (c0_i32_544 : BitVec 32) : Fin 1 → Nat :=
  let c2048_i32 : BitVec 32 := 2048#32
  let c0_i32_209 : BitVec 32 := 0#32
  let c1_i32_211 : BitVec 32 := 1#32
  let arg23 : BitVec 32 := Scf.iv c0_i32_209 c1_i32_211 k0_t11
  let c16_i32_531 : BitVec 32 := 16#32
  let v688 : BitVec 32 := Scalar.muli arg23 c16_i32_531
  let v689 : BitVec 32 := Scalar.addi c2048_i32 v688
  let v728 : BitVec 32 := Scalar.addi c0_i32_544 v689
  let v729 : Index := Scalar.indexCast v728
  ![v729.toNat]

def k0_chk193 (v738 : IVec S16 32) : Prop :=
  (∀ a x, ((![v738] : Fin 1 → IVec S16 32) a x).toNat < S1824.size a)
theorem k0_idx193_inb : ∀ (v738 : IVec S16 32) (k0_hw193 : k0_chk193 v738), ∀ a x, ((![v738] : Fin 1 → IVec S16 32) a x).toNat < S1824.size a := fun v738 k0_hw193 => k0_hw193

def k0_chk194 (v741 : IVec S16 32) : Prop :=
  (∀ a x, ((![v741] : Fin 1 → IVec S16 32) a x).toNat < S1824.size a)
theorem k0_idx194_inb : ∀ (v741 : IVec S16 32) (k0_hw194 : k0_chk194 v741), ∀ a x, ((![v741] : Fin 1 → IVec S16 32) a x).toNat < S1824.size a := fun v741 k0_hw194 => k0_hw194

def k0_chk195 (v744 : IVec S16 32) : Prop :=
  (∀ a x, ((![v744] : Fin 1 → IVec S16 32) a x).toNat < S1824.size a)
theorem k0_idx195_inb : ∀ (v744 : IVec S16 32) (k0_hw195 : k0_chk195 v744), ∀ a x, ((![v744] : Fin 1 → IVec S16 32) a x).toNat < S1824.size a := fun v744 k0_hw195 => k0_hw195

def k0_chk196 (v747 : IVec S16 32) : Prop :=
  (∀ a x, ((![v747] : Fin 1 → IVec S16 32) a x).toNat < S1824.size a)
theorem k0_idx196_inb : ∀ (v747 : IVec S16 32) (k0_hw196 : k0_chk196 v747), ∀ a x, ((![v747] : Fin 1 → IVec S16 32) a x).toNat < S1824.size a := fun v747 k0_hw196 => k0_hw196

def k0_chk197 (v760 : IVec S16 32) : Prop :=
  (∀ a x, ((![v760] : Fin 1 → IVec S16 32) a x).toNat < S1824.size a)
theorem k0_idx197_inb : ∀ (v760 : IVec S16 32) (k0_hw197 : k0_chk197 v760), ∀ a x, ((![v760] : Fin 1 → IVec S16 32) a x).toNat < S1824.size a := fun v760 k0_hw197 => k0_hw197

def k0_chk198 (v763 : IVec S16 32) : Prop :=
  (∀ a x, ((![v763] : Fin 1 → IVec S16 32) a x).toNat < S1824.size a)
theorem k0_idx198_inb : ∀ (v763 : IVec S16 32) (k0_hw198 : k0_chk198 v763), ∀ a x, ((![v763] : Fin 1 → IVec S16 32) a x).toNat < S1824.size a := fun v763 k0_hw198 => k0_hw198

def k0_chk199 (v766 : IVec S16 32) : Prop :=
  (∀ a x, ((![v766] : Fin 1 → IVec S16 32) a x).toNat < S1824.size a)
theorem k0_idx199_inb : ∀ (v766 : IVec S16 32) (k0_hw199 : k0_chk199 v766), ∀ a x, ((![v766] : Fin 1 → IVec S16 32) a x).toNat < S1824.size a := fun v766 k0_hw199 => k0_hw199

def k0_chk200 (v769 : IVec S16 32) : Prop :=
  (∀ a x, ((![v769] : Fin 1 → IVec S16 32) a x).toNat < S1824.size a)
theorem k0_idx200_inb : ∀ (v769 : IVec S16 32) (k0_hw200 : k0_chk200 v769), ∀ a x, ((![v769] : Fin 1 → IVec S16 32) a x).toNat < S1824.size a := fun v769 k0_hw200 => k0_hw200

def k0_chk201 (v783 : IVec S16 32) : Prop :=
  (∀ a x, ((![v783] : Fin 1 → IVec S16 32) a x).toNat < S1824.size a)
theorem k0_idx201_inb : ∀ (v783 : IVec S16 32) (k0_hw201 : k0_chk201 v783), ∀ a x, ((![v783] : Fin 1 → IVec S16 32) a x).toNat < S1824.size a := fun v783 k0_hw201 => k0_hw201

def k0_chk202 (v786 : IVec S16 32) : Prop :=
  (∀ a x, ((![v786] : Fin 1 → IVec S16 32) a x).toNat < S1824.size a)
theorem k0_idx202_inb : ∀ (v786 : IVec S16 32) (k0_hw202 : k0_chk202 v786), ∀ a x, ((![v786] : Fin 1 → IVec S16 32) a x).toNat < S1824.size a := fun v786 k0_hw202 => k0_hw202

def k0_chk203 (v789 : IVec S16 32) : Prop :=
  (∀ a x, ((![v789] : Fin 1 → IVec S16 32) a x).toNat < S1824.size a)
theorem k0_idx203_inb : ∀ (v789 : IVec S16 32) (k0_hw203 : k0_chk203 v789), ∀ a x, ((![v789] : Fin 1 → IVec S16 32) a x).toNat < S1824.size a := fun v789 k0_hw203 => k0_hw203

def k0_chk204 (v792 : IVec S16 32) : Prop :=
  (∀ a x, ((![v792] : Fin 1 → IVec S16 32) a x).toNat < S1824.size a)
theorem k0_idx204_inb : ∀ (v792 : IVec S16 32) (k0_hw204 : k0_chk204 v792), ∀ a x, ((![v792] : Fin 1 → IVec S16 32) a x).toNat < S1824.size a := fun v792 k0_hw204 => k0_hw204

def k0_chk205 (v806 : IVec S16 32) : Prop :=
  (∀ a x, ((![v806] : Fin 1 → IVec S16 32) a x).toNat < S1824.size a)
theorem k0_idx205_inb : ∀ (v806 : IVec S16 32) (k0_hw205 : k0_chk205 v806), ∀ a x, ((![v806] : Fin 1 → IVec S16 32) a x).toNat < S1824.size a := fun v806 k0_hw205 => k0_hw205

def k0_chk206 (v809 : IVec S16 32) : Prop :=
  (∀ a x, ((![v809] : Fin 1 → IVec S16 32) a x).toNat < S1824.size a)
theorem k0_idx206_inb : ∀ (v809 : IVec S16 32) (k0_hw206 : k0_chk206 v809), ∀ a x, ((![v809] : Fin 1 → IVec S16 32) a x).toNat < S1824.size a := fun v809 k0_hw206 => k0_hw206

def k0_chk207 (v812 : IVec S16 32) : Prop :=
  (∀ a x, ((![v812] : Fin 1 → IVec S16 32) a x).toNat < S1824.size a)
theorem k0_idx207_inb : ∀ (v812 : IVec S16 32) (k0_hw207 : k0_chk207 v812), ∀ a x, ((![v812] : Fin 1 → IVec S16 32) a x).toNat < S1824.size a := fun v812 k0_hw207 => k0_hw207

def k0_chk208 (v815 : IVec S16 32) : Prop :=
  (∀ a x, ((![v815] : Fin 1 → IVec S16 32) a x).toNat < S1824.size a)
theorem k0_idx208_inb : ∀ (v815 : IVec S16 32) (k0_hw208 : k0_chk208 v815), ∀ a x, ((![v815] : Fin 1 → IVec S16 32) a x).toNat < S1824.size a := fun v815 k0_hw208 => k0_hw208
def k0_off55 (k0_t11 : Fin k0_t11_loop.trips) : Fin 1 → Nat :=
  let c0_i32_560 : BitVec 32 := 0#32
  let c2048_i32 : BitVec 32 := 2048#32
  let c0_i32_209 : BitVec 32 := 0#32
  let c1_i32_211 : BitVec 32 := 1#32
  let arg23 : BitVec 32 := Scf.iv c0_i32_209 c1_i32_211 k0_t11
  let c16_i32_531 : BitVec 32 := 16#32
  let v688 : BitVec 32 := Scalar.muli arg23 c16_i32_531
  let v689 : BitVec 32 := Scalar.addi c2048_i32 v688
  let v827 : BitVec 32 := Scalar.addi c0_i32_560 v689
  let v828 : Index := Scalar.indexCast v827
  ![v828.toNat]

def k0_chk209 (v831 : IVec S16 32) : Prop :=
  (∀ a x, ((![v831] : Fin 1 → IVec S16 32) a x).toNat < S1824.size a)
theorem k0_idx209_inb : ∀ (v831 : IVec S16 32) (k0_hw209 : k0_chk209 v831), ∀ a x, ((![v831] : Fin 1 → IVec S16 32) a x).toNat < S1824.size a := fun v831 k0_hw209 => k0_hw209

def k0_chk210 (v834 : IVec S16 32) : Prop :=
  (∀ a x, ((![v834] : Fin 1 → IVec S16 32) a x).toNat < S1824.size a)
theorem k0_idx210_inb : ∀ (v834 : IVec S16 32) (k0_hw210 : k0_chk210 v834), ∀ a x, ((![v834] : Fin 1 → IVec S16 32) a x).toNat < S1824.size a := fun v834 k0_hw210 => k0_hw210

def k0_chk211 (v837 : IVec S16 32) : Prop :=
  (∀ a x, ((![v837] : Fin 1 → IVec S16 32) a x).toNat < S1824.size a)
theorem k0_idx211_inb : ∀ (v837 : IVec S16 32) (k0_hw211 : k0_chk211 v837), ∀ a x, ((![v837] : Fin 1 → IVec S16 32) a x).toNat < S1824.size a := fun v837 k0_hw211 => k0_hw211

def k0_chk212 (v840 : IVec S16 32) : Prop :=
  (∀ a x, ((![v840] : Fin 1 → IVec S16 32) a x).toNat < S1824.size a)
theorem k0_idx212_inb : ∀ (v840 : IVec S16 32) (k0_hw212 : k0_chk212 v840), ∀ a x, ((![v840] : Fin 1 → IVec S16 32) a x).toNat < S1824.size a := fun v840 k0_hw212 => k0_hw212

def k0_chk213 (v853 : IVec S16 32) : Prop :=
  (∀ a x, ((![v853] : Fin 1 → IVec S16 32) a x).toNat < S1824.size a)
theorem k0_idx213_inb : ∀ (v853 : IVec S16 32) (k0_hw213 : k0_chk213 v853), ∀ a x, ((![v853] : Fin 1 → IVec S16 32) a x).toNat < S1824.size a := fun v853 k0_hw213 => k0_hw213

def k0_chk214 (v856 : IVec S16 32) : Prop :=
  (∀ a x, ((![v856] : Fin 1 → IVec S16 32) a x).toNat < S1824.size a)
theorem k0_idx214_inb : ∀ (v856 : IVec S16 32) (k0_hw214 : k0_chk214 v856), ∀ a x, ((![v856] : Fin 1 → IVec S16 32) a x).toNat < S1824.size a := fun v856 k0_hw214 => k0_hw214

def k0_chk215 (v859 : IVec S16 32) : Prop :=
  (∀ a x, ((![v859] : Fin 1 → IVec S16 32) a x).toNat < S1824.size a)
theorem k0_idx215_inb : ∀ (v859 : IVec S16 32) (k0_hw215 : k0_chk215 v859), ∀ a x, ((![v859] : Fin 1 → IVec S16 32) a x).toNat < S1824.size a := fun v859 k0_hw215 => k0_hw215

def k0_chk216 (v862 : IVec S16 32) : Prop :=
  (∀ a x, ((![v862] : Fin 1 → IVec S16 32) a x).toNat < S1824.size a)
theorem k0_idx216_inb : ∀ (v862 : IVec S16 32) (k0_hw216 : k0_chk216 v862), ∀ a x, ((![v862] : Fin 1 → IVec S16 32) a x).toNat < S1824.size a := fun v862 k0_hw216 => k0_hw216

def k0_chk217 (v876 : IVec S16 32) : Prop :=
  (∀ a x, ((![v876] : Fin 1 → IVec S16 32) a x).toNat < S1824.size a)
theorem k0_idx217_inb : ∀ (v876 : IVec S16 32) (k0_hw217 : k0_chk217 v876), ∀ a x, ((![v876] : Fin 1 → IVec S16 32) a x).toNat < S1824.size a := fun v876 k0_hw217 => k0_hw217

def k0_chk218 (v879 : IVec S16 32) : Prop :=
  (∀ a x, ((![v879] : Fin 1 → IVec S16 32) a x).toNat < S1824.size a)
theorem k0_idx218_inb : ∀ (v879 : IVec S16 32) (k0_hw218 : k0_chk218 v879), ∀ a x, ((![v879] : Fin 1 → IVec S16 32) a x).toNat < S1824.size a := fun v879 k0_hw218 => k0_hw218

def k0_chk219 (v882 : IVec S16 32) : Prop :=
  (∀ a x, ((![v882] : Fin 1 → IVec S16 32) a x).toNat < S1824.size a)
theorem k0_idx219_inb : ∀ (v882 : IVec S16 32) (k0_hw219 : k0_chk219 v882), ∀ a x, ((![v882] : Fin 1 → IVec S16 32) a x).toNat < S1824.size a := fun v882 k0_hw219 => k0_hw219

def k0_chk220 (v885 : IVec S16 32) : Prop :=
  (∀ a x, ((![v885] : Fin 1 → IVec S16 32) a x).toNat < S1824.size a)
theorem k0_idx220_inb : ∀ (v885 : IVec S16 32) (k0_hw220 : k0_chk220 v885), ∀ a x, ((![v885] : Fin 1 → IVec S16 32) a x).toNat < S1824.size a := fun v885 k0_hw220 => k0_hw220

def k0_chk221 (v899 : IVec S16 32) : Prop :=
  (∀ a x, ((![v899] : Fin 1 → IVec S16 32) a x).toNat < S1824.size a)
theorem k0_idx221_inb : ∀ (v899 : IVec S16 32) (k0_hw221 : k0_chk221 v899), ∀ a x, ((![v899] : Fin 1 → IVec S16 32) a x).toNat < S1824.size a := fun v899 k0_hw221 => k0_hw221

def k0_chk222 (v902 : IVec S16 32) : Prop :=
  (∀ a x, ((![v902] : Fin 1 → IVec S16 32) a x).toNat < S1824.size a)
theorem k0_idx222_inb : ∀ (v902 : IVec S16 32) (k0_hw222 : k0_chk222 v902), ∀ a x, ((![v902] : Fin 1 → IVec S16 32) a x).toNat < S1824.size a := fun v902 k0_hw222 => k0_hw222

def k0_chk223 (v905 : IVec S16 32) : Prop :=
  (∀ a x, ((![v905] : Fin 1 → IVec S16 32) a x).toNat < S1824.size a)
theorem k0_idx223_inb : ∀ (v905 : IVec S16 32) (k0_hw223 : k0_chk223 v905), ∀ a x, ((![v905] : Fin 1 → IVec S16 32) a x).toNat < S1824.size a := fun v905 k0_hw223 => k0_hw223

def k0_chk224 (v908 : IVec S16 32) : Prop :=
  (∀ a x, ((![v908] : Fin 1 → IVec S16 32) a x).toNat < S1824.size a)
theorem k0_idx224_inb : ∀ (v908 : IVec S16 32) (k0_hw224 : k0_chk224 v908), ∀ a x, ((![v908] : Fin 1 → IVec S16 32) a x).toNat < S1824.size a := fun v908 k0_hw224 => k0_hw224
def k0_off56 (k0_t11 : Fin k0_t11_loop.trips) : Fin 1 → Nat :=
  let c4096_i32_573 : BitVec 32 := 4096#32
  let c2048_i32 : BitVec 32 := 2048#32
  let c0_i32_209 : BitVec 32 := 0#32
  let c1_i32_211 : BitVec 32 := 1#32
  let arg23 : BitVec 32 := Scf.iv c0_i32_209 c1_i32_211 k0_t11
  let c16_i32_531 : BitVec 32 := 16#32
  let v688 : BitVec 32 := Scalar.muli arg23 c16_i32_531
  let v689 : BitVec 32 := Scalar.addi c2048_i32 v688
  let v920 : BitVec 32 := Scalar.addi c4096_i32_573 v689
  let v921 : Index := Scalar.indexCast v920
  ![v921.toNat]

def k0_chk225 (v924 : IVec S16 32) : Prop :=
  (∀ a x, ((![v924] : Fin 1 → IVec S16 32) a x).toNat < S1824.size a)
theorem k0_idx225_inb : ∀ (v924 : IVec S16 32) (k0_hw225 : k0_chk225 v924), ∀ a x, ((![v924] : Fin 1 → IVec S16 32) a x).toNat < S1824.size a := fun v924 k0_hw225 => k0_hw225

def k0_chk226 (v927 : IVec S16 32) : Prop :=
  (∀ a x, ((![v927] : Fin 1 → IVec S16 32) a x).toNat < S1824.size a)
theorem k0_idx226_inb : ∀ (v927 : IVec S16 32) (k0_hw226 : k0_chk226 v927), ∀ a x, ((![v927] : Fin 1 → IVec S16 32) a x).toNat < S1824.size a := fun v927 k0_hw226 => k0_hw226

def k0_chk227 (v930 : IVec S16 32) : Prop :=
  (∀ a x, ((![v930] : Fin 1 → IVec S16 32) a x).toNat < S1824.size a)
theorem k0_idx227_inb : ∀ (v930 : IVec S16 32) (k0_hw227 : k0_chk227 v930), ∀ a x, ((![v930] : Fin 1 → IVec S16 32) a x).toNat < S1824.size a := fun v930 k0_hw227 => k0_hw227

def k0_chk228 (v933 : IVec S16 32) : Prop :=
  (∀ a x, ((![v933] : Fin 1 → IVec S16 32) a x).toNat < S1824.size a)
theorem k0_idx228_inb : ∀ (v933 : IVec S16 32) (k0_hw228 : k0_chk228 v933), ∀ a x, ((![v933] : Fin 1 → IVec S16 32) a x).toNat < S1824.size a := fun v933 k0_hw228 => k0_hw228

def k0_chk229 (v946 : IVec S16 32) : Prop :=
  (∀ a x, ((![v946] : Fin 1 → IVec S16 32) a x).toNat < S1824.size a)
theorem k0_idx229_inb : ∀ (v946 : IVec S16 32) (k0_hw229 : k0_chk229 v946), ∀ a x, ((![v946] : Fin 1 → IVec S16 32) a x).toNat < S1824.size a := fun v946 k0_hw229 => k0_hw229

def k0_chk230 (v949 : IVec S16 32) : Prop :=
  (∀ a x, ((![v949] : Fin 1 → IVec S16 32) a x).toNat < S1824.size a)
theorem k0_idx230_inb : ∀ (v949 : IVec S16 32) (k0_hw230 : k0_chk230 v949), ∀ a x, ((![v949] : Fin 1 → IVec S16 32) a x).toNat < S1824.size a := fun v949 k0_hw230 => k0_hw230

def k0_chk231 (v952 : IVec S16 32) : Prop :=
  (∀ a x, ((![v952] : Fin 1 → IVec S16 32) a x).toNat < S1824.size a)
theorem k0_idx231_inb : ∀ (v952 : IVec S16 32) (k0_hw231 : k0_chk231 v952), ∀ a x, ((![v952] : Fin 1 → IVec S16 32) a x).toNat < S1824.size a := fun v952 k0_hw231 => k0_hw231

def k0_chk232 (v955 : IVec S16 32) : Prop :=
  (∀ a x, ((![v955] : Fin 1 → IVec S16 32) a x).toNat < S1824.size a)
theorem k0_idx232_inb : ∀ (v955 : IVec S16 32) (k0_hw232 : k0_chk232 v955), ∀ a x, ((![v955] : Fin 1 → IVec S16 32) a x).toNat < S1824.size a := fun v955 k0_hw232 => k0_hw232

def k0_chk233 (v969 : IVec S16 32) : Prop :=
  (∀ a x, ((![v969] : Fin 1 → IVec S16 32) a x).toNat < S1824.size a)
theorem k0_idx233_inb : ∀ (v969 : IVec S16 32) (k0_hw233 : k0_chk233 v969), ∀ a x, ((![v969] : Fin 1 → IVec S16 32) a x).toNat < S1824.size a := fun v969 k0_hw233 => k0_hw233

def k0_chk234 (v972 : IVec S16 32) : Prop :=
  (∀ a x, ((![v972] : Fin 1 → IVec S16 32) a x).toNat < S1824.size a)
theorem k0_idx234_inb : ∀ (v972 : IVec S16 32) (k0_hw234 : k0_chk234 v972), ∀ a x, ((![v972] : Fin 1 → IVec S16 32) a x).toNat < S1824.size a := fun v972 k0_hw234 => k0_hw234

def k0_chk235 (v975 : IVec S16 32) : Prop :=
  (∀ a x, ((![v975] : Fin 1 → IVec S16 32) a x).toNat < S1824.size a)
theorem k0_idx235_inb : ∀ (v975 : IVec S16 32) (k0_hw235 : k0_chk235 v975), ∀ a x, ((![v975] : Fin 1 → IVec S16 32) a x).toNat < S1824.size a := fun v975 k0_hw235 => k0_hw235

def k0_chk236 (v978 : IVec S16 32) : Prop :=
  (∀ a x, ((![v978] : Fin 1 → IVec S16 32) a x).toNat < S1824.size a)
theorem k0_idx236_inb : ∀ (v978 : IVec S16 32) (k0_hw236 : k0_chk236 v978), ∀ a x, ((![v978] : Fin 1 → IVec S16 32) a x).toNat < S1824.size a := fun v978 k0_hw236 => k0_hw236

def k0_chk237 (v992 : IVec S16 32) : Prop :=
  (∀ a x, ((![v992] : Fin 1 → IVec S16 32) a x).toNat < S1824.size a)
theorem k0_idx237_inb : ∀ (v992 : IVec S16 32) (k0_hw237 : k0_chk237 v992), ∀ a x, ((![v992] : Fin 1 → IVec S16 32) a x).toNat < S1824.size a := fun v992 k0_hw237 => k0_hw237

def k0_chk238 (v995 : IVec S16 32) : Prop :=
  (∀ a x, ((![v995] : Fin 1 → IVec S16 32) a x).toNat < S1824.size a)
theorem k0_idx238_inb : ∀ (v995 : IVec S16 32) (k0_hw238 : k0_chk238 v995), ∀ a x, ((![v995] : Fin 1 → IVec S16 32) a x).toNat < S1824.size a := fun v995 k0_hw238 => k0_hw238

def k0_chk239 (v998 : IVec S16 32) : Prop :=
  (∀ a x, ((![v998] : Fin 1 → IVec S16 32) a x).toNat < S1824.size a)
theorem k0_idx239_inb : ∀ (v998 : IVec S16 32) (k0_hw239 : k0_chk239 v998), ∀ a x, ((![v998] : Fin 1 → IVec S16 32) a x).toNat < S1824.size a := fun v998 k0_hw239 => k0_hw239

def k0_chk240 (v1001 : IVec S16 32) : Prop :=
  (∀ a x, ((![v1001] : Fin 1 → IVec S16 32) a x).toNat < S1824.size a)
theorem k0_idx240_inb : ∀ (v1001 : IVec S16 32) (k0_hw240 : k0_chk240 v1001), ∀ a x, ((![v1001] : Fin 1 → IVec S16 32) a x).toNat < S1824.size a := fun v1001 k0_hw240 => k0_hw240
def k0_off57 (k0_t11 : Fin k0_t11_loop.trips) : Fin 1 → Nat :=
  let c8192_i32_586 : BitVec 32 := 8192#32
  let c2048_i32 : BitVec 32 := 2048#32
  let c0_i32_209 : BitVec 32 := 0#32
  let c1_i32_211 : BitVec 32 := 1#32
  let arg23 : BitVec 32 := Scf.iv c0_i32_209 c1_i32_211 k0_t11
  let c16_i32_531 : BitVec 32 := 16#32
  let v688 : BitVec 32 := Scalar.muli arg23 c16_i32_531
  let v689 : BitVec 32 := Scalar.addi c2048_i32 v688
  let v1013 : BitVec 32 := Scalar.addi c8192_i32_586 v689
  let v1014 : Index := Scalar.indexCast v1013
  ![v1014.toNat]
@[reducible] def k0_t12_loop : Scf.Loop 32 :=
  let c0_i32_227 : BitVec 32 := 0#32
  let c96_i32_228 : BitVec 32 := 96#32
  let v342 : BitVec 32 := Scalar.addi c0_i32_227 c96_i32_228
  let c1_i32_229 : BitVec 32 := 1#32
  ⟨c0_i32_227, v342, c1_i32_229⟩
def k0_off58 (i : grid0.Coords) (k0_t1 : Fin k0_t1_loop.trips) (k0_t12 : Fin k0_t12_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_227 : BitVec 32 := 0#32
  let c1_i32_229 : BitVec 32 := 1#32
  let arg23 : BitVec 32 := Scf.iv c0_i32_227 c1_i32_229 k0_t12
  let c256_i32 : BitVec 32 := 256#32
  let v688 : BitVec 32 := Scalar.muli arg23 c256_i32
  let v689 : BitVec 32 := Scalar.addi v40 v688
  let c15_i32_217 : BitVec 32 := 15#32
  let c0_i32_216 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_95 : BitVec 32 := 16#32
  let v193 : BitVec 32 := Scalar.muli v1 c16_i32_95
  let c2_i32_19 : BitVec 32 := 2#32
  let v37 : BitVec 32 := Scalar.muli arg22 c2_i32_19
  let c2_i32_96 : BitVec 32 := 2#32
  let c0_i32_97 : BitVec 32 := 0#32
  let v194 : BitVec 1 := Scalar.cmpi .eq c2_i32_96 c0_i32_97
  let c1_i32_98 : BitVec 32 := 1#32
  let v195 : BitVec 32 := Scalar.select v194 c1_i32_98 c2_i32_96
  let v196 : BitVec 32 := Scalar.remsi v37 v195
  let c0_i32_100 : BitVec 32 := 0#32
  let v198 : BitVec 1 := Scalar.cmpi .slt v196 c0_i32_100
  let c0_i32_101 : BitVec 32 := 0#32
  let v199 : BitVec 1 := Scalar.cmpi .slt v195 c0_i32_101
  let v200 : BitVec 1 := Scalar.xori v198 v199
  let c0_i32_99 : BitVec 32 := 0#32
  let v197 : BitVec 1 := Scalar.cmpi .ne v196 c0_i32_99
  let v201 : BitVec 1 := Scalar.andi v200 v197
  let v202 : BitVec 32 := Scalar.addi v196 v195
  let v203 : BitVec 32 := Scalar.select v201 v202 v196
  let c8_i32_102 : BitVec 32 := 8#32
  let v204 : BitVec 32 := Scalar.muli v203 c8_i32_102
  let v205 : BitVec 32 := Scalar.addi v193 v204
  let c5_i32_213 : BitVec 32 := 5#32
  let v321 : BitVec 32 := Scalar.addi v205 c5_i32_213
  let c16_i32_214 : BitVec 32 := 16#32
  let v322 : BitVec 32 := Scalar.subi v321 c16_i32_214
  let c5_i32_215 : BitVec 32 := 5#32
  let v323 : BitVec 32 := Scalar.shrsi v322 c5_i32_215
  let v324 : BitVec 32 := Scalar.maxsi c0_i32_216 v323
  let v325 : BitVec 32 := Scalar.minsi c15_i32_217 v324
  let c16_i32_218 : BitVec 32 := 16#32
  let v326 : BitVec 32 := Scalar.muli v325 c16_i32_218
  let v690 : BitVec 32 := Scalar.addi v689 v326
  let v691 : Index := Scalar.indexCast v690
  ![v691.toNat]
def k0_off59 (i : grid0.Coords) (k0_t1 : Fin k0_t1_loop.trips) (k0_t12 : Fin k0_t12_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_227 : BitVec 32 := 0#32
  let c1_i32_229 : BitVec 32 := 1#32
  let arg23 : BitVec 32 := Scf.iv c0_i32_227 c1_i32_229 k0_t12
  let c256_i32 : BitVec 32 := 256#32
  let v688 : BitVec 32 := Scalar.muli arg23 c256_i32
  let v689 : BitVec 32 := Scalar.addi v40 v688
  let c15_i32_221 : BitVec 32 := 15#32
  let c0_i32_220 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_95 : BitVec 32 := 16#32
  let v193 : BitVec 32 := Scalar.muli v1 c16_i32_95
  let c2_i32_19 : BitVec 32 := 2#32
  let v37 : BitVec 32 := Scalar.muli arg22 c2_i32_19
  let c2_i32_96 : BitVec 32 := 2#32
  let c0_i32_97 : BitVec 32 := 0#32
  let v194 : BitVec 1 := Scalar.cmpi .eq c2_i32_96 c0_i32_97
  let c1_i32_98 : BitVec 32 := 1#32
  let v195 : BitVec 32 := Scalar.select v194 c1_i32_98 c2_i32_96
  let v196 : BitVec 32 := Scalar.remsi v37 v195
  let c0_i32_100 : BitVec 32 := 0#32
  let v198 : BitVec 1 := Scalar.cmpi .slt v196 c0_i32_100
  let c0_i32_101 : BitVec 32 := 0#32
  let v199 : BitVec 1 := Scalar.cmpi .slt v195 c0_i32_101
  let v200 : BitVec 1 := Scalar.xori v198 v199
  let c0_i32_99 : BitVec 32 := 0#32
  let v197 : BitVec 1 := Scalar.cmpi .ne v196 c0_i32_99
  let v201 : BitVec 1 := Scalar.andi v200 v197
  let v202 : BitVec 32 := Scalar.addi v196 v195
  let v203 : BitVec 32 := Scalar.select v201 v202 v196
  let c8_i32_102 : BitVec 32 := 8#32
  let v204 : BitVec 32 := Scalar.muli v203 c8_i32_102
  let v205 : BitVec 32 := Scalar.addi v193 v204
  let c5_i32_213 : BitVec 32 := 5#32
  let v321 : BitVec 32 := Scalar.addi v205 c5_i32_213
  let c16_i32_214 : BitVec 32 := 16#32
  let v322 : BitVec 32 := Scalar.subi v321 c16_i32_214
  let c5_i32_215 : BitVec 32 := 5#32
  let v323 : BitVec 32 := Scalar.shrsi v322 c5_i32_215
  let c1_i32_219 : BitVec 32 := 1#32
  let v327 : BitVec 32 := Scalar.addi v323 c1_i32_219
  let v328 : BitVec 32 := Scalar.maxsi c0_i32_220 v327
  let v329 : BitVec 32 := Scalar.minsi c15_i32_221 v328
  let c16_i32_222 : BitVec 32 := 16#32
  let v330 : BitVec 32 := Scalar.muli v329 c16_i32_222
  let v693 : BitVec 32 := Scalar.addi v689 v330
  let v694 : Index := Scalar.indexCast v693
  ![v694.toNat]
def k0_off60 (k0_t12 : Fin k0_t12_loop.trips) : Fin 1 → Nat :=
  let c0_i32_227 : BitVec 32 := 0#32
  let c1_i32_229 : BitVec 32 := 1#32
  let arg23 : BitVec 32 := Scf.iv c0_i32_227 c1_i32_229 k0_t12
  let c19_i32 : BitVec 32 := 19#32
  let v699 : BitVec 32 := Scalar.muli arg23 c19_i32
  let v700 : Index := Scalar.indexCast v699
  ![v700.toNat]
@[reducible] def k0_t13_loop : Scf.Loop 32 :=
  let c0_i32_232 : BitVec 32 := 0#32
  let c32_i32_233 : BitVec 32 := 32#32
  let v343 : BitVec 32 := Scalar.addi c0_i32_232 c32_i32_233
  let c1_i32_234 : BitVec 32 := 1#32
  ⟨c0_i32_232, v343, c1_i32_234⟩
def k0_off61 (k0_t13 : Fin k0_t13_loop.trips) : Fin 1 → Nat :=
  let c2560_i32 : BitVec 32 := 2560#32
  let c0_i32_232 : BitVec 32 := 0#32
  let c1_i32_234 : BitVec 32 := 1#32
  let arg23 : BitVec 32 := Scf.iv c0_i32_232 c1_i32_234 k0_t13
  let c16_i32_531 : BitVec 32 := 16#32
  let v688 : BitVec 32 := Scalar.muli arg23 c16_i32_531
  let v689 : BitVec 32 := Scalar.addi c2560_i32 v688
  let v690 : Index := Scalar.indexCast v689
  ![v690.toNat]
def k0_off62 (k0_t13 : Fin k0_t13_loop.trips) : Fin 1 → Nat :=
  let c0_i32_232 : BitVec 32 := 0#32
  let c1_i32_234 : BitVec 32 := 1#32
  let arg23 : BitVec 32 := Scf.iv c0_i32_232 c1_i32_234 k0_t13
  let c16_i32_541 : BitVec 32 := 16#32
  let v715 : BitVec 32 := Scalar.muli arg23 c16_i32_541
  let v716 : Index := Scalar.indexCast v715
  ![v716.toNat]
def k0_off63 (k0_t13 : Fin k0_t13_loop.trips) (c0_i32_544 : BitVec 32) : Fin 1 → Nat :=
  let c2560_i32 : BitVec 32 := 2560#32
  let c0_i32_232 : BitVec 32 := 0#32
  let c1_i32_234 : BitVec 32 := 1#32
  let arg23 : BitVec 32 := Scf.iv c0_i32_232 c1_i32_234 k0_t13
  let c16_i32_531 : BitVec 32 := 16#32
  let v688 : BitVec 32 := Scalar.muli arg23 c16_i32_531
  let v689 : BitVec 32 := Scalar.addi c2560_i32 v688
  let v728 : BitVec 32 := Scalar.addi c0_i32_544 v689
  let v729 : Index := Scalar.indexCast v728
  ![v729.toNat]

def k0_chk241 (v738 : IVec S16 32) : Prop :=
  (∀ a x, ((![v738] : Fin 1 → IVec S16 32) a x).toNat < S1824.size a)
theorem k0_idx241_inb : ∀ (v738 : IVec S16 32) (k0_hw241 : k0_chk241 v738), ∀ a x, ((![v738] : Fin 1 → IVec S16 32) a x).toNat < S1824.size a := fun v738 k0_hw241 => k0_hw241

def k0_chk242 (v741 : IVec S16 32) : Prop :=
  (∀ a x, ((![v741] : Fin 1 → IVec S16 32) a x).toNat < S1824.size a)
theorem k0_idx242_inb : ∀ (v741 : IVec S16 32) (k0_hw242 : k0_chk242 v741), ∀ a x, ((![v741] : Fin 1 → IVec S16 32) a x).toNat < S1824.size a := fun v741 k0_hw242 => k0_hw242

def k0_chk243 (v744 : IVec S16 32) : Prop :=
  (∀ a x, ((![v744] : Fin 1 → IVec S16 32) a x).toNat < S1824.size a)
theorem k0_idx243_inb : ∀ (v744 : IVec S16 32) (k0_hw243 : k0_chk243 v744), ∀ a x, ((![v744] : Fin 1 → IVec S16 32) a x).toNat < S1824.size a := fun v744 k0_hw243 => k0_hw243

def k0_chk244 (v747 : IVec S16 32) : Prop :=
  (∀ a x, ((![v747] : Fin 1 → IVec S16 32) a x).toNat < S1824.size a)
theorem k0_idx244_inb : ∀ (v747 : IVec S16 32) (k0_hw244 : k0_chk244 v747), ∀ a x, ((![v747] : Fin 1 → IVec S16 32) a x).toNat < S1824.size a := fun v747 k0_hw244 => k0_hw244

def k0_chk245 (v760 : IVec S16 32) : Prop :=
  (∀ a x, ((![v760] : Fin 1 → IVec S16 32) a x).toNat < S1824.size a)
theorem k0_idx245_inb : ∀ (v760 : IVec S16 32) (k0_hw245 : k0_chk245 v760), ∀ a x, ((![v760] : Fin 1 → IVec S16 32) a x).toNat < S1824.size a := fun v760 k0_hw245 => k0_hw245

def k0_chk246 (v763 : IVec S16 32) : Prop :=
  (∀ a x, ((![v763] : Fin 1 → IVec S16 32) a x).toNat < S1824.size a)
theorem k0_idx246_inb : ∀ (v763 : IVec S16 32) (k0_hw246 : k0_chk246 v763), ∀ a x, ((![v763] : Fin 1 → IVec S16 32) a x).toNat < S1824.size a := fun v763 k0_hw246 => k0_hw246

def k0_chk247 (v766 : IVec S16 32) : Prop :=
  (∀ a x, ((![v766] : Fin 1 → IVec S16 32) a x).toNat < S1824.size a)
theorem k0_idx247_inb : ∀ (v766 : IVec S16 32) (k0_hw247 : k0_chk247 v766), ∀ a x, ((![v766] : Fin 1 → IVec S16 32) a x).toNat < S1824.size a := fun v766 k0_hw247 => k0_hw247

def k0_chk248 (v769 : IVec S16 32) : Prop :=
  (∀ a x, ((![v769] : Fin 1 → IVec S16 32) a x).toNat < S1824.size a)
theorem k0_idx248_inb : ∀ (v769 : IVec S16 32) (k0_hw248 : k0_chk248 v769), ∀ a x, ((![v769] : Fin 1 → IVec S16 32) a x).toNat < S1824.size a := fun v769 k0_hw248 => k0_hw248

def k0_chk249 (v783 : IVec S16 32) : Prop :=
  (∀ a x, ((![v783] : Fin 1 → IVec S16 32) a x).toNat < S1824.size a)
theorem k0_idx249_inb : ∀ (v783 : IVec S16 32) (k0_hw249 : k0_chk249 v783), ∀ a x, ((![v783] : Fin 1 → IVec S16 32) a x).toNat < S1824.size a := fun v783 k0_hw249 => k0_hw249

def k0_chk250 (v786 : IVec S16 32) : Prop :=
  (∀ a x, ((![v786] : Fin 1 → IVec S16 32) a x).toNat < S1824.size a)
theorem k0_idx250_inb : ∀ (v786 : IVec S16 32) (k0_hw250 : k0_chk250 v786), ∀ a x, ((![v786] : Fin 1 → IVec S16 32) a x).toNat < S1824.size a := fun v786 k0_hw250 => k0_hw250

def k0_chk251 (v789 : IVec S16 32) : Prop :=
  (∀ a x, ((![v789] : Fin 1 → IVec S16 32) a x).toNat < S1824.size a)
theorem k0_idx251_inb : ∀ (v789 : IVec S16 32) (k0_hw251 : k0_chk251 v789), ∀ a x, ((![v789] : Fin 1 → IVec S16 32) a x).toNat < S1824.size a := fun v789 k0_hw251 => k0_hw251

def k0_chk252 (v792 : IVec S16 32) : Prop :=
  (∀ a x, ((![v792] : Fin 1 → IVec S16 32) a x).toNat < S1824.size a)
theorem k0_idx252_inb : ∀ (v792 : IVec S16 32) (k0_hw252 : k0_chk252 v792), ∀ a x, ((![v792] : Fin 1 → IVec S16 32) a x).toNat < S1824.size a := fun v792 k0_hw252 => k0_hw252

def k0_chk253 (v806 : IVec S16 32) : Prop :=
  (∀ a x, ((![v806] : Fin 1 → IVec S16 32) a x).toNat < S1824.size a)
theorem k0_idx253_inb : ∀ (v806 : IVec S16 32) (k0_hw253 : k0_chk253 v806), ∀ a x, ((![v806] : Fin 1 → IVec S16 32) a x).toNat < S1824.size a := fun v806 k0_hw253 => k0_hw253

def k0_chk254 (v809 : IVec S16 32) : Prop :=
  (∀ a x, ((![v809] : Fin 1 → IVec S16 32) a x).toNat < S1824.size a)
theorem k0_idx254_inb : ∀ (v809 : IVec S16 32) (k0_hw254 : k0_chk254 v809), ∀ a x, ((![v809] : Fin 1 → IVec S16 32) a x).toNat < S1824.size a := fun v809 k0_hw254 => k0_hw254

def k0_chk255 (v812 : IVec S16 32) : Prop :=
  (∀ a x, ((![v812] : Fin 1 → IVec S16 32) a x).toNat < S1824.size a)
theorem k0_idx255_inb : ∀ (v812 : IVec S16 32) (k0_hw255 : k0_chk255 v812), ∀ a x, ((![v812] : Fin 1 → IVec S16 32) a x).toNat < S1824.size a := fun v812 k0_hw255 => k0_hw255

def k0_chk256 (v815 : IVec S16 32) : Prop :=
  (∀ a x, ((![v815] : Fin 1 → IVec S16 32) a x).toNat < S1824.size a)
theorem k0_idx256_inb : ∀ (v815 : IVec S16 32) (k0_hw256 : k0_chk256 v815), ∀ a x, ((![v815] : Fin 1 → IVec S16 32) a x).toNat < S1824.size a := fun v815 k0_hw256 => k0_hw256
def k0_off64 (k0_t13 : Fin k0_t13_loop.trips) : Fin 1 → Nat :=
  let c0_i32_560 : BitVec 32 := 0#32
  let c2560_i32 : BitVec 32 := 2560#32
  let c0_i32_232 : BitVec 32 := 0#32
  let c1_i32_234 : BitVec 32 := 1#32
  let arg23 : BitVec 32 := Scf.iv c0_i32_232 c1_i32_234 k0_t13
  let c16_i32_531 : BitVec 32 := 16#32
  let v688 : BitVec 32 := Scalar.muli arg23 c16_i32_531
  let v689 : BitVec 32 := Scalar.addi c2560_i32 v688
  let v827 : BitVec 32 := Scalar.addi c0_i32_560 v689
  let v828 : Index := Scalar.indexCast v827
  ![v828.toNat]

def k0_chk257 (v831 : IVec S16 32) : Prop :=
  (∀ a x, ((![v831] : Fin 1 → IVec S16 32) a x).toNat < S1824.size a)
theorem k0_idx257_inb : ∀ (v831 : IVec S16 32) (k0_hw257 : k0_chk257 v831), ∀ a x, ((![v831] : Fin 1 → IVec S16 32) a x).toNat < S1824.size a := fun v831 k0_hw257 => k0_hw257

def k0_chk258 (v834 : IVec S16 32) : Prop :=
  (∀ a x, ((![v834] : Fin 1 → IVec S16 32) a x).toNat < S1824.size a)
theorem k0_idx258_inb : ∀ (v834 : IVec S16 32) (k0_hw258 : k0_chk258 v834), ∀ a x, ((![v834] : Fin 1 → IVec S16 32) a x).toNat < S1824.size a := fun v834 k0_hw258 => k0_hw258

def k0_chk259 (v837 : IVec S16 32) : Prop :=
  (∀ a x, ((![v837] : Fin 1 → IVec S16 32) a x).toNat < S1824.size a)
theorem k0_idx259_inb : ∀ (v837 : IVec S16 32) (k0_hw259 : k0_chk259 v837), ∀ a x, ((![v837] : Fin 1 → IVec S16 32) a x).toNat < S1824.size a := fun v837 k0_hw259 => k0_hw259

def k0_chk260 (v840 : IVec S16 32) : Prop :=
  (∀ a x, ((![v840] : Fin 1 → IVec S16 32) a x).toNat < S1824.size a)
theorem k0_idx260_inb : ∀ (v840 : IVec S16 32) (k0_hw260 : k0_chk260 v840), ∀ a x, ((![v840] : Fin 1 → IVec S16 32) a x).toNat < S1824.size a := fun v840 k0_hw260 => k0_hw260

def k0_chk261 (v853 : IVec S16 32) : Prop :=
  (∀ a x, ((![v853] : Fin 1 → IVec S16 32) a x).toNat < S1824.size a)
theorem k0_idx261_inb : ∀ (v853 : IVec S16 32) (k0_hw261 : k0_chk261 v853), ∀ a x, ((![v853] : Fin 1 → IVec S16 32) a x).toNat < S1824.size a := fun v853 k0_hw261 => k0_hw261

def k0_chk262 (v856 : IVec S16 32) : Prop :=
  (∀ a x, ((![v856] : Fin 1 → IVec S16 32) a x).toNat < S1824.size a)
theorem k0_idx262_inb : ∀ (v856 : IVec S16 32) (k0_hw262 : k0_chk262 v856), ∀ a x, ((![v856] : Fin 1 → IVec S16 32) a x).toNat < S1824.size a := fun v856 k0_hw262 => k0_hw262

def k0_chk263 (v859 : IVec S16 32) : Prop :=
  (∀ a x, ((![v859] : Fin 1 → IVec S16 32) a x).toNat < S1824.size a)
theorem k0_idx263_inb : ∀ (v859 : IVec S16 32) (k0_hw263 : k0_chk263 v859), ∀ a x, ((![v859] : Fin 1 → IVec S16 32) a x).toNat < S1824.size a := fun v859 k0_hw263 => k0_hw263

def k0_chk264 (v862 : IVec S16 32) : Prop :=
  (∀ a x, ((![v862] : Fin 1 → IVec S16 32) a x).toNat < S1824.size a)
theorem k0_idx264_inb : ∀ (v862 : IVec S16 32) (k0_hw264 : k0_chk264 v862), ∀ a x, ((![v862] : Fin 1 → IVec S16 32) a x).toNat < S1824.size a := fun v862 k0_hw264 => k0_hw264

def k0_chk265 (v876 : IVec S16 32) : Prop :=
  (∀ a x, ((![v876] : Fin 1 → IVec S16 32) a x).toNat < S1824.size a)
theorem k0_idx265_inb : ∀ (v876 : IVec S16 32) (k0_hw265 : k0_chk265 v876), ∀ a x, ((![v876] : Fin 1 → IVec S16 32) a x).toNat < S1824.size a := fun v876 k0_hw265 => k0_hw265

def k0_chk266 (v879 : IVec S16 32) : Prop :=
  (∀ a x, ((![v879] : Fin 1 → IVec S16 32) a x).toNat < S1824.size a)
theorem k0_idx266_inb : ∀ (v879 : IVec S16 32) (k0_hw266 : k0_chk266 v879), ∀ a x, ((![v879] : Fin 1 → IVec S16 32) a x).toNat < S1824.size a := fun v879 k0_hw266 => k0_hw266

def k0_chk267 (v882 : IVec S16 32) : Prop :=
  (∀ a x, ((![v882] : Fin 1 → IVec S16 32) a x).toNat < S1824.size a)
theorem k0_idx267_inb : ∀ (v882 : IVec S16 32) (k0_hw267 : k0_chk267 v882), ∀ a x, ((![v882] : Fin 1 → IVec S16 32) a x).toNat < S1824.size a := fun v882 k0_hw267 => k0_hw267

def k0_chk268 (v885 : IVec S16 32) : Prop :=
  (∀ a x, ((![v885] : Fin 1 → IVec S16 32) a x).toNat < S1824.size a)
theorem k0_idx268_inb : ∀ (v885 : IVec S16 32) (k0_hw268 : k0_chk268 v885), ∀ a x, ((![v885] : Fin 1 → IVec S16 32) a x).toNat < S1824.size a := fun v885 k0_hw268 => k0_hw268

def k0_chk269 (v899 : IVec S16 32) : Prop :=
  (∀ a x, ((![v899] : Fin 1 → IVec S16 32) a x).toNat < S1824.size a)
theorem k0_idx269_inb : ∀ (v899 : IVec S16 32) (k0_hw269 : k0_chk269 v899), ∀ a x, ((![v899] : Fin 1 → IVec S16 32) a x).toNat < S1824.size a := fun v899 k0_hw269 => k0_hw269

def k0_chk270 (v902 : IVec S16 32) : Prop :=
  (∀ a x, ((![v902] : Fin 1 → IVec S16 32) a x).toNat < S1824.size a)
theorem k0_idx270_inb : ∀ (v902 : IVec S16 32) (k0_hw270 : k0_chk270 v902), ∀ a x, ((![v902] : Fin 1 → IVec S16 32) a x).toNat < S1824.size a := fun v902 k0_hw270 => k0_hw270

def k0_chk271 (v905 : IVec S16 32) : Prop :=
  (∀ a x, ((![v905] : Fin 1 → IVec S16 32) a x).toNat < S1824.size a)
theorem k0_idx271_inb : ∀ (v905 : IVec S16 32) (k0_hw271 : k0_chk271 v905), ∀ a x, ((![v905] : Fin 1 → IVec S16 32) a x).toNat < S1824.size a := fun v905 k0_hw271 => k0_hw271

def k0_chk272 (v908 : IVec S16 32) : Prop :=
  (∀ a x, ((![v908] : Fin 1 → IVec S16 32) a x).toNat < S1824.size a)
theorem k0_idx272_inb : ∀ (v908 : IVec S16 32) (k0_hw272 : k0_chk272 v908), ∀ a x, ((![v908] : Fin 1 → IVec S16 32) a x).toNat < S1824.size a := fun v908 k0_hw272 => k0_hw272
def k0_off65 (k0_t13 : Fin k0_t13_loop.trips) : Fin 1 → Nat :=
  let c4096_i32_573 : BitVec 32 := 4096#32
  let c2560_i32 : BitVec 32 := 2560#32
  let c0_i32_232 : BitVec 32 := 0#32
  let c1_i32_234 : BitVec 32 := 1#32
  let arg23 : BitVec 32 := Scf.iv c0_i32_232 c1_i32_234 k0_t13
  let c16_i32_531 : BitVec 32 := 16#32
  let v688 : BitVec 32 := Scalar.muli arg23 c16_i32_531
  let v689 : BitVec 32 := Scalar.addi c2560_i32 v688
  let v920 : BitVec 32 := Scalar.addi c4096_i32_573 v689
  let v921 : Index := Scalar.indexCast v920
  ![v921.toNat]

def k0_chk273 (v924 : IVec S16 32) : Prop :=
  (∀ a x, ((![v924] : Fin 1 → IVec S16 32) a x).toNat < S1824.size a)
theorem k0_idx273_inb : ∀ (v924 : IVec S16 32) (k0_hw273 : k0_chk273 v924), ∀ a x, ((![v924] : Fin 1 → IVec S16 32) a x).toNat < S1824.size a := fun v924 k0_hw273 => k0_hw273

def k0_chk274 (v927 : IVec S16 32) : Prop :=
  (∀ a x, ((![v927] : Fin 1 → IVec S16 32) a x).toNat < S1824.size a)
theorem k0_idx274_inb : ∀ (v927 : IVec S16 32) (k0_hw274 : k0_chk274 v927), ∀ a x, ((![v927] : Fin 1 → IVec S16 32) a x).toNat < S1824.size a := fun v927 k0_hw274 => k0_hw274

def k0_chk275 (v930 : IVec S16 32) : Prop :=
  (∀ a x, ((![v930] : Fin 1 → IVec S16 32) a x).toNat < S1824.size a)
theorem k0_idx275_inb : ∀ (v930 : IVec S16 32) (k0_hw275 : k0_chk275 v930), ∀ a x, ((![v930] : Fin 1 → IVec S16 32) a x).toNat < S1824.size a := fun v930 k0_hw275 => k0_hw275

def k0_chk276 (v933 : IVec S16 32) : Prop :=
  (∀ a x, ((![v933] : Fin 1 → IVec S16 32) a x).toNat < S1824.size a)
theorem k0_idx276_inb : ∀ (v933 : IVec S16 32) (k0_hw276 : k0_chk276 v933), ∀ a x, ((![v933] : Fin 1 → IVec S16 32) a x).toNat < S1824.size a := fun v933 k0_hw276 => k0_hw276

def k0_chk277 (v946 : IVec S16 32) : Prop :=
  (∀ a x, ((![v946] : Fin 1 → IVec S16 32) a x).toNat < S1824.size a)
theorem k0_idx277_inb : ∀ (v946 : IVec S16 32) (k0_hw277 : k0_chk277 v946), ∀ a x, ((![v946] : Fin 1 → IVec S16 32) a x).toNat < S1824.size a := fun v946 k0_hw277 => k0_hw277

def k0_chk278 (v949 : IVec S16 32) : Prop :=
  (∀ a x, ((![v949] : Fin 1 → IVec S16 32) a x).toNat < S1824.size a)
theorem k0_idx278_inb : ∀ (v949 : IVec S16 32) (k0_hw278 : k0_chk278 v949), ∀ a x, ((![v949] : Fin 1 → IVec S16 32) a x).toNat < S1824.size a := fun v949 k0_hw278 => k0_hw278

def k0_chk279 (v952 : IVec S16 32) : Prop :=
  (∀ a x, ((![v952] : Fin 1 → IVec S16 32) a x).toNat < S1824.size a)
theorem k0_idx279_inb : ∀ (v952 : IVec S16 32) (k0_hw279 : k0_chk279 v952), ∀ a x, ((![v952] : Fin 1 → IVec S16 32) a x).toNat < S1824.size a := fun v952 k0_hw279 => k0_hw279

def k0_chk280 (v955 : IVec S16 32) : Prop :=
  (∀ a x, ((![v955] : Fin 1 → IVec S16 32) a x).toNat < S1824.size a)
theorem k0_idx280_inb : ∀ (v955 : IVec S16 32) (k0_hw280 : k0_chk280 v955), ∀ a x, ((![v955] : Fin 1 → IVec S16 32) a x).toNat < S1824.size a := fun v955 k0_hw280 => k0_hw280

def k0_chk281 (v969 : IVec S16 32) : Prop :=
  (∀ a x, ((![v969] : Fin 1 → IVec S16 32) a x).toNat < S1824.size a)
theorem k0_idx281_inb : ∀ (v969 : IVec S16 32) (k0_hw281 : k0_chk281 v969), ∀ a x, ((![v969] : Fin 1 → IVec S16 32) a x).toNat < S1824.size a := fun v969 k0_hw281 => k0_hw281

def k0_chk282 (v972 : IVec S16 32) : Prop :=
  (∀ a x, ((![v972] : Fin 1 → IVec S16 32) a x).toNat < S1824.size a)
theorem k0_idx282_inb : ∀ (v972 : IVec S16 32) (k0_hw282 : k0_chk282 v972), ∀ a x, ((![v972] : Fin 1 → IVec S16 32) a x).toNat < S1824.size a := fun v972 k0_hw282 => k0_hw282

def k0_chk283 (v975 : IVec S16 32) : Prop :=
  (∀ a x, ((![v975] : Fin 1 → IVec S16 32) a x).toNat < S1824.size a)
theorem k0_idx283_inb : ∀ (v975 : IVec S16 32) (k0_hw283 : k0_chk283 v975), ∀ a x, ((![v975] : Fin 1 → IVec S16 32) a x).toNat < S1824.size a := fun v975 k0_hw283 => k0_hw283

def k0_chk284 (v978 : IVec S16 32) : Prop :=
  (∀ a x, ((![v978] : Fin 1 → IVec S16 32) a x).toNat < S1824.size a)
theorem k0_idx284_inb : ∀ (v978 : IVec S16 32) (k0_hw284 : k0_chk284 v978), ∀ a x, ((![v978] : Fin 1 → IVec S16 32) a x).toNat < S1824.size a := fun v978 k0_hw284 => k0_hw284

def k0_chk285 (v992 : IVec S16 32) : Prop :=
  (∀ a x, ((![v992] : Fin 1 → IVec S16 32) a x).toNat < S1824.size a)
theorem k0_idx285_inb : ∀ (v992 : IVec S16 32) (k0_hw285 : k0_chk285 v992), ∀ a x, ((![v992] : Fin 1 → IVec S16 32) a x).toNat < S1824.size a := fun v992 k0_hw285 => k0_hw285

def k0_chk286 (v995 : IVec S16 32) : Prop :=
  (∀ a x, ((![v995] : Fin 1 → IVec S16 32) a x).toNat < S1824.size a)
theorem k0_idx286_inb : ∀ (v995 : IVec S16 32) (k0_hw286 : k0_chk286 v995), ∀ a x, ((![v995] : Fin 1 → IVec S16 32) a x).toNat < S1824.size a := fun v995 k0_hw286 => k0_hw286

def k0_chk287 (v998 : IVec S16 32) : Prop :=
  (∀ a x, ((![v998] : Fin 1 → IVec S16 32) a x).toNat < S1824.size a)
theorem k0_idx287_inb : ∀ (v998 : IVec S16 32) (k0_hw287 : k0_chk287 v998), ∀ a x, ((![v998] : Fin 1 → IVec S16 32) a x).toNat < S1824.size a := fun v998 k0_hw287 => k0_hw287

def k0_chk288 (v1001 : IVec S16 32) : Prop :=
  (∀ a x, ((![v1001] : Fin 1 → IVec S16 32) a x).toNat < S1824.size a)
theorem k0_idx288_inb : ∀ (v1001 : IVec S16 32) (k0_hw288 : k0_chk288 v1001), ∀ a x, ((![v1001] : Fin 1 → IVec S16 32) a x).toNat < S1824.size a := fun v1001 k0_hw288 => k0_hw288
def k0_off66 (k0_t13 : Fin k0_t13_loop.trips) : Fin 1 → Nat :=
  let c8192_i32_586 : BitVec 32 := 8192#32
  let c2560_i32 : BitVec 32 := 2560#32
  let c0_i32_232 : BitVec 32 := 0#32
  let c1_i32_234 : BitVec 32 := 1#32
  let arg23 : BitVec 32 := Scf.iv c0_i32_232 c1_i32_234 k0_t13
  let c16_i32_531 : BitVec 32 := 16#32
  let v688 : BitVec 32 := Scalar.muli arg23 c16_i32_531
  let v689 : BitVec 32 := Scalar.addi c2560_i32 v688
  let v1013 : BitVec 32 := Scalar.addi c8192_i32_586 v689
  let v1014 : Index := Scalar.indexCast v1013
  ![v1014.toNat]
@[reducible] def k0_t14_loop : Scf.Loop 32 :=
  let c0_i32_249 : BitVec 32 := 0#32
  let c96_i32_250 : BitVec 32 := 96#32
  let v365 : BitVec 32 := Scalar.addi c0_i32_249 c96_i32_250
  let c1_i32_251 : BitVec 32 := 1#32
  ⟨c0_i32_249, v365, c1_i32_251⟩
def k0_off67 (i : grid0.Coords) (k0_t1 : Fin k0_t1_loop.trips) (k0_t14 : Fin k0_t14_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_249 : BitVec 32 := 0#32
  let c1_i32_251 : BitVec 32 := 1#32
  let arg23 : BitVec 32 := Scf.iv c0_i32_249 c1_i32_251 k0_t14
  let c256_i32 : BitVec 32 := 256#32
  let v688 : BitVec 32 := Scalar.muli arg23 c256_i32
  let v689 : BitVec 32 := Scalar.addi v40 v688
  let c15_i32_239 : BitVec 32 := 15#32
  let c0_i32_238 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_95 : BitVec 32 := 16#32
  let v193 : BitVec 32 := Scalar.muli v1 c16_i32_95
  let c2_i32_19 : BitVec 32 := 2#32
  let v37 : BitVec 32 := Scalar.muli arg22 c2_i32_19
  let c2_i32_96 : BitVec 32 := 2#32
  let c0_i32_97 : BitVec 32 := 0#32
  let v194 : BitVec 1 := Scalar.cmpi .eq c2_i32_96 c0_i32_97
  let c1_i32_98 : BitVec 32 := 1#32
  let v195 : BitVec 32 := Scalar.select v194 c1_i32_98 c2_i32_96
  let v196 : BitVec 32 := Scalar.remsi v37 v195
  let c0_i32_100 : BitVec 32 := 0#32
  let v198 : BitVec 1 := Scalar.cmpi .slt v196 c0_i32_100
  let c0_i32_101 : BitVec 32 := 0#32
  let v199 : BitVec 1 := Scalar.cmpi .slt v195 c0_i32_101
  let v200 : BitVec 1 := Scalar.xori v198 v199
  let c0_i32_99 : BitVec 32 := 0#32
  let v197 : BitVec 1 := Scalar.cmpi .ne v196 c0_i32_99
  let v201 : BitVec 1 := Scalar.andi v200 v197
  let v202 : BitVec 32 := Scalar.addi v196 v195
  let v203 : BitVec 32 := Scalar.select v201 v202 v196
  let c8_i32_102 : BitVec 32 := 8#32
  let v204 : BitVec 32 := Scalar.muli v203 c8_i32_102
  let v205 : BitVec 32 := Scalar.addi v193 v204
  let c6_i32 : BitVec 32 := 6#32
  let v344 : BitVec 32 := Scalar.addi v205 c6_i32
  let c16_i32_236 : BitVec 32 := 16#32
  let v345 : BitVec 32 := Scalar.subi v344 c16_i32_236
  let c5_i32_237 : BitVec 32 := 5#32
  let v346 : BitVec 32 := Scalar.shrsi v345 c5_i32_237
  let v347 : BitVec 32 := Scalar.maxsi c0_i32_238 v346
  let v348 : BitVec 32 := Scalar.minsi c15_i32_239 v347
  let c16_i32_240 : BitVec 32 := 16#32
  let v349 : BitVec 32 := Scalar.muli v348 c16_i32_240
  let v690 : BitVec 32 := Scalar.addi v689 v349
  let v691 : Index := Scalar.indexCast v690
  ![v691.toNat]
def k0_off68 (i : grid0.Coords) (k0_t1 : Fin k0_t1_loop.trips) (k0_t14 : Fin k0_t14_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_249 : BitVec 32 := 0#32
  let c1_i32_251 : BitVec 32 := 1#32
  let arg23 : BitVec 32 := Scf.iv c0_i32_249 c1_i32_251 k0_t14
  let c256_i32 : BitVec 32 := 256#32
  let v688 : BitVec 32 := Scalar.muli arg23 c256_i32
  let v689 : BitVec 32 := Scalar.addi v40 v688
  let c15_i32_243 : BitVec 32 := 15#32
  let c0_i32_242 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_95 : BitVec 32 := 16#32
  let v193 : BitVec 32 := Scalar.muli v1 c16_i32_95
  let c2_i32_19 : BitVec 32 := 2#32
  let v37 : BitVec 32 := Scalar.muli arg22 c2_i32_19
  let c2_i32_96 : BitVec 32 := 2#32
  let c0_i32_97 : BitVec 32 := 0#32
  let v194 : BitVec 1 := Scalar.cmpi .eq c2_i32_96 c0_i32_97
  let c1_i32_98 : BitVec 32 := 1#32
  let v195 : BitVec 32 := Scalar.select v194 c1_i32_98 c2_i32_96
  let v196 : BitVec 32 := Scalar.remsi v37 v195
  let c0_i32_100 : BitVec 32 := 0#32
  let v198 : BitVec 1 := Scalar.cmpi .slt v196 c0_i32_100
  let c0_i32_101 : BitVec 32 := 0#32
  let v199 : BitVec 1 := Scalar.cmpi .slt v195 c0_i32_101
  let v200 : BitVec 1 := Scalar.xori v198 v199
  let c0_i32_99 : BitVec 32 := 0#32
  let v197 : BitVec 1 := Scalar.cmpi .ne v196 c0_i32_99
  let v201 : BitVec 1 := Scalar.andi v200 v197
  let v202 : BitVec 32 := Scalar.addi v196 v195
  let v203 : BitVec 32 := Scalar.select v201 v202 v196
  let c8_i32_102 : BitVec 32 := 8#32
  let v204 : BitVec 32 := Scalar.muli v203 c8_i32_102
  let v205 : BitVec 32 := Scalar.addi v193 v204
  let c6_i32 : BitVec 32 := 6#32
  let v344 : BitVec 32 := Scalar.addi v205 c6_i32
  let c16_i32_236 : BitVec 32 := 16#32
  let v345 : BitVec 32 := Scalar.subi v344 c16_i32_236
  let c5_i32_237 : BitVec 32 := 5#32
  let v346 : BitVec 32 := Scalar.shrsi v345 c5_i32_237
  let c1_i32_241 : BitVec 32 := 1#32
  let v350 : BitVec 32 := Scalar.addi v346 c1_i32_241
  let v351 : BitVec 32 := Scalar.maxsi c0_i32_242 v350
  let v352 : BitVec 32 := Scalar.minsi c15_i32_243 v351
  let c16_i32_244 : BitVec 32 := 16#32
  let v353 : BitVec 32 := Scalar.muli v352 c16_i32_244
  let v693 : BitVec 32 := Scalar.addi v689 v353
  let v694 : Index := Scalar.indexCast v693
  ![v694.toNat]
def k0_off69 (k0_t14 : Fin k0_t14_loop.trips) : Fin 1 → Nat :=
  let c0_i32_249 : BitVec 32 := 0#32
  let c1_i32_251 : BitVec 32 := 1#32
  let arg23 : BitVec 32 := Scf.iv c0_i32_249 c1_i32_251 k0_t14
  let c19_i32 : BitVec 32 := 19#32
  let v699 : BitVec 32 := Scalar.muli arg23 c19_i32
  let v700 : Index := Scalar.indexCast v699
  ![v700.toNat]
@[reducible] def k0_t15_loop : Scf.Loop 32 :=
  let c0_i32_254 : BitVec 32 := 0#32
  let c32_i32_255 : BitVec 32 := 32#32
  let v366 : BitVec 32 := Scalar.addi c0_i32_254 c32_i32_255
  let c1_i32_256 : BitVec 32 := 1#32
  ⟨c0_i32_254, v366, c1_i32_256⟩
def k0_off70 (k0_t15 : Fin k0_t15_loop.trips) : Fin 1 → Nat :=
  let c3072_i32 : BitVec 32 := 3072#32
  let c0_i32_254 : BitVec 32 := 0#32
  let c1_i32_256 : BitVec 32 := 1#32
  let arg23 : BitVec 32 := Scf.iv c0_i32_254 c1_i32_256 k0_t15
  let c16_i32_531 : BitVec 32 := 16#32
  let v688 : BitVec 32 := Scalar.muli arg23 c16_i32_531
  let v689 : BitVec 32 := Scalar.addi c3072_i32 v688
  let v690 : Index := Scalar.indexCast v689
  ![v690.toNat]
def k0_off71 (k0_t15 : Fin k0_t15_loop.trips) : Fin 1 → Nat :=
  let c0_i32_254 : BitVec 32 := 0#32
  let c1_i32_256 : BitVec 32 := 1#32
  let arg23 : BitVec 32 := Scf.iv c0_i32_254 c1_i32_256 k0_t15
  let c16_i32_541 : BitVec 32 := 16#32
  let v715 : BitVec 32 := Scalar.muli arg23 c16_i32_541
  let v716 : Index := Scalar.indexCast v715
  ![v716.toNat]
def k0_off72 (k0_t15 : Fin k0_t15_loop.trips) (c0_i32_544 : BitVec 32) : Fin 1 → Nat :=
  let c3072_i32 : BitVec 32 := 3072#32
  let c0_i32_254 : BitVec 32 := 0#32
  let c1_i32_256 : BitVec 32 := 1#32
  let arg23 : BitVec 32 := Scf.iv c0_i32_254 c1_i32_256 k0_t15
  let c16_i32_531 : BitVec 32 := 16#32
  let v688 : BitVec 32 := Scalar.muli arg23 c16_i32_531
  let v689 : BitVec 32 := Scalar.addi c3072_i32 v688
  let v728 : BitVec 32 := Scalar.addi c0_i32_544 v689
  let v729 : Index := Scalar.indexCast v728
  ![v729.toNat]

def k0_chk289 (v738 : IVec S16 32) : Prop :=
  (∀ a x, ((![v738] : Fin 1 → IVec S16 32) a x).toNat < S1824.size a)
theorem k0_idx289_inb : ∀ (v738 : IVec S16 32) (k0_hw289 : k0_chk289 v738), ∀ a x, ((![v738] : Fin 1 → IVec S16 32) a x).toNat < S1824.size a := fun v738 k0_hw289 => k0_hw289

def k0_chk290 (v741 : IVec S16 32) : Prop :=
  (∀ a x, ((![v741] : Fin 1 → IVec S16 32) a x).toNat < S1824.size a)
theorem k0_idx290_inb : ∀ (v741 : IVec S16 32) (k0_hw290 : k0_chk290 v741), ∀ a x, ((![v741] : Fin 1 → IVec S16 32) a x).toNat < S1824.size a := fun v741 k0_hw290 => k0_hw290

def k0_chk291 (v744 : IVec S16 32) : Prop :=
  (∀ a x, ((![v744] : Fin 1 → IVec S16 32) a x).toNat < S1824.size a)
theorem k0_idx291_inb : ∀ (v744 : IVec S16 32) (k0_hw291 : k0_chk291 v744), ∀ a x, ((![v744] : Fin 1 → IVec S16 32) a x).toNat < S1824.size a := fun v744 k0_hw291 => k0_hw291

def k0_chk292 (v747 : IVec S16 32) : Prop :=
  (∀ a x, ((![v747] : Fin 1 → IVec S16 32) a x).toNat < S1824.size a)
theorem k0_idx292_inb : ∀ (v747 : IVec S16 32) (k0_hw292 : k0_chk292 v747), ∀ a x, ((![v747] : Fin 1 → IVec S16 32) a x).toNat < S1824.size a := fun v747 k0_hw292 => k0_hw292

def k0_chk293 (v760 : IVec S16 32) : Prop :=
  (∀ a x, ((![v760] : Fin 1 → IVec S16 32) a x).toNat < S1824.size a)
theorem k0_idx293_inb : ∀ (v760 : IVec S16 32) (k0_hw293 : k0_chk293 v760), ∀ a x, ((![v760] : Fin 1 → IVec S16 32) a x).toNat < S1824.size a := fun v760 k0_hw293 => k0_hw293

def k0_chk294 (v763 : IVec S16 32) : Prop :=
  (∀ a x, ((![v763] : Fin 1 → IVec S16 32) a x).toNat < S1824.size a)
theorem k0_idx294_inb : ∀ (v763 : IVec S16 32) (k0_hw294 : k0_chk294 v763), ∀ a x, ((![v763] : Fin 1 → IVec S16 32) a x).toNat < S1824.size a := fun v763 k0_hw294 => k0_hw294

def k0_chk295 (v766 : IVec S16 32) : Prop :=
  (∀ a x, ((![v766] : Fin 1 → IVec S16 32) a x).toNat < S1824.size a)
theorem k0_idx295_inb : ∀ (v766 : IVec S16 32) (k0_hw295 : k0_chk295 v766), ∀ a x, ((![v766] : Fin 1 → IVec S16 32) a x).toNat < S1824.size a := fun v766 k0_hw295 => k0_hw295

def k0_chk296 (v769 : IVec S16 32) : Prop :=
  (∀ a x, ((![v769] : Fin 1 → IVec S16 32) a x).toNat < S1824.size a)
theorem k0_idx296_inb : ∀ (v769 : IVec S16 32) (k0_hw296 : k0_chk296 v769), ∀ a x, ((![v769] : Fin 1 → IVec S16 32) a x).toNat < S1824.size a := fun v769 k0_hw296 => k0_hw296

def k0_chk297 (v783 : IVec S16 32) : Prop :=
  (∀ a x, ((![v783] : Fin 1 → IVec S16 32) a x).toNat < S1824.size a)
theorem k0_idx297_inb : ∀ (v783 : IVec S16 32) (k0_hw297 : k0_chk297 v783), ∀ a x, ((![v783] : Fin 1 → IVec S16 32) a x).toNat < S1824.size a := fun v783 k0_hw297 => k0_hw297

def k0_chk298 (v786 : IVec S16 32) : Prop :=
  (∀ a x, ((![v786] : Fin 1 → IVec S16 32) a x).toNat < S1824.size a)
theorem k0_idx298_inb : ∀ (v786 : IVec S16 32) (k0_hw298 : k0_chk298 v786), ∀ a x, ((![v786] : Fin 1 → IVec S16 32) a x).toNat < S1824.size a := fun v786 k0_hw298 => k0_hw298

def k0_chk299 (v789 : IVec S16 32) : Prop :=
  (∀ a x, ((![v789] : Fin 1 → IVec S16 32) a x).toNat < S1824.size a)
theorem k0_idx299_inb : ∀ (v789 : IVec S16 32) (k0_hw299 : k0_chk299 v789), ∀ a x, ((![v789] : Fin 1 → IVec S16 32) a x).toNat < S1824.size a := fun v789 k0_hw299 => k0_hw299

def k0_chk300 (v792 : IVec S16 32) : Prop :=
  (∀ a x, ((![v792] : Fin 1 → IVec S16 32) a x).toNat < S1824.size a)
theorem k0_idx300_inb : ∀ (v792 : IVec S16 32) (k0_hw300 : k0_chk300 v792), ∀ a x, ((![v792] : Fin 1 → IVec S16 32) a x).toNat < S1824.size a := fun v792 k0_hw300 => k0_hw300

def k0_chk301 (v806 : IVec S16 32) : Prop :=
  (∀ a x, ((![v806] : Fin 1 → IVec S16 32) a x).toNat < S1824.size a)
theorem k0_idx301_inb : ∀ (v806 : IVec S16 32) (k0_hw301 : k0_chk301 v806), ∀ a x, ((![v806] : Fin 1 → IVec S16 32) a x).toNat < S1824.size a := fun v806 k0_hw301 => k0_hw301

def k0_chk302 (v809 : IVec S16 32) : Prop :=
  (∀ a x, ((![v809] : Fin 1 → IVec S16 32) a x).toNat < S1824.size a)
theorem k0_idx302_inb : ∀ (v809 : IVec S16 32) (k0_hw302 : k0_chk302 v809), ∀ a x, ((![v809] : Fin 1 → IVec S16 32) a x).toNat < S1824.size a := fun v809 k0_hw302 => k0_hw302

def k0_chk303 (v812 : IVec S16 32) : Prop :=
  (∀ a x, ((![v812] : Fin 1 → IVec S16 32) a x).toNat < S1824.size a)
theorem k0_idx303_inb : ∀ (v812 : IVec S16 32) (k0_hw303 : k0_chk303 v812), ∀ a x, ((![v812] : Fin 1 → IVec S16 32) a x).toNat < S1824.size a := fun v812 k0_hw303 => k0_hw303

def k0_chk304 (v815 : IVec S16 32) : Prop :=
  (∀ a x, ((![v815] : Fin 1 → IVec S16 32) a x).toNat < S1824.size a)
theorem k0_idx304_inb : ∀ (v815 : IVec S16 32) (k0_hw304 : k0_chk304 v815), ∀ a x, ((![v815] : Fin 1 → IVec S16 32) a x).toNat < S1824.size a := fun v815 k0_hw304 => k0_hw304
def k0_off73 (k0_t15 : Fin k0_t15_loop.trips) : Fin 1 → Nat :=
  let c0_i32_560 : BitVec 32 := 0#32
  let c3072_i32 : BitVec 32 := 3072#32
  let c0_i32_254 : BitVec 32 := 0#32
  let c1_i32_256 : BitVec 32 := 1#32
  let arg23 : BitVec 32 := Scf.iv c0_i32_254 c1_i32_256 k0_t15
  let c16_i32_531 : BitVec 32 := 16#32
  let v688 : BitVec 32 := Scalar.muli arg23 c16_i32_531
  let v689 : BitVec 32 := Scalar.addi c3072_i32 v688
  let v827 : BitVec 32 := Scalar.addi c0_i32_560 v689
  let v828 : Index := Scalar.indexCast v827
  ![v828.toNat]

def k0_chk305 (v831 : IVec S16 32) : Prop :=
  (∀ a x, ((![v831] : Fin 1 → IVec S16 32) a x).toNat < S1824.size a)
theorem k0_idx305_inb : ∀ (v831 : IVec S16 32) (k0_hw305 : k0_chk305 v831), ∀ a x, ((![v831] : Fin 1 → IVec S16 32) a x).toNat < S1824.size a := fun v831 k0_hw305 => k0_hw305

def k0_chk306 (v834 : IVec S16 32) : Prop :=
  (∀ a x, ((![v834] : Fin 1 → IVec S16 32) a x).toNat < S1824.size a)
theorem k0_idx306_inb : ∀ (v834 : IVec S16 32) (k0_hw306 : k0_chk306 v834), ∀ a x, ((![v834] : Fin 1 → IVec S16 32) a x).toNat < S1824.size a := fun v834 k0_hw306 => k0_hw306

def k0_chk307 (v837 : IVec S16 32) : Prop :=
  (∀ a x, ((![v837] : Fin 1 → IVec S16 32) a x).toNat < S1824.size a)
theorem k0_idx307_inb : ∀ (v837 : IVec S16 32) (k0_hw307 : k0_chk307 v837), ∀ a x, ((![v837] : Fin 1 → IVec S16 32) a x).toNat < S1824.size a := fun v837 k0_hw307 => k0_hw307

def k0_chk308 (v840 : IVec S16 32) : Prop :=
  (∀ a x, ((![v840] : Fin 1 → IVec S16 32) a x).toNat < S1824.size a)
theorem k0_idx308_inb : ∀ (v840 : IVec S16 32) (k0_hw308 : k0_chk308 v840), ∀ a x, ((![v840] : Fin 1 → IVec S16 32) a x).toNat < S1824.size a := fun v840 k0_hw308 => k0_hw308

def k0_chk309 (v853 : IVec S16 32) : Prop :=
  (∀ a x, ((![v853] : Fin 1 → IVec S16 32) a x).toNat < S1824.size a)
theorem k0_idx309_inb : ∀ (v853 : IVec S16 32) (k0_hw309 : k0_chk309 v853), ∀ a x, ((![v853] : Fin 1 → IVec S16 32) a x).toNat < S1824.size a := fun v853 k0_hw309 => k0_hw309

def k0_chk310 (v856 : IVec S16 32) : Prop :=
  (∀ a x, ((![v856] : Fin 1 → IVec S16 32) a x).toNat < S1824.size a)
theorem k0_idx310_inb : ∀ (v856 : IVec S16 32) (k0_hw310 : k0_chk310 v856), ∀ a x, ((![v856] : Fin 1 → IVec S16 32) a x).toNat < S1824.size a := fun v856 k0_hw310 => k0_hw310

def k0_chk311 (v859 : IVec S16 32) : Prop :=
  (∀ a x, ((![v859] : Fin 1 → IVec S16 32) a x).toNat < S1824.size a)
theorem k0_idx311_inb : ∀ (v859 : IVec S16 32) (k0_hw311 : k0_chk311 v859), ∀ a x, ((![v859] : Fin 1 → IVec S16 32) a x).toNat < S1824.size a := fun v859 k0_hw311 => k0_hw311

def k0_chk312 (v862 : IVec S16 32) : Prop :=
  (∀ a x, ((![v862] : Fin 1 → IVec S16 32) a x).toNat < S1824.size a)
theorem k0_idx312_inb : ∀ (v862 : IVec S16 32) (k0_hw312 : k0_chk312 v862), ∀ a x, ((![v862] : Fin 1 → IVec S16 32) a x).toNat < S1824.size a := fun v862 k0_hw312 => k0_hw312

def k0_chk313 (v876 : IVec S16 32) : Prop :=
  (∀ a x, ((![v876] : Fin 1 → IVec S16 32) a x).toNat < S1824.size a)
theorem k0_idx313_inb : ∀ (v876 : IVec S16 32) (k0_hw313 : k0_chk313 v876), ∀ a x, ((![v876] : Fin 1 → IVec S16 32) a x).toNat < S1824.size a := fun v876 k0_hw313 => k0_hw313

def k0_chk314 (v879 : IVec S16 32) : Prop :=
  (∀ a x, ((![v879] : Fin 1 → IVec S16 32) a x).toNat < S1824.size a)
theorem k0_idx314_inb : ∀ (v879 : IVec S16 32) (k0_hw314 : k0_chk314 v879), ∀ a x, ((![v879] : Fin 1 → IVec S16 32) a x).toNat < S1824.size a := fun v879 k0_hw314 => k0_hw314

def k0_chk315 (v882 : IVec S16 32) : Prop :=
  (∀ a x, ((![v882] : Fin 1 → IVec S16 32) a x).toNat < S1824.size a)
theorem k0_idx315_inb : ∀ (v882 : IVec S16 32) (k0_hw315 : k0_chk315 v882), ∀ a x, ((![v882] : Fin 1 → IVec S16 32) a x).toNat < S1824.size a := fun v882 k0_hw315 => k0_hw315

def k0_chk316 (v885 : IVec S16 32) : Prop :=
  (∀ a x, ((![v885] : Fin 1 → IVec S16 32) a x).toNat < S1824.size a)
theorem k0_idx316_inb : ∀ (v885 : IVec S16 32) (k0_hw316 : k0_chk316 v885), ∀ a x, ((![v885] : Fin 1 → IVec S16 32) a x).toNat < S1824.size a := fun v885 k0_hw316 => k0_hw316

def k0_chk317 (v899 : IVec S16 32) : Prop :=
  (∀ a x, ((![v899] : Fin 1 → IVec S16 32) a x).toNat < S1824.size a)
theorem k0_idx317_inb : ∀ (v899 : IVec S16 32) (k0_hw317 : k0_chk317 v899), ∀ a x, ((![v899] : Fin 1 → IVec S16 32) a x).toNat < S1824.size a := fun v899 k0_hw317 => k0_hw317

def k0_chk318 (v902 : IVec S16 32) : Prop :=
  (∀ a x, ((![v902] : Fin 1 → IVec S16 32) a x).toNat < S1824.size a)
theorem k0_idx318_inb : ∀ (v902 : IVec S16 32) (k0_hw318 : k0_chk318 v902), ∀ a x, ((![v902] : Fin 1 → IVec S16 32) a x).toNat < S1824.size a := fun v902 k0_hw318 => k0_hw318

def k0_chk319 (v905 : IVec S16 32) : Prop :=
  (∀ a x, ((![v905] : Fin 1 → IVec S16 32) a x).toNat < S1824.size a)
theorem k0_idx319_inb : ∀ (v905 : IVec S16 32) (k0_hw319 : k0_chk319 v905), ∀ a x, ((![v905] : Fin 1 → IVec S16 32) a x).toNat < S1824.size a := fun v905 k0_hw319 => k0_hw319

def k0_chk320 (v908 : IVec S16 32) : Prop :=
  (∀ a x, ((![v908] : Fin 1 → IVec S16 32) a x).toNat < S1824.size a)
theorem k0_idx320_inb : ∀ (v908 : IVec S16 32) (k0_hw320 : k0_chk320 v908), ∀ a x, ((![v908] : Fin 1 → IVec S16 32) a x).toNat < S1824.size a := fun v908 k0_hw320 => k0_hw320
def k0_off74 (k0_t15 : Fin k0_t15_loop.trips) : Fin 1 → Nat :=
  let c4096_i32_573 : BitVec 32 := 4096#32
  let c3072_i32 : BitVec 32 := 3072#32
  let c0_i32_254 : BitVec 32 := 0#32
  let c1_i32_256 : BitVec 32 := 1#32
  let arg23 : BitVec 32 := Scf.iv c0_i32_254 c1_i32_256 k0_t15
  let c16_i32_531 : BitVec 32 := 16#32
  let v688 : BitVec 32 := Scalar.muli arg23 c16_i32_531
  let v689 : BitVec 32 := Scalar.addi c3072_i32 v688
  let v920 : BitVec 32 := Scalar.addi c4096_i32_573 v689
  let v921 : Index := Scalar.indexCast v920
  ![v921.toNat]

def k0_chk321 (v924 : IVec S16 32) : Prop :=
  (∀ a x, ((![v924] : Fin 1 → IVec S16 32) a x).toNat < S1824.size a)
theorem k0_idx321_inb : ∀ (v924 : IVec S16 32) (k0_hw321 : k0_chk321 v924), ∀ a x, ((![v924] : Fin 1 → IVec S16 32) a x).toNat < S1824.size a := fun v924 k0_hw321 => k0_hw321

def k0_chk322 (v927 : IVec S16 32) : Prop :=
  (∀ a x, ((![v927] : Fin 1 → IVec S16 32) a x).toNat < S1824.size a)
theorem k0_idx322_inb : ∀ (v927 : IVec S16 32) (k0_hw322 : k0_chk322 v927), ∀ a x, ((![v927] : Fin 1 → IVec S16 32) a x).toNat < S1824.size a := fun v927 k0_hw322 => k0_hw322

def k0_chk323 (v930 : IVec S16 32) : Prop :=
  (∀ a x, ((![v930] : Fin 1 → IVec S16 32) a x).toNat < S1824.size a)
theorem k0_idx323_inb : ∀ (v930 : IVec S16 32) (k0_hw323 : k0_chk323 v930), ∀ a x, ((![v930] : Fin 1 → IVec S16 32) a x).toNat < S1824.size a := fun v930 k0_hw323 => k0_hw323

def k0_chk324 (v933 : IVec S16 32) : Prop :=
  (∀ a x, ((![v933] : Fin 1 → IVec S16 32) a x).toNat < S1824.size a)
theorem k0_idx324_inb : ∀ (v933 : IVec S16 32) (k0_hw324 : k0_chk324 v933), ∀ a x, ((![v933] : Fin 1 → IVec S16 32) a x).toNat < S1824.size a := fun v933 k0_hw324 => k0_hw324

def k0_chk325 (v946 : IVec S16 32) : Prop :=
  (∀ a x, ((![v946] : Fin 1 → IVec S16 32) a x).toNat < S1824.size a)
theorem k0_idx325_inb : ∀ (v946 : IVec S16 32) (k0_hw325 : k0_chk325 v946), ∀ a x, ((![v946] : Fin 1 → IVec S16 32) a x).toNat < S1824.size a := fun v946 k0_hw325 => k0_hw325

def k0_chk326 (v949 : IVec S16 32) : Prop :=
  (∀ a x, ((![v949] : Fin 1 → IVec S16 32) a x).toNat < S1824.size a)
theorem k0_idx326_inb : ∀ (v949 : IVec S16 32) (k0_hw326 : k0_chk326 v949), ∀ a x, ((![v949] : Fin 1 → IVec S16 32) a x).toNat < S1824.size a := fun v949 k0_hw326 => k0_hw326

def k0_chk327 (v952 : IVec S16 32) : Prop :=
  (∀ a x, ((![v952] : Fin 1 → IVec S16 32) a x).toNat < S1824.size a)
theorem k0_idx327_inb : ∀ (v952 : IVec S16 32) (k0_hw327 : k0_chk327 v952), ∀ a x, ((![v952] : Fin 1 → IVec S16 32) a x).toNat < S1824.size a := fun v952 k0_hw327 => k0_hw327

def k0_chk328 (v955 : IVec S16 32) : Prop :=
  (∀ a x, ((![v955] : Fin 1 → IVec S16 32) a x).toNat < S1824.size a)
theorem k0_idx328_inb : ∀ (v955 : IVec S16 32) (k0_hw328 : k0_chk328 v955), ∀ a x, ((![v955] : Fin 1 → IVec S16 32) a x).toNat < S1824.size a := fun v955 k0_hw328 => k0_hw328

def k0_chk329 (v969 : IVec S16 32) : Prop :=
  (∀ a x, ((![v969] : Fin 1 → IVec S16 32) a x).toNat < S1824.size a)
theorem k0_idx329_inb : ∀ (v969 : IVec S16 32) (k0_hw329 : k0_chk329 v969), ∀ a x, ((![v969] : Fin 1 → IVec S16 32) a x).toNat < S1824.size a := fun v969 k0_hw329 => k0_hw329

def k0_chk330 (v972 : IVec S16 32) : Prop :=
  (∀ a x, ((![v972] : Fin 1 → IVec S16 32) a x).toNat < S1824.size a)
theorem k0_idx330_inb : ∀ (v972 : IVec S16 32) (k0_hw330 : k0_chk330 v972), ∀ a x, ((![v972] : Fin 1 → IVec S16 32) a x).toNat < S1824.size a := fun v972 k0_hw330 => k0_hw330

def k0_chk331 (v975 : IVec S16 32) : Prop :=
  (∀ a x, ((![v975] : Fin 1 → IVec S16 32) a x).toNat < S1824.size a)
theorem k0_idx331_inb : ∀ (v975 : IVec S16 32) (k0_hw331 : k0_chk331 v975), ∀ a x, ((![v975] : Fin 1 → IVec S16 32) a x).toNat < S1824.size a := fun v975 k0_hw331 => k0_hw331

def k0_chk332 (v978 : IVec S16 32) : Prop :=
  (∀ a x, ((![v978] : Fin 1 → IVec S16 32) a x).toNat < S1824.size a)
theorem k0_idx332_inb : ∀ (v978 : IVec S16 32) (k0_hw332 : k0_chk332 v978), ∀ a x, ((![v978] : Fin 1 → IVec S16 32) a x).toNat < S1824.size a := fun v978 k0_hw332 => k0_hw332

def k0_chk333 (v992 : IVec S16 32) : Prop :=
  (∀ a x, ((![v992] : Fin 1 → IVec S16 32) a x).toNat < S1824.size a)
theorem k0_idx333_inb : ∀ (v992 : IVec S16 32) (k0_hw333 : k0_chk333 v992), ∀ a x, ((![v992] : Fin 1 → IVec S16 32) a x).toNat < S1824.size a := fun v992 k0_hw333 => k0_hw333

def k0_chk334 (v995 : IVec S16 32) : Prop :=
  (∀ a x, ((![v995] : Fin 1 → IVec S16 32) a x).toNat < S1824.size a)
theorem k0_idx334_inb : ∀ (v995 : IVec S16 32) (k0_hw334 : k0_chk334 v995), ∀ a x, ((![v995] : Fin 1 → IVec S16 32) a x).toNat < S1824.size a := fun v995 k0_hw334 => k0_hw334

def k0_chk335 (v998 : IVec S16 32) : Prop :=
  (∀ a x, ((![v998] : Fin 1 → IVec S16 32) a x).toNat < S1824.size a)
theorem k0_idx335_inb : ∀ (v998 : IVec S16 32) (k0_hw335 : k0_chk335 v998), ∀ a x, ((![v998] : Fin 1 → IVec S16 32) a x).toNat < S1824.size a := fun v998 k0_hw335 => k0_hw335

def k0_chk336 (v1001 : IVec S16 32) : Prop :=
  (∀ a x, ((![v1001] : Fin 1 → IVec S16 32) a x).toNat < S1824.size a)
theorem k0_idx336_inb : ∀ (v1001 : IVec S16 32) (k0_hw336 : k0_chk336 v1001), ∀ a x, ((![v1001] : Fin 1 → IVec S16 32) a x).toNat < S1824.size a := fun v1001 k0_hw336 => k0_hw336
def k0_off75 (k0_t15 : Fin k0_t15_loop.trips) : Fin 1 → Nat :=
  let c8192_i32_586 : BitVec 32 := 8192#32
  let c3072_i32 : BitVec 32 := 3072#32
  let c0_i32_254 : BitVec 32 := 0#32
  let c1_i32_256 : BitVec 32 := 1#32
  let arg23 : BitVec 32 := Scf.iv c0_i32_254 c1_i32_256 k0_t15
  let c16_i32_531 : BitVec 32 := 16#32
  let v688 : BitVec 32 := Scalar.muli arg23 c16_i32_531
  let v689 : BitVec 32 := Scalar.addi c3072_i32 v688
  let v1013 : BitVec 32 := Scalar.addi c8192_i32_586 v689
  let v1014 : Index := Scalar.indexCast v1013
  ![v1014.toNat]
@[reducible] def k0_t16_loop : Scf.Loop 32 :=
  let c0_i32_271 : BitVec 32 := 0#32
  let c96_i32_272 : BitVec 32 := 96#32
  let v388 : BitVec 32 := Scalar.addi c0_i32_271 c96_i32_272
  let c1_i32_273 : BitVec 32 := 1#32
  ⟨c0_i32_271, v388, c1_i32_273⟩
def k0_off76 (i : grid0.Coords) (k0_t1 : Fin k0_t1_loop.trips) (k0_t16 : Fin k0_t16_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_271 : BitVec 32 := 0#32
  let c1_i32_273 : BitVec 32 := 1#32
  let arg23 : BitVec 32 := Scf.iv c0_i32_271 c1_i32_273 k0_t16
  let c256_i32 : BitVec 32 := 256#32
  let v688 : BitVec 32 := Scalar.muli arg23 c256_i32
  let v689 : BitVec 32 := Scalar.addi v40 v688
  let c15_i32_261 : BitVec 32 := 15#32
  let c0_i32_260 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_95 : BitVec 32 := 16#32
  let v193 : BitVec 32 := Scalar.muli v1 c16_i32_95
  let c2_i32_19 : BitVec 32 := 2#32
  let v37 : BitVec 32 := Scalar.muli arg22 c2_i32_19
  let c2_i32_96 : BitVec 32 := 2#32
  let c0_i32_97 : BitVec 32 := 0#32
  let v194 : BitVec 1 := Scalar.cmpi .eq c2_i32_96 c0_i32_97
  let c1_i32_98 : BitVec 32 := 1#32
  let v195 : BitVec 32 := Scalar.select v194 c1_i32_98 c2_i32_96
  let v196 : BitVec 32 := Scalar.remsi v37 v195
  let c0_i32_100 : BitVec 32 := 0#32
  let v198 : BitVec 1 := Scalar.cmpi .slt v196 c0_i32_100
  let c0_i32_101 : BitVec 32 := 0#32
  let v199 : BitVec 1 := Scalar.cmpi .slt v195 c0_i32_101
  let v200 : BitVec 1 := Scalar.xori v198 v199
  let c0_i32_99 : BitVec 32 := 0#32
  let v197 : BitVec 1 := Scalar.cmpi .ne v196 c0_i32_99
  let v201 : BitVec 1 := Scalar.andi v200 v197
  let v202 : BitVec 32 := Scalar.addi v196 v195
  let v203 : BitVec 32 := Scalar.select v201 v202 v196
  let c8_i32_102 : BitVec 32 := 8#32
  let v204 : BitVec 32 := Scalar.muli v203 c8_i32_102
  let v205 : BitVec 32 := Scalar.addi v193 v204
  let c7_i32 : BitVec 32 := 7#32
  let v367 : BitVec 32 := Scalar.addi v205 c7_i32
  let c16_i32_258 : BitVec 32 := 16#32
  let v368 : BitVec 32 := Scalar.subi v367 c16_i32_258
  let c5_i32_259 : BitVec 32 := 5#32
  let v369 : BitVec 32 := Scalar.shrsi v368 c5_i32_259
  let v370 : BitVec 32 := Scalar.maxsi c0_i32_260 v369
  let v371 : BitVec 32 := Scalar.minsi c15_i32_261 v370
  let c16_i32_262 : BitVec 32 := 16#32
  let v372 : BitVec 32 := Scalar.muli v371 c16_i32_262
  let v690 : BitVec 32 := Scalar.addi v689 v372
  let v691 : Index := Scalar.indexCast v690
  ![v691.toNat]
def k0_off77 (i : grid0.Coords) (k0_t1 : Fin k0_t1_loop.trips) (k0_t16 : Fin k0_t16_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_271 : BitVec 32 := 0#32
  let c1_i32_273 : BitVec 32 := 1#32
  let arg23 : BitVec 32 := Scf.iv c0_i32_271 c1_i32_273 k0_t16
  let c256_i32 : BitVec 32 := 256#32
  let v688 : BitVec 32 := Scalar.muli arg23 c256_i32
  let v689 : BitVec 32 := Scalar.addi v40 v688
  let c15_i32_265 : BitVec 32 := 15#32
  let c0_i32_264 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_95 : BitVec 32 := 16#32
  let v193 : BitVec 32 := Scalar.muli v1 c16_i32_95
  let c2_i32_19 : BitVec 32 := 2#32
  let v37 : BitVec 32 := Scalar.muli arg22 c2_i32_19
  let c2_i32_96 : BitVec 32 := 2#32
  let c0_i32_97 : BitVec 32 := 0#32
  let v194 : BitVec 1 := Scalar.cmpi .eq c2_i32_96 c0_i32_97
  let c1_i32_98 : BitVec 32 := 1#32
  let v195 : BitVec 32 := Scalar.select v194 c1_i32_98 c2_i32_96
  let v196 : BitVec 32 := Scalar.remsi v37 v195
  let c0_i32_100 : BitVec 32 := 0#32
  let v198 : BitVec 1 := Scalar.cmpi .slt v196 c0_i32_100
  let c0_i32_101 : BitVec 32 := 0#32
  let v199 : BitVec 1 := Scalar.cmpi .slt v195 c0_i32_101
  let v200 : BitVec 1 := Scalar.xori v198 v199
  let c0_i32_99 : BitVec 32 := 0#32
  let v197 : BitVec 1 := Scalar.cmpi .ne v196 c0_i32_99
  let v201 : BitVec 1 := Scalar.andi v200 v197
  let v202 : BitVec 32 := Scalar.addi v196 v195
  let v203 : BitVec 32 := Scalar.select v201 v202 v196
  let c8_i32_102 : BitVec 32 := 8#32
  let v204 : BitVec 32 := Scalar.muli v203 c8_i32_102
  let v205 : BitVec 32 := Scalar.addi v193 v204
  let c7_i32 : BitVec 32 := 7#32
  let v367 : BitVec 32 := Scalar.addi v205 c7_i32
  let c16_i32_258 : BitVec 32 := 16#32
  let v368 : BitVec 32 := Scalar.subi v367 c16_i32_258
  let c5_i32_259 : BitVec 32 := 5#32
  let v369 : BitVec 32 := Scalar.shrsi v368 c5_i32_259
  let c1_i32_263 : BitVec 32 := 1#32
  let v373 : BitVec 32 := Scalar.addi v369 c1_i32_263
  let v374 : BitVec 32 := Scalar.maxsi c0_i32_264 v373
  let v375 : BitVec 32 := Scalar.minsi c15_i32_265 v374
  let c16_i32_266 : BitVec 32 := 16#32
  let v376 : BitVec 32 := Scalar.muli v375 c16_i32_266
  let v693 : BitVec 32 := Scalar.addi v689 v376
  let v694 : Index := Scalar.indexCast v693
  ![v694.toNat]
def k0_off78 (k0_t16 : Fin k0_t16_loop.trips) : Fin 1 → Nat :=
  let c0_i32_271 : BitVec 32 := 0#32
  let c1_i32_273 : BitVec 32 := 1#32
  let arg23 : BitVec 32 := Scf.iv c0_i32_271 c1_i32_273 k0_t16
  let c19_i32 : BitVec 32 := 19#32
  let v699 : BitVec 32 := Scalar.muli arg23 c19_i32
  let v700 : Index := Scalar.indexCast v699
  ![v700.toNat]
@[reducible] def k0_t17_loop : Scf.Loop 32 :=
  let c0_i32_276 : BitVec 32 := 0#32
  let c32_i32_277 : BitVec 32 := 32#32
  let v389 : BitVec 32 := Scalar.addi c0_i32_276 c32_i32_277
  let c1_i32_278 : BitVec 32 := 1#32
  ⟨c0_i32_276, v389, c1_i32_278⟩
def k0_off79 (k0_t17 : Fin k0_t17_loop.trips) : Fin 1 → Nat :=
  let c3584_i32 : BitVec 32 := 3584#32
  let c0_i32_276 : BitVec 32 := 0#32
  let c1_i32_278 : BitVec 32 := 1#32
  let arg23 : BitVec 32 := Scf.iv c0_i32_276 c1_i32_278 k0_t17
  let c16_i32_531 : BitVec 32 := 16#32
  let v688 : BitVec 32 := Scalar.muli arg23 c16_i32_531
  let v689 : BitVec 32 := Scalar.addi c3584_i32 v688
  let v690 : Index := Scalar.indexCast v689
  ![v690.toNat]
def k0_off80 (k0_t17 : Fin k0_t17_loop.trips) : Fin 1 → Nat :=
  let c0_i32_276 : BitVec 32 := 0#32
  let c1_i32_278 : BitVec 32 := 1#32
  let arg23 : BitVec 32 := Scf.iv c0_i32_276 c1_i32_278 k0_t17
  let c16_i32_541 : BitVec 32 := 16#32
  let v715 : BitVec 32 := Scalar.muli arg23 c16_i32_541
  let v716 : Index := Scalar.indexCast v715
  ![v716.toNat]
def k0_off81 (k0_t17 : Fin k0_t17_loop.trips) (c0_i32_544 : BitVec 32) : Fin 1 → Nat :=
  let c3584_i32 : BitVec 32 := 3584#32
  let c0_i32_276 : BitVec 32 := 0#32
  let c1_i32_278 : BitVec 32 := 1#32
  let arg23 : BitVec 32 := Scf.iv c0_i32_276 c1_i32_278 k0_t17
  let c16_i32_531 : BitVec 32 := 16#32
  let v688 : BitVec 32 := Scalar.muli arg23 c16_i32_531
  let v689 : BitVec 32 := Scalar.addi c3584_i32 v688
  let v728 : BitVec 32 := Scalar.addi c0_i32_544 v689
  let v729 : Index := Scalar.indexCast v728
  ![v729.toNat]

def k0_chk337 (v738 : IVec S16 32) : Prop :=
  (∀ a x, ((![v738] : Fin 1 → IVec S16 32) a x).toNat < S1824.size a)
theorem k0_idx337_inb : ∀ (v738 : IVec S16 32) (k0_hw337 : k0_chk337 v738), ∀ a x, ((![v738] : Fin 1 → IVec S16 32) a x).toNat < S1824.size a := fun v738 k0_hw337 => k0_hw337

def k0_chk338 (v741 : IVec S16 32) : Prop :=
  (∀ a x, ((![v741] : Fin 1 → IVec S16 32) a x).toNat < S1824.size a)
theorem k0_idx338_inb : ∀ (v741 : IVec S16 32) (k0_hw338 : k0_chk338 v741), ∀ a x, ((![v741] : Fin 1 → IVec S16 32) a x).toNat < S1824.size a := fun v741 k0_hw338 => k0_hw338

def k0_chk339 (v744 : IVec S16 32) : Prop :=
  (∀ a x, ((![v744] : Fin 1 → IVec S16 32) a x).toNat < S1824.size a)
theorem k0_idx339_inb : ∀ (v744 : IVec S16 32) (k0_hw339 : k0_chk339 v744), ∀ a x, ((![v744] : Fin 1 → IVec S16 32) a x).toNat < S1824.size a := fun v744 k0_hw339 => k0_hw339

def k0_chk340 (v747 : IVec S16 32) : Prop :=
  (∀ a x, ((![v747] : Fin 1 → IVec S16 32) a x).toNat < S1824.size a)
theorem k0_idx340_inb : ∀ (v747 : IVec S16 32) (k0_hw340 : k0_chk340 v747), ∀ a x, ((![v747] : Fin 1 → IVec S16 32) a x).toNat < S1824.size a := fun v747 k0_hw340 => k0_hw340

def k0_chk341 (v760 : IVec S16 32) : Prop :=
  (∀ a x, ((![v760] : Fin 1 → IVec S16 32) a x).toNat < S1824.size a)
theorem k0_idx341_inb : ∀ (v760 : IVec S16 32) (k0_hw341 : k0_chk341 v760), ∀ a x, ((![v760] : Fin 1 → IVec S16 32) a x).toNat < S1824.size a := fun v760 k0_hw341 => k0_hw341

def k0_chk342 (v763 : IVec S16 32) : Prop :=
  (∀ a x, ((![v763] : Fin 1 → IVec S16 32) a x).toNat < S1824.size a)
theorem k0_idx342_inb : ∀ (v763 : IVec S16 32) (k0_hw342 : k0_chk342 v763), ∀ a x, ((![v763] : Fin 1 → IVec S16 32) a x).toNat < S1824.size a := fun v763 k0_hw342 => k0_hw342

def k0_chk343 (v766 : IVec S16 32) : Prop :=
  (∀ a x, ((![v766] : Fin 1 → IVec S16 32) a x).toNat < S1824.size a)
theorem k0_idx343_inb : ∀ (v766 : IVec S16 32) (k0_hw343 : k0_chk343 v766), ∀ a x, ((![v766] : Fin 1 → IVec S16 32) a x).toNat < S1824.size a := fun v766 k0_hw343 => k0_hw343

def k0_chk344 (v769 : IVec S16 32) : Prop :=
  (∀ a x, ((![v769] : Fin 1 → IVec S16 32) a x).toNat < S1824.size a)
theorem k0_idx344_inb : ∀ (v769 : IVec S16 32) (k0_hw344 : k0_chk344 v769), ∀ a x, ((![v769] : Fin 1 → IVec S16 32) a x).toNat < S1824.size a := fun v769 k0_hw344 => k0_hw344

def k0_chk345 (v783 : IVec S16 32) : Prop :=
  (∀ a x, ((![v783] : Fin 1 → IVec S16 32) a x).toNat < S1824.size a)
theorem k0_idx345_inb : ∀ (v783 : IVec S16 32) (k0_hw345 : k0_chk345 v783), ∀ a x, ((![v783] : Fin 1 → IVec S16 32) a x).toNat < S1824.size a := fun v783 k0_hw345 => k0_hw345

def k0_chk346 (v786 : IVec S16 32) : Prop :=
  (∀ a x, ((![v786] : Fin 1 → IVec S16 32) a x).toNat < S1824.size a)
theorem k0_idx346_inb : ∀ (v786 : IVec S16 32) (k0_hw346 : k0_chk346 v786), ∀ a x, ((![v786] : Fin 1 → IVec S16 32) a x).toNat < S1824.size a := fun v786 k0_hw346 => k0_hw346

def k0_chk347 (v789 : IVec S16 32) : Prop :=
  (∀ a x, ((![v789] : Fin 1 → IVec S16 32) a x).toNat < S1824.size a)
theorem k0_idx347_inb : ∀ (v789 : IVec S16 32) (k0_hw347 : k0_chk347 v789), ∀ a x, ((![v789] : Fin 1 → IVec S16 32) a x).toNat < S1824.size a := fun v789 k0_hw347 => k0_hw347

def k0_chk348 (v792 : IVec S16 32) : Prop :=
  (∀ a x, ((![v792] : Fin 1 → IVec S16 32) a x).toNat < S1824.size a)
theorem k0_idx348_inb : ∀ (v792 : IVec S16 32) (k0_hw348 : k0_chk348 v792), ∀ a x, ((![v792] : Fin 1 → IVec S16 32) a x).toNat < S1824.size a := fun v792 k0_hw348 => k0_hw348

def k0_chk349 (v806 : IVec S16 32) : Prop :=
  (∀ a x, ((![v806] : Fin 1 → IVec S16 32) a x).toNat < S1824.size a)
theorem k0_idx349_inb : ∀ (v806 : IVec S16 32) (k0_hw349 : k0_chk349 v806), ∀ a x, ((![v806] : Fin 1 → IVec S16 32) a x).toNat < S1824.size a := fun v806 k0_hw349 => k0_hw349

def k0_chk350 (v809 : IVec S16 32) : Prop :=
  (∀ a x, ((![v809] : Fin 1 → IVec S16 32) a x).toNat < S1824.size a)
theorem k0_idx350_inb : ∀ (v809 : IVec S16 32) (k0_hw350 : k0_chk350 v809), ∀ a x, ((![v809] : Fin 1 → IVec S16 32) a x).toNat < S1824.size a := fun v809 k0_hw350 => k0_hw350

def k0_chk351 (v812 : IVec S16 32) : Prop :=
  (∀ a x, ((![v812] : Fin 1 → IVec S16 32) a x).toNat < S1824.size a)
theorem k0_idx351_inb : ∀ (v812 : IVec S16 32) (k0_hw351 : k0_chk351 v812), ∀ a x, ((![v812] : Fin 1 → IVec S16 32) a x).toNat < S1824.size a := fun v812 k0_hw351 => k0_hw351

def k0_chk352 (v815 : IVec S16 32) : Prop :=
  (∀ a x, ((![v815] : Fin 1 → IVec S16 32) a x).toNat < S1824.size a)
theorem k0_idx352_inb : ∀ (v815 : IVec S16 32) (k0_hw352 : k0_chk352 v815), ∀ a x, ((![v815] : Fin 1 → IVec S16 32) a x).toNat < S1824.size a := fun v815 k0_hw352 => k0_hw352
def k0_off82 (k0_t17 : Fin k0_t17_loop.trips) : Fin 1 → Nat :=
  let c0_i32_560 : BitVec 32 := 0#32
  let c3584_i32 : BitVec 32 := 3584#32
  let c0_i32_276 : BitVec 32 := 0#32
  let c1_i32_278 : BitVec 32 := 1#32
  let arg23 : BitVec 32 := Scf.iv c0_i32_276 c1_i32_278 k0_t17
  let c16_i32_531 : BitVec 32 := 16#32
  let v688 : BitVec 32 := Scalar.muli arg23 c16_i32_531
  let v689 : BitVec 32 := Scalar.addi c3584_i32 v688
  let v827 : BitVec 32 := Scalar.addi c0_i32_560 v689
  let v828 : Index := Scalar.indexCast v827
  ![v828.toNat]

def k0_chk353 (v831 : IVec S16 32) : Prop :=
  (∀ a x, ((![v831] : Fin 1 → IVec S16 32) a x).toNat < S1824.size a)
theorem k0_idx353_inb : ∀ (v831 : IVec S16 32) (k0_hw353 : k0_chk353 v831), ∀ a x, ((![v831] : Fin 1 → IVec S16 32) a x).toNat < S1824.size a := fun v831 k0_hw353 => k0_hw353

def k0_chk354 (v834 : IVec S16 32) : Prop :=
  (∀ a x, ((![v834] : Fin 1 → IVec S16 32) a x).toNat < S1824.size a)
theorem k0_idx354_inb : ∀ (v834 : IVec S16 32) (k0_hw354 : k0_chk354 v834), ∀ a x, ((![v834] : Fin 1 → IVec S16 32) a x).toNat < S1824.size a := fun v834 k0_hw354 => k0_hw354

def k0_chk355 (v837 : IVec S16 32) : Prop :=
  (∀ a x, ((![v837] : Fin 1 → IVec S16 32) a x).toNat < S1824.size a)
theorem k0_idx355_inb : ∀ (v837 : IVec S16 32) (k0_hw355 : k0_chk355 v837), ∀ a x, ((![v837] : Fin 1 → IVec S16 32) a x).toNat < S1824.size a := fun v837 k0_hw355 => k0_hw355

def k0_chk356 (v840 : IVec S16 32) : Prop :=
  (∀ a x, ((![v840] : Fin 1 → IVec S16 32) a x).toNat < S1824.size a)
theorem k0_idx356_inb : ∀ (v840 : IVec S16 32) (k0_hw356 : k0_chk356 v840), ∀ a x, ((![v840] : Fin 1 → IVec S16 32) a x).toNat < S1824.size a := fun v840 k0_hw356 => k0_hw356

def k0_chk357 (v853 : IVec S16 32) : Prop :=
  (∀ a x, ((![v853] : Fin 1 → IVec S16 32) a x).toNat < S1824.size a)
theorem k0_idx357_inb : ∀ (v853 : IVec S16 32) (k0_hw357 : k0_chk357 v853), ∀ a x, ((![v853] : Fin 1 → IVec S16 32) a x).toNat < S1824.size a := fun v853 k0_hw357 => k0_hw357

def k0_chk358 (v856 : IVec S16 32) : Prop :=
  (∀ a x, ((![v856] : Fin 1 → IVec S16 32) a x).toNat < S1824.size a)
theorem k0_idx358_inb : ∀ (v856 : IVec S16 32) (k0_hw358 : k0_chk358 v856), ∀ a x, ((![v856] : Fin 1 → IVec S16 32) a x).toNat < S1824.size a := fun v856 k0_hw358 => k0_hw358

def k0_chk359 (v859 : IVec S16 32) : Prop :=
  (∀ a x, ((![v859] : Fin 1 → IVec S16 32) a x).toNat < S1824.size a)
theorem k0_idx359_inb : ∀ (v859 : IVec S16 32) (k0_hw359 : k0_chk359 v859), ∀ a x, ((![v859] : Fin 1 → IVec S16 32) a x).toNat < S1824.size a := fun v859 k0_hw359 => k0_hw359

def k0_chk360 (v862 : IVec S16 32) : Prop :=
  (∀ a x, ((![v862] : Fin 1 → IVec S16 32) a x).toNat < S1824.size a)
theorem k0_idx360_inb : ∀ (v862 : IVec S16 32) (k0_hw360 : k0_chk360 v862), ∀ a x, ((![v862] : Fin 1 → IVec S16 32) a x).toNat < S1824.size a := fun v862 k0_hw360 => k0_hw360

def k0_chk361 (v876 : IVec S16 32) : Prop :=
  (∀ a x, ((![v876] : Fin 1 → IVec S16 32) a x).toNat < S1824.size a)
theorem k0_idx361_inb : ∀ (v876 : IVec S16 32) (k0_hw361 : k0_chk361 v876), ∀ a x, ((![v876] : Fin 1 → IVec S16 32) a x).toNat < S1824.size a := fun v876 k0_hw361 => k0_hw361

def k0_chk362 (v879 : IVec S16 32) : Prop :=
  (∀ a x, ((![v879] : Fin 1 → IVec S16 32) a x).toNat < S1824.size a)
theorem k0_idx362_inb : ∀ (v879 : IVec S16 32) (k0_hw362 : k0_chk362 v879), ∀ a x, ((![v879] : Fin 1 → IVec S16 32) a x).toNat < S1824.size a := fun v879 k0_hw362 => k0_hw362

def k0_chk363 (v882 : IVec S16 32) : Prop :=
  (∀ a x, ((![v882] : Fin 1 → IVec S16 32) a x).toNat < S1824.size a)
theorem k0_idx363_inb : ∀ (v882 : IVec S16 32) (k0_hw363 : k0_chk363 v882), ∀ a x, ((![v882] : Fin 1 → IVec S16 32) a x).toNat < S1824.size a := fun v882 k0_hw363 => k0_hw363

def k0_chk364 (v885 : IVec S16 32) : Prop :=
  (∀ a x, ((![v885] : Fin 1 → IVec S16 32) a x).toNat < S1824.size a)
theorem k0_idx364_inb : ∀ (v885 : IVec S16 32) (k0_hw364 : k0_chk364 v885), ∀ a x, ((![v885] : Fin 1 → IVec S16 32) a x).toNat < S1824.size a := fun v885 k0_hw364 => k0_hw364

def k0_chk365 (v899 : IVec S16 32) : Prop :=
  (∀ a x, ((![v899] : Fin 1 → IVec S16 32) a x).toNat < S1824.size a)
theorem k0_idx365_inb : ∀ (v899 : IVec S16 32) (k0_hw365 : k0_chk365 v899), ∀ a x, ((![v899] : Fin 1 → IVec S16 32) a x).toNat < S1824.size a := fun v899 k0_hw365 => k0_hw365

def k0_chk366 (v902 : IVec S16 32) : Prop :=
  (∀ a x, ((![v902] : Fin 1 → IVec S16 32) a x).toNat < S1824.size a)
theorem k0_idx366_inb : ∀ (v902 : IVec S16 32) (k0_hw366 : k0_chk366 v902), ∀ a x, ((![v902] : Fin 1 → IVec S16 32) a x).toNat < S1824.size a := fun v902 k0_hw366 => k0_hw366

def k0_chk367 (v905 : IVec S16 32) : Prop :=
  (∀ a x, ((![v905] : Fin 1 → IVec S16 32) a x).toNat < S1824.size a)
theorem k0_idx367_inb : ∀ (v905 : IVec S16 32) (k0_hw367 : k0_chk367 v905), ∀ a x, ((![v905] : Fin 1 → IVec S16 32) a x).toNat < S1824.size a := fun v905 k0_hw367 => k0_hw367

def k0_chk368 (v908 : IVec S16 32) : Prop :=
  (∀ a x, ((![v908] : Fin 1 → IVec S16 32) a x).toNat < S1824.size a)
theorem k0_idx368_inb : ∀ (v908 : IVec S16 32) (k0_hw368 : k0_chk368 v908), ∀ a x, ((![v908] : Fin 1 → IVec S16 32) a x).toNat < S1824.size a := fun v908 k0_hw368 => k0_hw368
def k0_off83 (k0_t17 : Fin k0_t17_loop.trips) : Fin 1 → Nat :=
  let c4096_i32_573 : BitVec 32 := 4096#32
  let c3584_i32 : BitVec 32 := 3584#32
  let c0_i32_276 : BitVec 32 := 0#32
  let c1_i32_278 : BitVec 32 := 1#32
  let arg23 : BitVec 32 := Scf.iv c0_i32_276 c1_i32_278 k0_t17
  let c16_i32_531 : BitVec 32 := 16#32
  let v688 : BitVec 32 := Scalar.muli arg23 c16_i32_531
  let v689 : BitVec 32 := Scalar.addi c3584_i32 v688
  let v920 : BitVec 32 := Scalar.addi c4096_i32_573 v689
  let v921 : Index := Scalar.indexCast v920
  ![v921.toNat]

def k0_chk369 (v924 : IVec S16 32) : Prop :=
  (∀ a x, ((![v924] : Fin 1 → IVec S16 32) a x).toNat < S1824.size a)
theorem k0_idx369_inb : ∀ (v924 : IVec S16 32) (k0_hw369 : k0_chk369 v924), ∀ a x, ((![v924] : Fin 1 → IVec S16 32) a x).toNat < S1824.size a := fun v924 k0_hw369 => k0_hw369

def k0_chk370 (v927 : IVec S16 32) : Prop :=
  (∀ a x, ((![v927] : Fin 1 → IVec S16 32) a x).toNat < S1824.size a)
theorem k0_idx370_inb : ∀ (v927 : IVec S16 32) (k0_hw370 : k0_chk370 v927), ∀ a x, ((![v927] : Fin 1 → IVec S16 32) a x).toNat < S1824.size a := fun v927 k0_hw370 => k0_hw370

def k0_chk371 (v930 : IVec S16 32) : Prop :=
  (∀ a x, ((![v930] : Fin 1 → IVec S16 32) a x).toNat < S1824.size a)
theorem k0_idx371_inb : ∀ (v930 : IVec S16 32) (k0_hw371 : k0_chk371 v930), ∀ a x, ((![v930] : Fin 1 → IVec S16 32) a x).toNat < S1824.size a := fun v930 k0_hw371 => k0_hw371

def k0_chk372 (v933 : IVec S16 32) : Prop :=
  (∀ a x, ((![v933] : Fin 1 → IVec S16 32) a x).toNat < S1824.size a)
theorem k0_idx372_inb : ∀ (v933 : IVec S16 32) (k0_hw372 : k0_chk372 v933), ∀ a x, ((![v933] : Fin 1 → IVec S16 32) a x).toNat < S1824.size a := fun v933 k0_hw372 => k0_hw372

def k0_chk373 (v946 : IVec S16 32) : Prop :=
  (∀ a x, ((![v946] : Fin 1 → IVec S16 32) a x).toNat < S1824.size a)
theorem k0_idx373_inb : ∀ (v946 : IVec S16 32) (k0_hw373 : k0_chk373 v946), ∀ a x, ((![v946] : Fin 1 → IVec S16 32) a x).toNat < S1824.size a := fun v946 k0_hw373 => k0_hw373

def k0_chk374 (v949 : IVec S16 32) : Prop :=
  (∀ a x, ((![v949] : Fin 1 → IVec S16 32) a x).toNat < S1824.size a)
theorem k0_idx374_inb : ∀ (v949 : IVec S16 32) (k0_hw374 : k0_chk374 v949), ∀ a x, ((![v949] : Fin 1 → IVec S16 32) a x).toNat < S1824.size a := fun v949 k0_hw374 => k0_hw374

def k0_chk375 (v952 : IVec S16 32) : Prop :=
  (∀ a x, ((![v952] : Fin 1 → IVec S16 32) a x).toNat < S1824.size a)
theorem k0_idx375_inb : ∀ (v952 : IVec S16 32) (k0_hw375 : k0_chk375 v952), ∀ a x, ((![v952] : Fin 1 → IVec S16 32) a x).toNat < S1824.size a := fun v952 k0_hw375 => k0_hw375

def k0_chk376 (v955 : IVec S16 32) : Prop :=
  (∀ a x, ((![v955] : Fin 1 → IVec S16 32) a x).toNat < S1824.size a)
theorem k0_idx376_inb : ∀ (v955 : IVec S16 32) (k0_hw376 : k0_chk376 v955), ∀ a x, ((![v955] : Fin 1 → IVec S16 32) a x).toNat < S1824.size a := fun v955 k0_hw376 => k0_hw376

def k0_chk377 (v969 : IVec S16 32) : Prop :=
  (∀ a x, ((![v969] : Fin 1 → IVec S16 32) a x).toNat < S1824.size a)
theorem k0_idx377_inb : ∀ (v969 : IVec S16 32) (k0_hw377 : k0_chk377 v969), ∀ a x, ((![v969] : Fin 1 → IVec S16 32) a x).toNat < S1824.size a := fun v969 k0_hw377 => k0_hw377

def k0_chk378 (v972 : IVec S16 32) : Prop :=
  (∀ a x, ((![v972] : Fin 1 → IVec S16 32) a x).toNat < S1824.size a)
theorem k0_idx378_inb : ∀ (v972 : IVec S16 32) (k0_hw378 : k0_chk378 v972), ∀ a x, ((![v972] : Fin 1 → IVec S16 32) a x).toNat < S1824.size a := fun v972 k0_hw378 => k0_hw378

def k0_chk379 (v975 : IVec S16 32) : Prop :=
  (∀ a x, ((![v975] : Fin 1 → IVec S16 32) a x).toNat < S1824.size a)
theorem k0_idx379_inb : ∀ (v975 : IVec S16 32) (k0_hw379 : k0_chk379 v975), ∀ a x, ((![v975] : Fin 1 → IVec S16 32) a x).toNat < S1824.size a := fun v975 k0_hw379 => k0_hw379

def k0_chk380 (v978 : IVec S16 32) : Prop :=
  (∀ a x, ((![v978] : Fin 1 → IVec S16 32) a x).toNat < S1824.size a)
theorem k0_idx380_inb : ∀ (v978 : IVec S16 32) (k0_hw380 : k0_chk380 v978), ∀ a x, ((![v978] : Fin 1 → IVec S16 32) a x).toNat < S1824.size a := fun v978 k0_hw380 => k0_hw380

def k0_chk381 (v992 : IVec S16 32) : Prop :=
  (∀ a x, ((![v992] : Fin 1 → IVec S16 32) a x).toNat < S1824.size a)
theorem k0_idx381_inb : ∀ (v992 : IVec S16 32) (k0_hw381 : k0_chk381 v992), ∀ a x, ((![v992] : Fin 1 → IVec S16 32) a x).toNat < S1824.size a := fun v992 k0_hw381 => k0_hw381

def k0_chk382 (v995 : IVec S16 32) : Prop :=
  (∀ a x, ((![v995] : Fin 1 → IVec S16 32) a x).toNat < S1824.size a)
theorem k0_idx382_inb : ∀ (v995 : IVec S16 32) (k0_hw382 : k0_chk382 v995), ∀ a x, ((![v995] : Fin 1 → IVec S16 32) a x).toNat < S1824.size a := fun v995 k0_hw382 => k0_hw382

def k0_chk383 (v998 : IVec S16 32) : Prop :=
  (∀ a x, ((![v998] : Fin 1 → IVec S16 32) a x).toNat < S1824.size a)
theorem k0_idx383_inb : ∀ (v998 : IVec S16 32) (k0_hw383 : k0_chk383 v998), ∀ a x, ((![v998] : Fin 1 → IVec S16 32) a x).toNat < S1824.size a := fun v998 k0_hw383 => k0_hw383

def k0_chk384 (v1001 : IVec S16 32) : Prop :=
  (∀ a x, ((![v1001] : Fin 1 → IVec S16 32) a x).toNat < S1824.size a)
theorem k0_idx384_inb : ∀ (v1001 : IVec S16 32) (k0_hw384 : k0_chk384 v1001), ∀ a x, ((![v1001] : Fin 1 → IVec S16 32) a x).toNat < S1824.size a := fun v1001 k0_hw384 => k0_hw384
def k0_off84 (k0_t17 : Fin k0_t17_loop.trips) : Fin 1 → Nat :=
  let c8192_i32_586 : BitVec 32 := 8192#32
  let c3584_i32 : BitVec 32 := 3584#32
  let c0_i32_276 : BitVec 32 := 0#32
  let c1_i32_278 : BitVec 32 := 1#32
  let arg23 : BitVec 32 := Scf.iv c0_i32_276 c1_i32_278 k0_t17
  let c16_i32_531 : BitVec 32 := 16#32
  let v688 : BitVec 32 := Scalar.muli arg23 c16_i32_531
  let v689 : BitVec 32 := Scalar.addi c3584_i32 v688
  let v1013 : BitVec 32 := Scalar.addi c8192_i32_586 v689
  let v1014 : Index := Scalar.indexCast v1013
  ![v1014.toNat]
def k0_cond2 (k0_t1 : Fin k0_t1_loop.trips) : BitVec 1 :=
  let c0_i32_16 : BitVec 32 := 0#32
  let c1_i32_17 : BitVec 32 := 1#32
  let arg22 : BitVec 32 := Scf.iv c0_i32_16 c1_i32_17 k0_t1
  let c2_i32_19 : BitVec 32 := 2#32
  let v37 : BitVec 32 := Scalar.muli arg22 c2_i32_19
  let c2_i32_289 : BitVec 32 := 2#32
  let v399 : BitVec 32 := Scalar.addi v37 c2_i32_289
  let c8_i32_290 : BitVec 32 := 8#32
  let v400 : BitVec 1 := Scalar.cmpi .slt v399 c8_i32_290
  let v401 : BitVec 32 := Scalar.extui v400
  let c0_i32_291 : BitVec 32 := 0#32
  let v402 : BitVec 1 := Scalar.cmpi .ne v401 c0_i32_291
  v402

def k0_off85 (i : grid0.Coords) (k0_t1 : Fin k0_t1_loop.trips) : Fin 2 → Nat :=
  let c0_i32_16 : BitVec 32 := 0#32
  let c1_i32_17 : BitVec 32 := 1#32
  let arg22 : BitVec 32 := Scf.iv c0_i32_16 c1_i32_17 k0_t1
  let c2_i32_19 : BitVec 32 := 2#32
  let v37 : BitVec 32 := Scalar.muli arg22 c2_i32_19
  let c2_i32_531 : BitVec 32 := 2#32
  let v688 : BitVec 32 := Scalar.addi v37 c2_i32_531
  let c0_i32_533 : BitVec 32 := 0#32
  let v690 : BitVec 1 := Scalar.cmpi .sgt v688 c0_i32_533
  let v691 : BitVec 32 := Scalar.extui v690
  let c0_i32_534 : BitVec 32 := 0#32
  let v692 : BitVec 1 := Scalar.cmpi .slt v688 c0_i32_534
  let v693 : BitVec 32 := Scalar.extui v692
  let v694 : BitVec 32 := Scalar.subi v691 v693
  let c2_i32_532 : BitVec 32 := 2#32
  let c0_i32_535 : BitVec 32 := 0#32
  let v695 : BitVec 1 := Scalar.cmpi .sgt c2_i32_532 c0_i32_535
  let v696 : BitVec 32 := Scalar.extui v695
  let c0_i32_536 : BitVec 32 := 0#32
  let v697 : BitVec 1 := Scalar.cmpi .slt c2_i32_532 c0_i32_536
  let v698 : BitVec 32 := Scalar.extui v697
  let v699 : BitVec 32 := Scalar.subi v696 v698
  let v700 : BitVec 1 := Scalar.cmpi .ne v694 v699
  let v701 : BitVec 32 := Scalar.remsi v688 c2_i32_532
  let c0_i32_537 : BitVec 32 := 0#32
  let v702 : BitVec 1 := Scalar.cmpi .ne v701 c0_i32_537
  let v703 : BitVec 1 := Scalar.andi v700 v702
  let v689 : BitVec 32 := Scalar.divsi v688 c2_i32_532
  let c1_i32_538 : BitVec 32 := 1#32
  let v704 : BitVec 32 := Scalar.subi v689 c1_i32_538
  let v705 : BitVec 32 := Scalar.select v703 v704 v689
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_539 : BitVec 32 := 16#32
  let v706 : BitVec 32 := Scalar.muli v1 c16_i32_539
  let c2_i32_540 : BitVec 32 := 2#32
  let c0_i32_541 : BitVec 32 := 0#32
  let v707 : BitVec 1 := Scalar.cmpi .eq c2_i32_540 c0_i32_541
  let c1_i32_542 : BitVec 32 := 1#32
  let v708 : BitVec 32 := Scalar.select v707 c1_i32_542 c2_i32_540
  let v709 : BitVec 32 := Scalar.remsi v688 v708
  let c0_i32_544 : BitVec 32 := 0#32
  let v711 : BitVec 1 := Scalar.cmpi .slt v709 c0_i32_544
  let c0_i32_545 : BitVec 32 := 0#32
  let v712 : BitVec 1 := Scalar.cmpi .slt v708 c0_i32_545
  let v713 : BitVec 1 := Scalar.xori v711 v712
  let c0_i32_543 : BitVec 32 := 0#32
  let v710 : BitVec 1 := Scalar.cmpi .ne v709 c0_i32_543
  let v714 : BitVec 1 := Scalar.andi v713 v710
  let v715 : BitVec 32 := Scalar.addi v709 v708
  let v716 : BitVec 32 := Scalar.select v714 v715 v709
  let c8_i32_546 : BitVec 32 := 8#32
  let v717 : BitVec 32 := Scalar.muli v716 c8_i32_546
  let v718 : BitVec 32 := Scalar.addi v706 v717
  let c512_i32_547 : BitVec 32 := 512#32
  let v719 : BitVec 32 := Scalar.muli v718 c512_i32_547
  ![v705.toNat, v719.toNat]
def k0_off86 (i : grid0.Coords) (k0_t1 : Fin k0_t1_loop.trips) (c0_i32_549 : BitVec 32) : Fin 2 → Nat :=
  let c0_i32_16 : BitVec 32 := 0#32
  let c1_i32_17 : BitVec 32 := 1#32
  let arg22 : BitVec 32 := Scf.iv c0_i32_16 c1_i32_17 k0_t1
  let c2_i32_19 : BitVec 32 := 2#32
  let v37 : BitVec 32 := Scalar.muli arg22 c2_i32_19
  let c2_i32_531 : BitVec 32 := 2#32
  let v688 : BitVec 32 := Scalar.addi v37 c2_i32_531
  let c0_i32_533 : BitVec 32 := 0#32
  let v690 : BitVec 1 := Scalar.cmpi .sgt v688 c0_i32_533
  let v691 : BitVec 32 := Scalar.extui v690
  let c0_i32_534 : BitVec 32 := 0#32
  let v692 : BitVec 1 := Scalar.cmpi .slt v688 c0_i32_534
  let v693 : BitVec 32 := Scalar.extui v692
  let v694 : BitVec 32 := Scalar.subi v691 v693
  let c2_i32_532 : BitVec 32 := 2#32
  let c0_i32_535 : BitVec 32 := 0#32
  let v695 : BitVec 1 := Scalar.cmpi .sgt c2_i32_532 c0_i32_535
  let v696 : BitVec 32 := Scalar.extui v695
  let c0_i32_536 : BitVec 32 := 0#32
  let v697 : BitVec 1 := Scalar.cmpi .slt c2_i32_532 c0_i32_536
  let v698 : BitVec 32 := Scalar.extui v697
  let v699 : BitVec 32 := Scalar.subi v696 v698
  let v700 : BitVec 1 := Scalar.cmpi .ne v694 v699
  let v701 : BitVec 32 := Scalar.remsi v688 c2_i32_532
  let c0_i32_537 : BitVec 32 := 0#32
  let v702 : BitVec 1 := Scalar.cmpi .ne v701 c0_i32_537
  let v703 : BitVec 1 := Scalar.andi v700 v702
  let v689 : BitVec 32 := Scalar.divsi v688 c2_i32_532
  let c1_i32_538 : BitVec 32 := 1#32
  let v704 : BitVec 32 := Scalar.subi v689 c1_i32_538
  let v705 : BitVec 32 := Scalar.select v703 v704 v689
  let c3_i32_548 : BitVec 32 := 3#32
  let v720 : BitVec 32 := Scalar.muli v705 c3_i32_548
  let v721 : BitVec 32 := Scalar.addi v720 c0_i32_549
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_539 : BitVec 32 := 16#32
  let v706 : BitVec 32 := Scalar.muli v1 c16_i32_539
  let c2_i32_540 : BitVec 32 := 2#32
  let c0_i32_541 : BitVec 32 := 0#32
  let v707 : BitVec 1 := Scalar.cmpi .eq c2_i32_540 c0_i32_541
  let c1_i32_542 : BitVec 32 := 1#32
  let v708 : BitVec 32 := Scalar.select v707 c1_i32_542 c2_i32_540
  let v709 : BitVec 32 := Scalar.remsi v688 v708
  let c0_i32_544 : BitVec 32 := 0#32
  let v711 : BitVec 1 := Scalar.cmpi .slt v709 c0_i32_544
  let c0_i32_545 : BitVec 32 := 0#32
  let v712 : BitVec 1 := Scalar.cmpi .slt v708 c0_i32_545
  let v713 : BitVec 1 := Scalar.xori v711 v712
  let c0_i32_543 : BitVec 32 := 0#32
  let v710 : BitVec 1 := Scalar.cmpi .ne v709 c0_i32_543
  let v714 : BitVec 1 := Scalar.andi v713 v710
  let v715 : BitVec 32 := Scalar.addi v709 v708
  let v716 : BitVec 32 := Scalar.select v714 v715 v709
  let c8_i32_546 : BitVec 32 := 8#32
  let v717 : BitVec 32 := Scalar.muli v716 c8_i32_546
  let v718 : BitVec 32 := Scalar.addi v706 v717
  let c512_i32_550 : BitVec 32 := 512#32
  let v722 : BitVec 32 := Scalar.muli v718 c512_i32_550
  ![v721.toNat, v722.toNat]
@[reducible] def k0_t18_loop : Scf.Loop 32 :=
  let c0_i32_352 : BitVec 32 := 0#32
  let c96_i32_353 : BitVec 32 := 96#32
  let v516 : BitVec 32 := Scalar.addi c0_i32_352 c96_i32_353
  let c1_i32_354 : BitVec 32 := 1#32
  ⟨c0_i32_352, v516, c1_i32_354⟩
def k0_off87 (i : grid0.Coords) (k0_t1 : Fin k0_t1_loop.trips) (k0_t18 : Fin k0_t18_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_352 : BitVec 32 := 0#32
  let c1_i32_354 : BitVec 32 := 1#32
  let arg23 : BitVec 32 := Scf.iv c0_i32_352 c1_i32_354 k0_t18
  let c256_i32 : BitVec 32 := 256#32
  let v688 : BitVec 32 := Scalar.muli arg23 c256_i32
  let v689 : BitVec 32 := Scalar.addi v40 v688
  let c15_i32_342 : BitVec 32 := 15#32
  let c0_i32_341 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_330 : BitVec 32 := 16#32
  let v482 : BitVec 32 := Scalar.muli v1 c16_i32_330
  let c2_i32_19 : BitVec 32 := 2#32
  let v37 : BitVec 32 := Scalar.muli arg22 c2_i32_19
  let c1_i32_20 : BitVec 32 := 1#32
  let v38 : BitVec 32 := Scalar.addi v37 c1_i32_20
  let c2_i32_331 : BitVec 32 := 2#32
  let c0_i32_332 : BitVec 32 := 0#32
  let v483 : BitVec 1 := Scalar.cmpi .eq c2_i32_331 c0_i32_332
  let c1_i32_333 : BitVec 32 := 1#32
  let v484 : BitVec 32 := Scalar.select v483 c1_i32_333 c2_i32_331
  let v485 : BitVec 32 := Scalar.remsi v38 v484
  let c0_i32_335 : BitVec 32 := 0#32
  let v487 : BitVec 1 := Scalar.cmpi .slt v485 c0_i32_335
  let c0_i32_336 : BitVec 32 := 0#32
  let v488 : BitVec 1 := Scalar.cmpi .slt v484 c0_i32_336
  let v489 : BitVec 1 := Scalar.xori v487 v488
  let c0_i32_334 : BitVec 32 := 0#32
  let v486 : BitVec 1 := Scalar.cmpi .ne v485 c0_i32_334
  let v490 : BitVec 1 := Scalar.andi v489 v486
  let v491 : BitVec 32 := Scalar.addi v485 v484
  let v492 : BitVec 32 := Scalar.select v490 v491 v485
  let c8_i32_337 : BitVec 32 := 8#32
  let v493 : BitVec 32 := Scalar.muli v492 c8_i32_337
  let v494 : BitVec 32 := Scalar.addi v482 v493
  let c0_i32_338 : BitVec 32 := 0#32
  let v495 : BitVec 32 := Scalar.addi v494 c0_i32_338
  let c16_i32_339 : BitVec 32 := 16#32
  let v496 : BitVec 32 := Scalar.subi v495 c16_i32_339
  let c5_i32_340 : BitVec 32 := 5#32
  let v497 : BitVec 32 := Scalar.shrsi v496 c5_i32_340
  let v498 : BitVec 32 := Scalar.maxsi c0_i32_341 v497
  let v499 : BitVec 32 := Scalar.minsi c15_i32_342 v498
  let c16_i32_343 : BitVec 32 := 16#32
  let v500 : BitVec 32 := Scalar.muli v499 c16_i32_343
  let v690 : BitVec 32 := Scalar.addi v689 v500
  let v691 : Index := Scalar.indexCast v690
  ![v691.toNat]
def k0_off88 (i : grid0.Coords) (k0_t1 : Fin k0_t1_loop.trips) (k0_t18 : Fin k0_t18_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_352 : BitVec 32 := 0#32
  let c1_i32_354 : BitVec 32 := 1#32
  let arg23 : BitVec 32 := Scf.iv c0_i32_352 c1_i32_354 k0_t18
  let c256_i32 : BitVec 32 := 256#32
  let v688 : BitVec 32 := Scalar.muli arg23 c256_i32
  let v689 : BitVec 32 := Scalar.addi v40 v688
  let c15_i32_346 : BitVec 32 := 15#32
  let c0_i32_345 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_330 : BitVec 32 := 16#32
  let v482 : BitVec 32 := Scalar.muli v1 c16_i32_330
  let c2_i32_19 : BitVec 32 := 2#32
  let v37 : BitVec 32 := Scalar.muli arg22 c2_i32_19
  let c1_i32_20 : BitVec 32 := 1#32
  let v38 : BitVec 32 := Scalar.addi v37 c1_i32_20
  let c2_i32_331 : BitVec 32 := 2#32
  let c0_i32_332 : BitVec 32 := 0#32
  let v483 : BitVec 1 := Scalar.cmpi .eq c2_i32_331 c0_i32_332
  let c1_i32_333 : BitVec 32 := 1#32
  let v484 : BitVec 32 := Scalar.select v483 c1_i32_333 c2_i32_331
  let v485 : BitVec 32 := Scalar.remsi v38 v484
  let c0_i32_335 : BitVec 32 := 0#32
  let v487 : BitVec 1 := Scalar.cmpi .slt v485 c0_i32_335
  let c0_i32_336 : BitVec 32 := 0#32
  let v488 : BitVec 1 := Scalar.cmpi .slt v484 c0_i32_336
  let v489 : BitVec 1 := Scalar.xori v487 v488
  let c0_i32_334 : BitVec 32 := 0#32
  let v486 : BitVec 1 := Scalar.cmpi .ne v485 c0_i32_334
  let v490 : BitVec 1 := Scalar.andi v489 v486
  let v491 : BitVec 32 := Scalar.addi v485 v484
  let v492 : BitVec 32 := Scalar.select v490 v491 v485
  let c8_i32_337 : BitVec 32 := 8#32
  let v493 : BitVec 32 := Scalar.muli v492 c8_i32_337
  let v494 : BitVec 32 := Scalar.addi v482 v493
  let c0_i32_338 : BitVec 32 := 0#32
  let v495 : BitVec 32 := Scalar.addi v494 c0_i32_338
  let c16_i32_339 : BitVec 32 := 16#32
  let v496 : BitVec 32 := Scalar.subi v495 c16_i32_339
  let c5_i32_340 : BitVec 32 := 5#32
  let v497 : BitVec 32 := Scalar.shrsi v496 c5_i32_340
  let c1_i32_344 : BitVec 32 := 1#32
  let v501 : BitVec 32 := Scalar.addi v497 c1_i32_344
  let v502 : BitVec 32 := Scalar.maxsi c0_i32_345 v501
  let v503 : BitVec 32 := Scalar.minsi c15_i32_346 v502
  let c16_i32_347 : BitVec 32 := 16#32
  let v504 : BitVec 32 := Scalar.muli v503 c16_i32_347
  let v693 : BitVec 32 := Scalar.addi v689 v504
  let v694 : Index := Scalar.indexCast v693
  ![v694.toNat]
def k0_off89 (k0_t18 : Fin k0_t18_loop.trips) : Fin 1 → Nat :=
  let c0_i32_352 : BitVec 32 := 0#32
  let c1_i32_354 : BitVec 32 := 1#32
  let arg23 : BitVec 32 := Scf.iv c0_i32_352 c1_i32_354 k0_t18
  let c19_i32 : BitVec 32 := 19#32
  let v699 : BitVec 32 := Scalar.muli arg23 c19_i32
  let v700 : Index := Scalar.indexCast v699
  ![v700.toNat]
@[reducible] def k0_t19_loop : Scf.Loop 32 :=
  let c0_i32_357 : BitVec 32 := 0#32
  let c32_i32_358 : BitVec 32 := 32#32
  let v517 : BitVec 32 := Scalar.addi c0_i32_357 c32_i32_358
  let c1_i32_359 : BitVec 32 := 1#32
  ⟨c0_i32_357, v517, c1_i32_359⟩
def k0_off90 (k0_t19 : Fin k0_t19_loop.trips) : Fin 1 → Nat :=
  let c0_i32_532 : BitVec 32 := 0#32
  let c0_i32_357 : BitVec 32 := 0#32
  let c1_i32_359 : BitVec 32 := 1#32
  let arg23 : BitVec 32 := Scf.iv c0_i32_357 c1_i32_359 k0_t19
  let c16_i32_531 : BitVec 32 := 16#32
  let v688 : BitVec 32 := Scalar.muli arg23 c16_i32_531
  let v689 : BitVec 32 := Scalar.addi c0_i32_532 v688
  let v690 : Index := Scalar.indexCast v689
  ![v690.toNat]
def k0_off91 (k0_t19 : Fin k0_t19_loop.trips) : Fin 1 → Nat :=
  let c0_i32_357 : BitVec 32 := 0#32
  let c1_i32_359 : BitVec 32 := 1#32
  let arg23 : BitVec 32 := Scf.iv c0_i32_357 c1_i32_359 k0_t19
  let c16_i32_542 : BitVec 32 := 16#32
  let v715 : BitVec 32 := Scalar.muli arg23 c16_i32_542
  let v716 : Index := Scalar.indexCast v715
  ![v716.toNat]
def k0_off92 (k0_t19 : Fin k0_t19_loop.trips) (c0_i32_545 : BitVec 32) : Fin 1 → Nat :=
  let c0_i32_532 : BitVec 32 := 0#32
  let c0_i32_357 : BitVec 32 := 0#32
  let c1_i32_359 : BitVec 32 := 1#32
  let arg23 : BitVec 32 := Scf.iv c0_i32_357 c1_i32_359 k0_t19
  let c16_i32_531 : BitVec 32 := 16#32
  let v688 : BitVec 32 := Scalar.muli arg23 c16_i32_531
  let v689 : BitVec 32 := Scalar.addi c0_i32_532 v688
  let v728 : BitVec 32 := Scalar.addi c0_i32_545 v689
  let v729 : Index := Scalar.indexCast v728
  ![v729.toNat]

def k0_chk385 (v738 : IVec S16 32) : Prop :=
  (∀ a x, ((![v738] : Fin 1 → IVec S16 32) a x).toNat < S1824.size a)
theorem k0_idx385_inb : ∀ (v738 : IVec S16 32) (k0_hw385 : k0_chk385 v738), ∀ a x, ((![v738] : Fin 1 → IVec S16 32) a x).toNat < S1824.size a := fun v738 k0_hw385 => k0_hw385

def k0_chk386 (v741 : IVec S16 32) : Prop :=
  (∀ a x, ((![v741] : Fin 1 → IVec S16 32) a x).toNat < S1824.size a)
theorem k0_idx386_inb : ∀ (v741 : IVec S16 32) (k0_hw386 : k0_chk386 v741), ∀ a x, ((![v741] : Fin 1 → IVec S16 32) a x).toNat < S1824.size a := fun v741 k0_hw386 => k0_hw386

def k0_chk387 (v744 : IVec S16 32) : Prop :=
  (∀ a x, ((![v744] : Fin 1 → IVec S16 32) a x).toNat < S1824.size a)
theorem k0_idx387_inb : ∀ (v744 : IVec S16 32) (k0_hw387 : k0_chk387 v744), ∀ a x, ((![v744] : Fin 1 → IVec S16 32) a x).toNat < S1824.size a := fun v744 k0_hw387 => k0_hw387

def k0_chk388 (v747 : IVec S16 32) : Prop :=
  (∀ a x, ((![v747] : Fin 1 → IVec S16 32) a x).toNat < S1824.size a)
theorem k0_idx388_inb : ∀ (v747 : IVec S16 32) (k0_hw388 : k0_chk388 v747), ∀ a x, ((![v747] : Fin 1 → IVec S16 32) a x).toNat < S1824.size a := fun v747 k0_hw388 => k0_hw388

def k0_chk389 (v760 : IVec S16 32) : Prop :=
  (∀ a x, ((![v760] : Fin 1 → IVec S16 32) a x).toNat < S1824.size a)
theorem k0_idx389_inb : ∀ (v760 : IVec S16 32) (k0_hw389 : k0_chk389 v760), ∀ a x, ((![v760] : Fin 1 → IVec S16 32) a x).toNat < S1824.size a := fun v760 k0_hw389 => k0_hw389

def k0_chk390 (v763 : IVec S16 32) : Prop :=
  (∀ a x, ((![v763] : Fin 1 → IVec S16 32) a x).toNat < S1824.size a)
theorem k0_idx390_inb : ∀ (v763 : IVec S16 32) (k0_hw390 : k0_chk390 v763), ∀ a x, ((![v763] : Fin 1 → IVec S16 32) a x).toNat < S1824.size a := fun v763 k0_hw390 => k0_hw390

def k0_chk391 (v766 : IVec S16 32) : Prop :=
  (∀ a x, ((![v766] : Fin 1 → IVec S16 32) a x).toNat < S1824.size a)
theorem k0_idx391_inb : ∀ (v766 : IVec S16 32) (k0_hw391 : k0_chk391 v766), ∀ a x, ((![v766] : Fin 1 → IVec S16 32) a x).toNat < S1824.size a := fun v766 k0_hw391 => k0_hw391

def k0_chk392 (v769 : IVec S16 32) : Prop :=
  (∀ a x, ((![v769] : Fin 1 → IVec S16 32) a x).toNat < S1824.size a)
theorem k0_idx392_inb : ∀ (v769 : IVec S16 32) (k0_hw392 : k0_chk392 v769), ∀ a x, ((![v769] : Fin 1 → IVec S16 32) a x).toNat < S1824.size a := fun v769 k0_hw392 => k0_hw392

def k0_chk393 (v783 : IVec S16 32) : Prop :=
  (∀ a x, ((![v783] : Fin 1 → IVec S16 32) a x).toNat < S1824.size a)
theorem k0_idx393_inb : ∀ (v783 : IVec S16 32) (k0_hw393 : k0_chk393 v783), ∀ a x, ((![v783] : Fin 1 → IVec S16 32) a x).toNat < S1824.size a := fun v783 k0_hw393 => k0_hw393

def k0_chk394 (v786 : IVec S16 32) : Prop :=
  (∀ a x, ((![v786] : Fin 1 → IVec S16 32) a x).toNat < S1824.size a)
theorem k0_idx394_inb : ∀ (v786 : IVec S16 32) (k0_hw394 : k0_chk394 v786), ∀ a x, ((![v786] : Fin 1 → IVec S16 32) a x).toNat < S1824.size a := fun v786 k0_hw394 => k0_hw394

def k0_chk395 (v789 : IVec S16 32) : Prop :=
  (∀ a x, ((![v789] : Fin 1 → IVec S16 32) a x).toNat < S1824.size a)
theorem k0_idx395_inb : ∀ (v789 : IVec S16 32) (k0_hw395 : k0_chk395 v789), ∀ a x, ((![v789] : Fin 1 → IVec S16 32) a x).toNat < S1824.size a := fun v789 k0_hw395 => k0_hw395

def k0_chk396 (v792 : IVec S16 32) : Prop :=
  (∀ a x, ((![v792] : Fin 1 → IVec S16 32) a x).toNat < S1824.size a)
theorem k0_idx396_inb : ∀ (v792 : IVec S16 32) (k0_hw396 : k0_chk396 v792), ∀ a x, ((![v792] : Fin 1 → IVec S16 32) a x).toNat < S1824.size a := fun v792 k0_hw396 => k0_hw396

def k0_chk397 (v806 : IVec S16 32) : Prop :=
  (∀ a x, ((![v806] : Fin 1 → IVec S16 32) a x).toNat < S1824.size a)
theorem k0_idx397_inb : ∀ (v806 : IVec S16 32) (k0_hw397 : k0_chk397 v806), ∀ a x, ((![v806] : Fin 1 → IVec S16 32) a x).toNat < S1824.size a := fun v806 k0_hw397 => k0_hw397

def k0_chk398 (v809 : IVec S16 32) : Prop :=
  (∀ a x, ((![v809] : Fin 1 → IVec S16 32) a x).toNat < S1824.size a)
theorem k0_idx398_inb : ∀ (v809 : IVec S16 32) (k0_hw398 : k0_chk398 v809), ∀ a x, ((![v809] : Fin 1 → IVec S16 32) a x).toNat < S1824.size a := fun v809 k0_hw398 => k0_hw398

def k0_chk399 (v812 : IVec S16 32) : Prop :=
  (∀ a x, ((![v812] : Fin 1 → IVec S16 32) a x).toNat < S1824.size a)
theorem k0_idx399_inb : ∀ (v812 : IVec S16 32) (k0_hw399 : k0_chk399 v812), ∀ a x, ((![v812] : Fin 1 → IVec S16 32) a x).toNat < S1824.size a := fun v812 k0_hw399 => k0_hw399

def k0_chk400 (v815 : IVec S16 32) : Prop :=
  (∀ a x, ((![v815] : Fin 1 → IVec S16 32) a x).toNat < S1824.size a)
theorem k0_idx400_inb : ∀ (v815 : IVec S16 32) (k0_hw400 : k0_chk400 v815), ∀ a x, ((![v815] : Fin 1 → IVec S16 32) a x).toNat < S1824.size a := fun v815 k0_hw400 => k0_hw400
def k0_off93 (k0_t19 : Fin k0_t19_loop.trips) : Fin 1 → Nat :=
  let c0_i32_561 : BitVec 32 := 0#32
  let c0_i32_532 : BitVec 32 := 0#32
  let c0_i32_357 : BitVec 32 := 0#32
  let c1_i32_359 : BitVec 32 := 1#32
  let arg23 : BitVec 32 := Scf.iv c0_i32_357 c1_i32_359 k0_t19
  let c16_i32_531 : BitVec 32 := 16#32
  let v688 : BitVec 32 := Scalar.muli arg23 c16_i32_531
  let v689 : BitVec 32 := Scalar.addi c0_i32_532 v688
  let v827 : BitVec 32 := Scalar.addi c0_i32_561 v689
  let v828 : Index := Scalar.indexCast v827
  ![v828.toNat]

def k0_chk401 (v831 : IVec S16 32) : Prop :=
  (∀ a x, ((![v831] : Fin 1 → IVec S16 32) a x).toNat < S1824.size a)
theorem k0_idx401_inb : ∀ (v831 : IVec S16 32) (k0_hw401 : k0_chk401 v831), ∀ a x, ((![v831] : Fin 1 → IVec S16 32) a x).toNat < S1824.size a := fun v831 k0_hw401 => k0_hw401

def k0_chk402 (v834 : IVec S16 32) : Prop :=
  (∀ a x, ((![v834] : Fin 1 → IVec S16 32) a x).toNat < S1824.size a)
theorem k0_idx402_inb : ∀ (v834 : IVec S16 32) (k0_hw402 : k0_chk402 v834), ∀ a x, ((![v834] : Fin 1 → IVec S16 32) a x).toNat < S1824.size a := fun v834 k0_hw402 => k0_hw402

def k0_chk403 (v837 : IVec S16 32) : Prop :=
  (∀ a x, ((![v837] : Fin 1 → IVec S16 32) a x).toNat < S1824.size a)
theorem k0_idx403_inb : ∀ (v837 : IVec S16 32) (k0_hw403 : k0_chk403 v837), ∀ a x, ((![v837] : Fin 1 → IVec S16 32) a x).toNat < S1824.size a := fun v837 k0_hw403 => k0_hw403

def k0_chk404 (v840 : IVec S16 32) : Prop :=
  (∀ a x, ((![v840] : Fin 1 → IVec S16 32) a x).toNat < S1824.size a)
theorem k0_idx404_inb : ∀ (v840 : IVec S16 32) (k0_hw404 : k0_chk404 v840), ∀ a x, ((![v840] : Fin 1 → IVec S16 32) a x).toNat < S1824.size a := fun v840 k0_hw404 => k0_hw404

def k0_chk405 (v853 : IVec S16 32) : Prop :=
  (∀ a x, ((![v853] : Fin 1 → IVec S16 32) a x).toNat < S1824.size a)
theorem k0_idx405_inb : ∀ (v853 : IVec S16 32) (k0_hw405 : k0_chk405 v853), ∀ a x, ((![v853] : Fin 1 → IVec S16 32) a x).toNat < S1824.size a := fun v853 k0_hw405 => k0_hw405

def k0_chk406 (v856 : IVec S16 32) : Prop :=
  (∀ a x, ((![v856] : Fin 1 → IVec S16 32) a x).toNat < S1824.size a)
theorem k0_idx406_inb : ∀ (v856 : IVec S16 32) (k0_hw406 : k0_chk406 v856), ∀ a x, ((![v856] : Fin 1 → IVec S16 32) a x).toNat < S1824.size a := fun v856 k0_hw406 => k0_hw406

def k0_chk407 (v859 : IVec S16 32) : Prop :=
  (∀ a x, ((![v859] : Fin 1 → IVec S16 32) a x).toNat < S1824.size a)
theorem k0_idx407_inb : ∀ (v859 : IVec S16 32) (k0_hw407 : k0_chk407 v859), ∀ a x, ((![v859] : Fin 1 → IVec S16 32) a x).toNat < S1824.size a := fun v859 k0_hw407 => k0_hw407

def k0_chk408 (v862 : IVec S16 32) : Prop :=
  (∀ a x, ((![v862] : Fin 1 → IVec S16 32) a x).toNat < S1824.size a)
theorem k0_idx408_inb : ∀ (v862 : IVec S16 32) (k0_hw408 : k0_chk408 v862), ∀ a x, ((![v862] : Fin 1 → IVec S16 32) a x).toNat < S1824.size a := fun v862 k0_hw408 => k0_hw408

def k0_chk409 (v876 : IVec S16 32) : Prop :=
  (∀ a x, ((![v876] : Fin 1 → IVec S16 32) a x).toNat < S1824.size a)
theorem k0_idx409_inb : ∀ (v876 : IVec S16 32) (k0_hw409 : k0_chk409 v876), ∀ a x, ((![v876] : Fin 1 → IVec S16 32) a x).toNat < S1824.size a := fun v876 k0_hw409 => k0_hw409

def k0_chk410 (v879 : IVec S16 32) : Prop :=
  (∀ a x, ((![v879] : Fin 1 → IVec S16 32) a x).toNat < S1824.size a)
theorem k0_idx410_inb : ∀ (v879 : IVec S16 32) (k0_hw410 : k0_chk410 v879), ∀ a x, ((![v879] : Fin 1 → IVec S16 32) a x).toNat < S1824.size a := fun v879 k0_hw410 => k0_hw410

def k0_chk411 (v882 : IVec S16 32) : Prop :=
  (∀ a x, ((![v882] : Fin 1 → IVec S16 32) a x).toNat < S1824.size a)
theorem k0_idx411_inb : ∀ (v882 : IVec S16 32) (k0_hw411 : k0_chk411 v882), ∀ a x, ((![v882] : Fin 1 → IVec S16 32) a x).toNat < S1824.size a := fun v882 k0_hw411 => k0_hw411

def k0_chk412 (v885 : IVec S16 32) : Prop :=
  (∀ a x, ((![v885] : Fin 1 → IVec S16 32) a x).toNat < S1824.size a)
theorem k0_idx412_inb : ∀ (v885 : IVec S16 32) (k0_hw412 : k0_chk412 v885), ∀ a x, ((![v885] : Fin 1 → IVec S16 32) a x).toNat < S1824.size a := fun v885 k0_hw412 => k0_hw412

def k0_chk413 (v899 : IVec S16 32) : Prop :=
  (∀ a x, ((![v899] : Fin 1 → IVec S16 32) a x).toNat < S1824.size a)
theorem k0_idx413_inb : ∀ (v899 : IVec S16 32) (k0_hw413 : k0_chk413 v899), ∀ a x, ((![v899] : Fin 1 → IVec S16 32) a x).toNat < S1824.size a := fun v899 k0_hw413 => k0_hw413

def k0_chk414 (v902 : IVec S16 32) : Prop :=
  (∀ a x, ((![v902] : Fin 1 → IVec S16 32) a x).toNat < S1824.size a)
theorem k0_idx414_inb : ∀ (v902 : IVec S16 32) (k0_hw414 : k0_chk414 v902), ∀ a x, ((![v902] : Fin 1 → IVec S16 32) a x).toNat < S1824.size a := fun v902 k0_hw414 => k0_hw414

def k0_chk415 (v905 : IVec S16 32) : Prop :=
  (∀ a x, ((![v905] : Fin 1 → IVec S16 32) a x).toNat < S1824.size a)
theorem k0_idx415_inb : ∀ (v905 : IVec S16 32) (k0_hw415 : k0_chk415 v905), ∀ a x, ((![v905] : Fin 1 → IVec S16 32) a x).toNat < S1824.size a := fun v905 k0_hw415 => k0_hw415

def k0_chk416 (v908 : IVec S16 32) : Prop :=
  (∀ a x, ((![v908] : Fin 1 → IVec S16 32) a x).toNat < S1824.size a)
theorem k0_idx416_inb : ∀ (v908 : IVec S16 32) (k0_hw416 : k0_chk416 v908), ∀ a x, ((![v908] : Fin 1 → IVec S16 32) a x).toNat < S1824.size a := fun v908 k0_hw416 => k0_hw416
def k0_off94 (k0_t19 : Fin k0_t19_loop.trips) : Fin 1 → Nat :=
  let c4096_i32_574 : BitVec 32 := 4096#32
  let c0_i32_532 : BitVec 32 := 0#32
  let c0_i32_357 : BitVec 32 := 0#32
  let c1_i32_359 : BitVec 32 := 1#32
  let arg23 : BitVec 32 := Scf.iv c0_i32_357 c1_i32_359 k0_t19
  let c16_i32_531 : BitVec 32 := 16#32
  let v688 : BitVec 32 := Scalar.muli arg23 c16_i32_531
  let v689 : BitVec 32 := Scalar.addi c0_i32_532 v688
  let v920 : BitVec 32 := Scalar.addi c4096_i32_574 v689
  let v921 : Index := Scalar.indexCast v920
  ![v921.toNat]

def k0_chk417 (v924 : IVec S16 32) : Prop :=
  (∀ a x, ((![v924] : Fin 1 → IVec S16 32) a x).toNat < S1824.size a)
theorem k0_idx417_inb : ∀ (v924 : IVec S16 32) (k0_hw417 : k0_chk417 v924), ∀ a x, ((![v924] : Fin 1 → IVec S16 32) a x).toNat < S1824.size a := fun v924 k0_hw417 => k0_hw417

def k0_chk418 (v927 : IVec S16 32) : Prop :=
  (∀ a x, ((![v927] : Fin 1 → IVec S16 32) a x).toNat < S1824.size a)
theorem k0_idx418_inb : ∀ (v927 : IVec S16 32) (k0_hw418 : k0_chk418 v927), ∀ a x, ((![v927] : Fin 1 → IVec S16 32) a x).toNat < S1824.size a := fun v927 k0_hw418 => k0_hw418

def k0_chk419 (v930 : IVec S16 32) : Prop :=
  (∀ a x, ((![v930] : Fin 1 → IVec S16 32) a x).toNat < S1824.size a)
theorem k0_idx419_inb : ∀ (v930 : IVec S16 32) (k0_hw419 : k0_chk419 v930), ∀ a x, ((![v930] : Fin 1 → IVec S16 32) a x).toNat < S1824.size a := fun v930 k0_hw419 => k0_hw419

def k0_chk420 (v933 : IVec S16 32) : Prop :=
  (∀ a x, ((![v933] : Fin 1 → IVec S16 32) a x).toNat < S1824.size a)
theorem k0_idx420_inb : ∀ (v933 : IVec S16 32) (k0_hw420 : k0_chk420 v933), ∀ a x, ((![v933] : Fin 1 → IVec S16 32) a x).toNat < S1824.size a := fun v933 k0_hw420 => k0_hw420

def k0_chk421 (v946 : IVec S16 32) : Prop :=
  (∀ a x, ((![v946] : Fin 1 → IVec S16 32) a x).toNat < S1824.size a)
theorem k0_idx421_inb : ∀ (v946 : IVec S16 32) (k0_hw421 : k0_chk421 v946), ∀ a x, ((![v946] : Fin 1 → IVec S16 32) a x).toNat < S1824.size a := fun v946 k0_hw421 => k0_hw421

def k0_chk422 (v949 : IVec S16 32) : Prop :=
  (∀ a x, ((![v949] : Fin 1 → IVec S16 32) a x).toNat < S1824.size a)
theorem k0_idx422_inb : ∀ (v949 : IVec S16 32) (k0_hw422 : k0_chk422 v949), ∀ a x, ((![v949] : Fin 1 → IVec S16 32) a x).toNat < S1824.size a := fun v949 k0_hw422 => k0_hw422

def k0_chk423 (v952 : IVec S16 32) : Prop :=
  (∀ a x, ((![v952] : Fin 1 → IVec S16 32) a x).toNat < S1824.size a)
theorem k0_idx423_inb : ∀ (v952 : IVec S16 32) (k0_hw423 : k0_chk423 v952), ∀ a x, ((![v952] : Fin 1 → IVec S16 32) a x).toNat < S1824.size a := fun v952 k0_hw423 => k0_hw423

def k0_chk424 (v955 : IVec S16 32) : Prop :=
  (∀ a x, ((![v955] : Fin 1 → IVec S16 32) a x).toNat < S1824.size a)
theorem k0_idx424_inb : ∀ (v955 : IVec S16 32) (k0_hw424 : k0_chk424 v955), ∀ a x, ((![v955] : Fin 1 → IVec S16 32) a x).toNat < S1824.size a := fun v955 k0_hw424 => k0_hw424

def k0_chk425 (v969 : IVec S16 32) : Prop :=
  (∀ a x, ((![v969] : Fin 1 → IVec S16 32) a x).toNat < S1824.size a)
theorem k0_idx425_inb : ∀ (v969 : IVec S16 32) (k0_hw425 : k0_chk425 v969), ∀ a x, ((![v969] : Fin 1 → IVec S16 32) a x).toNat < S1824.size a := fun v969 k0_hw425 => k0_hw425

def k0_chk426 (v972 : IVec S16 32) : Prop :=
  (∀ a x, ((![v972] : Fin 1 → IVec S16 32) a x).toNat < S1824.size a)
theorem k0_idx426_inb : ∀ (v972 : IVec S16 32) (k0_hw426 : k0_chk426 v972), ∀ a x, ((![v972] : Fin 1 → IVec S16 32) a x).toNat < S1824.size a := fun v972 k0_hw426 => k0_hw426

def k0_chk427 (v975 : IVec S16 32) : Prop :=
  (∀ a x, ((![v975] : Fin 1 → IVec S16 32) a x).toNat < S1824.size a)
theorem k0_idx427_inb : ∀ (v975 : IVec S16 32) (k0_hw427 : k0_chk427 v975), ∀ a x, ((![v975] : Fin 1 → IVec S16 32) a x).toNat < S1824.size a := fun v975 k0_hw427 => k0_hw427

def k0_chk428 (v978 : IVec S16 32) : Prop :=
  (∀ a x, ((![v978] : Fin 1 → IVec S16 32) a x).toNat < S1824.size a)
theorem k0_idx428_inb : ∀ (v978 : IVec S16 32) (k0_hw428 : k0_chk428 v978), ∀ a x, ((![v978] : Fin 1 → IVec S16 32) a x).toNat < S1824.size a := fun v978 k0_hw428 => k0_hw428

def k0_chk429 (v992 : IVec S16 32) : Prop :=
  (∀ a x, ((![v992] : Fin 1 → IVec S16 32) a x).toNat < S1824.size a)
theorem k0_idx429_inb : ∀ (v992 : IVec S16 32) (k0_hw429 : k0_chk429 v992), ∀ a x, ((![v992] : Fin 1 → IVec S16 32) a x).toNat < S1824.size a := fun v992 k0_hw429 => k0_hw429

def k0_chk430 (v995 : IVec S16 32) : Prop :=
  (∀ a x, ((![v995] : Fin 1 → IVec S16 32) a x).toNat < S1824.size a)
theorem k0_idx430_inb : ∀ (v995 : IVec S16 32) (k0_hw430 : k0_chk430 v995), ∀ a x, ((![v995] : Fin 1 → IVec S16 32) a x).toNat < S1824.size a := fun v995 k0_hw430 => k0_hw430

def k0_chk431 (v998 : IVec S16 32) : Prop :=
  (∀ a x, ((![v998] : Fin 1 → IVec S16 32) a x).toNat < S1824.size a)
theorem k0_idx431_inb : ∀ (v998 : IVec S16 32) (k0_hw431 : k0_chk431 v998), ∀ a x, ((![v998] : Fin 1 → IVec S16 32) a x).toNat < S1824.size a := fun v998 k0_hw431 => k0_hw431

def k0_chk432 (v1001 : IVec S16 32) : Prop :=
  (∀ a x, ((![v1001] : Fin 1 → IVec S16 32) a x).toNat < S1824.size a)
theorem k0_idx432_inb : ∀ (v1001 : IVec S16 32) (k0_hw432 : k0_chk432 v1001), ∀ a x, ((![v1001] : Fin 1 → IVec S16 32) a x).toNat < S1824.size a := fun v1001 k0_hw432 => k0_hw432
def k0_off95 (k0_t19 : Fin k0_t19_loop.trips) : Fin 1 → Nat :=
  let c8192_i32_587 : BitVec 32 := 8192#32
  let c0_i32_532 : BitVec 32 := 0#32
  let c0_i32_357 : BitVec 32 := 0#32
  let c1_i32_359 : BitVec 32 := 1#32
  let arg23 : BitVec 32 := Scf.iv c0_i32_357 c1_i32_359 k0_t19
  let c16_i32_531 : BitVec 32 := 16#32
  let v688 : BitVec 32 := Scalar.muli arg23 c16_i32_531
  let v689 : BitVec 32 := Scalar.addi c0_i32_532 v688
  let v1013 : BitVec 32 := Scalar.addi c8192_i32_587 v689
  let v1014 : Index := Scalar.indexCast v1013
  ![v1014.toNat]
@[reducible] def k0_t20_loop : Scf.Loop 32 :=
  let c0_i32_375 : BitVec 32 := 0#32
  let c96_i32_376 : BitVec 32 := 96#32
  let v539 : BitVec 32 := Scalar.addi c0_i32_375 c96_i32_376
  let c1_i32_377 : BitVec 32 := 1#32
  ⟨c0_i32_375, v539, c1_i32_377⟩
def k0_off96 (i : grid0.Coords) (k0_t1 : Fin k0_t1_loop.trips) (k0_t20 : Fin k0_t20_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_375 : BitVec 32 := 0#32
  let c1_i32_377 : BitVec 32 := 1#32
  let arg23 : BitVec 32 := Scf.iv c0_i32_375 c1_i32_377 k0_t20
  let c256_i32 : BitVec 32 := 256#32
  let v688 : BitVec 32 := Scalar.muli arg23 c256_i32
  let v689 : BitVec 32 := Scalar.addi v40 v688
  let c15_i32_365 : BitVec 32 := 15#32
  let c0_i32_364 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_330 : BitVec 32 := 16#32
  let v482 : BitVec 32 := Scalar.muli v1 c16_i32_330
  let c2_i32_19 : BitVec 32 := 2#32
  let v37 : BitVec 32 := Scalar.muli arg22 c2_i32_19
  let c1_i32_20 : BitVec 32 := 1#32
  let v38 : BitVec 32 := Scalar.addi v37 c1_i32_20
  let c2_i32_331 : BitVec 32 := 2#32
  let c0_i32_332 : BitVec 32 := 0#32
  let v483 : BitVec 1 := Scalar.cmpi .eq c2_i32_331 c0_i32_332
  let c1_i32_333 : BitVec 32 := 1#32
  let v484 : BitVec 32 := Scalar.select v483 c1_i32_333 c2_i32_331
  let v485 : BitVec 32 := Scalar.remsi v38 v484
  let c0_i32_335 : BitVec 32 := 0#32
  let v487 : BitVec 1 := Scalar.cmpi .slt v485 c0_i32_335
  let c0_i32_336 : BitVec 32 := 0#32
  let v488 : BitVec 1 := Scalar.cmpi .slt v484 c0_i32_336
  let v489 : BitVec 1 := Scalar.xori v487 v488
  let c0_i32_334 : BitVec 32 := 0#32
  let v486 : BitVec 1 := Scalar.cmpi .ne v485 c0_i32_334
  let v490 : BitVec 1 := Scalar.andi v489 v486
  let v491 : BitVec 32 := Scalar.addi v485 v484
  let v492 : BitVec 32 := Scalar.select v490 v491 v485
  let c8_i32_337 : BitVec 32 := 8#32
  let v493 : BitVec 32 := Scalar.muli v492 c8_i32_337
  let v494 : BitVec 32 := Scalar.addi v482 v493
  let c1_i32_361 : BitVec 32 := 1#32
  let v518 : BitVec 32 := Scalar.addi v494 c1_i32_361
  let c16_i32_362 : BitVec 32 := 16#32
  let v519 : BitVec 32 := Scalar.subi v518 c16_i32_362
  let c5_i32_363 : BitVec 32 := 5#32
  let v520 : BitVec 32 := Scalar.shrsi v519 c5_i32_363
  let v521 : BitVec 32 := Scalar.maxsi c0_i32_364 v520
  let v522 : BitVec 32 := Scalar.minsi c15_i32_365 v521
  let c16_i32_366 : BitVec 32 := 16#32
  let v523 : BitVec 32 := Scalar.muli v522 c16_i32_366
  let v690 : BitVec 32 := Scalar.addi v689 v523
  let v691 : Index := Scalar.indexCast v690
  ![v691.toNat]
def k0_off97 (i : grid0.Coords) (k0_t1 : Fin k0_t1_loop.trips) (k0_t20 : Fin k0_t20_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_375 : BitVec 32 := 0#32
  let c1_i32_377 : BitVec 32 := 1#32
  let arg23 : BitVec 32 := Scf.iv c0_i32_375 c1_i32_377 k0_t20
  let c256_i32 : BitVec 32 := 256#32
  let v688 : BitVec 32 := Scalar.muli arg23 c256_i32
  let v689 : BitVec 32 := Scalar.addi v40 v688
  let c15_i32_369 : BitVec 32 := 15#32
  let c0_i32_368 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_330 : BitVec 32 := 16#32
  let v482 : BitVec 32 := Scalar.muli v1 c16_i32_330
  let c2_i32_19 : BitVec 32 := 2#32
  let v37 : BitVec 32 := Scalar.muli arg22 c2_i32_19
  let c1_i32_20 : BitVec 32 := 1#32
  let v38 : BitVec 32 := Scalar.addi v37 c1_i32_20
  let c2_i32_331 : BitVec 32 := 2#32
  let c0_i32_332 : BitVec 32 := 0#32
  let v483 : BitVec 1 := Scalar.cmpi .eq c2_i32_331 c0_i32_332
  let c1_i32_333 : BitVec 32 := 1#32
  let v484 : BitVec 32 := Scalar.select v483 c1_i32_333 c2_i32_331
  let v485 : BitVec 32 := Scalar.remsi v38 v484
  let c0_i32_335 : BitVec 32 := 0#32
  let v487 : BitVec 1 := Scalar.cmpi .slt v485 c0_i32_335
  let c0_i32_336 : BitVec 32 := 0#32
  let v488 : BitVec 1 := Scalar.cmpi .slt v484 c0_i32_336
  let v489 : BitVec 1 := Scalar.xori v487 v488
  let c0_i32_334 : BitVec 32 := 0#32
  let v486 : BitVec 1 := Scalar.cmpi .ne v485 c0_i32_334
  let v490 : BitVec 1 := Scalar.andi v489 v486
  let v491 : BitVec 32 := Scalar.addi v485 v484
  let v492 : BitVec 32 := Scalar.select v490 v491 v485
  let c8_i32_337 : BitVec 32 := 8#32
  let v493 : BitVec 32 := Scalar.muli v492 c8_i32_337
  let v494 : BitVec 32 := Scalar.addi v482 v493
  let c1_i32_361 : BitVec 32 := 1#32
  let v518 : BitVec 32 := Scalar.addi v494 c1_i32_361
  let c16_i32_362 : BitVec 32 := 16#32
  let v519 : BitVec 32 := Scalar.subi v518 c16_i32_362
  let c5_i32_363 : BitVec 32 := 5#32
  let v520 : BitVec 32 := Scalar.shrsi v519 c5_i32_363
  let c1_i32_367 : BitVec 32 := 1#32
  let v524 : BitVec 32 := Scalar.addi v520 c1_i32_367
  let v525 : BitVec 32 := Scalar.maxsi c0_i32_368 v524
  let v526 : BitVec 32 := Scalar.minsi c15_i32_369 v525
  let c16_i32_370 : BitVec 32 := 16#32
  let v527 : BitVec 32 := Scalar.muli v526 c16_i32_370
  let v693 : BitVec 32 := Scalar.addi v689 v527
  let v694 : Index := Scalar.indexCast v693
  ![v694.toNat]
def k0_off98 (k0_t20 : Fin k0_t20_loop.trips) : Fin 1 → Nat :=
  let c0_i32_375 : BitVec 32 := 0#32
  let c1_i32_377 : BitVec 32 := 1#32
  let arg23 : BitVec 32 := Scf.iv c0_i32_375 c1_i32_377 k0_t20
  let c19_i32 : BitVec 32 := 19#32
  let v699 : BitVec 32 := Scalar.muli arg23 c19_i32
  let v700 : Index := Scalar.indexCast v699
  ![v700.toNat]
@[reducible] def k0_t21_loop : Scf.Loop 32 :=
  let c0_i32_380 : BitVec 32 := 0#32
  let c32_i32_381 : BitVec 32 := 32#32
  let v540 : BitVec 32 := Scalar.addi c0_i32_380 c32_i32_381
  let c1_i32_382 : BitVec 32 := 1#32
  ⟨c0_i32_380, v540, c1_i32_382⟩
def k0_off99 (k0_t21 : Fin k0_t21_loop.trips) : Fin 1 → Nat :=
  let c512_i32_532 : BitVec 32 := 512#32
  let c0_i32_380 : BitVec 32 := 0#32
  let c1_i32_382 : BitVec 32 := 1#32
  let arg23 : BitVec 32 := Scf.iv c0_i32_380 c1_i32_382 k0_t21
  let c16_i32_531 : BitVec 32 := 16#32
  let v688 : BitVec 32 := Scalar.muli arg23 c16_i32_531
  let v689 : BitVec 32 := Scalar.addi c512_i32_532 v688
  let v690 : Index := Scalar.indexCast v689
  ![v690.toNat]
def k0_off100 (k0_t21 : Fin k0_t21_loop.trips) : Fin 1 → Nat :=
  let c0_i32_380 : BitVec 32 := 0#32
  let c1_i32_382 : BitVec 32 := 1#32
  let arg23 : BitVec 32 := Scf.iv c0_i32_380 c1_i32_382 k0_t21
  let c16_i32_542 : BitVec 32 := 16#32
  let v715 : BitVec 32 := Scalar.muli arg23 c16_i32_542
  let v716 : Index := Scalar.indexCast v715
  ![v716.toNat]
def k0_off101 (k0_t21 : Fin k0_t21_loop.trips) (c0_i32_545 : BitVec 32) : Fin 1 → Nat :=
  let c512_i32_532 : BitVec 32 := 512#32
  let c0_i32_380 : BitVec 32 := 0#32
  let c1_i32_382 : BitVec 32 := 1#32
  let arg23 : BitVec 32 := Scf.iv c0_i32_380 c1_i32_382 k0_t21
  let c16_i32_531 : BitVec 32 := 16#32
  let v688 : BitVec 32 := Scalar.muli arg23 c16_i32_531
  let v689 : BitVec 32 := Scalar.addi c512_i32_532 v688
  let v728 : BitVec 32 := Scalar.addi c0_i32_545 v689
  let v729 : Index := Scalar.indexCast v728
  ![v729.toNat]

def k0_chk433 (v738 : IVec S16 32) : Prop :=
  (∀ a x, ((![v738] : Fin 1 → IVec S16 32) a x).toNat < S1824.size a)
theorem k0_idx433_inb : ∀ (v738 : IVec S16 32) (k0_hw433 : k0_chk433 v738), ∀ a x, ((![v738] : Fin 1 → IVec S16 32) a x).toNat < S1824.size a := fun v738 k0_hw433 => k0_hw433

def k0_chk434 (v741 : IVec S16 32) : Prop :=
  (∀ a x, ((![v741] : Fin 1 → IVec S16 32) a x).toNat < S1824.size a)
theorem k0_idx434_inb : ∀ (v741 : IVec S16 32) (k0_hw434 : k0_chk434 v741), ∀ a x, ((![v741] : Fin 1 → IVec S16 32) a x).toNat < S1824.size a := fun v741 k0_hw434 => k0_hw434

def k0_chk435 (v744 : IVec S16 32) : Prop :=
  (∀ a x, ((![v744] : Fin 1 → IVec S16 32) a x).toNat < S1824.size a)
theorem k0_idx435_inb : ∀ (v744 : IVec S16 32) (k0_hw435 : k0_chk435 v744), ∀ a x, ((![v744] : Fin 1 → IVec S16 32) a x).toNat < S1824.size a := fun v744 k0_hw435 => k0_hw435

def k0_chk436 (v747 : IVec S16 32) : Prop :=
  (∀ a x, ((![v747] : Fin 1 → IVec S16 32) a x).toNat < S1824.size a)
theorem k0_idx436_inb : ∀ (v747 : IVec S16 32) (k0_hw436 : k0_chk436 v747), ∀ a x, ((![v747] : Fin 1 → IVec S16 32) a x).toNat < S1824.size a := fun v747 k0_hw436 => k0_hw436

def k0_chk437 (v760 : IVec S16 32) : Prop :=
  (∀ a x, ((![v760] : Fin 1 → IVec S16 32) a x).toNat < S1824.size a)
theorem k0_idx437_inb : ∀ (v760 : IVec S16 32) (k0_hw437 : k0_chk437 v760), ∀ a x, ((![v760] : Fin 1 → IVec S16 32) a x).toNat < S1824.size a := fun v760 k0_hw437 => k0_hw437

def k0_chk438 (v763 : IVec S16 32) : Prop :=
  (∀ a x, ((![v763] : Fin 1 → IVec S16 32) a x).toNat < S1824.size a)
theorem k0_idx438_inb : ∀ (v763 : IVec S16 32) (k0_hw438 : k0_chk438 v763), ∀ a x, ((![v763] : Fin 1 → IVec S16 32) a x).toNat < S1824.size a := fun v763 k0_hw438 => k0_hw438

def k0_chk439 (v766 : IVec S16 32) : Prop :=
  (∀ a x, ((![v766] : Fin 1 → IVec S16 32) a x).toNat < S1824.size a)
theorem k0_idx439_inb : ∀ (v766 : IVec S16 32) (k0_hw439 : k0_chk439 v766), ∀ a x, ((![v766] : Fin 1 → IVec S16 32) a x).toNat < S1824.size a := fun v766 k0_hw439 => k0_hw439

def k0_chk440 (v769 : IVec S16 32) : Prop :=
  (∀ a x, ((![v769] : Fin 1 → IVec S16 32) a x).toNat < S1824.size a)
theorem k0_idx440_inb : ∀ (v769 : IVec S16 32) (k0_hw440 : k0_chk440 v769), ∀ a x, ((![v769] : Fin 1 → IVec S16 32) a x).toNat < S1824.size a := fun v769 k0_hw440 => k0_hw440

def k0_chk441 (v783 : IVec S16 32) : Prop :=
  (∀ a x, ((![v783] : Fin 1 → IVec S16 32) a x).toNat < S1824.size a)
theorem k0_idx441_inb : ∀ (v783 : IVec S16 32) (k0_hw441 : k0_chk441 v783), ∀ a x, ((![v783] : Fin 1 → IVec S16 32) a x).toNat < S1824.size a := fun v783 k0_hw441 => k0_hw441

def k0_chk442 (v786 : IVec S16 32) : Prop :=
  (∀ a x, ((![v786] : Fin 1 → IVec S16 32) a x).toNat < S1824.size a)
theorem k0_idx442_inb : ∀ (v786 : IVec S16 32) (k0_hw442 : k0_chk442 v786), ∀ a x, ((![v786] : Fin 1 → IVec S16 32) a x).toNat < S1824.size a := fun v786 k0_hw442 => k0_hw442

def k0_chk443 (v789 : IVec S16 32) : Prop :=
  (∀ a x, ((![v789] : Fin 1 → IVec S16 32) a x).toNat < S1824.size a)
theorem k0_idx443_inb : ∀ (v789 : IVec S16 32) (k0_hw443 : k0_chk443 v789), ∀ a x, ((![v789] : Fin 1 → IVec S16 32) a x).toNat < S1824.size a := fun v789 k0_hw443 => k0_hw443

def k0_chk444 (v792 : IVec S16 32) : Prop :=
  (∀ a x, ((![v792] : Fin 1 → IVec S16 32) a x).toNat < S1824.size a)
theorem k0_idx444_inb : ∀ (v792 : IVec S16 32) (k0_hw444 : k0_chk444 v792), ∀ a x, ((![v792] : Fin 1 → IVec S16 32) a x).toNat < S1824.size a := fun v792 k0_hw444 => k0_hw444

def k0_chk445 (v806 : IVec S16 32) : Prop :=
  (∀ a x, ((![v806] : Fin 1 → IVec S16 32) a x).toNat < S1824.size a)
theorem k0_idx445_inb : ∀ (v806 : IVec S16 32) (k0_hw445 : k0_chk445 v806), ∀ a x, ((![v806] : Fin 1 → IVec S16 32) a x).toNat < S1824.size a := fun v806 k0_hw445 => k0_hw445

def k0_chk446 (v809 : IVec S16 32) : Prop :=
  (∀ a x, ((![v809] : Fin 1 → IVec S16 32) a x).toNat < S1824.size a)
theorem k0_idx446_inb : ∀ (v809 : IVec S16 32) (k0_hw446 : k0_chk446 v809), ∀ a x, ((![v809] : Fin 1 → IVec S16 32) a x).toNat < S1824.size a := fun v809 k0_hw446 => k0_hw446

def k0_chk447 (v812 : IVec S16 32) : Prop :=
  (∀ a x, ((![v812] : Fin 1 → IVec S16 32) a x).toNat < S1824.size a)
theorem k0_idx447_inb : ∀ (v812 : IVec S16 32) (k0_hw447 : k0_chk447 v812), ∀ a x, ((![v812] : Fin 1 → IVec S16 32) a x).toNat < S1824.size a := fun v812 k0_hw447 => k0_hw447

def k0_chk448 (v815 : IVec S16 32) : Prop :=
  (∀ a x, ((![v815] : Fin 1 → IVec S16 32) a x).toNat < S1824.size a)
theorem k0_idx448_inb : ∀ (v815 : IVec S16 32) (k0_hw448 : k0_chk448 v815), ∀ a x, ((![v815] : Fin 1 → IVec S16 32) a x).toNat < S1824.size a := fun v815 k0_hw448 => k0_hw448
def k0_off102 (k0_t21 : Fin k0_t21_loop.trips) : Fin 1 → Nat :=
  let c0_i32_561 : BitVec 32 := 0#32
  let c512_i32_532 : BitVec 32 := 512#32
  let c0_i32_380 : BitVec 32 := 0#32
  let c1_i32_382 : BitVec 32 := 1#32
  let arg23 : BitVec 32 := Scf.iv c0_i32_380 c1_i32_382 k0_t21
  let c16_i32_531 : BitVec 32 := 16#32
  let v688 : BitVec 32 := Scalar.muli arg23 c16_i32_531
  let v689 : BitVec 32 := Scalar.addi c512_i32_532 v688
  let v827 : BitVec 32 := Scalar.addi c0_i32_561 v689
  let v828 : Index := Scalar.indexCast v827
  ![v828.toNat]

def k0_chk449 (v831 : IVec S16 32) : Prop :=
  (∀ a x, ((![v831] : Fin 1 → IVec S16 32) a x).toNat < S1824.size a)
theorem k0_idx449_inb : ∀ (v831 : IVec S16 32) (k0_hw449 : k0_chk449 v831), ∀ a x, ((![v831] : Fin 1 → IVec S16 32) a x).toNat < S1824.size a := fun v831 k0_hw449 => k0_hw449

def k0_chk450 (v834 : IVec S16 32) : Prop :=
  (∀ a x, ((![v834] : Fin 1 → IVec S16 32) a x).toNat < S1824.size a)
theorem k0_idx450_inb : ∀ (v834 : IVec S16 32) (k0_hw450 : k0_chk450 v834), ∀ a x, ((![v834] : Fin 1 → IVec S16 32) a x).toNat < S1824.size a := fun v834 k0_hw450 => k0_hw450

def k0_chk451 (v837 : IVec S16 32) : Prop :=
  (∀ a x, ((![v837] : Fin 1 → IVec S16 32) a x).toNat < S1824.size a)
theorem k0_idx451_inb : ∀ (v837 : IVec S16 32) (k0_hw451 : k0_chk451 v837), ∀ a x, ((![v837] : Fin 1 → IVec S16 32) a x).toNat < S1824.size a := fun v837 k0_hw451 => k0_hw451

def k0_chk452 (v840 : IVec S16 32) : Prop :=
  (∀ a x, ((![v840] : Fin 1 → IVec S16 32) a x).toNat < S1824.size a)
theorem k0_idx452_inb : ∀ (v840 : IVec S16 32) (k0_hw452 : k0_chk452 v840), ∀ a x, ((![v840] : Fin 1 → IVec S16 32) a x).toNat < S1824.size a := fun v840 k0_hw452 => k0_hw452

def k0_chk453 (v853 : IVec S16 32) : Prop :=
  (∀ a x, ((![v853] : Fin 1 → IVec S16 32) a x).toNat < S1824.size a)
theorem k0_idx453_inb : ∀ (v853 : IVec S16 32) (k0_hw453 : k0_chk453 v853), ∀ a x, ((![v853] : Fin 1 → IVec S16 32) a x).toNat < S1824.size a := fun v853 k0_hw453 => k0_hw453

def k0_chk454 (v856 : IVec S16 32) : Prop :=
  (∀ a x, ((![v856] : Fin 1 → IVec S16 32) a x).toNat < S1824.size a)
theorem k0_idx454_inb : ∀ (v856 : IVec S16 32) (k0_hw454 : k0_chk454 v856), ∀ a x, ((![v856] : Fin 1 → IVec S16 32) a x).toNat < S1824.size a := fun v856 k0_hw454 => k0_hw454

def k0_chk455 (v859 : IVec S16 32) : Prop :=
  (∀ a x, ((![v859] : Fin 1 → IVec S16 32) a x).toNat < S1824.size a)
theorem k0_idx455_inb : ∀ (v859 : IVec S16 32) (k0_hw455 : k0_chk455 v859), ∀ a x, ((![v859] : Fin 1 → IVec S16 32) a x).toNat < S1824.size a := fun v859 k0_hw455 => k0_hw455

def k0_chk456 (v862 : IVec S16 32) : Prop :=
  (∀ a x, ((![v862] : Fin 1 → IVec S16 32) a x).toNat < S1824.size a)
theorem k0_idx456_inb : ∀ (v862 : IVec S16 32) (k0_hw456 : k0_chk456 v862), ∀ a x, ((![v862] : Fin 1 → IVec S16 32) a x).toNat < S1824.size a := fun v862 k0_hw456 => k0_hw456

def k0_chk457 (v876 : IVec S16 32) : Prop :=
  (∀ a x, ((![v876] : Fin 1 → IVec S16 32) a x).toNat < S1824.size a)
theorem k0_idx457_inb : ∀ (v876 : IVec S16 32) (k0_hw457 : k0_chk457 v876), ∀ a x, ((![v876] : Fin 1 → IVec S16 32) a x).toNat < S1824.size a := fun v876 k0_hw457 => k0_hw457

def k0_chk458 (v879 : IVec S16 32) : Prop :=
  (∀ a x, ((![v879] : Fin 1 → IVec S16 32) a x).toNat < S1824.size a)
theorem k0_idx458_inb : ∀ (v879 : IVec S16 32) (k0_hw458 : k0_chk458 v879), ∀ a x, ((![v879] : Fin 1 → IVec S16 32) a x).toNat < S1824.size a := fun v879 k0_hw458 => k0_hw458

def k0_chk459 (v882 : IVec S16 32) : Prop :=
  (∀ a x, ((![v882] : Fin 1 → IVec S16 32) a x).toNat < S1824.size a)
theorem k0_idx459_inb : ∀ (v882 : IVec S16 32) (k0_hw459 : k0_chk459 v882), ∀ a x, ((![v882] : Fin 1 → IVec S16 32) a x).toNat < S1824.size a := fun v882 k0_hw459 => k0_hw459

def k0_chk460 (v885 : IVec S16 32) : Prop :=
  (∀ a x, ((![v885] : Fin 1 → IVec S16 32) a x).toNat < S1824.size a)
theorem k0_idx460_inb : ∀ (v885 : IVec S16 32) (k0_hw460 : k0_chk460 v885), ∀ a x, ((![v885] : Fin 1 → IVec S16 32) a x).toNat < S1824.size a := fun v885 k0_hw460 => k0_hw460

def k0_chk461 (v899 : IVec S16 32) : Prop :=
  (∀ a x, ((![v899] : Fin 1 → IVec S16 32) a x).toNat < S1824.size a)
theorem k0_idx461_inb : ∀ (v899 : IVec S16 32) (k0_hw461 : k0_chk461 v899), ∀ a x, ((![v899] : Fin 1 → IVec S16 32) a x).toNat < S1824.size a := fun v899 k0_hw461 => k0_hw461

def k0_chk462 (v902 : IVec S16 32) : Prop :=
  (∀ a x, ((![v902] : Fin 1 → IVec S16 32) a x).toNat < S1824.size a)
theorem k0_idx462_inb : ∀ (v902 : IVec S16 32) (k0_hw462 : k0_chk462 v902), ∀ a x, ((![v902] : Fin 1 → IVec S16 32) a x).toNat < S1824.size a := fun v902 k0_hw462 => k0_hw462

def k0_chk463 (v905 : IVec S16 32) : Prop :=
  (∀ a x, ((![v905] : Fin 1 → IVec S16 32) a x).toNat < S1824.size a)
theorem k0_idx463_inb : ∀ (v905 : IVec S16 32) (k0_hw463 : k0_chk463 v905), ∀ a x, ((![v905] : Fin 1 → IVec S16 32) a x).toNat < S1824.size a := fun v905 k0_hw463 => k0_hw463

def k0_chk464 (v908 : IVec S16 32) : Prop :=
  (∀ a x, ((![v908] : Fin 1 → IVec S16 32) a x).toNat < S1824.size a)
theorem k0_idx464_inb : ∀ (v908 : IVec S16 32) (k0_hw464 : k0_chk464 v908), ∀ a x, ((![v908] : Fin 1 → IVec S16 32) a x).toNat < S1824.size a := fun v908 k0_hw464 => k0_hw464
def k0_off103 (k0_t21 : Fin k0_t21_loop.trips) : Fin 1 → Nat :=
  let c4096_i32_574 : BitVec 32 := 4096#32
  let c512_i32_532 : BitVec 32 := 512#32
  let c0_i32_380 : BitVec 32 := 0#32
  let c1_i32_382 : BitVec 32 := 1#32
  let arg23 : BitVec 32 := Scf.iv c0_i32_380 c1_i32_382 k0_t21
  let c16_i32_531 : BitVec 32 := 16#32
  let v688 : BitVec 32 := Scalar.muli arg23 c16_i32_531
  let v689 : BitVec 32 := Scalar.addi c512_i32_532 v688
  let v920 : BitVec 32 := Scalar.addi c4096_i32_574 v689
  let v921 : Index := Scalar.indexCast v920
  ![v921.toNat]

def k0_chk465 (v924 : IVec S16 32) : Prop :=
  (∀ a x, ((![v924] : Fin 1 → IVec S16 32) a x).toNat < S1824.size a)
theorem k0_idx465_inb : ∀ (v924 : IVec S16 32) (k0_hw465 : k0_chk465 v924), ∀ a x, ((![v924] : Fin 1 → IVec S16 32) a x).toNat < S1824.size a := fun v924 k0_hw465 => k0_hw465

def k0_chk466 (v927 : IVec S16 32) : Prop :=
  (∀ a x, ((![v927] : Fin 1 → IVec S16 32) a x).toNat < S1824.size a)
theorem k0_idx466_inb : ∀ (v927 : IVec S16 32) (k0_hw466 : k0_chk466 v927), ∀ a x, ((![v927] : Fin 1 → IVec S16 32) a x).toNat < S1824.size a := fun v927 k0_hw466 => k0_hw466

def k0_chk467 (v930 : IVec S16 32) : Prop :=
  (∀ a x, ((![v930] : Fin 1 → IVec S16 32) a x).toNat < S1824.size a)
theorem k0_idx467_inb : ∀ (v930 : IVec S16 32) (k0_hw467 : k0_chk467 v930), ∀ a x, ((![v930] : Fin 1 → IVec S16 32) a x).toNat < S1824.size a := fun v930 k0_hw467 => k0_hw467

def k0_chk468 (v933 : IVec S16 32) : Prop :=
  (∀ a x, ((![v933] : Fin 1 → IVec S16 32) a x).toNat < S1824.size a)
theorem k0_idx468_inb : ∀ (v933 : IVec S16 32) (k0_hw468 : k0_chk468 v933), ∀ a x, ((![v933] : Fin 1 → IVec S16 32) a x).toNat < S1824.size a := fun v933 k0_hw468 => k0_hw468

def k0_chk469 (v946 : IVec S16 32) : Prop :=
  (∀ a x, ((![v946] : Fin 1 → IVec S16 32) a x).toNat < S1824.size a)
theorem k0_idx469_inb : ∀ (v946 : IVec S16 32) (k0_hw469 : k0_chk469 v946), ∀ a x, ((![v946] : Fin 1 → IVec S16 32) a x).toNat < S1824.size a := fun v946 k0_hw469 => k0_hw469

def k0_chk470 (v949 : IVec S16 32) : Prop :=
  (∀ a x, ((![v949] : Fin 1 → IVec S16 32) a x).toNat < S1824.size a)
theorem k0_idx470_inb : ∀ (v949 : IVec S16 32) (k0_hw470 : k0_chk470 v949), ∀ a x, ((![v949] : Fin 1 → IVec S16 32) a x).toNat < S1824.size a := fun v949 k0_hw470 => k0_hw470

def k0_chk471 (v952 : IVec S16 32) : Prop :=
  (∀ a x, ((![v952] : Fin 1 → IVec S16 32) a x).toNat < S1824.size a)
theorem k0_idx471_inb : ∀ (v952 : IVec S16 32) (k0_hw471 : k0_chk471 v952), ∀ a x, ((![v952] : Fin 1 → IVec S16 32) a x).toNat < S1824.size a := fun v952 k0_hw471 => k0_hw471

def k0_chk472 (v955 : IVec S16 32) : Prop :=
  (∀ a x, ((![v955] : Fin 1 → IVec S16 32) a x).toNat < S1824.size a)
theorem k0_idx472_inb : ∀ (v955 : IVec S16 32) (k0_hw472 : k0_chk472 v955), ∀ a x, ((![v955] : Fin 1 → IVec S16 32) a x).toNat < S1824.size a := fun v955 k0_hw472 => k0_hw472

def k0_chk473 (v969 : IVec S16 32) : Prop :=
  (∀ a x, ((![v969] : Fin 1 → IVec S16 32) a x).toNat < S1824.size a)
theorem k0_idx473_inb : ∀ (v969 : IVec S16 32) (k0_hw473 : k0_chk473 v969), ∀ a x, ((![v969] : Fin 1 → IVec S16 32) a x).toNat < S1824.size a := fun v969 k0_hw473 => k0_hw473

def k0_chk474 (v972 : IVec S16 32) : Prop :=
  (∀ a x, ((![v972] : Fin 1 → IVec S16 32) a x).toNat < S1824.size a)
theorem k0_idx474_inb : ∀ (v972 : IVec S16 32) (k0_hw474 : k0_chk474 v972), ∀ a x, ((![v972] : Fin 1 → IVec S16 32) a x).toNat < S1824.size a := fun v972 k0_hw474 => k0_hw474

def k0_chk475 (v975 : IVec S16 32) : Prop :=
  (∀ a x, ((![v975] : Fin 1 → IVec S16 32) a x).toNat < S1824.size a)
theorem k0_idx475_inb : ∀ (v975 : IVec S16 32) (k0_hw475 : k0_chk475 v975), ∀ a x, ((![v975] : Fin 1 → IVec S16 32) a x).toNat < S1824.size a := fun v975 k0_hw475 => k0_hw475

def k0_chk476 (v978 : IVec S16 32) : Prop :=
  (∀ a x, ((![v978] : Fin 1 → IVec S16 32) a x).toNat < S1824.size a)
theorem k0_idx476_inb : ∀ (v978 : IVec S16 32) (k0_hw476 : k0_chk476 v978), ∀ a x, ((![v978] : Fin 1 → IVec S16 32) a x).toNat < S1824.size a := fun v978 k0_hw476 => k0_hw476

def k0_chk477 (v992 : IVec S16 32) : Prop :=
  (∀ a x, ((![v992] : Fin 1 → IVec S16 32) a x).toNat < S1824.size a)
theorem k0_idx477_inb : ∀ (v992 : IVec S16 32) (k0_hw477 : k0_chk477 v992), ∀ a x, ((![v992] : Fin 1 → IVec S16 32) a x).toNat < S1824.size a := fun v992 k0_hw477 => k0_hw477

def k0_chk478 (v995 : IVec S16 32) : Prop :=
  (∀ a x, ((![v995] : Fin 1 → IVec S16 32) a x).toNat < S1824.size a)
theorem k0_idx478_inb : ∀ (v995 : IVec S16 32) (k0_hw478 : k0_chk478 v995), ∀ a x, ((![v995] : Fin 1 → IVec S16 32) a x).toNat < S1824.size a := fun v995 k0_hw478 => k0_hw478

def k0_chk479 (v998 : IVec S16 32) : Prop :=
  (∀ a x, ((![v998] : Fin 1 → IVec S16 32) a x).toNat < S1824.size a)
theorem k0_idx479_inb : ∀ (v998 : IVec S16 32) (k0_hw479 : k0_chk479 v998), ∀ a x, ((![v998] : Fin 1 → IVec S16 32) a x).toNat < S1824.size a := fun v998 k0_hw479 => k0_hw479

def k0_chk480 (v1001 : IVec S16 32) : Prop :=
  (∀ a x, ((![v1001] : Fin 1 → IVec S16 32) a x).toNat < S1824.size a)
theorem k0_idx480_inb : ∀ (v1001 : IVec S16 32) (k0_hw480 : k0_chk480 v1001), ∀ a x, ((![v1001] : Fin 1 → IVec S16 32) a x).toNat < S1824.size a := fun v1001 k0_hw480 => k0_hw480
def k0_off104 (k0_t21 : Fin k0_t21_loop.trips) : Fin 1 → Nat :=
  let c8192_i32_587 : BitVec 32 := 8192#32
  let c512_i32_532 : BitVec 32 := 512#32
  let c0_i32_380 : BitVec 32 := 0#32
  let c1_i32_382 : BitVec 32 := 1#32
  let arg23 : BitVec 32 := Scf.iv c0_i32_380 c1_i32_382 k0_t21
  let c16_i32_531 : BitVec 32 := 16#32
  let v688 : BitVec 32 := Scalar.muli arg23 c16_i32_531
  let v689 : BitVec 32 := Scalar.addi c512_i32_532 v688
  let v1013 : BitVec 32 := Scalar.addi c8192_i32_587 v689
  let v1014 : Index := Scalar.indexCast v1013
  ![v1014.toNat]
@[reducible] def k0_t22_loop : Scf.Loop 32 :=
  let c0_i32_398 : BitVec 32 := 0#32
  let c96_i32_399 : BitVec 32 := 96#32
  let v562 : BitVec 32 := Scalar.addi c0_i32_398 c96_i32_399
  let c1_i32_400 : BitVec 32 := 1#32
  ⟨c0_i32_398, v562, c1_i32_400⟩
def k0_off105 (i : grid0.Coords) (k0_t1 : Fin k0_t1_loop.trips) (k0_t22 : Fin k0_t22_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_398 : BitVec 32 := 0#32
  let c1_i32_400 : BitVec 32 := 1#32
  let arg23 : BitVec 32 := Scf.iv c0_i32_398 c1_i32_400 k0_t22
  let c256_i32 : BitVec 32 := 256#32
  let v688 : BitVec 32 := Scalar.muli arg23 c256_i32
  let v689 : BitVec 32 := Scalar.addi v40 v688
  let c15_i32_388 : BitVec 32 := 15#32
  let c0_i32_387 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_330 : BitVec 32 := 16#32
  let v482 : BitVec 32 := Scalar.muli v1 c16_i32_330
  let c2_i32_19 : BitVec 32 := 2#32
  let v37 : BitVec 32 := Scalar.muli arg22 c2_i32_19
  let c1_i32_20 : BitVec 32 := 1#32
  let v38 : BitVec 32 := Scalar.addi v37 c1_i32_20
  let c2_i32_331 : BitVec 32 := 2#32
  let c0_i32_332 : BitVec 32 := 0#32
  let v483 : BitVec 1 := Scalar.cmpi .eq c2_i32_331 c0_i32_332
  let c1_i32_333 : BitVec 32 := 1#32
  let v484 : BitVec 32 := Scalar.select v483 c1_i32_333 c2_i32_331
  let v485 : BitVec 32 := Scalar.remsi v38 v484
  let c0_i32_335 : BitVec 32 := 0#32
  let v487 : BitVec 1 := Scalar.cmpi .slt v485 c0_i32_335
  let c0_i32_336 : BitVec 32 := 0#32
  let v488 : BitVec 1 := Scalar.cmpi .slt v484 c0_i32_336
  let v489 : BitVec 1 := Scalar.xori v487 v488
  let c0_i32_334 : BitVec 32 := 0#32
  let v486 : BitVec 1 := Scalar.cmpi .ne v485 c0_i32_334
  let v490 : BitVec 1 := Scalar.andi v489 v486
  let v491 : BitVec 32 := Scalar.addi v485 v484
  let v492 : BitVec 32 := Scalar.select v490 v491 v485
  let c8_i32_337 : BitVec 32 := 8#32
  let v493 : BitVec 32 := Scalar.muli v492 c8_i32_337
  let v494 : BitVec 32 := Scalar.addi v482 v493
  let c2_i32_384 : BitVec 32 := 2#32
  let v541 : BitVec 32 := Scalar.addi v494 c2_i32_384
  let c16_i32_385 : BitVec 32 := 16#32
  let v542 : BitVec 32 := Scalar.subi v541 c16_i32_385
  let c5_i32_386 : BitVec 32 := 5#32
  let v543 : BitVec 32 := Scalar.shrsi v542 c5_i32_386
  let v544 : BitVec 32 := Scalar.maxsi c0_i32_387 v543
  let v545 : BitVec 32 := Scalar.minsi c15_i32_388 v544
  let c16_i32_389 : BitVec 32 := 16#32
  let v546 : BitVec 32 := Scalar.muli v545 c16_i32_389
  let v690 : BitVec 32 := Scalar.addi v689 v546
  let v691 : Index := Scalar.indexCast v690
  ![v691.toNat]
def k0_off106 (i : grid0.Coords) (k0_t1 : Fin k0_t1_loop.trips) (k0_t22 : Fin k0_t22_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_398 : BitVec 32 := 0#32
  let c1_i32_400 : BitVec 32 := 1#32
  let arg23 : BitVec 32 := Scf.iv c0_i32_398 c1_i32_400 k0_t22
  let c256_i32 : BitVec 32 := 256#32
  let v688 : BitVec 32 := Scalar.muli arg23 c256_i32
  let v689 : BitVec 32 := Scalar.addi v40 v688
  let c15_i32_392 : BitVec 32 := 15#32
  let c0_i32_391 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_330 : BitVec 32 := 16#32
  let v482 : BitVec 32 := Scalar.muli v1 c16_i32_330
  let c2_i32_19 : BitVec 32 := 2#32
  let v37 : BitVec 32 := Scalar.muli arg22 c2_i32_19
  let c1_i32_20 : BitVec 32 := 1#32
  let v38 : BitVec 32 := Scalar.addi v37 c1_i32_20
  let c2_i32_331 : BitVec 32 := 2#32
  let c0_i32_332 : BitVec 32 := 0#32
  let v483 : BitVec 1 := Scalar.cmpi .eq c2_i32_331 c0_i32_332
  let c1_i32_333 : BitVec 32 := 1#32
  let v484 : BitVec 32 := Scalar.select v483 c1_i32_333 c2_i32_331
  let v485 : BitVec 32 := Scalar.remsi v38 v484
  let c0_i32_335 : BitVec 32 := 0#32
  let v487 : BitVec 1 := Scalar.cmpi .slt v485 c0_i32_335
  let c0_i32_336 : BitVec 32 := 0#32
  let v488 : BitVec 1 := Scalar.cmpi .slt v484 c0_i32_336
  let v489 : BitVec 1 := Scalar.xori v487 v488
  let c0_i32_334 : BitVec 32 := 0#32
  let v486 : BitVec 1 := Scalar.cmpi .ne v485 c0_i32_334
  let v490 : BitVec 1 := Scalar.andi v489 v486
  let v491 : BitVec 32 := Scalar.addi v485 v484
  let v492 : BitVec 32 := Scalar.select v490 v491 v485
  let c8_i32_337 : BitVec 32 := 8#32
  let v493 : BitVec 32 := Scalar.muli v492 c8_i32_337
  let v494 : BitVec 32 := Scalar.addi v482 v493
  let c2_i32_384 : BitVec 32 := 2#32
  let v541 : BitVec 32 := Scalar.addi v494 c2_i32_384
  let c16_i32_385 : BitVec 32 := 16#32
  let v542 : BitVec 32 := Scalar.subi v541 c16_i32_385
  let c5_i32_386 : BitVec 32 := 5#32
  let v543 : BitVec 32 := Scalar.shrsi v542 c5_i32_386
  let c1_i32_390 : BitVec 32 := 1#32
  let v547 : BitVec 32 := Scalar.addi v543 c1_i32_390
  let v548 : BitVec 32 := Scalar.maxsi c0_i32_391 v547
  let v549 : BitVec 32 := Scalar.minsi c15_i32_392 v548
  let c16_i32_393 : BitVec 32 := 16#32
  let v550 : BitVec 32 := Scalar.muli v549 c16_i32_393
  let v693 : BitVec 32 := Scalar.addi v689 v550
  let v694 : Index := Scalar.indexCast v693
  ![v694.toNat]
def k0_off107 (k0_t22 : Fin k0_t22_loop.trips) : Fin 1 → Nat :=
  let c0_i32_398 : BitVec 32 := 0#32
  let c1_i32_400 : BitVec 32 := 1#32
  let arg23 : BitVec 32 := Scf.iv c0_i32_398 c1_i32_400 k0_t22
  let c19_i32 : BitVec 32 := 19#32
  let v699 : BitVec 32 := Scalar.muli arg23 c19_i32
  let v700 : Index := Scalar.indexCast v699
  ![v700.toNat]
@[reducible] def k0_t23_loop : Scf.Loop 32 :=
  let c0_i32_403 : BitVec 32 := 0#32
  let c32_i32_404 : BitVec 32 := 32#32
  let v563 : BitVec 32 := Scalar.addi c0_i32_403 c32_i32_404
  let c1_i32_405 : BitVec 32 := 1#32
  ⟨c0_i32_403, v563, c1_i32_405⟩
def k0_off108 (k0_t23 : Fin k0_t23_loop.trips) : Fin 1 → Nat :=
  let c1024_i32 : BitVec 32 := 1024#32
  let c0_i32_403 : BitVec 32 := 0#32
  let c1_i32_405 : BitVec 32 := 1#32
  let arg23 : BitVec 32 := Scf.iv c0_i32_403 c1_i32_405 k0_t23
  let c16_i32_531 : BitVec 32 := 16#32
  let v688 : BitVec 32 := Scalar.muli arg23 c16_i32_531
  let v689 : BitVec 32 := Scalar.addi c1024_i32 v688
  let v690 : Index := Scalar.indexCast v689
  ![v690.toNat]
def k0_off109 (k0_t23 : Fin k0_t23_loop.trips) : Fin 1 → Nat :=
  let c0_i32_403 : BitVec 32 := 0#32
  let c1_i32_405 : BitVec 32 := 1#32
  let arg23 : BitVec 32 := Scf.iv c0_i32_403 c1_i32_405 k0_t23
  let c16_i32_541 : BitVec 32 := 16#32
  let v715 : BitVec 32 := Scalar.muli arg23 c16_i32_541
  let v716 : Index := Scalar.indexCast v715
  ![v716.toNat]
def k0_off110 (k0_t23 : Fin k0_t23_loop.trips) (c0_i32_544 : BitVec 32) : Fin 1 → Nat :=
  let c1024_i32 : BitVec 32 := 1024#32
  let c0_i32_403 : BitVec 32 := 0#32
  let c1_i32_405 : BitVec 32 := 1#32
  let arg23 : BitVec 32 := Scf.iv c0_i32_403 c1_i32_405 k0_t23
  let c16_i32_531 : BitVec 32 := 16#32
  let v688 : BitVec 32 := Scalar.muli arg23 c16_i32_531
  let v689 : BitVec 32 := Scalar.addi c1024_i32 v688
  let v728 : BitVec 32 := Scalar.addi c0_i32_544 v689
  let v729 : Index := Scalar.indexCast v728
  ![v729.toNat]

def k0_chk481 (v738 : IVec S16 32) : Prop :=
  (∀ a x, ((![v738] : Fin 1 → IVec S16 32) a x).toNat < S1824.size a)
theorem k0_idx481_inb : ∀ (v738 : IVec S16 32) (k0_hw481 : k0_chk481 v738), ∀ a x, ((![v738] : Fin 1 → IVec S16 32) a x).toNat < S1824.size a := fun v738 k0_hw481 => k0_hw481

def k0_chk482 (v741 : IVec S16 32) : Prop :=
  (∀ a x, ((![v741] : Fin 1 → IVec S16 32) a x).toNat < S1824.size a)
theorem k0_idx482_inb : ∀ (v741 : IVec S16 32) (k0_hw482 : k0_chk482 v741), ∀ a x, ((![v741] : Fin 1 → IVec S16 32) a x).toNat < S1824.size a := fun v741 k0_hw482 => k0_hw482

def k0_chk483 (v744 : IVec S16 32) : Prop :=
  (∀ a x, ((![v744] : Fin 1 → IVec S16 32) a x).toNat < S1824.size a)
theorem k0_idx483_inb : ∀ (v744 : IVec S16 32) (k0_hw483 : k0_chk483 v744), ∀ a x, ((![v744] : Fin 1 → IVec S16 32) a x).toNat < S1824.size a := fun v744 k0_hw483 => k0_hw483

def k0_chk484 (v747 : IVec S16 32) : Prop :=
  (∀ a x, ((![v747] : Fin 1 → IVec S16 32) a x).toNat < S1824.size a)
theorem k0_idx484_inb : ∀ (v747 : IVec S16 32) (k0_hw484 : k0_chk484 v747), ∀ a x, ((![v747] : Fin 1 → IVec S16 32) a x).toNat < S1824.size a := fun v747 k0_hw484 => k0_hw484

def k0_chk485 (v760 : IVec S16 32) : Prop :=
  (∀ a x, ((![v760] : Fin 1 → IVec S16 32) a x).toNat < S1824.size a)
theorem k0_idx485_inb : ∀ (v760 : IVec S16 32) (k0_hw485 : k0_chk485 v760), ∀ a x, ((![v760] : Fin 1 → IVec S16 32) a x).toNat < S1824.size a := fun v760 k0_hw485 => k0_hw485

def k0_chk486 (v763 : IVec S16 32) : Prop :=
  (∀ a x, ((![v763] : Fin 1 → IVec S16 32) a x).toNat < S1824.size a)
theorem k0_idx486_inb : ∀ (v763 : IVec S16 32) (k0_hw486 : k0_chk486 v763), ∀ a x, ((![v763] : Fin 1 → IVec S16 32) a x).toNat < S1824.size a := fun v763 k0_hw486 => k0_hw486

def k0_chk487 (v766 : IVec S16 32) : Prop :=
  (∀ a x, ((![v766] : Fin 1 → IVec S16 32) a x).toNat < S1824.size a)
theorem k0_idx487_inb : ∀ (v766 : IVec S16 32) (k0_hw487 : k0_chk487 v766), ∀ a x, ((![v766] : Fin 1 → IVec S16 32) a x).toNat < S1824.size a := fun v766 k0_hw487 => k0_hw487

def k0_chk488 (v769 : IVec S16 32) : Prop :=
  (∀ a x, ((![v769] : Fin 1 → IVec S16 32) a x).toNat < S1824.size a)
theorem k0_idx488_inb : ∀ (v769 : IVec S16 32) (k0_hw488 : k0_chk488 v769), ∀ a x, ((![v769] : Fin 1 → IVec S16 32) a x).toNat < S1824.size a := fun v769 k0_hw488 => k0_hw488

def k0_chk489 (v783 : IVec S16 32) : Prop :=
  (∀ a x, ((![v783] : Fin 1 → IVec S16 32) a x).toNat < S1824.size a)
theorem k0_idx489_inb : ∀ (v783 : IVec S16 32) (k0_hw489 : k0_chk489 v783), ∀ a x, ((![v783] : Fin 1 → IVec S16 32) a x).toNat < S1824.size a := fun v783 k0_hw489 => k0_hw489

def k0_chk490 (v786 : IVec S16 32) : Prop :=
  (∀ a x, ((![v786] : Fin 1 → IVec S16 32) a x).toNat < S1824.size a)
theorem k0_idx490_inb : ∀ (v786 : IVec S16 32) (k0_hw490 : k0_chk490 v786), ∀ a x, ((![v786] : Fin 1 → IVec S16 32) a x).toNat < S1824.size a := fun v786 k0_hw490 => k0_hw490

def k0_chk491 (v789 : IVec S16 32) : Prop :=
  (∀ a x, ((![v789] : Fin 1 → IVec S16 32) a x).toNat < S1824.size a)
theorem k0_idx491_inb : ∀ (v789 : IVec S16 32) (k0_hw491 : k0_chk491 v789), ∀ a x, ((![v789] : Fin 1 → IVec S16 32) a x).toNat < S1824.size a := fun v789 k0_hw491 => k0_hw491

def k0_chk492 (v792 : IVec S16 32) : Prop :=
  (∀ a x, ((![v792] : Fin 1 → IVec S16 32) a x).toNat < S1824.size a)
theorem k0_idx492_inb : ∀ (v792 : IVec S16 32) (k0_hw492 : k0_chk492 v792), ∀ a x, ((![v792] : Fin 1 → IVec S16 32) a x).toNat < S1824.size a := fun v792 k0_hw492 => k0_hw492

def k0_chk493 (v806 : IVec S16 32) : Prop :=
  (∀ a x, ((![v806] : Fin 1 → IVec S16 32) a x).toNat < S1824.size a)
theorem k0_idx493_inb : ∀ (v806 : IVec S16 32) (k0_hw493 : k0_chk493 v806), ∀ a x, ((![v806] : Fin 1 → IVec S16 32) a x).toNat < S1824.size a := fun v806 k0_hw493 => k0_hw493

def k0_chk494 (v809 : IVec S16 32) : Prop :=
  (∀ a x, ((![v809] : Fin 1 → IVec S16 32) a x).toNat < S1824.size a)
theorem k0_idx494_inb : ∀ (v809 : IVec S16 32) (k0_hw494 : k0_chk494 v809), ∀ a x, ((![v809] : Fin 1 → IVec S16 32) a x).toNat < S1824.size a := fun v809 k0_hw494 => k0_hw494

def k0_chk495 (v812 : IVec S16 32) : Prop :=
  (∀ a x, ((![v812] : Fin 1 → IVec S16 32) a x).toNat < S1824.size a)
theorem k0_idx495_inb : ∀ (v812 : IVec S16 32) (k0_hw495 : k0_chk495 v812), ∀ a x, ((![v812] : Fin 1 → IVec S16 32) a x).toNat < S1824.size a := fun v812 k0_hw495 => k0_hw495

def k0_chk496 (v815 : IVec S16 32) : Prop :=
  (∀ a x, ((![v815] : Fin 1 → IVec S16 32) a x).toNat < S1824.size a)
theorem k0_idx496_inb : ∀ (v815 : IVec S16 32) (k0_hw496 : k0_chk496 v815), ∀ a x, ((![v815] : Fin 1 → IVec S16 32) a x).toNat < S1824.size a := fun v815 k0_hw496 => k0_hw496
def k0_off111 (k0_t23 : Fin k0_t23_loop.trips) : Fin 1 → Nat :=
  let c0_i32_560 : BitVec 32 := 0#32
  let c1024_i32 : BitVec 32 := 1024#32
  let c0_i32_403 : BitVec 32 := 0#32
  let c1_i32_405 : BitVec 32 := 1#32
  let arg23 : BitVec 32 := Scf.iv c0_i32_403 c1_i32_405 k0_t23
  let c16_i32_531 : BitVec 32 := 16#32
  let v688 : BitVec 32 := Scalar.muli arg23 c16_i32_531
  let v689 : BitVec 32 := Scalar.addi c1024_i32 v688
  let v827 : BitVec 32 := Scalar.addi c0_i32_560 v689
  let v828 : Index := Scalar.indexCast v827
  ![v828.toNat]

def k0_chk497 (v831 : IVec S16 32) : Prop :=
  (∀ a x, ((![v831] : Fin 1 → IVec S16 32) a x).toNat < S1824.size a)
theorem k0_idx497_inb : ∀ (v831 : IVec S16 32) (k0_hw497 : k0_chk497 v831), ∀ a x, ((![v831] : Fin 1 → IVec S16 32) a x).toNat < S1824.size a := fun v831 k0_hw497 => k0_hw497

def k0_chk498 (v834 : IVec S16 32) : Prop :=
  (∀ a x, ((![v834] : Fin 1 → IVec S16 32) a x).toNat < S1824.size a)
theorem k0_idx498_inb : ∀ (v834 : IVec S16 32) (k0_hw498 : k0_chk498 v834), ∀ a x, ((![v834] : Fin 1 → IVec S16 32) a x).toNat < S1824.size a := fun v834 k0_hw498 => k0_hw498

def k0_chk499 (v837 : IVec S16 32) : Prop :=
  (∀ a x, ((![v837] : Fin 1 → IVec S16 32) a x).toNat < S1824.size a)
theorem k0_idx499_inb : ∀ (v837 : IVec S16 32) (k0_hw499 : k0_chk499 v837), ∀ a x, ((![v837] : Fin 1 → IVec S16 32) a x).toNat < S1824.size a := fun v837 k0_hw499 => k0_hw499

def k0_chk500 (v840 : IVec S16 32) : Prop :=
  (∀ a x, ((![v840] : Fin 1 → IVec S16 32) a x).toNat < S1824.size a)
theorem k0_idx500_inb : ∀ (v840 : IVec S16 32) (k0_hw500 : k0_chk500 v840), ∀ a x, ((![v840] : Fin 1 → IVec S16 32) a x).toNat < S1824.size a := fun v840 k0_hw500 => k0_hw500

def k0_chk501 (v853 : IVec S16 32) : Prop :=
  (∀ a x, ((![v853] : Fin 1 → IVec S16 32) a x).toNat < S1824.size a)
theorem k0_idx501_inb : ∀ (v853 : IVec S16 32) (k0_hw501 : k0_chk501 v853), ∀ a x, ((![v853] : Fin 1 → IVec S16 32) a x).toNat < S1824.size a := fun v853 k0_hw501 => k0_hw501

def k0_chk502 (v856 : IVec S16 32) : Prop :=
  (∀ a x, ((![v856] : Fin 1 → IVec S16 32) a x).toNat < S1824.size a)
theorem k0_idx502_inb : ∀ (v856 : IVec S16 32) (k0_hw502 : k0_chk502 v856), ∀ a x, ((![v856] : Fin 1 → IVec S16 32) a x).toNat < S1824.size a := fun v856 k0_hw502 => k0_hw502

def k0_chk503 (v859 : IVec S16 32) : Prop :=
  (∀ a x, ((![v859] : Fin 1 → IVec S16 32) a x).toNat < S1824.size a)
theorem k0_idx503_inb : ∀ (v859 : IVec S16 32) (k0_hw503 : k0_chk503 v859), ∀ a x, ((![v859] : Fin 1 → IVec S16 32) a x).toNat < S1824.size a := fun v859 k0_hw503 => k0_hw503

def k0_chk504 (v862 : IVec S16 32) : Prop :=
  (∀ a x, ((![v862] : Fin 1 → IVec S16 32) a x).toNat < S1824.size a)
theorem k0_idx504_inb : ∀ (v862 : IVec S16 32) (k0_hw504 : k0_chk504 v862), ∀ a x, ((![v862] : Fin 1 → IVec S16 32) a x).toNat < S1824.size a := fun v862 k0_hw504 => k0_hw504

def k0_chk505 (v876 : IVec S16 32) : Prop :=
  (∀ a x, ((![v876] : Fin 1 → IVec S16 32) a x).toNat < S1824.size a)
theorem k0_idx505_inb : ∀ (v876 : IVec S16 32) (k0_hw505 : k0_chk505 v876), ∀ a x, ((![v876] : Fin 1 → IVec S16 32) a x).toNat < S1824.size a := fun v876 k0_hw505 => k0_hw505

def k0_chk506 (v879 : IVec S16 32) : Prop :=
  (∀ a x, ((![v879] : Fin 1 → IVec S16 32) a x).toNat < S1824.size a)
theorem k0_idx506_inb : ∀ (v879 : IVec S16 32) (k0_hw506 : k0_chk506 v879), ∀ a x, ((![v879] : Fin 1 → IVec S16 32) a x).toNat < S1824.size a := fun v879 k0_hw506 => k0_hw506

def k0_chk507 (v882 : IVec S16 32) : Prop :=
  (∀ a x, ((![v882] : Fin 1 → IVec S16 32) a x).toNat < S1824.size a)
theorem k0_idx507_inb : ∀ (v882 : IVec S16 32) (k0_hw507 : k0_chk507 v882), ∀ a x, ((![v882] : Fin 1 → IVec S16 32) a x).toNat < S1824.size a := fun v882 k0_hw507 => k0_hw507

def k0_chk508 (v885 : IVec S16 32) : Prop :=
  (∀ a x, ((![v885] : Fin 1 → IVec S16 32) a x).toNat < S1824.size a)
theorem k0_idx508_inb : ∀ (v885 : IVec S16 32) (k0_hw508 : k0_chk508 v885), ∀ a x, ((![v885] : Fin 1 → IVec S16 32) a x).toNat < S1824.size a := fun v885 k0_hw508 => k0_hw508

def k0_chk509 (v899 : IVec S16 32) : Prop :=
  (∀ a x, ((![v899] : Fin 1 → IVec S16 32) a x).toNat < S1824.size a)
theorem k0_idx509_inb : ∀ (v899 : IVec S16 32) (k0_hw509 : k0_chk509 v899), ∀ a x, ((![v899] : Fin 1 → IVec S16 32) a x).toNat < S1824.size a := fun v899 k0_hw509 => k0_hw509

def k0_chk510 (v902 : IVec S16 32) : Prop :=
  (∀ a x, ((![v902] : Fin 1 → IVec S16 32) a x).toNat < S1824.size a)
theorem k0_idx510_inb : ∀ (v902 : IVec S16 32) (k0_hw510 : k0_chk510 v902), ∀ a x, ((![v902] : Fin 1 → IVec S16 32) a x).toNat < S1824.size a := fun v902 k0_hw510 => k0_hw510

def k0_chk511 (v905 : IVec S16 32) : Prop :=
  (∀ a x, ((![v905] : Fin 1 → IVec S16 32) a x).toNat < S1824.size a)
theorem k0_idx511_inb : ∀ (v905 : IVec S16 32) (k0_hw511 : k0_chk511 v905), ∀ a x, ((![v905] : Fin 1 → IVec S16 32) a x).toNat < S1824.size a := fun v905 k0_hw511 => k0_hw511

def k0_chk512 (v908 : IVec S16 32) : Prop :=
  (∀ a x, ((![v908] : Fin 1 → IVec S16 32) a x).toNat < S1824.size a)
theorem k0_idx512_inb : ∀ (v908 : IVec S16 32) (k0_hw512 : k0_chk512 v908), ∀ a x, ((![v908] : Fin 1 → IVec S16 32) a x).toNat < S1824.size a := fun v908 k0_hw512 => k0_hw512
def k0_off112 (k0_t23 : Fin k0_t23_loop.trips) : Fin 1 → Nat :=
  let c4096_i32_573 : BitVec 32 := 4096#32
  let c1024_i32 : BitVec 32 := 1024#32
  let c0_i32_403 : BitVec 32 := 0#32
  let c1_i32_405 : BitVec 32 := 1#32
  let arg23 : BitVec 32 := Scf.iv c0_i32_403 c1_i32_405 k0_t23
  let c16_i32_531 : BitVec 32 := 16#32
  let v688 : BitVec 32 := Scalar.muli arg23 c16_i32_531
  let v689 : BitVec 32 := Scalar.addi c1024_i32 v688
  let v920 : BitVec 32 := Scalar.addi c4096_i32_573 v689
  let v921 : Index := Scalar.indexCast v920
  ![v921.toNat]

def k0_chk513 (v924 : IVec S16 32) : Prop :=
  (∀ a x, ((![v924] : Fin 1 → IVec S16 32) a x).toNat < S1824.size a)
theorem k0_idx513_inb : ∀ (v924 : IVec S16 32) (k0_hw513 : k0_chk513 v924), ∀ a x, ((![v924] : Fin 1 → IVec S16 32) a x).toNat < S1824.size a := fun v924 k0_hw513 => k0_hw513

def k0_chk514 (v927 : IVec S16 32) : Prop :=
  (∀ a x, ((![v927] : Fin 1 → IVec S16 32) a x).toNat < S1824.size a)
theorem k0_idx514_inb : ∀ (v927 : IVec S16 32) (k0_hw514 : k0_chk514 v927), ∀ a x, ((![v927] : Fin 1 → IVec S16 32) a x).toNat < S1824.size a := fun v927 k0_hw514 => k0_hw514

def k0_chk515 (v930 : IVec S16 32) : Prop :=
  (∀ a x, ((![v930] : Fin 1 → IVec S16 32) a x).toNat < S1824.size a)
theorem k0_idx515_inb : ∀ (v930 : IVec S16 32) (k0_hw515 : k0_chk515 v930), ∀ a x, ((![v930] : Fin 1 → IVec S16 32) a x).toNat < S1824.size a := fun v930 k0_hw515 => k0_hw515

def k0_chk516 (v933 : IVec S16 32) : Prop :=
  (∀ a x, ((![v933] : Fin 1 → IVec S16 32) a x).toNat < S1824.size a)
theorem k0_idx516_inb : ∀ (v933 : IVec S16 32) (k0_hw516 : k0_chk516 v933), ∀ a x, ((![v933] : Fin 1 → IVec S16 32) a x).toNat < S1824.size a := fun v933 k0_hw516 => k0_hw516

def k0_chk517 (v946 : IVec S16 32) : Prop :=
  (∀ a x, ((![v946] : Fin 1 → IVec S16 32) a x).toNat < S1824.size a)
theorem k0_idx517_inb : ∀ (v946 : IVec S16 32) (k0_hw517 : k0_chk517 v946), ∀ a x, ((![v946] : Fin 1 → IVec S16 32) a x).toNat < S1824.size a := fun v946 k0_hw517 => k0_hw517

def k0_chk518 (v949 : IVec S16 32) : Prop :=
  (∀ a x, ((![v949] : Fin 1 → IVec S16 32) a x).toNat < S1824.size a)
theorem k0_idx518_inb : ∀ (v949 : IVec S16 32) (k0_hw518 : k0_chk518 v949), ∀ a x, ((![v949] : Fin 1 → IVec S16 32) a x).toNat < S1824.size a := fun v949 k0_hw518 => k0_hw518

def k0_chk519 (v952 : IVec S16 32) : Prop :=
  (∀ a x, ((![v952] : Fin 1 → IVec S16 32) a x).toNat < S1824.size a)
theorem k0_idx519_inb : ∀ (v952 : IVec S16 32) (k0_hw519 : k0_chk519 v952), ∀ a x, ((![v952] : Fin 1 → IVec S16 32) a x).toNat < S1824.size a := fun v952 k0_hw519 => k0_hw519

def k0_chk520 (v955 : IVec S16 32) : Prop :=
  (∀ a x, ((![v955] : Fin 1 → IVec S16 32) a x).toNat < S1824.size a)
theorem k0_idx520_inb : ∀ (v955 : IVec S16 32) (k0_hw520 : k0_chk520 v955), ∀ a x, ((![v955] : Fin 1 → IVec S16 32) a x).toNat < S1824.size a := fun v955 k0_hw520 => k0_hw520

def k0_chk521 (v969 : IVec S16 32) : Prop :=
  (∀ a x, ((![v969] : Fin 1 → IVec S16 32) a x).toNat < S1824.size a)
theorem k0_idx521_inb : ∀ (v969 : IVec S16 32) (k0_hw521 : k0_chk521 v969), ∀ a x, ((![v969] : Fin 1 → IVec S16 32) a x).toNat < S1824.size a := fun v969 k0_hw521 => k0_hw521

def k0_chk522 (v972 : IVec S16 32) : Prop :=
  (∀ a x, ((![v972] : Fin 1 → IVec S16 32) a x).toNat < S1824.size a)
theorem k0_idx522_inb : ∀ (v972 : IVec S16 32) (k0_hw522 : k0_chk522 v972), ∀ a x, ((![v972] : Fin 1 → IVec S16 32) a x).toNat < S1824.size a := fun v972 k0_hw522 => k0_hw522

def k0_chk523 (v975 : IVec S16 32) : Prop :=
  (∀ a x, ((![v975] : Fin 1 → IVec S16 32) a x).toNat < S1824.size a)
theorem k0_idx523_inb : ∀ (v975 : IVec S16 32) (k0_hw523 : k0_chk523 v975), ∀ a x, ((![v975] : Fin 1 → IVec S16 32) a x).toNat < S1824.size a := fun v975 k0_hw523 => k0_hw523

def k0_chk524 (v978 : IVec S16 32) : Prop :=
  (∀ a x, ((![v978] : Fin 1 → IVec S16 32) a x).toNat < S1824.size a)
theorem k0_idx524_inb : ∀ (v978 : IVec S16 32) (k0_hw524 : k0_chk524 v978), ∀ a x, ((![v978] : Fin 1 → IVec S16 32) a x).toNat < S1824.size a := fun v978 k0_hw524 => k0_hw524

def k0_chk525 (v992 : IVec S16 32) : Prop :=
  (∀ a x, ((![v992] : Fin 1 → IVec S16 32) a x).toNat < S1824.size a)
theorem k0_idx525_inb : ∀ (v992 : IVec S16 32) (k0_hw525 : k0_chk525 v992), ∀ a x, ((![v992] : Fin 1 → IVec S16 32) a x).toNat < S1824.size a := fun v992 k0_hw525 => k0_hw525

def k0_chk526 (v995 : IVec S16 32) : Prop :=
  (∀ a x, ((![v995] : Fin 1 → IVec S16 32) a x).toNat < S1824.size a)
theorem k0_idx526_inb : ∀ (v995 : IVec S16 32) (k0_hw526 : k0_chk526 v995), ∀ a x, ((![v995] : Fin 1 → IVec S16 32) a x).toNat < S1824.size a := fun v995 k0_hw526 => k0_hw526

def k0_chk527 (v998 : IVec S16 32) : Prop :=
  (∀ a x, ((![v998] : Fin 1 → IVec S16 32) a x).toNat < S1824.size a)
theorem k0_idx527_inb : ∀ (v998 : IVec S16 32) (k0_hw527 : k0_chk527 v998), ∀ a x, ((![v998] : Fin 1 → IVec S16 32) a x).toNat < S1824.size a := fun v998 k0_hw527 => k0_hw527

def k0_chk528 (v1001 : IVec S16 32) : Prop :=
  (∀ a x, ((![v1001] : Fin 1 → IVec S16 32) a x).toNat < S1824.size a)
theorem k0_idx528_inb : ∀ (v1001 : IVec S16 32) (k0_hw528 : k0_chk528 v1001), ∀ a x, ((![v1001] : Fin 1 → IVec S16 32) a x).toNat < S1824.size a := fun v1001 k0_hw528 => k0_hw528
def k0_off113 (k0_t23 : Fin k0_t23_loop.trips) : Fin 1 → Nat :=
  let c8192_i32_586 : BitVec 32 := 8192#32
  let c1024_i32 : BitVec 32 := 1024#32
  let c0_i32_403 : BitVec 32 := 0#32
  let c1_i32_405 : BitVec 32 := 1#32
  let arg23 : BitVec 32 := Scf.iv c0_i32_403 c1_i32_405 k0_t23
  let c16_i32_531 : BitVec 32 := 16#32
  let v688 : BitVec 32 := Scalar.muli arg23 c16_i32_531
  let v689 : BitVec 32 := Scalar.addi c1024_i32 v688
  let v1013 : BitVec 32 := Scalar.addi c8192_i32_586 v689
  let v1014 : Index := Scalar.indexCast v1013
  ![v1014.toNat]
@[reducible] def k0_t24_loop : Scf.Loop 32 :=
  let c0_i32_421 : BitVec 32 := 0#32
  let c96_i32_422 : BitVec 32 := 96#32
  let v585 : BitVec 32 := Scalar.addi c0_i32_421 c96_i32_422
  let c1_i32_423 : BitVec 32 := 1#32
  ⟨c0_i32_421, v585, c1_i32_423⟩
def k0_off114 (i : grid0.Coords) (k0_t1 : Fin k0_t1_loop.trips) (k0_t24 : Fin k0_t24_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_421 : BitVec 32 := 0#32
  let c1_i32_423 : BitVec 32 := 1#32
  let arg23 : BitVec 32 := Scf.iv c0_i32_421 c1_i32_423 k0_t24
  let c256_i32 : BitVec 32 := 256#32
  let v688 : BitVec 32 := Scalar.muli arg23 c256_i32
  let v689 : BitVec 32 := Scalar.addi v40 v688
  let c15_i32_411 : BitVec 32 := 15#32
  let c0_i32_410 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_330 : BitVec 32 := 16#32
  let v482 : BitVec 32 := Scalar.muli v1 c16_i32_330
  let c2_i32_19 : BitVec 32 := 2#32
  let v37 : BitVec 32 := Scalar.muli arg22 c2_i32_19
  let c1_i32_20 : BitVec 32 := 1#32
  let v38 : BitVec 32 := Scalar.addi v37 c1_i32_20
  let c2_i32_331 : BitVec 32 := 2#32
  let c0_i32_332 : BitVec 32 := 0#32
  let v483 : BitVec 1 := Scalar.cmpi .eq c2_i32_331 c0_i32_332
  let c1_i32_333 : BitVec 32 := 1#32
  let v484 : BitVec 32 := Scalar.select v483 c1_i32_333 c2_i32_331
  let v485 : BitVec 32 := Scalar.remsi v38 v484
  let c0_i32_335 : BitVec 32 := 0#32
  let v487 : BitVec 1 := Scalar.cmpi .slt v485 c0_i32_335
  let c0_i32_336 : BitVec 32 := 0#32
  let v488 : BitVec 1 := Scalar.cmpi .slt v484 c0_i32_336
  let v489 : BitVec 1 := Scalar.xori v487 v488
  let c0_i32_334 : BitVec 32 := 0#32
  let v486 : BitVec 1 := Scalar.cmpi .ne v485 c0_i32_334
  let v490 : BitVec 1 := Scalar.andi v489 v486
  let v491 : BitVec 32 := Scalar.addi v485 v484
  let v492 : BitVec 32 := Scalar.select v490 v491 v485
  let c8_i32_337 : BitVec 32 := 8#32
  let v493 : BitVec 32 := Scalar.muli v492 c8_i32_337
  let v494 : BitVec 32 := Scalar.addi v482 v493
  let c3_i32_407 : BitVec 32 := 3#32
  let v564 : BitVec 32 := Scalar.addi v494 c3_i32_407
  let c16_i32_408 : BitVec 32 := 16#32
  let v565 : BitVec 32 := Scalar.subi v564 c16_i32_408
  let c5_i32_409 : BitVec 32 := 5#32
  let v566 : BitVec 32 := Scalar.shrsi v565 c5_i32_409
  let v567 : BitVec 32 := Scalar.maxsi c0_i32_410 v566
  let v568 : BitVec 32 := Scalar.minsi c15_i32_411 v567
  let c16_i32_412 : BitVec 32 := 16#32
  let v569 : BitVec 32 := Scalar.muli v568 c16_i32_412
  let v690 : BitVec 32 := Scalar.addi v689 v569
  let v691 : Index := Scalar.indexCast v690
  ![v691.toNat]
def k0_off115 (i : grid0.Coords) (k0_t1 : Fin k0_t1_loop.trips) (k0_t24 : Fin k0_t24_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_421 : BitVec 32 := 0#32
  let c1_i32_423 : BitVec 32 := 1#32
  let arg23 : BitVec 32 := Scf.iv c0_i32_421 c1_i32_423 k0_t24
  let c256_i32 : BitVec 32 := 256#32
  let v688 : BitVec 32 := Scalar.muli arg23 c256_i32
  let v689 : BitVec 32 := Scalar.addi v40 v688
  let c15_i32_415 : BitVec 32 := 15#32
  let c0_i32_414 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_330 : BitVec 32 := 16#32
  let v482 : BitVec 32 := Scalar.muli v1 c16_i32_330
  let c2_i32_19 : BitVec 32 := 2#32
  let v37 : BitVec 32 := Scalar.muli arg22 c2_i32_19
  let c1_i32_20 : BitVec 32 := 1#32
  let v38 : BitVec 32 := Scalar.addi v37 c1_i32_20
  let c2_i32_331 : BitVec 32 := 2#32
  let c0_i32_332 : BitVec 32 := 0#32
  let v483 : BitVec 1 := Scalar.cmpi .eq c2_i32_331 c0_i32_332
  let c1_i32_333 : BitVec 32 := 1#32
  let v484 : BitVec 32 := Scalar.select v483 c1_i32_333 c2_i32_331
  let v485 : BitVec 32 := Scalar.remsi v38 v484
  let c0_i32_335 : BitVec 32 := 0#32
  let v487 : BitVec 1 := Scalar.cmpi .slt v485 c0_i32_335
  let c0_i32_336 : BitVec 32 := 0#32
  let v488 : BitVec 1 := Scalar.cmpi .slt v484 c0_i32_336
  let v489 : BitVec 1 := Scalar.xori v487 v488
  let c0_i32_334 : BitVec 32 := 0#32
  let v486 : BitVec 1 := Scalar.cmpi .ne v485 c0_i32_334
  let v490 : BitVec 1 := Scalar.andi v489 v486
  let v491 : BitVec 32 := Scalar.addi v485 v484
  let v492 : BitVec 32 := Scalar.select v490 v491 v485
  let c8_i32_337 : BitVec 32 := 8#32
  let v493 : BitVec 32 := Scalar.muli v492 c8_i32_337
  let v494 : BitVec 32 := Scalar.addi v482 v493
  let c3_i32_407 : BitVec 32 := 3#32
  let v564 : BitVec 32 := Scalar.addi v494 c3_i32_407
  let c16_i32_408 : BitVec 32 := 16#32
  let v565 : BitVec 32 := Scalar.subi v564 c16_i32_408
  let c5_i32_409 : BitVec 32 := 5#32
  let v566 : BitVec 32 := Scalar.shrsi v565 c5_i32_409
  let c1_i32_413 : BitVec 32 := 1#32
  let v570 : BitVec 32 := Scalar.addi v566 c1_i32_413
  let v571 : BitVec 32 := Scalar.maxsi c0_i32_414 v570
  let v572 : BitVec 32 := Scalar.minsi c15_i32_415 v571
  let c16_i32_416 : BitVec 32 := 16#32
  let v573 : BitVec 32 := Scalar.muli v572 c16_i32_416
  let v693 : BitVec 32 := Scalar.addi v689 v573
  let v694 : Index := Scalar.indexCast v693
  ![v694.toNat]
def k0_off116 (k0_t24 : Fin k0_t24_loop.trips) : Fin 1 → Nat :=
  let c0_i32_421 : BitVec 32 := 0#32
  let c1_i32_423 : BitVec 32 := 1#32
  let arg23 : BitVec 32 := Scf.iv c0_i32_421 c1_i32_423 k0_t24
  let c19_i32 : BitVec 32 := 19#32
  let v699 : BitVec 32 := Scalar.muli arg23 c19_i32
  let v700 : Index := Scalar.indexCast v699
  ![v700.toNat]
@[reducible] def k0_t25_loop : Scf.Loop 32 :=
  let c0_i32_426 : BitVec 32 := 0#32
  let c32_i32_427 : BitVec 32 := 32#32
  let v586 : BitVec 32 := Scalar.addi c0_i32_426 c32_i32_427
  let c1_i32_428 : BitVec 32 := 1#32
  ⟨c0_i32_426, v586, c1_i32_428⟩
def k0_off117 (k0_t25 : Fin k0_t25_loop.trips) : Fin 1 → Nat :=
  let c1536_i32 : BitVec 32 := 1536#32
  let c0_i32_426 : BitVec 32 := 0#32
  let c1_i32_428 : BitVec 32 := 1#32
  let arg23 : BitVec 32 := Scf.iv c0_i32_426 c1_i32_428 k0_t25
  let c16_i32_531 : BitVec 32 := 16#32
  let v688 : BitVec 32 := Scalar.muli arg23 c16_i32_531
  let v689 : BitVec 32 := Scalar.addi c1536_i32 v688
  let v690 : Index := Scalar.indexCast v689
  ![v690.toNat]
def k0_off118 (k0_t25 : Fin k0_t25_loop.trips) : Fin 1 → Nat :=
  let c0_i32_426 : BitVec 32 := 0#32
  let c1_i32_428 : BitVec 32 := 1#32
  let arg23 : BitVec 32 := Scf.iv c0_i32_426 c1_i32_428 k0_t25
  let c16_i32_541 : BitVec 32 := 16#32
  let v715 : BitVec 32 := Scalar.muli arg23 c16_i32_541
  let v716 : Index := Scalar.indexCast v715
  ![v716.toNat]
def k0_off119 (k0_t25 : Fin k0_t25_loop.trips) (c0_i32_544 : BitVec 32) : Fin 1 → Nat :=
  let c1536_i32 : BitVec 32 := 1536#32
  let c0_i32_426 : BitVec 32 := 0#32
  let c1_i32_428 : BitVec 32 := 1#32
  let arg23 : BitVec 32 := Scf.iv c0_i32_426 c1_i32_428 k0_t25
  let c16_i32_531 : BitVec 32 := 16#32
  let v688 : BitVec 32 := Scalar.muli arg23 c16_i32_531
  let v689 : BitVec 32 := Scalar.addi c1536_i32 v688
  let v728 : BitVec 32 := Scalar.addi c0_i32_544 v689
  let v729 : Index := Scalar.indexCast v728
  ![v729.toNat]

def k0_chk529 (v738 : IVec S16 32) : Prop :=
  (∀ a x, ((![v738] : Fin 1 → IVec S16 32) a x).toNat < S1824.size a)
theorem k0_idx529_inb : ∀ (v738 : IVec S16 32) (k0_hw529 : k0_chk529 v738), ∀ a x, ((![v738] : Fin 1 → IVec S16 32) a x).toNat < S1824.size a := fun v738 k0_hw529 => k0_hw529

def k0_chk530 (v741 : IVec S16 32) : Prop :=
  (∀ a x, ((![v741] : Fin 1 → IVec S16 32) a x).toNat < S1824.size a)
theorem k0_idx530_inb : ∀ (v741 : IVec S16 32) (k0_hw530 : k0_chk530 v741), ∀ a x, ((![v741] : Fin 1 → IVec S16 32) a x).toNat < S1824.size a := fun v741 k0_hw530 => k0_hw530

def k0_chk531 (v744 : IVec S16 32) : Prop :=
  (∀ a x, ((![v744] : Fin 1 → IVec S16 32) a x).toNat < S1824.size a)
theorem k0_idx531_inb : ∀ (v744 : IVec S16 32) (k0_hw531 : k0_chk531 v744), ∀ a x, ((![v744] : Fin 1 → IVec S16 32) a x).toNat < S1824.size a := fun v744 k0_hw531 => k0_hw531

def k0_chk532 (v747 : IVec S16 32) : Prop :=
  (∀ a x, ((![v747] : Fin 1 → IVec S16 32) a x).toNat < S1824.size a)
theorem k0_idx532_inb : ∀ (v747 : IVec S16 32) (k0_hw532 : k0_chk532 v747), ∀ a x, ((![v747] : Fin 1 → IVec S16 32) a x).toNat < S1824.size a := fun v747 k0_hw532 => k0_hw532

def k0_chk533 (v760 : IVec S16 32) : Prop :=
  (∀ a x, ((![v760] : Fin 1 → IVec S16 32) a x).toNat < S1824.size a)
theorem k0_idx533_inb : ∀ (v760 : IVec S16 32) (k0_hw533 : k0_chk533 v760), ∀ a x, ((![v760] : Fin 1 → IVec S16 32) a x).toNat < S1824.size a := fun v760 k0_hw533 => k0_hw533

def k0_chk534 (v763 : IVec S16 32) : Prop :=
  (∀ a x, ((![v763] : Fin 1 → IVec S16 32) a x).toNat < S1824.size a)
theorem k0_idx534_inb : ∀ (v763 : IVec S16 32) (k0_hw534 : k0_chk534 v763), ∀ a x, ((![v763] : Fin 1 → IVec S16 32) a x).toNat < S1824.size a := fun v763 k0_hw534 => k0_hw534

def k0_chk535 (v766 : IVec S16 32) : Prop :=
  (∀ a x, ((![v766] : Fin 1 → IVec S16 32) a x).toNat < S1824.size a)
theorem k0_idx535_inb : ∀ (v766 : IVec S16 32) (k0_hw535 : k0_chk535 v766), ∀ a x, ((![v766] : Fin 1 → IVec S16 32) a x).toNat < S1824.size a := fun v766 k0_hw535 => k0_hw535

def k0_chk536 (v769 : IVec S16 32) : Prop :=
  (∀ a x, ((![v769] : Fin 1 → IVec S16 32) a x).toNat < S1824.size a)
theorem k0_idx536_inb : ∀ (v769 : IVec S16 32) (k0_hw536 : k0_chk536 v769), ∀ a x, ((![v769] : Fin 1 → IVec S16 32) a x).toNat < S1824.size a := fun v769 k0_hw536 => k0_hw536

def k0_chk537 (v783 : IVec S16 32) : Prop :=
  (∀ a x, ((![v783] : Fin 1 → IVec S16 32) a x).toNat < S1824.size a)
theorem k0_idx537_inb : ∀ (v783 : IVec S16 32) (k0_hw537 : k0_chk537 v783), ∀ a x, ((![v783] : Fin 1 → IVec S16 32) a x).toNat < S1824.size a := fun v783 k0_hw537 => k0_hw537

def k0_chk538 (v786 : IVec S16 32) : Prop :=
  (∀ a x, ((![v786] : Fin 1 → IVec S16 32) a x).toNat < S1824.size a)
theorem k0_idx538_inb : ∀ (v786 : IVec S16 32) (k0_hw538 : k0_chk538 v786), ∀ a x, ((![v786] : Fin 1 → IVec S16 32) a x).toNat < S1824.size a := fun v786 k0_hw538 => k0_hw538

def k0_chk539 (v789 : IVec S16 32) : Prop :=
  (∀ a x, ((![v789] : Fin 1 → IVec S16 32) a x).toNat < S1824.size a)
theorem k0_idx539_inb : ∀ (v789 : IVec S16 32) (k0_hw539 : k0_chk539 v789), ∀ a x, ((![v789] : Fin 1 → IVec S16 32) a x).toNat < S1824.size a := fun v789 k0_hw539 => k0_hw539

def k0_chk540 (v792 : IVec S16 32) : Prop :=
  (∀ a x, ((![v792] : Fin 1 → IVec S16 32) a x).toNat < S1824.size a)
theorem k0_idx540_inb : ∀ (v792 : IVec S16 32) (k0_hw540 : k0_chk540 v792), ∀ a x, ((![v792] : Fin 1 → IVec S16 32) a x).toNat < S1824.size a := fun v792 k0_hw540 => k0_hw540

def k0_chk541 (v806 : IVec S16 32) : Prop :=
  (∀ a x, ((![v806] : Fin 1 → IVec S16 32) a x).toNat < S1824.size a)
theorem k0_idx541_inb : ∀ (v806 : IVec S16 32) (k0_hw541 : k0_chk541 v806), ∀ a x, ((![v806] : Fin 1 → IVec S16 32) a x).toNat < S1824.size a := fun v806 k0_hw541 => k0_hw541

def k0_chk542 (v809 : IVec S16 32) : Prop :=
  (∀ a x, ((![v809] : Fin 1 → IVec S16 32) a x).toNat < S1824.size a)
theorem k0_idx542_inb : ∀ (v809 : IVec S16 32) (k0_hw542 : k0_chk542 v809), ∀ a x, ((![v809] : Fin 1 → IVec S16 32) a x).toNat < S1824.size a := fun v809 k0_hw542 => k0_hw542

def k0_chk543 (v812 : IVec S16 32) : Prop :=
  (∀ a x, ((![v812] : Fin 1 → IVec S16 32) a x).toNat < S1824.size a)
theorem k0_idx543_inb : ∀ (v812 : IVec S16 32) (k0_hw543 : k0_chk543 v812), ∀ a x, ((![v812] : Fin 1 → IVec S16 32) a x).toNat < S1824.size a := fun v812 k0_hw543 => k0_hw543

def k0_chk544 (v815 : IVec S16 32) : Prop :=
  (∀ a x, ((![v815] : Fin 1 → IVec S16 32) a x).toNat < S1824.size a)
theorem k0_idx544_inb : ∀ (v815 : IVec S16 32) (k0_hw544 : k0_chk544 v815), ∀ a x, ((![v815] : Fin 1 → IVec S16 32) a x).toNat < S1824.size a := fun v815 k0_hw544 => k0_hw544
def k0_off120 (k0_t25 : Fin k0_t25_loop.trips) : Fin 1 → Nat :=
  let c0_i32_560 : BitVec 32 := 0#32
  let c1536_i32 : BitVec 32 := 1536#32
  let c0_i32_426 : BitVec 32 := 0#32
  let c1_i32_428 : BitVec 32 := 1#32
  let arg23 : BitVec 32 := Scf.iv c0_i32_426 c1_i32_428 k0_t25
  let c16_i32_531 : BitVec 32 := 16#32
  let v688 : BitVec 32 := Scalar.muli arg23 c16_i32_531
  let v689 : BitVec 32 := Scalar.addi c1536_i32 v688
  let v827 : BitVec 32 := Scalar.addi c0_i32_560 v689
  let v828 : Index := Scalar.indexCast v827
  ![v828.toNat]

def k0_chk545 (v831 : IVec S16 32) : Prop :=
  (∀ a x, ((![v831] : Fin 1 → IVec S16 32) a x).toNat < S1824.size a)
theorem k0_idx545_inb : ∀ (v831 : IVec S16 32) (k0_hw545 : k0_chk545 v831), ∀ a x, ((![v831] : Fin 1 → IVec S16 32) a x).toNat < S1824.size a := fun v831 k0_hw545 => k0_hw545

def k0_chk546 (v834 : IVec S16 32) : Prop :=
  (∀ a x, ((![v834] : Fin 1 → IVec S16 32) a x).toNat < S1824.size a)
theorem k0_idx546_inb : ∀ (v834 : IVec S16 32) (k0_hw546 : k0_chk546 v834), ∀ a x, ((![v834] : Fin 1 → IVec S16 32) a x).toNat < S1824.size a := fun v834 k0_hw546 => k0_hw546

def k0_chk547 (v837 : IVec S16 32) : Prop :=
  (∀ a x, ((![v837] : Fin 1 → IVec S16 32) a x).toNat < S1824.size a)
theorem k0_idx547_inb : ∀ (v837 : IVec S16 32) (k0_hw547 : k0_chk547 v837), ∀ a x, ((![v837] : Fin 1 → IVec S16 32) a x).toNat < S1824.size a := fun v837 k0_hw547 => k0_hw547

def k0_chk548 (v840 : IVec S16 32) : Prop :=
  (∀ a x, ((![v840] : Fin 1 → IVec S16 32) a x).toNat < S1824.size a)
theorem k0_idx548_inb : ∀ (v840 : IVec S16 32) (k0_hw548 : k0_chk548 v840), ∀ a x, ((![v840] : Fin 1 → IVec S16 32) a x).toNat < S1824.size a := fun v840 k0_hw548 => k0_hw548

def k0_chk549 (v853 : IVec S16 32) : Prop :=
  (∀ a x, ((![v853] : Fin 1 → IVec S16 32) a x).toNat < S1824.size a)
theorem k0_idx549_inb : ∀ (v853 : IVec S16 32) (k0_hw549 : k0_chk549 v853), ∀ a x, ((![v853] : Fin 1 → IVec S16 32) a x).toNat < S1824.size a := fun v853 k0_hw549 => k0_hw549

def k0_chk550 (v856 : IVec S16 32) : Prop :=
  (∀ a x, ((![v856] : Fin 1 → IVec S16 32) a x).toNat < S1824.size a)
theorem k0_idx550_inb : ∀ (v856 : IVec S16 32) (k0_hw550 : k0_chk550 v856), ∀ a x, ((![v856] : Fin 1 → IVec S16 32) a x).toNat < S1824.size a := fun v856 k0_hw550 => k0_hw550

def k0_chk551 (v859 : IVec S16 32) : Prop :=
  (∀ a x, ((![v859] : Fin 1 → IVec S16 32) a x).toNat < S1824.size a)
theorem k0_idx551_inb : ∀ (v859 : IVec S16 32) (k0_hw551 : k0_chk551 v859), ∀ a x, ((![v859] : Fin 1 → IVec S16 32) a x).toNat < S1824.size a := fun v859 k0_hw551 => k0_hw551

def k0_chk552 (v862 : IVec S16 32) : Prop :=
  (∀ a x, ((![v862] : Fin 1 → IVec S16 32) a x).toNat < S1824.size a)
theorem k0_idx552_inb : ∀ (v862 : IVec S16 32) (k0_hw552 : k0_chk552 v862), ∀ a x, ((![v862] : Fin 1 → IVec S16 32) a x).toNat < S1824.size a := fun v862 k0_hw552 => k0_hw552

def k0_chk553 (v876 : IVec S16 32) : Prop :=
  (∀ a x, ((![v876] : Fin 1 → IVec S16 32) a x).toNat < S1824.size a)
theorem k0_idx553_inb : ∀ (v876 : IVec S16 32) (k0_hw553 : k0_chk553 v876), ∀ a x, ((![v876] : Fin 1 → IVec S16 32) a x).toNat < S1824.size a := fun v876 k0_hw553 => k0_hw553

def k0_chk554 (v879 : IVec S16 32) : Prop :=
  (∀ a x, ((![v879] : Fin 1 → IVec S16 32) a x).toNat < S1824.size a)
theorem k0_idx554_inb : ∀ (v879 : IVec S16 32) (k0_hw554 : k0_chk554 v879), ∀ a x, ((![v879] : Fin 1 → IVec S16 32) a x).toNat < S1824.size a := fun v879 k0_hw554 => k0_hw554

def k0_chk555 (v882 : IVec S16 32) : Prop :=
  (∀ a x, ((![v882] : Fin 1 → IVec S16 32) a x).toNat < S1824.size a)
theorem k0_idx555_inb : ∀ (v882 : IVec S16 32) (k0_hw555 : k0_chk555 v882), ∀ a x, ((![v882] : Fin 1 → IVec S16 32) a x).toNat < S1824.size a := fun v882 k0_hw555 => k0_hw555

def k0_chk556 (v885 : IVec S16 32) : Prop :=
  (∀ a x, ((![v885] : Fin 1 → IVec S16 32) a x).toNat < S1824.size a)
theorem k0_idx556_inb : ∀ (v885 : IVec S16 32) (k0_hw556 : k0_chk556 v885), ∀ a x, ((![v885] : Fin 1 → IVec S16 32) a x).toNat < S1824.size a := fun v885 k0_hw556 => k0_hw556

def k0_chk557 (v899 : IVec S16 32) : Prop :=
  (∀ a x, ((![v899] : Fin 1 → IVec S16 32) a x).toNat < S1824.size a)
theorem k0_idx557_inb : ∀ (v899 : IVec S16 32) (k0_hw557 : k0_chk557 v899), ∀ a x, ((![v899] : Fin 1 → IVec S16 32) a x).toNat < S1824.size a := fun v899 k0_hw557 => k0_hw557

def k0_chk558 (v902 : IVec S16 32) : Prop :=
  (∀ a x, ((![v902] : Fin 1 → IVec S16 32) a x).toNat < S1824.size a)
theorem k0_idx558_inb : ∀ (v902 : IVec S16 32) (k0_hw558 : k0_chk558 v902), ∀ a x, ((![v902] : Fin 1 → IVec S16 32) a x).toNat < S1824.size a := fun v902 k0_hw558 => k0_hw558

def k0_chk559 (v905 : IVec S16 32) : Prop :=
  (∀ a x, ((![v905] : Fin 1 → IVec S16 32) a x).toNat < S1824.size a)
theorem k0_idx559_inb : ∀ (v905 : IVec S16 32) (k0_hw559 : k0_chk559 v905), ∀ a x, ((![v905] : Fin 1 → IVec S16 32) a x).toNat < S1824.size a := fun v905 k0_hw559 => k0_hw559

def k0_chk560 (v908 : IVec S16 32) : Prop :=
  (∀ a x, ((![v908] : Fin 1 → IVec S16 32) a x).toNat < S1824.size a)
theorem k0_idx560_inb : ∀ (v908 : IVec S16 32) (k0_hw560 : k0_chk560 v908), ∀ a x, ((![v908] : Fin 1 → IVec S16 32) a x).toNat < S1824.size a := fun v908 k0_hw560 => k0_hw560
def k0_off121 (k0_t25 : Fin k0_t25_loop.trips) : Fin 1 → Nat :=
  let c4096_i32_573 : BitVec 32 := 4096#32
  let c1536_i32 : BitVec 32 := 1536#32
  let c0_i32_426 : BitVec 32 := 0#32
  let c1_i32_428 : BitVec 32 := 1#32
  let arg23 : BitVec 32 := Scf.iv c0_i32_426 c1_i32_428 k0_t25
  let c16_i32_531 : BitVec 32 := 16#32
  let v688 : BitVec 32 := Scalar.muli arg23 c16_i32_531
  let v689 : BitVec 32 := Scalar.addi c1536_i32 v688
  let v920 : BitVec 32 := Scalar.addi c4096_i32_573 v689
  let v921 : Index := Scalar.indexCast v920
  ![v921.toNat]

def k0_chk561 (v924 : IVec S16 32) : Prop :=
  (∀ a x, ((![v924] : Fin 1 → IVec S16 32) a x).toNat < S1824.size a)
theorem k0_idx561_inb : ∀ (v924 : IVec S16 32) (k0_hw561 : k0_chk561 v924), ∀ a x, ((![v924] : Fin 1 → IVec S16 32) a x).toNat < S1824.size a := fun v924 k0_hw561 => k0_hw561

def k0_chk562 (v927 : IVec S16 32) : Prop :=
  (∀ a x, ((![v927] : Fin 1 → IVec S16 32) a x).toNat < S1824.size a)
theorem k0_idx562_inb : ∀ (v927 : IVec S16 32) (k0_hw562 : k0_chk562 v927), ∀ a x, ((![v927] : Fin 1 → IVec S16 32) a x).toNat < S1824.size a := fun v927 k0_hw562 => k0_hw562

def k0_chk563 (v930 : IVec S16 32) : Prop :=
  (∀ a x, ((![v930] : Fin 1 → IVec S16 32) a x).toNat < S1824.size a)
theorem k0_idx563_inb : ∀ (v930 : IVec S16 32) (k0_hw563 : k0_chk563 v930), ∀ a x, ((![v930] : Fin 1 → IVec S16 32) a x).toNat < S1824.size a := fun v930 k0_hw563 => k0_hw563

def k0_chk564 (v933 : IVec S16 32) : Prop :=
  (∀ a x, ((![v933] : Fin 1 → IVec S16 32) a x).toNat < S1824.size a)
theorem k0_idx564_inb : ∀ (v933 : IVec S16 32) (k0_hw564 : k0_chk564 v933), ∀ a x, ((![v933] : Fin 1 → IVec S16 32) a x).toNat < S1824.size a := fun v933 k0_hw564 => k0_hw564

def k0_chk565 (v946 : IVec S16 32) : Prop :=
  (∀ a x, ((![v946] : Fin 1 → IVec S16 32) a x).toNat < S1824.size a)
theorem k0_idx565_inb : ∀ (v946 : IVec S16 32) (k0_hw565 : k0_chk565 v946), ∀ a x, ((![v946] : Fin 1 → IVec S16 32) a x).toNat < S1824.size a := fun v946 k0_hw565 => k0_hw565

def k0_chk566 (v949 : IVec S16 32) : Prop :=
  (∀ a x, ((![v949] : Fin 1 → IVec S16 32) a x).toNat < S1824.size a)
theorem k0_idx566_inb : ∀ (v949 : IVec S16 32) (k0_hw566 : k0_chk566 v949), ∀ a x, ((![v949] : Fin 1 → IVec S16 32) a x).toNat < S1824.size a := fun v949 k0_hw566 => k0_hw566

def k0_chk567 (v952 : IVec S16 32) : Prop :=
  (∀ a x, ((![v952] : Fin 1 → IVec S16 32) a x).toNat < S1824.size a)
theorem k0_idx567_inb : ∀ (v952 : IVec S16 32) (k0_hw567 : k0_chk567 v952), ∀ a x, ((![v952] : Fin 1 → IVec S16 32) a x).toNat < S1824.size a := fun v952 k0_hw567 => k0_hw567

def k0_chk568 (v955 : IVec S16 32) : Prop :=
  (∀ a x, ((![v955] : Fin 1 → IVec S16 32) a x).toNat < S1824.size a)
theorem k0_idx568_inb : ∀ (v955 : IVec S16 32) (k0_hw568 : k0_chk568 v955), ∀ a x, ((![v955] : Fin 1 → IVec S16 32) a x).toNat < S1824.size a := fun v955 k0_hw568 => k0_hw568

def k0_chk569 (v969 : IVec S16 32) : Prop :=
  (∀ a x, ((![v969] : Fin 1 → IVec S16 32) a x).toNat < S1824.size a)
theorem k0_idx569_inb : ∀ (v969 : IVec S16 32) (k0_hw569 : k0_chk569 v969), ∀ a x, ((![v969] : Fin 1 → IVec S16 32) a x).toNat < S1824.size a := fun v969 k0_hw569 => k0_hw569

def k0_chk570 (v972 : IVec S16 32) : Prop :=
  (∀ a x, ((![v972] : Fin 1 → IVec S16 32) a x).toNat < S1824.size a)
theorem k0_idx570_inb : ∀ (v972 : IVec S16 32) (k0_hw570 : k0_chk570 v972), ∀ a x, ((![v972] : Fin 1 → IVec S16 32) a x).toNat < S1824.size a := fun v972 k0_hw570 => k0_hw570

def k0_chk571 (v975 : IVec S16 32) : Prop :=
  (∀ a x, ((![v975] : Fin 1 → IVec S16 32) a x).toNat < S1824.size a)
theorem k0_idx571_inb : ∀ (v975 : IVec S16 32) (k0_hw571 : k0_chk571 v975), ∀ a x, ((![v975] : Fin 1 → IVec S16 32) a x).toNat < S1824.size a := fun v975 k0_hw571 => k0_hw571

def k0_chk572 (v978 : IVec S16 32) : Prop :=
  (∀ a x, ((![v978] : Fin 1 → IVec S16 32) a x).toNat < S1824.size a)
theorem k0_idx572_inb : ∀ (v978 : IVec S16 32) (k0_hw572 : k0_chk572 v978), ∀ a x, ((![v978] : Fin 1 → IVec S16 32) a x).toNat < S1824.size a := fun v978 k0_hw572 => k0_hw572

def k0_chk573 (v992 : IVec S16 32) : Prop :=
  (∀ a x, ((![v992] : Fin 1 → IVec S16 32) a x).toNat < S1824.size a)
theorem k0_idx573_inb : ∀ (v992 : IVec S16 32) (k0_hw573 : k0_chk573 v992), ∀ a x, ((![v992] : Fin 1 → IVec S16 32) a x).toNat < S1824.size a := fun v992 k0_hw573 => k0_hw573

def k0_chk574 (v995 : IVec S16 32) : Prop :=
  (∀ a x, ((![v995] : Fin 1 → IVec S16 32) a x).toNat < S1824.size a)
theorem k0_idx574_inb : ∀ (v995 : IVec S16 32) (k0_hw574 : k0_chk574 v995), ∀ a x, ((![v995] : Fin 1 → IVec S16 32) a x).toNat < S1824.size a := fun v995 k0_hw574 => k0_hw574

def k0_chk575 (v998 : IVec S16 32) : Prop :=
  (∀ a x, ((![v998] : Fin 1 → IVec S16 32) a x).toNat < S1824.size a)
theorem k0_idx575_inb : ∀ (v998 : IVec S16 32) (k0_hw575 : k0_chk575 v998), ∀ a x, ((![v998] : Fin 1 → IVec S16 32) a x).toNat < S1824.size a := fun v998 k0_hw575 => k0_hw575

def k0_chk576 (v1001 : IVec S16 32) : Prop :=
  (∀ a x, ((![v1001] : Fin 1 → IVec S16 32) a x).toNat < S1824.size a)
theorem k0_idx576_inb : ∀ (v1001 : IVec S16 32) (k0_hw576 : k0_chk576 v1001), ∀ a x, ((![v1001] : Fin 1 → IVec S16 32) a x).toNat < S1824.size a := fun v1001 k0_hw576 => k0_hw576
def k0_off122 (k0_t25 : Fin k0_t25_loop.trips) : Fin 1 → Nat :=
  let c8192_i32_586 : BitVec 32 := 8192#32
  let c1536_i32 : BitVec 32 := 1536#32
  let c0_i32_426 : BitVec 32 := 0#32
  let c1_i32_428 : BitVec 32 := 1#32
  let arg23 : BitVec 32 := Scf.iv c0_i32_426 c1_i32_428 k0_t25
  let c16_i32_531 : BitVec 32 := 16#32
  let v688 : BitVec 32 := Scalar.muli arg23 c16_i32_531
  let v689 : BitVec 32 := Scalar.addi c1536_i32 v688
  let v1013 : BitVec 32 := Scalar.addi c8192_i32_586 v689
  let v1014 : Index := Scalar.indexCast v1013
  ![v1014.toNat]
@[reducible] def k0_t26_loop : Scf.Loop 32 :=
  let c0_i32_444 : BitVec 32 := 0#32
  let c96_i32_445 : BitVec 32 := 96#32
  let v608 : BitVec 32 := Scalar.addi c0_i32_444 c96_i32_445
  let c1_i32_446 : BitVec 32 := 1#32
  ⟨c0_i32_444, v608, c1_i32_446⟩
def k0_off123 (i : grid0.Coords) (k0_t1 : Fin k0_t1_loop.trips) (k0_t26 : Fin k0_t26_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_444 : BitVec 32 := 0#32
  let c1_i32_446 : BitVec 32 := 1#32
  let arg23 : BitVec 32 := Scf.iv c0_i32_444 c1_i32_446 k0_t26
  let c256_i32 : BitVec 32 := 256#32
  let v688 : BitVec 32 := Scalar.muli arg23 c256_i32
  let v689 : BitVec 32 := Scalar.addi v40 v688
  let c15_i32_434 : BitVec 32 := 15#32
  let c0_i32_433 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_330 : BitVec 32 := 16#32
  let v482 : BitVec 32 := Scalar.muli v1 c16_i32_330
  let c2_i32_19 : BitVec 32 := 2#32
  let v37 : BitVec 32 := Scalar.muli arg22 c2_i32_19
  let c1_i32_20 : BitVec 32 := 1#32
  let v38 : BitVec 32 := Scalar.addi v37 c1_i32_20
  let c2_i32_331 : BitVec 32 := 2#32
  let c0_i32_332 : BitVec 32 := 0#32
  let v483 : BitVec 1 := Scalar.cmpi .eq c2_i32_331 c0_i32_332
  let c1_i32_333 : BitVec 32 := 1#32
  let v484 : BitVec 32 := Scalar.select v483 c1_i32_333 c2_i32_331
  let v485 : BitVec 32 := Scalar.remsi v38 v484
  let c0_i32_335 : BitVec 32 := 0#32
  let v487 : BitVec 1 := Scalar.cmpi .slt v485 c0_i32_335
  let c0_i32_336 : BitVec 32 := 0#32
  let v488 : BitVec 1 := Scalar.cmpi .slt v484 c0_i32_336
  let v489 : BitVec 1 := Scalar.xori v487 v488
  let c0_i32_334 : BitVec 32 := 0#32
  let v486 : BitVec 1 := Scalar.cmpi .ne v485 c0_i32_334
  let v490 : BitVec 1 := Scalar.andi v489 v486
  let v491 : BitVec 32 := Scalar.addi v485 v484
  let v492 : BitVec 32 := Scalar.select v490 v491 v485
  let c8_i32_337 : BitVec 32 := 8#32
  let v493 : BitVec 32 := Scalar.muli v492 c8_i32_337
  let v494 : BitVec 32 := Scalar.addi v482 v493
  let c4_i32_430 : BitVec 32 := 4#32
  let v587 : BitVec 32 := Scalar.addi v494 c4_i32_430
  let c16_i32_431 : BitVec 32 := 16#32
  let v588 : BitVec 32 := Scalar.subi v587 c16_i32_431
  let c5_i32_432 : BitVec 32 := 5#32
  let v589 : BitVec 32 := Scalar.shrsi v588 c5_i32_432
  let v590 : BitVec 32 := Scalar.maxsi c0_i32_433 v589
  let v591 : BitVec 32 := Scalar.minsi c15_i32_434 v590
  let c16_i32_435 : BitVec 32 := 16#32
  let v592 : BitVec 32 := Scalar.muli v591 c16_i32_435
  let v690 : BitVec 32 := Scalar.addi v689 v592
  let v691 : Index := Scalar.indexCast v690
  ![v691.toNat]
def k0_off124 (i : grid0.Coords) (k0_t1 : Fin k0_t1_loop.trips) (k0_t26 : Fin k0_t26_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_444 : BitVec 32 := 0#32
  let c1_i32_446 : BitVec 32 := 1#32
  let arg23 : BitVec 32 := Scf.iv c0_i32_444 c1_i32_446 k0_t26
  let c256_i32 : BitVec 32 := 256#32
  let v688 : BitVec 32 := Scalar.muli arg23 c256_i32
  let v689 : BitVec 32 := Scalar.addi v40 v688
  let c15_i32_438 : BitVec 32 := 15#32
  let c0_i32_437 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_330 : BitVec 32 := 16#32
  let v482 : BitVec 32 := Scalar.muli v1 c16_i32_330
  let c2_i32_19 : BitVec 32 := 2#32
  let v37 : BitVec 32 := Scalar.muli arg22 c2_i32_19
  let c1_i32_20 : BitVec 32 := 1#32
  let v38 : BitVec 32 := Scalar.addi v37 c1_i32_20
  let c2_i32_331 : BitVec 32 := 2#32
  let c0_i32_332 : BitVec 32 := 0#32
  let v483 : BitVec 1 := Scalar.cmpi .eq c2_i32_331 c0_i32_332
  let c1_i32_333 : BitVec 32 := 1#32
  let v484 : BitVec 32 := Scalar.select v483 c1_i32_333 c2_i32_331
  let v485 : BitVec 32 := Scalar.remsi v38 v484
  let c0_i32_335 : BitVec 32 := 0#32
  let v487 : BitVec 1 := Scalar.cmpi .slt v485 c0_i32_335
  let c0_i32_336 : BitVec 32 := 0#32
  let v488 : BitVec 1 := Scalar.cmpi .slt v484 c0_i32_336
  let v489 : BitVec 1 := Scalar.xori v487 v488
  let c0_i32_334 : BitVec 32 := 0#32
  let v486 : BitVec 1 := Scalar.cmpi .ne v485 c0_i32_334
  let v490 : BitVec 1 := Scalar.andi v489 v486
  let v491 : BitVec 32 := Scalar.addi v485 v484
  let v492 : BitVec 32 := Scalar.select v490 v491 v485
  let c8_i32_337 : BitVec 32 := 8#32
  let v493 : BitVec 32 := Scalar.muli v492 c8_i32_337
  let v494 : BitVec 32 := Scalar.addi v482 v493
  let c4_i32_430 : BitVec 32 := 4#32
  let v587 : BitVec 32 := Scalar.addi v494 c4_i32_430
  let c16_i32_431 : BitVec 32 := 16#32
  let v588 : BitVec 32 := Scalar.subi v587 c16_i32_431
  let c5_i32_432 : BitVec 32 := 5#32
  let v589 : BitVec 32 := Scalar.shrsi v588 c5_i32_432
  let c1_i32_436 : BitVec 32 := 1#32
  let v593 : BitVec 32 := Scalar.addi v589 c1_i32_436
  let v594 : BitVec 32 := Scalar.maxsi c0_i32_437 v593
  let v595 : BitVec 32 := Scalar.minsi c15_i32_438 v594
  let c16_i32_439 : BitVec 32 := 16#32
  let v596 : BitVec 32 := Scalar.muli v595 c16_i32_439
  let v693 : BitVec 32 := Scalar.addi v689 v596
  let v694 : Index := Scalar.indexCast v693
  ![v694.toNat]
def k0_off125 (k0_t26 : Fin k0_t26_loop.trips) : Fin 1 → Nat :=
  let c0_i32_444 : BitVec 32 := 0#32
  let c1_i32_446 : BitVec 32 := 1#32
  let arg23 : BitVec 32 := Scf.iv c0_i32_444 c1_i32_446 k0_t26
  let c19_i32 : BitVec 32 := 19#32
  let v699 : BitVec 32 := Scalar.muli arg23 c19_i32
  let v700 : Index := Scalar.indexCast v699
  ![v700.toNat]
@[reducible] def k0_t27_loop : Scf.Loop 32 :=
  let c0_i32_449 : BitVec 32 := 0#32
  let c32_i32_450 : BitVec 32 := 32#32
  let v609 : BitVec 32 := Scalar.addi c0_i32_449 c32_i32_450
  let c1_i32_451 : BitVec 32 := 1#32
  ⟨c0_i32_449, v609, c1_i32_451⟩
def k0_off126 (k0_t27 : Fin k0_t27_loop.trips) : Fin 1 → Nat :=
  let c2048_i32 : BitVec 32 := 2048#32
  let c0_i32_449 : BitVec 32 := 0#32
  let c1_i32_451 : BitVec 32 := 1#32
  let arg23 : BitVec 32 := Scf.iv c0_i32_449 c1_i32_451 k0_t27
  let c16_i32_531 : BitVec 32 := 16#32
  let v688 : BitVec 32 := Scalar.muli arg23 c16_i32_531
  let v689 : BitVec 32 := Scalar.addi c2048_i32 v688
  let v690 : Index := Scalar.indexCast v689
  ![v690.toNat]
def k0_off127 (k0_t27 : Fin k0_t27_loop.trips) : Fin 1 → Nat :=
  let c0_i32_449 : BitVec 32 := 0#32
  let c1_i32_451 : BitVec 32 := 1#32
  let arg23 : BitVec 32 := Scf.iv c0_i32_449 c1_i32_451 k0_t27
  let c16_i32_541 : BitVec 32 := 16#32
  let v715 : BitVec 32 := Scalar.muli arg23 c16_i32_541
  let v716 : Index := Scalar.indexCast v715
  ![v716.toNat]
def k0_off128 (k0_t27 : Fin k0_t27_loop.trips) (c0_i32_544 : BitVec 32) : Fin 1 → Nat :=
  let c2048_i32 : BitVec 32 := 2048#32
  let c0_i32_449 : BitVec 32 := 0#32
  let c1_i32_451 : BitVec 32 := 1#32
  let arg23 : BitVec 32 := Scf.iv c0_i32_449 c1_i32_451 k0_t27
  let c16_i32_531 : BitVec 32 := 16#32
  let v688 : BitVec 32 := Scalar.muli arg23 c16_i32_531
  let v689 : BitVec 32 := Scalar.addi c2048_i32 v688
  let v728 : BitVec 32 := Scalar.addi c0_i32_544 v689
  let v729 : Index := Scalar.indexCast v728
  ![v729.toNat]

def k0_chk577 (v738 : IVec S16 32) : Prop :=
  (∀ a x, ((![v738] : Fin 1 → IVec S16 32) a x).toNat < S1824.size a)
theorem k0_idx577_inb : ∀ (v738 : IVec S16 32) (k0_hw577 : k0_chk577 v738), ∀ a x, ((![v738] : Fin 1 → IVec S16 32) a x).toNat < S1824.size a := fun v738 k0_hw577 => k0_hw577

def k0_chk578 (v741 : IVec S16 32) : Prop :=
  (∀ a x, ((![v741] : Fin 1 → IVec S16 32) a x).toNat < S1824.size a)
theorem k0_idx578_inb : ∀ (v741 : IVec S16 32) (k0_hw578 : k0_chk578 v741), ∀ a x, ((![v741] : Fin 1 → IVec S16 32) a x).toNat < S1824.size a := fun v741 k0_hw578 => k0_hw578

def k0_chk579 (v744 : IVec S16 32) : Prop :=
  (∀ a x, ((![v744] : Fin 1 → IVec S16 32) a x).toNat < S1824.size a)
theorem k0_idx579_inb : ∀ (v744 : IVec S16 32) (k0_hw579 : k0_chk579 v744), ∀ a x, ((![v744] : Fin 1 → IVec S16 32) a x).toNat < S1824.size a := fun v744 k0_hw579 => k0_hw579

def k0_chk580 (v747 : IVec S16 32) : Prop :=
  (∀ a x, ((![v747] : Fin 1 → IVec S16 32) a x).toNat < S1824.size a)
theorem k0_idx580_inb : ∀ (v747 : IVec S16 32) (k0_hw580 : k0_chk580 v747), ∀ a x, ((![v747] : Fin 1 → IVec S16 32) a x).toNat < S1824.size a := fun v747 k0_hw580 => k0_hw580

def k0_chk581 (v760 : IVec S16 32) : Prop :=
  (∀ a x, ((![v760] : Fin 1 → IVec S16 32) a x).toNat < S1824.size a)
theorem k0_idx581_inb : ∀ (v760 : IVec S16 32) (k0_hw581 : k0_chk581 v760), ∀ a x, ((![v760] : Fin 1 → IVec S16 32) a x).toNat < S1824.size a := fun v760 k0_hw581 => k0_hw581

def k0_chk582 (v763 : IVec S16 32) : Prop :=
  (∀ a x, ((![v763] : Fin 1 → IVec S16 32) a x).toNat < S1824.size a)
theorem k0_idx582_inb : ∀ (v763 : IVec S16 32) (k0_hw582 : k0_chk582 v763), ∀ a x, ((![v763] : Fin 1 → IVec S16 32) a x).toNat < S1824.size a := fun v763 k0_hw582 => k0_hw582

def k0_chk583 (v766 : IVec S16 32) : Prop :=
  (∀ a x, ((![v766] : Fin 1 → IVec S16 32) a x).toNat < S1824.size a)
theorem k0_idx583_inb : ∀ (v766 : IVec S16 32) (k0_hw583 : k0_chk583 v766), ∀ a x, ((![v766] : Fin 1 → IVec S16 32) a x).toNat < S1824.size a := fun v766 k0_hw583 => k0_hw583

def k0_chk584 (v769 : IVec S16 32) : Prop :=
  (∀ a x, ((![v769] : Fin 1 → IVec S16 32) a x).toNat < S1824.size a)
theorem k0_idx584_inb : ∀ (v769 : IVec S16 32) (k0_hw584 : k0_chk584 v769), ∀ a x, ((![v769] : Fin 1 → IVec S16 32) a x).toNat < S1824.size a := fun v769 k0_hw584 => k0_hw584

def k0_chk585 (v783 : IVec S16 32) : Prop :=
  (∀ a x, ((![v783] : Fin 1 → IVec S16 32) a x).toNat < S1824.size a)
theorem k0_idx585_inb : ∀ (v783 : IVec S16 32) (k0_hw585 : k0_chk585 v783), ∀ a x, ((![v783] : Fin 1 → IVec S16 32) a x).toNat < S1824.size a := fun v783 k0_hw585 => k0_hw585

def k0_chk586 (v786 : IVec S16 32) : Prop :=
  (∀ a x, ((![v786] : Fin 1 → IVec S16 32) a x).toNat < S1824.size a)
theorem k0_idx586_inb : ∀ (v786 : IVec S16 32) (k0_hw586 : k0_chk586 v786), ∀ a x, ((![v786] : Fin 1 → IVec S16 32) a x).toNat < S1824.size a := fun v786 k0_hw586 => k0_hw586

def k0_chk587 (v789 : IVec S16 32) : Prop :=
  (∀ a x, ((![v789] : Fin 1 → IVec S16 32) a x).toNat < S1824.size a)
theorem k0_idx587_inb : ∀ (v789 : IVec S16 32) (k0_hw587 : k0_chk587 v789), ∀ a x, ((![v789] : Fin 1 → IVec S16 32) a x).toNat < S1824.size a := fun v789 k0_hw587 => k0_hw587

def k0_chk588 (v792 : IVec S16 32) : Prop :=
  (∀ a x, ((![v792] : Fin 1 → IVec S16 32) a x).toNat < S1824.size a)
theorem k0_idx588_inb : ∀ (v792 : IVec S16 32) (k0_hw588 : k0_chk588 v792), ∀ a x, ((![v792] : Fin 1 → IVec S16 32) a x).toNat < S1824.size a := fun v792 k0_hw588 => k0_hw588

def k0_chk589 (v806 : IVec S16 32) : Prop :=
  (∀ a x, ((![v806] : Fin 1 → IVec S16 32) a x).toNat < S1824.size a)
theorem k0_idx589_inb : ∀ (v806 : IVec S16 32) (k0_hw589 : k0_chk589 v806), ∀ a x, ((![v806] : Fin 1 → IVec S16 32) a x).toNat < S1824.size a := fun v806 k0_hw589 => k0_hw589

def k0_chk590 (v809 : IVec S16 32) : Prop :=
  (∀ a x, ((![v809] : Fin 1 → IVec S16 32) a x).toNat < S1824.size a)
theorem k0_idx590_inb : ∀ (v809 : IVec S16 32) (k0_hw590 : k0_chk590 v809), ∀ a x, ((![v809] : Fin 1 → IVec S16 32) a x).toNat < S1824.size a := fun v809 k0_hw590 => k0_hw590

def k0_chk591 (v812 : IVec S16 32) : Prop :=
  (∀ a x, ((![v812] : Fin 1 → IVec S16 32) a x).toNat < S1824.size a)
theorem k0_idx591_inb : ∀ (v812 : IVec S16 32) (k0_hw591 : k0_chk591 v812), ∀ a x, ((![v812] : Fin 1 → IVec S16 32) a x).toNat < S1824.size a := fun v812 k0_hw591 => k0_hw591

def k0_chk592 (v815 : IVec S16 32) : Prop :=
  (∀ a x, ((![v815] : Fin 1 → IVec S16 32) a x).toNat < S1824.size a)
theorem k0_idx592_inb : ∀ (v815 : IVec S16 32) (k0_hw592 : k0_chk592 v815), ∀ a x, ((![v815] : Fin 1 → IVec S16 32) a x).toNat < S1824.size a := fun v815 k0_hw592 => k0_hw592
def k0_off129 (k0_t27 : Fin k0_t27_loop.trips) : Fin 1 → Nat :=
  let c0_i32_560 : BitVec 32 := 0#32
  let c2048_i32 : BitVec 32 := 2048#32
  let c0_i32_449 : BitVec 32 := 0#32
  let c1_i32_451 : BitVec 32 := 1#32
  let arg23 : BitVec 32 := Scf.iv c0_i32_449 c1_i32_451 k0_t27
  let c16_i32_531 : BitVec 32 := 16#32
  let v688 : BitVec 32 := Scalar.muli arg23 c16_i32_531
  let v689 : BitVec 32 := Scalar.addi c2048_i32 v688
  let v827 : BitVec 32 := Scalar.addi c0_i32_560 v689
  let v828 : Index := Scalar.indexCast v827
  ![v828.toNat]

def k0_chk593 (v831 : IVec S16 32) : Prop :=
  (∀ a x, ((![v831] : Fin 1 → IVec S16 32) a x).toNat < S1824.size a)
theorem k0_idx593_inb : ∀ (v831 : IVec S16 32) (k0_hw593 : k0_chk593 v831), ∀ a x, ((![v831] : Fin 1 → IVec S16 32) a x).toNat < S1824.size a := fun v831 k0_hw593 => k0_hw593

def k0_chk594 (v834 : IVec S16 32) : Prop :=
  (∀ a x, ((![v834] : Fin 1 → IVec S16 32) a x).toNat < S1824.size a)
theorem k0_idx594_inb : ∀ (v834 : IVec S16 32) (k0_hw594 : k0_chk594 v834), ∀ a x, ((![v834] : Fin 1 → IVec S16 32) a x).toNat < S1824.size a := fun v834 k0_hw594 => k0_hw594

def k0_chk595 (v837 : IVec S16 32) : Prop :=
  (∀ a x, ((![v837] : Fin 1 → IVec S16 32) a x).toNat < S1824.size a)
theorem k0_idx595_inb : ∀ (v837 : IVec S16 32) (k0_hw595 : k0_chk595 v837), ∀ a x, ((![v837] : Fin 1 → IVec S16 32) a x).toNat < S1824.size a := fun v837 k0_hw595 => k0_hw595

def k0_chk596 (v840 : IVec S16 32) : Prop :=
  (∀ a x, ((![v840] : Fin 1 → IVec S16 32) a x).toNat < S1824.size a)
theorem k0_idx596_inb : ∀ (v840 : IVec S16 32) (k0_hw596 : k0_chk596 v840), ∀ a x, ((![v840] : Fin 1 → IVec S16 32) a x).toNat < S1824.size a := fun v840 k0_hw596 => k0_hw596

def k0_chk597 (v853 : IVec S16 32) : Prop :=
  (∀ a x, ((![v853] : Fin 1 → IVec S16 32) a x).toNat < S1824.size a)
theorem k0_idx597_inb : ∀ (v853 : IVec S16 32) (k0_hw597 : k0_chk597 v853), ∀ a x, ((![v853] : Fin 1 → IVec S16 32) a x).toNat < S1824.size a := fun v853 k0_hw597 => k0_hw597

def k0_chk598 (v856 : IVec S16 32) : Prop :=
  (∀ a x, ((![v856] : Fin 1 → IVec S16 32) a x).toNat < S1824.size a)
theorem k0_idx598_inb : ∀ (v856 : IVec S16 32) (k0_hw598 : k0_chk598 v856), ∀ a x, ((![v856] : Fin 1 → IVec S16 32) a x).toNat < S1824.size a := fun v856 k0_hw598 => k0_hw598

def k0_chk599 (v859 : IVec S16 32) : Prop :=
  (∀ a x, ((![v859] : Fin 1 → IVec S16 32) a x).toNat < S1824.size a)
theorem k0_idx599_inb : ∀ (v859 : IVec S16 32) (k0_hw599 : k0_chk599 v859), ∀ a x, ((![v859] : Fin 1 → IVec S16 32) a x).toNat < S1824.size a := fun v859 k0_hw599 => k0_hw599

def k0_chk600 (v862 : IVec S16 32) : Prop :=
  (∀ a x, ((![v862] : Fin 1 → IVec S16 32) a x).toNat < S1824.size a)
theorem k0_idx600_inb : ∀ (v862 : IVec S16 32) (k0_hw600 : k0_chk600 v862), ∀ a x, ((![v862] : Fin 1 → IVec S16 32) a x).toNat < S1824.size a := fun v862 k0_hw600 => k0_hw600

def k0_chk601 (v876 : IVec S16 32) : Prop :=
  (∀ a x, ((![v876] : Fin 1 → IVec S16 32) a x).toNat < S1824.size a)
theorem k0_idx601_inb : ∀ (v876 : IVec S16 32) (k0_hw601 : k0_chk601 v876), ∀ a x, ((![v876] : Fin 1 → IVec S16 32) a x).toNat < S1824.size a := fun v876 k0_hw601 => k0_hw601

def k0_chk602 (v879 : IVec S16 32) : Prop :=
  (∀ a x, ((![v879] : Fin 1 → IVec S16 32) a x).toNat < S1824.size a)
theorem k0_idx602_inb : ∀ (v879 : IVec S16 32) (k0_hw602 : k0_chk602 v879), ∀ a x, ((![v879] : Fin 1 → IVec S16 32) a x).toNat < S1824.size a := fun v879 k0_hw602 => k0_hw602

def k0_chk603 (v882 : IVec S16 32) : Prop :=
  (∀ a x, ((![v882] : Fin 1 → IVec S16 32) a x).toNat < S1824.size a)
theorem k0_idx603_inb : ∀ (v882 : IVec S16 32) (k0_hw603 : k0_chk603 v882), ∀ a x, ((![v882] : Fin 1 → IVec S16 32) a x).toNat < S1824.size a := fun v882 k0_hw603 => k0_hw603

def k0_chk604 (v885 : IVec S16 32) : Prop :=
  (∀ a x, ((![v885] : Fin 1 → IVec S16 32) a x).toNat < S1824.size a)
theorem k0_idx604_inb : ∀ (v885 : IVec S16 32) (k0_hw604 : k0_chk604 v885), ∀ a x, ((![v885] : Fin 1 → IVec S16 32) a x).toNat < S1824.size a := fun v885 k0_hw604 => k0_hw604

def k0_chk605 (v899 : IVec S16 32) : Prop :=
  (∀ a x, ((![v899] : Fin 1 → IVec S16 32) a x).toNat < S1824.size a)
theorem k0_idx605_inb : ∀ (v899 : IVec S16 32) (k0_hw605 : k0_chk605 v899), ∀ a x, ((![v899] : Fin 1 → IVec S16 32) a x).toNat < S1824.size a := fun v899 k0_hw605 => k0_hw605

def k0_chk606 (v902 : IVec S16 32) : Prop :=
  (∀ a x, ((![v902] : Fin 1 → IVec S16 32) a x).toNat < S1824.size a)
theorem k0_idx606_inb : ∀ (v902 : IVec S16 32) (k0_hw606 : k0_chk606 v902), ∀ a x, ((![v902] : Fin 1 → IVec S16 32) a x).toNat < S1824.size a := fun v902 k0_hw606 => k0_hw606

def k0_chk607 (v905 : IVec S16 32) : Prop :=
  (∀ a x, ((![v905] : Fin 1 → IVec S16 32) a x).toNat < S1824.size a)
theorem k0_idx607_inb : ∀ (v905 : IVec S16 32) (k0_hw607 : k0_chk607 v905), ∀ a x, ((![v905] : Fin 1 → IVec S16 32) a x).toNat < S1824.size a := fun v905 k0_hw607 => k0_hw607

def k0_chk608 (v908 : IVec S16 32) : Prop :=
  (∀ a x, ((![v908] : Fin 1 → IVec S16 32) a x).toNat < S1824.size a)
theorem k0_idx608_inb : ∀ (v908 : IVec S16 32) (k0_hw608 : k0_chk608 v908), ∀ a x, ((![v908] : Fin 1 → IVec S16 32) a x).toNat < S1824.size a := fun v908 k0_hw608 => k0_hw608
def k0_off130 (k0_t27 : Fin k0_t27_loop.trips) : Fin 1 → Nat :=
  let c4096_i32_573 : BitVec 32 := 4096#32
  let c2048_i32 : BitVec 32 := 2048#32
  let c0_i32_449 : BitVec 32 := 0#32
  let c1_i32_451 : BitVec 32 := 1#32
  let arg23 : BitVec 32 := Scf.iv c0_i32_449 c1_i32_451 k0_t27
  let c16_i32_531 : BitVec 32 := 16#32
  let v688 : BitVec 32 := Scalar.muli arg23 c16_i32_531
  let v689 : BitVec 32 := Scalar.addi c2048_i32 v688
  let v920 : BitVec 32 := Scalar.addi c4096_i32_573 v689
  let v921 : Index := Scalar.indexCast v920
  ![v921.toNat]

def k0_chk609 (v924 : IVec S16 32) : Prop :=
  (∀ a x, ((![v924] : Fin 1 → IVec S16 32) a x).toNat < S1824.size a)
theorem k0_idx609_inb : ∀ (v924 : IVec S16 32) (k0_hw609 : k0_chk609 v924), ∀ a x, ((![v924] : Fin 1 → IVec S16 32) a x).toNat < S1824.size a := fun v924 k0_hw609 => k0_hw609

def k0_chk610 (v927 : IVec S16 32) : Prop :=
  (∀ a x, ((![v927] : Fin 1 → IVec S16 32) a x).toNat < S1824.size a)
theorem k0_idx610_inb : ∀ (v927 : IVec S16 32) (k0_hw610 : k0_chk610 v927), ∀ a x, ((![v927] : Fin 1 → IVec S16 32) a x).toNat < S1824.size a := fun v927 k0_hw610 => k0_hw610

def k0_chk611 (v930 : IVec S16 32) : Prop :=
  (∀ a x, ((![v930] : Fin 1 → IVec S16 32) a x).toNat < S1824.size a)
theorem k0_idx611_inb : ∀ (v930 : IVec S16 32) (k0_hw611 : k0_chk611 v930), ∀ a x, ((![v930] : Fin 1 → IVec S16 32) a x).toNat < S1824.size a := fun v930 k0_hw611 => k0_hw611

def k0_chk612 (v933 : IVec S16 32) : Prop :=
  (∀ a x, ((![v933] : Fin 1 → IVec S16 32) a x).toNat < S1824.size a)
theorem k0_idx612_inb : ∀ (v933 : IVec S16 32) (k0_hw612 : k0_chk612 v933), ∀ a x, ((![v933] : Fin 1 → IVec S16 32) a x).toNat < S1824.size a := fun v933 k0_hw612 => k0_hw612

def k0_chk613 (v946 : IVec S16 32) : Prop :=
  (∀ a x, ((![v946] : Fin 1 → IVec S16 32) a x).toNat < S1824.size a)
theorem k0_idx613_inb : ∀ (v946 : IVec S16 32) (k0_hw613 : k0_chk613 v946), ∀ a x, ((![v946] : Fin 1 → IVec S16 32) a x).toNat < S1824.size a := fun v946 k0_hw613 => k0_hw613

def k0_chk614 (v949 : IVec S16 32) : Prop :=
  (∀ a x, ((![v949] : Fin 1 → IVec S16 32) a x).toNat < S1824.size a)
theorem k0_idx614_inb : ∀ (v949 : IVec S16 32) (k0_hw614 : k0_chk614 v949), ∀ a x, ((![v949] : Fin 1 → IVec S16 32) a x).toNat < S1824.size a := fun v949 k0_hw614 => k0_hw614

def k0_chk615 (v952 : IVec S16 32) : Prop :=
  (∀ a x, ((![v952] : Fin 1 → IVec S16 32) a x).toNat < S1824.size a)
theorem k0_idx615_inb : ∀ (v952 : IVec S16 32) (k0_hw615 : k0_chk615 v952), ∀ a x, ((![v952] : Fin 1 → IVec S16 32) a x).toNat < S1824.size a := fun v952 k0_hw615 => k0_hw615

def k0_chk616 (v955 : IVec S16 32) : Prop :=
  (∀ a x, ((![v955] : Fin 1 → IVec S16 32) a x).toNat < S1824.size a)
theorem k0_idx616_inb : ∀ (v955 : IVec S16 32) (k0_hw616 : k0_chk616 v955), ∀ a x, ((![v955] : Fin 1 → IVec S16 32) a x).toNat < S1824.size a := fun v955 k0_hw616 => k0_hw616

def k0_chk617 (v969 : IVec S16 32) : Prop :=
  (∀ a x, ((![v969] : Fin 1 → IVec S16 32) a x).toNat < S1824.size a)
theorem k0_idx617_inb : ∀ (v969 : IVec S16 32) (k0_hw617 : k0_chk617 v969), ∀ a x, ((![v969] : Fin 1 → IVec S16 32) a x).toNat < S1824.size a := fun v969 k0_hw617 => k0_hw617

def k0_chk618 (v972 : IVec S16 32) : Prop :=
  (∀ a x, ((![v972] : Fin 1 → IVec S16 32) a x).toNat < S1824.size a)
theorem k0_idx618_inb : ∀ (v972 : IVec S16 32) (k0_hw618 : k0_chk618 v972), ∀ a x, ((![v972] : Fin 1 → IVec S16 32) a x).toNat < S1824.size a := fun v972 k0_hw618 => k0_hw618

def k0_chk619 (v975 : IVec S16 32) : Prop :=
  (∀ a x, ((![v975] : Fin 1 → IVec S16 32) a x).toNat < S1824.size a)
theorem k0_idx619_inb : ∀ (v975 : IVec S16 32) (k0_hw619 : k0_chk619 v975), ∀ a x, ((![v975] : Fin 1 → IVec S16 32) a x).toNat < S1824.size a := fun v975 k0_hw619 => k0_hw619

def k0_chk620 (v978 : IVec S16 32) : Prop :=
  (∀ a x, ((![v978] : Fin 1 → IVec S16 32) a x).toNat < S1824.size a)
theorem k0_idx620_inb : ∀ (v978 : IVec S16 32) (k0_hw620 : k0_chk620 v978), ∀ a x, ((![v978] : Fin 1 → IVec S16 32) a x).toNat < S1824.size a := fun v978 k0_hw620 => k0_hw620

def k0_chk621 (v992 : IVec S16 32) : Prop :=
  (∀ a x, ((![v992] : Fin 1 → IVec S16 32) a x).toNat < S1824.size a)
theorem k0_idx621_inb : ∀ (v992 : IVec S16 32) (k0_hw621 : k0_chk621 v992), ∀ a x, ((![v992] : Fin 1 → IVec S16 32) a x).toNat < S1824.size a := fun v992 k0_hw621 => k0_hw621

def k0_chk622 (v995 : IVec S16 32) : Prop :=
  (∀ a x, ((![v995] : Fin 1 → IVec S16 32) a x).toNat < S1824.size a)
theorem k0_idx622_inb : ∀ (v995 : IVec S16 32) (k0_hw622 : k0_chk622 v995), ∀ a x, ((![v995] : Fin 1 → IVec S16 32) a x).toNat < S1824.size a := fun v995 k0_hw622 => k0_hw622

def k0_chk623 (v998 : IVec S16 32) : Prop :=
  (∀ a x, ((![v998] : Fin 1 → IVec S16 32) a x).toNat < S1824.size a)
theorem k0_idx623_inb : ∀ (v998 : IVec S16 32) (k0_hw623 : k0_chk623 v998), ∀ a x, ((![v998] : Fin 1 → IVec S16 32) a x).toNat < S1824.size a := fun v998 k0_hw623 => k0_hw623

def k0_chk624 (v1001 : IVec S16 32) : Prop :=
  (∀ a x, ((![v1001] : Fin 1 → IVec S16 32) a x).toNat < S1824.size a)
theorem k0_idx624_inb : ∀ (v1001 : IVec S16 32) (k0_hw624 : k0_chk624 v1001), ∀ a x, ((![v1001] : Fin 1 → IVec S16 32) a x).toNat < S1824.size a := fun v1001 k0_hw624 => k0_hw624
def k0_off131 (k0_t27 : Fin k0_t27_loop.trips) : Fin 1 → Nat :=
  let c8192_i32_586 : BitVec 32 := 8192#32
  let c2048_i32 : BitVec 32 := 2048#32
  let c0_i32_449 : BitVec 32 := 0#32
  let c1_i32_451 : BitVec 32 := 1#32
  let arg23 : BitVec 32 := Scf.iv c0_i32_449 c1_i32_451 k0_t27
  let c16_i32_531 : BitVec 32 := 16#32
  let v688 : BitVec 32 := Scalar.muli arg23 c16_i32_531
  let v689 : BitVec 32 := Scalar.addi c2048_i32 v688
  let v1013 : BitVec 32 := Scalar.addi c8192_i32_586 v689
  let v1014 : Index := Scalar.indexCast v1013
  ![v1014.toNat]
@[reducible] def k0_t28_loop : Scf.Loop 32 :=
  let c0_i32_467 : BitVec 32 := 0#32
  let c96_i32_468 : BitVec 32 := 96#32
  let v631 : BitVec 32 := Scalar.addi c0_i32_467 c96_i32_468
  let c1_i32_469 : BitVec 32 := 1#32
  ⟨c0_i32_467, v631, c1_i32_469⟩
def k0_off132 (i : grid0.Coords) (k0_t1 : Fin k0_t1_loop.trips) (k0_t28 : Fin k0_t28_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_467 : BitVec 32 := 0#32
  let c1_i32_469 : BitVec 32 := 1#32
  let arg23 : BitVec 32 := Scf.iv c0_i32_467 c1_i32_469 k0_t28
  let c256_i32 : BitVec 32 := 256#32
  let v688 : BitVec 32 := Scalar.muli arg23 c256_i32
  let v689 : BitVec 32 := Scalar.addi v40 v688
  let c15_i32_457 : BitVec 32 := 15#32
  let c0_i32_456 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_330 : BitVec 32 := 16#32
  let v482 : BitVec 32 := Scalar.muli v1 c16_i32_330
  let c2_i32_19 : BitVec 32 := 2#32
  let v37 : BitVec 32 := Scalar.muli arg22 c2_i32_19
  let c1_i32_20 : BitVec 32 := 1#32
  let v38 : BitVec 32 := Scalar.addi v37 c1_i32_20
  let c2_i32_331 : BitVec 32 := 2#32
  let c0_i32_332 : BitVec 32 := 0#32
  let v483 : BitVec 1 := Scalar.cmpi .eq c2_i32_331 c0_i32_332
  let c1_i32_333 : BitVec 32 := 1#32
  let v484 : BitVec 32 := Scalar.select v483 c1_i32_333 c2_i32_331
  let v485 : BitVec 32 := Scalar.remsi v38 v484
  let c0_i32_335 : BitVec 32 := 0#32
  let v487 : BitVec 1 := Scalar.cmpi .slt v485 c0_i32_335
  let c0_i32_336 : BitVec 32 := 0#32
  let v488 : BitVec 1 := Scalar.cmpi .slt v484 c0_i32_336
  let v489 : BitVec 1 := Scalar.xori v487 v488
  let c0_i32_334 : BitVec 32 := 0#32
  let v486 : BitVec 1 := Scalar.cmpi .ne v485 c0_i32_334
  let v490 : BitVec 1 := Scalar.andi v489 v486
  let v491 : BitVec 32 := Scalar.addi v485 v484
  let v492 : BitVec 32 := Scalar.select v490 v491 v485
  let c8_i32_337 : BitVec 32 := 8#32
  let v493 : BitVec 32 := Scalar.muli v492 c8_i32_337
  let v494 : BitVec 32 := Scalar.addi v482 v493
  let c5_i32_453 : BitVec 32 := 5#32
  let v610 : BitVec 32 := Scalar.addi v494 c5_i32_453
  let c16_i32_454 : BitVec 32 := 16#32
  let v611 : BitVec 32 := Scalar.subi v610 c16_i32_454
  let c5_i32_455 : BitVec 32 := 5#32
  let v612 : BitVec 32 := Scalar.shrsi v611 c5_i32_455
  let v613 : BitVec 32 := Scalar.maxsi c0_i32_456 v612
  let v614 : BitVec 32 := Scalar.minsi c15_i32_457 v613
  let c16_i32_458 : BitVec 32 := 16#32
  let v615 : BitVec 32 := Scalar.muli v614 c16_i32_458
  let v690 : BitVec 32 := Scalar.addi v689 v615
  let v691 : Index := Scalar.indexCast v690
  ![v691.toNat]
def k0_off133 (i : grid0.Coords) (k0_t1 : Fin k0_t1_loop.trips) (k0_t28 : Fin k0_t28_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_467 : BitVec 32 := 0#32
  let c1_i32_469 : BitVec 32 := 1#32
  let arg23 : BitVec 32 := Scf.iv c0_i32_467 c1_i32_469 k0_t28
  let c256_i32 : BitVec 32 := 256#32
  let v688 : BitVec 32 := Scalar.muli arg23 c256_i32
  let v689 : BitVec 32 := Scalar.addi v40 v688
  let c15_i32_461 : BitVec 32 := 15#32
  let c0_i32_460 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_330 : BitVec 32 := 16#32
  let v482 : BitVec 32 := Scalar.muli v1 c16_i32_330
  let c2_i32_19 : BitVec 32 := 2#32
  let v37 : BitVec 32 := Scalar.muli arg22 c2_i32_19
  let c1_i32_20 : BitVec 32 := 1#32
  let v38 : BitVec 32 := Scalar.addi v37 c1_i32_20
  let c2_i32_331 : BitVec 32 := 2#32
  let c0_i32_332 : BitVec 32 := 0#32
  let v483 : BitVec 1 := Scalar.cmpi .eq c2_i32_331 c0_i32_332
  let c1_i32_333 : BitVec 32 := 1#32
  let v484 : BitVec 32 := Scalar.select v483 c1_i32_333 c2_i32_331
  let v485 : BitVec 32 := Scalar.remsi v38 v484
  let c0_i32_335 : BitVec 32 := 0#32
  let v487 : BitVec 1 := Scalar.cmpi .slt v485 c0_i32_335
  let c0_i32_336 : BitVec 32 := 0#32
  let v488 : BitVec 1 := Scalar.cmpi .slt v484 c0_i32_336
  let v489 : BitVec 1 := Scalar.xori v487 v488
  let c0_i32_334 : BitVec 32 := 0#32
  let v486 : BitVec 1 := Scalar.cmpi .ne v485 c0_i32_334
  let v490 : BitVec 1 := Scalar.andi v489 v486
  let v491 : BitVec 32 := Scalar.addi v485 v484
  let v492 : BitVec 32 := Scalar.select v490 v491 v485
  let c8_i32_337 : BitVec 32 := 8#32
  let v493 : BitVec 32 := Scalar.muli v492 c8_i32_337
  let v494 : BitVec 32 := Scalar.addi v482 v493
  let c5_i32_453 : BitVec 32 := 5#32
  let v610 : BitVec 32 := Scalar.addi v494 c5_i32_453
  let c16_i32_454 : BitVec 32 := 16#32
  let v611 : BitVec 32 := Scalar.subi v610 c16_i32_454
  let c5_i32_455 : BitVec 32 := 5#32
  let v612 : BitVec 32 := Scalar.shrsi v611 c5_i32_455
  let c1_i32_459 : BitVec 32 := 1#32
  let v616 : BitVec 32 := Scalar.addi v612 c1_i32_459
  let v617 : BitVec 32 := Scalar.maxsi c0_i32_460 v616
  let v618 : BitVec 32 := Scalar.minsi c15_i32_461 v617
  let c16_i32_462 : BitVec 32 := 16#32
  let v619 : BitVec 32 := Scalar.muli v618 c16_i32_462
  let v693 : BitVec 32 := Scalar.addi v689 v619
  let v694 : Index := Scalar.indexCast v693
  ![v694.toNat]
def k0_off134 (k0_t28 : Fin k0_t28_loop.trips) : Fin 1 → Nat :=
  let c0_i32_467 : BitVec 32 := 0#32
  let c1_i32_469 : BitVec 32 := 1#32
  let arg23 : BitVec 32 := Scf.iv c0_i32_467 c1_i32_469 k0_t28
  let c19_i32 : BitVec 32 := 19#32
  let v699 : BitVec 32 := Scalar.muli arg23 c19_i32
  let v700 : Index := Scalar.indexCast v699
  ![v700.toNat]
@[reducible] def k0_t29_loop : Scf.Loop 32 :=
  let c0_i32_472 : BitVec 32 := 0#32
  let c32_i32_473 : BitVec 32 := 32#32
  let v632 : BitVec 32 := Scalar.addi c0_i32_472 c32_i32_473
  let c1_i32_474 : BitVec 32 := 1#32
  ⟨c0_i32_472, v632, c1_i32_474⟩
def k0_off135 (k0_t29 : Fin k0_t29_loop.trips) : Fin 1 → Nat :=
  let c2560_i32 : BitVec 32 := 2560#32
  let c0_i32_472 : BitVec 32 := 0#32
  let c1_i32_474 : BitVec 32 := 1#32
  let arg23 : BitVec 32 := Scf.iv c0_i32_472 c1_i32_474 k0_t29
  let c16_i32_531 : BitVec 32 := 16#32
  let v688 : BitVec 32 := Scalar.muli arg23 c16_i32_531
  let v689 : BitVec 32 := Scalar.addi c2560_i32 v688
  let v690 : Index := Scalar.indexCast v689
  ![v690.toNat]
def k0_off136 (k0_t29 : Fin k0_t29_loop.trips) : Fin 1 → Nat :=
  let c0_i32_472 : BitVec 32 := 0#32
  let c1_i32_474 : BitVec 32 := 1#32
  let arg23 : BitVec 32 := Scf.iv c0_i32_472 c1_i32_474 k0_t29
  let c16_i32_541 : BitVec 32 := 16#32
  let v715 : BitVec 32 := Scalar.muli arg23 c16_i32_541
  let v716 : Index := Scalar.indexCast v715
  ![v716.toNat]
def k0_off137 (k0_t29 : Fin k0_t29_loop.trips) (c0_i32_544 : BitVec 32) : Fin 1 → Nat :=
  let c2560_i32 : BitVec 32 := 2560#32
  let c0_i32_472 : BitVec 32 := 0#32
  let c1_i32_474 : BitVec 32 := 1#32
  let arg23 : BitVec 32 := Scf.iv c0_i32_472 c1_i32_474 k0_t29
  let c16_i32_531 : BitVec 32 := 16#32
  let v688 : BitVec 32 := Scalar.muli arg23 c16_i32_531
  let v689 : BitVec 32 := Scalar.addi c2560_i32 v688
  let v728 : BitVec 32 := Scalar.addi c0_i32_544 v689
  let v729 : Index := Scalar.indexCast v728
  ![v729.toNat]

def k0_chk625 (v738 : IVec S16 32) : Prop :=
  (∀ a x, ((![v738] : Fin 1 → IVec S16 32) a x).toNat < S1824.size a)
theorem k0_idx625_inb : ∀ (v738 : IVec S16 32) (k0_hw625 : k0_chk625 v738), ∀ a x, ((![v738] : Fin 1 → IVec S16 32) a x).toNat < S1824.size a := fun v738 k0_hw625 => k0_hw625

def k0_chk626 (v741 : IVec S16 32) : Prop :=
  (∀ a x, ((![v741] : Fin 1 → IVec S16 32) a x).toNat < S1824.size a)
theorem k0_idx626_inb : ∀ (v741 : IVec S16 32) (k0_hw626 : k0_chk626 v741), ∀ a x, ((![v741] : Fin 1 → IVec S16 32) a x).toNat < S1824.size a := fun v741 k0_hw626 => k0_hw626

def k0_chk627 (v744 : IVec S16 32) : Prop :=
  (∀ a x, ((![v744] : Fin 1 → IVec S16 32) a x).toNat < S1824.size a)
theorem k0_idx627_inb : ∀ (v744 : IVec S16 32) (k0_hw627 : k0_chk627 v744), ∀ a x, ((![v744] : Fin 1 → IVec S16 32) a x).toNat < S1824.size a := fun v744 k0_hw627 => k0_hw627

def k0_chk628 (v747 : IVec S16 32) : Prop :=
  (∀ a x, ((![v747] : Fin 1 → IVec S16 32) a x).toNat < S1824.size a)
theorem k0_idx628_inb : ∀ (v747 : IVec S16 32) (k0_hw628 : k0_chk628 v747), ∀ a x, ((![v747] : Fin 1 → IVec S16 32) a x).toNat < S1824.size a := fun v747 k0_hw628 => k0_hw628

def k0_chk629 (v760 : IVec S16 32) : Prop :=
  (∀ a x, ((![v760] : Fin 1 → IVec S16 32) a x).toNat < S1824.size a)
theorem k0_idx629_inb : ∀ (v760 : IVec S16 32) (k0_hw629 : k0_chk629 v760), ∀ a x, ((![v760] : Fin 1 → IVec S16 32) a x).toNat < S1824.size a := fun v760 k0_hw629 => k0_hw629

def k0_chk630 (v763 : IVec S16 32) : Prop :=
  (∀ a x, ((![v763] : Fin 1 → IVec S16 32) a x).toNat < S1824.size a)
theorem k0_idx630_inb : ∀ (v763 : IVec S16 32) (k0_hw630 : k0_chk630 v763), ∀ a x, ((![v763] : Fin 1 → IVec S16 32) a x).toNat < S1824.size a := fun v763 k0_hw630 => k0_hw630

def k0_chk631 (v766 : IVec S16 32) : Prop :=
  (∀ a x, ((![v766] : Fin 1 → IVec S16 32) a x).toNat < S1824.size a)
theorem k0_idx631_inb : ∀ (v766 : IVec S16 32) (k0_hw631 : k0_chk631 v766), ∀ a x, ((![v766] : Fin 1 → IVec S16 32) a x).toNat < S1824.size a := fun v766 k0_hw631 => k0_hw631

def k0_chk632 (v769 : IVec S16 32) : Prop :=
  (∀ a x, ((![v769] : Fin 1 → IVec S16 32) a x).toNat < S1824.size a)
theorem k0_idx632_inb : ∀ (v769 : IVec S16 32) (k0_hw632 : k0_chk632 v769), ∀ a x, ((![v769] : Fin 1 → IVec S16 32) a x).toNat < S1824.size a := fun v769 k0_hw632 => k0_hw632

def k0_chk633 (v783 : IVec S16 32) : Prop :=
  (∀ a x, ((![v783] : Fin 1 → IVec S16 32) a x).toNat < S1824.size a)
theorem k0_idx633_inb : ∀ (v783 : IVec S16 32) (k0_hw633 : k0_chk633 v783), ∀ a x, ((![v783] : Fin 1 → IVec S16 32) a x).toNat < S1824.size a := fun v783 k0_hw633 => k0_hw633

def k0_chk634 (v786 : IVec S16 32) : Prop :=
  (∀ a x, ((![v786] : Fin 1 → IVec S16 32) a x).toNat < S1824.size a)
theorem k0_idx634_inb : ∀ (v786 : IVec S16 32) (k0_hw634 : k0_chk634 v786), ∀ a x, ((![v786] : Fin 1 → IVec S16 32) a x).toNat < S1824.size a := fun v786 k0_hw634 => k0_hw634

def k0_chk635 (v789 : IVec S16 32) : Prop :=
  (∀ a x, ((![v789] : Fin 1 → IVec S16 32) a x).toNat < S1824.size a)
theorem k0_idx635_inb : ∀ (v789 : IVec S16 32) (k0_hw635 : k0_chk635 v789), ∀ a x, ((![v789] : Fin 1 → IVec S16 32) a x).toNat < S1824.size a := fun v789 k0_hw635 => k0_hw635

def k0_chk636 (v792 : IVec S16 32) : Prop :=
  (∀ a x, ((![v792] : Fin 1 → IVec S16 32) a x).toNat < S1824.size a)
theorem k0_idx636_inb : ∀ (v792 : IVec S16 32) (k0_hw636 : k0_chk636 v792), ∀ a x, ((![v792] : Fin 1 → IVec S16 32) a x).toNat < S1824.size a := fun v792 k0_hw636 => k0_hw636

def k0_chk637 (v806 : IVec S16 32) : Prop :=
  (∀ a x, ((![v806] : Fin 1 → IVec S16 32) a x).toNat < S1824.size a)
theorem k0_idx637_inb : ∀ (v806 : IVec S16 32) (k0_hw637 : k0_chk637 v806), ∀ a x, ((![v806] : Fin 1 → IVec S16 32) a x).toNat < S1824.size a := fun v806 k0_hw637 => k0_hw637

def k0_chk638 (v809 : IVec S16 32) : Prop :=
  (∀ a x, ((![v809] : Fin 1 → IVec S16 32) a x).toNat < S1824.size a)
theorem k0_idx638_inb : ∀ (v809 : IVec S16 32) (k0_hw638 : k0_chk638 v809), ∀ a x, ((![v809] : Fin 1 → IVec S16 32) a x).toNat < S1824.size a := fun v809 k0_hw638 => k0_hw638

def k0_chk639 (v812 : IVec S16 32) : Prop :=
  (∀ a x, ((![v812] : Fin 1 → IVec S16 32) a x).toNat < S1824.size a)
theorem k0_idx639_inb : ∀ (v812 : IVec S16 32) (k0_hw639 : k0_chk639 v812), ∀ a x, ((![v812] : Fin 1 → IVec S16 32) a x).toNat < S1824.size a := fun v812 k0_hw639 => k0_hw639

def k0_chk640 (v815 : IVec S16 32) : Prop :=
  (∀ a x, ((![v815] : Fin 1 → IVec S16 32) a x).toNat < S1824.size a)
theorem k0_idx640_inb : ∀ (v815 : IVec S16 32) (k0_hw640 : k0_chk640 v815), ∀ a x, ((![v815] : Fin 1 → IVec S16 32) a x).toNat < S1824.size a := fun v815 k0_hw640 => k0_hw640
def k0_off138 (k0_t29 : Fin k0_t29_loop.trips) : Fin 1 → Nat :=
  let c0_i32_560 : BitVec 32 := 0#32
  let c2560_i32 : BitVec 32 := 2560#32
  let c0_i32_472 : BitVec 32 := 0#32
  let c1_i32_474 : BitVec 32 := 1#32
  let arg23 : BitVec 32 := Scf.iv c0_i32_472 c1_i32_474 k0_t29
  let c16_i32_531 : BitVec 32 := 16#32
  let v688 : BitVec 32 := Scalar.muli arg23 c16_i32_531
  let v689 : BitVec 32 := Scalar.addi c2560_i32 v688
  let v827 : BitVec 32 := Scalar.addi c0_i32_560 v689
  let v828 : Index := Scalar.indexCast v827
  ![v828.toNat]

def k0_chk641 (v831 : IVec S16 32) : Prop :=
  (∀ a x, ((![v831] : Fin 1 → IVec S16 32) a x).toNat < S1824.size a)
theorem k0_idx641_inb : ∀ (v831 : IVec S16 32) (k0_hw641 : k0_chk641 v831), ∀ a x, ((![v831] : Fin 1 → IVec S16 32) a x).toNat < S1824.size a := fun v831 k0_hw641 => k0_hw641

def k0_chk642 (v834 : IVec S16 32) : Prop :=
  (∀ a x, ((![v834] : Fin 1 → IVec S16 32) a x).toNat < S1824.size a)
theorem k0_idx642_inb : ∀ (v834 : IVec S16 32) (k0_hw642 : k0_chk642 v834), ∀ a x, ((![v834] : Fin 1 → IVec S16 32) a x).toNat < S1824.size a := fun v834 k0_hw642 => k0_hw642

def k0_chk643 (v837 : IVec S16 32) : Prop :=
  (∀ a x, ((![v837] : Fin 1 → IVec S16 32) a x).toNat < S1824.size a)
theorem k0_idx643_inb : ∀ (v837 : IVec S16 32) (k0_hw643 : k0_chk643 v837), ∀ a x, ((![v837] : Fin 1 → IVec S16 32) a x).toNat < S1824.size a := fun v837 k0_hw643 => k0_hw643

def k0_chk644 (v840 : IVec S16 32) : Prop :=
  (∀ a x, ((![v840] : Fin 1 → IVec S16 32) a x).toNat < S1824.size a)
theorem k0_idx644_inb : ∀ (v840 : IVec S16 32) (k0_hw644 : k0_chk644 v840), ∀ a x, ((![v840] : Fin 1 → IVec S16 32) a x).toNat < S1824.size a := fun v840 k0_hw644 => k0_hw644

def k0_chk645 (v853 : IVec S16 32) : Prop :=
  (∀ a x, ((![v853] : Fin 1 → IVec S16 32) a x).toNat < S1824.size a)
theorem k0_idx645_inb : ∀ (v853 : IVec S16 32) (k0_hw645 : k0_chk645 v853), ∀ a x, ((![v853] : Fin 1 → IVec S16 32) a x).toNat < S1824.size a := fun v853 k0_hw645 => k0_hw645

def k0_chk646 (v856 : IVec S16 32) : Prop :=
  (∀ a x, ((![v856] : Fin 1 → IVec S16 32) a x).toNat < S1824.size a)
theorem k0_idx646_inb : ∀ (v856 : IVec S16 32) (k0_hw646 : k0_chk646 v856), ∀ a x, ((![v856] : Fin 1 → IVec S16 32) a x).toNat < S1824.size a := fun v856 k0_hw646 => k0_hw646

def k0_chk647 (v859 : IVec S16 32) : Prop :=
  (∀ a x, ((![v859] : Fin 1 → IVec S16 32) a x).toNat < S1824.size a)
theorem k0_idx647_inb : ∀ (v859 : IVec S16 32) (k0_hw647 : k0_chk647 v859), ∀ a x, ((![v859] : Fin 1 → IVec S16 32) a x).toNat < S1824.size a := fun v859 k0_hw647 => k0_hw647

def k0_chk648 (v862 : IVec S16 32) : Prop :=
  (∀ a x, ((![v862] : Fin 1 → IVec S16 32) a x).toNat < S1824.size a)
theorem k0_idx648_inb : ∀ (v862 : IVec S16 32) (k0_hw648 : k0_chk648 v862), ∀ a x, ((![v862] : Fin 1 → IVec S16 32) a x).toNat < S1824.size a := fun v862 k0_hw648 => k0_hw648

def k0_chk649 (v876 : IVec S16 32) : Prop :=
  (∀ a x, ((![v876] : Fin 1 → IVec S16 32) a x).toNat < S1824.size a)
theorem k0_idx649_inb : ∀ (v876 : IVec S16 32) (k0_hw649 : k0_chk649 v876), ∀ a x, ((![v876] : Fin 1 → IVec S16 32) a x).toNat < S1824.size a := fun v876 k0_hw649 => k0_hw649

def k0_chk650 (v879 : IVec S16 32) : Prop :=
  (∀ a x, ((![v879] : Fin 1 → IVec S16 32) a x).toNat < S1824.size a)
theorem k0_idx650_inb : ∀ (v879 : IVec S16 32) (k0_hw650 : k0_chk650 v879), ∀ a x, ((![v879] : Fin 1 → IVec S16 32) a x).toNat < S1824.size a := fun v879 k0_hw650 => k0_hw650

def k0_chk651 (v882 : IVec S16 32) : Prop :=
  (∀ a x, ((![v882] : Fin 1 → IVec S16 32) a x).toNat < S1824.size a)
theorem k0_idx651_inb : ∀ (v882 : IVec S16 32) (k0_hw651 : k0_chk651 v882), ∀ a x, ((![v882] : Fin 1 → IVec S16 32) a x).toNat < S1824.size a := fun v882 k0_hw651 => k0_hw651

def k0_chk652 (v885 : IVec S16 32) : Prop :=
  (∀ a x, ((![v885] : Fin 1 → IVec S16 32) a x).toNat < S1824.size a)
theorem k0_idx652_inb : ∀ (v885 : IVec S16 32) (k0_hw652 : k0_chk652 v885), ∀ a x, ((![v885] : Fin 1 → IVec S16 32) a x).toNat < S1824.size a := fun v885 k0_hw652 => k0_hw652

def k0_chk653 (v899 : IVec S16 32) : Prop :=
  (∀ a x, ((![v899] : Fin 1 → IVec S16 32) a x).toNat < S1824.size a)
theorem k0_idx653_inb : ∀ (v899 : IVec S16 32) (k0_hw653 : k0_chk653 v899), ∀ a x, ((![v899] : Fin 1 → IVec S16 32) a x).toNat < S1824.size a := fun v899 k0_hw653 => k0_hw653

def k0_chk654 (v902 : IVec S16 32) : Prop :=
  (∀ a x, ((![v902] : Fin 1 → IVec S16 32) a x).toNat < S1824.size a)
theorem k0_idx654_inb : ∀ (v902 : IVec S16 32) (k0_hw654 : k0_chk654 v902), ∀ a x, ((![v902] : Fin 1 → IVec S16 32) a x).toNat < S1824.size a := fun v902 k0_hw654 => k0_hw654

def k0_chk655 (v905 : IVec S16 32) : Prop :=
  (∀ a x, ((![v905] : Fin 1 → IVec S16 32) a x).toNat < S1824.size a)
theorem k0_idx655_inb : ∀ (v905 : IVec S16 32) (k0_hw655 : k0_chk655 v905), ∀ a x, ((![v905] : Fin 1 → IVec S16 32) a x).toNat < S1824.size a := fun v905 k0_hw655 => k0_hw655

def k0_chk656 (v908 : IVec S16 32) : Prop :=
  (∀ a x, ((![v908] : Fin 1 → IVec S16 32) a x).toNat < S1824.size a)
theorem k0_idx656_inb : ∀ (v908 : IVec S16 32) (k0_hw656 : k0_chk656 v908), ∀ a x, ((![v908] : Fin 1 → IVec S16 32) a x).toNat < S1824.size a := fun v908 k0_hw656 => k0_hw656
def k0_off139 (k0_t29 : Fin k0_t29_loop.trips) : Fin 1 → Nat :=
  let c4096_i32_573 : BitVec 32 := 4096#32
  let c2560_i32 : BitVec 32 := 2560#32
  let c0_i32_472 : BitVec 32 := 0#32
  let c1_i32_474 : BitVec 32 := 1#32
  let arg23 : BitVec 32 := Scf.iv c0_i32_472 c1_i32_474 k0_t29
  let c16_i32_531 : BitVec 32 := 16#32
  let v688 : BitVec 32 := Scalar.muli arg23 c16_i32_531
  let v689 : BitVec 32 := Scalar.addi c2560_i32 v688
  let v920 : BitVec 32 := Scalar.addi c4096_i32_573 v689
  let v921 : Index := Scalar.indexCast v920
  ![v921.toNat]

def k0_chk657 (v924 : IVec S16 32) : Prop :=
  (∀ a x, ((![v924] : Fin 1 → IVec S16 32) a x).toNat < S1824.size a)
theorem k0_idx657_inb : ∀ (v924 : IVec S16 32) (k0_hw657 : k0_chk657 v924), ∀ a x, ((![v924] : Fin 1 → IVec S16 32) a x).toNat < S1824.size a := fun v924 k0_hw657 => k0_hw657

def k0_chk658 (v927 : IVec S16 32) : Prop :=
  (∀ a x, ((![v927] : Fin 1 → IVec S16 32) a x).toNat < S1824.size a)
theorem k0_idx658_inb : ∀ (v927 : IVec S16 32) (k0_hw658 : k0_chk658 v927), ∀ a x, ((![v927] : Fin 1 → IVec S16 32) a x).toNat < S1824.size a := fun v927 k0_hw658 => k0_hw658

def k0_chk659 (v930 : IVec S16 32) : Prop :=
  (∀ a x, ((![v930] : Fin 1 → IVec S16 32) a x).toNat < S1824.size a)
theorem k0_idx659_inb : ∀ (v930 : IVec S16 32) (k0_hw659 : k0_chk659 v930), ∀ a x, ((![v930] : Fin 1 → IVec S16 32) a x).toNat < S1824.size a := fun v930 k0_hw659 => k0_hw659

def k0_chk660 (v933 : IVec S16 32) : Prop :=
  (∀ a x, ((![v933] : Fin 1 → IVec S16 32) a x).toNat < S1824.size a)
theorem k0_idx660_inb : ∀ (v933 : IVec S16 32) (k0_hw660 : k0_chk660 v933), ∀ a x, ((![v933] : Fin 1 → IVec S16 32) a x).toNat < S1824.size a := fun v933 k0_hw660 => k0_hw660

def k0_chk661 (v946 : IVec S16 32) : Prop :=
  (∀ a x, ((![v946] : Fin 1 → IVec S16 32) a x).toNat < S1824.size a)
theorem k0_idx661_inb : ∀ (v946 : IVec S16 32) (k0_hw661 : k0_chk661 v946), ∀ a x, ((![v946] : Fin 1 → IVec S16 32) a x).toNat < S1824.size a := fun v946 k0_hw661 => k0_hw661

def k0_chk662 (v949 : IVec S16 32) : Prop :=
  (∀ a x, ((![v949] : Fin 1 → IVec S16 32) a x).toNat < S1824.size a)
theorem k0_idx662_inb : ∀ (v949 : IVec S16 32) (k0_hw662 : k0_chk662 v949), ∀ a x, ((![v949] : Fin 1 → IVec S16 32) a x).toNat < S1824.size a := fun v949 k0_hw662 => k0_hw662

def k0_chk663 (v952 : IVec S16 32) : Prop :=
  (∀ a x, ((![v952] : Fin 1 → IVec S16 32) a x).toNat < S1824.size a)
theorem k0_idx663_inb : ∀ (v952 : IVec S16 32) (k0_hw663 : k0_chk663 v952), ∀ a x, ((![v952] : Fin 1 → IVec S16 32) a x).toNat < S1824.size a := fun v952 k0_hw663 => k0_hw663

def k0_chk664 (v955 : IVec S16 32) : Prop :=
  (∀ a x, ((![v955] : Fin 1 → IVec S16 32) a x).toNat < S1824.size a)
theorem k0_idx664_inb : ∀ (v955 : IVec S16 32) (k0_hw664 : k0_chk664 v955), ∀ a x, ((![v955] : Fin 1 → IVec S16 32) a x).toNat < S1824.size a := fun v955 k0_hw664 => k0_hw664

def k0_chk665 (v969 : IVec S16 32) : Prop :=
  (∀ a x, ((![v969] : Fin 1 → IVec S16 32) a x).toNat < S1824.size a)
theorem k0_idx665_inb : ∀ (v969 : IVec S16 32) (k0_hw665 : k0_chk665 v969), ∀ a x, ((![v969] : Fin 1 → IVec S16 32) a x).toNat < S1824.size a := fun v969 k0_hw665 => k0_hw665

def k0_chk666 (v972 : IVec S16 32) : Prop :=
  (∀ a x, ((![v972] : Fin 1 → IVec S16 32) a x).toNat < S1824.size a)
theorem k0_idx666_inb : ∀ (v972 : IVec S16 32) (k0_hw666 : k0_chk666 v972), ∀ a x, ((![v972] : Fin 1 → IVec S16 32) a x).toNat < S1824.size a := fun v972 k0_hw666 => k0_hw666

def k0_chk667 (v975 : IVec S16 32) : Prop :=
  (∀ a x, ((![v975] : Fin 1 → IVec S16 32) a x).toNat < S1824.size a)
theorem k0_idx667_inb : ∀ (v975 : IVec S16 32) (k0_hw667 : k0_chk667 v975), ∀ a x, ((![v975] : Fin 1 → IVec S16 32) a x).toNat < S1824.size a := fun v975 k0_hw667 => k0_hw667

def k0_chk668 (v978 : IVec S16 32) : Prop :=
  (∀ a x, ((![v978] : Fin 1 → IVec S16 32) a x).toNat < S1824.size a)
theorem k0_idx668_inb : ∀ (v978 : IVec S16 32) (k0_hw668 : k0_chk668 v978), ∀ a x, ((![v978] : Fin 1 → IVec S16 32) a x).toNat < S1824.size a := fun v978 k0_hw668 => k0_hw668

def k0_chk669 (v992 : IVec S16 32) : Prop :=
  (∀ a x, ((![v992] : Fin 1 → IVec S16 32) a x).toNat < S1824.size a)
theorem k0_idx669_inb : ∀ (v992 : IVec S16 32) (k0_hw669 : k0_chk669 v992), ∀ a x, ((![v992] : Fin 1 → IVec S16 32) a x).toNat < S1824.size a := fun v992 k0_hw669 => k0_hw669

def k0_chk670 (v995 : IVec S16 32) : Prop :=
  (∀ a x, ((![v995] : Fin 1 → IVec S16 32) a x).toNat < S1824.size a)
theorem k0_idx670_inb : ∀ (v995 : IVec S16 32) (k0_hw670 : k0_chk670 v995), ∀ a x, ((![v995] : Fin 1 → IVec S16 32) a x).toNat < S1824.size a := fun v995 k0_hw670 => k0_hw670

def k0_chk671 (v998 : IVec S16 32) : Prop :=
  (∀ a x, ((![v998] : Fin 1 → IVec S16 32) a x).toNat < S1824.size a)
theorem k0_idx671_inb : ∀ (v998 : IVec S16 32) (k0_hw671 : k0_chk671 v998), ∀ a x, ((![v998] : Fin 1 → IVec S16 32) a x).toNat < S1824.size a := fun v998 k0_hw671 => k0_hw671

def k0_chk672 (v1001 : IVec S16 32) : Prop :=
  (∀ a x, ((![v1001] : Fin 1 → IVec S16 32) a x).toNat < S1824.size a)
theorem k0_idx672_inb : ∀ (v1001 : IVec S16 32) (k0_hw672 : k0_chk672 v1001), ∀ a x, ((![v1001] : Fin 1 → IVec S16 32) a x).toNat < S1824.size a := fun v1001 k0_hw672 => k0_hw672
def k0_off140 (k0_t29 : Fin k0_t29_loop.trips) : Fin 1 → Nat :=
  let c8192_i32_586 : BitVec 32 := 8192#32
  let c2560_i32 : BitVec 32 := 2560#32
  let c0_i32_472 : BitVec 32 := 0#32
  let c1_i32_474 : BitVec 32 := 1#32
  let arg23 : BitVec 32 := Scf.iv c0_i32_472 c1_i32_474 k0_t29
  let c16_i32_531 : BitVec 32 := 16#32
  let v688 : BitVec 32 := Scalar.muli arg23 c16_i32_531
  let v689 : BitVec 32 := Scalar.addi c2560_i32 v688
  let v1013 : BitVec 32 := Scalar.addi c8192_i32_586 v689
  let v1014 : Index := Scalar.indexCast v1013
  ![v1014.toNat]
@[reducible] def k0_t30_loop : Scf.Loop 32 :=
  let c0_i32_490 : BitVec 32 := 0#32
  let c96_i32_491 : BitVec 32 := 96#32
  let v654 : BitVec 32 := Scalar.addi c0_i32_490 c96_i32_491
  let c1_i32_492 : BitVec 32 := 1#32
  ⟨c0_i32_490, v654, c1_i32_492⟩
def k0_off141 (i : grid0.Coords) (k0_t1 : Fin k0_t1_loop.trips) (k0_t30 : Fin k0_t30_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_490 : BitVec 32 := 0#32
  let c1_i32_492 : BitVec 32 := 1#32
  let arg23 : BitVec 32 := Scf.iv c0_i32_490 c1_i32_492 k0_t30
  let c256_i32 : BitVec 32 := 256#32
  let v688 : BitVec 32 := Scalar.muli arg23 c256_i32
  let v689 : BitVec 32 := Scalar.addi v40 v688
  let c15_i32_480 : BitVec 32 := 15#32
  let c0_i32_479 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_330 : BitVec 32 := 16#32
  let v482 : BitVec 32 := Scalar.muli v1 c16_i32_330
  let c2_i32_19 : BitVec 32 := 2#32
  let v37 : BitVec 32 := Scalar.muli arg22 c2_i32_19
  let c1_i32_20 : BitVec 32 := 1#32
  let v38 : BitVec 32 := Scalar.addi v37 c1_i32_20
  let c2_i32_331 : BitVec 32 := 2#32
  let c0_i32_332 : BitVec 32 := 0#32
  let v483 : BitVec 1 := Scalar.cmpi .eq c2_i32_331 c0_i32_332
  let c1_i32_333 : BitVec 32 := 1#32
  let v484 : BitVec 32 := Scalar.select v483 c1_i32_333 c2_i32_331
  let v485 : BitVec 32 := Scalar.remsi v38 v484
  let c0_i32_335 : BitVec 32 := 0#32
  let v487 : BitVec 1 := Scalar.cmpi .slt v485 c0_i32_335
  let c0_i32_336 : BitVec 32 := 0#32
  let v488 : BitVec 1 := Scalar.cmpi .slt v484 c0_i32_336
  let v489 : BitVec 1 := Scalar.xori v487 v488
  let c0_i32_334 : BitVec 32 := 0#32
  let v486 : BitVec 1 := Scalar.cmpi .ne v485 c0_i32_334
  let v490 : BitVec 1 := Scalar.andi v489 v486
  let v491 : BitVec 32 := Scalar.addi v485 v484
  let v492 : BitVec 32 := Scalar.select v490 v491 v485
  let c8_i32_337 : BitVec 32 := 8#32
  let v493 : BitVec 32 := Scalar.muli v492 c8_i32_337
  let v494 : BitVec 32 := Scalar.addi v482 v493
  let c6_i32_476 : BitVec 32 := 6#32
  let v633 : BitVec 32 := Scalar.addi v494 c6_i32_476
  let c16_i32_477 : BitVec 32 := 16#32
  let v634 : BitVec 32 := Scalar.subi v633 c16_i32_477
  let c5_i32_478 : BitVec 32 := 5#32
  let v635 : BitVec 32 := Scalar.shrsi v634 c5_i32_478
  let v636 : BitVec 32 := Scalar.maxsi c0_i32_479 v635
  let v637 : BitVec 32 := Scalar.minsi c15_i32_480 v636
  let c16_i32_481 : BitVec 32 := 16#32
  let v638 : BitVec 32 := Scalar.muli v637 c16_i32_481
  let v690 : BitVec 32 := Scalar.addi v689 v638
  let v691 : Index := Scalar.indexCast v690
  ![v691.toNat]
def k0_off142 (i : grid0.Coords) (k0_t1 : Fin k0_t1_loop.trips) (k0_t30 : Fin k0_t30_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_490 : BitVec 32 := 0#32
  let c1_i32_492 : BitVec 32 := 1#32
  let arg23 : BitVec 32 := Scf.iv c0_i32_490 c1_i32_492 k0_t30
  let c256_i32 : BitVec 32 := 256#32
  let v688 : BitVec 32 := Scalar.muli arg23 c256_i32
  let v689 : BitVec 32 := Scalar.addi v40 v688
  let c15_i32_484 : BitVec 32 := 15#32
  let c0_i32_483 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_330 : BitVec 32 := 16#32
  let v482 : BitVec 32 := Scalar.muli v1 c16_i32_330
  let c2_i32_19 : BitVec 32 := 2#32
  let v37 : BitVec 32 := Scalar.muli arg22 c2_i32_19
  let c1_i32_20 : BitVec 32 := 1#32
  let v38 : BitVec 32 := Scalar.addi v37 c1_i32_20
  let c2_i32_331 : BitVec 32 := 2#32
  let c0_i32_332 : BitVec 32 := 0#32
  let v483 : BitVec 1 := Scalar.cmpi .eq c2_i32_331 c0_i32_332
  let c1_i32_333 : BitVec 32 := 1#32
  let v484 : BitVec 32 := Scalar.select v483 c1_i32_333 c2_i32_331
  let v485 : BitVec 32 := Scalar.remsi v38 v484
  let c0_i32_335 : BitVec 32 := 0#32
  let v487 : BitVec 1 := Scalar.cmpi .slt v485 c0_i32_335
  let c0_i32_336 : BitVec 32 := 0#32
  let v488 : BitVec 1 := Scalar.cmpi .slt v484 c0_i32_336
  let v489 : BitVec 1 := Scalar.xori v487 v488
  let c0_i32_334 : BitVec 32 := 0#32
  let v486 : BitVec 1 := Scalar.cmpi .ne v485 c0_i32_334
  let v490 : BitVec 1 := Scalar.andi v489 v486
  let v491 : BitVec 32 := Scalar.addi v485 v484
  let v492 : BitVec 32 := Scalar.select v490 v491 v485
  let c8_i32_337 : BitVec 32 := 8#32
  let v493 : BitVec 32 := Scalar.muli v492 c8_i32_337
  let v494 : BitVec 32 := Scalar.addi v482 v493
  let c6_i32_476 : BitVec 32 := 6#32
  let v633 : BitVec 32 := Scalar.addi v494 c6_i32_476
  let c16_i32_477 : BitVec 32 := 16#32
  let v634 : BitVec 32 := Scalar.subi v633 c16_i32_477
  let c5_i32_478 : BitVec 32 := 5#32
  let v635 : BitVec 32 := Scalar.shrsi v634 c5_i32_478
  let c1_i32_482 : BitVec 32 := 1#32
  let v639 : BitVec 32 := Scalar.addi v635 c1_i32_482
  let v640 : BitVec 32 := Scalar.maxsi c0_i32_483 v639
  let v641 : BitVec 32 := Scalar.minsi c15_i32_484 v640
  let c16_i32_485 : BitVec 32 := 16#32
  let v642 : BitVec 32 := Scalar.muli v641 c16_i32_485
  let v693 : BitVec 32 := Scalar.addi v689 v642
  let v694 : Index := Scalar.indexCast v693
  ![v694.toNat]
def k0_off143 (k0_t30 : Fin k0_t30_loop.trips) : Fin 1 → Nat :=
  let c0_i32_490 : BitVec 32 := 0#32
  let c1_i32_492 : BitVec 32 := 1#32
  let arg23 : BitVec 32 := Scf.iv c0_i32_490 c1_i32_492 k0_t30
  let c19_i32 : BitVec 32 := 19#32
  let v699 : BitVec 32 := Scalar.muli arg23 c19_i32
  let v700 : Index := Scalar.indexCast v699
  ![v700.toNat]
@[reducible] def k0_t31_loop : Scf.Loop 32 :=
  let c0_i32_495 : BitVec 32 := 0#32
  let c32_i32_496 : BitVec 32 := 32#32
  let v655 : BitVec 32 := Scalar.addi c0_i32_495 c32_i32_496
  let c1_i32_497 : BitVec 32 := 1#32
  ⟨c0_i32_495, v655, c1_i32_497⟩
def k0_off144 (k0_t31 : Fin k0_t31_loop.trips) : Fin 1 → Nat :=
  let c3072_i32 : BitVec 32 := 3072#32
  let c0_i32_495 : BitVec 32 := 0#32
  let c1_i32_497 : BitVec 32 := 1#32
  let arg23 : BitVec 32 := Scf.iv c0_i32_495 c1_i32_497 k0_t31
  let c16_i32_531 : BitVec 32 := 16#32
  let v688 : BitVec 32 := Scalar.muli arg23 c16_i32_531
  let v689 : BitVec 32 := Scalar.addi c3072_i32 v688
  let v690 : Index := Scalar.indexCast v689
  ![v690.toNat]
def k0_off145 (k0_t31 : Fin k0_t31_loop.trips) : Fin 1 → Nat :=
  let c0_i32_495 : BitVec 32 := 0#32
  let c1_i32_497 : BitVec 32 := 1#32
  let arg23 : BitVec 32 := Scf.iv c0_i32_495 c1_i32_497 k0_t31
  let c16_i32_541 : BitVec 32 := 16#32
  let v715 : BitVec 32 := Scalar.muli arg23 c16_i32_541
  let v716 : Index := Scalar.indexCast v715
  ![v716.toNat]
def k0_off146 (k0_t31 : Fin k0_t31_loop.trips) (c0_i32_544 : BitVec 32) : Fin 1 → Nat :=
  let c3072_i32 : BitVec 32 := 3072#32
  let c0_i32_495 : BitVec 32 := 0#32
  let c1_i32_497 : BitVec 32 := 1#32
  let arg23 : BitVec 32 := Scf.iv c0_i32_495 c1_i32_497 k0_t31
  let c16_i32_531 : BitVec 32 := 16#32
  let v688 : BitVec 32 := Scalar.muli arg23 c16_i32_531
  let v689 : BitVec 32 := Scalar.addi c3072_i32 v688
  let v728 : BitVec 32 := Scalar.addi c0_i32_544 v689
  let v729 : Index := Scalar.indexCast v728
  ![v729.toNat]

def k0_chk673 (v738 : IVec S16 32) : Prop :=
  (∀ a x, ((![v738] : Fin 1 → IVec S16 32) a x).toNat < S1824.size a)
theorem k0_idx673_inb : ∀ (v738 : IVec S16 32) (k0_hw673 : k0_chk673 v738), ∀ a x, ((![v738] : Fin 1 → IVec S16 32) a x).toNat < S1824.size a := fun v738 k0_hw673 => k0_hw673

def k0_chk674 (v741 : IVec S16 32) : Prop :=
  (∀ a x, ((![v741] : Fin 1 → IVec S16 32) a x).toNat < S1824.size a)
theorem k0_idx674_inb : ∀ (v741 : IVec S16 32) (k0_hw674 : k0_chk674 v741), ∀ a x, ((![v741] : Fin 1 → IVec S16 32) a x).toNat < S1824.size a := fun v741 k0_hw674 => k0_hw674

def k0_chk675 (v744 : IVec S16 32) : Prop :=
  (∀ a x, ((![v744] : Fin 1 → IVec S16 32) a x).toNat < S1824.size a)
theorem k0_idx675_inb : ∀ (v744 : IVec S16 32) (k0_hw675 : k0_chk675 v744), ∀ a x, ((![v744] : Fin 1 → IVec S16 32) a x).toNat < S1824.size a := fun v744 k0_hw675 => k0_hw675

def k0_chk676 (v747 : IVec S16 32) : Prop :=
  (∀ a x, ((![v747] : Fin 1 → IVec S16 32) a x).toNat < S1824.size a)
theorem k0_idx676_inb : ∀ (v747 : IVec S16 32) (k0_hw676 : k0_chk676 v747), ∀ a x, ((![v747] : Fin 1 → IVec S16 32) a x).toNat < S1824.size a := fun v747 k0_hw676 => k0_hw676

def k0_chk677 (v760 : IVec S16 32) : Prop :=
  (∀ a x, ((![v760] : Fin 1 → IVec S16 32) a x).toNat < S1824.size a)
theorem k0_idx677_inb : ∀ (v760 : IVec S16 32) (k0_hw677 : k0_chk677 v760), ∀ a x, ((![v760] : Fin 1 → IVec S16 32) a x).toNat < S1824.size a := fun v760 k0_hw677 => k0_hw677

def k0_chk678 (v763 : IVec S16 32) : Prop :=
  (∀ a x, ((![v763] : Fin 1 → IVec S16 32) a x).toNat < S1824.size a)
theorem k0_idx678_inb : ∀ (v763 : IVec S16 32) (k0_hw678 : k0_chk678 v763), ∀ a x, ((![v763] : Fin 1 → IVec S16 32) a x).toNat < S1824.size a := fun v763 k0_hw678 => k0_hw678

def k0_chk679 (v766 : IVec S16 32) : Prop :=
  (∀ a x, ((![v766] : Fin 1 → IVec S16 32) a x).toNat < S1824.size a)
theorem k0_idx679_inb : ∀ (v766 : IVec S16 32) (k0_hw679 : k0_chk679 v766), ∀ a x, ((![v766] : Fin 1 → IVec S16 32) a x).toNat < S1824.size a := fun v766 k0_hw679 => k0_hw679

def k0_chk680 (v769 : IVec S16 32) : Prop :=
  (∀ a x, ((![v769] : Fin 1 → IVec S16 32) a x).toNat < S1824.size a)
theorem k0_idx680_inb : ∀ (v769 : IVec S16 32) (k0_hw680 : k0_chk680 v769), ∀ a x, ((![v769] : Fin 1 → IVec S16 32) a x).toNat < S1824.size a := fun v769 k0_hw680 => k0_hw680

def k0_chk681 (v783 : IVec S16 32) : Prop :=
  (∀ a x, ((![v783] : Fin 1 → IVec S16 32) a x).toNat < S1824.size a)
theorem k0_idx681_inb : ∀ (v783 : IVec S16 32) (k0_hw681 : k0_chk681 v783), ∀ a x, ((![v783] : Fin 1 → IVec S16 32) a x).toNat < S1824.size a := fun v783 k0_hw681 => k0_hw681

def k0_chk682 (v786 : IVec S16 32) : Prop :=
  (∀ a x, ((![v786] : Fin 1 → IVec S16 32) a x).toNat < S1824.size a)
theorem k0_idx682_inb : ∀ (v786 : IVec S16 32) (k0_hw682 : k0_chk682 v786), ∀ a x, ((![v786] : Fin 1 → IVec S16 32) a x).toNat < S1824.size a := fun v786 k0_hw682 => k0_hw682

def k0_chk683 (v789 : IVec S16 32) : Prop :=
  (∀ a x, ((![v789] : Fin 1 → IVec S16 32) a x).toNat < S1824.size a)
theorem k0_idx683_inb : ∀ (v789 : IVec S16 32) (k0_hw683 : k0_chk683 v789), ∀ a x, ((![v789] : Fin 1 → IVec S16 32) a x).toNat < S1824.size a := fun v789 k0_hw683 => k0_hw683

def k0_chk684 (v792 : IVec S16 32) : Prop :=
  (∀ a x, ((![v792] : Fin 1 → IVec S16 32) a x).toNat < S1824.size a)
theorem k0_idx684_inb : ∀ (v792 : IVec S16 32) (k0_hw684 : k0_chk684 v792), ∀ a x, ((![v792] : Fin 1 → IVec S16 32) a x).toNat < S1824.size a := fun v792 k0_hw684 => k0_hw684

def k0_chk685 (v806 : IVec S16 32) : Prop :=
  (∀ a x, ((![v806] : Fin 1 → IVec S16 32) a x).toNat < S1824.size a)
theorem k0_idx685_inb : ∀ (v806 : IVec S16 32) (k0_hw685 : k0_chk685 v806), ∀ a x, ((![v806] : Fin 1 → IVec S16 32) a x).toNat < S1824.size a := fun v806 k0_hw685 => k0_hw685

def k0_chk686 (v809 : IVec S16 32) : Prop :=
  (∀ a x, ((![v809] : Fin 1 → IVec S16 32) a x).toNat < S1824.size a)
theorem k0_idx686_inb : ∀ (v809 : IVec S16 32) (k0_hw686 : k0_chk686 v809), ∀ a x, ((![v809] : Fin 1 → IVec S16 32) a x).toNat < S1824.size a := fun v809 k0_hw686 => k0_hw686

def k0_chk687 (v812 : IVec S16 32) : Prop :=
  (∀ a x, ((![v812] : Fin 1 → IVec S16 32) a x).toNat < S1824.size a)
theorem k0_idx687_inb : ∀ (v812 : IVec S16 32) (k0_hw687 : k0_chk687 v812), ∀ a x, ((![v812] : Fin 1 → IVec S16 32) a x).toNat < S1824.size a := fun v812 k0_hw687 => k0_hw687

def k0_chk688 (v815 : IVec S16 32) : Prop :=
  (∀ a x, ((![v815] : Fin 1 → IVec S16 32) a x).toNat < S1824.size a)
theorem k0_idx688_inb : ∀ (v815 : IVec S16 32) (k0_hw688 : k0_chk688 v815), ∀ a x, ((![v815] : Fin 1 → IVec S16 32) a x).toNat < S1824.size a := fun v815 k0_hw688 => k0_hw688
def k0_off147 (k0_t31 : Fin k0_t31_loop.trips) : Fin 1 → Nat :=
  let c0_i32_560 : BitVec 32 := 0#32
  let c3072_i32 : BitVec 32 := 3072#32
  let c0_i32_495 : BitVec 32 := 0#32
  let c1_i32_497 : BitVec 32 := 1#32
  let arg23 : BitVec 32 := Scf.iv c0_i32_495 c1_i32_497 k0_t31
  let c16_i32_531 : BitVec 32 := 16#32
  let v688 : BitVec 32 := Scalar.muli arg23 c16_i32_531
  let v689 : BitVec 32 := Scalar.addi c3072_i32 v688
  let v827 : BitVec 32 := Scalar.addi c0_i32_560 v689
  let v828 : Index := Scalar.indexCast v827
  ![v828.toNat]

def k0_chk689 (v831 : IVec S16 32) : Prop :=
  (∀ a x, ((![v831] : Fin 1 → IVec S16 32) a x).toNat < S1824.size a)
theorem k0_idx689_inb : ∀ (v831 : IVec S16 32) (k0_hw689 : k0_chk689 v831), ∀ a x, ((![v831] : Fin 1 → IVec S16 32) a x).toNat < S1824.size a := fun v831 k0_hw689 => k0_hw689

def k0_chk690 (v834 : IVec S16 32) : Prop :=
  (∀ a x, ((![v834] : Fin 1 → IVec S16 32) a x).toNat < S1824.size a)
theorem k0_idx690_inb : ∀ (v834 : IVec S16 32) (k0_hw690 : k0_chk690 v834), ∀ a x, ((![v834] : Fin 1 → IVec S16 32) a x).toNat < S1824.size a := fun v834 k0_hw690 => k0_hw690

def k0_chk691 (v837 : IVec S16 32) : Prop :=
  (∀ a x, ((![v837] : Fin 1 → IVec S16 32) a x).toNat < S1824.size a)
theorem k0_idx691_inb : ∀ (v837 : IVec S16 32) (k0_hw691 : k0_chk691 v837), ∀ a x, ((![v837] : Fin 1 → IVec S16 32) a x).toNat < S1824.size a := fun v837 k0_hw691 => k0_hw691

def k0_chk692 (v840 : IVec S16 32) : Prop :=
  (∀ a x, ((![v840] : Fin 1 → IVec S16 32) a x).toNat < S1824.size a)
theorem k0_idx692_inb : ∀ (v840 : IVec S16 32) (k0_hw692 : k0_chk692 v840), ∀ a x, ((![v840] : Fin 1 → IVec S16 32) a x).toNat < S1824.size a := fun v840 k0_hw692 => k0_hw692

def k0_chk693 (v853 : IVec S16 32) : Prop :=
  (∀ a x, ((![v853] : Fin 1 → IVec S16 32) a x).toNat < S1824.size a)
theorem k0_idx693_inb : ∀ (v853 : IVec S16 32) (k0_hw693 : k0_chk693 v853), ∀ a x, ((![v853] : Fin 1 → IVec S16 32) a x).toNat < S1824.size a := fun v853 k0_hw693 => k0_hw693

def k0_chk694 (v856 : IVec S16 32) : Prop :=
  (∀ a x, ((![v856] : Fin 1 → IVec S16 32) a x).toNat < S1824.size a)
theorem k0_idx694_inb : ∀ (v856 : IVec S16 32) (k0_hw694 : k0_chk694 v856), ∀ a x, ((![v856] : Fin 1 → IVec S16 32) a x).toNat < S1824.size a := fun v856 k0_hw694 => k0_hw694

def k0_chk695 (v859 : IVec S16 32) : Prop :=
  (∀ a x, ((![v859] : Fin 1 → IVec S16 32) a x).toNat < S1824.size a)
theorem k0_idx695_inb : ∀ (v859 : IVec S16 32) (k0_hw695 : k0_chk695 v859), ∀ a x, ((![v859] : Fin 1 → IVec S16 32) a x).toNat < S1824.size a := fun v859 k0_hw695 => k0_hw695

def k0_chk696 (v862 : IVec S16 32) : Prop :=
  (∀ a x, ((![v862] : Fin 1 → IVec S16 32) a x).toNat < S1824.size a)
theorem k0_idx696_inb : ∀ (v862 : IVec S16 32) (k0_hw696 : k0_chk696 v862), ∀ a x, ((![v862] : Fin 1 → IVec S16 32) a x).toNat < S1824.size a := fun v862 k0_hw696 => k0_hw696

def k0_chk697 (v876 : IVec S16 32) : Prop :=
  (∀ a x, ((![v876] : Fin 1 → IVec S16 32) a x).toNat < S1824.size a)
theorem k0_idx697_inb : ∀ (v876 : IVec S16 32) (k0_hw697 : k0_chk697 v876), ∀ a x, ((![v876] : Fin 1 → IVec S16 32) a x).toNat < S1824.size a := fun v876 k0_hw697 => k0_hw697

def k0_chk698 (v879 : IVec S16 32) : Prop :=
  (∀ a x, ((![v879] : Fin 1 → IVec S16 32) a x).toNat < S1824.size a)
theorem k0_idx698_inb : ∀ (v879 : IVec S16 32) (k0_hw698 : k0_chk698 v879), ∀ a x, ((![v879] : Fin 1 → IVec S16 32) a x).toNat < S1824.size a := fun v879 k0_hw698 => k0_hw698

def k0_chk699 (v882 : IVec S16 32) : Prop :=
  (∀ a x, ((![v882] : Fin 1 → IVec S16 32) a x).toNat < S1824.size a)
theorem k0_idx699_inb : ∀ (v882 : IVec S16 32) (k0_hw699 : k0_chk699 v882), ∀ a x, ((![v882] : Fin 1 → IVec S16 32) a x).toNat < S1824.size a := fun v882 k0_hw699 => k0_hw699

def k0_chk700 (v885 : IVec S16 32) : Prop :=
  (∀ a x, ((![v885] : Fin 1 → IVec S16 32) a x).toNat < S1824.size a)
theorem k0_idx700_inb : ∀ (v885 : IVec S16 32) (k0_hw700 : k0_chk700 v885), ∀ a x, ((![v885] : Fin 1 → IVec S16 32) a x).toNat < S1824.size a := fun v885 k0_hw700 => k0_hw700

def k0_chk701 (v899 : IVec S16 32) : Prop :=
  (∀ a x, ((![v899] : Fin 1 → IVec S16 32) a x).toNat < S1824.size a)
theorem k0_idx701_inb : ∀ (v899 : IVec S16 32) (k0_hw701 : k0_chk701 v899), ∀ a x, ((![v899] : Fin 1 → IVec S16 32) a x).toNat < S1824.size a := fun v899 k0_hw701 => k0_hw701

def k0_chk702 (v902 : IVec S16 32) : Prop :=
  (∀ a x, ((![v902] : Fin 1 → IVec S16 32) a x).toNat < S1824.size a)
theorem k0_idx702_inb : ∀ (v902 : IVec S16 32) (k0_hw702 : k0_chk702 v902), ∀ a x, ((![v902] : Fin 1 → IVec S16 32) a x).toNat < S1824.size a := fun v902 k0_hw702 => k0_hw702

def k0_chk703 (v905 : IVec S16 32) : Prop :=
  (∀ a x, ((![v905] : Fin 1 → IVec S16 32) a x).toNat < S1824.size a)
theorem k0_idx703_inb : ∀ (v905 : IVec S16 32) (k0_hw703 : k0_chk703 v905), ∀ a x, ((![v905] : Fin 1 → IVec S16 32) a x).toNat < S1824.size a := fun v905 k0_hw703 => k0_hw703

def k0_chk704 (v908 : IVec S16 32) : Prop :=
  (∀ a x, ((![v908] : Fin 1 → IVec S16 32) a x).toNat < S1824.size a)
theorem k0_idx704_inb : ∀ (v908 : IVec S16 32) (k0_hw704 : k0_chk704 v908), ∀ a x, ((![v908] : Fin 1 → IVec S16 32) a x).toNat < S1824.size a := fun v908 k0_hw704 => k0_hw704
def k0_off148 (k0_t31 : Fin k0_t31_loop.trips) : Fin 1 → Nat :=
  let c4096_i32_573 : BitVec 32 := 4096#32
  let c3072_i32 : BitVec 32 := 3072#32
  let c0_i32_495 : BitVec 32 := 0#32
  let c1_i32_497 : BitVec 32 := 1#32
  let arg23 : BitVec 32 := Scf.iv c0_i32_495 c1_i32_497 k0_t31
  let c16_i32_531 : BitVec 32 := 16#32
  let v688 : BitVec 32 := Scalar.muli arg23 c16_i32_531
  let v689 : BitVec 32 := Scalar.addi c3072_i32 v688
  let v920 : BitVec 32 := Scalar.addi c4096_i32_573 v689
  let v921 : Index := Scalar.indexCast v920
  ![v921.toNat]

def k0_chk705 (v924 : IVec S16 32) : Prop :=
  (∀ a x, ((![v924] : Fin 1 → IVec S16 32) a x).toNat < S1824.size a)
theorem k0_idx705_inb : ∀ (v924 : IVec S16 32) (k0_hw705 : k0_chk705 v924), ∀ a x, ((![v924] : Fin 1 → IVec S16 32) a x).toNat < S1824.size a := fun v924 k0_hw705 => k0_hw705

def k0_chk706 (v927 : IVec S16 32) : Prop :=
  (∀ a x, ((![v927] : Fin 1 → IVec S16 32) a x).toNat < S1824.size a)
theorem k0_idx706_inb : ∀ (v927 : IVec S16 32) (k0_hw706 : k0_chk706 v927), ∀ a x, ((![v927] : Fin 1 → IVec S16 32) a x).toNat < S1824.size a := fun v927 k0_hw706 => k0_hw706

def k0_chk707 (v930 : IVec S16 32) : Prop :=
  (∀ a x, ((![v930] : Fin 1 → IVec S16 32) a x).toNat < S1824.size a)
theorem k0_idx707_inb : ∀ (v930 : IVec S16 32) (k0_hw707 : k0_chk707 v930), ∀ a x, ((![v930] : Fin 1 → IVec S16 32) a x).toNat < S1824.size a := fun v930 k0_hw707 => k0_hw707

def k0_chk708 (v933 : IVec S16 32) : Prop :=
  (∀ a x, ((![v933] : Fin 1 → IVec S16 32) a x).toNat < S1824.size a)
theorem k0_idx708_inb : ∀ (v933 : IVec S16 32) (k0_hw708 : k0_chk708 v933), ∀ a x, ((![v933] : Fin 1 → IVec S16 32) a x).toNat < S1824.size a := fun v933 k0_hw708 => k0_hw708

def k0_chk709 (v946 : IVec S16 32) : Prop :=
  (∀ a x, ((![v946] : Fin 1 → IVec S16 32) a x).toNat < S1824.size a)
theorem k0_idx709_inb : ∀ (v946 : IVec S16 32) (k0_hw709 : k0_chk709 v946), ∀ a x, ((![v946] : Fin 1 → IVec S16 32) a x).toNat < S1824.size a := fun v946 k0_hw709 => k0_hw709

def k0_chk710 (v949 : IVec S16 32) : Prop :=
  (∀ a x, ((![v949] : Fin 1 → IVec S16 32) a x).toNat < S1824.size a)
theorem k0_idx710_inb : ∀ (v949 : IVec S16 32) (k0_hw710 : k0_chk710 v949), ∀ a x, ((![v949] : Fin 1 → IVec S16 32) a x).toNat < S1824.size a := fun v949 k0_hw710 => k0_hw710

def k0_chk711 (v952 : IVec S16 32) : Prop :=
  (∀ a x, ((![v952] : Fin 1 → IVec S16 32) a x).toNat < S1824.size a)
theorem k0_idx711_inb : ∀ (v952 : IVec S16 32) (k0_hw711 : k0_chk711 v952), ∀ a x, ((![v952] : Fin 1 → IVec S16 32) a x).toNat < S1824.size a := fun v952 k0_hw711 => k0_hw711

def k0_chk712 (v955 : IVec S16 32) : Prop :=
  (∀ a x, ((![v955] : Fin 1 → IVec S16 32) a x).toNat < S1824.size a)
theorem k0_idx712_inb : ∀ (v955 : IVec S16 32) (k0_hw712 : k0_chk712 v955), ∀ a x, ((![v955] : Fin 1 → IVec S16 32) a x).toNat < S1824.size a := fun v955 k0_hw712 => k0_hw712

def k0_chk713 (v969 : IVec S16 32) : Prop :=
  (∀ a x, ((![v969] : Fin 1 → IVec S16 32) a x).toNat < S1824.size a)
theorem k0_idx713_inb : ∀ (v969 : IVec S16 32) (k0_hw713 : k0_chk713 v969), ∀ a x, ((![v969] : Fin 1 → IVec S16 32) a x).toNat < S1824.size a := fun v969 k0_hw713 => k0_hw713

def k0_chk714 (v972 : IVec S16 32) : Prop :=
  (∀ a x, ((![v972] : Fin 1 → IVec S16 32) a x).toNat < S1824.size a)
theorem k0_idx714_inb : ∀ (v972 : IVec S16 32) (k0_hw714 : k0_chk714 v972), ∀ a x, ((![v972] : Fin 1 → IVec S16 32) a x).toNat < S1824.size a := fun v972 k0_hw714 => k0_hw714

def k0_chk715 (v975 : IVec S16 32) : Prop :=
  (∀ a x, ((![v975] : Fin 1 → IVec S16 32) a x).toNat < S1824.size a)
theorem k0_idx715_inb : ∀ (v975 : IVec S16 32) (k0_hw715 : k0_chk715 v975), ∀ a x, ((![v975] : Fin 1 → IVec S16 32) a x).toNat < S1824.size a := fun v975 k0_hw715 => k0_hw715

def k0_chk716 (v978 : IVec S16 32) : Prop :=
  (∀ a x, ((![v978] : Fin 1 → IVec S16 32) a x).toNat < S1824.size a)
theorem k0_idx716_inb : ∀ (v978 : IVec S16 32) (k0_hw716 : k0_chk716 v978), ∀ a x, ((![v978] : Fin 1 → IVec S16 32) a x).toNat < S1824.size a := fun v978 k0_hw716 => k0_hw716

def k0_chk717 (v992 : IVec S16 32) : Prop :=
  (∀ a x, ((![v992] : Fin 1 → IVec S16 32) a x).toNat < S1824.size a)
theorem k0_idx717_inb : ∀ (v992 : IVec S16 32) (k0_hw717 : k0_chk717 v992), ∀ a x, ((![v992] : Fin 1 → IVec S16 32) a x).toNat < S1824.size a := fun v992 k0_hw717 => k0_hw717

def k0_chk718 (v995 : IVec S16 32) : Prop :=
  (∀ a x, ((![v995] : Fin 1 → IVec S16 32) a x).toNat < S1824.size a)
theorem k0_idx718_inb : ∀ (v995 : IVec S16 32) (k0_hw718 : k0_chk718 v995), ∀ a x, ((![v995] : Fin 1 → IVec S16 32) a x).toNat < S1824.size a := fun v995 k0_hw718 => k0_hw718

def k0_chk719 (v998 : IVec S16 32) : Prop :=
  (∀ a x, ((![v998] : Fin 1 → IVec S16 32) a x).toNat < S1824.size a)
theorem k0_idx719_inb : ∀ (v998 : IVec S16 32) (k0_hw719 : k0_chk719 v998), ∀ a x, ((![v998] : Fin 1 → IVec S16 32) a x).toNat < S1824.size a := fun v998 k0_hw719 => k0_hw719

def k0_chk720 (v1001 : IVec S16 32) : Prop :=
  (∀ a x, ((![v1001] : Fin 1 → IVec S16 32) a x).toNat < S1824.size a)
theorem k0_idx720_inb : ∀ (v1001 : IVec S16 32) (k0_hw720 : k0_chk720 v1001), ∀ a x, ((![v1001] : Fin 1 → IVec S16 32) a x).toNat < S1824.size a := fun v1001 k0_hw720 => k0_hw720
def k0_off149 (k0_t31 : Fin k0_t31_loop.trips) : Fin 1 → Nat :=
  let c8192_i32_586 : BitVec 32 := 8192#32
  let c3072_i32 : BitVec 32 := 3072#32
  let c0_i32_495 : BitVec 32 := 0#32
  let c1_i32_497 : BitVec 32 := 1#32
  let arg23 : BitVec 32 := Scf.iv c0_i32_495 c1_i32_497 k0_t31
  let c16_i32_531 : BitVec 32 := 16#32
  let v688 : BitVec 32 := Scalar.muli arg23 c16_i32_531
  let v689 : BitVec 32 := Scalar.addi c3072_i32 v688
  let v1013 : BitVec 32 := Scalar.addi c8192_i32_586 v689
  let v1014 : Index := Scalar.indexCast v1013
  ![v1014.toNat]
@[reducible] def k0_t32_loop : Scf.Loop 32 :=
  let c0_i32_513 : BitVec 32 := 0#32
  let c96_i32_514 : BitVec 32 := 96#32
  let v677 : BitVec 32 := Scalar.addi c0_i32_513 c96_i32_514
  let c1_i32_515 : BitVec 32 := 1#32
  ⟨c0_i32_513, v677, c1_i32_515⟩
def k0_off150 (i : grid0.Coords) (k0_t1 : Fin k0_t1_loop.trips) (k0_t32 : Fin k0_t32_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_513 : BitVec 32 := 0#32
  let c1_i32_515 : BitVec 32 := 1#32
  let arg23 : BitVec 32 := Scf.iv c0_i32_513 c1_i32_515 k0_t32
  let c256_i32 : BitVec 32 := 256#32
  let v688 : BitVec 32 := Scalar.muli arg23 c256_i32
  let v689 : BitVec 32 := Scalar.addi v40 v688
  let c15_i32_503 : BitVec 32 := 15#32
  let c0_i32_502 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_330 : BitVec 32 := 16#32
  let v482 : BitVec 32 := Scalar.muli v1 c16_i32_330
  let c2_i32_19 : BitVec 32 := 2#32
  let v37 : BitVec 32 := Scalar.muli arg22 c2_i32_19
  let c1_i32_20 : BitVec 32 := 1#32
  let v38 : BitVec 32 := Scalar.addi v37 c1_i32_20
  let c2_i32_331 : BitVec 32 := 2#32
  let c0_i32_332 : BitVec 32 := 0#32
  let v483 : BitVec 1 := Scalar.cmpi .eq c2_i32_331 c0_i32_332
  let c1_i32_333 : BitVec 32 := 1#32
  let v484 : BitVec 32 := Scalar.select v483 c1_i32_333 c2_i32_331
  let v485 : BitVec 32 := Scalar.remsi v38 v484
  let c0_i32_335 : BitVec 32 := 0#32
  let v487 : BitVec 1 := Scalar.cmpi .slt v485 c0_i32_335
  let c0_i32_336 : BitVec 32 := 0#32
  let v488 : BitVec 1 := Scalar.cmpi .slt v484 c0_i32_336
  let v489 : BitVec 1 := Scalar.xori v487 v488
  let c0_i32_334 : BitVec 32 := 0#32
  let v486 : BitVec 1 := Scalar.cmpi .ne v485 c0_i32_334
  let v490 : BitVec 1 := Scalar.andi v489 v486
  let v491 : BitVec 32 := Scalar.addi v485 v484
  let v492 : BitVec 32 := Scalar.select v490 v491 v485
  let c8_i32_337 : BitVec 32 := 8#32
  let v493 : BitVec 32 := Scalar.muli v492 c8_i32_337
  let v494 : BitVec 32 := Scalar.addi v482 v493
  let c7_i32_499 : BitVec 32 := 7#32
  let v656 : BitVec 32 := Scalar.addi v494 c7_i32_499
  let c16_i32_500 : BitVec 32 := 16#32
  let v657 : BitVec 32 := Scalar.subi v656 c16_i32_500
  let c5_i32_501 : BitVec 32 := 5#32
  let v658 : BitVec 32 := Scalar.shrsi v657 c5_i32_501
  let v659 : BitVec 32 := Scalar.maxsi c0_i32_502 v658
  let v660 : BitVec 32 := Scalar.minsi c15_i32_503 v659
  let c16_i32_504 : BitVec 32 := 16#32
  let v661 : BitVec 32 := Scalar.muli v660 c16_i32_504
  let v690 : BitVec 32 := Scalar.addi v689 v661
  let v691 : Index := Scalar.indexCast v690
  ![v691.toNat]
def k0_off151 (i : grid0.Coords) (k0_t1 : Fin k0_t1_loop.trips) (k0_t32 : Fin k0_t32_loop.trips) : Fin 1 → Nat :=
  let c0_i32_16 : BitVec 32 := 0#32
  let c1_i32_17 : BitVec 32 := 1#32
  let arg22 : BitVec 32 := Scf.iv c0_i32_16 c1_i32_17 k0_t1
  let c2_i32_21 : BitVec 32 := 2#32
  let v39 : BitVec 32 := Scalar.remsi arg22 c2_i32_21
  let c24576_i32 : BitVec 32 := 24576#32
  let v40 : BitVec 32 := Scalar.muli v39 c24576_i32
  let c0_i32_513 : BitVec 32 := 0#32
  let c1_i32_515 : BitVec 32 := 1#32
  let arg23 : BitVec 32 := Scf.iv c0_i32_513 c1_i32_515 k0_t32
  let c256_i32 : BitVec 32 := 256#32
  let v688 : BitVec 32 := Scalar.muli arg23 c256_i32
  let v689 : BitVec 32 := Scalar.addi v40 v688
  let c15_i32_507 : BitVec 32 := 15#32
  let c0_i32_506 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_330 : BitVec 32 := 16#32
  let v482 : BitVec 32 := Scalar.muli v1 c16_i32_330
  let c2_i32_19 : BitVec 32 := 2#32
  let v37 : BitVec 32 := Scalar.muli arg22 c2_i32_19
  let c1_i32_20 : BitVec 32 := 1#32
  let v38 : BitVec 32 := Scalar.addi v37 c1_i32_20
  let c2_i32_331 : BitVec 32 := 2#32
  let c0_i32_332 : BitVec 32 := 0#32
  let v483 : BitVec 1 := Scalar.cmpi .eq c2_i32_331 c0_i32_332
  let c1_i32_333 : BitVec 32 := 1#32
  let v484 : BitVec 32 := Scalar.select v483 c1_i32_333 c2_i32_331
  let v485 : BitVec 32 := Scalar.remsi v38 v484
  let c0_i32_335 : BitVec 32 := 0#32
  let v487 : BitVec 1 := Scalar.cmpi .slt v485 c0_i32_335
  let c0_i32_336 : BitVec 32 := 0#32
  let v488 : BitVec 1 := Scalar.cmpi .slt v484 c0_i32_336
  let v489 : BitVec 1 := Scalar.xori v487 v488
  let c0_i32_334 : BitVec 32 := 0#32
  let v486 : BitVec 1 := Scalar.cmpi .ne v485 c0_i32_334
  let v490 : BitVec 1 := Scalar.andi v489 v486
  let v491 : BitVec 32 := Scalar.addi v485 v484
  let v492 : BitVec 32 := Scalar.select v490 v491 v485
  let c8_i32_337 : BitVec 32 := 8#32
  let v493 : BitVec 32 := Scalar.muli v492 c8_i32_337
  let v494 : BitVec 32 := Scalar.addi v482 v493
  let c7_i32_499 : BitVec 32 := 7#32
  let v656 : BitVec 32 := Scalar.addi v494 c7_i32_499
  let c16_i32_500 : BitVec 32 := 16#32
  let v657 : BitVec 32 := Scalar.subi v656 c16_i32_500
  let c5_i32_501 : BitVec 32 := 5#32
  let v658 : BitVec 32 := Scalar.shrsi v657 c5_i32_501
  let c1_i32_505 : BitVec 32 := 1#32
  let v662 : BitVec 32 := Scalar.addi v658 c1_i32_505
  let v663 : BitVec 32 := Scalar.maxsi c0_i32_506 v662
  let v664 : BitVec 32 := Scalar.minsi c15_i32_507 v663
  let c16_i32_508 : BitVec 32 := 16#32
  let v665 : BitVec 32 := Scalar.muli v664 c16_i32_508
  let v693 : BitVec 32 := Scalar.addi v689 v665
  let v694 : Index := Scalar.indexCast v693
  ![v694.toNat]
def k0_off152 (k0_t32 : Fin k0_t32_loop.trips) : Fin 1 → Nat :=
  let c0_i32_513 : BitVec 32 := 0#32
  let c1_i32_515 : BitVec 32 := 1#32
  let arg23 : BitVec 32 := Scf.iv c0_i32_513 c1_i32_515 k0_t32
  let c19_i32 : BitVec 32 := 19#32
  let v699 : BitVec 32 := Scalar.muli arg23 c19_i32
  let v700 : Index := Scalar.indexCast v699
  ![v700.toNat]
@[reducible] def k0_t33_loop : Scf.Loop 32 :=
  let c0_i32_518 : BitVec 32 := 0#32
  let c32_i32_519 : BitVec 32 := 32#32
  let v678 : BitVec 32 := Scalar.addi c0_i32_518 c32_i32_519
  let c1_i32_520 : BitVec 32 := 1#32
  ⟨c0_i32_518, v678, c1_i32_520⟩
def k0_off153 (k0_t33 : Fin k0_t33_loop.trips) : Fin 1 → Nat :=
  let c3584_i32 : BitVec 32 := 3584#32
  let c0_i32_518 : BitVec 32 := 0#32
  let c1_i32_520 : BitVec 32 := 1#32
  let arg23 : BitVec 32 := Scf.iv c0_i32_518 c1_i32_520 k0_t33
  let c16_i32_531 : BitVec 32 := 16#32
  let v688 : BitVec 32 := Scalar.muli arg23 c16_i32_531
  let v689 : BitVec 32 := Scalar.addi c3584_i32 v688
  let v690 : Index := Scalar.indexCast v689
  ![v690.toNat]
def k0_off154 (k0_t33 : Fin k0_t33_loop.trips) : Fin 1 → Nat :=
  let c0_i32_518 : BitVec 32 := 0#32
  let c1_i32_520 : BitVec 32 := 1#32
  let arg23 : BitVec 32 := Scf.iv c0_i32_518 c1_i32_520 k0_t33
  let c16_i32_541 : BitVec 32 := 16#32
  let v715 : BitVec 32 := Scalar.muli arg23 c16_i32_541
  let v716 : Index := Scalar.indexCast v715
  ![v716.toNat]
def k0_off155 (k0_t33 : Fin k0_t33_loop.trips) (c0_i32_544 : BitVec 32) : Fin 1 → Nat :=
  let c3584_i32 : BitVec 32 := 3584#32
  let c0_i32_518 : BitVec 32 := 0#32
  let c1_i32_520 : BitVec 32 := 1#32
  let arg23 : BitVec 32 := Scf.iv c0_i32_518 c1_i32_520 k0_t33
  let c16_i32_531 : BitVec 32 := 16#32
  let v688 : BitVec 32 := Scalar.muli arg23 c16_i32_531
  let v689 : BitVec 32 := Scalar.addi c3584_i32 v688
  let v728 : BitVec 32 := Scalar.addi c0_i32_544 v689
  let v729 : Index := Scalar.indexCast v728
  ![v729.toNat]

def k0_chk721 (v738 : IVec S16 32) : Prop :=
  (∀ a x, ((![v738] : Fin 1 → IVec S16 32) a x).toNat < S1824.size a)
theorem k0_idx721_inb : ∀ (v738 : IVec S16 32) (k0_hw721 : k0_chk721 v738), ∀ a x, ((![v738] : Fin 1 → IVec S16 32) a x).toNat < S1824.size a := fun v738 k0_hw721 => k0_hw721

def k0_chk722 (v741 : IVec S16 32) : Prop :=
  (∀ a x, ((![v741] : Fin 1 → IVec S16 32) a x).toNat < S1824.size a)
theorem k0_idx722_inb : ∀ (v741 : IVec S16 32) (k0_hw722 : k0_chk722 v741), ∀ a x, ((![v741] : Fin 1 → IVec S16 32) a x).toNat < S1824.size a := fun v741 k0_hw722 => k0_hw722

def k0_chk723 (v744 : IVec S16 32) : Prop :=
  (∀ a x, ((![v744] : Fin 1 → IVec S16 32) a x).toNat < S1824.size a)
theorem k0_idx723_inb : ∀ (v744 : IVec S16 32) (k0_hw723 : k0_chk723 v744), ∀ a x, ((![v744] : Fin 1 → IVec S16 32) a x).toNat < S1824.size a := fun v744 k0_hw723 => k0_hw723

def k0_chk724 (v747 : IVec S16 32) : Prop :=
  (∀ a x, ((![v747] : Fin 1 → IVec S16 32) a x).toNat < S1824.size a)
theorem k0_idx724_inb : ∀ (v747 : IVec S16 32) (k0_hw724 : k0_chk724 v747), ∀ a x, ((![v747] : Fin 1 → IVec S16 32) a x).toNat < S1824.size a := fun v747 k0_hw724 => k0_hw724

def k0_chk725 (v760 : IVec S16 32) : Prop :=
  (∀ a x, ((![v760] : Fin 1 → IVec S16 32) a x).toNat < S1824.size a)
theorem k0_idx725_inb : ∀ (v760 : IVec S16 32) (k0_hw725 : k0_chk725 v760), ∀ a x, ((![v760] : Fin 1 → IVec S16 32) a x).toNat < S1824.size a := fun v760 k0_hw725 => k0_hw725

def k0_chk726 (v763 : IVec S16 32) : Prop :=
  (∀ a x, ((![v763] : Fin 1 → IVec S16 32) a x).toNat < S1824.size a)
theorem k0_idx726_inb : ∀ (v763 : IVec S16 32) (k0_hw726 : k0_chk726 v763), ∀ a x, ((![v763] : Fin 1 → IVec S16 32) a x).toNat < S1824.size a := fun v763 k0_hw726 => k0_hw726

def k0_chk727 (v766 : IVec S16 32) : Prop :=
  (∀ a x, ((![v766] : Fin 1 → IVec S16 32) a x).toNat < S1824.size a)
theorem k0_idx727_inb : ∀ (v766 : IVec S16 32) (k0_hw727 : k0_chk727 v766), ∀ a x, ((![v766] : Fin 1 → IVec S16 32) a x).toNat < S1824.size a := fun v766 k0_hw727 => k0_hw727

def k0_chk728 (v769 : IVec S16 32) : Prop :=
  (∀ a x, ((![v769] : Fin 1 → IVec S16 32) a x).toNat < S1824.size a)
theorem k0_idx728_inb : ∀ (v769 : IVec S16 32) (k0_hw728 : k0_chk728 v769), ∀ a x, ((![v769] : Fin 1 → IVec S16 32) a x).toNat < S1824.size a := fun v769 k0_hw728 => k0_hw728

def k0_chk729 (v783 : IVec S16 32) : Prop :=
  (∀ a x, ((![v783] : Fin 1 → IVec S16 32) a x).toNat < S1824.size a)
theorem k0_idx729_inb : ∀ (v783 : IVec S16 32) (k0_hw729 : k0_chk729 v783), ∀ a x, ((![v783] : Fin 1 → IVec S16 32) a x).toNat < S1824.size a := fun v783 k0_hw729 => k0_hw729

def k0_chk730 (v786 : IVec S16 32) : Prop :=
  (∀ a x, ((![v786] : Fin 1 → IVec S16 32) a x).toNat < S1824.size a)
theorem k0_idx730_inb : ∀ (v786 : IVec S16 32) (k0_hw730 : k0_chk730 v786), ∀ a x, ((![v786] : Fin 1 → IVec S16 32) a x).toNat < S1824.size a := fun v786 k0_hw730 => k0_hw730

def k0_chk731 (v789 : IVec S16 32) : Prop :=
  (∀ a x, ((![v789] : Fin 1 → IVec S16 32) a x).toNat < S1824.size a)
theorem k0_idx731_inb : ∀ (v789 : IVec S16 32) (k0_hw731 : k0_chk731 v789), ∀ a x, ((![v789] : Fin 1 → IVec S16 32) a x).toNat < S1824.size a := fun v789 k0_hw731 => k0_hw731

def k0_chk732 (v792 : IVec S16 32) : Prop :=
  (∀ a x, ((![v792] : Fin 1 → IVec S16 32) a x).toNat < S1824.size a)
theorem k0_idx732_inb : ∀ (v792 : IVec S16 32) (k0_hw732 : k0_chk732 v792), ∀ a x, ((![v792] : Fin 1 → IVec S16 32) a x).toNat < S1824.size a := fun v792 k0_hw732 => k0_hw732

def k0_chk733 (v806 : IVec S16 32) : Prop :=
  (∀ a x, ((![v806] : Fin 1 → IVec S16 32) a x).toNat < S1824.size a)
theorem k0_idx733_inb : ∀ (v806 : IVec S16 32) (k0_hw733 : k0_chk733 v806), ∀ a x, ((![v806] : Fin 1 → IVec S16 32) a x).toNat < S1824.size a := fun v806 k0_hw733 => k0_hw733

def k0_chk734 (v809 : IVec S16 32) : Prop :=
  (∀ a x, ((![v809] : Fin 1 → IVec S16 32) a x).toNat < S1824.size a)
theorem k0_idx734_inb : ∀ (v809 : IVec S16 32) (k0_hw734 : k0_chk734 v809), ∀ a x, ((![v809] : Fin 1 → IVec S16 32) a x).toNat < S1824.size a := fun v809 k0_hw734 => k0_hw734

def k0_chk735 (v812 : IVec S16 32) : Prop :=
  (∀ a x, ((![v812] : Fin 1 → IVec S16 32) a x).toNat < S1824.size a)
theorem k0_idx735_inb : ∀ (v812 : IVec S16 32) (k0_hw735 : k0_chk735 v812), ∀ a x, ((![v812] : Fin 1 → IVec S16 32) a x).toNat < S1824.size a := fun v812 k0_hw735 => k0_hw735

def k0_chk736 (v815 : IVec S16 32) : Prop :=
  (∀ a x, ((![v815] : Fin 1 → IVec S16 32) a x).toNat < S1824.size a)
theorem k0_idx736_inb : ∀ (v815 : IVec S16 32) (k0_hw736 : k0_chk736 v815), ∀ a x, ((![v815] : Fin 1 → IVec S16 32) a x).toNat < S1824.size a := fun v815 k0_hw736 => k0_hw736
def k0_off156 (k0_t33 : Fin k0_t33_loop.trips) : Fin 1 → Nat :=
  let c0_i32_560 : BitVec 32 := 0#32
  let c3584_i32 : BitVec 32 := 3584#32
  let c0_i32_518 : BitVec 32 := 0#32
  let c1_i32_520 : BitVec 32 := 1#32
  let arg23 : BitVec 32 := Scf.iv c0_i32_518 c1_i32_520 k0_t33
  let c16_i32_531 : BitVec 32 := 16#32
  let v688 : BitVec 32 := Scalar.muli arg23 c16_i32_531
  let v689 : BitVec 32 := Scalar.addi c3584_i32 v688
  let v827 : BitVec 32 := Scalar.addi c0_i32_560 v689
  let v828 : Index := Scalar.indexCast v827
  ![v828.toNat]

def k0_chk737 (v831 : IVec S16 32) : Prop :=
  (∀ a x, ((![v831] : Fin 1 → IVec S16 32) a x).toNat < S1824.size a)
theorem k0_idx737_inb : ∀ (v831 : IVec S16 32) (k0_hw737 : k0_chk737 v831), ∀ a x, ((![v831] : Fin 1 → IVec S16 32) a x).toNat < S1824.size a := fun v831 k0_hw737 => k0_hw737

def k0_chk738 (v834 : IVec S16 32) : Prop :=
  (∀ a x, ((![v834] : Fin 1 → IVec S16 32) a x).toNat < S1824.size a)
theorem k0_idx738_inb : ∀ (v834 : IVec S16 32) (k0_hw738 : k0_chk738 v834), ∀ a x, ((![v834] : Fin 1 → IVec S16 32) a x).toNat < S1824.size a := fun v834 k0_hw738 => k0_hw738

def k0_chk739 (v837 : IVec S16 32) : Prop :=
  (∀ a x, ((![v837] : Fin 1 → IVec S16 32) a x).toNat < S1824.size a)
theorem k0_idx739_inb : ∀ (v837 : IVec S16 32) (k0_hw739 : k0_chk739 v837), ∀ a x, ((![v837] : Fin 1 → IVec S16 32) a x).toNat < S1824.size a := fun v837 k0_hw739 => k0_hw739

def k0_chk740 (v840 : IVec S16 32) : Prop :=
  (∀ a x, ((![v840] : Fin 1 → IVec S16 32) a x).toNat < S1824.size a)
theorem k0_idx740_inb : ∀ (v840 : IVec S16 32) (k0_hw740 : k0_chk740 v840), ∀ a x, ((![v840] : Fin 1 → IVec S16 32) a x).toNat < S1824.size a := fun v840 k0_hw740 => k0_hw740

def k0_chk741 (v853 : IVec S16 32) : Prop :=
  (∀ a x, ((![v853] : Fin 1 → IVec S16 32) a x).toNat < S1824.size a)
theorem k0_idx741_inb : ∀ (v853 : IVec S16 32) (k0_hw741 : k0_chk741 v853), ∀ a x, ((![v853] : Fin 1 → IVec S16 32) a x).toNat < S1824.size a := fun v853 k0_hw741 => k0_hw741

def k0_chk742 (v856 : IVec S16 32) : Prop :=
  (∀ a x, ((![v856] : Fin 1 → IVec S16 32) a x).toNat < S1824.size a)
theorem k0_idx742_inb : ∀ (v856 : IVec S16 32) (k0_hw742 : k0_chk742 v856), ∀ a x, ((![v856] : Fin 1 → IVec S16 32) a x).toNat < S1824.size a := fun v856 k0_hw742 => k0_hw742

def k0_chk743 (v859 : IVec S16 32) : Prop :=
  (∀ a x, ((![v859] : Fin 1 → IVec S16 32) a x).toNat < S1824.size a)
theorem k0_idx743_inb : ∀ (v859 : IVec S16 32) (k0_hw743 : k0_chk743 v859), ∀ a x, ((![v859] : Fin 1 → IVec S16 32) a x).toNat < S1824.size a := fun v859 k0_hw743 => k0_hw743

def k0_chk744 (v862 : IVec S16 32) : Prop :=
  (∀ a x, ((![v862] : Fin 1 → IVec S16 32) a x).toNat < S1824.size a)
theorem k0_idx744_inb : ∀ (v862 : IVec S16 32) (k0_hw744 : k0_chk744 v862), ∀ a x, ((![v862] : Fin 1 → IVec S16 32) a x).toNat < S1824.size a := fun v862 k0_hw744 => k0_hw744

def k0_chk745 (v876 : IVec S16 32) : Prop :=
  (∀ a x, ((![v876] : Fin 1 → IVec S16 32) a x).toNat < S1824.size a)
theorem k0_idx745_inb : ∀ (v876 : IVec S16 32) (k0_hw745 : k0_chk745 v876), ∀ a x, ((![v876] : Fin 1 → IVec S16 32) a x).toNat < S1824.size a := fun v876 k0_hw745 => k0_hw745

def k0_chk746 (v879 : IVec S16 32) : Prop :=
  (∀ a x, ((![v879] : Fin 1 → IVec S16 32) a x).toNat < S1824.size a)
theorem k0_idx746_inb : ∀ (v879 : IVec S16 32) (k0_hw746 : k0_chk746 v879), ∀ a x, ((![v879] : Fin 1 → IVec S16 32) a x).toNat < S1824.size a := fun v879 k0_hw746 => k0_hw746

def k0_chk747 (v882 : IVec S16 32) : Prop :=
  (∀ a x, ((![v882] : Fin 1 → IVec S16 32) a x).toNat < S1824.size a)
theorem k0_idx747_inb : ∀ (v882 : IVec S16 32) (k0_hw747 : k0_chk747 v882), ∀ a x, ((![v882] : Fin 1 → IVec S16 32) a x).toNat < S1824.size a := fun v882 k0_hw747 => k0_hw747

def k0_chk748 (v885 : IVec S16 32) : Prop :=
  (∀ a x, ((![v885] : Fin 1 → IVec S16 32) a x).toNat < S1824.size a)
theorem k0_idx748_inb : ∀ (v885 : IVec S16 32) (k0_hw748 : k0_chk748 v885), ∀ a x, ((![v885] : Fin 1 → IVec S16 32) a x).toNat < S1824.size a := fun v885 k0_hw748 => k0_hw748

def k0_chk749 (v899 : IVec S16 32) : Prop :=
  (∀ a x, ((![v899] : Fin 1 → IVec S16 32) a x).toNat < S1824.size a)
theorem k0_idx749_inb : ∀ (v899 : IVec S16 32) (k0_hw749 : k0_chk749 v899), ∀ a x, ((![v899] : Fin 1 → IVec S16 32) a x).toNat < S1824.size a := fun v899 k0_hw749 => k0_hw749

def k0_chk750 (v902 : IVec S16 32) : Prop :=
  (∀ a x, ((![v902] : Fin 1 → IVec S16 32) a x).toNat < S1824.size a)
theorem k0_idx750_inb : ∀ (v902 : IVec S16 32) (k0_hw750 : k0_chk750 v902), ∀ a x, ((![v902] : Fin 1 → IVec S16 32) a x).toNat < S1824.size a := fun v902 k0_hw750 => k0_hw750

def k0_chk751 (v905 : IVec S16 32) : Prop :=
  (∀ a x, ((![v905] : Fin 1 → IVec S16 32) a x).toNat < S1824.size a)
theorem k0_idx751_inb : ∀ (v905 : IVec S16 32) (k0_hw751 : k0_chk751 v905), ∀ a x, ((![v905] : Fin 1 → IVec S16 32) a x).toNat < S1824.size a := fun v905 k0_hw751 => k0_hw751

def k0_chk752 (v908 : IVec S16 32) : Prop :=
  (∀ a x, ((![v908] : Fin 1 → IVec S16 32) a x).toNat < S1824.size a)
theorem k0_idx752_inb : ∀ (v908 : IVec S16 32) (k0_hw752 : k0_chk752 v908), ∀ a x, ((![v908] : Fin 1 → IVec S16 32) a x).toNat < S1824.size a := fun v908 k0_hw752 => k0_hw752
def k0_off157 (k0_t33 : Fin k0_t33_loop.trips) : Fin 1 → Nat :=
  let c4096_i32_573 : BitVec 32 := 4096#32
  let c3584_i32 : BitVec 32 := 3584#32
  let c0_i32_518 : BitVec 32 := 0#32
  let c1_i32_520 : BitVec 32 := 1#32
  let arg23 : BitVec 32 := Scf.iv c0_i32_518 c1_i32_520 k0_t33
  let c16_i32_531 : BitVec 32 := 16#32
  let v688 : BitVec 32 := Scalar.muli arg23 c16_i32_531
  let v689 : BitVec 32 := Scalar.addi c3584_i32 v688
  let v920 : BitVec 32 := Scalar.addi c4096_i32_573 v689
  let v921 : Index := Scalar.indexCast v920
  ![v921.toNat]

def k0_chk753 (v924 : IVec S16 32) : Prop :=
  (∀ a x, ((![v924] : Fin 1 → IVec S16 32) a x).toNat < S1824.size a)
theorem k0_idx753_inb : ∀ (v924 : IVec S16 32) (k0_hw753 : k0_chk753 v924), ∀ a x, ((![v924] : Fin 1 → IVec S16 32) a x).toNat < S1824.size a := fun v924 k0_hw753 => k0_hw753

def k0_chk754 (v927 : IVec S16 32) : Prop :=
  (∀ a x, ((![v927] : Fin 1 → IVec S16 32) a x).toNat < S1824.size a)
theorem k0_idx754_inb : ∀ (v927 : IVec S16 32) (k0_hw754 : k0_chk754 v927), ∀ a x, ((![v927] : Fin 1 → IVec S16 32) a x).toNat < S1824.size a := fun v927 k0_hw754 => k0_hw754

def k0_chk755 (v930 : IVec S16 32) : Prop :=
  (∀ a x, ((![v930] : Fin 1 → IVec S16 32) a x).toNat < S1824.size a)
theorem k0_idx755_inb : ∀ (v930 : IVec S16 32) (k0_hw755 : k0_chk755 v930), ∀ a x, ((![v930] : Fin 1 → IVec S16 32) a x).toNat < S1824.size a := fun v930 k0_hw755 => k0_hw755

def k0_chk756 (v933 : IVec S16 32) : Prop :=
  (∀ a x, ((![v933] : Fin 1 → IVec S16 32) a x).toNat < S1824.size a)
theorem k0_idx756_inb : ∀ (v933 : IVec S16 32) (k0_hw756 : k0_chk756 v933), ∀ a x, ((![v933] : Fin 1 → IVec S16 32) a x).toNat < S1824.size a := fun v933 k0_hw756 => k0_hw756

def k0_chk757 (v946 : IVec S16 32) : Prop :=
  (∀ a x, ((![v946] : Fin 1 → IVec S16 32) a x).toNat < S1824.size a)
theorem k0_idx757_inb : ∀ (v946 : IVec S16 32) (k0_hw757 : k0_chk757 v946), ∀ a x, ((![v946] : Fin 1 → IVec S16 32) a x).toNat < S1824.size a := fun v946 k0_hw757 => k0_hw757

def k0_chk758 (v949 : IVec S16 32) : Prop :=
  (∀ a x, ((![v949] : Fin 1 → IVec S16 32) a x).toNat < S1824.size a)
theorem k0_idx758_inb : ∀ (v949 : IVec S16 32) (k0_hw758 : k0_chk758 v949), ∀ a x, ((![v949] : Fin 1 → IVec S16 32) a x).toNat < S1824.size a := fun v949 k0_hw758 => k0_hw758

def k0_chk759 (v952 : IVec S16 32) : Prop :=
  (∀ a x, ((![v952] : Fin 1 → IVec S16 32) a x).toNat < S1824.size a)
theorem k0_idx759_inb : ∀ (v952 : IVec S16 32) (k0_hw759 : k0_chk759 v952), ∀ a x, ((![v952] : Fin 1 → IVec S16 32) a x).toNat < S1824.size a := fun v952 k0_hw759 => k0_hw759

def k0_chk760 (v955 : IVec S16 32) : Prop :=
  (∀ a x, ((![v955] : Fin 1 → IVec S16 32) a x).toNat < S1824.size a)
theorem k0_idx760_inb : ∀ (v955 : IVec S16 32) (k0_hw760 : k0_chk760 v955), ∀ a x, ((![v955] : Fin 1 → IVec S16 32) a x).toNat < S1824.size a := fun v955 k0_hw760 => k0_hw760

def k0_chk761 (v969 : IVec S16 32) : Prop :=
  (∀ a x, ((![v969] : Fin 1 → IVec S16 32) a x).toNat < S1824.size a)
theorem k0_idx761_inb : ∀ (v969 : IVec S16 32) (k0_hw761 : k0_chk761 v969), ∀ a x, ((![v969] : Fin 1 → IVec S16 32) a x).toNat < S1824.size a := fun v969 k0_hw761 => k0_hw761

def k0_chk762 (v972 : IVec S16 32) : Prop :=
  (∀ a x, ((![v972] : Fin 1 → IVec S16 32) a x).toNat < S1824.size a)
theorem k0_idx762_inb : ∀ (v972 : IVec S16 32) (k0_hw762 : k0_chk762 v972), ∀ a x, ((![v972] : Fin 1 → IVec S16 32) a x).toNat < S1824.size a := fun v972 k0_hw762 => k0_hw762

def k0_chk763 (v975 : IVec S16 32) : Prop :=
  (∀ a x, ((![v975] : Fin 1 → IVec S16 32) a x).toNat < S1824.size a)
theorem k0_idx763_inb : ∀ (v975 : IVec S16 32) (k0_hw763 : k0_chk763 v975), ∀ a x, ((![v975] : Fin 1 → IVec S16 32) a x).toNat < S1824.size a := fun v975 k0_hw763 => k0_hw763

def k0_chk764 (v978 : IVec S16 32) : Prop :=
  (∀ a x, ((![v978] : Fin 1 → IVec S16 32) a x).toNat < S1824.size a)
theorem k0_idx764_inb : ∀ (v978 : IVec S16 32) (k0_hw764 : k0_chk764 v978), ∀ a x, ((![v978] : Fin 1 → IVec S16 32) a x).toNat < S1824.size a := fun v978 k0_hw764 => k0_hw764

def k0_chk765 (v992 : IVec S16 32) : Prop :=
  (∀ a x, ((![v992] : Fin 1 → IVec S16 32) a x).toNat < S1824.size a)
theorem k0_idx765_inb : ∀ (v992 : IVec S16 32) (k0_hw765 : k0_chk765 v992), ∀ a x, ((![v992] : Fin 1 → IVec S16 32) a x).toNat < S1824.size a := fun v992 k0_hw765 => k0_hw765

def k0_chk766 (v995 : IVec S16 32) : Prop :=
  (∀ a x, ((![v995] : Fin 1 → IVec S16 32) a x).toNat < S1824.size a)
theorem k0_idx766_inb : ∀ (v995 : IVec S16 32) (k0_hw766 : k0_chk766 v995), ∀ a x, ((![v995] : Fin 1 → IVec S16 32) a x).toNat < S1824.size a := fun v995 k0_hw766 => k0_hw766

def k0_chk767 (v998 : IVec S16 32) : Prop :=
  (∀ a x, ((![v998] : Fin 1 → IVec S16 32) a x).toNat < S1824.size a)
theorem k0_idx767_inb : ∀ (v998 : IVec S16 32) (k0_hw767 : k0_chk767 v998), ∀ a x, ((![v998] : Fin 1 → IVec S16 32) a x).toNat < S1824.size a := fun v998 k0_hw767 => k0_hw767

def k0_chk768 (v1001 : IVec S16 32) : Prop :=
  (∀ a x, ((![v1001] : Fin 1 → IVec S16 32) a x).toNat < S1824.size a)
theorem k0_idx768_inb : ∀ (v1001 : IVec S16 32) (k0_hw768 : k0_chk768 v1001), ∀ a x, ((![v1001] : Fin 1 → IVec S16 32) a x).toNat < S1824.size a := fun v1001 k0_hw768 => k0_hw768
def k0_off158 (k0_t33 : Fin k0_t33_loop.trips) : Fin 1 → Nat :=
  let c8192_i32_586 : BitVec 32 := 8192#32
  let c3584_i32 : BitVec 32 := 3584#32
  let c0_i32_518 : BitVec 32 := 0#32
  let c1_i32_520 : BitVec 32 := 1#32
  let arg23 : BitVec 32 := Scf.iv c0_i32_518 c1_i32_520 k0_t33
  let c16_i32_531 : BitVec 32 := 16#32
  let v688 : BitVec 32 := Scalar.muli arg23 c16_i32_531
  let v689 : BitVec 32 := Scalar.addi c3584_i32 v688
  let v1013 : BitVec 32 := Scalar.addi c8192_i32_586 v689
  let v1014 : Index := Scalar.indexCast v1013
  ![v1014.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x12x8x16x16 : Shape := ⟨5, ![4, 12, 8, 16, 16]⟩
abbrev S4x512x512 : Shape := ⟨3, ![4, 512, 512]⟩
abbrev S4x3x512x512 : Shape := ⟨4, ![4, 3, 512, 512]⟩
abbrev S512 : Shape := ⟨1, ![512]⟩
abbrev S_ : Shape := ⟨0, ![]⟩
abbrev S4x12x512x512 : Shape := ⟨4, ![4, 12, 512, 512]⟩
abbrev S1x512x1 : Shape := ⟨3, ![1, 512, 1]⟩
abbrev S1x1x512 : Shape := ⟨3, ![1, 1, 512]⟩
abbrev S4x512x512x1 : Shape := ⟨4, ![4, 512, 512, 1]⟩
abbrev S4x512x512x3 : Shape := ⟨4, ![4, 512, 512, 3]⟩
abbrev S4x1x512x512 : Shape := ⟨4, ![4, 1, 512, 512]⟩
abbrev S4x3x4x512x512 : Shape := ⟨5, ![4, 3, 4, 512, 512]⟩
abbrev S4x3x3x512x512 : Shape := ⟨5, ![4, 3, 3, 512, 512]⟩
abbrev S4x3x1x512x512 : Shape := ⟨5, ![4, 3, 1, 512, 512]⟩

abbrev nBuf : Space → Nat
  | .hbm => 496
  | .vmem => 0
  | .smem => 0
  | _ => 0

abbrev hbmTy0_0 (i : Nat) : BufTy := match i % 128 with
  | 0 => ⟨S4x12x8x16x16, .f32⟩
  | 1 => ⟨S4x512x512, .f32⟩
  | 2 => ⟨S4x3x512x512, .f32⟩
  | 3 => ⟨S512, .f32⟩
  | 4 => ⟨S_, .f32⟩
  | 5 => ⟨S512, .f32⟩
  | 6 => ⟨S512, .f32⟩
  | 7 => ⟨S_, .f32⟩
  | 8 => ⟨S512, .f32⟩
  | 9 => ⟨S512, .f32⟩
  | 10 => ⟨S_, .f32⟩
  | 11 => ⟨S512, .f32⟩
  | 12 => ⟨S512, .f32⟩
  | 13 => ⟨S512, .f32⟩
  | 14 => ⟨S_, .f32⟩
  | 15 => ⟨S512, .f32⟩
  | 16 => ⟨S512, .f32⟩
  | 17 => ⟨S_, .f32⟩
  | 18 => ⟨S512, .f32⟩
  | 19 => ⟨S512, .f32⟩
  | 20 => ⟨S_, .f32⟩
  | 21 => ⟨S512, .f32⟩
  | 22 => ⟨S512, .f32⟩
  | 23 => ⟨S_, .f32⟩
  | 24 => ⟨S4x512x512, .f32⟩
  | 25 => ⟨S4x512x512, .f32⟩
  | 26 => ⟨S_, .f32⟩
  | 27 => ⟨S512, .f32⟩
  | 28 => ⟨S512, .f32⟩
  | 29 => ⟨S512, .f32⟩
  | 30 => ⟨S_, .f32⟩
  | 31 => ⟨S512, .f32⟩
  | 32 => ⟨S512, .f32⟩
  | 33 => ⟨S512, .f32⟩
  | 34 => ⟨S_, .f32⟩
  | 35 => ⟨S4x512x512, .f32⟩
  | 36 => ⟨S4x512x512, .f32⟩
  | 37 => ⟨S4x512x512, .f32⟩
  | 38 => ⟨S_, .i32⟩
  | 39 => ⟨S_, .i32⟩
  | 40 => ⟨S_, .f32⟩
  | 41 => ⟨S512, .f32⟩
  | 42 => ⟨S512, .f32⟩
  | 43 => ⟨S_, .f32⟩
  | 44 => ⟨S512, .f32⟩
  | 45 => ⟨S512, .f32⟩
  | 46 => ⟨S512, .i32⟩
  | 47 => ⟨S_, .f32⟩
  | 48 => ⟨S512, .f32⟩
  | 49 => ⟨S512, .f32⟩
  | 50 => ⟨S512, .f32⟩
  | 51 => ⟨S512, .f32⟩
  | 52 => ⟨S_, .f32⟩
  | 53 => ⟨S512, .f32⟩
  | 54 => ⟨S512, .f32⟩
  | 55 => ⟨S_, .f32⟩
  | 56 => ⟨S512, .f32⟩
  | 57 => ⟨S512, .f32⟩
  | 58 => ⟨S_, .f32⟩
  | 59 => ⟨S512, .f32⟩
  | 60 => ⟨S512, .f32⟩
  | 61 => ⟨S_, .i32⟩
  | 62 => ⟨S_, .i32⟩
  | 63 => ⟨S_, .f32⟩
  | 64 => ⟨S512, .f32⟩
  | 65 => ⟨S512, .f32⟩
  | 66 => ⟨S_, .f32⟩
  | 67 => ⟨S512, .f32⟩
  | 68 => ⟨S512, .f32⟩
  | 69 => ⟨S512, .i32⟩
  | 70 => ⟨S_, .f32⟩
  | 71 => ⟨S512, .f32⟩
  | 72 => ⟨S512, .f32⟩
  | 73 => ⟨S512, .f32⟩
  | 74 => ⟨S512, .f32⟩
  | 75 => ⟨S_, .f32⟩
  | 76 => ⟨S512, .f32⟩
  | 77 => ⟨S512, .f32⟩
  | 78 => ⟨S_, .f32⟩
  | 79 => ⟨S512, .f32⟩
  | 80 => ⟨S512, .f32⟩
  | 81 => ⟨S_, .i32⟩
  | 82 => ⟨S_, .i32⟩
  | 83 => ⟨S_, .f32⟩
  | 84 => ⟨S512, .f32⟩
  | 85 => ⟨S512, .f32⟩
  | 86 => ⟨S_, .f32⟩
  | 87 => ⟨S512, .f32⟩
  | 88 => ⟨S512, .f32⟩
  | 89 => ⟨S512, .i32⟩
  | 90 => ⟨S_, .f32⟩
  | 91 => ⟨S512, .f32⟩
  | 92 => ⟨S512, .f32⟩
  | 93 => ⟨S512, .f32⟩
  | 94 => ⟨S512, .f32⟩
  | 95 => ⟨S_, .f32⟩
  | 96 => ⟨S512, .f32⟩
  | 97 => ⟨S512, .f32⟩
  | 98 => ⟨S_, .f32⟩
  | 99 => ⟨S512, .f32⟩
  | 100 => ⟨S512, .f32⟩
  | 101 => ⟨S_, .f32⟩
  | 102 => ⟨S512, .f32⟩
  | 103 => ⟨S512, .f32⟩
  | 104 => ⟨S_, .i32⟩
  | 105 => ⟨S_, .i32⟩
  | 106 => ⟨S_, .f32⟩
  | 107 => ⟨S512, .f32⟩
  | 108 => ⟨S512, .f32⟩
  | 109 => ⟨S_, .f32⟩
  | 110 => ⟨S512, .f32⟩
  | 111 => ⟨S512, .f32⟩
  | 112 => ⟨S512, .i32⟩
  | 113 => ⟨S_, .f32⟩
  | 114 => ⟨S512, .f32⟩
  | 115 => ⟨S512, .f32⟩
  | 116 => ⟨S512, .f32⟩
  | 117 => ⟨S512, .f32⟩
  | 118 => ⟨S_, .f32⟩
  | 119 => ⟨S512, .f32⟩
  | 120 => ⟨S512, .f32⟩
  | 121 => ⟨S_, .f32⟩
  | 122 => ⟨S512, .f32⟩
  | 123 => ⟨S512, .f32⟩
  | 124 => ⟨S_, .i32⟩
  | 125 => ⟨S_, .i32⟩
  | 126 => ⟨S_, .f32⟩
  | 127 => ⟨S4x512x512, .f32⟩
  | _ => ⟨S4x12x8x16x16, .f32⟩

abbrev hbmTy0_1 (i : Nat) : BufTy := match i % 128 with
  | 0 => ⟨S4x512x512, .f32⟩
  | 1 => ⟨S_, .f32⟩
  | 2 => ⟨S4x512x512, .f32⟩
  | 3 => ⟨S4x512x512, .f32⟩
  | 4 => ⟨S4x512x512, .i32⟩
  | 5 => ⟨S_, .f32⟩
  | 6 => ⟨S4x512x512, .f32⟩
  | 7 => ⟨S4x512x512, .f32⟩
  | 8 => ⟨S4x512x512, .f32⟩
  | 9 => ⟨S4x512x512, .f32⟩
  | 10 => ⟨S_, .f32⟩
  | 11 => ⟨S4x512x512, .f32⟩
  | 12 => ⟨S4x512x512, .f32⟩
  | 13 => ⟨S_, .f32⟩
  | 14 => ⟨S4x512x512, .f32⟩
  | 15 => ⟨S4x512x512, .f32⟩
  | 16 => ⟨S_, .f32⟩
  | 17 => ⟨S4x512x512, .f32⟩
  | 18 => ⟨S4x512x512, .f32⟩
  | 19 => ⟨S_, .i32⟩
  | 20 => ⟨S_, .i32⟩
  | 21 => ⟨S_, .f32⟩
  | 22 => ⟨S4x512x512, .f32⟩
  | 23 => ⟨S4x512x512, .f32⟩
  | 24 => ⟨S_, .f32⟩
  | 25 => ⟨S4x512x512, .f32⟩
  | 26 => ⟨S4x512x512, .f32⟩
  | 27 => ⟨S4x512x512, .i32⟩
  | 28 => ⟨S_, .f32⟩
  | 29 => ⟨S4x512x512, .f32⟩
  | 30 => ⟨S4x512x512, .f32⟩
  | 31 => ⟨S4x512x512, .f32⟩
  | 32 => ⟨S4x512x512, .f32⟩
  | 33 => ⟨S_, .f32⟩
  | 34 => ⟨S4x512x512, .f32⟩
  | 35 => ⟨S4x512x512, .f32⟩
  | 36 => ⟨S_, .f32⟩
  | 37 => ⟨S4x512x512, .f32⟩
  | 38 => ⟨S4x512x512, .f32⟩
  | 39 => ⟨S_, .f32⟩
  | 40 => ⟨S4x12x512x512, .f32⟩
  | 41 => ⟨S1x512x1, .i32⟩
  | 42 => ⟨S4x512x512, .i32⟩
  | 43 => ⟨S1x1x512, .i32⟩
  | 44 => ⟨S4x512x512, .i32⟩
  | 45 => ⟨S_, .i32⟩
  | 46 => ⟨S4x512x512, .i32⟩
  | 47 => ⟨S4x512x512, .i1⟩
  | 48 => ⟨S_, .i32⟩
  | 49 => ⟨S4x512x512, .i32⟩
  | 50 => ⟨S4x512x512, .i32⟩
  | 51 => ⟨S4x512x512, .i32⟩
  | 52 => ⟨S_, .i32⟩
  | 53 => ⟨S4x512x512, .i32⟩
  | 54 => ⟨S4x512x512, .i1⟩
  | 55 => ⟨S_, .i32⟩
  | 56 => ⟨S4x512x512, .i32⟩
  | 57 => ⟨S4x512x512, .i32⟩
  | 58 => ⟨S4x512x512, .i32⟩
  | 59 => ⟨S_, .i32⟩
  | 60 => ⟨S4x512x512, .i32⟩
  | 61 => ⟨S4x512x512, .i1⟩
  | 62 => ⟨S_, .i32⟩
  | 63 => ⟨S4x512x512, .i32⟩
  | 64 => ⟨S4x512x512, .i32⟩
  | 65 => ⟨S4x512x512, .i32⟩
  | 66 => ⟨S4x512x512x1, .i32⟩
  | 67 => ⟨S4x512x512x1, .i32⟩
  | 68 => ⟨S4x512x512x1, .i32⟩
  | 69 => ⟨S4x512x512x3, .i32⟩
  | 70 => ⟨S4x12x512x512, .f32⟩
  | 71 => ⟨S1x512x1, .f32⟩
  | 72 => ⟨S4x512x512, .f32⟩
  | 73 => ⟨S4x512x512, .f32⟩
  | 74 => ⟨S1x1x512, .f32⟩
  | 75 => ⟨S4x512x512, .f32⟩
  | 76 => ⟨S4x512x512, .f32⟩
  | 77 => ⟨S4x1x512x512, .f32⟩
  | 78 => ⟨S4x12x512x512, .f32⟩
  | 79 => ⟨S4x12x512x512, .f32⟩
  | 80 => ⟨S4x12x512x512, .f32⟩
  | 81 => ⟨S1x512x1, .i32⟩
  | 82 => ⟨S4x512x512, .i32⟩
  | 83 => ⟨S1x1x512, .i32⟩
  | 84 => ⟨S4x512x512, .i32⟩
  | 85 => ⟨S_, .i32⟩
  | 86 => ⟨S4x512x512, .i32⟩
  | 87 => ⟨S4x512x512, .i1⟩
  | 88 => ⟨S_, .i32⟩
  | 89 => ⟨S4x512x512, .i32⟩
  | 90 => ⟨S4x512x512, .i32⟩
  | 91 => ⟨S4x512x512, .i32⟩
  | 92 => ⟨S_, .i32⟩
  | 93 => ⟨S4x512x512, .i32⟩
  | 94 => ⟨S4x512x512, .i1⟩
  | 95 => ⟨S_, .i32⟩
  | 96 => ⟨S4x512x512, .i32⟩
  | 97 => ⟨S4x512x512, .i32⟩
  | 98 => ⟨S4x512x512, .i32⟩
  | 99 => ⟨S_, .i32⟩
  | 100 => ⟨S4x512x512, .i32⟩
  | 101 => ⟨S4x512x512, .i1⟩
  | 102 => ⟨S_, .i32⟩
  | 103 => ⟨S4x512x512, .i32⟩
  | 104 => ⟨S4x512x512, .i32⟩
  | 105 => ⟨S4x512x512, .i32⟩
  | 106 => ⟨S4x512x512x1, .i32⟩
  | 107 => ⟨S4x512x512x1, .i32⟩
  | 108 => ⟨S4x512x512x1, .i32⟩
  | 109 => ⟨S4x512x512x3, .i32⟩
  | 110 => ⟨S4x12x512x512, .f32⟩
  | 111 => ⟨S1x512x1, .f32⟩
  | 112 => ⟨S4x512x512, .f32⟩
  | 113 => ⟨S4x512x512, .f32⟩
  | 114 => ⟨S1x1x512, .f32⟩
  | 115 => ⟨S4x512x512, .f32⟩
  | 116 => ⟨S4x512x512, .f32⟩
  | 117 => ⟨S4x1x512x512, .f32⟩
  | 118 => ⟨S4x12x512x512, .f32⟩
  | 119 => ⟨S4x12x512x512, .f32⟩
  | 120 => ⟨S4x12x512x512, .f32⟩
  | 121 => ⟨S1x512x1, .i32⟩
  | 122 => ⟨S4x512x512, .i32⟩
  | 123 => ⟨S1x1x512, .i32⟩
  | 124 => ⟨S4x512x512, .i32⟩
  | 125 => ⟨S_, .i32⟩
  | 126 => ⟨S4x512x512, .i32⟩
  | 127 => ⟨S4x512x512, .i1⟩
  | _ => ⟨S4x12x8x16x16, .f32⟩

abbrev hbmTy0_2 (i : Nat) : BufTy := match i % 128 with
  | 0 => ⟨S_, .i32⟩
  | 1 => ⟨S4x512x512, .i32⟩
  | 2 => ⟨S4x512x512, .i32⟩
  | 3 => ⟨S4x512x512, .i32⟩
  | 4 => ⟨S_, .i32⟩
  | 5 => ⟨S4x512x512, .i32⟩
  | 6 => ⟨S4x512x512, .i1⟩
  | 7 => ⟨S_, .i32⟩
  | 8 => ⟨S4x512x512, .i32⟩
  | 9 => ⟨S4x512x512, .i32⟩
  | 10 => ⟨S4x512x512, .i32⟩
  | 11 => ⟨S_, .i32⟩
  | 12 => ⟨S4x512x512, .i32⟩
  | 13 => ⟨S4x512x512, .i1⟩
  | 14 => ⟨S_, .i32⟩
  | 15 => ⟨S4x512x512, .i32⟩
  | 16 => ⟨S4x512x512, .i32⟩
  | 17 => ⟨S4x512x512, .i32⟩
  | 18 => ⟨S4x512x512x1, .i32⟩
  | 19 => ⟨S4x512x512x1, .i32⟩
  | 20 => ⟨S4x512x512x1, .i32⟩
  | 21 => ⟨S4x512x512x3, .i32⟩
  | 22 => ⟨S4x12x512x512, .f32⟩
  | 23 => ⟨S1x512x1, .f32⟩
  | 24 => ⟨S4x512x512, .f32⟩
  | 25 => ⟨S4x512x512, .f32⟩
  | 26 => ⟨S1x1x512, .f32⟩
  | 27 => ⟨S4x512x512, .f32⟩
  | 28 => ⟨S4x512x512, .f32⟩
  | 29 => ⟨S4x1x512x512, .f32⟩
  | 30 => ⟨S4x12x512x512, .f32⟩
  | 31 => ⟨S4x12x512x512, .f32⟩
  | 32 => ⟨S4x12x512x512, .f32⟩
  | 33 => ⟨S1x512x1, .i32⟩
  | 34 => ⟨S4x512x512, .i32⟩
  | 35 => ⟨S1x1x512, .i32⟩
  | 36 => ⟨S4x512x512, .i32⟩
  | 37 => ⟨S_, .i32⟩
  | 38 => ⟨S4x512x512, .i32⟩
  | 39 => ⟨S4x512x512, .i1⟩
  | 40 => ⟨S_, .i32⟩
  | 41 => ⟨S4x512x512, .i32⟩
  | 42 => ⟨S4x512x512, .i32⟩
  | 43 => ⟨S4x512x512, .i32⟩
  | 44 => ⟨S_, .i32⟩
  | 45 => ⟨S4x512x512, .i32⟩
  | 46 => ⟨S4x512x512, .i1⟩
  | 47 => ⟨S_, .i32⟩
  | 48 => ⟨S4x512x512, .i32⟩
  | 49 => ⟨S4x512x512, .i32⟩
  | 50 => ⟨S4x512x512, .i32⟩
  | 51 => ⟨S_, .i32⟩
  | 52 => ⟨S4x512x512, .i32⟩
  | 53 => ⟨S4x512x512, .i1⟩
  | 54 => ⟨S_, .i32⟩
  | 55 => ⟨S4x512x512, .i32⟩
  | 56 => ⟨S4x512x512, .i32⟩
  | 57 => ⟨S4x512x512, .i32⟩
  | 58 => ⟨S4x512x512x1, .i32⟩
  | 59 => ⟨S4x512x512x1, .i32⟩
  | 60 => ⟨S4x512x512x1, .i32⟩
  | 61 => ⟨S4x512x512x3, .i32⟩
  | 62 => ⟨S4x12x512x512, .f32⟩
  | 63 => ⟨S1x512x1, .f32⟩
  | 64 => ⟨S4x512x512, .f32⟩
  | 65 => ⟨S4x512x512, .f32⟩
  | 66 => ⟨S1x1x512, .f32⟩
  | 67 => ⟨S4x512x512, .f32⟩
  | 68 => ⟨S4x512x512, .f32⟩
  | 69 => ⟨S4x1x512x512, .f32⟩
  | 70 => ⟨S4x12x512x512, .f32⟩
  | 71 => ⟨S4x12x512x512, .f32⟩
  | 72 => ⟨S4x12x512x512, .f32⟩
  | 73 => ⟨S1x512x1, .i32⟩
  | 74 => ⟨S4x512x512, .i32⟩
  | 75 => ⟨S1x1x512, .i32⟩
  | 76 => ⟨S4x512x512, .i32⟩
  | 77 => ⟨S_, .i32⟩
  | 78 => ⟨S4x512x512, .i32⟩
  | 79 => ⟨S4x512x512, .i1⟩
  | 80 => ⟨S_, .i32⟩
  | 81 => ⟨S4x512x512, .i32⟩
  | 82 => ⟨S4x512x512, .i32⟩
  | 83 => ⟨S4x512x512, .i32⟩
  | 84 => ⟨S_, .i32⟩
  | 85 => ⟨S4x512x512, .i32⟩
  | 86 => ⟨S4x512x512, .i1⟩
  | 87 => ⟨S_, .i32⟩
  | 88 => ⟨S4x512x512, .i32⟩
  | 89 => ⟨S4x512x512, .i32⟩
  | 90 => ⟨S4x512x512, .i32⟩
  | 91 => ⟨S_, .i32⟩
  | 92 => ⟨S4x512x512, .i32⟩
  | 93 => ⟨S4x512x512, .i1⟩
  | 94 => ⟨S_, .i32⟩
  | 95 => ⟨S4x512x512, .i32⟩
  | 96 => ⟨S4x512x512, .i32⟩
  | 97 => ⟨S4x512x512, .i32⟩
  | 98 => ⟨S4x512x512x1, .i32⟩
  | 99 => ⟨S4x512x512x1, .i32⟩
  | 100 => ⟨S4x512x512x1, .i32⟩
  | 101 => ⟨S4x512x512x3, .i32⟩
  | 102 => ⟨S4x12x512x512, .f32⟩
  | 103 => ⟨S1x512x1, .f32⟩
  | 104 => ⟨S4x512x512, .f32⟩
  | 105 => ⟨S4x512x512, .f32⟩
  | 106 => ⟨S1x1x512, .f32⟩
  | 107 => ⟨S4x512x512, .f32⟩
  | 108 => ⟨S4x512x512, .f32⟩
  | 109 => ⟨S4x1x512x512, .f32⟩
  | 110 => ⟨S4x12x512x512, .f32⟩
  | 111 => ⟨S4x12x512x512, .f32⟩
  | 112 => ⟨S4x12x512x512, .f32⟩
  | 113 => ⟨S1x512x1, .i32⟩
  | 114 => ⟨S4x512x512, .i32⟩
  | 115 => ⟨S1x1x512, .i32⟩
  | 116 => ⟨S4x512x512, .i32⟩
  | 117 => ⟨S_, .i32⟩
  | 118 => ⟨S4x512x512, .i32⟩
  | 119 => ⟨S4x512x512, .i1⟩
  | 120 => ⟨S_, .i32⟩
  | 121 => ⟨S4x512x512, .i32⟩
  | 122 => ⟨S4x512x512, .i32⟩
  | 123 => ⟨S4x512x512, .i32⟩
  | 124 => ⟨S_, .i32⟩
  | 125 => ⟨S4x512x512, .i32⟩
  | 126 => ⟨S4x512x512, .i1⟩
  | 127 => ⟨S_, .i32⟩
  | _ => ⟨S4x12x8x16x16, .f32⟩

abbrev hbmTy0_3 (i : Nat) : BufTy := match i % 128 with
  | 0 => ⟨S4x512x512, .i32⟩
  | 1 => ⟨S4x512x512, .i32⟩
  | 2 => ⟨S4x512x512, .i32⟩
  | 3 => ⟨S_, .i32⟩
  | 4 => ⟨S4x512x512, .i32⟩
  | 5 => ⟨S4x512x512, .i1⟩
  | 6 => ⟨S_, .i32⟩
  | 7 => ⟨S4x512x512, .i32⟩
  | 8 => ⟨S4x512x512, .i32⟩
  | 9 => ⟨S4x512x512, .i32⟩
  | 10 => ⟨S4x512x512x1, .i32⟩
  | 11 => ⟨S4x512x512x1, .i32⟩
  | 12 => ⟨S4x512x512x1, .i32⟩
  | 13 => ⟨S4x512x512x3, .i32⟩
  | 14 => ⟨S4x12x512x512, .f32⟩
  | 15 => ⟨S1x512x1, .f32⟩
  | 16 => ⟨S4x512x512, .f32⟩
  | 17 => ⟨S4x512x512, .f32⟩
  | 18 => ⟨S1x1x512, .f32⟩
  | 19 => ⟨S4x512x512, .f32⟩
  | 20 => ⟨S4x512x512, .f32⟩
  | 21 => ⟨S4x1x512x512, .f32⟩
  | 22 => ⟨S4x12x512x512, .f32⟩
  | 23 => ⟨S4x12x512x512, .f32⟩
  | 24 => ⟨S4x12x512x512, .f32⟩
  | 25 => ⟨S1x512x1, .i32⟩
  | 26 => ⟨S4x512x512, .i32⟩
  | 27 => ⟨S1x1x512, .i32⟩
  | 28 => ⟨S4x512x512, .i32⟩
  | 29 => ⟨S_, .i32⟩
  | 30 => ⟨S4x512x512, .i32⟩
  | 31 => ⟨S4x512x512, .i1⟩
  | 32 => ⟨S_, .i32⟩
  | 33 => ⟨S4x512x512, .i32⟩
  | 34 => ⟨S4x512x512, .i32⟩
  | 35 => ⟨S4x512x512, .i32⟩
  | 36 => ⟨S_, .i32⟩
  | 37 => ⟨S4x512x512, .i32⟩
  | 38 => ⟨S4x512x512, .i1⟩
  | 39 => ⟨S_, .i32⟩
  | 40 => ⟨S4x512x512, .i32⟩
  | 41 => ⟨S4x512x512, .i32⟩
  | 42 => ⟨S4x512x512, .i32⟩
  | 43 => ⟨S_, .i32⟩
  | 44 => ⟨S4x512x512, .i32⟩
  | 45 => ⟨S4x512x512, .i1⟩
  | 46 => ⟨S_, .i32⟩
  | 47 => ⟨S4x512x512, .i32⟩
  | 48 => ⟨S4x512x512, .i32⟩
  | 49 => ⟨S4x512x512, .i32⟩
  | 50 => ⟨S4x512x512x1, .i32⟩
  | 51 => ⟨S4x512x512x1, .i32⟩
  | 52 => ⟨S4x512x512x1, .i32⟩
  | 53 => ⟨S4x512x512x3, .i32⟩
  | 54 => ⟨S4x12x512x512, .f32⟩
  | 55 => ⟨S1x512x1, .f32⟩
  | 56 => ⟨S4x512x512, .f32⟩
  | 57 => ⟨S4x512x512, .f32⟩
  | 58 => ⟨S1x1x512, .f32⟩
  | 59 => ⟨S4x512x512, .f32⟩
  | 60 => ⟨S4x512x512, .f32⟩
  | 61 => ⟨S4x1x512x512, .f32⟩
  | 62 => ⟨S4x12x512x512, .f32⟩
  | 63 => ⟨S4x12x512x512, .f32⟩
  | 64 => ⟨S4x12x512x512, .f32⟩
  | 65 => ⟨S1x512x1, .i32⟩
  | 66 => ⟨S4x512x512, .i32⟩
  | 67 => ⟨S1x1x512, .i32⟩
  | 68 => ⟨S4x512x512, .i32⟩
  | 69 => ⟨S_, .i32⟩
  | 70 => ⟨S4x512x512, .i32⟩
  | 71 => ⟨S4x512x512, .i1⟩
  | 72 => ⟨S_, .i32⟩
  | 73 => ⟨S4x512x512, .i32⟩
  | 74 => ⟨S4x512x512, .i32⟩
  | 75 => ⟨S4x512x512, .i32⟩
  | 76 => ⟨S_, .i32⟩
  | 77 => ⟨S4x512x512, .i32⟩
  | 78 => ⟨S4x512x512, .i1⟩
  | 79 => ⟨S_, .i32⟩
  | 80 => ⟨S4x512x512, .i32⟩
  | 81 => ⟨S4x512x512, .i32⟩
  | 82 => ⟨S4x512x512, .i32⟩
  | 83 => ⟨S_, .i32⟩
  | 84 => ⟨S4x512x512, .i32⟩
  | 85 => ⟨S4x512x512, .i1⟩
  | 86 => ⟨S_, .i32⟩
  | 87 => ⟨S4x512x512, .i32⟩
  | 88 => ⟨S4x512x512, .i32⟩
  | 89 => ⟨S4x512x512, .i32⟩
  | 90 => ⟨S4x512x512x1, .i32⟩
  | 91 => ⟨S4x512x512x1, .i32⟩
  | 92 => ⟨S4x512x512x1, .i32⟩
  | 93 => ⟨S4x512x512x3, .i32⟩
  | 94 => ⟨S4x12x512x512, .f32⟩
  | 95 => ⟨S1x512x1, .f32⟩
  | 96 => ⟨S4x512x512, .f32⟩
  | 97 => ⟨S4x512x512, .f32⟩
  | 98 => ⟨S1x1x512, .f32⟩
  | 99 => ⟨S4x512x512, .f32⟩
  | 100 => ⟨S4x512x512, .f32⟩
  | 101 => ⟨S4x1x512x512, .f32⟩
  | 102 => ⟨S4x12x512x512, .f32⟩
  | 103 => ⟨S4x12x512x512, .f32⟩
  | 104 => ⟨S4x12x512x512, .f32⟩
  | 105 => ⟨S4x3x4x512x512, .f32⟩
  | 106 => ⟨S4x3x3x512x512, .f32⟩
  | 107 => ⟨S4x512x512x3, .f32⟩
  | 108 => ⟨S4x3x512x512, .f32⟩
  | 109 => ⟨S4x3x1x512x512, .f32⟩
  | 110 => ⟨S4x3x512x512, .f32⟩
  | 111 => ⟨S4x3x512x512, .f32⟩
  | _ => ⟨S4x12x8x16x16, .f32⟩

abbrev hbmTy (i : Nat) : BufTy := match i / 128 with
  | 0 => hbmTy0_0 i
  | 1 => hbmTy0_1 i
  | 2 => hbmTy0_2 i
  | 3 => hbmTy0_3 i
  | _ => ⟨S4x12x8x16x16, .f32⟩

abbrev bufTy : (tb : Table) → Fin (tcTables nBuf tb) → BufTy
  | .hbm, ⟨i, _⟩ => hbmTy i
  | _, _ => ⟨S4x12x8x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_cst_5 : Ref sig .tc := ⟨.hbm, 23, rfl⟩
abbrev main_v14 : Ref sig .tc := ⟨.hbm, 24, rfl⟩
abbrev main_v15 : Ref sig .tc := ⟨.hbm, 25, rfl⟩
abbrev main_cst_6 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_7 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_8 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c : Ref sig .tc := ⟨.hbm, 38, rfl⟩
abbrev main_c_9 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v25 : Ref sig .tc := ⟨.hbm, 45, rfl⟩
abbrev main_v26 : Ref sig .tc := ⟨.hbm, 46, rfl⟩
abbrev main_cst_10 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_11 : Ref sig .tc := ⟨.hbm, 52, rfl⟩
abbrev main_v31 : Ref sig .tc := ⟨.hbm, 53, rfl⟩
abbrev main_v32 : Ref sig .tc := ⟨.hbm, 54, rfl⟩
abbrev main_cst_12 : Ref sig .tc := ⟨.hbm, 55, rfl⟩
abbrev main_v33 : Ref sig .tc := ⟨.hbm, 56, rfl⟩
abbrev main_v34 : Ref sig .tc := ⟨.hbm, 57, rfl⟩
abbrev main_cst_13 : Ref sig .tc := ⟨.hbm, 58, rfl⟩
abbrev main_v35 : Ref sig .tc := ⟨.hbm, 59, rfl⟩
abbrev main_v36 : Ref sig .tc := ⟨.hbm, 60, rfl⟩
abbrev main_c_14 : Ref sig .tc := ⟨.hbm, 61, rfl⟩
abbrev main_c_15 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_v37 : Ref sig .tc := ⟨.hbm, 68, rfl⟩
abbrev main_v38 : Ref sig .tc := ⟨.hbm, 69, rfl⟩
abbrev main_cst_16 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_17 : Ref sig .tc := ⟨.hbm, 75, rfl⟩
abbrev main_v43 : Ref sig .tc := ⟨.hbm, 76, rfl⟩
abbrev main_v44 : Ref sig .tc := ⟨.hbm, 77, rfl⟩
abbrev main_cst_18 : Ref sig .tc := ⟨.hbm, 78, rfl⟩
abbrev main_v45 : Ref sig .tc := ⟨.hbm, 79, rfl⟩
abbrev main_v46 : Ref sig .tc := ⟨.hbm, 80, rfl⟩
abbrev main_c_19 : Ref sig .tc := ⟨.hbm, 81, rfl⟩
abbrev main_c_20 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_v47 : Ref sig .tc := ⟨.hbm, 88, rfl⟩
abbrev main_v48 : Ref sig .tc := ⟨.hbm, 89, rfl⟩
abbrev main_cst_21 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_cst_22 : Ref sig .tc := ⟨.hbm, 95, rfl⟩
abbrev main_v53 : Ref sig .tc := ⟨.hbm, 96, rfl⟩
abbrev main_v54 : Ref sig .tc := ⟨.hbm, 97, rfl⟩
abbrev main_cst_23 : Ref sig .tc := ⟨.hbm, 98, rfl⟩
abbrev main_v55 : Ref sig .tc := ⟨.hbm, 99, rfl⟩
abbrev main_v56 : Ref sig .tc := ⟨.hbm, 100, rfl⟩
abbrev main_cst_24 : Ref sig .tc := ⟨.hbm, 101, rfl⟩
abbrev main_v57 : Ref sig .tc := ⟨.hbm, 102, rfl⟩
abbrev main_v58 : Ref sig .tc := ⟨.hbm, 103, rfl⟩
abbrev main_c_25 : Ref sig .tc := ⟨.hbm, 104, rfl⟩
abbrev main_c_26 : Ref sig .tc := ⟨.hbm, 105, rfl⟩
abbrev main_call3_v0 : Ref sig .tc := ⟨.hbm, 106, rfl⟩
abbrev main_call3_v1 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_v59 : Ref sig .tc := ⟨.hbm, 111, rfl⟩
abbrev main_v60 : Ref sig .tc := ⟨.hbm, 112, rfl⟩
abbrev main_cst_27 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_cst_28 : Ref sig .tc := ⟨.hbm, 118, rfl⟩
abbrev main_v65 : Ref sig .tc := ⟨.hbm, 119, rfl⟩
abbrev main_v66 : Ref sig .tc := ⟨.hbm, 120, rfl⟩
abbrev main_cst_29 : Ref sig .tc := ⟨.hbm, 121, rfl⟩
abbrev main_v67 : Ref sig .tc := ⟨.hbm, 122, rfl⟩
abbrev main_v68 : Ref sig .tc := ⟨.hbm, 123, rfl⟩
abbrev main_c_30 : Ref sig .tc := ⟨.hbm, 124, rfl⟩
abbrev main_c_31 : Ref sig .tc := ⟨.hbm, 125, rfl⟩
abbrev main_call4_v0 : Ref sig .tc := ⟨.hbm, 126, rfl⟩
abbrev main_call4_v1 : Ref sig .tc := ⟨.hbm, 127, rfl⟩
abbrev main_call4_v2 : Ref sig .tc := ⟨.hbm, 128, rfl⟩
abbrev main_call4_v3 : Ref sig .tc := ⟨.hbm, 129, rfl⟩
abbrev main_call4_v4 : Ref sig .tc := ⟨.hbm, 130, rfl⟩
abbrev main_v69 : Ref sig .tc := ⟨.hbm, 131, rfl⟩
abbrev main_v70 : Ref sig .tc := ⟨.hbm, 132, rfl⟩
abbrev main_cst_32 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_cst_33 : Ref sig .tc := ⟨.hbm, 138, rfl⟩
abbrev main_v75 : Ref sig .tc := ⟨.hbm, 139, rfl⟩
abbrev main_v76 : Ref sig .tc := ⟨.hbm, 140, rfl⟩
abbrev main_cst_34 : Ref sig .tc := ⟨.hbm, 141, rfl⟩
abbrev main_v77 : Ref sig .tc := ⟨.hbm, 142, rfl⟩
abbrev main_v78 : Ref sig .tc := ⟨.hbm, 143, rfl⟩
abbrev main_cst_35 : Ref sig .tc := ⟨.hbm, 144, rfl⟩
abbrev main_v79 : Ref sig .tc := ⟨.hbm, 145, rfl⟩
abbrev main_v80 : Ref sig .tc := ⟨.hbm, 146, rfl⟩
abbrev main_c_36 : Ref sig .tc := ⟨.hbm, 147, rfl⟩
abbrev main_c_37 : Ref sig .tc := ⟨.hbm, 148, rfl⟩
abbrev main_call5_v0 : Ref sig .tc := ⟨.hbm, 149, rfl⟩
abbrev main_call5_v1 : Ref sig .tc := ⟨.hbm, 150, rfl⟩
abbrev main_call5_v2 : Ref sig .tc := ⟨.hbm, 151, rfl⟩
abbrev main_call5_v3 : Ref sig .tc := ⟨.hbm, 152, rfl⟩
abbrev main_call5_v4 : Ref sig .tc := ⟨.hbm, 153, rfl⟩
abbrev main_v81 : Ref sig .tc := ⟨.hbm, 154, rfl⟩
abbrev main_v82 : Ref sig .tc := ⟨.hbm, 155, rfl⟩
abbrev main_cst_38 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_cst_39 : Ref sig .tc := ⟨.hbm, 161, rfl⟩
abbrev main_v87 : Ref sig .tc := ⟨.hbm, 162, rfl⟩
abbrev main_v88 : Ref sig .tc := ⟨.hbm, 163, rfl⟩
abbrev main_cst_40 : Ref sig .tc := ⟨.hbm, 164, rfl⟩
abbrev main_v89 : Ref sig .tc := ⟨.hbm, 165, rfl⟩
abbrev main_v90 : Ref sig .tc := ⟨.hbm, 166, rfl⟩
abbrev main_cst_41 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_c_42 : Ref sig .tc := ⟨.hbm, 173, rfl⟩
abbrev main_v96 : Ref sig .tc := ⟨.hbm, 174, rfl⟩
abbrev main_v97 : Ref sig .tc := ⟨.hbm, 175, rfl⟩
abbrev main_c_43 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_c_44 : Ref sig .tc := ⟨.hbm, 180, rfl⟩
abbrev main_v101 : Ref sig .tc := ⟨.hbm, 181, rfl⟩
abbrev main_v102 : Ref sig .tc := ⟨.hbm, 182, rfl⟩
abbrev main_c_45 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_c_46 : Ref sig .tc := ⟨.hbm, 187, rfl⟩
abbrev main_v106 : Ref sig .tc := ⟨.hbm, 188, rfl⟩
abbrev main_v107 : Ref sig .tc := ⟨.hbm, 189, rfl⟩
abbrev main_c_47 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_c_48 : Ref sig .tc := ⟨.hbm, 213, rfl⟩
abbrev main_v130 : Ref sig .tc := ⟨.hbm, 214, rfl⟩
abbrev main_v131 : Ref sig .tc := ⟨.hbm, 215, rfl⟩
abbrev main_c_49 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_c_50 : Ref sig .tc := ⟨.hbm, 220, rfl⟩
abbrev main_v135 : Ref sig .tc := ⟨.hbm, 221, rfl⟩
abbrev main_v136 : Ref sig .tc := ⟨.hbm, 222, rfl⟩
abbrev main_c_51 : Ref sig .tc := ⟨.hbm, 223, rfl⟩
abbrev main_v137 : Ref sig .tc := ⟨.hbm, 224, rfl⟩
abbrev main_v138 : Ref sig .tc := ⟨.hbm, 225, rfl⟩
abbrev main_v139 : Ref sig .tc := ⟨.hbm, 226, rfl⟩
abbrev main_c_52 : Ref sig .tc := ⟨.hbm, 227, rfl⟩
abbrev main_v140 : Ref sig .tc := ⟨.hbm, 228, rfl⟩
abbrev main_v141 : Ref sig .tc := ⟨.hbm, 229, rfl⟩
abbrev main_c_53 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_c_54 : Ref sig .tc := ⟨.hbm, 253, rfl⟩
abbrev main_v164 : Ref sig .tc := ⟨.hbm, 254, rfl⟩
abbrev main_v165 : Ref sig .tc := ⟨.hbm, 255, rfl⟩
abbrev main_c_55 : Ref sig .tc := ⟨.hbm, 256, rfl⟩
abbrev main_v166 : Ref sig .tc := ⟨.hbm, 257, rfl⟩
abbrev main_v167 : Ref sig .tc := ⟨.hbm, 258, rfl⟩
abbrev main_v168 : Ref sig .tc := ⟨.hbm, 259, rfl⟩
abbrev main_c_56 : Ref sig .tc := ⟨.hbm, 260, rfl⟩
abbrev main_v169 : Ref sig .tc := ⟨.hbm, 261, rfl⟩
abbrev main_v170 : Ref sig .tc := ⟨.hbm, 262, rfl⟩
abbrev main_c_57 : Ref sig .tc := ⟨.hbm, 263, rfl⟩
abbrev main_v171 : Ref sig .tc := ⟨.hbm, 264, rfl⟩
abbrev main_v172 : Ref sig .tc := ⟨.hbm, 265, rfl⟩
abbrev main_v173 : Ref sig .tc := ⟨.hbm, 266, rfl⟩
abbrev main_c_58 : Ref sig .tc := ⟨.hbm, 267, rfl⟩
abbrev main_v174 : Ref sig .tc := ⟨.hbm, 268, rfl⟩
abbrev main_v175 : Ref sig .tc := ⟨.hbm, 269, rfl⟩
abbrev main_c_59 : Ref sig .tc := ⟨.hbm, 270, rfl⟩
abbrev main_v176 : Ref sig .tc := ⟨.hbm, 271, rfl⟩
abbrev main_v177 : Ref sig .tc := ⟨.hbm, 272, rfl⟩
abbrev main_v178 : Ref sig .tc := ⟨.hbm, 273, rfl⟩
abbrev main_v179 : Ref sig .tc := ⟨.hbm, 274, rfl⟩
abbrev main_v180 : Ref sig .tc := ⟨.hbm, 275, rfl⟩
abbrev main_v181 : Ref sig .tc := ⟨.hbm, 276, rfl⟩
abbrev main_v182 : Ref sig .tc := ⟨.hbm, 277, rfl⟩
abbrev main_v183 : Ref sig .tc := ⟨.hbm, 278, rfl⟩
abbrev main_v184 : Ref sig .tc := ⟨.hbm, 279, rfl⟩
abbrev main_v185 : Ref sig .tc := ⟨.hbm, 280, rfl⟩
abbrev main_v186 : Ref sig .tc := ⟨.hbm, 281, rfl⟩
abbrev main_v187 : Ref sig .tc := ⟨.hbm, 282, rfl⟩
abbrev main_v188 : Ref sig .tc := ⟨.hbm, 283, rfl⟩
abbrev main_v189 : Ref sig .tc := ⟨.hbm, 284, rfl⟩
abbrev main_v190 : Ref sig .tc := ⟨.hbm, 285, rfl⟩
abbrev main_v191 : Ref sig .tc := ⟨.hbm, 286, rfl⟩
abbrev main_v192 : Ref sig .tc := ⟨.hbm, 287, rfl⟩
abbrev main_v193 : Ref sig .tc := ⟨.hbm, 288, rfl⟩
abbrev main_v194 : Ref sig .tc := ⟨.hbm, 289, rfl⟩
abbrev main_v195 : Ref sig .tc := ⟨.hbm, 290, rfl⟩
abbrev main_v196 : Ref sig .tc := ⟨.hbm, 291, rfl⟩
abbrev main_v197 : Ref sig .tc := ⟨.hbm, 292, rfl⟩
abbrev main_c_60 : Ref sig .tc := ⟨.hbm, 293, rfl⟩
abbrev main_v198 : Ref sig .tc := ⟨.hbm, 294, rfl⟩
abbrev main_v199 : Ref sig .tc := ⟨.hbm, 295, rfl⟩
abbrev main_c_61 : Ref sig .tc := ⟨.hbm, 296, rfl⟩
abbrev main_v200 : Ref sig .tc := ⟨.hbm, 297, rfl⟩
abbrev main_v201 : Ref sig .tc := ⟨.hbm, 298, rfl⟩
abbrev main_v202 : Ref sig .tc := ⟨.hbm, 299, rfl⟩
abbrev main_c_62 : Ref sig .tc := ⟨.hbm, 300, rfl⟩
abbrev main_v203 : Ref sig .tc := ⟨.hbm, 301, rfl⟩
abbrev main_v204 : Ref sig .tc := ⟨.hbm, 302, rfl⟩
abbrev main_c_63 : Ref sig .tc := ⟨.hbm, 303, rfl⟩
abbrev main_v205 : Ref sig .tc := ⟨.hbm, 304, rfl⟩
abbrev main_v206 : Ref sig .tc := ⟨.hbm, 305, rfl⟩
abbrev main_v207 : Ref sig .tc := ⟨.hbm, 306, rfl⟩
abbrev main_c_64 : Ref sig .tc := ⟨.hbm, 307, rfl⟩
abbrev main_v208 : Ref sig .tc := ⟨.hbm, 308, rfl⟩
abbrev main_v209 : Ref sig .tc := ⟨.hbm, 309, rfl⟩
abbrev main_c_65 : Ref sig .tc := ⟨.hbm, 310, rfl⟩
abbrev main_v210 : Ref sig .tc := ⟨.hbm, 311, rfl⟩
abbrev main_v211 : Ref sig .tc := ⟨.hbm, 312, rfl⟩
abbrev main_v212 : Ref sig .tc := ⟨.hbm, 313, rfl⟩
abbrev main_v213 : Ref sig .tc := ⟨.hbm, 314, rfl⟩
abbrev main_v214 : Ref sig .tc := ⟨.hbm, 315, rfl⟩
abbrev main_v215 : Ref sig .tc := ⟨.hbm, 316, rfl⟩
abbrev main_v216 : Ref sig .tc := ⟨.hbm, 317, rfl⟩
abbrev main_v217 : Ref sig .tc := ⟨.hbm, 318, rfl⟩
abbrev main_v218 : Ref sig .tc := ⟨.hbm, 319, rfl⟩
abbrev main_v219 : Ref sig .tc := ⟨.hbm, 320, rfl⟩
abbrev main_v220 : Ref sig .tc := ⟨.hbm, 321, rfl⟩
abbrev main_v221 : Ref sig .tc := ⟨.hbm, 322, rfl⟩
abbrev main_v222 : Ref sig .tc := ⟨.hbm, 323, rfl⟩
abbrev main_v223 : Ref sig .tc := ⟨.hbm, 324, rfl⟩
abbrev main_v224 : Ref sig .tc := ⟨.hbm, 325, rfl⟩
abbrev main_v225 : Ref sig .tc := ⟨.hbm, 326, rfl⟩
abbrev main_v226 : Ref sig .tc := ⟨.hbm, 327, rfl⟩
abbrev main_v227 : Ref sig .tc := ⟨.hbm, 328, rfl⟩
abbrev main_v228 : Ref sig .tc := ⟨.hbm, 329, rfl⟩
abbrev main_v229 : Ref sig .tc := ⟨.hbm, 330, rfl⟩
abbrev main_v230 : Ref sig .tc := ⟨.hbm, 331, rfl⟩
abbrev main_v231 : Ref sig .tc := ⟨.hbm, 332, rfl⟩
abbrev main_c_66 : Ref sig .tc := ⟨.hbm, 333, rfl⟩
abbrev main_v232 : Ref sig .tc := ⟨.hbm, 334, rfl⟩
abbrev main_v233 : Ref sig .tc := ⟨.hbm, 335, rfl⟩
abbrev main_c_67 : Ref sig .tc := ⟨.hbm, 336, rfl⟩
abbrev main_v234 : Ref sig .tc := ⟨.hbm, 337, rfl⟩
abbrev main_v235 : Ref sig .tc := ⟨.hbm, 338, rfl⟩
abbrev main_v236 : Ref sig .tc := ⟨.hbm, 339, rfl⟩
abbrev main_c_68 : Ref sig .tc := ⟨.hbm, 340, rfl⟩
abbrev main_v237 : Ref sig .tc := ⟨.hbm, 341, rfl⟩
abbrev main_v238 : Ref sig .tc := ⟨.hbm, 342, rfl⟩
abbrev main_c_69 : Ref sig .tc := ⟨.hbm, 343, rfl⟩
abbrev main_v239 : Ref sig .tc := ⟨.hbm, 344, rfl⟩
abbrev main_v240 : Ref sig .tc := ⟨.hbm, 345, rfl⟩
abbrev main_v241 : Ref sig .tc := ⟨.hbm, 346, rfl⟩
abbrev main_c_70 : Ref sig .tc := ⟨.hbm, 347, rfl⟩
abbrev main_v242 : Ref sig .tc := ⟨.hbm, 348, rfl⟩
abbrev main_v243 : Ref sig .tc := ⟨.hbm, 349, rfl⟩
abbrev main_c_71 : Ref sig .tc := ⟨.hbm, 350, rfl⟩
abbrev main_v244 : Ref sig .tc := ⟨.hbm, 351, rfl⟩
abbrev main_v245 : Ref sig .tc := ⟨.hbm, 352, rfl⟩
abbrev main_v246 : Ref sig .tc := ⟨.hbm, 353, rfl⟩
abbrev main_v247 : Ref sig .tc := ⟨.hbm, 354, rfl⟩
abbrev main_v248 : Ref sig .tc := ⟨.hbm, 355, rfl⟩
abbrev main_v249 : Ref sig .tc := ⟨.hbm, 356, rfl⟩
abbrev main_v250 : Ref sig .tc := ⟨.hbm, 357, rfl⟩
abbrev main_v251 : Ref sig .tc := ⟨.hbm, 358, rfl⟩
abbrev main_v252 : Ref sig .tc := ⟨.hbm, 359, rfl⟩
abbrev main_v253 : Ref sig .tc := ⟨.hbm, 360, rfl⟩
abbrev main_v254 : Ref sig .tc := ⟨.hbm, 361, rfl⟩
abbrev main_v255 : Ref sig .tc := ⟨.hbm, 362, rfl⟩
abbrev main_v256 : Ref sig .tc := ⟨.hbm, 363, rfl⟩
abbrev main_v257 : Ref sig .tc := ⟨.hbm, 364, rfl⟩
abbrev main_v258 : Ref sig .tc := ⟨.hbm, 365, rfl⟩
abbrev main_v259 : Ref sig .tc := ⟨.hbm, 366, rfl⟩
abbrev main_v260 : Ref sig .tc := ⟨.hbm, 367, rfl⟩
abbrev main_v261 : Ref sig .tc := ⟨.hbm, 368, rfl⟩
abbrev main_v262 : Ref sig .tc := ⟨.hbm, 369, rfl⟩
abbrev main_v263 : Ref sig .tc := ⟨.hbm, 370, rfl⟩
abbrev main_v264 : Ref sig .tc := ⟨.hbm, 371, rfl⟩
abbrev main_v265 : Ref sig .tc := ⟨.hbm, 372, rfl⟩
abbrev main_c_72 : Ref sig .tc := ⟨.hbm, 373, rfl⟩
abbrev main_v266 : Ref sig .tc := ⟨.hbm, 374, rfl⟩
abbrev main_v267 : Ref sig .tc := ⟨.hbm, 375, rfl⟩
abbrev main_c_73 : Ref sig .tc := ⟨.hbm, 376, rfl⟩
abbrev main_v268 : Ref sig .tc := ⟨.hbm, 377, rfl⟩
abbrev main_v269 : Ref sig .tc := ⟨.hbm, 378, rfl⟩
abbrev main_v270 : Ref sig .tc := ⟨.hbm, 379, rfl⟩
abbrev main_c_74 : Ref sig .tc := ⟨.hbm, 380, rfl⟩
abbrev main_v271 : Ref sig .tc := ⟨.hbm, 381, rfl⟩
abbrev main_v272 : Ref sig .tc := ⟨.hbm, 382, rfl⟩
abbrev main_c_75 : Ref sig .tc := ⟨.hbm, 383, rfl⟩
abbrev main_v273 : Ref sig .tc := ⟨.hbm, 384, rfl⟩
abbrev main_v274 : Ref sig .tc := ⟨.hbm, 385, rfl⟩
abbrev main_v275 : Ref sig .tc := ⟨.hbm, 386, rfl⟩
abbrev main_c_76 : Ref sig .tc := ⟨.hbm, 387, rfl⟩
abbrev main_v276 : Ref sig .tc := ⟨.hbm, 388, rfl⟩
abbrev main_v277 : Ref sig .tc := ⟨.hbm, 389, rfl⟩
abbrev main_c_77 : Ref sig .tc := ⟨.hbm, 390, rfl⟩
abbrev main_v278 : Ref sig .tc := ⟨.hbm, 391, rfl⟩
abbrev main_v279 : Ref sig .tc := ⟨.hbm, 392, rfl⟩
abbrev main_v280 : Ref sig .tc := ⟨.hbm, 393, rfl⟩
abbrev main_v281 : Ref sig .tc := ⟨.hbm, 394, rfl⟩
abbrev main_v282 : Ref sig .tc := ⟨.hbm, 395, rfl⟩
abbrev main_v283 : Ref sig .tc := ⟨.hbm, 396, rfl⟩
abbrev main_v284 : Ref sig .tc := ⟨.hbm, 397, rfl⟩
abbrev main_v285 : Ref sig .tc := ⟨.hbm, 398, rfl⟩
abbrev main_v286 : Ref sig .tc := ⟨.hbm, 399, rfl⟩
abbrev main_v287 : Ref sig .tc := ⟨.hbm, 400, rfl⟩
abbrev main_v288 : Ref sig .tc := ⟨.hbm, 401, rfl⟩
abbrev main_v289 : Ref sig .tc := ⟨.hbm, 402, rfl⟩
abbrev main_v290 : Ref sig .tc := ⟨.hbm, 403, rfl⟩
abbrev main_v291 : Ref sig .tc := ⟨.hbm, 404, rfl⟩
abbrev main_v292 : Ref sig .tc := ⟨.hbm, 405, rfl⟩
abbrev main_v293 : Ref sig .tc := ⟨.hbm, 406, rfl⟩
abbrev main_v294 : Ref sig .tc := ⟨.hbm, 407, rfl⟩
abbrev main_v295 : Ref sig .tc := ⟨.hbm, 408, rfl⟩
abbrev main_v296 : Ref sig .tc := ⟨.hbm, 409, rfl⟩
abbrev main_v297 : Ref sig .tc := ⟨.hbm, 410, rfl⟩
abbrev main_v298 : Ref sig .tc := ⟨.hbm, 411, rfl⟩
abbrev main_v299 : Ref sig .tc := ⟨.hbm, 412, rfl⟩
abbrev main_c_78 : Ref sig .tc := ⟨.hbm, 413, rfl⟩
abbrev main_v300 : Ref sig .tc := ⟨.hbm, 414, rfl⟩
abbrev main_v301 : Ref sig .tc := ⟨.hbm, 415, rfl⟩
abbrev main_c_79 : Ref sig .tc := ⟨.hbm, 416, rfl⟩
abbrev main_v302 : Ref sig .tc := ⟨.hbm, 417, rfl⟩
abbrev main_v303 : Ref sig .tc := ⟨.hbm, 418, rfl⟩
abbrev main_v304 : Ref sig .tc := ⟨.hbm, 419, rfl⟩
abbrev main_c_80 : Ref sig .tc := ⟨.hbm, 420, rfl⟩
abbrev main_v305 : Ref sig .tc := ⟨.hbm, 421, rfl⟩
abbrev main_v306 : Ref sig .tc := ⟨.hbm, 422, rfl⟩
abbrev main_c_81 : Ref sig .tc := ⟨.hbm, 423, rfl⟩
abbrev main_v307 : Ref sig .tc := ⟨.hbm, 424, rfl⟩
abbrev main_v308 : Ref sig .tc := ⟨.hbm, 425, rfl⟩
abbrev main_v309 : Ref sig .tc := ⟨.hbm, 426, rfl⟩
abbrev main_c_82 : Ref sig .tc := ⟨.hbm, 427, rfl⟩
abbrev main_v310 : Ref sig .tc := ⟨.hbm, 428, rfl⟩
abbrev main_v311 : Ref sig .tc := ⟨.hbm, 429, rfl⟩
abbrev main_c_83 : Ref sig .tc := ⟨.hbm, 430, rfl⟩
abbrev main_v312 : Ref sig .tc := ⟨.hbm, 431, rfl⟩
abbrev main_v313 : Ref sig .tc := ⟨.hbm, 432, rfl⟩
abbrev main_v314 : Ref sig .tc := ⟨.hbm, 433, rfl⟩
abbrev main_v315 : Ref sig .tc := ⟨.hbm, 434, rfl⟩
abbrev main_v316 : Ref sig .tc := ⟨.hbm, 435, rfl⟩
abbrev main_v317 : Ref sig .tc := ⟨.hbm, 436, rfl⟩
abbrev main_v318 : Ref sig .tc := ⟨.hbm, 437, rfl⟩
abbrev main_v319 : Ref sig .tc := ⟨.hbm, 438, rfl⟩
abbrev main_v320 : Ref sig .tc := ⟨.hbm, 439, rfl⟩
abbrev main_v321 : Ref sig .tc := ⟨.hbm, 440, rfl⟩
abbrev main_v322 : Ref sig .tc := ⟨.hbm, 441, rfl⟩
abbrev main_v323 : Ref sig .tc := ⟨.hbm, 442, rfl⟩
abbrev main_v324 : Ref sig .tc := ⟨.hbm, 443, rfl⟩
abbrev main_v325 : Ref sig .tc := ⟨.hbm, 444, rfl⟩
abbrev main_v326 : Ref sig .tc := ⟨.hbm, 445, rfl⟩
abbrev main_v327 : Ref sig .tc := ⟨.hbm, 446, rfl⟩
abbrev main_v328 : Ref sig .tc := ⟨.hbm, 447, rfl⟩
abbrev main_v329 : Ref sig .tc := ⟨.hbm, 448, rfl⟩
abbrev main_v330 : Ref sig .tc := ⟨.hbm, 449, rfl⟩
abbrev main_v331 : Ref sig .tc := ⟨.hbm, 450, rfl⟩
abbrev main_v332 : Ref sig .tc := ⟨.hbm, 451, rfl⟩
abbrev main_v333 : Ref sig .tc := ⟨.hbm, 452, rfl⟩
abbrev main_c_84 : Ref sig .tc := ⟨.hbm, 453, rfl⟩
abbrev main_v334 : Ref sig .tc := ⟨.hbm, 454, rfl⟩
abbrev main_v335 : Ref sig .tc := ⟨.hbm, 455, rfl⟩
abbrev main_c_85 : Ref sig .tc := ⟨.hbm, 456, rfl⟩
abbrev main_v336 : Ref sig .tc := ⟨.hbm, 457, rfl⟩
abbrev main_v337 : Ref sig .tc := ⟨.hbm, 458, rfl⟩
abbrev main_v338 : Ref sig .tc := ⟨.hbm, 459, rfl⟩
abbrev main_c_86 : Ref sig .tc := ⟨.hbm, 460, rfl⟩
abbrev main_v339 : Ref sig .tc := ⟨.hbm, 461, rfl⟩
abbrev main_v340 : Ref sig .tc := ⟨.hbm, 462, rfl⟩
abbrev main_c_87 : Ref sig .tc := ⟨.hbm, 463, rfl⟩
abbrev main_v341 : Ref sig .tc := ⟨.hbm, 464, rfl⟩
abbrev main_v342 : Ref sig .tc := ⟨.hbm, 465, rfl⟩
abbrev main_v343 : Ref sig .tc := ⟨.hbm, 466, rfl⟩
abbrev main_c_88 : Ref sig .tc := ⟨.hbm, 467, rfl⟩
abbrev main_v344 : Ref sig .tc := ⟨.hbm, 468, rfl⟩
abbrev main_v345 : Ref sig .tc := ⟨.hbm, 469, rfl⟩
abbrev main_c_89 : Ref sig .tc := ⟨.hbm, 470, rfl⟩
abbrev main_v346 : Ref sig .tc := ⟨.hbm, 471, rfl⟩
abbrev main_v347 : Ref sig .tc := ⟨.hbm, 472, rfl⟩
abbrev main_v348 : Ref sig .tc := ⟨.hbm, 473, rfl⟩
abbrev main_v349 : Ref sig .tc := ⟨.hbm, 474, rfl⟩
abbrev main_v350 : Ref sig .tc := ⟨.hbm, 475, rfl⟩
abbrev main_v351 : Ref sig .tc := ⟨.hbm, 476, rfl⟩
abbrev main_v352 : Ref sig .tc := ⟨.hbm, 477, rfl⟩
abbrev main_v353 : Ref sig .tc := ⟨.hbm, 478, rfl⟩
abbrev main_v354 : Ref sig .tc := ⟨.hbm, 479, rfl⟩
abbrev main_v355 : Ref sig .tc := ⟨.hbm, 480, rfl⟩
abbrev main_v356 : Ref sig .tc := ⟨.hbm, 481, rfl⟩
abbrev main_v357 : Ref sig .tc := ⟨.hbm, 482, rfl⟩
abbrev main_v358 : Ref sig .tc := ⟨.hbm, 483, rfl⟩
abbrev main_v359 : Ref sig .tc := ⟨.hbm, 484, rfl⟩
abbrev main_v360 : Ref sig .tc := ⟨.hbm, 485, rfl⟩
abbrev main_v361 : Ref sig .tc := ⟨.hbm, 486, rfl⟩
abbrev main_v362 : Ref sig .tc := ⟨.hbm, 487, rfl⟩
abbrev main_v363 : Ref sig .tc := ⟨.hbm, 488, rfl⟩
abbrev main_v364 : Ref sig .tc := ⟨.hbm, 489, rfl⟩
abbrev main_v365 : Ref sig .tc := ⟨.hbm, 490, rfl⟩
abbrev main_v366 : Ref sig .tc := ⟨.hbm, 491, rfl⟩
abbrev main_v367 : Ref sig .tc := ⟨.hbm, 492, rfl⟩
abbrev main_v368 : Ref sig .tc := ⟨.hbm, 493, rfl⟩
abbrev main_v369 : Ref sig .tc := ⟨.hbm, 494, rfl⟩
abbrev main_v370 : Ref sig .tc := ⟨.hbm, 495, rfl⟩

abbrev nD : Nat := 1
abbrev τ : Topo := Topo.v7x

variable {F : FTy → Type} [FloatOps F]
-- ==== Proof.Body.lean ====
/- The inner loops of the kernel, written once: the loop that blends two grid rows into the table, and the loop
   that interpolates sixteen pixels at a time. The printed program holds sixteen copies of each. -/
module

public import proofs.«01_k».proof.Proof.Gen.KernelIdeal
public import Idealize.ShloMosaic.Lib.Tactic

@[expose] public section

noncomputable section

namespace Cert.Proof.Tile

open Cert.KernelIdeal Cert.KernelIdeal.Gen
open Idealize.ShloMosaic Idealize.SL.Sem
open Idealize.ShloMosaic.Tactic

variable {F : FTy → Type} [FloatOps F]

/-- Programs of the vector subcore at coordinates `i`. -/
abbrev TP (i : grid0.Coords) (α : Type) : Type _ :=
  Prog (TpuEff nD τ sig (Elt F) Λ₀ (.scVector ((i 0).castLE hcore0) ((i 1).castLE hsub0))) α

/-- A vector-memory buffer of shape `s` as the tile names it. -/
abbrev VM (s : Shape) (e : EltTy) : Type := Memref sig .scVector .vmem s e

variable (i : grid0.Coords)

/-- The interpolation weight along the grid's rows for the image row `h`. -/
def dyVec (h : BitVec 32) : FVec F S16 .f32 :=
  subf (subf (mulf (addf (sitofp .f32 (broadcast S16 h : IVec S16 32)) (broadcast S16 (Scalar.ofBits .f32 0x3F000000#32 : F .f32)))
    (broadcast S16 (Scalar.ofBits .f32 0x3D000000#32 : F .f32))) (broadcast S16 (Scalar.ofBits .f32 0x3F000000#32 : F .f32)))
    (sitofp .f32 (broadcast S16 (Scalar.shrsi (Scalar.subi h 16#32) 5#32) : IVec S16 32))

/-- The blend of two vectors of grid values at weight `w`. -/
def blend (w a b : FVec F S16 .f32) : FVec F S16 .f32 := addf a (mulf w (subf b a))

/-- One table entry: sixteen words of the grid at each of two offsets, blended into the table. -/
def tBody (m9 : VM S49152 .f32) (m10 : VM S1824 .f32) (w : FVec F S16 .f32)
    (o0 o1 o2 : Fin 1 → Nat) (h0 : ∀ a, o0 a + S16.size a ≤ S49152.size a) (h1 : ∀ a, o1 a + S16.size a ≤ S49152.size a)
    (h2 : ∀ a, o2 a + S16.size a ≤ S1824.size a) : TP (F := F) i PUnit :=
  .op (.load m9 (Rect.unit (s := S49152) o0 S16.size h0).toLoadRect (View.loadsAt_vmem h_S16)) fun (a : Vec F S16 .f32) =>
  .op (.load m9 (Rect.unit (s := S49152) o1 S16.size h1).toLoadRect (View.loadsAt_vmem h_S16)) fun (b : Vec F S16 .f32) =>
  .op (.load m10 (Rect.unit (s := S1824) o2 S16.size h2).toLoadRect (View.loadsAt_vmem h_S16)) fun _ =>
  .op (.store m10 (Rect.unit (s := S1824) o2 S16.size h2) (blend w a b) Finset.univ (View.stores_vmem_bits_univ h_S16 rfl) (.inl rfl)) fun _ =>
  .ret ⟨⟩

/-- A gather of sixteen table words, ahead of `k`. -/
def gat (m10 : VM S1824 .f32) (v : IVec S16 32) (k : FVec F S16 .f32 → TP (F := F) i PUnit) : TP (F := F) i PUnit :=
  .op (.assume (k0_chk1 v) (k0_chk1.dec v)) fun hw =>
  SparseCore.vectorLoadIdx m10 ![v] (k0_idx1_inb v hw.down) (View.loads_vmem h_S1824) >>= k

/-- One coefficient of sixteen pixels: four gathers, blended along x and then along z. -/
def coef (m10 : VM S1824 .f32) (dx dz : FVec F S16 .f32) (v0 v1 v2 v3 : IVec S16 32) (c : BitVec 32)
    (k : FVec F S16 .f32 → TP (F := F) i PUnit) : TP (F := F) i PUnit :=
  gat i m10 (addi v0 (broadcast S16 c)) fun g00 =>
  gat i m10 (addi v1 (broadcast S16 c)) fun g01 =>
  gat i m10 (addi v2 (broadcast S16 c)) fun g10 =>
  gat i m10 (addi v3 (broadcast S16 c)) fun g11 =>
  k (blend dz (blend dx g00 g01) (blend dx g10 g11))

/-- One output channel of sixteen pixels. -/
def chan (m10 : VM S1824 .f32) (dx dz : FVec F S16 .f32) (v0 v1 v2 v3 : IVec S16 32) (p0 p1 p2 : FVec F S16 .f32) (c0 c1 c2 c3 : BitVec 32)
    (mo : VM S12288 .f32) (oo : Fin 1 → Nat) (ho : ∀ a, oo a + S16.size a ≤ S12288.size a) (k : TP (F := F) i PUnit) : TP (F := F) i PUnit :=
  coef i m10 dx dz v0 v1 v2 v3 c0 fun f0 =>
  coef i m10 dx dz v0 v1 v2 v3 c1 fun f1 =>
  coef i m10 dx dz v0 v1 v2 v3 c2 fun f2 =>
  coef i m10 dx dz v0 v1 v2 v3 c3 fun f3 =>
  .op (.load mo (Rect.unit (s := S12288) oo S16.size ho).toLoadRect (View.loadsAt_vmem h_S16)) fun _ =>
  .op (.store mo (Rect.unit (s := S12288) oo S16.size ho) (addf (addf (addf (mulf f0 p0) (mulf f1 p1)) (mulf f2 p2)) f3) Finset.univ
    (View.stores_vmem_bits_univ h_S16 rfl) (.inl rfl)) fun _ => k

/-- The scaled guide. -/
def tzV (g : FVec F S16 .f32) : FVec F S16 .f32 :=
  addf (mulf g (broadcast S16 (Scalar.ofBits .f32 0x41000000#32 : F .f32))) (broadcast S16 (Scalar.ofBits .f32 0x40F00000#32 : F .f32))
/-- Its integer part. -/
def fzV (g : FVec F S16 .f32) : IVec S16 32 := fptosi 32 (tzV g)
/-- The weight along z. -/
def dzV (g : FVec F S16 .f32) : FVec F S16 .f32 := subf (tzV g) (sitofp .f32 (fzV g))
/-- The table offset of the grid's z cell, `k` below the integer part, kept inside the grid. -/
def zoV (g : FVec F S16 .f32) (k : BitVec 32) : IVec S16 32 :=
  muli (minsi (broadcast S16 7#32) (maxsi (broadcast S16 0#32) (subi (fzV g) (broadcast S16 k)))) (broadcast S16 19#32)

/-- Sixteen pixels of three output channels. -/
def vBody (m10 : VM S1824 .f32) (mg : VM S4096 .f32) (mi mo : VM S12288 .f32) (m16 m17 : VM S512 .i32) (m18 : VM S512 .f32)
    (og ox oi0 oi1 oi2 oo0 oo1 oo2 : Fin 1 → Nat)
    (hg : ∀ a, og a + S16.size a ≤ S4096.size a) (hx : ∀ a, ox a + S16.size a ≤ S512.size a)
    (hi0 : ∀ a, oi0 a + S16.size a ≤ S12288.size a) (hi1 : ∀ a, oi1 a + S16.size a ≤ S12288.size a) (hi2 : ∀ a, oi2 a + S16.size a ≤ S12288.size a)
    (ho0 : ∀ a, oo0 a + S16.size a ≤ S12288.size a) (ho1 : ∀ a, oo1 a + S16.size a ≤ S12288.size a) (ho2 : ∀ a, oo2 a + S16.size a ≤ S12288.size a) :
    TP (F := F) i PUnit :=
  .op (.load mg (Rect.unit (s := S4096) og S16.size hg).toLoadRect (View.loadsAt_vmem h_S16)) fun (g : Vec F S16 .f32) =>
  .op (.load m16 (Rect.unit (s := S512) ox S16.size hx).toLoadRect (View.loadsAt_vmem h_S16)) fun (x0 : Vec F S16 .i32) =>
  .op (.load m17 (Rect.unit (s := S512) ox S16.size hx).toLoadRect (View.loadsAt_vmem h_S16)) fun (x1 : Vec F S16 .i32) =>
  .op (.load m18 (Rect.unit (s := S512) ox S16.size hx).toLoadRect (View.loadsAt_vmem h_S16)) fun (dx : Vec F S16 .f32) =>
  .op (.load mi (Rect.unit (s := S12288) oi0 S16.size hi0).toLoadRect (View.loadsAt_vmem h_S16)) fun (p0 : Vec F S16 .f32) =>
  .op (.load mi (Rect.unit (s := S12288) oi1 S16.size hi1).toLoadRect (View.loadsAt_vmem h_S16)) fun (p1 : Vec F S16 .f32) =>
  .op (.load mi (Rect.unit (s := S12288) oi2 S16.size hi2).toLoadRect (View.loadsAt_vmem h_S16)) fun (p2 : Vec F S16 .f32) =>
  chan i m10 dx (dzV g) (addi x0 (zoV g 8#32)) (addi x1 (zoV g 8#32)) (addi x0 (zoV g 7#32)) (addi x1 (zoV g 7#32)) p0 p1 p2 0#32 152#32 304#32 456#32 mo oo0 ho0 <|
  chan i m10 dx (dzV g) (addi x0 (zoV g 8#32)) (addi x1 (zoV g 8#32)) (addi x0 (zoV g 7#32)) (addi x1 (zoV g 7#32)) p0 p1 p2 608#32 760#32 912#32 1064#32 mo oo1 ho1 <|
  chan i m10 dx (dzV g) (addi x0 (zoV g 8#32)) (addi x1 (zoV g 8#32)) (addi x0 (zoV g 7#32)) (addi x1 (zoV g 7#32)) p0 p1 p2 1216#32 1368#32 1520#32 1672#32 mo oo2 ho2 <|
  .ret ⟨⟩

/-- The table of one image row. -/
def tLoop (m9 : VM S49152 .f32) (m10 : VM S1824 .f32) (w : FVec F S16 .f32) (a b c : Fin k0_t2_loop.trips → Fin 1 → Nat)
    (ha : ∀ t, ∀ x, a t x + S16.size x ≤ S49152.size x) (hb : ∀ t, ∀ x, b t x + S16.size x ≤ S49152.size x)
    (hc : ∀ t, ∀ x, c t x + S16.size x ≤ S1824.size x) : TP (F := F) i PUnit :=
  Scf.Loop.for k0_t2_loop k0_t2_ok ⟨⟩ fun t _ => tBody i m9 m10 w (a t) (b t) (c t) (ha t) (hb t) (hc t)

/-- The pixels of one image row. -/
def vLoop (m10 : VM S1824 .f32) (mg : VM S4096 .f32) (mi mo : VM S12288 .f32) (m16 m17 : VM S512 .i32) (m18 : VM S512 .f32)
    (og ox : Fin k0_t3_loop.trips → Fin 1 → Nat) (oi : Fin k0_t3_loop.trips → BitVec 32 → Fin 1 → Nat) (oo0 oo1 oo2 : Fin k0_t3_loop.trips → Fin 1 → Nat)
    (hg : ∀ t, ∀ a, og t a + S16.size a ≤ S4096.size a) (hx : ∀ t, ∀ a, ox t a + S16.size a ≤ S512.size a)
    (hi : ∀ t, ∀ r : Fin 3, ∀ a, oi t (BitVec.ofNat 32 (4096 * r.val)) a + S16.size a ≤ S12288.size a)
    (ho0 : ∀ t, ∀ a, oo0 t a + S16.size a ≤ S12288.size a) (ho1 : ∀ t, ∀ a, oo1 t a + S16.size a ≤ S12288.size a)
    (ho2 : ∀ t, ∀ a, oo2 t a + S16.size a ≤ S12288.size a) : TP (F := F) i PUnit :=
  Scf.Loop.for k0_t3_loop k0_t3_ok ⟨⟩ fun t _ => vBody i m10 mg mi mo m16 m17 m18 (og t) (ox t) (oi t 0#32) (oi t 4096#32) (oi t 8192#32) (oo0 t) (oo1 t) (oo2 t)
    (hg t) (hx t) (hi t 0) (hi t 1) (hi t 2) (ho0 t) (ho1 t) (ho2 t)

end Cert.Proof.Tile
-- ==== Proof.Tile.lean ====
/- The tile's whole program, regrouped: the copies of one row block, the waits for them, the eight rows of a block,
   the copies out. The printed program is this one. -/
module

public import proofs.«01_k».proof.Proof.Body

@[expose] public section

noncomputable section

namespace Cert.Proof.Tile

open Cert.KernelIdeal Cert.KernelIdeal.Gen
open Idealize.ShloMosaic Idealize.SL.Sem
open Idealize.ShloMosaic.Tactic

variable {F : FTy → Type} [FloatOps F]

-- the operands as the launch passes them
abbrev a2 : Memref sig .scVector .hbm S4x24576 .f32 := Memref.whole main_v0_scv
abbrev a3 : Memref sig .scVector .hbm S4x262144 .f32 := Memref.whole main_v1_scv
abbrev a4 : Memref sig .scVector .hbm S12x262144 .f32 := Memref.whole main_v2_scv
abbrev a5 : Memref sig .scVector .hbm S512 .i32 := Memref.whole main_c_scv
abbrev a6 : Memref sig .scVector .hbm S512 .i32 := Memref.whole main_c_0_scv
abbrev a7 : Memref sig .scVector .hbm S512 .f32 := Memref.whole main_cst_scv
abbrev a8 : Memref sig .scVector .hbm S12x262144 .f32 := Memref.whole main_v3_scv
abbrev a9 : Memref sig .scVector .vmem S49152 .f32 := Memref.whole cc0_scratch0
abbrev a10 : Memref sig .scVector .vmem S1824 .f32 := Memref.whole cc0_scratch1
abbrev a11 : Memref sig .scVector .vmem S4096 .f32 := Memref.whole cc0_scratch2
abbrev a12 : Memref sig .scVector .vmem S12288 .f32 := Memref.whole cc0_scratch3
abbrev a13 : Memref sig .scVector .vmem S4096 .f32 := Memref.whole cc0_scratch4
abbrev a14 : Memref sig .scVector .vmem S12288 .f32 := Memref.whole cc0_scratch5
abbrev a15 : Memref sig .scVector .vmem S12288 .f32 := Memref.whole cc0_scratch6
abbrev a16 : Memref sig .scVector .vmem S512 .i32 := Memref.whole cc0_scratch7
abbrev a17 : Memref sig .scVector .vmem S512 .i32 := Memref.whole cc0_scratch8
abbrev a18 : Memref sig .scVector .vmem S512 .f32 := Memref.whole cc0_scratch9

variable (i : grid0.Coords)

/-- 4096 words of a row of the guide. -/
abbrev gRow (o : Fin 2 → Nat) (h : ∀ a, o a + S1x4096.size a ≤ S4x262144.size a) : Memref sig .scVector .hbm S4096 .f32 :=
  (a3.slice (Rect.unit (s := S4x262144) o S1x4096.size h) (fun _ => rfl)).squeeze S4096 squeezes_S1x4096_S4096
/-- 4096 words of a row of a (12, 262144) array. -/
abbrev cRow (m : Memref sig .scVector .hbm S12x262144 .f32) (o : Fin 2 → Nat) (h : ∀ a, o a + S1x4096.size a ≤ S12x262144.size a) : Memref sig .scVector .hbm S4096 .f32 :=
  (m.slice (Rect.unit (s := S12x262144) o S1x4096.size h) (fun _ => rfl)).squeeze S4096 squeezes_S1x4096_S4096
/-- A row of the grid. -/
abbrev bRow (o : Fin 2 → Nat) (h : ∀ a, o a + S1x24576.size a ≤ S4x24576.size a) : Memref sig .scVector .hbm S24576 .f32 :=
  (a2.slice (Rect.unit (s := S4x24576) o S1x24576.size h) (fun _ => rfl)).squeeze S24576 squeezes_S1x24576_S24576
/-- A third of a three-channel buffer. -/
abbrev seg (m : VM S12288 .f32) (o : Fin 1 → Nat) (h : ∀ a, o a + S4096.size a ≤ S12288.size a) : VM S4096 .f32 :=
  m.slice (Rect.unit (s := S12288) o S4096.size h) (fun _ => rfl)
/-- Half of the two-slot grid buffer. -/
abbrev slot (o : Fin 1 → Nat) (h : ∀ a, o a + S24576.size a ≤ S49152.size a) : VM S24576 .f32 :=
  a9.slice (Rect.unit (s := S49152) o S24576.size h) (fun _ => rfl)

/-- The word of the image row at which block `v` (0 to 7) of tile `v1` starts. -/
def hWord (v1 v : BitVec 32) : BitVec 32 :=
  let m := Scalar.select (Scalar.cmpi .eq 2#32 0#32) 1#32 2#32
  let r := Scalar.remsi v m
  Scalar.addi (Scalar.muli v1 16#32)
    (Scalar.muli (Scalar.select (Scalar.andi (Scalar.xori (Scalar.cmpi .slt r 0#32) (Scalar.cmpi .slt m 0#32)) (Scalar.cmpi .ne r 0#32)) (Scalar.addi r m) r) 8#32)

/-- The tile's number. -/
def wWord : BitVec 32 := Scalar.addi (Scalar.muli (BitVec.ofNat 32 (i 1).val) 2#32) (BitVec.ofNat 32 (i 0).val)
/-- The first block's number at trip `t1`. -/
def evWord (t1 : Fin k0_t1_loop.trips) : BitVec 32 := Scalar.muli (Scf.iv 0#32 1#32 t1) 2#32

/-- Half of `v`, rounded down. -/
def halfWord (v : BitVec 32) : BitVec 32 :=
  Scalar.select (Scalar.andi (Scalar.cmpi .ne (Scalar.subi (Scalar.extui (Scalar.cmpi .sgt v 0#32)) (Scalar.extui (Scalar.cmpi .slt v 0#32)))
      (Scalar.subi (Scalar.extui (Scalar.cmpi .sgt 2#32 0#32)) (Scalar.extui (Scalar.cmpi .slt 2#32 0#32)))) (Scalar.cmpi .ne (Scalar.remsi v 2#32) 0#32))
    (Scalar.subi (Scalar.divsi v 2#32) 1#32) (Scalar.divsi v 2#32)

/-- Words the program computes past a conditional. -/
abbrev W3 : Type := Σ' (_ : BitVec 32) (_ : BitVec 32), BitVec 32
/-- Those of block `v`. -/
def words (v1 v : BitVec 32) : W3 := ⟨halfWord v, hWord v1 v, Scalar.muli (halfWord v) 3#32⟩

/-- The issue of a block's four copies on the semaphore `sem`. -/
def fetch (mg : VM S4096 .f32) (mi : VM S12288 .f32) (sem : DmaSem sig) (og oc0 oc1 oc2 : Fin 2 → Nat)
    (hg : ∀ a, og a + S1x4096.size a ≤ S4x262144.size a) (h0 : ∀ a, oc0 a + S1x4096.size a ≤ S12x262144.size a)
    (h1 : ∀ a, oc1 a + S1x4096.size a ≤ S12x262144.size a) (h2 : ∀ a, oc2 a + S1x4096.size a ≤ S12x262144.size a) : TP (F := F) i PUnit :=
  .op (.enqueueDma (gRow og hg) (.here mg) (.dma sem) ((View.wordExact_bits rfl).reshape _ _) (View.wordExact_bits rfl) ⟨Or.inl rfl, trivial⟩) fun _ =>
  .op (.enqueueDma (cRow a4 oc0 h0) (.here (seg mi ![0] inb_S12288_S4096_0)) (.dma sem) ((View.wordExact_bits rfl).reshape _ _) (View.wordExact_bits rfl) ⟨Or.inl rfl, trivial⟩) fun _ =>
  .op (.enqueueDma (cRow a4 oc1 h1) (.here (seg mi ![4096] inb_S12288_S4096_4096)) (.dma sem) ((View.wordExact_bits rfl).reshape _ _) (View.wordExact_bits rfl) ⟨Or.inl rfl, trivial⟩) fun _ =>
  .op (.enqueueDma (cRow a4 oc2 h2) (.here (seg mi ![8192] inb_S12288_S4096_8192)) (.dma sem) ((View.wordExact_bits rfl).reshape _ _) (View.wordExact_bits rfl) ⟨Or.inl rfl, trivial⟩) fun _ =>
  .ret ⟨⟩

/-- The four waits. -/
def await (mg : VM S4096 .f32) (mi : VM S12288 .f32) (sem : DmaSem sig) (og oc0 oc1 oc2 : Fin 2 → Nat)
    (hg : ∀ a, og a + S1x4096.size a ≤ S4x262144.size a) (h0 : ∀ a, oc0 a + S1x4096.size a ≤ S12x262144.size a)
    (h1 : ∀ a, oc1 a + S1x4096.size a ≤ S12x262144.size a) (h2 : ∀ a, oc2 a + S1x4096.size a ≤ S12x262144.size a) : TP (F := F) i PUnit :=
  .op (.waitDma2 sem (gRow og hg) mg ((View.wordExact_bits rfl).reshape _ _) (View.wordExact_bits rfl)) fun _ =>
  .op (.waitDma2 sem (cRow a4 oc0 h0) (seg mi ![0] inb_S12288_S4096_0) ((View.wordExact_bits rfl).reshape _ _) (View.wordExact_bits rfl)) fun _ =>
  .op (.waitDma2 sem (cRow a4 oc1 h1) (seg mi ![4096] inb_S12288_S4096_4096) ((View.wordExact_bits rfl).reshape _ _) (View.wordExact_bits rfl)) fun _ =>
  .op (.waitDma2 sem (cRow a4 oc2 h2) (seg mi ![8192] inb_S12288_S4096_8192) ((View.wordExact_bits rfl).reshape _ _) (View.wordExact_bits rfl)) fun _ =>
  .ret ⟨⟩

/-- One channel of a block out to the result, and the wait for it. -/
def put (sem : DmaSem sig) (os : Fin 1 → Nat) (hs : ∀ a, os a + S4096.size a ≤ S12288.size a)
    (o : Fin 2 → Nat) (h : ∀ a, o a + S1x4096.size a ≤ S12x262144.size a) : TP (F := F) i PUnit :=
  .op (.enqueueDma (seg a15 os hs) (.here (cRow a8 o h)) (.dma sem) (View.wordExact_bits rfl) ((View.wordExact_bits rfl).reshape _ _) ⟨Or.inl rfl, trivial⟩) fun _ =>
  .op (.waitDma2 sem (seg a15 os hs) (cRow a8 o h) (View.wordExact_bits rfl) ((View.wordExact_bits rfl).reshape _ _)) fun _ =>
  .ret ⟨⟩

/-- The first block's eight rows. -/
def rowsA (t1 : Fin k0_t1_loop.trips) : TP (F := F) i PUnit := do
  let _ ← tLoop i a9 a10 (dyVec (Scalar.addi (hWord (wWord i) (evWord t1)) 0#32)) (fun t => k0_off13 i t1 t) (fun t => k0_off14 i t1 t) (fun t => k0_off15 t)
    (fun t => k0_off13_inb i t1 t) (fun t => k0_off14_inb i t1 t) (fun t => k0_off15_inb t)
  let _ ← vLoop i a10 a11 a12 a15 a16 a17 a18 (fun t => k0_off16 t) (fun t => k0_off17 t) (fun t c => k0_off18 t c) (fun t => k0_off19 t) (fun t => k0_off20 t) (fun t => k0_off21 t)
    (fun t => k0_off16_inb t) (fun t => k0_off17_inb t) (fun t r => k0_off18_inb t r) (fun t => k0_off19_inb t) (fun t => k0_off20_inb t) (fun t => k0_off21_inb t)
  let _ ← tLoop i a9 a10 (dyVec (Scalar.addi (hWord (wWord i) (evWord t1)) 1#32)) (fun t => k0_off22 i t1 t) (fun t => k0_off23 i t1 t) (fun t => k0_off24 t)
    (fun t => k0_off22_inb i t1 t) (fun t => k0_off23_inb i t1 t) (fun t => k0_off24_inb t)
  let _ ← vLoop i a10 a11 a12 a15 a16 a17 a18 (fun t => k0_off25 t) (fun t => k0_off26 t) (fun t c => k0_off27 t c) (fun t => k0_off28 t) (fun t => k0_off29 t) (fun t => k0_off30 t)
    (fun t => k0_off25_inb t) (fun t => k0_off26_inb t) (fun t r => k0_off27_inb t r) (fun t => k0_off28_inb t) (fun t => k0_off29_inb t) (fun t => k0_off30_inb t)
  let _ ← tLoop i a9 a10 (dyVec (Scalar.addi (hWord (wWord i) (evWord t1)) 2#32)) (fun t => k0_off31 i t1 t) (fun t => k0_off32 i t1 t) (fun t => k0_off33 t)
    (fun t => k0_off31_inb i t1 t) (fun t => k0_off32_inb i t1 t) (fun t => k0_off33_inb t)
  let _ ← vLoop i a10 a11 a12 a15 a16 a17 a18 (fun t => k0_off34 t) (fun t => k0_off35 t) (fun t c => k0_off36 t c) (fun t => k0_off37 t) (fun t => k0_off38 t) (fun t => k0_off39 t)
    (fun t => k0_off34_inb t) (fun t => k0_off35_inb t) (fun t r => k0_off36_inb t r) (fun t => k0_off37_inb t) (fun t => k0_off38_inb t) (fun t => k0_off39_inb t)
  let _ ← tLoop i a9 a10 (dyVec (Scalar.addi (hWord (wWord i) (evWord t1)) 3#32)) (fun t => k0_off40 i t1 t) (fun t => k0_off41 i t1 t) (fun t => k0_off42 t)
    (fun t => k0_off40_inb i t1 t) (fun t => k0_off41_inb i t1 t) (fun t => k0_off42_inb t)
  let _ ← vLoop i a10 a11 a12 a15 a16 a17 a18 (fun t => k0_off43 t) (fun t => k0_off44 t) (fun t c => k0_off45 t c) (fun t => k0_off46 t) (fun t => k0_off47 t) (fun t => k0_off48 t)
    (fun t => k0_off43_inb t) (fun t => k0_off44_inb t) (fun t r => k0_off45_inb t r) (fun t => k0_off46_inb t) (fun t => k0_off47_inb t) (fun t => k0_off48_inb t)
  let _ ← tLoop i a9 a10 (dyVec (Scalar.addi (hWord (wWord i) (evWord t1)) 4#32)) (fun t => k0_off49 i t1 t) (fun t => k0_off50 i t1 t) (fun t => k0_off51 t)
    (fun t => k0_off49_inb i t1 t) (fun t => k0_off50_inb i t1 t) (fun t => k0_off51_inb t)
  let _ ← vLoop i a10 a11 a12 a15 a16 a17 a18 (fun t => k0_off52 t) (fun t => k0_off53 t) (fun t c => k0_off54 t c) (fun t => k0_off55 t) (fun t => k0_off56 t) (fun t => k0_off57 t)
    (fun t => k0_off52_inb t) (fun t => k0_off53_inb t) (fun t r => k0_off54_inb t r) (fun t => k0_off55_inb t) (fun t => k0_off56_inb t) (fun t => k0_off57_inb t)
  let _ ← tLoop i a9 a10 (dyVec (Scalar.addi (hWord (wWord i) (evWord t1)) 5#32)) (fun t => k0_off58 i t1 t) (fun t => k0_off59 i t1 t) (fun t => k0_off60 t)
    (fun t => k0_off58_inb i t1 t) (fun t => k0_off59_inb i t1 t) (fun t => k0_off60_inb t)
  let _ ← vLoop i a10 a11 a12 a15 a16 a17 a18 (fun t => k0_off61 t) (fun t => k0_off62 t) (fun t c => k0_off63 t c) (fun t => k0_off64 t) (fun t => k0_off65 t) (fun t => k0_off66 t)
    (fun t => k0_off61_inb t) (fun t => k0_off62_inb t) (fun t r => k0_off63_inb t r) (fun t => k0_off64_inb t) (fun t => k0_off65_inb t) (fun t => k0_off66_inb t)
  let _ ← tLoop i a9 a10 (dyVec (Scalar.addi (hWord (wWord i) (evWord t1)) 6#32)) (fun t => k0_off67 i t1 t) (fun t => k0_off68 i t1 t) (fun t => k0_off69 t)
    (fun t => k0_off67_inb i t1 t) (fun t => k0_off68_inb i t1 t) (fun t => k0_off69_inb t)
  let _ ← vLoop i a10 a11 a12 a15 a16 a17 a18 (fun t => k0_off70 t) (fun t => k0_off71 t) (fun t c => k0_off72 t c) (fun t => k0_off73 t) (fun t => k0_off74 t) (fun t => k0_off75 t)
    (fun t => k0_off70_inb t) (fun t => k0_off71_inb t) (fun t r => k0_off72_inb t r) (fun t => k0_off73_inb t) (fun t => k0_off74_inb t) (fun t => k0_off75_inb t)
  let _ ← tLoop i a9 a10 (dyVec (Scalar.addi (hWord (wWord i) (evWord t1)) 7#32)) (fun t => k0_off76 i t1 t) (fun t => k0_off77 i t1 t) (fun t => k0_off78 t)
    (fun t => k0_off76_inb i t1 t) (fun t => k0_off77_inb i t1 t) (fun t => k0_off78_inb t)
  let _ ← vLoop i a10 a11 a12 a15 a16 a17 a18 (fun t => k0_off79 t) (fun t => k0_off80 t) (fun t c => k0_off81 t c) (fun t => k0_off82 t) (fun t => k0_off83 t) (fun t => k0_off84 t)
    (fun t => k0_off79_inb t) (fun t => k0_off80_inb t) (fun t r => k0_off81_inb t r) (fun t => k0_off82_inb t) (fun t => k0_off83_inb t) (fun t => k0_off84_inb t)
  pure ⟨⟩

/-- The second block's eight rows. -/
def rowsB (t1 : Fin k0_t1_loop.trips) : TP (F := F) i PUnit := do
  let _ ← tLoop i a9 a10 (dyVec (Scalar.addi (hWord (wWord i) (Scalar.addi (evWord t1) 1#32)) 0#32)) (fun t => k0_off87 i t1 t) (fun t => k0_off88 i t1 t) (fun t => k0_off89 t)
    (fun t => k0_off87_inb i t1 t) (fun t => k0_off88_inb i t1 t) (fun t => k0_off89_inb t)
  let _ ← vLoop i a10 a13 a14 a15 a16 a17 a18 (fun t => k0_off90 t) (fun t => k0_off91 t) (fun t c => k0_off92 t c) (fun t => k0_off93 t) (fun t => k0_off94 t) (fun t => k0_off95 t)
    (fun t => k0_off90_inb t) (fun t => k0_off91_inb t) (fun t r => k0_off92_inb t r) (fun t => k0_off93_inb t) (fun t => k0_off94_inb t) (fun t => k0_off95_inb t)
  let _ ← tLoop i a9 a10 (dyVec (Scalar.addi (hWord (wWord i) (Scalar.addi (evWord t1) 1#32)) 1#32)) (fun t => k0_off96 i t1 t) (fun t => k0_off97 i t1 t) (fun t => k0_off98 t)
    (fun t => k0_off96_inb i t1 t) (fun t => k0_off97_inb i t1 t) (fun t => k0_off98_inb t)
  let _ ← vLoop i a10 a13 a14 a15 a16 a17 a18 (fun t => k0_off99 t) (fun t => k0_off100 t) (fun t c => k0_off101 t c) (fun t => k0_off102 t) (fun t => k0_off103 t) (fun t => k0_off104 t)
    (fun t => k0_off99_inb t) (fun t => k0_off100_inb t) (fun t r => k0_off101_inb t r) (fun t => k0_off102_inb t) (fun t => k0_off103_inb t) (fun t => k0_off104_inb t)
  let _ ← tLoop i a9 a10 (dyVec (Scalar.addi (hWord (wWord i) (Scalar.addi (evWord t1) 1#32)) 2#32)) (fun t => k0_off105 i t1 t) (fun t => k0_off106 i t1 t) (fun t => k0_off107 t)
    (fun t => k0_off105_inb i t1 t) (fun t => k0_off106_inb i t1 t) (fun t => k0_off107_inb t)
  let _ ← vLoop i a10 a13 a14 a15 a16 a17 a18 (fun t => k0_off108 t) (fun t => k0_off109 t) (fun t c => k0_off110 t c) (fun t => k0_off111 t) (fun t => k0_off112 t) (fun t => k0_off113 t)
    (fun t => k0_off108_inb t) (fun t => k0_off109_inb t) (fun t r => k0_off110_inb t r) (fun t => k0_off111_inb t) (fun t => k0_off112_inb t) (fun t => k0_off113_inb t)
  let _ ← tLoop i a9 a10 (dyVec (Scalar.addi (hWord (wWord i) (Scalar.addi (evWord t1) 1#32)) 3#32)) (fun t => k0_off114 i t1 t) (fun t => k0_off115 i t1 t) (fun t => k0_off116 t)
    (fun t => k0_off114_inb i t1 t) (fun t => k0_off115_inb i t1 t) (fun t => k0_off116_inb t)
  let _ ← vLoop i a10 a13 a14 a15 a16 a17 a18 (fun t => k0_off117 t) (fun t => k0_off118 t) (fun t c => k0_off119 t c) (fun t => k0_off120 t) (fun t => k0_off121 t) (fun t => k0_off122 t)
    (fun t => k0_off117_inb t) (fun t => k0_off118_inb t) (fun t r => k0_off119_inb t r) (fun t => k0_off120_inb t) (fun t => k0_off121_inb t) (fun t => k0_off122_inb t)
  let _ ← tLoop i a9 a10 (dyVec (Scalar.addi (hWord (wWord i) (Scalar.addi (evWord t1) 1#32)) 4#32)) (fun t => k0_off123 i t1 t) (fun t => k0_off124 i t1 t) (fun t => k0_off125 t)
    (fun t => k0_off123_inb i t1 t) (fun t => k0_off124_inb i t1 t) (fun t => k0_off125_inb t)
  let _ ← vLoop i a10 a13 a14 a15 a16 a17 a18 (fun t => k0_off126 t) (fun t => k0_off127 t) (fun t c => k0_off128 t c) (fun t => k0_off129 t) (fun t => k0_off130 t) (fun t => k0_off131 t)
    (fun t => k0_off126_inb t) (fun t => k0_off127_inb t) (fun t r => k0_off128_inb t r) (fun t => k0_off129_inb t) (fun t => k0_off130_inb t) (fun t => k0_off131_inb t)
  let _ ← tLoop i a9 a10 (dyVec (Scalar.addi (hWord (wWord i) (Scalar.addi (evWord t1) 1#32)) 5#32)) (fun t => k0_off132 i t1 t) (fun t => k0_off133 i t1 t) (fun t => k0_off134 t)
    (fun t => k0_off132_inb i t1 t) (fun t => k0_off133_inb i t1 t) (fun t => k0_off134_inb t)
  let _ ← vLoop i a10 a13 a14 a15 a16 a17 a18 (fun t => k0_off135 t) (fun t => k0_off136 t) (fun t c => k0_off137 t c) (fun t => k0_off138 t) (fun t => k0_off139 t) (fun t => k0_off140 t)
    (fun t => k0_off135_inb t) (fun t => k0_off136_inb t) (fun t r => k0_off137_inb t r) (fun t => k0_off138_inb t) (fun t => k0_off139_inb t) (fun t => k0_off140_inb t)
  let _ ← tLoop i a9 a10 (dyVec (Scalar.addi (hWord (wWord i) (Scalar.addi (evWord t1) 1#32)) 6#32)) (fun t => k0_off141 i t1 t) (fun t => k0_off142 i t1 t) (fun t => k0_off143 t)
    (fun t => k0_off141_inb i t1 t) (fun t => k0_off142_inb i t1 t) (fun t => k0_off143_inb t)
  let _ ← vLoop i a10 a13 a14 a15 a16 a17 a18 (fun t => k0_off144 t) (fun t => k0_off145 t) (fun t c => k0_off146 t c) (fun t => k0_off147 t) (fun t => k0_off148 t) (fun t => k0_off149 t)
    (fun t => k0_off144_inb t) (fun t => k0_off145_inb t) (fun t r => k0_off146_inb t r) (fun t => k0_off147_inb t) (fun t => k0_off148_inb t) (fun t => k0_off149_inb t)
  let _ ← tLoop i a9 a10 (dyVec (Scalar.addi (hWord (wWord i) (Scalar.addi (evWord t1) 1#32)) 7#32)) (fun t => k0_off150 i t1 t) (fun t => k0_off151 i t1 t) (fun t => k0_off152 t)
    (fun t => k0_off150_inb i t1 t) (fun t => k0_off151_inb i t1 t) (fun t => k0_off152_inb t)
  let _ ← vLoop i a10 a13 a14 a15 a16 a17 a18 (fun t => k0_off153 t) (fun t => k0_off154 t) (fun t c => k0_off155 t c) (fun t => k0_off156 t) (fun t => k0_off157 t) (fun t => k0_off158 t)
    (fun t => k0_off153_inb t) (fun t => k0_off154_inb t) (fun t r => k0_off155_inb t r) (fun t => k0_off156_inb t) (fun t => k0_off157_inb t) (fun t => k0_off158_inb t)
  pure ⟨⟩

/-- The next grid row's copy, while there is one. -/
def nextGrid (t1 : Fin k0_t1_loop.trips) (x : W3) : TP (F := F) i W3 :=
  if h : k0_cond1 t1 = 1#1 then
    .op (.enqueueDma (bRow (k0_off10 t1) (k0_off10_inb t1 h)) (.here (slot (k0_off9 t1) (k0_off9_inb t1 h))) (.dma cc0_scratch12.sem)
      ((View.wordExact_bits rfl).reshape _ _) (View.wordExact_bits rfl) ⟨Or.inl rfl, trivial⟩) fun _ => .ret x
  else .ret x

/-- The next block's copies, while there is one. -/
def nextBlock (t1 : Fin k0_t1_loop.trips) (x : W3) : TP (F := F) i W3 :=
  if h : k0_cond2 t1 = 1#1 then do
    fetch i a11 a12 cc0_scratch10.sem (k0_off85 i t1) (k0_off86 i t1 0#32) (k0_off86 i t1 1#32) (k0_off86 i t1 2#32)
      (k0_off85_inb i t1 h) (k0_off86_inb i t1 h 0) (k0_off86_inb i t1 h 1) (k0_off86_inb i t1 h 2)
    pure x
  else pure x

/-- One trip of the outer loop: one grid row's two blocks. -/
def trip (t1 : Fin k0_t1_loop.trips) : TP (F := F) i PUnit := do
  fetch i a13 a14 cc0_scratch11.sem (k0_off5 i t1) (k0_off6 i t1 0#32) (k0_off6 i t1 1#32) (k0_off6 i t1 2#32)
    (k0_off5_inb i t1) (k0_off6_inb i t1 0) (k0_off6_inb i t1 1) (k0_off6_inb i t1 2)
  Prog.lift (.waitDma2 cc0_scratch12.sem (bRow (k0_off8 t1) (k0_off8_inb t1)) (slot (k0_off7 t1) (k0_off7_inb t1)) ((View.wordExact_bits rfl).reshape _ _) (View.wordExact_bits rfl))
  let _ ← nextGrid i t1 (words (wWord i) (evWord t1))
  await i a11 a12 cc0_scratch10.sem (k0_off11 i t1) (k0_off12 i t1 0#32) (k0_off12 i t1 1#32) (k0_off12 i t1 2#32)
    (k0_off11_inb i t1) (k0_off12_inb i t1 0) (k0_off12_inb i t1 1) (k0_off12_inb i t1 2)
  rowsA i t1
  put i cc0_scoped3.sem ![0] inb_S12288_S4096_0 (k0_off12 i t1 0#32) (k0_off12_inb i t1 0)
  put i cc0_scoped4.sem ![4096] inb_S12288_S4096_4096 (k0_off12 i t1 1#32) (k0_off12_inb i t1 1)
  put i cc0_scoped5.sem ![8192] inb_S12288_S4096_8192 (k0_off12 i t1 2#32) (k0_off12_inb i t1 2)
  let _ ← nextBlock i t1 (words (wWord i) (Scalar.addi (evWord t1) 1#32))
  await i a13 a14 cc0_scratch11.sem (k0_off5 i t1) (k0_off6 i t1 0#32) (k0_off6 i t1 1#32) (k0_off6 i t1 2#32)
    (k0_off5_inb i t1) (k0_off6_inb i t1 0) (k0_off6_inb i t1 1) (k0_off6_inb i t1 2)
  rowsB i t1
  put i cc0_scoped6.sem ![0] inb_S12288_S4096_0 (k0_off6 i t1 0#32) (k0_off6_inb i t1 0)
  put i cc0_scoped7.sem ![4096] inb_S12288_S4096_4096 (k0_off6 i t1 1#32) (k0_off6_inb i t1 1)
  put i cc0_scoped8.sem ![8192] inb_S12288_S4096_8192 (k0_off6 i t1 2#32) (k0_off6_inb i t1 2)
  pure ⟨⟩

/-- The tile's program. -/
def tileProg : TP (F := F) i PUnit := do
  Prog.lift (.enqueueDma a5 (.here a16) (.dma cc0_scoped0.sem) (View.wordExact_bits rfl) (View.wordExact_bits rfl) ⟨Or.inl rfl, trivial⟩)
  Prog.lift (.waitDma2 cc0_scoped0.sem a5 a16 (View.wordExact_bits rfl) (View.wordExact_bits rfl))
  Prog.lift (.enqueueDma a6 (.here a17) (.dma cc0_scoped1.sem) (View.wordExact_bits rfl) (View.wordExact_bits rfl) ⟨Or.inl rfl, trivial⟩)
  Prog.lift (.waitDma2 cc0_scoped1.sem a6 a17 (View.wordExact_bits rfl) (View.wordExact_bits rfl))
  Prog.lift (.enqueueDma a7 (.here a18) (.dma cc0_scoped2.sem) (View.wordExact_bits rfl) (View.wordExact_bits rfl) ⟨Or.inl rfl, trivial⟩)
  Prog.lift (.waitDma2 cc0_scoped2.sem a7 a18 (View.wordExact_bits rfl) (View.wordExact_bits rfl))
  Prog.lift (.enqueueDma (bRow ![0, 0] inb_S4x24576_S1x24576_0_0) (.here (slot ![0] inb_S49152_S24576_0)) (.dma cc0_scratch12.sem)
      ((View.wordExact_bits rfl).reshape _ _) (View.wordExact_bits rfl) ⟨Or.inl rfl, trivial⟩)
  fetch i a11 a12 cc0_scratch10.sem (k0_off1 i) (k0_off2 i) (k0_off3 i) (k0_off4 i) (k0_off1_inb i) (k0_off2_inb i) (k0_off3_inb i) (k0_off4_inb i)
  Scf.Loop.for k0_t1_loop k0_t1_ok ⟨⟩ fun t1 _ => trip i t1
  pure ⟨⟩

/-- The printed program is this one. -/
theorem tileProg_eq : cc0_sc_apply (F := F) i (Memref.whole main_v0_scv) (Memref.isWhole_whole _) (Memref.whole main_v1_scv) (Memref.isWhole_whole _) (Memref.whole main_v2_scv) (Memref.isWhole_whole _) (Memref.whole main_c_scv) (Memref.isWhole_whole _) (Memref.whole main_c_0_scv) (Memref.isWhole_whole _) (Memref.whole main_cst_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scoped0 cc0_scoped1 cc0_scoped2 cc0_scoped3 cc0_scoped4 cc0_scoped5 cc0_scoped6 cc0_scoped7 cc0_scoped8 = tileProg i := by
  unfold cc0_sc_apply tileProg trip rowsA rowsB
  simp only [k0_part118, k0_part119, k0_part120, k0_part121, k0_part122, k0_part123, k0_part124, k0_part128, k0_part129,
    k0_part130, k0_part131, k0_part132, k0_part133, k0_part134, bind_assoc, pure_bind]
  sl_kernel_rfl

end Cert.Proof.Tile
-- ==== Proof.Base.lean ====
/- The launch's setting, and the values the kernel computes, entry by entry, over any reading of the floats. -/
module

public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Writes
public import proofs.«01_k».proof.Proof.Tile

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none
/-- The rounds of the handshakes. -/
abbrev UH : Type := URounds (GSem nD τ sig) ℕ
/-- With the counters of the copies. -/
abbrev UU : Type := UH × Counters

local notation "𝕄" => MT nD τ sig (HIx 1) (Elt F) ℕ UU ℕ

abbrev EH : Emb UH (MT nD τ sig (HIx 1) (Elt F) ℕ UU ℕ) := embL

abbrev cV (L : grid0.Coords) : Fin τ.nSC := (L 0).castLE hcore0
abbrev jV (L : grid0.Coords) : Fin τ.nSub := (L 1).castLE hsub0

/-! ## Entries of one-axis buffers -/

/-- The place `j` of an axis of `N`. -/
def ix1 {N : ℕ} [NeZero N] (j : ℕ) : (⟨1, ![N]⟩ : Shape).Idx :=
  fun a => ⟨j % N, by
    have h : (⟨1, ![N]⟩ : Shape).size a = N := by
      show (![N] : Fin 1 → ℕ) a = N
      exact Matrix.cons_val_fin_one _ _ _
    rw [h]; exact Nat.mod_lt _ (Nat.pos_of_ne_zero (NeZero.ne N))⟩

theorem ix1_val {N : ℕ} [NeZero N] (j : ℕ) (a : Fin 1) : (ix1 (N := N) j a).val = j % N := rfl

theorem eq_ix1 {N : ℕ} [NeZero N] (y : (⟨1, ![N]⟩ : Shape).Idx) (j : ℕ) (h : (y 0).val = j) : y = ix1 j := by
  funext a
  have ha : a = 0 := Subsingleton.elim _ _
  subst ha
  apply Fin.ext
  rw [ix1_val, ← h, Nat.mod_eq_of_lt]
  exact (y 0).isLt

/-- Entry `j` of what a memref of one axis reads. -/
def rd {κ : Kind} {sp : Space} {N : ℕ} [NeZero N] {e : EltTy} (m : Memref sig κ sp ⟨1, ![N]⟩ e) (f : m.view.ty.Contents (Elt F)) (j : ℕ) : Elt F e :=
  m.view.read (Elt F) f (ix1 j)

section Entries

variable {κ : Kind} {sp : Space} {N : ℕ} [NeZero N] {e : EltTy} (m : Memref sig κ sp ⟨1, ![N]⟩ e) (f : m.view.ty.Contents (Elt F))

/-- A load of sixteen entries at an offset. -/
theorem rd_load (o : Fin 1 → ℕ) (h : ∀ a, o a + S16.size a ≤ (⟨1, ![N]⟩ : Shape).size a) (x : S16.Idx) :
    m.view.readAt (Elt F) (Rect.unit (s := ⟨1, ![N]⟩) o S16.size h).toLoadRect f x = rd m f (o 0 + (x 0).val) := by
  rw [View.readAt_apply, rd]
  congr 1
  apply eq_ix1
  show o 0 + 1 * (x 0).val = _
  omega

/-- A store of `n` entries at an offset, read at an entry. -/
theorem rd_store {n : ℕ} (o : Fin 1 → ℕ) (h : ∀ a, o a + (![n] : Fin 1 → ℕ) a ≤ (⟨1, ![N]⟩ : Shape).size a)
    (w : (Rect.unit (s := ⟨1, ![N]⟩) o ![n] h).shape.Idx → Elt F e) (j : ℕ) (hj : j < N) :
    (∀ x : (Rect.unit (s := ⟨1, ![N]⟩) o ![n] h).shape.Idx, j = o 0 + (x 0).val →
      rd m ((m.view.slice (Rect.unit (s := ⟨1, ![N]⟩) o ![n] h)).write (Elt F) f w Finset.univ) j = w x)
    ∧ (j < o 0 ∨ o 0 + n ≤ j →
      rd m ((m.view.slice (Rect.unit (s := ⟨1, ![N]⟩) o ![n] h)).write (Elt F) f w Finset.univ) j = rd m f j) := by
  constructor
  · intro x hx
    have : (ix1 j : (⟨1, ![N]⟩ : Shape).Idx) = (Rect.unit (s := ⟨1, ![N]⟩) o ![n] h).emb x := by
      symm; apply eq_ix1
      show o 0 + 1 * (x 0).val = j
      omega
    rw [rd, this]
    exact View.read_slice_write_emb (v := m.view) _ _ _ (Finset.mem_univ x)
  · intro hd
    rw [rd, rd]
    apply View.read_slice_write_of_not_mem
    rw [Rect.map_emb_univ]
    refine Rect.not_mem_set_of_axis _ _ 0 (o 0) n rfl rfl rfl ?_
    rw [ix1_val, Nat.mod_eq_of_lt hj]
    exact hd

end Entries

/-! ## The values -/

variable [FloatOps F]

/-- The blend of `a` and `b` at weight `w`. -/
def bl (w a b : F .f32) : F .f32 := FloatOps.addf a (FloatOps.mulf w (FloatOps.subf b a))
/-- The scaled guide. -/
def tzS (g : F .f32) : F .f32 := FloatOps.addf (FloatOps.mulf g (FloatOps.ofBits .f32 0x41000000#32)) (FloatOps.ofBits .f32 0x40F00000#32)
/-- Its integer part. -/
def fzS (g : F .f32) : BitVec 32 := FloatOps.fptosi 32 (tzS g)
/-- The weight along z. -/
def dzS (g : F .f32) : F .f32 := FloatOps.subf (tzS g) (FloatOps.sitofp .f32 (fzS g))
/-- The grid's cell along z, `k` below the integer part, kept inside the grid. -/
def zW (g : F .f32) (k : BitVec 32) : BitVec 32 := IntOp.minsi 7#32 (IntOp.maxsi 0#32 (fzS g - k))
/-- As a number. -/
def zS (g : F .f32) (k : BitVec 32) : ℕ := (zW g k).toNat

/-- A coefficient: the table's four entries about a pixel, blended along x and then along z. -/
def cS (dx dz : F .f32) (x0 x1 z0 z1 : ℕ) (T : ℕ → ℕ → F .f32) (kk : ℕ) : F .f32 :=
  bl dz (bl dx (T (8 * kk + z0) x0) (T (8 * kk + z0) x1)) (bl dx (T (8 * kk + z1) x0) (T (8 * kk + z1) x1))

/-- An output pixel. -/
def pixS (dx g : F .f32) (x0 x1 : ℕ) (p : ℕ → F .f32) (T : ℕ → ℕ → F .f32) (o : ℕ) : F .f32 :=
  let c := fun kk => cS dx (dzS g) x0 x1 (zS g 8#32) (zS g 7#32) T (4 * o + kk)
  FloatOps.addf (FloatOps.addf (FloatOps.addf (FloatOps.mulf (c 0) (p 0)) (FloatOps.mulf (c 1) (p 1))) (FloatOps.mulf (c 2) (p 2))) (c 3)

/-- The weight along the grid's rows for image row `h`. -/
def dyS (h : BitVec 32) : F .f32 :=
  FloatOps.subf (FloatOps.subf (FloatOps.mulf (FloatOps.addf (FloatOps.sitofp .f32 h) (FloatOps.ofBits .f32 0x3F000000#32)) (FloatOps.ofBits .f32 0x3D000000#32))
    (FloatOps.ofBits .f32 0x3F000000#32)) (FloatOps.sitofp .f32 (Scalar.shrsi (Scalar.subi h 16#32) 5#32))

theorem dyVec_apply (h : BitVec 32) (x : S16.Idx) : dyVec (F := F) h x = dyS h := rfl
theorem blend_apply (w a b : FVec F S16 .f32) (x : S16.Idx) : blend w a b x = bl (w x) (a x) (b x) := rfl
theorem dzV_apply (g : FVec F S16 .f32) (x : S16.Idx) : dzV g x = dzS (g x) := rfl
theorem zoV_apply (g : FVec F S16 .f32) (k : BitVec 32) (x : S16.Idx) : zoV g k x = zW (g x) k * 19#32 := rfl

/-- Keeping a word inside `0 … 7`. -/
theorem clip7 (w : BitVec 32) : (IntOp.minsi 7#32 (IntOp.maxsi 0#32 w)).toNat = (min 7 (max 0 w.toInt)).toNat := by
  unfold IntOp.minsi IntOp.maxsi
  simp only [BitVec.slt, decide_eq_true_eq]
  have h7 : (7#32 : BitVec 32).toInt = 7 := rfl
  have h0 : (0#32 : BitVec 32).toInt = 0 := rfl
  have hw := BitVec.toInt_eq_toNat_cond w
  have hl := w.isLt
  split <;> rename_i h1 <;> split <;> rename_i h2 <;> simp only [h7, h0] at * <;> simp_all <;> omega

theorem zS_eq (g : F .f32) (k : BitVec 32) : zS g k = (min 7 (max 0 (fzS g - k).toInt)).toNat := clip7 _

theorem zS_le (g : F .f32) (k : BitVec 32) : zS g k ≤ 7 := by rw [zS_eq]; omega

/-- The two rows of the grid about image row `h`. -/
def Y0 (h : ℕ) : ℕ := (h - 16) / 32
def Y1 (h : ℕ) : ℕ := min 15 ((h + 16) / 32)

/-- The table of image row `h`, out of one batch's grid. -/
def Trow (G : ℕ → F .f32) (h : ℕ) (cz xi : ℕ) : F .f32 :=
  bl (dyS (BitVec.ofNat 32 h)) (G (256 * cz + (16 * Y0 h + xi))) (G (256 * cz + (16 * Y1 h + xi)))

/-- Output channel `o` at pixel `n` of an image of 512 columns, out of one batch's grid, guide and image. -/
def pixN (X0 X1 : ℕ → BitVec 32) (DX : ℕ → F .f32) (G gd : ℕ → F .f32) (im : ℕ → ℕ → F .f32) (o n : ℕ) : F .f32 :=
  pixS (DX (n % 512)) (gd n) (X0 (n % 512)).toNat (X1 (n % 512)).toNat (fun c => im c n) (Trow G (n / 512)) o

/-- A tile's number: it works on sixteen rows of every image. -/
def wN (i : grid0.Coords) : ℕ := 2 * (i 1).val + (i 0).val

theorem wN_lt (i : grid0.Coords) : wN i < 32 := by
  have h0 : (i 0).val < 2 := (i 0).isLt
  have h1 : (i 1).val < 16 := (i 1).isLt
  unfold wN
  omega

end Cert.Proof.Tile
-- ==== Proof.Loops.lean ====
/- The inner loops' effect on the tile's buffers. -/
module

public import proofs.«01_k».proof.Proof.Base

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- A tile's program run on its subcore. -/
abbrev run {α : Type} (p : TP (F := F) L α) (Q : α → sProp (MT nD τ sig (HIx 1) (Elt F) ℕ UU ℕ)) : sProp (MT nD τ sig (HIx 1) (Elt F) ℕ UU ℕ) :=
  wp frame (wpE (defs₀ (F := F)) 𝒱₀ (V d (cV L) (jV L)) none) Set.univ p Q

/-- The buffer a vector-memory name means on this tile. -/
abbrev at_ {s : Shape} {e : EltTy} (m : VM s e) : Loc nD τ sig := m.view.loc (V d (cV L) (jV L))

theorem chk_of (v : IVec S16 32) (h : ∀ x, (v x).toNat < 1824) : k0_chk1 v := by
  intro a x
  have ha : a = 0 := Subsingleton.elim _ _
  subst ha
  exact h x

theorem loadIdx_rd (m10 : VM S1824 .f32) (v : IVec S16 32) (n : S16.Idx → ℕ) (hn : ∀ x, (v x).toNat = n x)
    (f : m10.view.ty.Contents (Elt F)) (h : k0_chk1 v) :
    (loadIdx ((m10.access (.whole S1824)).read (Elt F) f) ![v] (k0_idx1_inb v h) : FVec F S16 .f32) = fun x => rd m10 f (n x) := by
  funext x
  have hx : (Rect.whole S1824).emb (idxAt ![v] (k0_idx1_inb v h) x) = ix1 (n x) := by
    apply eq_ix1
    show 0 + 1 * (v x).toNat = n x
    rw [hn]; omega
  exact congrArg (m10.view.read (Elt F) f) hx

theorem wp_gat (m10 : VM S1824 .f32) (v : IVec S16 32) (k : FVec F S16 .f32 → TP (F := F) L PUnit) (n : S16.Idx → ℕ)
    (hn : ∀ x, (v x).toNat = n x) (hlt : ∀ x, n x < 1824) (f : Buf (Elt F) (at_ d L m10)) (Q : PUnit → sProp 𝕄) :
    (at_ d L m10 ↦{fullShare} f) ⊢ iprop(((at_ d L m10 ↦{fullShare} f) -∗ run d L (k (fun x => rd m10 f (n x))) Q) -∗ run d L (gat L m10 v k) Q) := by
  have hchk : k0_chk1 v := chk_of v fun x => by rw [hn]; exact hlt x
  rw [← loadIdx_rd m10 v n hn f hchk]
  unfold gat
  iintro Hm Hk
  iapply (wp_assume 𝒱₀ (V d (cV L) (jV L)) none Set.univ hchk)
  iapply (SparseCore.wp_vectorLoadIdx (c := V d (cV L) (jV L)) 𝒱₀ none Set.univ (base := m10) (f := f) (S := Finset.univ) (Finset.subset_univ _)) $$ Hm
  iexact Hk

/-- A coefficient of sixteen pixels, out of a table held in the buffer. -/
theorem wp_coef (m10 : VM S1824 .f32) (dx dz : FVec F S16 .f32) (v0 v1 v2 v3 : IVec S16 32) (c : BitVec 32) (k : FVec F S16 .f32 → TP (F := F) L PUnit)
    (n0 n1 n2 n3 : S16.Idx → ℕ) (e0 : ∀ x, (v0 x).toNat = n0 x) (e1 : ∀ x, (v1 x).toNat = n1 x) (e2 : ∀ x, (v2 x).toNat = n2 x) (e3 : ∀ x, (v3 x).toNat = n3 x)
    (b0 : ∀ x, n0 x < 152) (b1 : ∀ x, n1 x < 152) (b2 : ∀ x, n2 x < 152) (b3 : ∀ x, n3 x < 152) (hc : c.toNat ≤ 1672)
    (f : Buf (Elt F) (at_ d L m10)) (Q : PUnit → sProp 𝕄) :
    (at_ d L m10 ↦{fullShare} f) ⊢ iprop(((at_ d L m10 ↦{fullShare} f) -∗
        run d L (k (fun x => bl (dz x) (bl (dx x) (rd m10 f (n0 x + c.toNat)) (rd m10 f (n1 x + c.toNat))) (bl (dx x) (rd m10 f (n2 x + c.toNat)) (rd m10 f (n3 x + c.toNat))))) Q)
      -∗ run d L (coef L m10 dx dz v0 v1 v2 v3 c k) Q) := by
  have key : ∀ (v : IVec S16 32) (n : S16.Idx → ℕ), (∀ x, (v x).toNat = n x) → (∀ x, n x < 152) →
      (∀ x, (addi v (broadcast S16 c) x).toNat = n x + c.toNat) := fun v n h hb x => by
    have := hb x
    show (v x + c).toNat = _
    rw [BitVec.toNat_add, h]
    omega
  unfold coef
  iintro Hm Hk
  iapply (wp_gat d L m10 _ _ (fun x => n0 x + c.toNat) (key v0 n0 e0 b0) (fun x => by have := b0 x; omega) f) $$ Hm
  iintro Hm
  iapply (wp_gat d L m10 _ _ (fun x => n1 x + c.toNat) (key v1 n1 e1 b1) (fun x => by have := b1 x; omega) f) $$ Hm
  iintro Hm
  iapply (wp_gat d L m10 _ _ (fun x => n2 x + c.toNat) (key v2 n2 e2 b2) (fun x => by have := b2 x; omega) f) $$ Hm
  iintro Hm
  iapply (wp_gat d L m10 _ _ (fun x => n3 x + c.toNat) (key v3 n3 e3 b3) (fun x => by have := b3 x; omega) f) $$ Hm
  iexact Hk

/-- A coefficient's value at the lanes `n0 … n3` of a table whose entries are known. -/
theorem coef_value (m10 : VM S1824 .f32) (f : m10.view.ty.Contents (Elt F)) (T : ℕ → ℕ → F .f32) (hT : ∀ cz < 96, ∀ xi < 16, rd m10 f (19 * cz + xi) = T cz xi)
    (dx dz : F .f32) (x0 x1 z0 z1 kk n0 n1 n2 n3 c : ℕ) (hx0 : x0 < 16) (hx1 : x1 < 16) (hz0 : z0 ≤ 7) (hz1 : z1 ≤ 7) (hk : kk < 12) (hc : c = 152 * kk)
    (h0 : n0 = x0 + z0 * 19) (h1 : n1 = x1 + z0 * 19) (h2 : n2 = x0 + z1 * 19) (h3 : n3 = x1 + z1 * 19) :
    bl dz (bl dx (rd m10 f (n0 + c)) (rd m10 f (n1 + c))) (bl dx (rd m10 f (n2 + c)) (rd m10 f (n3 + c))) = cS dx dz x0 x1 z0 z1 T kk := by
  unfold cS
  rw [← hT (8 * kk + z0) (by omega) x0 hx0, ← hT (8 * kk + z0) (by omega) x1 hx1, ← hT (8 * kk + z1) (by omega) x0 hx0, ← hT (8 * kk + z1) (by omega) x1 hx1]
  subst hc h0 h1 h2 h3
  congr 3 <;> omega

/-- The four offsets of a pixel's neighbours in the table, lane by lane. -/
structure Lanes (v0 v1 v2 v3 : IVec S16 32) (x0 x1 z0 z1 : S16.Idx → ℕ) : Prop where
  e0 : ∀ x, (v0 x).toNat = x0 x + z0 x * 19
  e1 : ∀ x, (v1 x).toNat = x1 x + z0 x * 19
  e2 : ∀ x, (v2 x).toNat = x0 x + z1 x * 19
  e3 : ∀ x, (v3 x).toNat = x1 x + z1 x * 19
  bx0 : ∀ x, x0 x < 16
  bx1 : ∀ x, x1 x < 16
  bz0 : ∀ x, z0 x ≤ 7
  bz1 : ∀ x, z1 x ≤ 7

/-- A coefficient of sixteen pixels, by the table. -/
theorem wp_coefT (m10 : VM S1824 .f32) (f : Buf (Elt F) (at_ d L m10)) (T : ℕ → ℕ → F .f32) (hT : ∀ cz < 96, ∀ xi < 16, rd m10 f (19 * cz + xi) = T cz xi)
    (dx dz : FVec F S16 .f32) {v0 v1 v2 v3 : IVec S16 32} {x0 x1 z0 z1 : S16.Idx → ℕ} (hL : Lanes v0 v1 v2 v3 x0 x1 z0 z1)
    (c : BitVec 32) (kk : ℕ) (hk : kk < 12) (hc : c.toNat = 152 * kk) (k : FVec F S16 .f32 → TP (F := F) L PUnit) (Q : PUnit → sProp 𝕄) :
    (at_ d L m10 ↦{fullShare} f) ⊢ iprop(((at_ d L m10 ↦{fullShare} f) -∗
        run d L (k (fun x => cS (dx x) (dz x) (x0 x) (x1 x) (z0 x) (z1 x) T kk)) Q)
      -∗ run d L (coef L m10 dx dz v0 v1 v2 v3 c k) Q) := by
  have e : (fun x => cS (dx x) (dz x) (x0 x) (x1 x) (z0 x) (z1 x) T kk) = fun x => bl (dz x) (bl (dx x) (rd m10 f ((x0 x + z0 x * 19) + c.toNat)) (rd m10 f ((x1 x + z0 x * 19) + c.toNat)))
      (bl (dx x) (rd m10 f ((x0 x + z1 x * 19) + c.toNat)) (rd m10 f ((x1 x + z1 x * 19) + c.toNat))) := by
    funext x
    exact (coef_value m10 f T hT _ _ _ _ _ _ kk _ _ _ _ _ (hL.bx0 x) (hL.bx1 x) (hL.bz0 x) (hL.bz1 x) hk hc rfl rfl rfl rfl).symm
  rw [e]
  have b : ∀ a z : ℕ, a < 16 → z ≤ 7 → a + z * 19 < 152 := fun a z _ _ => by omega
  exact wp_coef d L m10 dx dz v0 v1 v2 v3 c k _ _ _ _ hL.e0 hL.e1 hL.e2 hL.e3 (fun x => b _ _ (hL.bx0 x) (hL.bz0 x)) (fun x => b _ _ (hL.bx1 x) (hL.bz0 x))
    (fun x => b _ _ (hL.bx0 x) (hL.bz1 x)) (fun x => b _ _ (hL.bx1 x) (hL.bz1 x)) (by omega) f Q

/-- What a channel's store writes: output `o` of sixteen pixels. -/
def chanV (dx dz : FVec F S16 .f32) (x0 x1 z0 z1 : S16.Idx → ℕ) (p0 p1 p2 : FVec F S16 .f32) (T : ℕ → ℕ → F .f32) (o : ℕ) : FVec F S16 .f32 := fun x =>
  let c := fun kk => cS (dx x) (dz x) (x0 x) (x1 x) (z0 x) (z1 x) T (4 * o + kk)
  FloatOps.addf (FloatOps.addf (FloatOps.addf (FloatOps.mulf (c 0) (p0 x)) (FloatOps.mulf (c 1) (p1 x))) (FloatOps.mulf (c 2) (p2 x))) (c 3)

theorem wp_chan (m10 : VM S1824 .f32) (f : Buf (Elt F) (at_ d L m10)) (T : ℕ → ℕ → F .f32) (hT : ∀ cz < 96, ∀ xi < 16, rd m10 f (19 * cz + xi) = T cz xi)
    (dx dz : FVec F S16 .f32) {v0 v1 v2 v3 : IVec S16 32} {x0 x1 z0 z1 : S16.Idx → ℕ} (hL : Lanes v0 v1 v2 v3 x0 x1 z0 z1)
    (p0 p1 p2 : FVec F S16 .f32) (c0 c1 c2 c3 : BitVec 32) (o : ℕ) (ho3 : o < 3)
    (h0 : c0.toNat = 152 * (4 * o + 0)) (h1 : c1.toNat = 152 * (4 * o + 1)) (h2 : c2.toNat = 152 * (4 * o + 2)) (h3 : c3.toNat = 152 * (4 * o + 3))
    (mo : VM S12288 .f32) (oo : Fin 1 → Nat) (ho : ∀ a, oo a + S16.size a ≤ S12288.size a) (fo : Buf (Elt F) (at_ d L mo))
    (k : TP (F := F) L PUnit) (Q : PUnit → sProp 𝕄) :
    iprop((at_ d L m10 ↦{fullShare} f) ∗ (at_ d L mo ↦{fullShare} fo)) ⊢ iprop(((at_ d L m10 ↦{fullShare} f)
        -∗ (at_ d L mo ↦{fullShare} (mo.access (Rect.unit (s := S12288) oo S16.size ho)).write (Elt F) fo (chanV dx dz x0 x1 z0 z1 p0 p1 p2 T o) Finset.univ)
        -∗ run d L k Q)
      -∗ run d L (chan L m10 dx dz v0 v1 v2 v3 p0 p1 p2 c0 c1 c2 c3 mo oo ho k) Q) := by
  unfold chan
  iintro ⟨Hm, Ho⟩ Hk
  iapply (wp_coefT d L m10 f T hT dx dz hL c0 (4 * o + 0) (by omega) h0) $$ Hm
  iintro Hm
  iapply (wp_coefT d L m10 f T hT dx dz hL c1 (4 * o + 1) (by omega) h1) $$ Hm
  iintro Hm
  iapply (wp_coefT d L m10 f T hT dx dz hL c2 (4 * o + 2) (by omega) h2) $$ Hm
  iintro Hm
  iapply (wp_coefT d L m10 f T hT dx dz hL c3 (4 * o + 3) (by omega) h3) $$ Hm
  iintro Hm
  iapply (wp_load 𝒱₀ (V d (cV L) (jV L)) none Set.univ (m := mo) (S := Finset.univ) (Finset.subset_univ _)) $$ Ho
  iintro Ho
  iapply (wp_store 𝒱₀ (V d (cV L) (jV L)) none Set.univ (m := mo) (r := Rect.unit (s := S12288) oo S16.size ho) (f := fo) (S := Finset.univ) (Finset.subset_univ _)) $$ Ho
  iintro Ho
  ihave Hw := Hk $$ Hm
  iapply Hw
  iexact Ho

/-- A store of sixteen known values past `go` known ones, in channel `o` of three, keeps the others. -/
theorem store_step (mo : VM S12288 .f32) (fo : mo.view.ty.Contents (Elt F)) (oo : Fin 1 → Nat) (ho : ∀ a, oo a + S16.size a ≤ S12288.size a)
    (w : FVec F S16 .f32) (o go : ℕ) (ho3 : o < 3) (hgo : go + 16 ≤ 4096) (hoo : oo 0 = 4096 * o + go) (j : ℕ) (o' : ℕ) (ho' : o' < 3) (hj : j < go + 16) :
    ((o' = o ∧ go ≤ j) → ∀ x : S16.Idx, (x 0).val = j - go →
      rd mo ((mo.access (Rect.unit (s := S12288) oo S16.size ho)).write (Elt F) fo w Finset.univ) (4096 * o' + j) = w x)
    ∧ (¬(o' = o ∧ go ≤ j) →
      rd mo ((mo.access (Rect.unit (s := S12288) oo S16.size ho)).write (Elt F) fo w Finset.univ) (4096 * o' + j) = rd mo fo (4096 * o' + j)) := by
  have hs := rd_store mo fo (n := 16) oo ho w (4096 * o' + j) (by omega)
  constructor
  · rintro ⟨rfl, hg⟩ x hx
    exact hs.1 x (by rw [hoo]; omega)
  · intro hn
    refine hs.2 ?_
    rw [hoo]
    by_cases h : o' = o
    · subst h; left; have : ¬ go ≤ j := fun h => hn ⟨rfl, h⟩
      omega
    · rcases Nat.lt_or_gt_of_ne h with h | h
      · left; omega
      · right; omega

/-- Lane `j` of sixteen. -/
def ln (j : ℕ) : S16.Idx := ix1 j

theorem ln_val (j : ℕ) (h : j < 16) : (ln j 0).val = j := Nat.mod_eq_of_lt h

theorem lane_lt (x : S16.Idx) : (x 0).val < 16 := (x 0).isLt

/-- The three stores of a trip. -/
theorem three_stores (mo : VM S12288 .f32) (fo : mo.view.ty.Contents (Elt F)) (oo0 oo1 oo2 : Fin 1 → Nat)
    (ho0 : ∀ a, oo0 a + S16.size a ≤ S12288.size a) (ho1 : ∀ a, oo1 a + S16.size a ≤ S12288.size a) (ho2 : ∀ a, oo2 a + S16.size a ≤ S12288.size a)
    (w0 w1 w2 : FVec F S16 .f32) (go : ℕ) (hgo : go + 16 ≤ 4096) (eo0 : oo0 0 = go) (eo1 : oo1 0 = 4096 + go) (eo2 : oo2 0 = 8192 + go)
    (PX : ℕ → ℕ → F .f32) (hpre : ∀ o < 3, ∀ j < go, rd mo fo (4096 * o + j) = PX o j)
    (h0 : ∀ x : S16.Idx, w0 x = PX 0 (go + (x 0).val)) (h1 : ∀ x : S16.Idx, w1 x = PX 1 (go + (x 0).val)) (h2 : ∀ x : S16.Idx, w2 x = PX 2 (go + (x 0).val)) :
    ∀ o < 3, ∀ j < go + 16,
      rd mo ((mo.access (Rect.unit (s := S12288) oo2 S16.size ho2)).write (Elt F)
        ((mo.access (Rect.unit (s := S12288) oo1 S16.size ho1)).write (Elt F)
          ((mo.access (Rect.unit (s := S12288) oo0 S16.size ho0)).write (Elt F) fo w0 Finset.univ) w1 Finset.univ) w2 Finset.univ) (4096 * o + j) = PX o j := by
  intro o ho j hj
  have s0 := store_step mo fo oo0 ho0 w0 0 go (by omega) hgo (by omega) j o ho hj
  have s1 := store_step mo ((mo.access (Rect.unit (s := S12288) oo0 S16.size ho0)).write (Elt F) fo w0 Finset.univ) oo1 ho1 w1 1 go (by omega) hgo (by omega) j o ho hj
  have s2 := store_step mo ((mo.access (Rect.unit (s := S12288) oo1 S16.size ho1)).write (Elt F)
    ((mo.access (Rect.unit (s := S12288) oo0 S16.size ho0)).write (Elt F) fo w0 Finset.univ) w1 Finset.univ) oo2 ho2 w2 2 go (by omega) hgo (by omega) j o ho hj
  by_cases hjg : go ≤ j
  · obtain ⟨x, rfl⟩ : ∃ x, j = go + x := ⟨j - go, by omega⟩
    have hx : (ln x 0).val = x := ln_val x (by omega)
    have hx' : (ln x 0).val = go + x - go := by omega
    obtain rfl | rfl | rfl : o = 0 ∨ o = 1 ∨ o = 2 := by omega
    · rw [s2.2 (by omega), s1.2 (by omega), s0.1 ⟨rfl, hjg⟩ _ hx', h0, hx]
    · rw [s2.2 (by omega), s1.1 ⟨rfl, hjg⟩ _ hx', h1, hx]
    · rw [s2.1 ⟨rfl, hjg⟩ _ hx', h2, hx]
  · rw [s2.2 (fun h => hjg h.2), s1.2 (fun h => hjg h.2), s0.2 (fun h => hjg h.2)]
    exact hpre o ho j (by omega)

theorem wp_vBody (m10 : VM S1824 .f32) (mg : VM S4096 .f32) (mi mo : VM S12288 .f32) (m16 m17 : VM S512 .i32) (m18 : VM S512 .f32)
    (og ox oi0 oi1 oi2 oo0 oo1 oo2 : Fin 1 → Nat)
    (hg : ∀ a, og a + S16.size a ≤ S4096.size a) (hx : ∀ a, ox a + S16.size a ≤ S512.size a)
    (hi0 : ∀ a, oi0 a + S16.size a ≤ S12288.size a) (hi1 : ∀ a, oi1 a + S16.size a ≤ S12288.size a) (hi2 : ∀ a, oi2 a + S16.size a ≤ S12288.size a)
    (ho0 : ∀ a, oo0 a + S16.size a ≤ S12288.size a) (ho1 : ∀ a, oo1 a + S16.size a ≤ S12288.size a) (ho2 : ∀ a, oo2 a + S16.size a ≤ S12288.size a)
    (f10 : Buf (Elt F) (at_ d L m10)) (fg : Buf (Elt F) (at_ d L mg)) (fi : Buf (Elt F) (at_ d L mi)) (fo : Buf (Elt F) (at_ d L mo))
    (f16 : Buf (Elt F) (at_ d L m16)) (f17 : Buf (Elt F) (at_ d L m17)) (f18 : Buf (Elt F) (at_ d L m18))
    (T : ℕ → ℕ → F .f32) (hT : ∀ cz < 96, ∀ xi < 16, rd m10 f10 (19 * cz + xi) = T cz xi)
    (go xo : ℕ) (hgo : go + 16 ≤ 4096) (eg : og 0 = go) (ex : ox 0 = xo) (ei0 : oi0 0 = go) (ei1 : oi1 0 = 4096 + go) (ei2 : oi2 0 = 8192 + go)
    (eo0 : oo0 0 = go) (eo1 : oo1 0 = 4096 + go) (eo2 : oo2 0 = 8192 + go)
    (bx0 : ∀ x < 16, (rd m16 f16 (xo + x) : BitVec 32).toNat < 16) (bx1 : ∀ x < 16, (rd m17 f17 (xo + x) : BitVec 32).toNat < 16)
    (PX : ℕ → ℕ → F .f32) (hpre : ∀ o < 3, ∀ j < go, rd mo fo (4096 * o + j) = PX o j)
    (hpx : ∀ o < 3, ∀ x < 16, PX o (go + x) = pixS (rd m18 f18 (xo + x)) (rd mg fg (go + x)) (rd m16 f16 (xo + x) : BitVec 32).toNat (rd m17 f17 (xo + x) : BitVec 32).toNat
      (fun c => rd mi fi (4096 * c + (go + x))) T o)
    (Q : PUnit → sProp 𝕄) :
    iprop((at_ d L m10 ↦{fullShare} f10) ∗ (at_ d L mg ↦{fullShare} fg) ∗ (at_ d L mi ↦{fullShare} fi) ∗ (at_ d L mo ↦{fullShare} fo)
        ∗ (at_ d L m16 ↦{fullShare} f16) ∗ (at_ d L m17 ↦{fullShare} f17) ∗ (at_ d L m18 ↦{fullShare} f18))
      ⊢ iprop((iprop((at_ d L m10 ↦{fullShare} f10) ∗ (at_ d L mg ↦{fullShare} fg) ∗ (at_ d L mi ↦{fullShare} fi)
        ∗ (∃ fo' : Buf (Elt F) (at_ d L mo), ⌜∀ o < 3, ∀ j < go + 16, rd mo fo' (4096 * o + j) = PX o j⌝ ∗ (at_ d L mo ↦{fullShare} fo'))
        ∗ (at_ d L m16 ↦{fullShare} f16) ∗ (at_ d L m17 ↦{fullShare} f17) ∗ (at_ d L m18 ↦{fullShare} f18)) -∗ Q ⟨⟩)
      -∗ run d L (vBody L m10 mg mi mo m16 m17 m18 og ox oi0 oi1 oi2 oo0 oo1 oo2 hg hx hi0 hi1 hi2 ho0 ho1 ho2) Q) := by
  have hL : Lanes (addi (m16.view.readAt (Elt F) (Rect.unit (s := S512) ox S16.size hx).toLoadRect f16 : IVec S16 32) (zoV (mg.view.readAt (Elt F) (Rect.unit (s := S4096) og S16.size hg).toLoadRect fg) 8#32))
      (addi (m17.view.readAt (Elt F) (Rect.unit (s := S512) ox S16.size hx).toLoadRect f17 : IVec S16 32) (zoV (mg.view.readAt (Elt F) (Rect.unit (s := S4096) og S16.size hg).toLoadRect fg) 8#32))
      (addi (m16.view.readAt (Elt F) (Rect.unit (s := S512) ox S16.size hx).toLoadRect f16 : IVec S16 32) (zoV (mg.view.readAt (Elt F) (Rect.unit (s := S4096) og S16.size hg).toLoadRect fg) 7#32))
      (addi (m17.view.readAt (Elt F) (Rect.unit (s := S512) ox S16.size hx).toLoadRect f17 : IVec S16 32) (zoV (mg.view.readAt (Elt F) (Rect.unit (s := S4096) og S16.size hg).toLoadRect fg) 7#32))
      (fun x => (rd m16 f16 (xo + (x 0).val) : BitVec 32).toNat) (fun x => (rd m17 f17 (xo + (x 0).val) : BitVec 32).toNat)
      (fun x => zS (rd mg fg (go + (x 0).val)) 8#32) (fun x => zS (rd mg fg (go + (x 0).val)) 7#32) := by
    have key : ∀ (m : VM S512 .i32) (f : Buf (Elt F) (at_ d L m)) (k : BitVec 32) (x : S16.Idx), (rd m f (xo + (x 0).val) : BitVec 32).toNat < 16 →
        (addi (m.view.readAt (Elt F) (Rect.unit (s := S512) ox S16.size hx).toLoadRect f : IVec S16 32) (zoV (mg.view.readAt (Elt F) (Rect.unit (s := S4096) og S16.size hg).toLoadRect fg) k) x).toNat
          = (rd m f (xo + (x 0).val) : BitVec 32).toNat + zS (rd mg fg (go + (x 0).val)) k * 19 := fun m f k x hb => by
      have e1 := rd_load m f ox hx x
      have e2 := rd_load mg fg og hg x
      rw [ex] at e1
      rw [eg] at e2
      have hz := zS_le (rd mg fg (go + (x 0).val)) k
      show (m.view.readAt (Elt F) (Rect.unit (s := S512) ox S16.size hx).toLoadRect f x + zoV (mg.view.readAt (Elt F) (Rect.unit (s := S4096) og S16.size hg).toLoadRect fg) k x : BitVec 32).toNat = _
      rw [zoV_apply, e1, e2, BitVec.toNat_add, BitVec.toNat_mul]
      change (_ + zS _ k * 19 % _) % _ = _
      omega
    exact ⟨fun x => key m16 f16 8#32 x (bx0 _ (lane_lt x)), fun x => key m17 f17 8#32 x (bx1 _ (lane_lt x)), fun x => key m16 f16 7#32 x (bx0 _ (lane_lt x)),
      fun x => key m17 f17 7#32 x (bx1 _ (lane_lt x)), fun x => bx0 _ (lane_lt x), fun x => bx1 _ (lane_lt x), fun x => zS_le _ _, fun x => zS_le _ _⟩
  have hval : ∀ o < 3, ∀ x : S16.Idx, chanV (m18.view.readAt (Elt F) (Rect.unit (s := S512) ox S16.size hx).toLoadRect f18) (dzV (mg.view.readAt (Elt F) (Rect.unit (s := S4096) og S16.size hg).toLoadRect fg))
      (fun x => (rd m16 f16 (xo + (x 0).val) : BitVec 32).toNat) (fun x => (rd m17 f17 (xo + (x 0).val) : BitVec 32).toNat)
      (fun x => zS (rd mg fg (go + (x 0).val)) 8#32) (fun x => zS (rd mg fg (go + (x 0).val)) 7#32)
      (mi.view.readAt (Elt F) (Rect.unit (s := S12288) oi0 S16.size hi0).toLoadRect fi) (mi.view.readAt (Elt F) (Rect.unit (s := S12288) oi1 S16.size hi1).toLoadRect fi)
      (mi.view.readAt (Elt F) (Rect.unit (s := S12288) oi2 S16.size hi2).toLoadRect fi) T o x = PX o (go + (x 0).val) := fun o ho x => by
    rw [hpx o ho _ (lane_lt x)]
    unfold chanV pixS
    have e18 := rd_load m18 f18 ox hx x
    have eg' := rd_load mg fg og hg x
    have ep0 := rd_load mi fi oi0 hi0 x
    have ep1 := rd_load mi fi oi1 hi1 x
    have ep2 := rd_load mi fi oi2 hi2 x
    rw [ex] at e18
    rw [eg] at eg'
    rw [ei0] at ep0
    rw [ei1] at ep1
    rw [ei2] at ep2
    simp only [dzV_apply, e18, eg', ep0, ep1, ep2, Nat.mul_zero, Nat.zero_add, Nat.mul_one, show 4096 * 2 = 8192 from rfl, Nat.add_assoc]
  unfold vBody
  iintro ⟨Hm, Hg, Hi, Ho, H16, H17, H18⟩ Hk
  iapply (wp_load 𝒱₀ (V d (cV L) (jV L)) none Set.univ (m := mg) (S := Finset.univ) (Finset.subset_univ _)) $$ Hg
  iintro Hg
  iapply (wp_load 𝒱₀ (V d (cV L) (jV L)) none Set.univ (m := m16) (S := Finset.univ) (Finset.subset_univ _)) $$ H16
  iintro H16
  iapply (wp_load 𝒱₀ (V d (cV L) (jV L)) none Set.univ (m := m17) (S := Finset.univ) (Finset.subset_univ _)) $$ H17
  iintro H17
  iapply (wp_load 𝒱₀ (V d (cV L) (jV L)) none Set.univ (m := m18) (S := Finset.univ) (Finset.subset_univ _)) $$ H18
  iintro H18
  iapply (wp_load 𝒱₀ (V d (cV L) (jV L)) none Set.univ (m := mi) (S := Finset.univ) (Finset.subset_univ _)) $$ Hi
  iintro Hi
  iapply (wp_load 𝒱₀ (V d (cV L) (jV L)) none Set.univ (m := mi) (S := Finset.univ) (Finset.subset_univ _)) $$ Hi
  iintro Hi
  iapply (wp_load 𝒱₀ (V d (cV L) (jV L)) none Set.univ (m := mi) (S := Finset.univ) (Finset.subset_univ _)) $$ Hi
  iintro Hi
  iapply (wp_chan d L m10 f10 T hT _ _ hL _ _ _ 0#32 152#32 304#32 456#32 0 (by omega) rfl rfl rfl rfl mo oo0 ho0 fo) $$ [Hm Ho]
  · isplitl [Hm] <;> iassumption
  iintro Hm Ho
  iapply (wp_chan d L m10 f10 T hT _ _ hL _ _ _ 608#32 760#32 912#32 1064#32 1 (by omega) rfl rfl rfl rfl mo oo1 ho1) $$ [Hm Ho]
  · isplitl [Hm] <;> iassumption
  iintro Hm Ho
  iapply (wp_chan d L m10 f10 T hT _ _ hL _ _ _ 1216#32 1368#32 1520#32 1672#32 2 (by omega) rfl rfl rfl rfl mo oo2 ho2) $$ [Hm Ho]
  · isplitl [Hm] <;> iassumption
  iintro Hm Ho
  iapply (le_wp_ret)
  iapply Hk
  isplitl [Hm]; · iexact Hm
  isplitl [Hg]; · iexact Hg
  isplitl [Hi]; · iexact Hi
  isplitl [Ho]
  · iexists _
    isplitr; rotate_left
    · iexact Ho
    ipureintro
    exact three_stores mo fo oo0 oo1 oo2 ho0 ho1 ho2 _ _ _ go hgo eo0 eo1 eo2 PX hpre (hval 0 (by omega)) (hval 1 (by omega)) (hval 2 (by omega))
  isplitl [H16]; · iexact H16
  isplitl [H17]; · iexact H17
  iexact H18

theorem t2_trips : Scf.trips k0_t2_loop.lb k0_t2_loop.ub k0_t2_loop.st = 96 := by decide +kernel
theorem t3_trips : Scf.trips k0_t3_loop.lb k0_t3_loop.ub k0_t3_loop.st = 32 := by decide +kernel

/-- The loop of the table: each entry the blend of two rows of the grid. -/
theorem wp_tLoop (m9 : VM S49152 .f32) (m10 : VM S1824 .f32) (w : FVec F S16 .f32) (a b c : Fin k0_t2_loop.trips → Fin 1 → Nat)
    (ha : ∀ t, ∀ x, a t x + S16.size x ≤ S49152.size x) (hb : ∀ t, ∀ x, b t x + S16.size x ≤ S49152.size x)
    (hc : ∀ t, ∀ x, c t x + S16.size x ≤ S1824.size x)
    (S9 : Finset (Idx (at_ d L m9))) (q : PosShare TreeShare) (f9 : Buf (Elt F) (at_ d L m9)) (f10 : Buf (Elt F) (at_ d L m10))
    (hSa : ∀ t, m9.view.setOn (Rect.unit (s := S49152) (a t) S16.size (ha t)).toLoadRect.set ⊆ S9)
    (hSb : ∀ t, m9.view.setOn (Rect.unit (s := S49152) (b t) S16.size (hb t)).toLoadRect.set ⊆ S9)
    (w0 : F .f32) (hw : ∀ x, w x = w0) (a0 b0 : ℕ) (ea : ∀ t, a t 0 = a0 + 256 * t.val) (eb : ∀ t, b t 0 = b0 + 256 * t.val) (ec : ∀ t, c t 0 = 19 * t.val)
    (Q : PUnit → sProp 𝕄) :
    iprop((at_ d L m9 ↦[S9]{q} f9) ∗ (at_ d L m10 ↦{fullShare} f10))
      ⊢ iprop((iprop((at_ d L m9 ↦[S9]{q} f9) ∗ ∃ f10' : Buf (Elt F) (at_ d L m10),
          ⌜∀ cz < 96, ∀ xi < 16, rd m10 f10' (19 * cz + xi) = bl w0 (rd m9 f9 (a0 + (256 * cz + xi))) (rd m9 f9 (b0 + (256 * cz + xi)))⌝
            ∗ (at_ d L m10 ↦{fullShare} f10')) -∗ Q ⟨⟩)
        -∗ run d L (tLoop L m9 m10 w a b c ha hb hc) Q) := by
  unfold tLoop
  iintro ⟨H9, H10⟩ Hk
  iapply (Scf.wp_for (M := 𝕄) (Fr := frame) (wpE := wpE (defs₀ (F := F)) 𝒱₀ (V d (cV L) (jV L)) none) (Es := Set.univ) k0_t2_loop.lb k0_t2_loop.ub k0_t2_loop.st k0_t2_ok ⟨⟩ _
    (fun k (_ : PUnit) => iprop((at_ d L m9 ↦[S9]{q} f9) ∗ ∃ f10' : Buf (Elt F) (at_ d L m10),
          ⌜∀ cz < k, ∀ xi < 16, rd m10 f10' (19 * cz + xi) = bl w0 (rd m9 f9 (a0 + (256 * cz + xi))) (rd m9 f9 (b0 + (256 * cz + xi)))⌝
            ∗ (at_ d L m10 ↦{fullShare} f10'))) ?_)
  · intro k acc
    unfold tBody
    iintro ⟨H9, %f, %hf, H10⟩
    iapply (wp_load 𝒱₀ (V d (cV L) (jV L)) none Set.univ (m := m9) (S := S9) (hSa k)) $$ H9
    iintro H9
    iapply (wp_load 𝒱₀ (V d (cV L) (jV L)) none Set.univ (m := m9) (S := S9) (hSb k)) $$ H9
    iintro H9
    iapply (wp_load 𝒱₀ (V d (cV L) (jV L)) none Set.univ (m := m10) (S := Finset.univ) (Finset.subset_univ _)) $$ H10
    iintro H10
    iapply (wp_store 𝒱₀ (V d (cV L) (jV L)) none Set.univ (m := m10) (r := Rect.unit (s := S1824) (c k) S16.size (hc k)) (f := f) (S := Finset.univ) (Finset.subset_univ _)) $$ H10
    iintro H10
    iapply (le_wp_ret)
    isplitl [H9]; · iexact H9
    iexists _
    isplitr; rotate_left
    · iexact H10
    ipureintro
    intro cz hcz xi hxi
    have hk96 : k.val < 96 := lt_of_lt_of_eq k.isLt t2_trips
    have hst := rd_store m10 f (n := 16) (c k) (hc k) (blend w (m9.view.readAt (Elt F) (Rect.unit (s := S49152) (a k) S16.size (ha k)).toLoadRect f9)
      (m9.view.readAt (Elt F) (Rect.unit (s := S49152) (b k) S16.size (hb k)).toLoadRect f9)) (19 * cz + xi) (by omega)
    rw [ec k] at hst
    by_cases h : cz = k.val
    · subst h
      refine (hst.1 (ln xi) (by rw [ln_val xi hxi])).trans ?_
      have e1 := rd_load m9 f9 (a k) (ha k) (ln xi)
      have e2 := rd_load m9 f9 (b k) (hb k) (ln xi)
      rw [blend_apply, e1, e2, hw, ea, eb, ln_val xi hxi, Nat.add_assoc, Nat.add_assoc]
    · rw [← hf cz (by omega) xi hxi]
      exact hst.2 (by omega)
  · isplitl [H9 H10]
    · isplitl [H9]; · iexact H9
      iexists f10
      isplitr; rotate_left
      · iexact H10
      ipureintro
      intro cz hcz
      exact absurd hcz (Nat.not_lt_zero _)
    · iintro %acc ⟨H9, %f, %hf, H10⟩
      iapply Hk
      isplitl [H9]; · iexact H9
      iexists f
      isplitr; rotate_left
      · iexact H10
      ipureintro
      rw [t2_trips] at hf
      exact hf

/-- The loop of a row's pixels: row `r` of a block of eight. -/
theorem wp_vLoop (m10 : VM S1824 .f32) (mg : VM S4096 .f32) (mi mo : VM S12288 .f32) (m16 m17 : VM S512 .i32) (m18 : VM S512 .f32)
    (og ox : Fin k0_t3_loop.trips → Fin 1 → Nat) (oi : Fin k0_t3_loop.trips → BitVec 32 → Fin 1 → Nat) (oo0 oo1 oo2 : Fin k0_t3_loop.trips → Fin 1 → Nat)
    (hg : ∀ t, ∀ a, og t a + S16.size a ≤ S4096.size a) (hx : ∀ t, ∀ a, ox t a + S16.size a ≤ S512.size a)
    (hi : ∀ t, ∀ r : Fin 3, ∀ a, oi t (BitVec.ofNat 32 (4096 * r.val)) a + S16.size a ≤ S12288.size a)
    (ho0 : ∀ t, ∀ a, oo0 t a + S16.size a ≤ S12288.size a) (ho1 : ∀ t, ∀ a, oo1 t a + S16.size a ≤ S12288.size a)
    (ho2 : ∀ t, ∀ a, oo2 t a + S16.size a ≤ S12288.size a)
    (f10 : Buf (Elt F) (at_ d L m10)) (fg : Buf (Elt F) (at_ d L mg)) (fi : Buf (Elt F) (at_ d L mi)) (fo : Buf (Elt F) (at_ d L mo))
    (f16 : Buf (Elt F) (at_ d L m16)) (f17 : Buf (Elt F) (at_ d L m17)) (f18 : Buf (Elt F) (at_ d L m18))
    (T : ℕ → ℕ → F .f32) (hT : ∀ cz < 96, ∀ xi < 16, rd m10 f10 (19 * cz + xi) = T cz xi)
    (r : ℕ) (hr : r < 8) (eg : ∀ t, og t 0 = 512 * r + 16 * t.val) (ex : ∀ t, ox t 0 = 16 * t.val)
    (ei : ∀ t, ∀ c : Fin 3, oi t (BitVec.ofNat 32 (4096 * c.val)) 0 = 4096 * c.val + (512 * r + 16 * t.val))
    (eo0 : ∀ t, oo0 t 0 = 512 * r + 16 * t.val) (eo1 : ∀ t, oo1 t 0 = 4096 + (512 * r + 16 * t.val)) (eo2 : ∀ t, oo2 t 0 = 8192 + (512 * r + 16 * t.val))
    (bx0 : ∀ x < 512, (rd m16 f16 x : BitVec 32).toNat < 16) (bx1 : ∀ x < 512, (rd m17 f17 x : BitVec 32).toNat < 16)
    (PX : ℕ → ℕ → F .f32) (hpre : ∀ o < 3, ∀ j < 512 * r, rd mo fo (4096 * o + j) = PX o j)
    (hpx : ∀ o < 3, ∀ x < 512, PX o (512 * r + x) = pixS (rd m18 f18 x) (rd mg fg (512 * r + x)) (rd m16 f16 x : BitVec 32).toNat (rd m17 f17 x : BitVec 32).toNat
      (fun c => rd mi fi (4096 * c + (512 * r + x))) T o)
    (Q : PUnit → sProp 𝕄) :
    iprop((at_ d L m10 ↦{fullShare} f10) ∗ (at_ d L mg ↦{fullShare} fg) ∗ (at_ d L mi ↦{fullShare} fi) ∗ (at_ d L mo ↦{fullShare} fo)
        ∗ (at_ d L m16 ↦{fullShare} f16) ∗ (at_ d L m17 ↦{fullShare} f17) ∗ (at_ d L m18 ↦{fullShare} f18))
      ⊢ iprop((iprop((at_ d L m10 ↦{fullShare} f10) ∗ (at_ d L mg ↦{fullShare} fg) ∗ (at_ d L mi ↦{fullShare} fi)
        ∗ (∃ fo' : Buf (Elt F) (at_ d L mo), ⌜∀ o < 3, ∀ j < 512 * (r + 1), rd mo fo' (4096 * o + j) = PX o j⌝ ∗ (at_ d L mo ↦{fullShare} fo'))
        ∗ (at_ d L m16 ↦{fullShare} f16) ∗ (at_ d L m17 ↦{fullShare} f17) ∗ (at_ d L m18 ↦{fullShare} f18)) -∗ Q ⟨⟩)
      -∗ run d L (vLoop L m10 mg mi mo m16 m17 m18 og ox oi oo0 oo1 oo2 hg hx hi ho0 ho1 ho2) Q) := by
  unfold vLoop
  iintro ⟨Hm, Hg, Hi, Ho, H16, H17, H18⟩ Hk
  iapply (Scf.wp_for (M := 𝕄) (Fr := frame) (wpE := wpE (defs₀ (F := F)) 𝒱₀ (V d (cV L) (jV L)) none) (Es := Set.univ) k0_t3_loop.lb k0_t3_loop.ub k0_t3_loop.st k0_t3_ok ⟨⟩ _
    (fun k (_ : PUnit) => iprop((at_ d L m10 ↦{fullShare} f10) ∗ (at_ d L mg ↦{fullShare} fg) ∗ (at_ d L mi ↦{fullShare} fi)
        ∗ (∃ fo' : Buf (Elt F) (at_ d L mo), ⌜∀ o < 3, ∀ j < 512 * r + 16 * k, rd mo fo' (4096 * o + j) = PX o j⌝ ∗ (at_ d L mo ↦{fullShare} fo'))
        ∗ (at_ d L m16 ↦{fullShare} f16) ∗ (at_ d L m17 ↦{fullShare} f17) ∗ (at_ d L m18 ↦{fullShare} f18))) ?_)
  · intro k acc
    have hk : k.val < 32 := lt_of_lt_of_eq k.isLt t3_trips
    iintro ⟨Hm, Hg, Hi, ⟨%f, %hf, Ho⟩, H16, H17, H18⟩
    have e0 := ei k 0
    have e1 := ei k 1
    have e2 := ei k 2
    iapply (wp_vBody d L m10 mg mi mo m16 m17 m18 (og k) (ox k) (oi k 0#32) (oi k 4096#32) (oi k 8192#32) (oo0 k) (oo1 k) (oo2 k)
      (hg k) (hx k) (hi k 0) (hi k 1) (hi k 2) (ho0 k) (ho1 k) (ho2 k) f10 fg fi f f16 f17 f18 T hT (512 * r + 16 * k.val) (16 * k.val) (by omega) (eg k) (ex k)
      (by simpa using e0) (by simpa using e1) (by simpa using e2) (eo0 k) (eo1 k) (eo2 k) (fun x hx => bx0 _ (by omega)) (fun x hx => bx1 _ (by omega)) PX hf
      (fun o ho x hx => by
        have := hpx o ho (16 * k.val + x) (by omega)
        simp only [Nat.add_assoc] at this ⊢
        exact this)) $$ [Hm Hg Hi Ho H16 H17 H18]
    · isplitl [Hm]; · iexact Hm
      isplitl [Hg]; · iexact Hg
      isplitl [Hi]; · iexact Hi
      isplitl [Ho]; · iexact Ho
      isplitl [H16]; · iexact H16
      isplitl [H17] <;> iassumption
    iintro ⟨Hm, Hg, Hi, ⟨%f', %hf', Ho⟩, H16, H17, H18⟩
    isplitl [Hm]; · iexact Hm
    isplitl [Hg]; · iexact Hg
    isplitl [Hi]; · iexact Hi
    isplitl [Ho]
    · iexists f'
      isplitr; rotate_left
      · iexact Ho
      ipureintro
      intro o ho j hj
      exact hf' o ho j (by omega)
    isplitl [H16]; · iexact H16
    isplitl [H17] <;> iassumption
  · isplitl [Hm Hg Hi Ho H16 H17 H18]
    · isplitl [Hm]; · iexact Hm
      isplitl [Hg]; · iexact Hg
      isplitl [Hi]; · iexact Hi
      isplitl [Ho]
      · iexists fo
        isplitr; rotate_left
        · iexact Ho
        ipureintro
        intro o ho j hj
        exact hpre o ho j (by omega)
      isplitl [H16]; · iexact H16
      isplitl [H17] <;> iassumption
    · iintro %acc ⟨Hm, Hg, Hi, ⟨%f', %hf', Ho⟩, H16, H17, H18⟩
      iapply Hk
      isplitl [Hm]; · iexact Hm
      isplitl [Hg]; · iexact Hg
      isplitl [Hi]; · iexact Hi
      isplitl [Ho]
      · iexists f'
        isplitr; rotate_left
        · iexact Ho
        ipureintro
        intro o ho j hj
        rw [t3_trips] at hf'
        exact hf' o ho j (by omega)
      isplitl [H16]; · iexact H16
      isplitl [H17] <;> iassumption

end Cert.Proof.Tile
-- ==== Proof.Dma.lean ====
/- The tile's copies: what each moves, and the rules for issuing and awaiting them. -/
module

public import proofs.«01_k».proof.Proof.Loops
public import Idealize.ShloMosaic.Lib.Batch
public import Idealize.ShloMosaic.Lib.ViewIndex
public import Idealize.ShloMosaic.Lib.Pointwise.Reshape

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Entries of two-axis arrays -/

/-- The place `(r, n)` of an `M × N` array. -/
def ix2 {M N : ℕ} [NeZero M] [NeZero N] (r n : ℕ) : (⟨2, ![M, N]⟩ : Shape).Idx :=
  fun a => match a with
    | 0 => ⟨r % M, Nat.mod_lt _ (Nat.pos_of_ne_zero (NeZero.ne M))⟩
    | 1 => ⟨n % N, Nat.mod_lt _ (Nat.pos_of_ne_zero (NeZero.ne N))⟩

theorem ix2_val0 {M N : ℕ} [NeZero M] [NeZero N] (r n : ℕ) : (ix2 (M := M) (N := N) r n 0).val = r % M := rfl
theorem ix2_val1 {M N : ℕ} [NeZero M] [NeZero N] (r n : ℕ) : (ix2 (M := M) (N := N) r n 1).val = n % N := rfl

theorem eq_ix2 {M N : ℕ} [NeZero M] [NeZero N] (y : (⟨2, ![M, N]⟩ : Shape).Idx) (r n : ℕ) (h0 : (y 0).val = r) (h1 : (y 1).val = n) : y = ix2 r n := by
  have b0 : (y 0).val < M := (y 0).isLt
  have b1 : (y 1).val < N := (y 1).isLt
  funext a
  match a with
  | 0 => apply Fin.ext; rw [ix2_val0, ← h0, Nat.mod_eq_of_lt b0]
  | 1 => apply Fin.ext; rw [ix2_val1, ← h1, Nat.mod_eq_of_lt b1]

/-- Entry `(r, n)` of what a memref of two axes reads. -/
def rd2 {κ : Kind} {sp : Space} {M N : ℕ} [NeZero M] [NeZero N] {e : EltTy} (m : Memref sig κ sp ⟨2, ![M, N]⟩ e) (f : m.view.ty.Contents (Elt F)) (r n : ℕ) : Elt F e :=
  m.view.read (Elt F) f (ix2 r n)

/-- A row of an array, read at an entry. -/
theorem rd_row {κ : Kind} {sp : Space} {M N n : ℕ} [NeZero M] [NeZero N] [NeZero n] {e : EltTy} (m : Memref sig κ sp ⟨2, ![M, N]⟩ e)
    (o : Fin 2 → ℕ) (h : ∀ a, o a + (![1, n] : Fin 2 → ℕ) a ≤ (⟨2, ![M, N]⟩ : Shape).size a) (hs : ∀ a, (Rect.unit (s := ⟨2, ![M, N]⟩) o ![1, n] h).stride a = 1)
    (hq : (⟨2, ![1, n]⟩ : Shape).Squeezes ⟨1, ![n]⟩) (f : m.view.ty.Contents (Elt F)) (j : ℕ) (hj : j < n) :
    rd ((m.slice (Rect.unit (s := ⟨2, ![M, N]⟩) o ![1, n] h) hs).squeeze ⟨1, ![n]⟩ hq) f j = rd2 m f (o 0) (o 1 + j) := by
  have e : Shape.reshapeEquiv hq.numel_eq (ix1 (N := n) j) = (ix2 (M := 1) (N := n) 0 j) := by
    apply Shape.reshapeEquiv_eq_of_rowMajor
    rw [rowMajor_val1, rowMajor_val2 _ n rfl, ix1_val, ix2_val0, ix2_val1]
    simp
  have e' : (Rect.unit (s := ⟨2, ![M, N]⟩) o ![1, n] h).emb (ix2 (M := 1) (N := n) 0 j) = ix2 (o 0) (o 1 + j) := by
    apply eq_ix2
    · show o 0 + 1 * (0 % 1) = o 0
      omega
    · show o 1 + 1 * (j % n) = _
      rw [Nat.mod_eq_of_lt hj]; omega
  show m.view.read (Elt F) f ((Rect.unit (s := ⟨2, ![M, N]⟩) o ![1, n] h).emb (Shape.reshapeEquiv hq.numel_eq (ix1 (N := n) j))) = _
  rw [e, e']
  rfl

/-- A stretch of a buffer, read at an entry. -/
theorem rd_seg {κ : Kind} {sp : Space} {N n : ℕ} [NeZero N] [NeZero n] {e : EltTy} (m : Memref sig κ sp ⟨1, ![N]⟩ e)
    (o : Fin 1 → ℕ) (h : ∀ a, o a + (![n] : Fin 1 → ℕ) a ≤ (⟨1, ![N]⟩ : Shape).size a) (hs : ∀ a, (Rect.unit (s := ⟨1, ![N]⟩) o ![n] h).stride a = 1)
    (f : m.view.ty.Contents (Elt F)) (j : ℕ) (hj : j < n) :
    rd (m.slice (Rect.unit (s := ⟨1, ![N]⟩) o ![n] h) hs) f j = rd m f (o 0 + j) := by
  have e' : (Rect.unit (s := ⟨1, ![N]⟩) o ![n] h).emb (ix1 (N := n) j) = ix1 (o 0 + j) := by
    apply eq_ix1
    show o 0 + 1 * (j % n) = _
    rw [Nat.mod_eq_of_lt hj]; omega
  show m.view.read (Elt F) f ((Rect.unit (s := ⟨1, ![N]⟩) o ![n] h).emb (ix1 (N := n) j)) = _
  rw [e']
  rfl

/-- A whole-view write, read at an entry. -/
theorem rd_write {κ : Kind} {sp : Space} {N : ℕ} [NeZero N] {e : EltTy} (m : Memref sig κ sp ⟨1, ![N]⟩ e) (f : m.view.ty.Contents (Elt F))
    (w : (⟨1, ![N]⟩ : Shape).Idx → Elt F e) (j : ℕ) : rd m (m.view.write (Elt F) f w Finset.univ) j = w (ix1 j) := by
  rw [rd, View.read_write_univ]

variable (d : Dev nD) (L : grid0.Coords)

abbrev EC : UEmb Counters (MT nD τ sig (HIx 1) (Elt F) ℕ UU ℕ) := countersEmb

/-- Some share of a location at known contents. -/
def Sh (ℓ : Loc nD τ sig) (f : Buf (Elt F) ℓ) : sProp (MT nD τ sig (HIx 1) (Elt F) ℕ UU ℕ) := iprop(∃ q, ℓ ↦{q} f)

theorem Sh_lend (ℓ : Loc nD τ sig) (f : Buf (Elt F) ℓ) (I : Finset (Idx ℓ)) : (Sh ℓ f : sProp 𝕄) ⊢ iprop(Sh ℓ f ∗ ∃ q, ℓ ↦[I]{q} f) := by
  unfold Sh
  iintro ⟨%q, H⟩
  ihave H' := (show (ℓ ↦{q} f : sProp 𝕄) ⊢ _ from (pointsTo_share (PosShare.mem_left_op_right q)).1) $$ H
  icases H' with ⟨Ha, Hb⟩
  isplitl [Ha]
  · iexists _; iexact Ha
  · ihave Hb' := (show (ℓ ↦{q.right} f : sProp 𝕄) ⊢ _ from (pointsTo_split_subset (Finset.subset_univ I)).1) $$ Hb
    icases Hb' with ⟨Hb, -⟩
    iexists _; iexact Hb

/-- What the thread owes, after waits of its own. -/
def Ow (O : CellTallies nD τ sig (HIx 1)) (W : Waits sig (HIx 1)) : sProp (MT nD τ sig (HIx 1) (Elt F) ℕ UU ℕ) :=
  iprop(∃ W', ⌜∀ p ∈ W', p ∈ W ∨ p.2 = none ∨ p.2 = some (0 : Fin 1)⌝ ∗ owes (V d (cV L) (jV L)) O W')

abbrev Mw (O : CellTallies nD τ sig (HIx 1)) : sProp (MT nD τ sig (HIx 1) (Elt F) ℕ UU ℕ) := Transfers.MayWaits (V d (cV L) (jV L)) (default : HIx 1) O

theorem Ow_insert (W W' : Waits sig (HIx 1)) (sm : SemLoc sig) (h : ∀ p ∈ W', p ∈ W ∨ p.2 = none ∨ p.2 = some (0 : Fin 1)) :
    ∀ p ∈ insert (sm, (default : HIx 1)) W', p ∈ W ∨ p.2 = none ∨ p.2 = some (0 : Fin 1) := by
  intro p hp
  rcases Finset.mem_insert.mp hp with rfl | hp
  · exact .inr (.inl rfl)
  · exact h p hp

/-- The credit of a copy of 4096 words. -/
abbrev cr : ℕ := (a11).view.dmaCredit
theorem cr_pos : 0 < cr := View.dmaCredit_pos _ (by decide)
theorem cr13 : (a13).view.dmaCredit = cr := rfl
theorem cr12 (o : Fin 1 → Nat) (h : ∀ a, o a + S4096.size a ≤ S12288.size a) : (seg a12 o h).view.dmaCredit = cr := rfl
theorem cr14 (o : Fin 1 → Nat) (h : ∀ a, o a + S4096.size a ≤ S12288.size a) : (seg a14 o h).view.dmaCredit = cr := rfl

theorem bigSep_three (Φ : Fin 3 → sProp 𝕄) : bigSep Finset.univ Φ = iprop(Φ 0 ∗ Φ 1 ∗ Φ 2) :=
  bigSep_univ_eq_bigSepL [0, 1, 2] (by decide) (by decide) Φ
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- An element of a stretch. -/
theorem mem_seg {κ : Kind} {sp : Space} {N n : ℕ} [NeZero N] [NeZero n] {e : EltTy} (m : Memref sig κ sp ⟨1, ![N]⟩ e)
    (o : Fin 1 → ℕ) (h : ∀ a, o a + (![n] : Fin 1 → ℕ) a ≤ (⟨1, ![N]⟩ : Shape).size a) (hs : ∀ a, (Rect.unit (s := ⟨1, ![N]⟩) o ![n] h).stride a = 1) (y : m.view.ty.Idx) :
    y ∈ (m.slice (Rect.unit (s := ⟨1, ![N]⟩) o ![n] h) hs).view.set ↔ ∃ j < n, y = m.view.emb (ix1 (o 0 + j)) := by
  constructor
  · intro hy
    obtain ⟨x, e⟩ := View.exists_of_mem_set_slice hy
    refine ⟨(x 0).val, (x 0).isLt, e.symm.trans (congrArg _ (eq_ix1 _ _ ?_))⟩
    show o 0 + 1 * (x 0).val = _
    omega
  · rintro ⟨j, hj, rfl⟩
    have e' : (Rect.unit (s := ⟨1, ![N]⟩) o ![n] h).emb (ix1 (N := n) j) = ix1 (o 0 + j) := by
      apply eq_ix1
      show o 0 + 1 * (j % n) = _
      rw [Nat.mod_eq_of_lt hj]; omega
    rw [← e']
    exact (m.slice (Rect.unit (s := ⟨1, ![N]⟩) o ![n] h) hs).view.emb_mem_set (ix1 j)

/-- Two stretches apart share no element. -/
theorem seg_disjoint {κ : Kind} {sp : Space} {N n : ℕ} [NeZero N] [NeZero n] {e : EltTy} (m : Memref sig κ sp ⟨1, ![N]⟩ e)
    (o o' : Fin 1 → ℕ) (h : ∀ a, o a + (![n] : Fin 1 → ℕ) a ≤ (⟨1, ![N]⟩ : Shape).size a) (h' : ∀ a, o' a + (![n] : Fin 1 → ℕ) a ≤ (⟨1, ![N]⟩ : Shape).size a)
    (hs : ∀ a, (Rect.unit (s := ⟨1, ![N]⟩) o ![n] h).stride a = 1) (hs' : ∀ a, (Rect.unit (s := ⟨1, ![N]⟩) o' ![n] h').stride a = 1)
    (hd : o 0 + n ≤ o' 0 ∨ o' 0 + n ≤ o 0) :
    Disjoint (m.slice (Rect.unit (s := ⟨1, ![N]⟩) o ![n] h) hs).view.set (m.slice (Rect.unit (s := ⟨1, ![N]⟩) o' ![n] h') hs').view.set := by
  rw [Finset.disjoint_left]
  intro y hy hy'
  obtain ⟨j, hj, e⟩ := (mem_seg m o h hs y).mp hy
  obtain ⟨j', hj', e'⟩ := (mem_seg m o' h' hs' y).mp hy'
  have b : o 0 + n ≤ N := h 0
  have b' : o' 0 + n ≤ N := h' 0
  have := congrArg (fun x => (x 0).val) (m.view.emb.injective (e.symm.trans e'))
  simp only [ix1_val] at this
  rw [Nat.mod_eq_of_lt (by omega), Nat.mod_eq_of_lt (by omega)] at this
  omega

/-- A read sees only its own element. -/
theorem rd_congr {κ : Kind} {sp : Space} {N : ℕ} [NeZero N] {e : EltTy} (m : Memref sig κ sp ⟨1, ![N]⟩ e) (f g : m.view.ty.Contents (Elt F)) (j : ℕ)
    (h : f (m.view.emb (ix1 j)) = g (m.view.emb (ix1 j))) : rd m f j = rd m g j := by
  unfold rd View.read
  rw [h]

/-! ## A block's four copies in -/

/-- The guide's copy landed. -/
def dG (mg : VM S4096 .f32) (gd : ℕ → F .f32) (n0 : ℕ) : sProp (MT nD τ sig (HIx 1) (Elt F) ℕ UU ℕ) :=
  iprop(∃ f : Buf (Elt F) (at_ d L mg), ⌜∀ j < 4096, rd mg f j = gd (n0 + j)⌝ ∗ (at_ d L mg ↦{fullShare} f))

/-- A channel's copy landed. -/
def dC (mi : VM S12288 .f32) (o : Fin 1 → Nat) (h : ∀ a, o a + S4096.size a ≤ S12288.size a) (p : ℕ → F .f32) (n0 : ℕ) : sProp (MT nD τ sig (HIx 1) (Elt F) ℕ UU ℕ) :=
  iprop(∃ f : Buf (Elt F) (at_ d L mi), ⌜∀ j < 4096, rd mi f (o 0 + j) = p (n0 + j)⌝ ∗ (at_ d L mi ↦[(seg mi o h).view.set]{fullShare} f))

/-- All three channels' copies landed. -/
def dI (mi : VM S12288 .f32) (im : ℕ → ℕ → F .f32) (n0 : ℕ) : sProp (MT nD τ sig (HIx 1) (Elt F) ℕ UU ℕ) :=
  iprop(∃ f : Buf (Elt F) (at_ d L mi), ⌜∀ c < 3, ∀ j < 4096, rd mi f (4096 * c + j) = im c (n0 + j)⌝ ∗ (at_ d L mi ↦{fullShare} f))

/-- The four deliveries, in the order of issue. -/
def dAll (mg : VM S4096 .f32) (mi : VM S12288 .f32) (gd : ℕ → F .f32) (im : ℕ → ℕ → F .f32) (n0 : ℕ) (t : Fin 4) : sProp (MT nD τ sig (HIx 1) (Elt F) ℕ UU ℕ) :=
  match t with
  | 0 => dG d L mg gd n0
  | 1 => dC d L mi ![0] inb_S12288_S4096_0 (im 0) n0
  | 2 => dC d L mi ![4096] inb_S12288_S4096_4096 (im 1) n0
  | 3 => dC d L mi ![8192] inb_S12288_S4096_8192 (im 2) n0

instance dAll_storable (mg : VM S4096 .f32) (mi : VM S12288 .f32) (gd : ℕ → F .f32) (im : ℕ → ℕ → F .f32) (n0 : ℕ) (t : Fin 4) :
    Storable (upEmb : UEmb _ (MT nD τ sig (HIx 1) (Elt F) ℕ UU ℕ)) (dAll (F := F) d L mg mi gd im n0 t) := by
  match t with
  | 0 => unfold dAll dG; infer_instance
  | 1 => unfold dAll dC; infer_instance
  | 2 => unfold dAll dC; infer_instance
  | 3 => unfold dAll dC; infer_instance

/-- The channel's part of a three-channel buffer. -/
abbrev K3 (mi : VM S12288 .f32) (c : Fin 3) : Finset (Idx (at_ d L mi)) :=
  match c with
  | 0 => (seg mi ![0] inb_S12288_S4096_0).view.set
  | 1 => (seg mi ![4096] inb_S12288_S4096_4096).view.set
  | 2 => (seg mi ![8192] inb_S12288_S4096_8192).view.set

theorem K3_disjoint (mi : VM S12288 .f32) : ∀ c ∈ (Finset.univ : Finset (Fin 3)), ∀ c' ∈ (Finset.univ : Finset (Fin 3)), c ≠ c' → Disjoint (K3 d L mi c) (K3 d L mi c') := by
  intro c _ c' _ hc
  match c, c' with
  | 0, 0 => exact absurd rfl hc
  | 1, 1 => exact absurd rfl hc
  | 2, 2 => exact absurd rfl hc
  | 0, 1 => exact seg_disjoint (N := 12288) (n := 4096) mi _ _ _ _ _ _ (by decide)
  | 0, 2 => exact seg_disjoint (N := 12288) (n := 4096) mi _ _ _ _ _ _ (by decide)
  | 1, 0 => exact seg_disjoint (N := 12288) (n := 4096) mi _ _ _ _ _ _ (by decide)
  | 1, 2 => exact seg_disjoint (N := 12288) (n := 4096) mi _ _ _ _ _ _ (by decide)
  | 2, 0 => exact seg_disjoint (N := 12288) (n := 4096) mi _ _ _ _ _ _ (by decide)
  | 2, 1 => exact seg_disjoint (N := 12288) (n := 4096) mi _ _ _ _ _ _ (by decide)

theorem mem_K3 (mi : VM S12288 .f32) (c : Fin 3) (j : ℕ) (hj : j < 4096) : mi.view.emb (ix1 (4096 * c.val + j)) ∈ K3 d L mi c := by
  match c with
  | 0 => exact (mem_seg (N := 12288) (n := 4096) mi ![0] inb_S12288_S4096_0 _ _).mpr ⟨j, hj, rfl⟩
  | 1 => exact (mem_seg (N := 12288) (n := 4096) mi ![4096] inb_S12288_S4096_4096 _ _).mpr ⟨j, hj, rfl⟩
  | 2 => exact (mem_seg (N := 12288) (n := 4096) mi ![8192] inb_S12288_S4096_8192 _ _).mpr ⟨j, hj, rfl⟩

theorem K3_union (mi : VM S12288 .f32) (hmi : mi.view.set = Finset.univ) : (Finset.univ : Finset (Fin 3)).biUnion (K3 d L mi) = Finset.univ := by
  refine Finset.eq_univ_of_forall fun y => ?_
  have hy : y ∈ mi.view.set := by rw [hmi]; exact Finset.mem_univ y
  obtain ⟨x, -, e⟩ := Finset.mem_map.mp hy
  have hx : (x 0).val < 12288 := (x 0).isLt
  have hx' : x = ix1 (4096 * ((x 0).val / 4096) + (x 0).val % 4096) := eq_ix1 _ _ (by omega)
  refine Finset.mem_biUnion.mpr ⟨⟨(x 0).val / 4096, by omega⟩, Finset.mem_univ _, ?_⟩
  have := mem_K3 d L mi ⟨(x 0).val / 4096, by omega⟩ ((x 0).val % 4096) (Nat.mod_lt _ (by omega))
  have e' : mi.view.emb (ix1 (4096 * ((x 0).val / 4096) + (x 0).val % 4096)) = y := by rw [← hx', e]
  rw [← e']
  exact this

/-- A three-channel buffer cut into its channels. -/
theorem cut3 (mi : VM S12288 .f32) (hmi : mi.view.set = Finset.univ) (f : Buf (Elt F) (at_ d L mi)) :
    (at_ d L mi ↦{fullShare} f : sProp 𝕄) ⊢ iprop((at_ d L mi ↦[(seg mi ![0] inb_S12288_S4096_0).view.set]{fullShare} f)
      ∗ (at_ d L mi ↦[(seg mi ![4096] inb_S12288_S4096_4096).view.set]{fullShare} f)
      ∗ (at_ d L mi ↦[(seg mi ![8192] inb_S12288_S4096_8192).view.set]{fullShare} f)) := by
  rw [show (Finset.univ : Finset (Idx (at_ d L mi))) = _ from (K3_union d L mi hmi).symm, pointsTo_biUnion _ _ (K3_disjoint d L mi)]
  rw [bigSep_three]

/-- Its channels joined. -/
theorem join3 (mi : VM S12288 .f32) (hmi : mi.view.set = Finset.univ) (im : ℕ → ℕ → F .f32) (n0 : ℕ) :
    iprop(dC d L mi ![0] inb_S12288_S4096_0 (im 0) n0 ∗ dC d L mi ![4096] inb_S12288_S4096_4096 (im 1) n0 ∗ dC d L mi ![8192] inb_S12288_S4096_8192 (im 2) n0)
      ⊢ (dI d L mi im n0 : sProp 𝕄) := by
  unfold dC dI
  iintro ⟨⟨%f0, %h0, H0⟩, ⟨%f1, %h1, H1⟩, ⟨%f2, %h2, H2⟩⟩
  ihave H := (pointsTo_biUnion_join (Finset.univ : Finset (Fin 3)) (K3 d L mi) (q := fullShare) (fun c => match c with | 0 => f0 | 1 => f1 | 2 => f2) f0 (K3_disjoint d L mi)) $$ [H0 H1 H2]
  · rw [bigSep_three]
    isplitl [H0]; · iexact H0
    isplitl [H1]; · iexact H1
    iexact H2
  icases H with ⟨%g, %hg, H⟩
  rw [K3_union d L mi hmi]
  iexists g
  isplitr; rotate_left
  · iexact H
  ipureintro
  intro c hc j hj
  have key := fun (c : Fin 3) => hg c (Finset.mem_univ _) _ (mem_K3 d L mi c j hj)
  match c, hc with
  | 0, _ => exact (rd_congr mi _ _ _ (key 0)).trans (h0 j hj)
  | 1, _ => exact (rd_congr mi _ _ _ (key 1)).trans (h1 j hj)
  | 2, _ => exact (rd_congr mi _ _ _ (key 2)).trans (h2 j hj)

abbrev a3L : Loc nD τ sig := (a3).view.loc (V d (cV L) (jV L))
abbrev a4L : Loc nD τ sig := (a4).view.loc (V d (cV L) (jV L))

theorem wp_fetch (mg : VM S4096 .f32) (mi : VM S12288 .f32) (sem : DmaSem sig) (og oc0 oc1 oc2 : Fin 2 → Nat)
    (hg : ∀ a, og a + S1x4096.size a ≤ S4x262144.size a) (h0 : ∀ a, oc0 a + S1x4096.size a ≤ S12x262144.size a)
    (h1 : ∀ a, oc1 a + S1x4096.size a ≤ S12x262144.size a) (h2 : ∀ a, oc2 a + S1x4096.size a ≤ S12x262144.size a)
    (hmi : mi.view.set = Finset.univ) (hcg : mg.view.dmaCredit = cr) (hci : ∀ o h, (seg mi o h).view.dmaCredit = cr)
    (f3 : Buf (Elt F) (a3L d L)) (f4 : Buf (Elt F) (a4L d L)) (b n0 : ℕ)
    (eg : og = ![b, n0]) (e0 : oc0 = ![3 * b, n0]) (e1 : oc1 = ![3 * b + 1, n0]) (e2 : oc2 = ![3 * b + 2, n0]) (Q : PUnit → sProp 𝕄) :
    iprop(Sh (a3L d L) f3 ∗ Sh (a4L d L) f4 ∗ (∃ f, at_ d L mg ↦{fullShare} f) ∗ (∃ f, at_ d L mi ↦{fullShare} f) ∗ semVal (V d (cV L) (jV L), .dma sem) 0)
      ⊢ iprop((iprop(Sh (a3L d L) f3 ∗ Sh (a4L d L) f4
          ∗ Transfers.Batch EC (V d (cV L) (jV L)) (.dma sem) (default : HIx 1) cr (dAll d L mg mi (rd2 a3 f3 b) (fun c => rd2 a4 f4 (3 * b + c)) n0) 4 0) -∗ Q ⟨⟩)
        -∗ run d L (fetch L mg mi sem og oc0 oc1 oc2 hg h0 h1 h2) Q) := by
  unfold fetch
  iintro ⟨H3, H4, ⟨%fg, Hg⟩, ⟨%fi, Hi⟩, Hs⟩ Hk
  imod (Transfers.batch_alloc' EC (V d (cV L) (jV L)) (sm := .dma sem) (default : HIx 1) cr (dAll d L mg mi (rd2 a3 f3 b) (fun c => rd2 a4 f4 (3 * b + c)) n0) (E := Set.univ)) $$ Hs with HB
  ihave Hi' := (cut3 (F := F) d L mi hmi fi) $$ Hi
  icases Hi' with ⟨Hi0, Hi1, Hi2⟩
  ihave H3' := (Sh_lend (F := F) (a3L d L) f3 (gRow og hg).view.set) $$ H3
  icases H3' with ⟨H3, %qg, Hsg⟩
  ihave H4' := (Sh_lend (F := F) (a4L d L) f4 (cRow a4 oc0 h0).view.set) $$ H4
  icases H4' with ⟨H4, %q0, Hs0⟩
  ihave H4' := (Sh_lend (F := F) (a4L d L) f4 (cRow a4 oc1 h1).view.set) $$ H4
  icases H4' with ⟨H4, %q1, Hs1⟩
  ihave H4' := (Sh_lend (F := F) (a4L d L) f4 (cRow a4 oc2 h2).view.set) $$ H4
  icases H4' with ⟨H4, %q2, Hs2⟩
  iapply (Transfers.wp_dmaBatch EC 𝒱₀ (V d (cV L) (jV L)) none (src := gRow og hg) (dst := mg) (sm := .dma sem) (Sd := Finset.univ) (fd := fg) (fs := f3) (q := qg) (D := dAll d L mg mi (rd2 a3 f3 b) (fun c => rd2 a4 f4 (3 * b + c)) n0) (j := 0) (u := 0)
    (default : HIx 1) cr hcg (Finset.subset_univ _) (by decide) (Nat.zero_le _) ?_) $$ [Hsg Hg HB]
  · iintro ⟨H, -⟩
    unfold dAll dG
    iexists _
    isplitr; rotate_left
    · iexact H
    ipureintro
    intro j hj
    refine (rd_write mg fg _ j).trans ?_
    refine (rd_row a3 og hg (fun _ => rfl) squeezes_S1x4096_S4096 f3 j hj).trans ?_
    rw [eg]; rfl
  · isplitl [Hsg]; · iexact Hsg
    isplitl [Hg] <;> iassumption
  iintro HB
  iapply (Transfers.wp_dmaBatch EC 𝒱₀ (V d (cV L) (jV L)) none (src := cRow a4 oc0 h0) (dst := seg mi ![0] inb_S12288_S4096_0) (sm := .dma sem) (Sd := (seg mi ![0] inb_S12288_S4096_0).view.set) (fd := fi) (fs := f4) (q := q0) (D := dAll d L mg mi (rd2 a3 f3 b) (fun c => rd2 a4 f4 (3 * b + c)) n0) (j := 1) (u := 0)
    (default : HIx 1) cr (hci _ _) (Finset.Subset.refl _) (by decide) (Nat.zero_le _) ?_) $$ [Hs0 Hi0 HB]
  · iintro ⟨H, -⟩
    unfold dAll dC
    iexists _
    isplitr; rotate_left
    · iexact H
    ipureintro
    intro j hj
    refine (rd_seg (N := 12288) (n := 4096) mi ![0] inb_S12288_S4096_0 (fun _ => rfl) _ j hj).symm.trans ?_
    refine (rd_write (seg mi ![0] inb_S12288_S4096_0) fi _ j).trans ?_
    refine (rd_row (N := 262144) a4 oc0 h0 (fun _ => rfl) squeezes_S1x4096_S4096 f4 j hj).trans ?_
    rw [e0]; rfl
  · isplitl [Hs0]; · iexact Hs0
    isplitl [Hi0] <;> iassumption
  iintro HB
  iapply (Transfers.wp_dmaBatch EC 𝒱₀ (V d (cV L) (jV L)) none (src := cRow a4 oc1 h1) (dst := seg mi ![4096] inb_S12288_S4096_4096) (sm := .dma sem) (Sd := (seg mi ![4096] inb_S12288_S4096_4096).view.set) (fd := fi) (fs := f4) (q := q1) (D := dAll d L mg mi (rd2 a3 f3 b) (fun c => rd2 a4 f4 (3 * b + c)) n0) (j := 2) (u := 0)
    (default : HIx 1) cr (hci _ _) (Finset.Subset.refl _) (by decide) (Nat.zero_le _) ?_) $$ [Hs1 Hi1 HB]
  · iintro ⟨H, -⟩
    unfold dAll dC
    iexists _
    isplitr; rotate_left
    · iexact H
    ipureintro
    intro j hj
    refine (rd_seg (N := 12288) (n := 4096) mi ![4096] inb_S12288_S4096_4096 (fun _ => rfl) _ j hj).symm.trans ?_
    refine (rd_write (seg mi ![4096] inb_S12288_S4096_4096) fi _ j).trans ?_
    refine (rd_row (N := 262144) a4 oc1 h1 (fun _ => rfl) squeezes_S1x4096_S4096 f4 j hj).trans ?_
    rw [e1]; rfl
  · isplitl [Hs1]; · iexact Hs1
    isplitl [Hi1] <;> iassumption
  iintro HB
  iapply (Transfers.wp_dmaBatch EC 𝒱₀ (V d (cV L) (jV L)) none (src := cRow a4 oc2 h2) (dst := seg mi ![8192] inb_S12288_S4096_8192) (sm := .dma sem) (Sd := (seg mi ![8192] inb_S12288_S4096_8192).view.set) (fd := fi) (fs := f4) (q := q2) (D := dAll d L mg mi (rd2 a3 f3 b) (fun c => rd2 a4 f4 (3 * b + c)) n0) (j := 3) (u := 0)
    (default : HIx 1) cr (hci _ _) (Finset.Subset.refl _) (by decide) (Nat.zero_le _) ?_) $$ [Hs2 Hi2 HB]
  · iintro ⟨H, -⟩
    unfold dAll dC
    iexists _
    isplitr; rotate_left
    · iexact H
    ipureintro
    intro j hj
    refine (rd_seg (N := 12288) (n := 4096) mi ![8192] inb_S12288_S4096_8192 (fun _ => rfl) _ j hj).symm.trans ?_
    refine (rd_write (seg mi ![8192] inb_S12288_S4096_8192) fi _ j).trans ?_
    refine (rd_row (N := 262144) a4 oc2 h2 (fun _ => rfl) squeezes_S1x4096_S4096 f4 j hj).trans ?_
    rw [e2]; rfl
  · isplitl [Hs2]; · iexact Hs2
    isplitl [Hi2] <;> iassumption
  iintro HB
  iapply le_wp_ret
  iapply Hk
  isplitl [H3]; · iexact H3
  isplitl [H4]; · iexact H4
  iexact HB

theorem wp_await (mg : VM S4096 .f32) (mi : VM S12288 .f32) (sem : DmaSem sig) (og oc0 oc1 oc2 : Fin 2 → Nat)
    (hg : ∀ a, og a + S1x4096.size a ≤ S4x262144.size a) (h0 : ∀ a, oc0 a + S1x4096.size a ≤ S12x262144.size a)
    (h1 : ∀ a, oc1 a + S1x4096.size a ≤ S12x262144.size a) (h2 : ∀ a, oc2 a + S1x4096.size a ≤ S12x262144.size a)
    (hmi : mi.view.set = Finset.univ) (hcg : mg.view.dmaCredit = cr) (hci : ∀ o h, (seg mi o h).view.dmaCredit = cr)
    (gd : ℕ → F .f32) (im : ℕ → ℕ → F .f32) (n0 : ℕ) (O : CellTallies nD τ sig (HIx 1)) (W : Waits sig (HIx 1)) (Q : PUnit → sProp 𝕄) :
    iprop(Transfers.Batch EC (V d (cV L) (jV L)) (.dma sem) (default : HIx 1) cr (dAll d L mg mi gd im n0) 4 0 ∗ Ow (F := F) d L O W ∗ Mw (F := F) d L O)
      ⊢ iprop((iprop(dG d L mg gd n0 ∗ dI d L mi im n0 ∗ semVal (V d (cV L) (jV L), .dma sem) 0 ∗ Ow (F := F) d L O W ∗ Mw (F := F) d L O) -∗ Q ⟨⟩)
        -∗ run d L (await L mg mi sem og oc0 oc1 oc2 hg h0 h1 h2) Q) := by
  have hp := cr_pos
  unfold await Ow
  iintro ⟨HB, ⟨%W0, %hW, Ho⟩, #Hm⟩ Hk
  iapply (Transfers.wp_waitBatchO EC 𝒱₀ (V d (cV L) (jV L)) none (default : HIx 1) (N := cr) (n := 4) (D := dAll d L mg mi gd im n0) hcg (u := 0) (by omega)) $$ [HB Ho]
  · isplitl [HB]; · iexact HB
    isplitl [Ho]; · iexact Ho
    iapply (Transfers.MayWaits.elim (.dma sem)) $$ Hm
  iintro ⟨HB, Ho⟩
  iapply (Transfers.wp_waitBatchO EC 𝒱₀ (V d (cV L) (jV L)) none (default : HIx 1) (N := cr) (n := 4) (D := dAll d L mg mi gd im n0) (hci _ _) (u := 0 + cr) (by omega)) $$ [HB Ho]
  · isplitl [HB]; · iexact HB
    isplitl [Ho]; · iexact Ho
    iapply (Transfers.MayWaits.elim (.dma sem)) $$ Hm
  iintro ⟨HB, Ho⟩
  iapply (Transfers.wp_waitBatchO EC 𝒱₀ (V d (cV L) (jV L)) none (default : HIx 1) (N := cr) (n := 4) (D := dAll d L mg mi gd im n0) (hci _ _) (u := 0 + cr + cr) (by omega)) $$ [HB Ho]
  · isplitl [HB]; · iexact HB
    isplitl [Ho]; · iexact Ho
    iapply (Transfers.MayWaits.elim (.dma sem)) $$ Hm
  iintro ⟨HB, Ho⟩
  iapply (Transfers.wp_waitBatchLastO EC 𝒱₀ (V d (cV L) (jV L)) none (default : HIx 1) (N := cr) (n := 4) (D := dAll d L mg mi gd im n0) (hci _ _) hp (u := 0 + cr + cr + cr) (by omega)) $$ [HB Ho]
  · isplitl [HB]; · iexact HB
    isplitl [Ho]; · iexact Ho
    iapply (Transfers.MayWaits.elim (.dma sem)) $$ Hm
  rw [bigSep_four]
  unfold dAll
  iintro ⟨⟨Hg, Hi0, Hi1, Hi2⟩, Hs, Ho⟩
  iapply le_wp_ret
  iapply Hk
  isplitl [Hg]; · iexact Hg
  isplitl [Hi0 Hi1 Hi2]
  · iapply (join3 d L mi hmi im n0)
    isplitl [Hi0]; · iexact Hi0
    isplitl [Hi1]; · iexact Hi1
    iexact Hi2
  isplitl [Hs]; · iexact Hs
  isplitl [Ho]
  · iexists _
    isplitr; rotate_left
    · iexact Ho
    ipureintro
    exact Ow_insert _ _ _ (Ow_insert _ _ _ (Ow_insert _ _ _ (Ow_insert _ _ _ hW)))
  iexact Hm

end Cert.Proof.Tile
-- ==== Proof.Offs.lean ====
/- Where the copies of a trip read and write, and the words of the image rows. -/
module

public import proofs.«01_k».proof.Proof.Base

@[expose] public section

namespace Cert.Proof.Tile

open Cert.KernelIdeal Cert.KernelIdeal.Gen
open Idealize.ShloMosaic

theorem wordA : ∀ (i : grid0.Coords) (t1 : Fin k0_t1_loop.trips) (r : Fin 8), Scalar.addi (hWord (wWord i) (evWord t1)) (BitVec.ofNat 32 r.val) = BitVec.ofNat 32 (16 * wN i + r.val) := by
  decide +kernel
theorem wordB : ∀ (i : grid0.Coords) (t1 : Fin k0_t1_loop.trips) (r : Fin 8), Scalar.addi (hWord (wWord i) (Scalar.addi (evWord t1) 1#32)) (BitVec.ofNat 32 r.val) = BitVec.ofNat 32 (16 * wN i + (8 + r.val)) := by
  decide +kernel
theorem off5_eq : ∀ (i : grid0.Coords) (t1 : Fin k0_t1_loop.trips), k0_off5 i t1 = ![t1.val, 8192 * wN i + 4096] := by decide +kernel
theorem off6_eq : ∀ (i : grid0.Coords) (t1 : Fin k0_t1_loop.trips) (c : Fin 3), k0_off6 i t1 (BitVec.ofNat 32 c.val) = ![3 * t1.val + c.val, 8192 * wN i + 4096] := by decide +kernel
theorem off11_eq : ∀ (i : grid0.Coords) (t1 : Fin k0_t1_loop.trips), k0_off11 i t1 = ![t1.val, 8192 * wN i] := by decide +kernel
theorem off12_eq : ∀ (i : grid0.Coords) (t1 : Fin k0_t1_loop.trips) (c : Fin 3), k0_off12 i t1 (BitVec.ofNat 32 c.val) = ![3 * t1.val + c.val, 8192 * wN i] := by decide +kernel
theorem off85_eq : ∀ (i : grid0.Coords) (t1 : Fin k0_t1_loop.trips), k0_cond2 t1 = 1#1 → k0_off85 i t1 = ![t1.val + 1, 8192 * wN i] := by decide +kernel
theorem off86_eq : ∀ (i : grid0.Coords) (t1 : Fin k0_t1_loop.trips) (c : Fin 3), k0_cond2 t1 = 1#1 → k0_off86 i t1 (BitVec.ofNat 32 c.val) = ![3 * (t1.val + 1) + c.val, 8192 * wN i] := by decide +kernel
theorem off1_eq : ∀ (i : grid0.Coords), k0_off1 i = ![0, 8192 * wN i] := by decide +kernel
theorem off2_eq : ∀ (i : grid0.Coords), k0_off2 i = ![0, 8192 * wN i] := by decide +kernel
theorem off3_eq : ∀ (i : grid0.Coords), k0_off3 i = ![1, 8192 * wN i] := by decide +kernel
theorem off4_eq : ∀ (i : grid0.Coords), k0_off4 i = ![2, 8192 * wN i] := by decide +kernel
theorem cond1_iff : ∀ (t1 : Fin k0_t1_loop.trips), k0_cond1 t1 = 1#1 ↔ t1.val < 3 := by decide +kernel
theorem cond2_iff : ∀ (t1 : Fin k0_t1_loop.trips), k0_cond2 t1 = 1#1 ↔ t1.val < 3 := by decide +kernel
theorem t1_trips : Scf.trips k0_t1_loop.lb k0_t1_loop.ub k0_t1_loop.st = 4 := by decide +kernel

end Cert.Proof.Tile
-- ==== Proof.OffsA.lean ====
/- Where the first block's table loops read the grid. -/
module

public import proofs.«01_k».proof.Proof.Base

@[expose] public section

namespace Cert.Proof.Tile

open Cert.KernelIdeal Cert.KernelIdeal.Gen
open Idealize.ShloMosaic

theorem off13_eq : ∀ (i : grid0.Coords) (t1 : Fin k0_t1_loop.trips) (t : Fin k0_t2_loop.trips), k0_off13 i t1 t 0 = (24576 * (t1.val % 2) + 16 * Y0 (16 * wN i + 0)) + 256 * t.val := by decide +kernel
theorem off14_eq : ∀ (i : grid0.Coords) (t1 : Fin k0_t1_loop.trips) (t : Fin k0_t2_loop.trips), k0_off14 i t1 t 0 = (24576 * (t1.val % 2) + 16 * Y1 (16 * wN i + 0)) + 256 * t.val := by decide +kernel
theorem off22_eq : ∀ (i : grid0.Coords) (t1 : Fin k0_t1_loop.trips) (t : Fin k0_t2_loop.trips), k0_off22 i t1 t 0 = (24576 * (t1.val % 2) + 16 * Y0 (16 * wN i + 1)) + 256 * t.val := by decide +kernel
theorem off23_eq : ∀ (i : grid0.Coords) (t1 : Fin k0_t1_loop.trips) (t : Fin k0_t2_loop.trips), k0_off23 i t1 t 0 = (24576 * (t1.val % 2) + 16 * Y1 (16 * wN i + 1)) + 256 * t.val := by decide +kernel
theorem off31_eq : ∀ (i : grid0.Coords) (t1 : Fin k0_t1_loop.trips) (t : Fin k0_t2_loop.trips), k0_off31 i t1 t 0 = (24576 * (t1.val % 2) + 16 * Y0 (16 * wN i + 2)) + 256 * t.val := by decide +kernel
theorem off32_eq : ∀ (i : grid0.Coords) (t1 : Fin k0_t1_loop.trips) (t : Fin k0_t2_loop.trips), k0_off32 i t1 t 0 = (24576 * (t1.val % 2) + 16 * Y1 (16 * wN i + 2)) + 256 * t.val := by decide +kernel
theorem off40_eq : ∀ (i : grid0.Coords) (t1 : Fin k0_t1_loop.trips) (t : Fin k0_t2_loop.trips), k0_off40 i t1 t 0 = (24576 * (t1.val % 2) + 16 * Y0 (16 * wN i + 3)) + 256 * t.val := by decide +kernel
theorem off41_eq : ∀ (i : grid0.Coords) (t1 : Fin k0_t1_loop.trips) (t : Fin k0_t2_loop.trips), k0_off41 i t1 t 0 = (24576 * (t1.val % 2) + 16 * Y1 (16 * wN i + 3)) + 256 * t.val := by decide +kernel
theorem off49_eq : ∀ (i : grid0.Coords) (t1 : Fin k0_t1_loop.trips) (t : Fin k0_t2_loop.trips), k0_off49 i t1 t 0 = (24576 * (t1.val % 2) + 16 * Y0 (16 * wN i + 4)) + 256 * t.val := by decide +kernel
theorem off50_eq : ∀ (i : grid0.Coords) (t1 : Fin k0_t1_loop.trips) (t : Fin k0_t2_loop.trips), k0_off50 i t1 t 0 = (24576 * (t1.val % 2) + 16 * Y1 (16 * wN i + 4)) + 256 * t.val := by decide +kernel
theorem off58_eq : ∀ (i : grid0.Coords) (t1 : Fin k0_t1_loop.trips) (t : Fin k0_t2_loop.trips), k0_off58 i t1 t 0 = (24576 * (t1.val % 2) + 16 * Y0 (16 * wN i + 5)) + 256 * t.val := by decide +kernel
theorem off59_eq : ∀ (i : grid0.Coords) (t1 : Fin k0_t1_loop.trips) (t : Fin k0_t2_loop.trips), k0_off59 i t1 t 0 = (24576 * (t1.val % 2) + 16 * Y1 (16 * wN i + 5)) + 256 * t.val := by decide +kernel
theorem off67_eq : ∀ (i : grid0.Coords) (t1 : Fin k0_t1_loop.trips) (t : Fin k0_t2_loop.trips), k0_off67 i t1 t 0 = (24576 * (t1.val % 2) + 16 * Y0 (16 * wN i + 6)) + 256 * t.val := by decide +kernel
theorem off68_eq : ∀ (i : grid0.Coords) (t1 : Fin k0_t1_loop.trips) (t : Fin k0_t2_loop.trips), k0_off68 i t1 t 0 = (24576 * (t1.val % 2) + 16 * Y1 (16 * wN i + 6)) + 256 * t.val := by decide +kernel
theorem off76_eq : ∀ (i : grid0.Coords) (t1 : Fin k0_t1_loop.trips) (t : Fin k0_t2_loop.trips), k0_off76 i t1 t 0 = (24576 * (t1.val % 2) + 16 * Y0 (16 * wN i + 7)) + 256 * t.val := by decide +kernel
theorem off77_eq : ∀ (i : grid0.Coords) (t1 : Fin k0_t1_loop.trips) (t : Fin k0_t2_loop.trips), k0_off77 i t1 t 0 = (24576 * (t1.val % 2) + 16 * Y1 (16 * wN i + 7)) + 256 * t.val := by decide +kernel

end Cert.Proof.Tile
-- ==== Proof.OffsB.lean ====
/- Where the second block's table loops read the grid. -/
module

public import proofs.«01_k».proof.Proof.Base

@[expose] public section

namespace Cert.Proof.Tile

open Cert.KernelIdeal Cert.KernelIdeal.Gen
open Idealize.ShloMosaic

theorem off87_eq : ∀ (i : grid0.Coords) (t1 : Fin k0_t1_loop.trips) (t : Fin k0_t2_loop.trips), k0_off87 i t1 t 0 = (24576 * (t1.val % 2) + 16 * Y0 (16 * wN i + 8)) + 256 * t.val := by decide +kernel
theorem off88_eq : ∀ (i : grid0.Coords) (t1 : Fin k0_t1_loop.trips) (t : Fin k0_t2_loop.trips), k0_off88 i t1 t 0 = (24576 * (t1.val % 2) + 16 * Y1 (16 * wN i + 8)) + 256 * t.val := by decide +kernel
theorem off96_eq : ∀ (i : grid0.Coords) (t1 : Fin k0_t1_loop.trips) (t : Fin k0_t2_loop.trips), k0_off96 i t1 t 0 = (24576 * (t1.val % 2) + 16 * Y0 (16 * wN i + 9)) + 256 * t.val := by decide +kernel
theorem off97_eq : ∀ (i : grid0.Coords) (t1 : Fin k0_t1_loop.trips) (t : Fin k0_t2_loop.trips), k0_off97 i t1 t 0 = (24576 * (t1.val % 2) + 16 * Y1 (16 * wN i + 9)) + 256 * t.val := by decide +kernel
theorem off105_eq : ∀ (i : grid0.Coords) (t1 : Fin k0_t1_loop.trips) (t : Fin k0_t2_loop.trips), k0_off105 i t1 t 0 = (24576 * (t1.val % 2) + 16 * Y0 (16 * wN i + 10)) + 256 * t.val := by decide +kernel
theorem off106_eq : ∀ (i : grid0.Coords) (t1 : Fin k0_t1_loop.trips) (t : Fin k0_t2_loop.trips), k0_off106 i t1 t 0 = (24576 * (t1.val % 2) + 16 * Y1 (16 * wN i + 10)) + 256 * t.val := by decide +kernel
theorem off114_eq : ∀ (i : grid0.Coords) (t1 : Fin k0_t1_loop.trips) (t : Fin k0_t2_loop.trips), k0_off114 i t1 t 0 = (24576 * (t1.val % 2) + 16 * Y0 (16 * wN i + 11)) + 256 * t.val := by decide +kernel
theorem off115_eq : ∀ (i : grid0.Coords) (t1 : Fin k0_t1_loop.trips) (t : Fin k0_t2_loop.trips), k0_off115 i t1 t 0 = (24576 * (t1.val % 2) + 16 * Y1 (16 * wN i + 11)) + 256 * t.val := by decide +kernel
theorem off123_eq : ∀ (i : grid0.Coords) (t1 : Fin k0_t1_loop.trips) (t : Fin k0_t2_loop.trips), k0_off123 i t1 t 0 = (24576 * (t1.val % 2) + 16 * Y0 (16 * wN i + 12)) + 256 * t.val := by decide +kernel
theorem off124_eq : ∀ (i : grid0.Coords) (t1 : Fin k0_t1_loop.trips) (t : Fin k0_t2_loop.trips), k0_off124 i t1 t 0 = (24576 * (t1.val % 2) + 16 * Y1 (16 * wN i + 12)) + 256 * t.val := by decide +kernel
theorem off132_eq : ∀ (i : grid0.Coords) (t1 : Fin k0_t1_loop.trips) (t : Fin k0_t2_loop.trips), k0_off132 i t1 t 0 = (24576 * (t1.val % 2) + 16 * Y0 (16 * wN i + 13)) + 256 * t.val := by decide +kernel
theorem off133_eq : ∀ (i : grid0.Coords) (t1 : Fin k0_t1_loop.trips) (t : Fin k0_t2_loop.trips), k0_off133 i t1 t 0 = (24576 * (t1.val % 2) + 16 * Y1 (16 * wN i + 13)) + 256 * t.val := by decide +kernel
theorem off141_eq : ∀ (i : grid0.Coords) (t1 : Fin k0_t1_loop.trips) (t : Fin k0_t2_loop.trips), k0_off141 i t1 t 0 = (24576 * (t1.val % 2) + 16 * Y0 (16 * wN i + 14)) + 256 * t.val := by decide +kernel
theorem off142_eq : ∀ (i : grid0.Coords) (t1 : Fin k0_t1_loop.trips) (t : Fin k0_t2_loop.trips), k0_off142 i t1 t 0 = (24576 * (t1.val % 2) + 16 * Y1 (16 * wN i + 14)) + 256 * t.val := by decide +kernel
theorem off150_eq : ∀ (i : grid0.Coords) (t1 : Fin k0_t1_loop.trips) (t : Fin k0_t2_loop.trips), k0_off150 i t1 t 0 = (24576 * (t1.val % 2) + 16 * Y0 (16 * wN i + 15)) + 256 * t.val := by decide +kernel
theorem off151_eq : ∀ (i : grid0.Coords) (t1 : Fin k0_t1_loop.trips) (t : Fin k0_t2_loop.trips), k0_off151 i t1 t 0 = (24576 * (t1.val % 2) + 16 * Y1 (16 * wN i + 15)) + 256 * t.val := by decide +kernel

end Cert.Proof.Tile
-- ==== Proof.Rows.lean ====
/- The eight rows of a block: for each row the table it reads through, then the row's pixels. -/
module

public import proofs.«01_k».proof.Proof.Dma
public import proofs.«01_k».proof.Proof.Offs
public import proofs.«01_k».proof.Proof.OffsA
public import proofs.«01_k».proof.Proof.OffsB

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

theorem run_seq {α β : Type} (p : TP (F := F) L α) (k : α → TP (F := F) L β) (Q : β → sProp 𝕄) :
    run d L p (fun a => run d L (k a) Q) ⊢ run d L (p >>= k) Q := by
  unfold run
  rw [wp_bind]

theorem pixS_congr (dx g : F .f32) (x0 x1 : ℕ) (p p' : ℕ → F .f32) (hp : ∀ c < 3, p c = p' c) (T : ℕ → ℕ → F .f32) (o : ℕ) :
    pixS dx g x0 x1 p T o = pixS dx g x0 x1 p' T o := by
  unfold pixS
  rw [hp 0 (by decide), hp 1 (by decide), hp 2 (by decide)]

theorem slot_h (s : ℕ) (hs : s < 2) : ∀ a, (![24576 * s] : Fin 1 → ℕ) a + S24576.size a ≤ S49152.size a := by
  intro a
  match a with
  | 0 => show 24576 * s + 24576 ≤ 49152; omega

/-- Slot `s` of the grid buffer. -/
def S9 (s : ℕ) (hs : s < 2) : Finset (Idx (at_ d L a9)) := (slot ![24576 * s] (slot_h s hs)).view.set

theorem box_S9 (s : ℕ) (hs : s < 2) (a : Fin 1 → ℕ) (ha : ∀ x, a x + S16.size x ≤ S49152.size x) (h0 : 24576 * s ≤ a 0) (h1 : a 0 + 16 ≤ 24576 * s + 24576) :
    (a9).view.setOn (Rect.unit (s := S49152) a S16.size ha).toLoadRect.set ⊆ S9 d L s hs := by
  intro y hy
  obtain ⟨x, hx, e⟩ := Finset.mem_map.mp hy
  have hx' := (Rect.mem_set_unit (s := S49152)).mp hx 0
  have l0 : a 0 ≤ (x 0).val := hx'.1
  have l1 : (x 0).val < a 0 + 16 := hx'.2
  refine (mem_seg (N := 49152) (n := 24576) a9 ![24576 * s] (slot_h s hs) (fun _ => rfl) y).mpr ⟨(x 0).val - 24576 * s, by omega, ?_⟩
  rw [← e]
  refine congrArg _ (eq_ix1 _ _ ?_)
  show (x 0).val = 24576 * s + _
  omega

/-- A slot that holds a grid row. -/
def Slot (s : ℕ) (hs : s < 2) (G : ℕ → F .f32) : sProp (MT nD τ sig (HIx 1) (Elt F) ℕ UU ℕ) :=
  iprop(∃ f : Buf (Elt F) (at_ d L a9), ⌜∀ k < 24576, rd a9 f (24576 * s + k) = G k⌝ ∗ (at_ d L a9 ↦[S9 d L s hs]{fullShare} f))

/-- The result buffer's channels, filled up to `n` entries each. -/
def Out (PX : ℕ → ℕ → F .f32) (n : ℕ) : sProp (MT nD τ sig (HIx 1) (Elt F) ℕ UU ℕ) :=
  iprop(∃ f : Buf (Elt F) (at_ d L a15), ⌜∀ o < 3, ∀ j < n, rd a15 f (4096 * o + j) = PX o j⌝ ∗ (at_ d L a15 ↦{fullShare} f))

/-- The tables of columns and weights. -/
def Tabs (X0 X1 : ℕ → BitVec 32) (DX : ℕ → F .f32) : sProp (MT nD τ sig (HIx 1) (Elt F) ℕ UU ℕ) :=
  iprop((∃ f : Buf (Elt F) (at_ d L a16), ⌜∀ x < 512, (rd a16 f x : BitVec 32) = X0 x⌝ ∗ (at_ d L a16 ↦{fullShare} f))
    ∗ (∃ f : Buf (Elt F) (at_ d L a17), ⌜∀ x < 512, (rd a17 f x : BitVec 32) = X1 x⌝ ∗ (at_ d L a17 ↦{fullShare} f))
    ∗ (∃ f : Buf (Elt F) (at_ d L a18), ⌜∀ x < 512, rd a18 f x = DX x⌝ ∗ (at_ d L a18 ↦{fullShare} f)))

/-- What a block's rows work on. -/
def Rw (s : ℕ) (hs : s < 2) (mg : VM S4096 .f32) (mi : VM S12288 .f32) (X0 X1 : ℕ → BitVec 32) (DX G gd : ℕ → F .f32) (im : ℕ → ℕ → F .f32) (n0 n : ℕ) :
    sProp (MT nD τ sig (HIx 1) (Elt F) ℕ UU ℕ) :=
  iprop(Slot d L s hs G ∗ (∃ f : Buf (Elt F) (at_ d L a10), at_ d L a10 ↦{fullShare} f) ∗ dG d L mg gd n0 ∗ dI d L mi im n0
    ∗ Out d L (fun o j => pixN X0 X1 DX G gd im o (n0 + j)) n ∗ Tabs d L X0 X1 DX)

theorem wp_row (mg : VM S4096 .f32) (mi : VM S12288 .f32) (w : FVec F S16 .f32) (a b c : Fin k0_t2_loop.trips → Fin 1 → Nat)
    (ha : ∀ t, ∀ x, a t x + S16.size x ≤ S49152.size x) (hb : ∀ t, ∀ x, b t x + S16.size x ≤ S49152.size x)
    (hc : ∀ t, ∀ x, c t x + S16.size x ≤ S1824.size x)
    (og ox : Fin k0_t3_loop.trips → Fin 1 → Nat) (oi : Fin k0_t3_loop.trips → BitVec 32 → Fin 1 → Nat) (oo0 oo1 oo2 : Fin k0_t3_loop.trips → Fin 1 → Nat)
    (hg : ∀ t, ∀ a, og t a + S16.size a ≤ S4096.size a) (hx : ∀ t, ∀ a, ox t a + S16.size a ≤ S512.size a)
    (hi : ∀ t, ∀ r : Fin 3, ∀ a, oi t (BitVec.ofNat 32 (4096 * r.val)) a + S16.size a ≤ S12288.size a)
    (ho0 : ∀ t, ∀ a, oo0 t a + S16.size a ≤ S12288.size a) (ho1 : ∀ t, ∀ a, oo1 t a + S16.size a ≤ S12288.size a)
    (ho2 : ∀ t, ∀ a, oo2 t a + S16.size a ≤ S12288.size a)
    (s : ℕ) (hs : s < 2) (h0 : ℕ) (hh0 : h0 + 8 ≤ 512)
    (X0 X1 : ℕ → BitVec 32) (bx0 : ∀ x < 512, (X0 x).toNat < 16) (bx1 : ∀ x < 512, (X1 x).toNat < 16) (DX G gd : ℕ → F .f32) (im : ℕ → ℕ → F .f32)
    (r : ℕ) (hr : r < 8) (n n' : ℕ) (hn : n = 512 * r) (hn' : n' = 512 * (r + 1)) (hw : w = dyVec (BitVec.ofNat 32 (h0 + r)))
    (ea : ∀ t, a t 0 = (24576 * s + 16 * Y0 (h0 + r)) + 256 * t.val) (eb : ∀ t, b t 0 = (24576 * s + 16 * Y1 (h0 + r)) + 256 * t.val) (ec : ∀ t, c t 0 = 19 * t.val)
    (eg : ∀ t, og t 0 = 512 * r + 16 * t.val) (ex : ∀ t, ox t 0 = 16 * t.val)
    (ei : ∀ t, ∀ c : Fin 3, oi t (BitVec.ofNat 32 (4096 * c.val)) 0 = 4096 * c.val + (512 * r + 16 * t.val))
    (eo0 : ∀ t, oo0 t 0 = 512 * r + 16 * t.val) (eo1 : ∀ t, oo1 t 0 = 4096 + (512 * r + 16 * t.val)) (eo2 : ∀ t, oo2 t 0 = 8192 + (512 * r + 16 * t.val))
    (k : TP (F := F) L PUnit) (Q : PUnit → sProp 𝕄) :
    Rw d L s hs mg mi X0 X1 DX G gd im (512 * h0) n
      ⊢ iprop((Rw d L s hs mg mi X0 X1 DX G gd im (512 * h0) n' -∗ run d L k Q)
        -∗ run d L (do
            let _ ← tLoop L a9 a10 w a b c ha hb hc
            let _ ← vLoop L a10 mg mi a15 a16 a17 a18 og ox oi oo0 oo1 oo2 hg hx hi ho0 ho1 ho2
            k) Q) := by
  have hY0 : Y0 (h0 + r) ≤ 15 := by unfold Y0; omega
  have hY1 : Y1 (h0 + r) ≤ 15 := by unfold Y1; omega
  unfold Rw Slot Out Tabs dG dI
  iintro ⟨⟨%f9, %h9, H9⟩, ⟨%f10, H10⟩, ⟨%fg, %hfg, Hg⟩, ⟨%fi, %hfi, Hi⟩, ⟨%fo, %hfo, Ho⟩, ⟨%f16, %h16, H16⟩, ⟨%f17, %h17, H17⟩, ⟨%f18, %h18, H18⟩⟩ Hk
  iapply (run_seq d L _ _ Q)
  iapply (wp_tLoop d L a9 a10 w a b c ha hb hc (S9 d L s hs) fullShare f9 f10
    (fun t => box_S9 d L s hs _ _ (by rw [ea]; omega) (by have := lt_of_lt_of_eq t.isLt t2_trips; rw [ea]; omega))
    (fun t => box_S9 d L s hs _ _ (by rw [eb]; omega) (by have := lt_of_lt_of_eq t.isLt t2_trips; rw [eb]; omega))
    (dyS (BitVec.ofNat 32 (h0 + r))) (by intro x; rw [hw, dyVec_apply]) _ _ ea eb ec) $$ [H9 H10]
  · isplitl [H9] <;> iassumption
  iintro ⟨H9, %f10', %hT, H10⟩
  iapply (run_seq d L _ _ Q)
  iapply (wp_vLoop d L a10 mg mi a15 a16 a17 a18 og ox oi oo0 oo1 oo2 hg hx hi ho0 ho1 ho2 f10' fg fi fo f16 f17 f18
    (Trow G (h0 + r)) ?_ r hr eg ex ei eo0 eo1 eo2 (fun x hx => by rw [h16 x hx]; exact bx0 x hx) (fun x hx => by rw [h17 x hx]; exact bx1 x hx)
    (fun o j => pixN X0 X1 DX G gd im o (512 * h0 + j)) ?_ ?_) $$ [H10 Hg Hi Ho H16 H17 H18]
  · intro cz hcz xi hxi
    rw [hT cz hcz xi hxi]
    unfold Trow
    rw [← h9 (256 * cz + (16 * Y0 (h0 + r) + xi)) (by omega), ← h9 (256 * cz + (16 * Y1 (h0 + r) + xi)) (by omega)]
    rw [show 24576 * s + 16 * Y0 (h0 + r) + (256 * cz + xi) = 24576 * s + (256 * cz + (16 * Y0 (h0 + r) + xi)) from by omega,
      show 24576 * s + 16 * Y1 (h0 + r) + (256 * cz + xi) = 24576 * s + (256 * cz + (16 * Y1 (h0 + r) + xi)) from by omega]
  · intro o ho j hj
    exact hfo o ho j (by omega)
  · intro o ho x hx
    show pixN X0 X1 DX G gd im o (512 * h0 + (512 * r + x)) = _
    have e1 : (512 * h0 + (512 * r + x)) % 512 = x := by omega
    have e2 : (512 * h0 + (512 * r + x)) / 512 = h0 + r := by omega
    unfold pixN
    rw [e1, e2, h16 x hx, h17 x hx, h18 x hx, hfg _ (by omega)]
    exact pixS_congr _ _ _ _ _ _ (fun c hc => (hfi c hc _ (by omega)).symm) _ _
  · isplitl [H10]; · iexact H10
    isplitl [Hg]; · iexact Hg
    isplitl [Hi]; · iexact Hi
    isplitl [Ho]; · iexact Ho
    isplitl [H16]; · iexact H16
    isplitl [H17] <;> iassumption
  iintro ⟨H10, Hg, Hi, ⟨%fo', %hfo', Ho⟩, H16, H17, H18⟩
  iapply Hk
  isplitl [H9]
  · iexists _; isplitr; rotate_left
    · iexact H9
    ipureintro; exact h9
  isplitl [H10]
  · iexists _; iexact H10
  isplitl [Hg]
  · iexists _; isplitr; rotate_left
    · iexact Hg
    ipureintro; exact hfg
  isplitl [Hi]
  · iexists _; isplitr; rotate_left
    · iexact Hi
    ipureintro; exact hfi
  isplitl [Ho]
  · iexists _; isplitr; rotate_left
    · iexact Ho
    ipureintro; rw [hn']; exact hfo'
  isplitl [H16]
  · iexists _; isplitr; rotate_left
    · iexact H16
    ipureintro; exact h16
  isplitl [H17]
  · iexists _; isplitr; rotate_left
    · iexact H17
    ipureintro; exact h17
  iexists _; isplitr; rotate_left
  · iexact H18
  ipureintro; exact h18

end Cert.Proof.Tile
-- ==== Proof.RowsAB.lean ====
/- The two blocks' rows, each by the rule for one row. -/
module

public import proofs.«01_k».proof.Proof.Rows

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

theorem wp_rowsA (t1 : Fin k0_t1_loop.trips) (X0 X1 : ℕ → BitVec 32) (bx0 : ∀ x < 512, (X0 x).toNat < 16) (bx1 : ∀ x < 512, (X1 x).toNat < 16)
    (DX G gd : ℕ → F .f32) (im : ℕ → ℕ → F .f32) (Q : PUnit → sProp 𝕄) :
    Rw d L (t1.val % 2) (Nat.mod_lt _ (by decide)) a11 a12 X0 X1 DX G gd im (512 * (16 * wN L)) 0
      ⊢ iprop((Rw d L (t1.val % 2) (Nat.mod_lt _ (by decide)) a11 a12 X0 X1 DX G gd im (512 * (16 * wN L)) 4096 -∗ Q ⟨⟩) -∗ run d L (rowsA L t1) Q) := by
  have hwN := wN_lt L
  unfold rowsA
  iintro H Hk
  iapply (wp_row d L a11 a12 (dyVec (Scalar.addi (hWord (wWord L) (evWord t1)) 0#32)) (fun t => k0_off13 L t1 t) (fun t => k0_off14 L t1 t) (fun t => k0_off15 t)
    _ _ _ (fun t => k0_off16 t) (fun t => k0_off17 t) (fun t c => k0_off18 t c) (fun t => k0_off19 t) (fun t => k0_off20 t) (fun t => k0_off21 t) _ _ _ _ _ _
    (t1.val % 2) (Nat.mod_lt _ (by decide)) (16 * wN L) (by omega) X0 X1 bx0 bx1 DX G gd im 0 (by decide) 0 512 (by decide) (by decide)
    (congrArg dyVec (wordA L t1 ⟨0, by decide⟩))
    (fun t => off13_eq L t1 t) (fun t => off14_eq L t1 t) (fun t => by rw [k0_off15_eq]; show _ = _; simp only [Matrix.cons_val_zero] <;> omega)
    (fun t => by rw [k0_off16_eq]; show _ = _; simp only [Matrix.cons_val_zero] <;> omega) (fun t => by rw [k0_off17_eq]; show _ = _; simp only [Matrix.cons_val_zero] <;> omega)
    (fun t c => by rw [k0_off18_eq]; show _ = _; simp only [Matrix.cons_val_zero] <;> omega)
    (fun t => by rw [k0_off19_eq]; show _ = _; simp only [Matrix.cons_val_zero] <;> omega) (fun t => by rw [k0_off20_eq]; show _ = _; simp only [Matrix.cons_val_zero] <;> omega) (fun t => by rw [k0_off21_eq]; show _ = _; simp only [Matrix.cons_val_zero] <;> omega) _ Q) $$ H
  iintro H
  iapply (wp_row d L a11 a12 (dyVec (Scalar.addi (hWord (wWord L) (evWord t1)) 1#32)) (fun t => k0_off22 L t1 t) (fun t => k0_off23 L t1 t) (fun t => k0_off24 t)
    _ _ _ (fun t => k0_off25 t) (fun t => k0_off26 t) (fun t c => k0_off27 t c) (fun t => k0_off28 t) (fun t => k0_off29 t) (fun t => k0_off30 t) _ _ _ _ _ _
    (t1.val % 2) (Nat.mod_lt _ (by decide)) (16 * wN L) (by omega) X0 X1 bx0 bx1 DX G gd im 1 (by decide) 512 1024 (by decide) (by decide)
    (congrArg dyVec (wordA L t1 ⟨1, by decide⟩))
    (fun t => off22_eq L t1 t) (fun t => off23_eq L t1 t) (fun t => by rw [k0_off24_eq]; show _ = _; simp only [Matrix.cons_val_zero] <;> omega)
    (fun t => by rw [k0_off25_eq]; show _ = _; simp only [Matrix.cons_val_zero] <;> omega) (fun t => by rw [k0_off26_eq]; show _ = _; simp only [Matrix.cons_val_zero] <;> omega)
    (fun t c => by rw [k0_off27_eq]; show _ = _; simp only [Matrix.cons_val_zero] <;> omega)
    (fun t => by rw [k0_off28_eq]; show _ = _; simp only [Matrix.cons_val_zero] <;> omega) (fun t => by rw [k0_off29_eq]; show _ = _; simp only [Matrix.cons_val_zero] <;> omega) (fun t => by rw [k0_off30_eq]; show _ = _; simp only [Matrix.cons_val_zero] <;> omega) _ Q) $$ H
  iintro H
  iapply (wp_row d L a11 a12 (dyVec (Scalar.addi (hWord (wWord L) (evWord t1)) 2#32)) (fun t => k0_off31 L t1 t) (fun t => k0_off32 L t1 t) (fun t => k0_off33 t)
    _ _ _ (fun t => k0_off34 t) (fun t => k0_off35 t) (fun t c => k0_off36 t c) (fun t => k0_off37 t) (fun t => k0_off38 t) (fun t => k0_off39 t) _ _ _ _ _ _
    (t1.val % 2) (Nat.mod_lt _ (by decide)) (16 * wN L) (by omega) X0 X1 bx0 bx1 DX G gd im 2 (by decide) 1024 1536 (by decide) (by decide)
    (congrArg dyVec (wordA L t1 ⟨2, by decide⟩))
    (fun t => off31_eq L t1 t) (fun t => off32_eq L t1 t) (fun t => by rw [k0_off33_eq]; show _ = _; simp only [Matrix.cons_val_zero] <;> omega)
    (fun t => by rw [k0_off34_eq]; show _ = _; simp only [Matrix.cons_val_zero] <;> omega) (fun t => by rw [k0_off35_eq]; show _ = _; simp only [Matrix.cons_val_zero] <;> omega)
    (fun t c => by rw [k0_off36_eq]; show _ = _; simp only [Matrix.cons_val_zero] <;> omega)
    (fun t => by rw [k0_off37_eq]; show _ = _; simp only [Matrix.cons_val_zero] <;> omega) (fun t => by rw [k0_off38_eq]; show _ = _; simp only [Matrix.cons_val_zero] <;> omega) (fun t => by rw [k0_off39_eq]; show _ = _; simp only [Matrix.cons_val_zero] <;> omega) _ Q) $$ H
  iintro H
  iapply (wp_row d L a11 a12 (dyVec (Scalar.addi (hWord (wWord L) (evWord t1)) 3#32)) (fun t => k0_off40 L t1 t) (fun t => k0_off41 L t1 t) (fun t => k0_off42 t)
    _ _ _ (fun t => k0_off43 t) (fun t => k0_off44 t) (fun t c => k0_off45 t c) (fun t => k0_off46 t) (fun t => k0_off47 t) (fun t => k0_off48 t) _ _ _ _ _ _
    (t1.val % 2) (Nat.mod_lt _ (by decide)) (16 * wN L) (by omega) X0 X1 bx0 bx1 DX G gd im 3 (by decide) 1536 2048 (by decide) (by decide)
    (congrArg dyVec (wordA L t1 ⟨3, by decide⟩))
    (fun t => off40_eq L t1 t) (fun t => off41_eq L t1 t) (fun t => by rw [k0_off42_eq]; show _ = _; simp only [Matrix.cons_val_zero] <;> omega)
    (fun t => by rw [k0_off43_eq]; show _ = _; simp only [Matrix.cons_val_zero] <;> omega) (fun t => by rw [k0_off44_eq]; show _ = _; simp only [Matrix.cons_val_zero] <;> omega)
    (fun t c => by rw [k0_off45_eq]; show _ = _; simp only [Matrix.cons_val_zero] <;> omega)
    (fun t => by rw [k0_off46_eq]; show _ = _; simp only [Matrix.cons_val_zero] <;> omega) (fun t => by rw [k0_off47_eq]; show _ = _; simp only [Matrix.cons_val_zero] <;> omega) (fun t => by rw [k0_off48_eq]; show _ = _; simp only [Matrix.cons_val_zero] <;> omega) _ Q) $$ H
  iintro H
  iapply (wp_row d L a11 a12 (dyVec (Scalar.addi (hWord (wWord L) (evWord t1)) 4#32)) (fun t => k0_off49 L t1 t) (fun t => k0_off50 L t1 t) (fun t => k0_off51 t)
    _ _ _ (fun t => k0_off52 t) (fun t => k0_off53 t) (fun t c => k0_off54 t c) (fun t => k0_off55 t) (fun t => k0_off56 t) (fun t => k0_off57 t) _ _ _ _ _ _
    (t1.val % 2) (Nat.mod_lt _ (by decide)) (16 * wN L) (by omega) X0 X1 bx0 bx1 DX G gd im 4 (by decide) 2048 2560 (by decide) (by decide)
    (congrArg dyVec (wordA L t1 ⟨4, by decide⟩))
    (fun t => off49_eq L t1 t) (fun t => off50_eq L t1 t) (fun t => by rw [k0_off51_eq]; show _ = _; simp only [Matrix.cons_val_zero] <;> omega)
    (fun t => by rw [k0_off52_eq]; show _ = _; simp only [Matrix.cons_val_zero] <;> omega) (fun t => by rw [k0_off53_eq]; show _ = _; simp only [Matrix.cons_val_zero] <;> omega)
    (fun t c => by rw [k0_off54_eq]; show _ = _; simp only [Matrix.cons_val_zero] <;> omega)
    (fun t => by rw [k0_off55_eq]; show _ = _; simp only [Matrix.cons_val_zero] <;> omega) (fun t => by rw [k0_off56_eq]; show _ = _; simp only [Matrix.cons_val_zero] <;> omega) (fun t => by rw [k0_off57_eq]; show _ = _; simp only [Matrix.cons_val_zero] <;> omega) _ Q) $$ H
  iintro H
  iapply (wp_row d L a11 a12 (dyVec (Scalar.addi (hWord (wWord L) (evWord t1)) 5#32)) (fun t => k0_off58 L t1 t) (fun t => k0_off59 L t1 t) (fun t => k0_off60 t)
    _ _ _ (fun t => k0_off61 t) (fun t => k0_off62 t) (fun t c => k0_off63 t c) (fun t => k0_off64 t) (fun t => k0_off65 t) (fun t => k0_off66 t) _ _ _ _ _ _
    (t1.val % 2) (Nat.mod_lt _ (by decide)) (16 * wN L) (by omega) X0 X1 bx0 bx1 DX G gd im 5 (by decide) 2560 3072 (by decide) (by decide)
    (congrArg dyVec (wordA L t1 ⟨5, by decide⟩))
    (fun t => off58_eq L t1 t) (fun t => off59_eq L t1 t) (fun t => by rw [k0_off60_eq]; show _ = _; simp only [Matrix.cons_val_zero] <;> omega)
    (fun t => by rw [k0_off61_eq]; show _ = _; simp only [Matrix.cons_val_zero] <;> omega) (fun t => by rw [k0_off62_eq]; show _ = _; simp only [Matrix.cons_val_zero] <;> omega)
    (fun t c => by rw [k0_off63_eq]; show _ = _; simp only [Matrix.cons_val_zero] <;> omega)
    (fun t => by rw [k0_off64_eq]; show _ = _; simp only [Matrix.cons_val_zero] <;> omega) (fun t => by rw [k0_off65_eq]; show _ = _; simp only [Matrix.cons_val_zero] <;> omega) (fun t => by rw [k0_off66_eq]; show _ = _; simp only [Matrix.cons_val_zero] <;> omega) _ Q) $$ H
  iintro H
  iapply (wp_row d L a11 a12 (dyVec (Scalar.addi (hWord (wWord L) (evWord t1)) 6#32)) (fun t => k0_off67 L t1 t) (fun t => k0_off68 L t1 t) (fun t => k0_off69 t)
    _ _ _ (fun t => k0_off70 t) (fun t => k0_off71 t) (fun t c => k0_off72 t c) (fun t => k0_off73 t) (fun t => k0_off74 t) (fun t => k0_off75 t) _ _ _ _ _ _
    (t1.val % 2) (Nat.mod_lt _ (by decide)) (16 * wN L) (by omega) X0 X1 bx0 bx1 DX G gd im 6 (by decide) 3072 3584 (by decide) (by decide)
    (congrArg dyVec (wordA L t1 ⟨6, by decide⟩))
    (fun t => off67_eq L t1 t) (fun t => off68_eq L t1 t) (fun t => by rw [k0_off69_eq]; show _ = _; simp only [Matrix.cons_val_zero] <;> omega)
    (fun t => by rw [k0_off70_eq]; show _ = _; simp only [Matrix.cons_val_zero] <;> omega) (fun t => by rw [k0_off71_eq]; show _ = _; simp only [Matrix.cons_val_zero] <;> omega)
    (fun t c => by rw [k0_off72_eq]; show _ = _; simp only [Matrix.cons_val_zero] <;> omega)
    (fun t => by rw [k0_off73_eq]; show _ = _; simp only [Matrix.cons_val_zero] <;> omega) (fun t => by rw [k0_off74_eq]; show _ = _; simp only [Matrix.cons_val_zero] <;> omega) (fun t => by rw [k0_off75_eq]; show _ = _; simp only [Matrix.cons_val_zero] <;> omega) _ Q) $$ H
  iintro H
  iapply (wp_row d L a11 a12 (dyVec (Scalar.addi (hWord (wWord L) (evWord t1)) 7#32)) (fun t => k0_off76 L t1 t) (fun t => k0_off77 L t1 t) (fun t => k0_off78 t)
    _ _ _ (fun t => k0_off79 t) (fun t => k0_off80 t) (fun t c => k0_off81 t c) (fun t => k0_off82 t) (fun t => k0_off83 t) (fun t => k0_off84 t) _ _ _ _ _ _
    (t1.val % 2) (Nat.mod_lt _ (by decide)) (16 * wN L) (by omega) X0 X1 bx0 bx1 DX G gd im 7 (by decide) 3584 4096 (by decide) (by decide)
    (congrArg dyVec (wordA L t1 ⟨7, by decide⟩))
    (fun t => off76_eq L t1 t) (fun t => off77_eq L t1 t) (fun t => by rw [k0_off78_eq]; show _ = _; simp only [Matrix.cons_val_zero] <;> omega)
    (fun t => by rw [k0_off79_eq]; show _ = _; simp only [Matrix.cons_val_zero] <;> omega) (fun t => by rw [k0_off80_eq]; show _ = _; simp only [Matrix.cons_val_zero] <;> omega)
    (fun t c => by rw [k0_off81_eq]; show _ = _; simp only [Matrix.cons_val_zero] <;> omega)
    (fun t => by rw [k0_off82_eq]; show _ = _; simp only [Matrix.cons_val_zero] <;> omega) (fun t => by rw [k0_off83_eq]; show _ = _; simp only [Matrix.cons_val_zero] <;> omega) (fun t => by rw [k0_off84_eq]; show _ = _; simp only [Matrix.cons_val_zero] <;> omega) _ Q) $$ H
  iintro H
  iapply le_wp_ret
  iapply Hk
  iexact H

theorem wp_rowsB (t1 : Fin k0_t1_loop.trips) (X0 X1 : ℕ → BitVec 32) (bx0 : ∀ x < 512, (X0 x).toNat < 16) (bx1 : ∀ x < 512, (X1 x).toNat < 16)
    (DX G gd : ℕ → F .f32) (im : ℕ → ℕ → F .f32) (Q : PUnit → sProp 𝕄) :
    Rw d L (t1.val % 2) (Nat.mod_lt _ (by decide)) a13 a14 X0 X1 DX G gd im (512 * (16 * wN L + 8)) 0
      ⊢ iprop((Rw d L (t1.val % 2) (Nat.mod_lt _ (by decide)) a13 a14 X0 X1 DX G gd im (512 * (16 * wN L + 8)) 4096 -∗ Q ⟨⟩) -∗ run d L (rowsB L t1) Q) := by
  have hwN := wN_lt L
  unfold rowsB
  iintro H Hk
  iapply (wp_row d L a13 a14 (dyVec (Scalar.addi (hWord (wWord L) (Scalar.addi (evWord t1) 1#32)) 0#32)) (fun t => k0_off87 L t1 t) (fun t => k0_off88 L t1 t) (fun t => k0_off89 t)
    _ _ _ (fun t => k0_off90 t) (fun t => k0_off91 t) (fun t c => k0_off92 t c) (fun t => k0_off93 t) (fun t => k0_off94 t) (fun t => k0_off95 t) _ _ _ _ _ _
    (t1.val % 2) (Nat.mod_lt _ (by decide)) (16 * wN L + 8) (by omega) X0 X1 bx0 bx1 DX G gd im 0 (by decide) 0 512 (by decide) (by decide)
    (congrArg dyVec ((wordB L t1 ⟨0, by decide⟩).trans (congrArg (BitVec.ofNat 32) (by show 16 * wN L + (8 + 0) = 16 * wN L + 8 + 0; omega))))
    (fun t => off87_eq L t1 t) (fun t => off88_eq L t1 t) (fun t => by rw [k0_off89_eq]; show _ = _; simp only [Matrix.cons_val_zero] <;> omega)
    (fun t => by rw [k0_off90_eq]; show _ = _; simp only [Matrix.cons_val_zero] <;> omega) (fun t => by rw [k0_off91_eq]; show _ = _; simp only [Matrix.cons_val_zero] <;> omega)
    (fun t c => by rw [k0_off92_eq]; show _ = _; simp only [Matrix.cons_val_zero] <;> omega)
    (fun t => by rw [k0_off93_eq]; show _ = _; simp only [Matrix.cons_val_zero] <;> omega) (fun t => by rw [k0_off94_eq]; show _ = _; simp only [Matrix.cons_val_zero] <;> omega) (fun t => by rw [k0_off95_eq]; show _ = _; simp only [Matrix.cons_val_zero] <;> omega) _ Q) $$ H
  iintro H
  iapply (wp_row d L a13 a14 (dyVec (Scalar.addi (hWord (wWord L) (Scalar.addi (evWord t1) 1#32)) 1#32)) (fun t => k0_off96 L t1 t) (fun t => k0_off97 L t1 t) (fun t => k0_off98 t)
    _ _ _ (fun t => k0_off99 t) (fun t => k0_off100 t) (fun t c => k0_off101 t c) (fun t => k0_off102 t) (fun t => k0_off103 t) (fun t => k0_off104 t) _ _ _ _ _ _
    (t1.val % 2) (Nat.mod_lt _ (by decide)) (16 * wN L + 8) (by omega) X0 X1 bx0 bx1 DX G gd im 1 (by decide) 512 1024 (by decide) (by decide)
    (congrArg dyVec ((wordB L t1 ⟨1, by decide⟩).trans (congrArg (BitVec.ofNat 32) (by show 16 * wN L + (8 + 1) = 16 * wN L + 8 + 1; omega))))
    (fun t => off96_eq L t1 t) (fun t => off97_eq L t1 t) (fun t => by rw [k0_off98_eq]; show _ = _; simp only [Matrix.cons_val_zero] <;> omega)
    (fun t => by rw [k0_off99_eq]; show _ = _; simp only [Matrix.cons_val_zero] <;> omega) (fun t => by rw [k0_off100_eq]; show _ = _; simp only [Matrix.cons_val_zero] <;> omega)
    (fun t c => by rw [k0_off101_eq]; show _ = _; simp only [Matrix.cons_val_zero] <;> omega)
    (fun t => by rw [k0_off102_eq]; show _ = _; simp only [Matrix.cons_val_zero] <;> omega) (fun t => by rw [k0_off103_eq]; show _ = _; simp only [Matrix.cons_val_zero] <;> omega) (fun t => by rw [k0_off104_eq]; show _ = _; simp only [Matrix.cons_val_zero] <;> omega) _ Q) $$ H
  iintro H
  iapply (wp_row d L a13 a14 (dyVec (Scalar.addi (hWord (wWord L) (Scalar.addi (evWord t1) 1#32)) 2#32)) (fun t => k0_off105 L t1 t) (fun t => k0_off106 L t1 t) (fun t => k0_off107 t)
    _ _ _ (fun t => k0_off108 t) (fun t => k0_off109 t) (fun t c => k0_off110 t c) (fun t => k0_off111 t) (fun t => k0_off112 t) (fun t => k0_off113 t) _ _ _ _ _ _
    (t1.val % 2) (Nat.mod_lt _ (by decide)) (16 * wN L + 8) (by omega) X0 X1 bx0 bx1 DX G gd im 2 (by decide) 1024 1536 (by decide) (by decide)
    (congrArg dyVec ((wordB L t1 ⟨2, by decide⟩).trans (congrArg (BitVec.ofNat 32) (by show 16 * wN L + (8 + 2) = 16 * wN L + 8 + 2; omega))))
    (fun t => off105_eq L t1 t) (fun t => off106_eq L t1 t) (fun t => by rw [k0_off107_eq]; show _ = _; simp only [Matrix.cons_val_zero] <;> omega)
    (fun t => by rw [k0_off108_eq]; show _ = _; simp only [Matrix.cons_val_zero] <;> omega) (fun t => by rw [k0_off109_eq]; show _ = _; simp only [Matrix.cons_val_zero] <;> omega)
    (fun t c => by rw [k0_off110_eq]; show _ = _; simp only [Matrix.cons_val_zero] <;> omega)
    (fun t => by rw [k0_off111_eq]; show _ = _; simp only [Matrix.cons_val_zero] <;> omega) (fun t => by rw [k0_off112_eq]; show _ = _; simp only [Matrix.cons_val_zero] <;> omega) (fun t => by rw [k0_off113_eq]; show _ = _; simp only [Matrix.cons_val_zero] <;> omega) _ Q) $$ H
  iintro H
  iapply (wp_row d L a13 a14 (dyVec (Scalar.addi (hWord (wWord L) (Scalar.addi (evWord t1) 1#32)) 3#32)) (fun t => k0_off114 L t1 t) (fun t => k0_off115 L t1 t) (fun t => k0_off116 t)
    _ _ _ (fun t => k0_off117 t) (fun t => k0_off118 t) (fun t c => k0_off119 t c) (fun t => k0_off120 t) (fun t => k0_off121 t) (fun t => k0_off122 t) _ _ _ _ _ _
    (t1.val % 2) (Nat.mod_lt _ (by decide)) (16 * wN L + 8) (by omega) X0 X1 bx0 bx1 DX G gd im 3 (by decide) 1536 2048 (by decide) (by decide)
    (congrArg dyVec ((wordB L t1 ⟨3, by decide⟩).trans (congrArg (BitVec.ofNat 32) (by show 16 * wN L + (8 + 3) = 16 * wN L + 8 + 3; omega))))
    (fun t => off114_eq L t1 t) (fun t => off115_eq L t1 t) (fun t => by rw [k0_off116_eq]; show _ = _; simp only [Matrix.cons_val_zero] <;> omega)
    (fun t => by rw [k0_off117_eq]; show _ = _; simp only [Matrix.cons_val_zero] <;> omega) (fun t => by rw [k0_off118_eq]; show _ = _; simp only [Matrix.cons_val_zero] <;> omega)
    (fun t c => by rw [k0_off119_eq]; show _ = _; simp only [Matrix.cons_val_zero] <;> omega)
    (fun t => by rw [k0_off120_eq]; show _ = _; simp only [Matrix.cons_val_zero] <;> omega) (fun t => by rw [k0_off121_eq]; show _ = _; simp only [Matrix.cons_val_zero] <;> omega) (fun t => by rw [k0_off122_eq]; show _ = _; simp only [Matrix.cons_val_zero] <;> omega) _ Q) $$ H
  iintro H
  iapply (wp_row d L a13 a14 (dyVec (Scalar.addi (hWord (wWord L) (Scalar.addi (evWord t1) 1#32)) 4#32)) (fun t => k0_off123 L t1 t) (fun t => k0_off124 L t1 t) (fun t => k0_off125 t)
    _ _ _ (fun t => k0_off126 t) (fun t => k0_off127 t) (fun t c => k0_off128 t c) (fun t => k0_off129 t) (fun t => k0_off130 t) (fun t => k0_off131 t) _ _ _ _ _ _
    (t1.val % 2) (Nat.mod_lt _ (by decide)) (16 * wN L + 8) (by omega) X0 X1 bx0 bx1 DX G gd im 4 (by decide) 2048 2560 (by decide) (by decide)
    (congrArg dyVec ((wordB L t1 ⟨4, by decide⟩).trans (congrArg (BitVec.ofNat 32) (by show 16 * wN L + (8 + 4) = 16 * wN L + 8 + 4; omega))))
    (fun t => off123_eq L t1 t) (fun t => off124_eq L t1 t) (fun t => by rw [k0_off125_eq]; show _ = _; simp only [Matrix.cons_val_zero] <;> omega)
    (fun t => by rw [k0_off126_eq]; show _ = _; simp only [Matrix.cons_val_zero] <;> omega) (fun t => by rw [k0_off127_eq]; show _ = _; simp only [Matrix.cons_val_zero] <;> omega)
    (fun t c => by rw [k0_off128_eq]; show _ = _; simp only [Matrix.cons_val_zero] <;> omega)
    (fun t => by rw [k0_off129_eq]; show _ = _; simp only [Matrix.cons_val_zero] <;> omega) (fun t => by rw [k0_off130_eq]; show _ = _; simp only [Matrix.cons_val_zero] <;> omega) (fun t => by rw [k0_off131_eq]; show _ = _; simp only [Matrix.cons_val_zero] <;> omega) _ Q) $$ H
  iintro H
  iapply (wp_row d L a13 a14 (dyVec (Scalar.addi (hWord (wWord L) (Scalar.addi (evWord t1) 1#32)) 5#32)) (fun t => k0_off132 L t1 t) (fun t => k0_off133 L t1 t) (fun t => k0_off134 t)
    _ _ _ (fun t => k0_off135 t) (fun t => k0_off136 t) (fun t c => k0_off137 t c) (fun t => k0_off138 t) (fun t => k0_off139 t) (fun t => k0_off140 t) _ _ _ _ _ _
    (t1.val % 2) (Nat.mod_lt _ (by decide)) (16 * wN L + 8) (by omega) X0 X1 bx0 bx1 DX G gd im 5 (by decide) 2560 3072 (by decide) (by decide)
    (congrArg dyVec ((wordB L t1 ⟨5, by decide⟩).trans (congrArg (BitVec.ofNat 32) (by show 16 * wN L + (8 + 5) = 16 * wN L + 8 + 5; omega))))
    (fun t => off132_eq L t1 t) (fun t => off133_eq L t1 t) (fun t => by rw [k0_off134_eq]; show _ = _; simp only [Matrix.cons_val_zero] <;> omega)
    (fun t => by rw [k0_off135_eq]; show _ = _; simp only [Matrix.cons_val_zero] <;> omega) (fun t => by rw [k0_off136_eq]; show _ = _; simp only [Matrix.cons_val_zero] <;> omega)
    (fun t c => by rw [k0_off137_eq]; show _ = _; simp only [Matrix.cons_val_zero] <;> omega)
    (fun t => by rw [k0_off138_eq]; show _ = _; simp only [Matrix.cons_val_zero] <;> omega) (fun t => by rw [k0_off139_eq]; show _ = _; simp only [Matrix.cons_val_zero] <;> omega) (fun t => by rw [k0_off140_eq]; show _ = _; simp only [Matrix.cons_val_zero] <;> omega) _ Q) $$ H
  iintro H
  iapply (wp_row d L a13 a14 (dyVec (Scalar.addi (hWord (wWord L) (Scalar.addi (evWord t1) 1#32)) 6#32)) (fun t => k0_off141 L t1 t) (fun t => k0_off142 L t1 t) (fun t => k0_off143 t)
    _ _ _ (fun t => k0_off144 t) (fun t => k0_off145 t) (fun t c => k0_off146 t c) (fun t => k0_off147 t) (fun t => k0_off148 t) (fun t => k0_off149 t) _ _ _ _ _ _
    (t1.val % 2) (Nat.mod_lt _ (by decide)) (16 * wN L + 8) (by omega) X0 X1 bx0 bx1 DX G gd im 6 (by decide) 3072 3584 (by decide) (by decide)
    (congrArg dyVec ((wordB L t1 ⟨6, by decide⟩).trans (congrArg (BitVec.ofNat 32) (by show 16 * wN L + (8 + 6) = 16 * wN L + 8 + 6; omega))))
    (fun t => off141_eq L t1 t) (fun t => off142_eq L t1 t) (fun t => by rw [k0_off143_eq]; show _ = _; simp only [Matrix.cons_val_zero] <;> omega)
    (fun t => by rw [k0_off144_eq]; show _ = _; simp only [Matrix.cons_val_zero] <;> omega) (fun t => by rw [k0_off145_eq]; show _ = _; simp only [Matrix.cons_val_zero] <;> omega)
    (fun t c => by rw [k0_off146_eq]; show _ = _; simp only [Matrix.cons_val_zero] <;> omega)
    (fun t => by rw [k0_off147_eq]; show _ = _; simp only [Matrix.cons_val_zero] <;> omega) (fun t => by rw [k0_off148_eq]; show _ = _; simp only [Matrix.cons_val_zero] <;> omega) (fun t => by rw [k0_off149_eq]; show _ = _; simp only [Matrix.cons_val_zero] <;> omega) _ Q) $$ H
  iintro H
  iapply (wp_row d L a13 a14 (dyVec (Scalar.addi (hWord (wWord L) (Scalar.addi (evWord t1) 1#32)) 7#32)) (fun t => k0_off150 L t1 t) (fun t => k0_off151 L t1 t) (fun t => k0_off152 t)
    _ _ _ (fun t => k0_off153 t) (fun t => k0_off154 t) (fun t c => k0_off155 t c) (fun t => k0_off156 t) (fun t => k0_off157 t) (fun t => k0_off158 t) _ _ _ _ _ _
    (t1.val % 2) (Nat.mod_lt _ (by decide)) (16 * wN L + 8) (by omega) X0 X1 bx0 bx1 DX G gd im 7 (by decide) 3584 4096 (by decide) (by decide)
    (congrArg dyVec ((wordB L t1 ⟨7, by decide⟩).trans (congrArg (BitVec.ofNat 32) (by show 16 * wN L + (8 + 7) = 16 * wN L + 8 + 7; omega))))
    (fun t => off150_eq L t1 t) (fun t => off151_eq L t1 t) (fun t => by rw [k0_off152_eq]; show _ = _; simp only [Matrix.cons_val_zero] <;> omega)
    (fun t => by rw [k0_off153_eq]; show _ = _; simp only [Matrix.cons_val_zero] <;> omega) (fun t => by rw [k0_off154_eq]; show _ = _; simp only [Matrix.cons_val_zero] <;> omega)
    (fun t c => by rw [k0_off155_eq]; show _ = _; simp only [Matrix.cons_val_zero] <;> omega)
    (fun t => by rw [k0_off156_eq]; show _ = _; simp only [Matrix.cons_val_zero] <;> omega) (fun t => by rw [k0_off157_eq]; show _ = _; simp only [Matrix.cons_val_zero] <;> omega) (fun t => by rw [k0_off158_eq]; show _ = _; simp only [Matrix.cons_val_zero] <;> omega) _ Q) $$ H
  iintro H
  iapply le_wp_ret
  iapply Hk
  iexact H

end Cert.Proof.Tile
-- ==== Proof.Moves.lean ====
/- The copies of the grid's rows in and of the result's rows out. -/
module

public import proofs.«01_k».proof.Proof.Rows

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-! ## Grid rows in -/

abbrev a2L : Loc nD τ sig := (a2).view.loc (V d (cV L) (jV L))
abbrev a8L : Loc nD τ sig := (a8).view.loc (V d (cV L) (jV L))

/-- The slot of batch `t`, unused. -/
def FreeN (t : ℕ) : sProp (MT nD τ sig (HIx 1) (Elt F) ℕ UU ℕ) :=
  iprop(∃ f : Buf (Elt F) (at_ d L a9), at_ d L a9 ↦[S9 d L (t % 2) (Nat.mod_lt _ (by decide))]{fullShare} f)
/-- The slot of batch `t`, holding its grid. -/
def SlotN (t : ℕ) (G : ℕ → F .f32) : sProp (MT nD τ sig (HIx 1) (Elt F) ℕ UU ℕ) := Slot d L (t % 2) (Nat.mod_lt _ (by decide)) G

theorem SlotN_free (t : ℕ) (G : ℕ → F .f32) : (SlotN d L t G : sProp 𝕄) ⊢ FreeN d L t := by
  unfold SlotN Slot FreeN
  iintro ⟨%f, -, H⟩
  iexists f; iexact H

theorem FreeN_two (t : ℕ) : (FreeN (F := F) d L (t + 2) : sProp 𝕄) = FreeN d L t := by
  unfold FreeN
  have e : (t + 2) % 2 = t % 2 := by omega
  simp only [e]

/-- The credit of a grid row's copy. -/
abbrev crG : ℕ := (slot ![0] inb_S49152_S24576_0).view.dmaCredit
theorem crG_pos : 0 < crG := View.dmaCredit_pos _ (by decide)
theorem crG_eq (o : Fin 1 → Nat) (h : ∀ a, o a + S24576.size a ≤ S49152.size a) : (slot o h).view.dmaCredit = crG := rfl

theorem wp_gridIn (sem : DmaSem sig) (oR : Fin 2 → Nat) (hR : ∀ a, oR a + S1x24576.size a ≤ S4x24576.size a)
    (o : Fin 1 → Nat) (h : ∀ a, o a + S24576.size a ≤ S49152.size a)
    (f2 : Buf (Elt F) (a2L d L)) (t : ℕ) (eR : oR = ![t, 0]) (eo : o = ![24576 * (t % 2)]) {α : Type} (k : PUnit → TP (F := F) L α) (Q : α → sProp 𝕄) :
    iprop(Sh (a2L d L) f2 ∗ FreeN d L t ∗ semVal (V d (cV L) (jV L), .dma sem) 0)
      ⊢ iprop((iprop(Sh (a2L d L) f2 ∗ Transfers.Flight EC (V d (cV L) (jV L)) (.dma sem) (default : HIx 1) crG (SlotN d L t (rd2 a2 f2 t))) -∗ run d L (k ⟨⟩) Q)
        -∗ run d L (.op (.enqueueDma (bRow oR hR) (.here (slot o h)) (.dma sem) ((View.wordExact_bits rfl).reshape _ _) (View.wordExact_bits rfl) ⟨Or.inl rfl, trivial⟩) k) Q) := by
  subst eo
  unfold FreeN
  iintro ⟨H2, ⟨%f9, H9⟩, Hs⟩ Hk
  ihave H2' := (Sh_lend (F := F) (a2L d L) f2 (bRow oR hR).view.set) $$ H2
  icases H2' with ⟨H2, %q, Hsrc⟩
  iapply (Transfers.wp_dmaLocal EC 𝒱₀ (V d (cV L) (jV L)) none (src := bRow oR hR) (dst := slot ![24576 * (t % 2)] h) (sm := .dma sem)
    (Sd := S9 d L (t % 2) (Nat.mod_lt _ (by decide))) (fd := f9) (fs := f2) (q := q) (default : HIx 1) crG (crG_eq _ _) crG_pos (Finset.Subset.refl _)) $$ [Hsrc H9 Hs]
  · isplitl [Hsrc]; · iexact Hsrc
    isplitl [H9] <;> iassumption
  iintro Hf
  iapply Hk
  isplitl [H2]; · iexact H2
  iapply (Transfers.Flight_mono EC (V d (cV L) (jV L)) ?_) $$ Hf
  iintro ⟨H, -⟩
  unfold SlotN Slot
  iexists _
  isplitr; rotate_left
  · iexact H
  ipureintro
  intro j hj
  refine (rd_seg (N := 49152) (n := 24576) a9 ![24576 * (t % 2)] h (fun _ => rfl) _ j hj).symm.trans ?_
  refine (rd_write (slot ![24576 * (t % 2)] h) f9 _ j).trans ?_
  refine (rd_row (N := 24576) a2 oR hR (fun _ => rfl) squeezes_S1x24576_S24576 f2 j hj).trans ?_
  rw [eR]
  show rd2 a2 f2 t (0 + j) = _
  rw [Nat.zero_add]

theorem wp_gridWait (sem : DmaSem sig) (oR : Fin 2 → Nat) (hR : ∀ a, oR a + S1x24576.size a ≤ S4x24576.size a)
    (o : Fin 1 → Nat) (h : ∀ a, o a + S24576.size a ≤ S49152.size a) (hs : (bRow oR hR).view.WordExact) (hd : (slot o h).view.WordExact)
    (D : sProp 𝕄) (O : CellTallies nD τ sig (HIx 1)) (W : Waits sig (HIx 1)) {α : Type} (k : PUnit → TP (F := F) L α) (Q : α → sProp 𝕄) :
    iprop(Transfers.Flight EC (V d (cV L) (jV L)) (.dma sem) (default : HIx 1) crG D ∗ Ow (F := F) d L O W ∗ Mw (F := F) d L O)
      ⊢ iprop((iprop(D ∗ semVal (V d (cV L) (jV L), .dma sem) 0 ∗ Ow (F := F) d L O W ∗ Mw (F := F) d L O) -∗ run d L (k ⟨⟩) Q)
        -∗ run d L (.op (.waitDma2 sem (bRow oR hR) (slot o h) hs hd) k) Q) := by
  unfold Ow
  iintro ⟨Hf, ⟨%W0, %hW, Ho⟩, #Hm⟩ Hk
  iapply (Transfers.wp_waitLocalO EC 𝒱₀ (V d (cV L) (jV L)) none (default : HIx 1) (N := crG) (crG_eq _ _)) $$ [Hf Ho]
  · isplitl [Hf]; · iexact Hf
    isplitl [Ho]; · iexact Ho
    iapply (Transfers.MayWaits.elim (.dma sem)) $$ Hm
  iintro ⟨HD, Hs, Ho⟩
  iapply Hk
  isplitl [HD]; · iexact HD
  isplitl [Hs]; · iexact Hs
  isplitl [Ho]
  · iexists _
    isplitr; rotate_left
    · iexact Ho
    ipureintro
    exact Ow_insert _ _ _ hW
  iexact Hm

/-! ## Result rows out -/

/-- The columns of the result that tile `w` writes. -/
def cols (w : ℕ) : Finset (Idx (a8L d L)) := Finset.univ.filter fun i => ((i : S12x262144.Idx) 1).val / 8192 = w

theorem mem_row (o : Fin 2 → ℕ) (h : ∀ a, o a + S1x4096.size a ≤ S12x262144.size a) (y : (a8).view.ty.Idx) (hy : y ∈ (cRow a8 o h).view.set) :
    ∃ j < 4096, y = (a8).view.emb (ix2 (o 0) (o 1 + j)) := by
  obtain ⟨x', -, e'⟩ := Finset.mem_map.mp hy
  obtain ⟨x, e⟩ : ∃ x : S1x4096.Idx, (a8).view.emb ((Rect.unit (s := S12x262144) o S1x4096.size h).emb x) = y :=
    ⟨Shape.reshapeEquiv squeezes_S1x4096_S4096.numel_eq x', e'⟩
  have h0 : (x 0).val < 1 := (x 0).isLt
  refine ⟨(x 1).val, (x 1).isLt, e.symm.trans (congrArg _ (eq_ix2 _ _ _ ?_ ?_))⟩
  · show o 0 + 1 * (x 0).val = _
    omega
  · show o 1 + 1 * (x 1).val = _
    omega

/-- Writing a row's stretch: inside it is what is written, outside it what was there. -/
theorem row_write (o : Fin 2 → ℕ) (h : ∀ a, o a + S1x4096.size a ≤ S12x262144.size a) (f : Buf (Elt F) (a8L d L)) (w : S4096.Idx → Elt F .f32)
    (r n : ℕ) (hr : r < 12) (hn : n < 262144) :
    (∀ j < 4096, r = o 0 → n = o 1 + j → rd2 a8 ((cRow a8 o h).view.write (Elt F) f w Finset.univ) r n = w (ix1 j))
    ∧ (¬ (r = o 0 ∧ o 1 ≤ n ∧ n < o 1 + 4096) → rd2 a8 ((cRow a8 o h).view.write (Elt F) f w Finset.univ) r n = rd2 a8 f r n) := by
  constructor
  · intro j hj er en
    rw [er, en]
    exact (rd_row (N := 262144) a8 o h (fun _ => rfl) squeezes_S1x4096_S4096 _ j hj).symm.trans (rd_write (cRow a8 o h) f w j)
  · intro hnot
    unfold rd2 View.read
    refine congrArg _ (View.write_of_not_mem _ _ _ fun hin => hnot ?_)
    obtain ⟨j, hj, e⟩ := mem_row o h _ hin
    have b0 : o 0 + 1 ≤ 12 := h 0
    have b1 : o 1 + 4096 ≤ 262144 := h 1
    have e' := (a8).view.emb.injective e
    have e0 := congrArg (fun x => (x 0).val) e'
    have e1 := congrArg (fun x => (x 1).val) e'
    simp only [ix2_val0, ix2_val1] at e0 e1
    rw [Nat.mod_eq_of_lt hr, Nat.mod_eq_of_lt (by omega)] at e0
    rw [Nat.mod_eq_of_lt hn, Nat.mod_eq_of_lt (by omega)] at e1
    omega

/-- The tile's columns of the result, right where `P` holds. -/
def OutT (w : ℕ) (VAL : ℕ → ℕ → F .f32) (P : ℕ → ℕ → Prop) : sProp (MT nD τ sig (HIx 1) (Elt F) ℕ UU ℕ) :=
  iprop(∃ f : Buf (Elt F) (a8L d L), ⌜∀ r < 12, ∀ n < 262144, P r n → rd2 a8 f r n = VAL r n⌝ ∗ (a8L d L ↦[cols d L w]{fullShare} f))

theorem row_cols (o : Fin 2 → ℕ) (h : ∀ a, o a + S1x4096.size a ≤ S12x262144.size a) (w : ℕ) (hw : ∀ j < 4096, (o 1 + j) / 8192 = w) :
    (cRow a8 o h).view.set ⊆ cols d L w := by
  intro y hy
  obtain ⟨j, hj, e⟩ := mem_row o h y hy
  have b1 : o 1 + 4096 ≤ 262144 := h 1
  refine Finset.mem_filter.mpr ⟨Finset.mem_univ _, ?_⟩
  rw [e]
  show (o 1 + j) % 262144 / 8192 = w
  rw [Nat.mod_eq_of_lt (by omega)]
  exact hw j hj

theorem wp_put (sem : DmaSem sig) (os : Fin 1 → Nat) (hs : ∀ a, os a + S4096.size a ≤ S12288.size a)
    (o : Fin 2 → Nat) (h : ∀ a, o a + S1x4096.size a ≤ S12x262144.size a) (c : ℕ) (hc : c < 3) (es : os = ![4096 * c]) (R n0 : ℕ) (eo : o = ![R, n0])
    (w : ℕ) (hw : ∀ j < 4096, (n0 + j) / 8192 = w) (PX VAL : ℕ → ℕ → F .f32) (hV : ∀ j < 4096, VAL R (n0 + j) = PX c j)
    (P P' : ℕ → ℕ → Prop) (hP : ∀ r n, P' r n → P r n ∨ (r = R ∧ n0 ≤ n ∧ n < n0 + 4096))
    (O : CellTallies nD τ sig (HIx 1)) (W : Waits sig (HIx 1)) (Q : PUnit → sProp 𝕄) :
    iprop(Out d L PX 4096 ∗ OutT d L w VAL P ∗ semVal (V d (cV L) (jV L), .dma sem) 0 ∗ Ow (F := F) d L O W ∗ Mw (F := F) d L O)
      ⊢ iprop((iprop(Out d L PX 4096 ∗ OutT d L w VAL P' ∗ semVal (V d (cV L) (jV L), .dma sem) 0 ∗ Ow (F := F) d L O W ∗ Mw (F := F) d L O) -∗ Q ⟨⟩)
        -∗ run d L (put L sem os hs o h) Q) := by
  subst es
  unfold put Out OutT Ow
  iintro ⟨⟨%fo, %hfo, Hsrc⟩, ⟨%f8, %hf8, H8⟩, Hs, ⟨%W0, %hW, Ho⟩, #Hm⟩ Hk
  ihave Hsrc' := (show (at_ d L a15 ↦{fullShare} fo : sProp 𝕄) ⊢ _ from (pointsTo_split_subset (Finset.subset_univ (seg a15 ![4096 * c] hs).view.set)).1) $$ Hsrc
  icases Hsrc' with ⟨Hsrc, Hrest⟩
  iapply (Transfers.wp_dmaLocal EC 𝒱₀ (V d (cV L) (jV L)) none (src := seg a15 ![4096 * c] hs) (dst := cRow a8 o h) (sm := .dma sem)
    (Sd := cols d L w) (fd := f8) (fs := fo) (q := fullShare) (default : HIx 1) (cRow a8 o h).view.dmaCredit rfl (View.dmaCredit_pos _ (by decide))
    (row_cols d L o h w (by rw [eo]; exact hw))) $$ [Hsrc H8 Hs]
  · isplitl [Hsrc]; · iexact Hsrc
    isplitl [H8] <;> iassumption
  iintro Hf
  iapply (Transfers.wp_waitLocalO EC 𝒱₀ (V d (cV L) (jV L)) none (default : HIx 1) (N := (cRow a8 o h).view.dmaCredit) rfl) $$ [Hf Ho]
  · isplitl [Hf]; · iexact Hf
    isplitl [Ho]; · iexact Ho
    iapply (Transfers.MayWaits.elim (.dma sem)) $$ Hm
  iintro ⟨⟨H8, Hsrc⟩, Hs, Ho⟩
  ihave Hsrc := (show iprop((at_ d L a15 ↦[(seg a15 ![4096 * c] hs).view.set]{fullShare} fo) ∗ (at_ d L a15 ↦[Finset.univ \ (seg a15 ![4096 * c] hs).view.set]{fullShare} fo)) ⊢ (at_ d L a15 ↦{fullShare} fo : sProp 𝕄)
    from (pointsTo_split_subset (Finset.subset_univ (seg a15 ![4096 * c] hs).view.set)).2) $$ [Hsrc Hrest]
  · isplitl [Hsrc] <;> iassumption
  iapply le_wp_ret
  iapply Hk
  isplitl [Hsrc]
  · iexists _; isplitr; rotate_left
    · iexact Hsrc
    ipureintro; exact hfo
  isplitl [H8]
  · iexists _; isplitr; rotate_left
    · iexact H8
    ipureintro
    intro r hr n hn hp
    by_cases hin : r = R ∧ n0 ≤ n ∧ n < n0 + 4096
    · obtain ⟨er, l0, l1⟩ := hin
      refine ((row_write d L o h f8 _ r n hr hn).1 (n - n0) (by omega) (by rw [eo]; exact er) (by rw [eo]; show n = n0 + _; omega)).trans ?_
      have := hV (n - n0) (by omega)
      rw [show n0 + (n - n0) = n from by omega] at this
      rw [er, this, ← hfo c hc (n - n0) (by omega)]
      exact rd_seg (N := 12288) (n := 4096) a15 ![4096 * c] hs (fun _ => rfl) fo (n - n0) (by omega)
    · refine ((row_write d L o h f8 _ r n hr hn).2 (by rw [eo]; exact hin)).trans ?_
      exact hf8 r hr n hn ((hP r n hp).resolve_right hin)
  isplitl [Hs]; · iexact Hs
  isplitl [Ho]
  · iexists _
    isplitr; rotate_left
    · iexact Ho
    ipureintro
    exact Ow_insert _ _ _ hW
  iexact Hm

end Cert.Proof.Tile
-- ==== Proof.Trip.lean ====
/- One trip of the outer loop: one batch's two blocks of eight rows. -/
module

public import proofs.«01_k».proof.Proof.RowsAB
public import proofs.«01_k».proof.Proof.Moves

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- Where the first and the second block of tile `L` start. -/
abbrev nA : ℕ := 512 * (16 * wN L)
abbrev nB : ℕ := 512 * (16 * wN L + 8)

variable (f2 : Buf (Elt F) (a2L d L)) (f3 : Buf (Elt F) (a3L d L)) (f4 : Buf (Elt F) (a4L d L)) (X0 X1 : ℕ → BitVec 32) (DX : ℕ → F .f32)

/-- Batch `b`'s grid, guide and image. -/
abbrev Gf (b : ℕ) : ℕ → F .f32 := rd2 a2 f2 b
abbrev gdf (b : ℕ) : ℕ → F .f32 := rd2 a3 f3 b
abbrev imf (b : ℕ) : ℕ → ℕ → F .f32 := fun c => rd2 a4 f4 (3 * b + c)

/-- The result, at row `r` (a batch and a channel) and pixel `n`. -/
def VAL (r n : ℕ) : F .f32 := pixN X0 X1 DX (Gf d L f2 (r / 3)) (gdf d L f3 (r / 3)) (imf d L f4 (r / 3)) (r % 3) n

theorem VAL_at (t c n : ℕ) (hc : c < 3) : VAL d L f2 f3 f4 X0 X1 DX (3 * t + c) n = pixN X0 X1 DX (Gf d L f2 t) (gdf d L f3 t) (imf d L f4 t) c n := by
  unfold VAL
  rw [show (3 * t + c) / 3 = t from by omega, show (3 * t + c) % 3 = c from by omega]

/-- The grid of batch `t` on its way, while there is such a batch. -/
def NG (t : ℕ) : sProp (MT nD τ sig (HIx 1) (Elt F) ℕ UU ℕ) :=
  if t < 4 then Transfers.Flight EC (V d (cV L) (jV L)) (.dma cc0_scratch12.sem) (default : HIx 1) crG (SlotN d L t (Gf d L f2 t))
  else iprop(FreeN d L t ∗ semVal (V d (cV L) (jV L), .dma cc0_scratch12.sem) 0)

/-- The first block of batch `t` on its way, while there is such a batch. -/
def NB (t : ℕ) : sProp (MT nD τ sig (HIx 1) (Elt F) ℕ UU ℕ) :=
  if t < 4 then Transfers.Batch EC (V d (cV L) (jV L)) (.dma cc0_scratch10.sem) (default : HIx 1) cr (dAll d L a11 a12 (gdf d L f3 t) (imf d L f4 t) (nA L)) 4 0
  else iprop((∃ f : Buf (Elt F) (at_ d L a11), at_ d L a11 ↦{fullShare} f) ∗ (∃ f : Buf (Elt F) (at_ d L a12), at_ d L a12 ↦{fullShare} f)
    ∗ semVal (V d (cV L) (jV L), .dma cc0_scratch10.sem) 0)

theorem NG_lt (t : ℕ) (ht : t < 4) : (NG d L f2 t : sProp 𝕄)
    = Transfers.Flight EC (V d (cV L) (jV L)) (.dma cc0_scratch12.sem) (default : HIx 1) crG (SlotN d L t (Gf d L f2 t)) := if_pos ht
theorem NG_ge (t : ℕ) (ht : ¬ t < 4) : (NG d L f2 t : sProp 𝕄) = iprop(FreeN d L t ∗ semVal (V d (cV L) (jV L), .dma cc0_scratch12.sem) 0) := if_neg ht
theorem NB_lt (t : ℕ) (ht : t < 4) : (NB d L f3 f4 t : sProp 𝕄)
    = Transfers.Batch EC (V d (cV L) (jV L)) (.dma cc0_scratch10.sem) (default : HIx 1) cr (dAll d L a11 a12 (gdf d L f3 t) (imf d L f4 t) (nA L)) 4 0 := if_pos ht
theorem NB_ge (t : ℕ) (ht : ¬ t < 4) : (NB d L f3 f4 t : sProp 𝕄)
    = iprop((∃ f : Buf (Elt F) (at_ d L a11), at_ d L a11 ↦{fullShare} f) ∗ (∃ f : Buf (Elt F) (at_ d L a12), at_ d L a12 ↦{fullShare} f)
      ∗ semVal (V d (cV L) (jV L), .dma cc0_scratch10.sem) 0) := if_neg ht

theorem dG_any (mg : VM S4096 .f32) (gd : ℕ → F .f32) (n0 : ℕ) : (dG d L mg gd n0 : sProp 𝕄) ⊢ iprop(∃ f : Buf (Elt F) (at_ d L mg), at_ d L mg ↦{fullShare} f) := by
  unfold dG
  iintro ⟨%f, -, H⟩
  iexists f; iexact H
theorem dI_any (mi : VM S12288 .f32) (im : ℕ → ℕ → F .f32) (n0 : ℕ) : (dI d L mi im n0 : sProp 𝕄) ⊢ iprop(∃ f : Buf (Elt F) (at_ d L mi), at_ d L mi ↦{fullShare} f) := by
  unfold dI
  iintro ⟨%f, -, H⟩
  iexists f; iexact H
theorem Out_any (PX : ℕ → ℕ → F .f32) (n : ℕ) : (Out d L PX n : sProp 𝕄) ⊢ iprop(∃ f : Buf (Elt F) (at_ d L a15), at_ d L a15 ↦{fullShare} f) := by
  unfold Out
  iintro ⟨%f, -, H⟩
  iexists f; iexact H
theorem rw_elim (s : ℕ) (hs : s < 2) (mg : VM S4096 .f32) (mi : VM S12288 .f32) (X0 X1 : ℕ → BitVec 32) (DX G gd : ℕ → F .f32) (im : ℕ → ℕ → F .f32) (n0 n : ℕ) :
    (Rw d L s hs mg mi X0 X1 DX G gd im n0 n : sProp 𝕄)
      ⊢ iprop(Slot d L s hs G ∗ (∃ f : Buf (Elt F) (at_ d L a10), at_ d L a10 ↦{fullShare} f) ∗ dG d L mg gd n0 ∗ dI d L mi im n0
        ∗ Out d L (fun o j => pixN X0 X1 DX G gd im o (n0 + j)) n ∗ Tabs d L X0 X1 DX) := BI.BIBase.Entails.rfl
theorem rw_intro (s : ℕ) (hs : s < 2) (mg : VM S4096 .f32) (mi : VM S12288 .f32) (X0 X1 : ℕ → BitVec 32) (DX G gd : ℕ → F .f32) (im : ℕ → ℕ → F .f32) (n0 n : ℕ) :
    iprop(Slot d L s hs G ∗ (∃ f : Buf (Elt F) (at_ d L a10), at_ d L a10 ↦{fullShare} f) ∗ dG d L mg gd n0 ∗ dI d L mi im n0
        ∗ Out d L (fun o j => pixN X0 X1 DX G gd im o (n0 + j)) n ∗ Tabs d L X0 X1 DX)
      ⊢ (Rw d L s hs mg mi X0 X1 DX G gd im n0 n : sProp 𝕄) := BI.BIBase.Entails.rfl
theorem any_Out (PX : ℕ → ℕ → F .f32) : iprop(∃ f : Buf (Elt F) (at_ d L a15), at_ d L a15 ↦{fullShare} f) ⊢ (Out d L PX 0 : sProp 𝕄) := by
  unfold Out
  iintro ⟨%f, H⟩
  iexists f
  isplitr; rotate_left
  · iexact H
  ipureintro
  intro o _ j hj
  exact absurd hj (Nat.not_lt_zero j)

theorem wp_nextGrid (t1 : Fin k0_t1_loop.trips) (x : W3) (Q : W3 → sProp 𝕄) :
    iprop(Sh (a2L d L) f2 ∗ FreeN d L (t1.val + 1) ∗ semVal (V d (cV L) (jV L), .dma cc0_scratch12.sem) 0)
      ⊢ iprop((iprop(Sh (a2L d L) f2 ∗ NG d L f2 (t1.val + 1)) -∗ Q x) -∗ run d L (nextGrid L t1 x) Q) := by
  unfold nextGrid NG
  by_cases h : k0_cond1 t1 = 1#1
  · have h3 := (cond1_iff t1).mp h
    rw [dif_pos h, if_pos (by omega)]
    iintro H Hk
    iapply (wp_gridIn d L cc0_scratch12.sem (k0_off10 t1) (k0_off10_inb t1 h) (k0_off9 t1) (k0_off9_inb t1 h) f2 (t1.val + 1) (k0_off10_eq t1)
      ((k0_off9_eq t1).trans (by congr 1; omega))) $$ H
    iintro H
    iapply le_wp_ret
    iapply Hk
    iexact H
  · have h3 : ¬ t1.val < 3 := fun h3 => h ((cond1_iff t1).mpr h3)
    rw [dif_neg h, if_neg (by omega)]
    iintro H Hk
    iapply le_wp_ret
    iapply Hk
    iexact H

theorem off11' (t1 : Fin k0_t1_loop.trips) : k0_off11 L t1 = ![t1.val, nA L] := (off11_eq L t1).trans (by rw [show 8192 * wN L = nA L from by unfold nA; omega])
theorem off5' (t1 : Fin k0_t1_loop.trips) : k0_off5 L t1 = ![t1.val, nB L] := (off5_eq L t1).trans (by rw [show 8192 * wN L + 4096 = nB L from by unfold nB; omega])
theorem off12' (t1 : Fin k0_t1_loop.trips) (c : Fin 3) : k0_off12 L t1 (BitVec.ofNat 32 c.val) = ![3 * t1.val + c.val, nA L] :=
  (off12_eq L t1 c).trans (by rw [show 8192 * wN L = nA L from by unfold nA; omega])
theorem off6' (t1 : Fin k0_t1_loop.trips) (c : Fin 3) : k0_off6 L t1 (BitVec.ofNat 32 c.val) = ![3 * t1.val + c.val, nB L] :=
  (off6_eq L t1 c).trans (by rw [show 8192 * wN L + 4096 = nB L from by unfold nB; omega])
theorem off85' (t1 : Fin k0_t1_loop.trips) (h : k0_cond2 t1 = 1#1) : k0_off85 L t1 = ![t1.val + 1, nA L] :=
  (off85_eq L t1 h).trans (by rw [show 8192 * wN L = nA L from by unfold nA; omega])
theorem off86' (t1 : Fin k0_t1_loop.trips) (c : Fin 3) (h : k0_cond2 t1 = 1#1) : k0_off86 L t1 (BitVec.ofNat 32 c.val) = ![3 * (t1.val + 1) + c.val, nA L] :=
  (off86_eq L t1 c h).trans (by rw [show 8192 * wN L = nA L from by unfold nA; omega])

theorem set12 : (a12).view.set = Finset.univ := View.set_whole _
theorem set14 : (a14).view.set = Finset.univ := View.set_whole _

theorem wp_nextBlock (t1 : Fin k0_t1_loop.trips) (x : W3) (Q : W3 → sProp 𝕄) :
    iprop(Sh (a3L d L) f3 ∗ Sh (a4L d L) f4 ∗ (∃ f, at_ d L a11 ↦{fullShare} f) ∗ (∃ f, at_ d L a12 ↦{fullShare} f) ∗ semVal (V d (cV L) (jV L), .dma cc0_scratch10.sem) 0)
      ⊢ iprop((iprop(Sh (a3L d L) f3 ∗ Sh (a4L d L) f4 ∗ NB d L f3 f4 (t1.val + 1)) -∗ Q x) -∗ run d L (nextBlock L t1 x) Q) := by
  unfold nextBlock NB
  by_cases h : k0_cond2 t1 = 1#1
  · have h3 := (cond2_iff t1).mp h
    rw [dif_pos h, if_pos (by omega)]
    iintro H Hk
    iapply (run_seq d L _ _ Q)
    iapply (wp_fetch d L a11 a12 cc0_scratch10.sem _ _ _ _ _ _ _ _ set12 rfl cr12 f3 f4 (t1.val + 1) (nA L) (off85' L t1 h) (off86' L t1 0 h) (off86' L t1 1 h) (off86' L t1 2 h)) $$ H
    iintro H
    iapply le_wp_ret
    iapply Hk
    iexact H
  · have h3 : ¬ t1.val < 3 := fun h3 => h ((cond2_iff t1).mpr h3)
    rw [dif_neg h, if_neg (by omega)]
    iintro H Hk
    iapply le_wp_ret
    iapply Hk
    iexact H

variable (O : CellTallies nD τ sig (HIx 1)) (W : Waits sig (HIx 1))

/-- What a tile holds before trip `t`. -/
def Inv (t : ℕ) : sProp (MT nD τ sig (HIx 1) (Elt F) ℕ UU ℕ) :=
  iprop(Sh (a2L d L) f2 ∗ Sh (a3L d L) f3 ∗ Sh (a4L d L) f4 ∗ NG d L f2 t ∗ FreeN d L (t + 1) ∗ NB d L f3 f4 t
    ∗ (∃ f : Buf (Elt F) (at_ d L a13), at_ d L a13 ↦{fullShare} f) ∗ (∃ f : Buf (Elt F) (at_ d L a14), at_ d L a14 ↦{fullShare} f)
    ∗ semVal (V d (cV L) (jV L), .dma cc0_scratch11.sem) 0
    ∗ (∃ f : Buf (Elt F) (at_ d L a10), at_ d L a10 ↦{fullShare} f) ∗ (∃ f : Buf (Elt F) (at_ d L a15), at_ d L a15 ↦{fullShare} f)
    ∗ Tabs d L X0 X1 DX ∗ OutT d L (wN L) (VAL d L f2 f3 f4 X0 X1 DX) (fun r n => r < 3 * t ∧ n / 8192 = wN L)
    ∗ semVal (V d (cV L) (jV L), .dma cc0_scoped3.sem) 0 ∗ semVal (V d (cV L) (jV L), .dma cc0_scoped4.sem) 0 ∗ semVal (V d (cV L) (jV L), .dma cc0_scoped5.sem) 0 ∗ semVal (V d (cV L) (jV L), .dma cc0_scoped6.sem) 0 ∗ semVal (V d (cV L) (jV L), .dma cc0_scoped7.sem) 0 ∗ semVal (V d (cV L) (jV L), .dma cc0_scoped8.sem) 0
    ∗ Ow (F := F) d L O W ∗ Mw (F := F) d L O)

/-- The part of the result written within trip `t`. -/
def PP (t a b r n : ℕ) : Prop :=
  (r < 3 * t ∧ n / 8192 = wN L) ∨ (r < 3 * t + a ∧ nA L ≤ n ∧ n < nA L + 4096) ∨ (r < 3 * t + b ∧ nB L ≤ n ∧ n < nB L + 4096)

theorem wp_trip (t1 : Fin k0_t1_loop.trips) (bx0 : ∀ x < 512, (X0 x).toNat < 16) (bx1 : ∀ x < 512, (X1 x).toNat < 16) :
    Inv d L f2 f3 f4 X0 X1 DX O W t1.val ⊢ run d L (trip L t1) (fun _ => Inv d L f2 f3 f4 X0 X1 DX O W (t1.val + 1)) := by
  have ht : t1.val < 4 := lt_of_lt_of_eq t1.isLt t1_trips
  have hwA : ∀ j < 4096, (nA L + j) / 8192 = wN L := by intro j hj; unfold nA; omega
  have hwB : ∀ j < 4096, (nB L + j) / 8192 = wN L := by intro j hj; unfold nB; omega
  unfold Inv trip
  iintro ⟨H2, H3, H4, HG, Hfree, HB, H13, H14, Hs11, H10, H15, HT, HO, Hc3, Hc4, Hc5, Hc6, Hc7, Hc8, How, Hm⟩
  -- the second block's copies start
  iapply (run_seq d L _ _ _)
  iapply (wp_fetch d L a13 a14 cc0_scratch11.sem _ _ _ _ _ _ _ _ set14 cr13 cr14 f3 f4 t1.val (nB L) (off5' L t1) (off6' L t1 0) (off6' L t1 1) (off6' L t1 2)) $$ [H3 H4 H13 H14 Hs11]
  · isplitl [H3]; · iexact H3
    isplitl [H4]; · iexact H4
    isplitl [H13]; · iexact H13
    isplitl [H14] <;> iassumption
  iintro ⟨H3, H4, HBB⟩
  -- the grid's row lands
  iapply (run_seq d L _ _ _)
  ihave HG := (show NG d L f2 t1.val ⊢ _ from BI.BIBase.Entails.of_eq (NG_lt d L f2 t1.val ht)) $$ HG
  iapply (wp_gridWait d L cc0_scratch12.sem (k0_off8 t1) (k0_off8_inb t1) (k0_off7 t1) (k0_off7_inb t1) _ _ (SlotN d L t1.val (Gf d L f2 t1.val)) O W) $$ [HG How Hm]
  · isplitl [HG]; · iexact HG
    isplitl [How] <;> iassumption
  iintro ⟨Hslot, Hs12, How, Hm⟩
  iapply le_wp_ret
  -- the next one's copy starts
  iapply (run_seq d L _ _ _)
  iapply (wp_nextGrid d L f2 t1 _) $$ [H2 Hfree Hs12]
  · isplitl [H2]; · iexact H2
    isplitl [Hfree] <;> iassumption
  iintro ⟨H2, HG⟩
  -- the first block lands
  iapply (run_seq d L _ _ _)
  ihave HB := (show NB d L f3 f4 t1.val ⊢ _ from BI.BIBase.Entails.of_eq (NB_lt d L f3 f4 t1.val ht)) $$ HB
  iapply (wp_await d L a11 a12 cc0_scratch10.sem _ _ _ _ _ _ _ _ set12 rfl cr12 (gdf d L f3 t1.val) (imf d L f4 t1.val) (nA L) O W) $$ [HB How Hm]
  · isplitl [HB]; · iexact HB
    isplitl [How] <;> iassumption
  iintro ⟨H11, H12, Hs10, How, Hm⟩
  -- its rows
  iapply (run_seq d L _ _ _)
  iapply (wp_rowsA d L t1 X0 X1 bx0 bx1 DX (Gf d L f2 t1.val) (gdf d L f3 t1.val) (imf d L f4 t1.val)) $$ [Hslot H10 H11 H12 H15 HT]
  · iapply (rw_intro d L _ _ _ _ _ _ _ _ _ _ _ _)
    isplitl [Hslot]
    · iapply (show SlotN d L t1.val (Gf d L f2 t1.val) ⊢ (Slot d L (t1.val % 2) (Nat.mod_lt _ (by decide)) (Gf d L f2 t1.val) : sProp 𝕄) from BI.BIBase.Entails.rfl)
      iexact Hslot
    isplitl [H10]; · iexact H10
    isplitl [H11]; · iexact H11
    isplitl [H12]; · iexact H12
    isplitl [H15]
    · iapply (any_Out d L _) $$ H15
    iexact HT
  iintro H
  ihave H := (rw_elim d L _ _ _ _ _ _ _ _ _ _ _ _) $$ H
  icases H with ⟨Hslot, H10, H11, H12, Ho, HT⟩
  -- out
  iapply (run_seq d L _ _ _)
  iapply (wp_put d L cc0_scoped3.sem ![0] inb_S12288_S4096_0 _ _ 0 (by decide) rfl (3 * t1.val + 0) (nA L) (off12' L t1 0) (wN L) hwA
    (fun o j => pixN X0 X1 DX (Gf d L f2 t1.val) (gdf d L f3 t1.val) (imf d L f4 t1.val) o (nA L + j)) (VAL d L f2 f3 f4 X0 X1 DX) (fun j _ => VAL_at d L f2 f3 f4 X0 X1 DX t1.val 0 _ (by decide))
    (fun r n => r < 3 * t1.val ∧ n / 8192 = wN L) (PP L t1.val 1 0) (by intro r n; unfold PP nA nB; omega) O W) $$ [Ho HO Hc3 How Hm]
  · isplitl [Ho]; · iexact Ho
    isplitl [HO]; · iexact HO
    isplitl [Hc3]; · iexact Hc3
    isplitl [How] <;> iassumption
  iintro ⟨Ho, HO, Hc3, How, Hm⟩
  iapply (run_seq d L _ _ _)
  iapply (wp_put d L cc0_scoped4.sem ![4096] inb_S12288_S4096_4096 _ _ 1 (by decide) rfl (3 * t1.val + 1) (nA L) (off12' L t1 1) (wN L) hwA
    (fun o j => pixN X0 X1 DX (Gf d L f2 t1.val) (gdf d L f3 t1.val) (imf d L f4 t1.val) o (nA L + j)) (VAL d L f2 f3 f4 X0 X1 DX) (fun j _ => VAL_at d L f2 f3 f4 X0 X1 DX t1.val 1 _ (by decide))
    (PP L t1.val 1 0) (PP L t1.val 2 0) (by intro r n; unfold PP nA nB; omega) O W) $$ [Ho HO Hc4 How Hm]
  · isplitl [Ho]; · iexact Ho
    isplitl [HO]; · iexact HO
    isplitl [Hc4]; · iexact Hc4
    isplitl [How] <;> iassumption
  iintro ⟨Ho, HO, Hc4, How, Hm⟩
  iapply (run_seq d L _ _ _)
  iapply (wp_put d L cc0_scoped5.sem ![8192] inb_S12288_S4096_8192 _ _ 2 (by decide) rfl (3 * t1.val + 2) (nA L) (off12' L t1 2) (wN L) hwA
    (fun o j => pixN X0 X1 DX (Gf d L f2 t1.val) (gdf d L f3 t1.val) (imf d L f4 t1.val) o (nA L + j)) (VAL d L f2 f3 f4 X0 X1 DX) (fun j _ => VAL_at d L f2 f3 f4 X0 X1 DX t1.val 2 _ (by decide))
    (PP L t1.val 2 0) (PP L t1.val 3 0) (by intro r n; unfold PP nA nB; omega) O W) $$ [Ho HO Hc5 How Hm]
  · isplitl [Ho]; · iexact Ho
    isplitl [HO]; · iexact HO
    isplitl [Hc5]; · iexact Hc5
    isplitl [How] <;> iassumption
  iintro ⟨Ho, HO, Hc5, How, Hm⟩
  -- the next batch's first block starts
  iapply (run_seq d L _ _ _)
  iapply (wp_nextBlock d L f3 f4 t1 _) $$ [H3 H4 H11 H12 Hs10]
  · isplitl [H3]; · iexact H3
    isplitl [H4]; · iexact H4
    isplitl [H11]
    · iapply (dG_any d L _ _ _) $$ H11
    isplitl [H12]
    · iapply (dI_any d L _ _ _) $$ H12
    iexact Hs10
  iintro ⟨H3, H4, HB⟩
  -- the second block lands
  iapply (run_seq d L _ _ _)
  iapply (wp_await d L a13 a14 cc0_scratch11.sem _ _ _ _ _ _ _ _ set14 cr13 cr14 (gdf d L f3 t1.val) (imf d L f4 t1.val) (nB L) O W) $$ [HBB How Hm]
  · isplitl [HBB]; · iexact HBB
    isplitl [How] <;> iassumption
  iintro ⟨H13, H14, Hs11, How, Hm⟩
  iapply (run_seq d L _ _ _)
  iapply (wp_rowsB d L t1 X0 X1 bx0 bx1 DX (Gf d L f2 t1.val) (gdf d L f3 t1.val) (imf d L f4 t1.val)) $$ [Hslot H10 H13 H14 Ho HT]
  · iapply (rw_intro d L _ _ _ _ _ _ _ _ _ _ _ _)
    isplitl [Hslot]; · iexact Hslot
    isplitl [H10]; · iexact H10
    isplitl [H13]; · iexact H13
    isplitl [H14]; · iexact H14
    isplitl [Ho]
    · iapply (any_Out d L _)
      iapply (Out_any d L _ _) $$ Ho
    iexact HT
  iintro H
  ihave H := (rw_elim d L _ _ _ _ _ _ _ _ _ _ _ _) $$ H
  icases H with ⟨Hslot, H10, H13, H14, Ho, HT⟩
  iapply (run_seq d L _ _ _)
  iapply (wp_put d L cc0_scoped6.sem ![0] inb_S12288_S4096_0 _ _ 0 (by decide) rfl (3 * t1.val + 0) (nB L) (off6' L t1 0) (wN L) hwB
    (fun o j => pixN X0 X1 DX (Gf d L f2 t1.val) (gdf d L f3 t1.val) (imf d L f4 t1.val) o (nB L + j)) (VAL d L f2 f3 f4 X0 X1 DX) (fun j _ => VAL_at d L f2 f3 f4 X0 X1 DX t1.val 0 _ (by decide))
    (PP L t1.val 3 0) (PP L t1.val 3 1) (by intro r n; unfold PP nA nB; omega) O W) $$ [Ho HO Hc6 How Hm]
  · isplitl [Ho]; · iexact Ho
    isplitl [HO]; · iexact HO
    isplitl [Hc6]; · iexact Hc6
    isplitl [How] <;> iassumption
  iintro ⟨Ho, HO, Hc6, How, Hm⟩
  iapply (run_seq d L _ _ _)
  iapply (wp_put d L cc0_scoped7.sem ![4096] inb_S12288_S4096_4096 _ _ 1 (by decide) rfl (3 * t1.val + 1) (nB L) (off6' L t1 1) (wN L) hwB
    (fun o j => pixN X0 X1 DX (Gf d L f2 t1.val) (gdf d L f3 t1.val) (imf d L f4 t1.val) o (nB L + j)) (VAL d L f2 f3 f4 X0 X1 DX) (fun j _ => VAL_at d L f2 f3 f4 X0 X1 DX t1.val 1 _ (by decide))
    (PP L t1.val 3 1) (PP L t1.val 3 2) (by intro r n; unfold PP nA nB; omega) O W) $$ [Ho HO Hc7 How Hm]
  · isplitl [Ho]; · iexact Ho
    isplitl [HO]; · iexact HO
    isplitl [Hc7]; · iexact Hc7
    isplitl [How] <;> iassumption
  iintro ⟨Ho, HO, Hc7, How, Hm⟩
  iapply (run_seq d L _ _ _)
  iapply (wp_put d L cc0_scoped8.sem ![8192] inb_S12288_S4096_8192 _ _ 2 (by decide) rfl (3 * t1.val + 2) (nB L) (off6' L t1 2) (wN L) hwB
    (fun o j => pixN X0 X1 DX (Gf d L f2 t1.val) (gdf d L f3 t1.val) (imf d L f4 t1.val) o (nB L + j)) (VAL d L f2 f3 f4 X0 X1 DX) (fun j _ => VAL_at d L f2 f3 f4 X0 X1 DX t1.val 2 _ (by decide))
    (PP L t1.val 3 2) (fun r n => r < 3 * (t1.val + 1) ∧ n / 8192 = wN L) (by intro r n; unfold PP nA nB; omega) O W) $$ [Ho HO Hc8 How Hm]
  · isplitl [Ho]; · iexact Ho
    isplitl [HO]; · iexact HO
    isplitl [Hc8]; · iexact Hc8
    isplitl [How] <;> iassumption
  iintro ⟨Ho, HO, Hc8, How, Hm⟩
  iapply le_wp_ret
  isplitl [H2]; · iexact H2
  isplitl [H3]; · iexact H3
  isplitl [H4]; · iexact H4
  isplitl [HG]; · iexact HG
  isplitl [Hslot]
  · iapply (show Slot d L (t1.val % 2) (Nat.mod_lt _ (by decide)) (Gf d L f2 t1.val) ⊢ (FreeN d L (t1.val + 2) : sProp 𝕄) from (FreeN_two (F := F) d L t1.val).symm ▸ SlotN_free d L t1.val _)
    iexact Hslot
  isplitl [HB]; · iexact HB
  isplitl [H13]
  · iapply (dG_any d L _ _ _) $$ H13
  isplitl [H14]
  · iapply (dI_any d L _ _ _) $$ H14
  isplitl [Hs11]; · iexact Hs11
  isplitl [H10]; · iexact H10
  isplitl [Ho]
  · iapply (Out_any d L _ _) $$ Ho
  isplitl [HT]; · iexact HT
  isplitl [HO]; · iexact HO
  isplitl [Hc3]; · iexact Hc3
  isplitl [Hc4]; · iexact Hc4
  isplitl [Hc5]; · iexact Hc5
  isplitl [Hc6]; · iexact Hc6
  isplitl [Hc7]; · iexact Hc7
  isplitl [Hc8]; · iexact Hc8
  isplitl [How]; · iexact How
  iexact Hm

end Cert.Proof.Tile
-- ==== Proof.Prog.lean ====
/- The tile's whole program: from its shares of the operands to its columns of the result. -/
module

public import proofs.«01_k».proof.Proof.Trip

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

abbrev a5L : Loc nD τ sig := (a5).view.loc (V d (cV L) (jV L))
abbrev a6L : Loc nD τ sig := (a6).view.loc (V d (cV L) (jV L))
abbrev a7L : Loc nD τ sig := (a7).view.loc (V d (cV L) (jV L))

/-- A table copied in whole. -/
theorem wp_tab {e : EltTy} (src : Memref sig .scVector .hbm S512 e) (dst : VM S512 e) (sem : DmaSem sig) (hs : src.view.WordExact) (hd : dst.view.WordExact)
    (hset : dst.view.dmaCredit ≠ 0) (fs : Buf (Elt F) (src.view.loc (V d (cV L) (jV L)))) (O : CellTallies nD τ sig (HIx 1)) (W : Waits sig (HIx 1))
    {α : Type} (k : TP (F := F) L α) (Q : α → sProp 𝕄) :
    iprop(Sh (src.view.loc (V d (cV L) (jV L))) fs ∗ (∃ f : Buf (Elt F) (at_ d L dst), at_ d L dst ↦{fullShare} f) ∗ semVal (V d (cV L) (jV L), .dma sem) 0
        ∗ Ow (F := F) d L O W ∗ Mw (F := F) d L O)
      ⊢ iprop((iprop((∃ f : Buf (Elt F) (at_ d L dst), ⌜∀ x < 512, rd dst f x = rd src fs x⌝ ∗ (at_ d L dst ↦{fullShare} f)) ∗ semVal (V d (cV L) (jV L), .dma sem) 0
            ∗ Ow (F := F) d L O W ∗ Mw (F := F) d L O) -∗ run d L k Q)
        -∗ run d L (do
          Prog.lift (.enqueueDma src (.here dst) (.dma sem) hs hd ⟨Or.inl rfl, trivial⟩)
          Prog.lift (.waitDma2 sem src dst hs hd)
          k) Q) := by
  unfold Ow
  iintro ⟨Hsrc, ⟨%f, Hd⟩, Hs, ⟨%W0, %hW, Ho⟩, #Hm⟩ Hk
  ihave Hsrc' := (Sh_lend (F := F) (src.view.loc (V d (cV L) (jV L))) fs src.view.set) $$ Hsrc
  icases Hsrc' with ⟨-, %q, Hsrc⟩
  iapply (run_seq d L _ _ Q)
  iapply (Transfers.wp_dmaLocal EC 𝒱₀ (V d (cV L) (jV L)) none (src := src) (dst := dst) (sm := .dma sem)
    (Sd := Finset.univ) (fd := f) (fs := fs) (q := q) (default : HIx 1) dst.view.dmaCredit rfl (Nat.pos_of_ne_zero hset) (Finset.subset_univ _)) $$ [Hsrc Hd Hs]
  · isplitl [Hsrc]; · iexact Hsrc
    isplitl [Hd] <;> iassumption
  iintro Hf
  iapply le_wp_ret
  iapply (run_seq d L _ _ Q)
  iapply (Transfers.wp_waitLocalO EC 𝒱₀ (V d (cV L) (jV L)) none (default : HIx 1) (N := dst.view.dmaCredit) rfl) $$ [Hf Ho]
  · isplitl [Hf]; · iexact Hf
    isplitl [Ho]; · iexact Ho
    iapply (Transfers.MayWaits.elim (.dma sem)) $$ Hm
  iintro ⟨⟨Hd, -⟩, Hs, Ho⟩
  iapply le_wp_ret
  iapply Hk
  isplitl [Hd]
  · iexists _
    isplitr; rotate_left
    · iexact Hd
    ipureintro
    intro x hx
    exact rd_write dst f _ x
  isplitl [Hs]; · iexact Hs
  isplitl [Ho]
  · iexists _
    isplitr; rotate_left
    · iexact Ho
    ipureintro
    exact Ow_insert _ _ _ hW
  iexact Hm

theorem mem_S9 (s : ℕ) (hs : s < 2) (y : Idx (at_ d L a9)) : y ∈ S9 d L s hs ↔ ∃ j < 24576, y = (a9).view.emb (ix1 (24576 * s + j)) :=
  mem_seg (N := 49152) (n := 24576) a9 ![24576 * s] (slot_h s hs) (fun _ => rfl) y

theorem S9_apart (s s' : ℕ) (hs : s < 2) (hs' : s' < 2) (h : s < s') : Disjoint (S9 d L s hs) (S9 d L s' hs') :=
  seg_disjoint (N := 49152) (n := 24576) a9 ![24576 * s] ![24576 * s'] (slot_h s hs) (slot_h s' hs') (fun _ => rfl) (fun _ => rfl)
    (.inl (by show 24576 * s + 24576 ≤ 24576 * s'; omega))

theorem FreeN_intro (s : ℕ) (f : Buf (Elt F) (at_ d L a9)) : (at_ d L a9 ↦[S9 d L (s % 2) (Nat.mod_lt _ (by decide))]{fullShare} f : sProp 𝕄) ⊢ FreeN d L s := by
  unfold FreeN
  iintro H
  iexists f; iexact H

theorem S9_disjoint : Disjoint (S9 d L 0 (by decide)) (S9 d L 1 (by decide)) := S9_apart d L 0 1 (by decide) (by decide) (by decide)

theorem S9_union : S9 d L 0 (by decide) ∪ S9 d L 1 (by decide) = Finset.univ := by
  refine Finset.eq_univ_of_forall fun y => ?_
  have hy : y ∈ (a9).view.set := by rw [show (a9).view.set = Finset.univ from View.set_whole _]; exact Finset.mem_univ y
  obtain ⟨x, -, e⟩ := Finset.mem_map.mp hy
  have hx : (x 0).val < 49152 := (x 0).isLt
  by_cases h : (x 0).val < 24576
  · exact Finset.mem_union_left _ ((mem_S9 d L 0 (by decide) y).mpr ⟨(x 0).val, h, e.symm.trans (congrArg _ (eq_ix1 _ _ (by omega)))⟩)
  · exact Finset.mem_union_right _ ((mem_S9 d L 1 (by decide) y).mpr ⟨(x 0).val - 24576, by omega, e.symm.trans (congrArg _ (eq_ix1 _ _ (by omega)))⟩)

theorem slots_split (f : Buf (Elt F) (at_ d L a9)) : (at_ d L a9 ↦{fullShare} f : sProp 𝕄) ⊢ iprop(FreeN d L 0 ∗ FreeN d L 1) := by
  rw [show (Finset.univ : Finset (Idx (at_ d L a9))) = _ from (S9_union d L).symm]
  iintro H
  ihave H := (pointsTo_union (S9_disjoint d L)).1 $$ H
  icases H with ⟨H0, H1⟩
  isplitl [H0]
  · iapply (FreeN_intro d L 0 f) $$ H0
  · iapply (FreeN_intro d L 1 f) $$ H1

theorem slots_join : iprop(FreeN d L 4 ∗ FreeN d L 5) ⊢ (iprop(∃ f : Buf (Elt F) (at_ d L a9), at_ d L a9 ↦{fullShare} f) : sProp 𝕄) := by
  rw [show (FreeN d L 4 : sProp 𝕄) = iprop(∃ f : Buf (Elt F) (at_ d L a9), at_ d L a9 ↦[S9 d L 0 (by decide)]{fullShare} f) from rfl,
    show (FreeN d L 5 : sProp 𝕄) = iprop(∃ f : Buf (Elt F) (at_ d L a9), at_ d L a9 ↦[S9 d L 1 (by decide)]{fullShare} f) from rfl]
  iintro ⟨⟨%f, H0⟩, ⟨%g, H1⟩⟩
  ihave H := (pointsTo_join (S9_disjoint d L)) $$ [H0 H1]
  · isplitl [H0] <;> iassumption
  rw [S9_union]
  iexists _; iexact H

variable (f2 : Buf (Elt F) (a2L d L)) (f3 : Buf (Elt F) (a3L d L)) (f4 : Buf (Elt F) (a4L d L))
  (f5 : Buf (Elt F) (a5L d L)) (f6 : Buf (Elt F) (a6L d L)) (f7 : Buf (Elt F) (a7L d L))
variable (O : CellTallies nD τ sig (HIx 1)) (W : Waits sig (HIx 1))

/-- A tile's buffers, at any contents. -/
def Bufs : sProp (MT nD τ sig (HIx 1) (Elt F) ℕ UU ℕ) :=
  iprop((∃ f : Buf (Elt F) (at_ d L a9), at_ d L a9 ↦{fullShare} f) ∗ (∃ f : Buf (Elt F) (at_ d L a10), at_ d L a10 ↦{fullShare} f) ∗ (∃ f : Buf (Elt F) (at_ d L a11), at_ d L a11 ↦{fullShare} f) ∗ (∃ f : Buf (Elt F) (at_ d L a12), at_ d L a12 ↦{fullShare} f) ∗ (∃ f : Buf (Elt F) (at_ d L a13), at_ d L a13 ↦{fullShare} f) ∗ (∃ f : Buf (Elt F) (at_ d L a14), at_ d L a14 ↦{fullShare} f) ∗ (∃ f : Buf (Elt F) (at_ d L a15), at_ d L a15 ↦{fullShare} f) ∗ (∃ f : Buf (Elt F) (at_ d L a16), at_ d L a16 ↦{fullShare} f) ∗ (∃ f : Buf (Elt F) (at_ d L a17), at_ d L a17 ↦{fullShare} f) ∗ (∃ f : Buf (Elt F) (at_ d L a18), at_ d L a18 ↦{fullShare} f))
/-- A tile's copy counters, at zero. -/
def Sems : sProp (MT nD τ sig (HIx 1) (Elt F) ℕ UU ℕ) :=
  iprop(semVal (V d (cV L) (jV L), .dma cc0_scratch10.sem) 0 ∗ semVal (V d (cV L) (jV L), .dma cc0_scratch11.sem) 0 ∗ semVal (V d (cV L) (jV L), .dma cc0_scratch12.sem) 0 ∗ semVal (V d (cV L) (jV L), .dma cc0_scoped0.sem) 0 ∗ semVal (V d (cV L) (jV L), .dma cc0_scoped1.sem) 0 ∗ semVal (V d (cV L) (jV L), .dma cc0_scoped2.sem) 0 ∗ semVal (V d (cV L) (jV L), .dma cc0_scoped3.sem) 0 ∗ semVal (V d (cV L) (jV L), .dma cc0_scoped4.sem) 0 ∗ semVal (V d (cV L) (jV L), .dma cc0_scoped5.sem) 0 ∗ semVal (V d (cV L) (jV L), .dma cc0_scoped6.sem) 0 ∗ semVal (V d (cV L) (jV L), .dma cc0_scoped7.sem) 0 ∗ semVal (V d (cV L) (jV L), .dma cc0_scoped8.sem) 0)

/-- The whole result, out of the operands' contents. -/
abbrev VALs : ℕ → ℕ → F .f32 := VAL d L f2 f3 f4 (fun x => (rd a5 f5 x : BitVec 32)) (fun x => (rd a6 f6 x : BitVec 32)) (rd a7 f7)

theorem wp_tileProg (bx0 : ∀ x < 512, (rd a5 f5 x : BitVec 32).toNat < 16) (bx1 : ∀ x < 512, (rd a6 f6 x : BitVec 32).toNat < 16) :
    iprop((Sh (a2L d L) f2 ∗ Sh (a3L d L) f3 ∗ Sh (a4L d L) f4 ∗ Sh (a5L d L) f5 ∗ Sh (a6L d L) f6 ∗ Sh (a7L d L) f7
        ∗ (∃ f : Buf (Elt F) (a8L d L), a8L d L ↦[cols d L (wN L)]{fullShare} f)) ∗ Bufs d L ∗ Sems d L ∗ Ow (F := F) d L O W ∗ Mw (F := F) d L O)
      ⊢ run d L (tileProg L) (fun _ => iprop(OutT d L (wN L) (VALs d L f2 f3 f4 f5 f6 f7) (fun _ n => n / 8192 = wN L) ∗ Bufs d L ∗ Sems d L ∗ Ow (F := F) d L O W)) := by
  unfold tileProg Bufs Sems
  iintro ⟨⟨H2, H3, H4, H5, H6, H7, ⟨%f8, H8⟩⟩, ⟨⟨%f9, H9⟩, H10, H11, H12, H13, H14, H15, H16, H17, H18⟩, ⟨Hs10, Hs11, Hs12, Hc0, Hc1, Hc2, Hc3, Hc4, Hc5, Hc6, Hc7, Hc8⟩, How, Hm⟩
  iapply (wp_tab d L a5 a16 cc0_scoped0.sem (View.wordExact_bits rfl) (View.wordExact_bits rfl) (by decide) f5 O W _ _) $$ [H5 H16 Hc0 How Hm]
  · isplitl [H5]; · iexact H5
    isplitl [H16]; · iexact H16
    isplitl [Hc0]; · iexact Hc0
    isplitl [How] <;> iassumption
  iintro ⟨H16, Hc0, How, Hm⟩
  iapply (wp_tab d L a6 a17 cc0_scoped1.sem (View.wordExact_bits rfl) (View.wordExact_bits rfl) (by decide) f6 O W _ _) $$ [H6 H17 Hc1 How Hm]
  · isplitl [H6]; · iexact H6
    isplitl [H17]; · iexact H17
    isplitl [Hc1]; · iexact Hc1
    isplitl [How] <;> iassumption
  iintro ⟨H17, Hc1, How, Hm⟩
  iapply (wp_tab d L a7 a18 cc0_scoped2.sem (View.wordExact_bits rfl) (View.wordExact_bits rfl) (by decide) f7 O W _ _) $$ [H7 H18 Hc2 How Hm]
  · isplitl [H7]; · iexact H7
    isplitl [H18]; · iexact H18
    isplitl [Hc2]; · iexact Hc2
    isplitl [How] <;> iassumption
  iintro ⟨H18, Hc2, How, Hm⟩
  ihave H9 := (slots_split d L f9) $$ H9
  icases H9 with ⟨Hf0, Hf1⟩
  iapply (run_seq d L _ _ _)
  iapply (wp_gridIn d L cc0_scratch12.sem ![0, 0] inb_S4x24576_S1x24576_0_0 ![0] inb_S49152_S24576_0 f2 0 rfl rfl) $$ [H2 Hf0 Hs12]
  · isplitl [H2]; · iexact H2
    isplitl [Hf0] <;> iassumption
  iintro ⟨H2, HG⟩
  iapply le_wp_ret
  iapply (run_seq d L _ _ _)
  iapply (wp_fetch d L a11 a12 cc0_scratch10.sem _ _ _ _ _ _ _ _ set12 rfl cr12 f3 f4 0 (nA L)
    ((off1_eq L).trans (by rw [show 8192 * wN L = nA L from by unfold nA; omega])) ((off2_eq L).trans (by rw [show 8192 * wN L = nA L from by unfold nA; omega]))
    ((off3_eq L).trans (by rw [show 8192 * wN L = nA L from by unfold nA; omega])) ((off4_eq L).trans (by rw [show 8192 * wN L = nA L from by unfold nA; omega]))) $$ [H3 H4 H11 H12 Hs10]
  · isplitl [H3]; · iexact H3
    isplitl [H4]; · iexact H4
    isplitl [H11]; · iexact H11
    isplitl [H12] <;> iassumption
  iintro ⟨H3, H4, HB⟩
  iapply (run_seq d L _ _ _)
  iapply (Scf.wp_for (M := 𝕄) (Fr := frame) (wpE := wpE (defs₀ (F := F)) 𝒱₀ (V d (cV L) (jV L)) none) (Es := Set.univ) k0_t1_loop.lb k0_t1_loop.ub k0_t1_loop.st k0_t1_ok ⟨⟩ _
    (fun k (_ : PUnit) => Inv d L f2 f3 f4 (fun x => (rd a5 f5 x : BitVec 32)) (fun x => (rd a6 f6 x : BitVec 32)) (rd a7 f7) O W k) ?_)
  · intro k acc
    exact wp_trip d L f2 f3 f4 _ _ _ O W k bx0 bx1
  isplitr [Hc0 Hc1 Hc2]
  · iapply (show _ ⊢ Inv d L f2 f3 f4 (fun x => (rd a5 f5 x : BitVec 32)) (fun x => (rd a6 f6 x : BitVec 32)) (rd a7 f7) O W 0 from by unfold Inv; exact BI.BIBase.Entails.rfl)
    isplitl [H2]; · iexact H2
    isplitl [H3]; · iexact H3
    isplitl [H4]; · iexact H4
    isplitl [HG]
    · iapply (show _ ⊢ NG d L f2 0 from BI.BIBase.Entails.of_eq (NG_lt d L f2 0 (by decide)).symm)
      iexact HG
    isplitl [Hf1]; · iexact Hf1
    isplitl [HB]
    · iapply (show _ ⊢ NB d L f3 f4 0 from BI.BIBase.Entails.of_eq (NB_lt d L f3 f4 0 (by decide)).symm)
      iexact HB
    isplitl [H13]; · iexact H13
    isplitl [H14]; · iexact H14
    isplitl [Hs11]; · iexact Hs11
    isplitl [H10]; · iexact H10
    isplitl [H15]; · iexact H15
    isplitl [H16 H17 H18]
    · iapply (show _ ⊢ Tabs d L (fun x => (rd a5 f5 x : BitVec 32)) (fun x => (rd a6 f6 x : BitVec 32)) (rd a7 f7) from by unfold Tabs; exact BI.BIBase.Entails.rfl)
      isplitl [H16]; · iexact H16
      isplitl [H17] <;> iassumption
    isplitl [H8]
    · iapply (show iprop(a8L d L ↦[cols d L (wN L)]{fullShare} f8) ⊢ OutT d L (wN L) (VALs d L f2 f3 f4 f5 f6 f7) (fun r n => r < 3 * 0 ∧ n / 8192 = wN L) from by
        unfold OutT
        iintro H
        iexists f8
        isplitr; rotate_left
        · iexact H
        ipureintro
        intro r _ n _ hr
        exact absurd hr.1 (Nat.not_lt_zero r))
      iexact H8
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [How] <;> iassumption
  iintro %acc H
  ihave H := (show Inv d L f2 f3 f4 (fun x => (rd a5 f5 x : BitVec 32)) (fun x => (rd a6 f6 x : BitVec 32)) (rd a7 f7) O W (Scf.trips k0_t1_loop.lb k0_t1_loop.ub k0_t1_loop.st)
      ⊢ (Inv d L f2 f3 f4 (fun x => (rd a5 f5 x : BitVec 32)) (fun x => (rd a6 f6 x : BitVec 32)) (rd a7 f7) O W 4 : sProp 𝕄) from by rw [t1_trips]) $$ H
  ihave H := (show Inv d L f2 f3 f4 (fun x => (rd a5 f5 x : BitVec 32)) (fun x => (rd a6 f6 x : BitVec 32)) (rd a7 f7) O W 4 ⊢ _ from by unfold Inv; rw [NG_ge _ _ _ _ (by decide), NB_ge _ _ _ _ _ (by decide)]) $$ H
  icases H with ⟨-, -, -, ⟨Hf0, Hs12⟩, Hf1, ⟨H11, H12, Hs10⟩, H13, H14, Hs11, H10, H15, HT, HO, Hc3, Hc4, Hc5, Hc6, Hc7, Hc8, How, -⟩
  iapply le_wp_ret
  isplitl [HO]
  · iapply (show OutT d L (wN L) (VALs d L f2 f3 f4 f5 f6 f7) (fun r n => r < 3 * 4 ∧ n / 8192 = wN L) ⊢ OutT d L (wN L) (VALs d L f2 f3 f4 f5 f6 f7) (fun _ n => n / 8192 = wN L) from by
      unfold OutT
      iintro ⟨%f, %hf, H⟩
      iexists f
      isplitr; rotate_left
      · iexact H
      ipureintro
      intro r hr n hn hp
      exact hf r hr n hn ⟨hr, hp⟩)
    iexact HO
  isplitr [Hs10 Hs11 Hs12 Hc0 Hc1 Hc2 Hc3 Hc4 Hc5 Hc6 Hc7 Hc8 How]
  · isplitl [Hf0 Hf1]
    · iapply (slots_join d L)
      isplitl [Hf0] <;> iassumption
    ihave HT := (show Tabs d L (fun x => (rd a5 f5 x : BitVec 32)) (fun x => (rd a6 f6 x : BitVec 32)) (rd a7 f7) ⊢ _ from by unfold Tabs; exact BI.BIBase.Entails.rfl) $$ HT
    icases HT with ⟨⟨%g0, -, H16⟩, ⟨%g1, -, H17⟩, ⟨%g2, -, H18⟩⟩
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    iexists _; iexact H18
  isplitr [How]
  · isplitl [Hs10]; · iexact Hs10
    isplitl [Hs11]; · iexact Hs11
    isplitl [Hs12]; · iexact Hs12
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    iexact Hc8
  iexact How

end Cert.Proof.Tile
-- ==== Proof.LaunchTile.lean ====
/- What a tile is handed at its call, and its task's obligation. -/
module

public import proofs.«01_k».proof.Proof.Prog

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## A tile's own storage -/

section Own

variable (d : Dev nD) (L : grid0.Coords)

/-- The counters of the copies. -/
def cellSet : Finset (SemLoc sig) :=
  {.dma cc0_scratch10.sem, .dma cc0_scratch11.sem, .dma cc0_scratch12.sem, .dma cc0_scoped0.sem, .dma cc0_scoped1.sem, .dma cc0_scoped2.sem,
    .dma cc0_scoped3.sem, .dma cc0_scoped4.sem, .dma cc0_scoped5.sem, .dma cc0_scoped6.sem, .dma cc0_scoped7.sem, .dma cc0_scoped8.sem}

theorem cellSet_scoped : ∀ x ∈ cellSet, (x : SemLoc sig).isScoped .scVector = true := by decide

/-- A tile's counter of a name. -/
def cellAt (c : Fin τ.nSC) (j : Fin τ.nSub) : SemLoc sig ↪ GSem nD τ sig := ⟨fun x => (V d c j, x), fun _ _ h => (Prod.mk.inj h).2⟩

theorem cells_sub : cellSet.map (cellAt d (cV L) (jV L)) ⊆ ownCells (V d (cV L) (jV L)) := by
  intro g hg
  obtain ⟨x, hx, rfl⟩ := Finset.mem_map.mp hg
  exact mem_ownCells.mpr ⟨rfl, cellSet_scoped x hx⟩

theorem sems_split : ∃ R : sProp 𝕄, (ownSems0 (V d (cV L) (jV L)) : sProp 𝕄) = iprop(Sems d L ∗ R) := by
  refine ⟨bigSep (ownCells (V d (cV L) (jV L)) \ cellSet.map (cellAt d (cV L) (jV L))) fun g => semVal g 0, ?_⟩
  unfold SparseCore.Cfg.ownSems0 Sems
  rw [SparseCore.bigSep_sdiff_split' (cells_sub d L), bigSep_map]
  congr 1
  unfold cellSet
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- The tile's buffers. -/
def refSet : Finset (Ref sig .scVector) :=
  {cc0_scratch0, cc0_scratch1, cc0_scratch2, cc0_scratch3, cc0_scratch4, cc0_scratch5, cc0_scratch6, cc0_scratch7, cc0_scratch8, cc0_scratch9}

/-- A tile's buffer of a name. -/
def refAt (c : Fin τ.nSC) (j : Fin τ.nSub) : Ref sig .scVector ↪ DevRef τ sig := ⟨(Proc.scVector c j).devRef, Proc.devRef_injective (Proc.scVector c j)⟩

theorem refs_sub : refSet.map (refAt (cV L) (jV L)) ⊆ ownRefs (τ := τ) (.scVector (cV L) (jV L)) := by
  intro b hb
  obtain ⟨x, hx, rfl⟩ := Finset.mem_map.mp hb
  simp only [refSet, Finset.mem_insert, Finset.mem_singleton] at hx
  have h : ∀ r : Ref sig .scVector, ((Proc.scVector (cV L) (jV L)).devRef r).owner = Owner.proc (Proc.scVector (cV L) (jV L)) →
      refAt (cV L) (jV L) r ∈ ownRefs (τ := τ) (.scVector (cV L) (jV L)) := fun r e => SparseCore.Cfg.mem_ownRefs_of_owner e
  rcases hx with rfl | rfl | rfl | rfl | rfl | rfl | rfl | rfl | rfl | rfl
  · exact h cc0_scratch0 rfl
  · exact h cc0_scratch1 rfl
  · exact h cc0_scratch2 rfl
  · exact h cc0_scratch3 rfl
  · exact h cc0_scratch4 rfl
  · exact h cc0_scratch5 rfl
  · exact h cc0_scratch6 rfl
  · exact h cc0_scratch7 rfl
  · exact h cc0_scratch8 rfl
  · exact h cc0_scratch9 rfl

theorem bufs_split : ∃ R : sProp 𝕄, (ownBufs (V d (cV L) (jV L)) : sProp 𝕄) = iprop(Bufs d L ∗ R) := by
  refine ⟨bigSep (ownRefs (τ := τ) (.scVector (cV L) (jV L)) \ refSet.map (refAt (cV L) (jV L))) fun b => iprop(∃ f, ((d, b) : Loc nD τ sig) ↦{fullShare} f), ?_⟩
  unfold SparseCore.Cfg.ownBufs Bufs
  rw [show (V d (cV L) (jV L) : Thread nD τ).2 = .scVector (cV L) (jV L) from rfl, SparseCore.bigSep_sdiff_split' (refs_sub L), bigSep_map]
  congr 1
  show bigSep refSet (fun r => (iprop(∃ f : Buf (Elt F) ((V d (cV L) (jV L)).loc r), (V d (cV L) (jV L)).loc r ↦{fullShare} f) : sProp 𝕄)) = _
  unfold refSet
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

end Own

/-! ## What the handshakes carry -/

abbrev v0L (d : Dev nD) : Loc nD τ sig := (SparseCore.T d).loc main_v0
abbrev v1L (d : Dev nD) : Loc nD τ sig := (SparseCore.T d).loc main_v1
abbrev v2L (d : Dev nD) : Loc nD τ sig := (SparseCore.T d).loc main_v2
abbrev cL (d : Dev nD) : Loc nD τ sig := (SparseCore.T d).loc main_c
abbrev c0L (d : Dev nD) : Loc nD τ sig := (SparseCore.T d).loc main_c_0
abbrev cstL (d : Dev nD) : Loc nD τ sig := (SparseCore.T d).loc main_cst
abbrev v3L (d : Dev nD) : Loc nD τ sig := (SparseCore.T d).loc main_v3

/-- The operands of the call. -/
structure Args (F : FTy → Type) (d : Dev nD) where
  f2 : Buf (Elt F) (v0L d)
  f3 : Buf (Elt F) (v1L d)
  f4 : Buf (Elt F) (v2L d)
  f5 : Buf (Elt F) (cL d)
  f6 : Buf (Elt F) (c0L d)
  f7 : Buf (Elt F) (cstL d)

/-- The tables of columns lie inside the grid. -/
def Args.Ok {d : Dev nD} (A : Args F d) : Prop :=
  (∀ x < 512, (rd a5 A.f5 x : BitVec 32).toNat < 16) ∧ ∀ x < 512, (rd a6 A.f6 x : BitVec 32).toNat < 16

variable [FloatOps F]

/-- The result's entries, out of the operands. -/
def Args.val {d : Dev nD} (A : Args F d) (r n : ℕ) : F .f32 :=
  pixN (fun x => (rd a5 A.f5 x : BitVec 32)) (fun x => (rd a6 A.f6 x : BitVec 32)) (rd a7 A.f7)
    (rd2 a2 A.f2 (r / 3)) (rd2 a3 A.f3 (r / 3)) (fun c => rd2 a4 A.f4 (3 * (r / 3) + c)) (r % 3) n

/-- A share of every operand. -/
def Ops {d : Dev nD} (A : Args F d) : sProp (MT nD τ sig (HIx 1) (Elt F) ℕ UU ℕ) :=
  iprop(Sh (v0L d) A.f2 ∗ Sh (v1L d) A.f3 ∗ Sh (v2L d) A.f4 ∗ Sh (cL d) A.f5 ∗ Sh (c0L d) A.f6 ∗ Sh (cstL d) A.f7)

/-- Columns `I` of the result's array, at anything. -/
def Any (d : Dev nD) (I : Finset (Idx (v3L d))) : sProp (MT nD τ sig (HIx 1) (Elt F) ℕ UU ℕ) := iprop(∃ f : Buf (Elt F) (v3L d), v3L d ↦[I]{fullShare} f)

/-- Entries `I` of the result's array, at the values where `P` holds. -/
def Res {d : Dev nD} (A : Args F d) (I : Finset (Idx (v3L d))) (P : ℕ → Prop) : sProp (MT nD τ sig (HIx 1) (Elt F) ℕ UU ℕ) :=
  iprop(∃ f : Buf (Elt F) (v3L d), ⌜∀ r < 12, ∀ n < 262144, P n → rd2 a8 f r n = A.val r n⌝ ∗ (v3L d ↦[I]{fullShare} f))

/-- A tile's columns. -/
def colsT (d : Dev nD) (w : ℕ) : Finset (Idx (v3L d)) := Finset.univ.filter fun i => ((i : S12x262144.Idx) 1).val / 8192 = w
/-- A SparseCore's columns. -/
def colsC (d : Dev nD) (c : ℕ) : Finset (Idx (v3L d)) := Finset.univ.filter fun i => ((i : S12x262144.Idx) 1).val / 8192 % 2 = c

instance Sh_storable (ℓ : Loc nD τ sig) (f : Buf (Elt F) ℓ) : BI.Storable (upEmb : UEmb _ 𝕄) (Sh ℓ f) := by unfold Sh; infer_instance
instance Ops_storable {d : Dev nD} (A : Args F d) : BI.Storable (upEmb : UEmb _ 𝕄) (Ops A) := by unfold Ops; infer_instance
instance Any_storable (d : Dev nD) (I : Finset (Idx (v3L d))) : BI.Storable (upEmb : UEmb _ 𝕄) (Any (F := F) d I) := by unfold Any; infer_instance
instance Res_storable {d : Dev nD} (A : Args F d) (I : Finset (Idx (v3L d))) (P : ℕ → Prop) : BI.Storable (upEmb : UEmb _ 𝕄) (Res A I P) := by unfold Res; infer_instance

/-! ## The task -/

theorem out_res (d : Dev nD) (A : Args F d) (L : grid0.Coords) :
    OutT d L (wN L) (VALs d L A.f2 A.f3 A.f4 A.f5 A.f6 A.f7) (fun _ n => n / 8192 = wN L) ⊢ (Res A (colsT d (wN L)) (fun n => n / 8192 = wN L) : sProp 𝕄) := by
  unfold OutT Res
  iintro ⟨%f, %hf, H⟩
  iexists f
  isplitr; rotate_left
  · iexact H
  ipureintro
  exact fun r hr n hn hp => hf r hr n hn hp

theorem tile_body (d : Dev nD) (A : Args F d) (hA : A.Ok) (L : grid0.Coords) (O : CellTallies nD τ sig (HIx 1)) (W : Waits sig (HIx 1)) (hO : ∀ g, O g none = 0) :
    iprop(levAts (K (F := F)).L (K (F := F)).lev ∗ emp ∗ (Ops A ∗ Any d (colsT d (wN L)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg L)
          fun _ => iprop(Res A (colsT d (wN L)) (fun n => n / 8192 = wN L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  obtain ⟨RS, hS⟩ := sems_split (F := F) d L
  obtain ⟨RB, hB⟩ := bufs_split (F := F) d L
  rw [(K (F := F)).scopedBufs_V facts d (cV L) (jV L), SparseCore.Cfg.scopedSems0_V (Val := Elt F) d (cV L) (jV L), hS, hB]
  refine BI.Entails.trans (Q := iprop(((Sh (a2L d L) A.f2 ∗ Sh (a3L d L) A.f3 ∗ Sh (a4L d L) A.f4 ∗ Sh (a5L d L) A.f5 ∗ Sh (a6L d L) A.f6 ∗ Sh (a7L d L) A.f7
        ∗ (∃ f : Buf (Elt F) (a8L d L), a8L d L ↦[cols d L (wN L)]{fullShare} f)) ∗ Bufs d L ∗ Sems d L ∗ Ow (F := F) d L O W ∗ Mw (F := F) d L O) ∗ (RS ∗ RB))) ?_
    (BI.Entails.trans (BI.Entails.trans (sep_mono_l (wp_tileProg d L A.f2 A.f3 A.f4 A.f5 A.f6 A.f7 O W hA.1 hA.2)) (wp_frame_r frame _ _)) (wp_mono frame _ _ fun _ => ?_))
  · unfold Ops Any
    show (_ : sProp 𝕄) ⊢ (_ : sProp 𝕄)
    iintro ⟨#Hlv, -, ⟨⟨H2, H3, H4, H5, H6, H7⟩, H8⟩, ⟨HB, HRB⟩, ⟨HS, HRS⟩, HO⟩
    ihave Hmw := (show levAts (K (F := F)).L (K (F := F)).lev ⊢ Transfers.MayWaits (V d (cV L) (jV L)) (default : HIx 1) O from
      (K (F := F)).mayWaits_none (thr := V d (cV L) (jV L)) hO) $$ Hlv
    isplitr [HRB HRS]
    · isplitl [H2 H3 H4 H5 H6 H7 H8]
      · isplitl [H2]; · iexact H2
        isplitl [H3]; · iexact H3
        isplitl [H4]; · iexact H4
        isplitl [H5]; · iexact H5
        isplitl [H6]; · iexact H6
        isplitl [H7]; · iexact H7
        iexact H8
      isplitl [HB]; · iexact HB
      isplitl [HS]; · iexact HS
      isplitl [HO]
      · iapply (show owes (V d (cV L) (jV L)) O W ⊢ Ow (F := F) d L O W from by
          unfold Ow
          iintro H
          iexists W
          isplitr; rotate_left
          · iexact H
          ipureintro
          exact fun p hp => Or.inl hp)
        iexact HO
      iexact Hmw
    isplitl [HRS] <;> iassumption
  · unfold Ow
    iintro ⟨⟨H, HB, HS, HO⟩, HRS, HRB⟩
    isplitl [H]
    · iapply (out_res d A L); iexact H
    isplitl [HB HRB]
    · isplitl [HB] <;> iassumption
    isplitl [HS HRS]
    · isplitl [HS] <;> iassumption
    iexact HO

end Cert.Proof.Tile
-- ==== Proof.Tables.lean ====
/- The three tables of columns: the grid's two columns about a pixel's column, and the weight between them. -/
module

public import proofs.«01_k».proof.Proof.LaunchTile

@[expose] public section

noncomputable section

namespace Cert.Proof.Tile

open Cert.KernelIdeal Cert.KernelIdeal.Gen
open Idealize.ShloMosaic

theorem lit0_eq : ∀ x : Fin 512, lit0 x = BitVec.ofNat 32 ((x.val - 16) / 32) := by decide +kernel
theorem lit1_eq : ∀ x : Fin 512, lit1 x = BitVec.ofNat 32 (min 15 ((x.val + 16) / 32)) := by decide +kernel
/-- The weight's words repeat every 32 columns. -/
theorem lit2_eq : ∀ x : Fin 512, lit2 x = lit2 ⟨x.val % 32, by omega⟩ := by decide +kernel

end Cert.Proof.Tile
-- ==== Proof.LaunchPay.lean ====
/- The launch: what each thread is handed, the host's lines about the call, and the run. -/
module

public import proofs.«01_k».proof.Proof.Tables

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within after)

variable {F : FTy → Type}

local notation "𝕄" => MT nD τ sig (HIx 1) (Elt F) ℕ UU ℕ

variable [FloatOps F]

/-! ## Sharing out and joining -/

theorem Sh_dup (ℓ : Loc nD τ sig) (f : Buf (Elt F) ℓ) : (Sh ℓ f : sProp 𝕄) ⊢ iprop(Sh ℓ f ∗ Sh ℓ f) := by
  unfold Sh
  iintro ⟨%q, H⟩
  ihave H := (pointsTo_share (PosShare.mem_left_op_right q)).1 $$ H
  icases H with ⟨H1, H2⟩
  isplitl [H1]
  · iexists _; iexact H1
  · iexists _; iexact H2

theorem Ops_dup {d : Dev nD} (A : Args F d) : (Ops A : sProp 𝕄) ⊢ iprop(Ops A ∗ Ops A) := by
  unfold Ops
  iintro ⟨H2, H3, H4, H5, H6, H7⟩
  ihave H2 := (Sh_dup _ _) $$ H2
  ihave H3 := (Sh_dup _ _) $$ H3
  ihave H4 := (Sh_dup _ _) $$ H4
  ihave H5 := (Sh_dup _ _) $$ H5
  ihave H6 := (Sh_dup _ _) $$ H6
  ihave H7 := (Sh_dup _ _) $$ H7
  icases H2 with ⟨H2, G2⟩
  icases H3 with ⟨H3, G3⟩
  icases H4 with ⟨H4, G4⟩
  icases H5 with ⟨H5, G5⟩
  icases H6 with ⟨H6, G6⟩
  icases H7 with ⟨H7, G7⟩
  isplitl [H2 H3 H4 H5 H6 H7]
  · isplitl [H2]; · iexact H2
    isplitl [H3]; · iexact H3
    isplitl [H4]; · iexact H4
    isplitl [H5]; · iexact H5
    isplitl [H6] <;> iassumption
  · isplitl [G2]; · iexact G2
    isplitl [G3]; · iexact G3
    isplitl [G4]; · iexact G4
    isplitl [G5]; · iexact G5
    isplitl [G6] <;> iassumption

theorem Ops_deal {I : Type} [DecidableEq I] {d : Dev nD} (A : Args F d) (S : Finset I) : (Ops A : sProp 𝕄) ⊢ bigSep S (fun _ => Ops A) := by
  induction S using Finset.induction_on with
  | empty =>
    rw [bigSep_empty]
    show (Ops A : sProp 𝕄) ⊢ iprop(emp)
    iintro -
    iempintro
  | insert i S hi ih =>
    rw [SparseCore.bigSep_insert' hi]
    exact (Ops_dup A).trans (sep_mono .rfl ih)

theorem Any_deal {I : Type} [DecidableEq I] (d : Dev nD) (S : Finset I) (c : I → Finset (Idx (v3L d)))
    (h : ∀ t ∈ S, ∀ t' ∈ S, t ≠ t' → Disjoint (c t) (c t')) : (Any (F := F) d (S.biUnion c) : sProp 𝕄) ⊢ bigSep S (fun t => Any d (c t)) := by
  unfold Any
  iintro ⟨%f, H⟩
  iapply (show (v3L d ↦[S.biUnion c]{fullShare} f : sProp 𝕄) ⊢ bigSep S (fun t => iprop(∃ f : Buf (Elt F) (v3L d), v3L d ↦[c t]{fullShare} f)) from by
    rw [pointsTo_biUnion S c h]
    refine bigSep_mono fun t _ => ?_
    show (_ : sProp 𝕄) ⊢ (_ : sProp 𝕄)
    iintro H
    iexists f
    iexact H)
  iexact H

theorem Res_join {I : Type} [DecidableEq I] [Nonempty I] {d : Dev nD} (A : Args F d) (S : Finset I) (c : I → Finset (Idx (v3L d))) (Pt : I → ℕ → Prop) (P : ℕ → Prop)
    (h : ∀ t ∈ S, ∀ t' ∈ S, t ≠ t' → Disjoint (c t) (c t'))
    (hP : ∀ r < 12, ∀ n < 262144, P n → ∃ t ∈ S, Pt t n ∧ (a8).view.emb (ix2 r n) ∈ c t) :
    bigSep S (fun t => Res A (c t) (Pt t)) ⊢ (Res A (S.biUnion c) P : sProp 𝕄) := by
  unfold Res
  have : Nonempty (Buf (Elt F) (v3L d)) := ⟨fun _ => FloatOps.ofBits .f32 0#32⟩
  refine (bigSep_exists_pi S (fun t (f : Buf (Elt F) (v3L d)) =>
    iprop(⌜∀ r < 12, ∀ n < 262144, Pt t n → rd2 a8 f r n = A.val r n⌝ ∗ (v3L d ↦[c t]{fullShare} f)))).trans ?_
  iintro ⟨%fs, H⟩
  ihave H := (bigSep_pure_sep S (fun t => ∀ r < 12, ∀ n < 262144, Pt t n → rd2 a8 (fs t) r n = A.val r n) (fun t => (v3L d ↦[c t]{fullShare} fs t : sProp 𝕄))) $$ H
  icases H with ⟨%hv, H⟩
  ihave H := (pointsTo_biUnion_join (ℓ := v3L d) (q := fullShare) (Val := Elt F) S c fs (fs (Classical.arbitrary I)) h) $$ H
  icases H with ⟨%g, %hg, H⟩
  iexists g
  isplitr; rotate_left
  · iexact H
  ipureintro
  intro r hr n hn hp
  obtain ⟨t, ht, hpt, hm⟩ := hP r hr n hn hp
  rw [← hv t ht r hr n hn hpt]
  unfold rd2 View.read
  rw [hg t ht _ hm]

theorem mem_colsT (d : Dev nD) (w r n : ℕ) (hn : n < 262144) : (a8).view.emb (ix2 r n) ∈ colsT d w ↔ n / 8192 = w := by
  unfold colsT
  rw [Finset.mem_filter]
  have e : (((a8).view.emb (ix2 (M := 12) (N := 262144) r n) : S12x262144.Idx) 1).val = n % 262144 := rfl
  rw [Nat.mod_eq_of_lt hn] at e
  constructor
  · intro h
    have := h.2
    exact e ▸ this
  · intro h
    exact ⟨Finset.mem_univ _, e.symm ▸ h⟩

theorem mem_colsC (d : Dev nD) (w r n : ℕ) (hn : n < 262144) : (a8).view.emb (ix2 r n) ∈ colsC d w ↔ n / 8192 % 2 = w := by
  unfold colsC
  rw [Finset.mem_filter]
  have e : (((a8).view.emb (ix2 (M := 12) (N := 262144) r n) : S12x262144.Idx) 1).val = n % 262144 := rfl
  rw [Nat.mod_eq_of_lt hn] at e
  constructor
  · intro h
    have := h.2
    exact e ▸ this
  · intro h
    exact ⟨Finset.mem_univ _, e.symm ▸ h⟩

/-- A SparseCore's columns are its sixteen tiles'. -/
theorem colsT_union (d : Dev nD) (c : ℕ) (hc : c < 2) : (Finset.univ : Finset (Fin 16)).biUnion (fun i => colsT d (2 * i.val + c)) = colsC d c := by
  ext y
  have hy : ((y : S12x262144.Idx) 1).val < 262144 := ((y : S12x262144.Idx) 1).isLt
  simp only [colsT, colsC, Finset.mem_biUnion, Finset.mem_filter, Finset.mem_univ, true_and]
  constructor
  · rintro ⟨i, h⟩; omega
  · intro h; exact ⟨⟨((y : S12x262144.Idx) 1).val / 8192 / 2, by omega⟩, by show _ = 2 * (((y : S12x262144.Idx) 1).val / 8192 / 2) + c; omega⟩

theorem colsT_disj (d : Dev nD) (c : ℕ) : ∀ i ∈ (Finset.univ : Finset (Fin 16)), ∀ j ∈ (Finset.univ : Finset (Fin 16)), i ≠ j → Disjoint (colsT d (2 * i.val + c)) (colsT d (2 * j.val + c)) := by
  intro i _ j _ hij
  rw [Finset.disjoint_left]
  intro y h1 h2
  simp only [colsT, Finset.mem_filter, Finset.mem_univ, true_and] at h1 h2
  exact hij (Fin.ext (by omega))

theorem colsC_union (d : Dev nD) : (Finset.univ : Finset (Fin 2)).biUnion (fun c => colsC d c.val) = Finset.univ := by
  refine Finset.eq_univ_of_forall fun y => ?_
  simp only [colsC, Finset.mem_biUnion, Finset.mem_filter, Finset.mem_univ, true_and]
  exact ⟨⟨((y : S12x262144.Idx) 1).val / 8192 % 2, by omega⟩, rfl⟩

theorem colsC_disj (d : Dev nD) : ∀ i ∈ (Finset.univ : Finset (Fin 2)), ∀ j ∈ (Finset.univ : Finset (Fin 2)), i ≠ j → Disjoint (colsC d i.val) (colsC d j.val) := by
  intro i _ j _ hij
  rw [Finset.disjoint_left]
  intro y h1 h2
  simp only [colsC, Finset.mem_filter, Finset.mem_univ, true_and] at h1 h2
  exact hij (Fin.ext (by omega))

/-! ## The host's lines before the call -/

variable (m : (ℓ : Loc nD τ sig) → Buf (Elt F) ℓ) (ρ : Dev nD → PrngReg)

def V0 (d : Dev nD) : Valuation τ sig (Elt F) := fun b => m (d, b)

abbrev op1 : HloOp τ sig (Elt F) := StableHlo.nullary main_c (fun i => lit0 (S512.rowMajor i))
abbrev op2 : HloOp τ sig (Elt F) := StableHlo.nullary main_c_0 (fun i => lit1 (S512.rowMajor i))
abbrev op3 : HloOp τ sig (Elt F) := StableHlo.nullary main_cst (fun i => FloatOps.ofBits .f32 (lit2 (S512.rowMajor i)))
abbrev op4 : HloOp τ sig (Elt F) := StableHlo.reshape main_arg0 main_v0 (rfl : (.f32 : EltTy) = .f32) shapeCasts_S4x12x8x16x16_S4x24576
abbrev op5 : HloOp τ sig (Elt F) := StableHlo.reshape main_arg1 main_v1 (rfl : (.f32 : EltTy) = .f32) shapeCasts_S4x512x512_S4x262144
abbrev op6 : HloOp τ sig (Elt F) := StableHlo.reshape main_arg2 main_v2 (rfl : (.f32 : EltTy) = .f32) shapeCasts_S4x3x512x512_S12x262144
abbrev op7 : HloOp τ sig (Elt F) := StableHlo.reshape main_v3 main_v4 (rfl : (.f32 : EltTy) = .f32) shapeCasts_S12x262144_S4x3x512x512

/-- What the arrays hold at the call. -/
def V6 (d : Dev nD) : Valuation τ sig (Elt F) := after [op1, op2, op3, op4, op5, op6] (V0 m d)

/-- The call's operands. -/
def args (d : Dev nD) : Args F d where
  f2 := V6 m d (Proc.devRef .tc main_v0)
  f3 := V6 m d (Proc.devRef .tc main_v1)
  f4 := V6 m d (Proc.devRef .tc main_v2)
  f5 := V6 m d (Proc.devRef .tc main_c)
  f6 := V6 m d (Proc.devRef .tc main_c_0)
  f7 := V6 m d (Proc.devRef .tc main_cst)

theorem args_f2 (d : Dev nD) : (args m d).f2 = fun i => shapeCast S4x24576 (m ((SparseCore.T d).loc main_arg0)) shapeCasts_S4x12x8x16x16_S4x24576 i := by
  unfold args V6
  dsimp only
  after_results
  rfl
theorem args_f3 (d : Dev nD) : (args m d).f3 = fun i => shapeCast S4x262144 (m ((SparseCore.T d).loc main_arg1)) shapeCasts_S4x512x512_S4x262144 i := by
  unfold args V6
  dsimp only
  after_results
  rfl
theorem args_f4 (d : Dev nD) : (args m d).f4 = fun i => shapeCast S12x262144 (m ((SparseCore.T d).loc main_arg2)) shapeCasts_S4x3x512x512_S12x262144 i := by
  unfold args V6
  dsimp only
  after_results
  rfl
theorem args_f5 (d : Dev nD) : (args m d).f5 = fun i : S512.Idx => lit0 (S512.rowMajor i) := by
  unfold args V6
  dsimp only
  after_results
  try rfl
theorem args_f6 (d : Dev nD) : (args m d).f6 = fun i : S512.Idx => lit1 (S512.rowMajor i) := by
  unfold args V6
  dsimp only
  after_results
  try rfl
theorem args_f7 (d : Dev nD) : (args m d).f7 = fun i : S512.Idx => (FloatOps.ofBits .f32 (lit2 (S512.rowMajor i)) : F .f32) := by
  unfold args V6
  dsimp only
  after_results
  try rfl

theorem V6_arg0 (d : Dev nD) : V6 m d (Proc.devRef .tc main_arg0) = m ((SparseCore.T d).loc main_arg0) := by unfold V6; after_results; try rfl
theorem V6_arg1 (d : Dev nD) : V6 m d (Proc.devRef .tc main_arg1) = m ((SparseCore.T d).loc main_arg1) := by unfold V6; after_results; try rfl
theorem V6_arg2 (d : Dev nD) : V6 m d (Proc.devRef .tc main_arg2) = m ((SparseCore.T d).loc main_arg2) := by unfold V6; after_results; try rfl

theorem rowMajor_ix1 (x : ℕ) (hx : x < 512) : S512.rowMajor (ix1 (N := 512) x) = ⟨x, hx⟩ := by
  apply Fin.ext
  refine (Shape.rowMajor_val_one (ix1 (N := 512) x)).trans ?_
  rw [ix1_val, Nat.mod_eq_of_lt hx]

theorem x0_eq (d : Dev nD) (x : ℕ) (hx : x < 512) : (rd a5 (args m d).f5 x : BitVec 32) = BitVec.ofNat 32 ((x - 16) / 32) := by
  rw [args_f5]
  exact (congrArg lit0 (rowMajor_ix1 x hx)).trans (lit0_eq ⟨x, hx⟩)
theorem x1_eq (d : Dev nD) (x : ℕ) (hx : x < 512) : (rd a6 (args m d).f6 x : BitVec 32) = BitVec.ofNat 32 (min 15 ((x + 16) / 32)) := by
  rw [args_f6]
  exact (congrArg lit1 (rowMajor_ix1 x hx)).trans (lit1_eq ⟨x, hx⟩)
theorem dx_eq (d : Dev nD) (x : ℕ) (hx : x < 512) : (rd a7 (args m d).f7 x : F .f32) = FloatOps.ofBits .f32 (lit2 ⟨x % 32, by omega⟩) := by
  rw [args_f7]
  exact congrArg (FloatOps.ofBits .f32) ((congrArg lit2 (rowMajor_ix1 x hx)).trans (lit2_eq ⟨x, hx⟩))

theorem args_ok (d : Dev nD) : (args m d).Ok := by
  constructor
  · intro x hx
    rw [x0_eq m d x hx, BitVec.toNat_ofNat]
    omega
  · intro x hx
    rw [x1_eq m d x hx, BitVec.toNat_ofNat]
    omega

/-! ## The handshakes -/

def P : (K (F := F)).Pay (nD := nD) (Val := Elt F) (Name := ℕ) (U := UU) where
  st := fun q d c => match q with | 0 => iprop(Ops (args m d) ∗ Any d (colsC d c.val))
  dn := fun q d c => match q with | 0 => Res (args m d) (colsC d c.val) (fun n => n / 8192 % 2 = c.val)
  go := fun q d c i => match q with | 0 => iprop(Ops (args m d) ∗ Any d (colsT d (2 * i.val + c.val)))
  td := fun q d c i => match q with | 0 => Res (args m d) (colsT d (2 * i.val + c.val)) (fun n => n / 8192 = 2 * i.val + c.val)
  x := fun _ _ => iprop(emp)

instance P_storable : (P (F := F) m).IsStorable where
  st q d c := match q with
    | 0 => (inferInstance : BI.Storable (upEmb : UEmb _ 𝕄) iprop(Ops (args m d) ∗ Any d (colsC d c.val)))
  dn q d c := match q with
    | 0 => (inferInstance : BI.Storable (upEmb : UEmb _ 𝕄) (Res (args m d) (colsC d c.val) (fun n => n / 8192 % 2 = c.val)))
  go q d c i := match q with
    | 0 => (inferInstance : BI.Storable (upEmb : UEmb _ 𝕄) iprop(Ops (args m d) ∗ Any d (colsT d (2 * i.val + c.val))))
  td q d c i := match q with
    | 0 => (inferInstance : BI.Storable (upEmb : UEmb _ 𝕄) (Res (args m d) (colsT d (2 * i.val + c.val)) (fun n => n / 8192 = 2 * i.val + c.val)))

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => tileProg (coordsV c s)) ⟨⟩ c s :=
  congrArg (fun b => SparseCore.onTile hcore0 hsub0 b PUnit.unit c s) (funext fun c => funext fun s => tileProg_eq (coordsV c s))

theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (args m d) (args_ok m d) (coordsV ⟨_, hci.1⟩ ⟨_, hci.2⟩) O W hO

theorem vecSplit : (K (F := F)).VecSplit' (P m) 0 := by
  intro d c
  have hc : c.val < 2 := c.isLt
  show iprop(Ops (args m d) ∗ Any d (colsC d c.val)) ⊢ |={Set.univ}=> iprop(
      (bigSep Finset.univ fun i : Fin 16 => iprop(Ops (args m d) ∗ Any d (colsT d (2 * i.val + c.val))))
      ∗ ((bigSep Finset.univ fun i : Fin 16 => Res (args m d) (colsT d (2 * i.val + c.val)) (fun n => n / 8192 = 2 * i.val + c.val))
          -∗ Res (args m d) (colsC d c.val) (fun n => n / 8192 % 2 = c.val)))
  rw [bigSep_sep', ← colsT_union d c.val hc]
  iintro ⟨HO, HA⟩
  imodintro
  isplitl [HO HA]
  · isplitl [HO]
    · iapply (Ops_deal (args m d) _); iexact HO
    iapply (Any_deal d _ (fun i : Fin 16 => colsT d (2 * i.val + c.val)) (colsT_disj d c.val)); iexact HA
  iintro H
  iapply (Res_join (args m d) _ (fun i : Fin 16 => colsT d (2 * i.val + c.val)) (fun i n => n / 8192 = 2 * i.val + c.val) (fun n => n / 8192 % 2 = c.val) (colsT_disj d c.val) (by
    intro r _ n hn hp
    refine ⟨⟨n / 8192 / 2, by omega⟩, Finset.mem_univ _, ?_, (mem_colsT d _ r n hn).mpr ?_⟩
    · show n / 8192 = 2 * (n / 8192 / 2) + c.val; omega
    · show n / 8192 = 2 * (n / 8192 / 2) + c.val; omega))
  iexact H

end Cert.Proof.Tile
-- ==== Proof.Launch.lean ====
/- The host's program about the call, and the whole run. -/
module

public import proofs.«01_k».proof.Proof.LaunchPay

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within after)

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The start -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host's arrays -/

abbrev r' (b : Ref sig .tc) : DevRef τ sig := Proc.devRef .tc b

abbrev SA : Finset (DevRef τ sig) :=
  {r' main_arg0, r' main_arg1, r' main_arg2, r' main_c, r' main_c_0, r' main_cst, r' main_v0, r' main_v1, r' main_v2, r' main_v3, r' main_v4}

theorem held_SA (d : Dev nD) (W : Valuation τ sig (Elt F)) :
    (held (SparseCore.T d) SA W : sProp 𝕄) = iprop(((SparseCore.T d).loc main_arg0 ↦{fullShare} W (r' main_arg0)) ∗ ((SparseCore.T d).loc main_arg1 ↦{fullShare} W (r' main_arg1))
      ∗ ((SparseCore.T d).loc main_arg2 ↦{fullShare} W (r' main_arg2)) ∗ (cL d ↦{fullShare} W (r' main_c)) ∗ (c0L d ↦{fullShare} W (r' main_c_0)) ∗ (cstL d ↦{fullShare} W (r' main_cst))
      ∗ (v0L d ↦{fullShare} W (r' main_v0)) ∗ (v1L d ↦{fullShare} W (r' main_v1)) ∗ (v2L d ↦{fullShare} W (r' main_v2)) ∗ (v3L d ↦{fullShare} W (r' main_v3))
      ∗ ((SparseCore.T d).loc main_v4 ↦{fullShare} W (r' main_v4))) := by
  unfold held SA
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

theorem unscoped_held (d : Dev nD) : (unscopedBufs d (fun b => m ((SparseCore.T d).loc b)) : sProp 𝕄) = held (SparseCore.T d) SA (V0 m d) := by
  rw [held_SA]
  unfold unscopedBufs
  rw [show (Finset.univ.filter fun b : Ref sig .tc => ¬ b.isScoped)
      = {main_arg0, main_arg1, main_arg2, main_c, main_c_0, main_cst, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl

/-- The arrays of the last line. -/
abbrev SB : Finset (DevRef τ sig) := {r' main_v3, r' main_v4}

/-- What they hold, the call's result being `g`. -/
def V7 (d : Dev nD) (g : Buf (Elt F) (v3L d)) : Valuation τ sig (Elt F) := Function.update (V6 m d) (r' main_v3) g

theorem held_V7 (d : Dev nD) (g : Buf (Elt F) (v3L d)) :
    (held (SparseCore.T d) SB (V7 m d g) : sProp 𝕄) = iprop((v3L d ↦{fullShare} g) ∗ ((SparseCore.T d).loc main_v4 ↦{fullShare} V6 m d (r' main_v4))) := by
  unfold held SB
  rw [SparseCore.bigSep_insert' (by decide), bigSep_singleton]
  rw [show V7 m d g (r' main_v3) = g from Function.update_self _ _ _,
    show V7 m d g (r' main_v4) = V6 m d (r' main_v4) from Function.update_of_ne (show r' main_v4 ≠ r' main_v3 by decide) _ _]

abbrev v4L (d : Dev nD) : Loc nD τ sig := (SparseCore.T d).loc main_v4

/-- The result, as the last line leaves it. -/
def outOf (d : Dev nD) (g : Buf (Elt F) (v3L d)) : Buf (Elt F) (v4L d) :=
  fun i => shapeCast S4x3x512x512 (g : S12x262144.Idx → F .f32) shapeCasts_S12x262144_S4x3x512x512 i

theorem held_V8 (d : Dev nD) (g : Buf (Elt F) (v3L d)) :
    (held (SparseCore.T d) SB ((op7 (F := F)).result (V7 m d g)) : sProp 𝕄) ⊢ iprop((SparseCore.T d).loc main_v4 ↦{fullShare} outOf d g) := by
  unfold held SB
  rw [SparseCore.bigSep_insert' (by decide), bigSep_singleton]
  rw [show (op7 (F := F)).result (V7 m d g) (r' main_v4) = outOf d g from by
    rw [StableHlo.reshape_result, show V7 m d g (r' main_v3) = g from Function.update_self _ _ _]; rfl]
  show (_ : sProp 𝕄) ⊢ (_ : sProp 𝕄)
  iintro ⟨-, H⟩
  iexact H

theorem bigSep_two (Φ : Fin 2 → sProp 𝕄) : bigSep Finset.univ Φ = iprop(Φ 0 ∗ Φ 1) := BI.bigSep_fin_two Φ

/-- The call's entry, dealt to the two SparseCores. -/
theorem st_intro (d : Dev nD) : iprop(Ops (args m d) ∗ Any (F := F) d Finset.univ) ⊢ (bigSep Finset.univ fun c : Fin ((K (F := F)).nCore 0) => (P m).st 0 d c) := by
  show iprop(Ops (args m d) ∗ Any (F := F) d Finset.univ) ⊢ (bigSep Finset.univ fun c : Fin 2 => iprop(Ops (args m d) ∗ Any d (colsC d c.val)))
  rw [bigSep_sep', ← colsC_union d]
  iintro ⟨HO, HA⟩
  isplitl [HO]
  · iapply (Ops_deal (args m d) _); iexact HO
  iapply (Any_deal d _ (fun c : Fin 2 => colsC d c.val) (colsC_disj d)); iexact HA

theorem dn_elim (d : Dev nD) : (bigSep Finset.univ fun c : Fin ((K (F := F)).nCore 0) => (P m).dn 0 d c) ⊢ Res (args m d) Finset.univ (fun _ => True) := by
  show (bigSep Finset.univ fun c : Fin 2 => Res (args m d) (colsC d c.val) (fun n => n / 8192 % 2 = c.val)) ⊢ Res (args m d) Finset.univ (fun _ => True)
  rw [← colsC_union d]
  exact Res_join (args m d) _ (fun c : Fin 2 => colsC d c.val) (fun c n => n / 8192 % 2 = c.val) (fun _ => True) (colsC_disj d)
    (fun r _ n hn _ => ⟨⟨n / 8192 % 2, Nat.mod_lt _ (by decide)⟩, Finset.mem_univ _, rfl, (mem_colsC d _ r n hn).mpr rfl⟩)

/-! ## The host's program -/

abbrev aPts (d : Dev nD) (b : Ref sig .tc) : sProp 𝕄 := (SparseCore.T d).loc b ↦{fullShare} m ((SparseCore.T d).loc b)

/-- At the end: the arguments as they were, and the result. -/
abbrev FIN (d : Dev nD) : sProp 𝕄 :=
  iprop(aPts m d main_arg0 ∗ aPts m d main_arg1 ∗ aPts m d main_arg2
    ∗ ∃ g : Buf (Elt F) (v3L d), ⌜∀ r < 12, ∀ n < 262144, rd2 a8 g r n = (args m d).val r n⌝ ∗ ((SparseCore.T d).loc main_v4 ↦{fullShare} outOf d g))

theorem hop1 : (op1 (F := F)).bufs ⊆ SA := show ({r' main_c} : Finset (DevRef τ sig)) ⊆ SA by decide
theorem hop2 : (op2 (F := F)).bufs ⊆ SA := show ({r' main_c_0} : Finset (DevRef τ sig)) ⊆ SA by decide
theorem hop3 : (op3 (F := F)).bufs ⊆ SA := show ({r' main_cst} : Finset (DevRef τ sig)) ⊆ SA by decide
theorem hop4 : (op4 (F := F)).bufs ⊆ SA := show ({r' main_arg0, r' main_v0} : Finset (DevRef τ sig)) ⊆ SA by decide
theorem hop5 : (op5 (F := F)).bufs ⊆ SA := show ({r' main_arg1, r' main_v1} : Finset (DevRef τ sig)) ⊆ SA by decide
theorem hop6 : (op6 (F := F)).bufs ⊆ SA := show ({r' main_arg2, r' main_v2} : Finset (DevRef τ sig)) ⊆ SA by decide
theorem hop7 : (op7 (F := F)).bufs ⊆ SB := show ({r' main_v3, r' main_v4} : Finset (DevRef τ sig)) ⊆ SB by decide

theorem Sh_intro (ℓ : Loc nD τ sig) (f : Buf (Elt F) ℓ) : (ℓ ↦{fullShare} f : sProp 𝕄) ⊢ Sh ℓ f := by
  unfold Sh
  iintro H
  iexists _; iexact H

theorem fold6 (d : Dev nD) : (held (SparseCore.T d) SA ((op6 (F := F)).result ((op5 (F := F)).result ((op4 (F := F)).result ((op3 (F := F)).result
    ((op2 (F := F)).result ((op1 (F := F)).result (V0 m d))))))) : sProp 𝕄) ⊢ held (SparseCore.T d) SA (V6 m d) := BI.BIBase.Entails.rfl

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hh, Hts, -⟩, -⟩
  iapply (wp_hlo_within 𝒱 (SparseCore.T d) none Set.univ (op := op1) (S := SA) hop1 (V := V0 m d)) $$ [Hb Hh]
  · isplitl [Hb] <;> iassumption
  iintro ⟨Hb, Hh⟩
  rw [wp_ret]; imodintro
  iapply (wp_hlo_within 𝒱 (SparseCore.T d) none Set.univ (op := op2) (S := SA) hop2) $$ [Hb Hh]
  · isplitl [Hb] <;> iassumption
  iintro ⟨Hb, Hh⟩
  rw [wp_ret]; imodintro
  iapply (wp_hlo_within 𝒱 (SparseCore.T d) none Set.univ (op := op3) (S := SA) hop3) $$ [Hb Hh]
  · isplitl [Hb] <;> iassumption
  iintro ⟨Hb, Hh⟩
  rw [wp_ret]; imodintro
  iapply (wp_hlo_within 𝒱 (SparseCore.T d) none Set.univ (op := op4) (S := SA) hop4) $$ [Hb Hh]
  · isplitl [Hb] <;> iassumption
  iintro ⟨Hb, Hh⟩
  rw [wp_ret]; imodintro
  iapply (wp_hlo_within 𝒱 (SparseCore.T d) none Set.univ (op := op5) (S := SA) hop5) $$ [Hb Hh]
  · isplitl [Hb] <;> iassumption
  iintro ⟨Hb, Hh⟩
  rw [wp_ret]; imodintro
  iapply (wp_hlo_within 𝒱 (SparseCore.T d) none Set.univ (op := op6) (S := SA) hop6) $$ [Hb Hh]
  · isplitl [Hb] <;> iassumption
  iintro ⟨Hb, Hh⟩
  rw [wp_ret]; imodintro
  ihave Hh := (fold6 m d) $$ Hh
  ihave Hh := (show held (SparseCore.T d) SA (V6 m d) ⊢ (_ : sProp 𝕄) from Entails.of_eq (held_SA (F := F) d (V6 m d))) $$ Hh
  rw [V6_arg0, V6_arg1, V6_arg2]
  icases Hh with ⟨Ha0, Ha1, Ha2, Hc, Hc0, Hcst, Hv0, Hv1, Hv2, Hv3, Hv4⟩
  iapply ((K (F := F)).wp_run (D (F := F)) 𝒱 (EH := EH) (P := P m) κ d 0) $$ [Hst Hc Hc0 Hcst Hv0 Hv1 Hv2 Hv3 Hv4 Ha0 Ha1 Ha2 Hb Hts]
  isplitr; · iexact Hctx
  isplitl [Hst]; · iexact Hst
  isplitl [Hc Hc0 Hcst Hv0 Hv1 Hv2 Hv3]
  · iapply (st_intro m d)
    isplitr [Hv3]
    · iapply (show _ ⊢ (Ops (args m d) : sProp 𝕄) from by unfold Ops; exact BI.BIBase.Entails.rfl)
      isplitl [Hv0]; · iapply (Sh_intro (v0L d) (args m d).f2); iexact Hv0
      isplitl [Hv1]; · iapply (Sh_intro (v1L d) (args m d).f3); iexact Hv1
      isplitl [Hv2]; · iapply (Sh_intro (v2L d) (args m d).f4); iexact Hv2
      isplitl [Hc]; · iapply (Sh_intro (cL d) (args m d).f5); iexact Hc
      isplitl [Hc0]; · iapply (Sh_intro (c0L d) (args m d).f6); iexact Hc0
      iapply (Sh_intro (cstL d) (args m d).f7); iexact Hcst
    iapply (show (v3L d ↦{fullShare} V6 m d (r' main_v3) : sProp 𝕄) ⊢ Any d Finset.univ from by
      unfold Any
      iintro H
      iexists _; iexact H)
    iexact Hv3
  iintro ⟨Hst, Hdn⟩
  ihave Hdn := (dn_elim m d) $$ Hdn
  ihave Hdn := (show Res (args m d) Finset.univ (fun _ => True) ⊢ (iprop(∃ f : Buf (Elt F) (v3L d), ⌜∀ r < 12, ∀ n < 262144, True → rd2 a8 f r n = (args m d).val r n⌝ ∗ (v3L d ↦{fullShare} f)) : sProp 𝕄) from by
    unfold Res; exact BI.BIBase.Entails.rfl) $$ Hdn
  icases Hdn with ⟨%g, %hg, Hv3⟩
  iapply (wp_hlo_within 𝒱 (SparseCore.T d) none Set.univ (op := op7) (S := SB) hop7 (V := V7 m d g)) $$ [Hb Hv3 Hv4]
  · isplitl [Hb]; · iexact Hb
    rw [held_V7]
    isplitl [Hv3] <;> iassumption
  iintro ⟨Hb, Hh⟩
  ihave Hh := (held_V8 (F := F) m d g) $$ Hh
  rw [wp_ret]; imodintro; imodintro
  isplitl [Hst]; · iexact Hst
  isplitr [Hb Hts]
  · isplitl [Ha0]; · iexact Ha0
    isplitl [Ha1]; · iexact Ha1
    isplitl [Ha2]; · iexact Ha2
    iexists g
    isplitr; rotate_left
    · iexact Hh
    ipureintro
    exact fun r hr n hn => hg r hr n hn trivial
  isplitl [Hb] <;> iassumption

/-! ## The run -/

/-- The final memory of device `d`. -/
def fm (d : Dev nD) (M : (ℓ : Loc nD τ sig) → Buf (Elt F) ℓ) : Prop :=
  M ((SparseCore.T d).loc main_arg0) = m ((SparseCore.T d).loc main_arg0) ∧ M ((SparseCore.T d).loc main_arg1) = m ((SparseCore.T d).loc main_arg1)
    ∧ M ((SparseCore.T d).loc main_arg2) = m ((SparseCore.T d).loc main_arg2)
    ∧ ∃ g : Buf (Elt F) (v3L d), (∀ r < 12, ∀ n < 262144, rd2 a8 g r n = (args m d).val r n) ∧ M ((SparseCore.T d).loc main_v4) = outOf d g

theorem agree (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr; rotate_left
  · iexact HSI
  ipureintro
  exact funext fun i => h i (Finset.mem_univ i)

theorem hfin (d : Dev nD) (s' : Phys nD τ sig (Elt F)) : iprop(FIN m d ∗ SI s') ⊢ (⌜fm m d s'.mem.mem⌝ : sProp 𝕄) := by
  iintro ⟨⟨H0, H1, H2, ⟨%g, %hg, H4⟩⟩, HSI⟩
  ihave H := (agree s' _ _) $$ [HSI H0]
  · isplitl [HSI] <;> iassumption
  icases H with ⟨%h0, HSI⟩
  ihave H := (agree s' _ _) $$ [HSI H1]
  · isplitl [HSI] <;> iassumption
  icases H with ⟨%h1, HSI⟩
  ihave H := (agree s' _ _) $$ [HSI H2]
  · isplitl [HSI] <;> iassumption
  icases H with ⟨%h2, HSI⟩
  ihave H := (agree s' _ _) $$ [HSI H4]
  · isplitl [HSI] <;> iassumption
  icases H with ⟨%h4, -⟩
  ipureintro
  exact ⟨h0, h1, h2, g, hg, h4⟩

def QC : PUnit × MemSt nD τ sig (Elt F) → Prop := fun r => (∀ c : Dev nD, fm m c r.2.mem) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fun d s' => fm m d s'.mem.mem) (hfin m) (QC m) (fun _ h hz => ⟨h, hz⟩)

end Cert.Proof.Tile
-- ==== Proof.Frames.lean ====
/- The three frames: the kernel at its words, the kernel over the reals, the reference over the reals. -/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Proof

open Idealize.ShloMosaic Idealize.SL.Sem

/-- The run over the words is the run over any floats, at the words. -/
theorem frame_kernel : Cert.quiescent_Kernel := fun m ρ _ =>
  (θ_run Cert.KernelIdeal.defs _ _).mono (fun _ h => ⟨fun c => ⟨(h.1 c).1, (h.1 c).2.1, (h.1 c).2.2.1⟩, h.2⟩) (Tile.run_main (F := Bits) m ρ)

theorem frame_kernelIdeal : Cert.quiescent_KernelIdeal := fun m ρ _ =>
  (θ_run Cert.KernelIdeal.defs _ _).mono (fun _ h => ⟨fun c => ⟨(h.1 c).1, (h.1 c).2.1, (h.1 c).2.2.1⟩, h.2⟩) (Tile.run_main (F := Ideal) m ρ)

/-- The reference declares no semaphore, so the counters are zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Reals.lean ====
/- Extended reals: the constants, and the arithmetic of one axis of the grid. -/
module

public import Idealize.ShloMosaic.PureOps.Ideal
public import Idealize.ShloMosaic.PureOps.Ideal.Laws
public import Mathlib.Tactic.Linarith
public import Mathlib.Tactic.FieldSimp
public import Mathlib.Tactic.Ring
public import Mathlib.Tactic.NormNum

@[expose] public section

noncomputable section

namespace Cert.Proof.Value

open Idealize.ShloMosaic

/-! ## Constants -/

/-- A positive word, read. -/
theorem ofBits_pos (b : BitVec 32) (N k : ℕ) (hs : (b.extractLsb' 31 1 == 1#1) = false) (h1 : (b.extractLsb' 23 8).toNat ≠ 255)
    (h0 : (b.extractLsb' 23 8).toNat ≠ 0)
    (h : (2 ^ 23 + (b.extractLsb' 0 23).toNat) * 2 ^ (b.extractLsb' 23 8).toNat * 2 ^ k = N * 2 ^ 150) :
    Ideal.ofBits .f32 b = ((N / 2 ^ k : ℝ) : EReal) := by
  show Ideal.ieee 8 23 b = _
  unfold Ideal.ieee
  simp only [hs]
  rw [if_neg (by simpa using h1), if_neg h0]
  congr 1
  have h' : ((2 ^ 23 + (b.extractLsb' 0 23).toNat : ℕ) : ℝ) * 2 ^ (b.extractLsb' 23 8).toNat * 2 ^ k = N * 2 ^ 150 := by exact_mod_cast h
  have hz : (2 : ℝ) ^ (((b.extractLsb' 23 8).toNat : ℤ) - (2 ^ (8 - 1) - 1) - 23) = 2 ^ (b.extractLsb' 23 8).toNat / 2 ^ 150 := by
    rw [show ((b.extractLsb' 23 8).toNat : ℤ) - (2 ^ (8 - 1) - 1) - 23 = ((b.extractLsb' 23 8).toNat : ℤ) - (150 : ℕ) by norm_num; ring,
      zpow_sub₀ (by norm_num), zpow_natCast, zpow_natCast]
  simp only [Bool.false_eq_true, if_false, one_mul]
  push_cast at hz h' ⊢
  rw [hz]
  rw [eq_div_iff (by positivity)]
  calc _ = ((8388608 + ((b.extractLsb' 0 23).toNat : ℝ)) * 2 ^ (b.extractLsb' 23 8).toNat * 2 ^ k) / 2 ^ 150 := by norm_num; ring
    _ = N := by rw [h', mul_div_assoc, div_self (by positivity), mul_one]

theorem c_half : Ideal.ofBits .f32 0x3F000000#32 = ((1 / 2 : ℝ) : EReal) := by
  rw [ofBits_pos _ 1 1 (by decide) (by decide) (by decide) (by decide +kernel)]; norm_num
theorem c_one : Ideal.ofBits .f32 0x3F800000#32 = ((1 : ℝ) : EReal) := by
  rw [ofBits_pos _ 1 0 (by decide) (by decide) (by decide) (by decide +kernel)]; norm_num
theorem c_three_halves : Ideal.ofBits .f32 0x3FC00000#32 = ((3 / 2 : ℝ) : EReal) := by
  rw [ofBits_pos _ 3 1 (by decide) (by decide) (by decide) (by decide +kernel)]; norm_num
theorem c_eight : Ideal.ofBits .f32 0x41000000#32 = ((8 : ℝ) : EReal) := by
  rw [ofBits_pos _ 8 0 (by decide) (by decide) (by decide) (by decide +kernel)]; norm_num
theorem c_sixteen : Ideal.ofBits .f32 0x41800000#32 = ((16 : ℝ) : EReal) := by
  rw [ofBits_pos _ 16 0 (by decide) (by decide) (by decide) (by decide +kernel)]; norm_num
theorem c_512 : Ideal.ofBits .f32 0x44000000#32 = ((512 : ℝ) : EReal) := by
  rw [ofBits_pos _ 512 0 (by decide) (by decide) (by decide) (by decide +kernel)]; norm_num
theorem c_15_2 : Ideal.ofBits .f32 0x40F00000#32 = ((15 / 2 : ℝ) : EReal) := by
  rw [ofBits_pos _ 15 1 (by decide) (by decide) (by decide) (by decide +kernel)]; norm_num
theorem c_32th : Ideal.ofBits .f32 0x3D000000#32 = ((1 / 32 : ℝ) : EReal) := by
  rw [ofBits_pos _ 1 5 (by decide) (by decide) (by decide) (by decide +kernel)]; norm_num
theorem c_zero : Ideal.ofBits .f32 0x00000000#32 = ((0 : ℝ) : EReal) := by
  rw [Ideal.ofBits_zero_f32]; rfl
theorem c_low : Ideal.ofBits .f32 0xCD000000#32 = ((-2 ^ 27 : ℝ) : EReal) := by
  simp [Ideal.ofBits, Ideal.ieee, -EReal.coe_mul, -EReal.coe_neg]; norm_num
theorem c_inf : Ideal.ofBits .f32 0x7F800000#32 = ⊤ := by
  simp [Ideal.ofBits, Ideal.ieee]

/-! ## One axis -/

theorem coe_max (a b : ℝ) : max (a : EReal) (b : EReal) = ((max a b : ℝ) : EReal) := (EReal.coe_strictMono.monotone.map_max).symm
theorem coe_min (a b : ℝ) : min (a : EReal) (b : EReal) = ((min a b : ℝ) : EReal) := (EReal.coe_strictMono.monotone.map_min).symm

/-- The floor. -/
theorem floor_coe (a : ℝ) : Ideal.liftRound Int.floor (a : EReal) = ((⌊a⌋ : ℝ) : EReal) := rfl

/-- The cell a coordinate's floor names, kept on the axis. -/
def cell (n : ℕ) (f : ℤ) : ℕ := (min (n : ℤ) (max 0 f)).toNat

theorem cell_le (n : ℕ) (f : ℤ) : cell n f ≤ n := by unfold cell; omega

/-- A whole number kept between nought and `n`, as a word. -/
theorem clip_word (n : ℕ) (hn : n < 2 ^ 31) (f : ℤ) :
    Ideal.fptosi 32 (min ((n : ℝ) : EReal) (max ((0 : ℝ) : EReal) ((f : ℝ) : EReal))) = BitVec.ofNat 32 (cell n f) := by
  rw [coe_max, coe_min]
  have e : (min (n : ℝ) (max 0 (f : ℝ)) : ℝ) = ((cell n f : ℕ) : ℝ) := by
    have h : ((cell n f : ℕ) : ℤ) = min (n : ℤ) (max 0 f) := by unfold cell; omega
    have h' : ((cell n f : ℕ) : ℝ) = ((min (n : ℤ) (max 0 f) : ℤ) : ℝ) := by rw [← h]; push_cast; rfl
    rw [h']; push_cast; rfl
  rw [e]
  unfold Ideal.fptosi Ideal.toIntClamped
  rw [← BitVec.ofInt_natCast]
  congr 1
  have := cell_le n f
  show max _ (min _ (if 0 ≤ ((cell n f : ℕ) : ℝ) then ⌊((cell n f : ℕ) : ℝ)⌋ else _)) = _
  rw [if_pos (by positivity), Int.floor_natCast]
  norm_num
  omega

/-- How far a coordinate stands beyond the middle of its cell. -/
def frac (g : ℝ) : ℝ := g - ⌊g - 1 / 2⌋ - 1 / 2

theorem frac_nonneg (g : ℝ) : 0 ≤ frac g := by unfold frac; linarith [Int.floor_le (g - 1 / 2)]
theorem frac_le (g : ℝ) : frac g ≤ 1 := by unfold frac; linarith [Int.lt_floor_add_one (g - 1 / 2)]

/-- The tent over the nearer cell. -/
theorem tent0 (g : ℝ) : max (((1 : ℝ) : EReal) - max (((⌊g - 1 / 2⌋ : ℝ) : EReal) + ((1 / 2 : ℝ) : EReal) - (g : EReal))
    (-(((⌊g - 1 / 2⌋ : ℝ) : EReal) + ((1 / 2 : ℝ) : EReal) - (g : EReal)))) ((0 : ℝ) : EReal) = ((1 - frac g : ℝ) : EReal) := by
  have h0 := frac_nonneg g
  have h1 := frac_le g
  rw [← EReal.coe_add, ← EReal.coe_sub, ← EReal.coe_neg, coe_max, ← EReal.coe_sub, coe_max]
  congr 1
  have e : (⌊g - 1 / 2⌋ : ℝ) + 1 / 2 - g = -frac g := by unfold frac; ring
  rw [e, neg_neg, max_eq_right (show -frac g ≤ frac g by linarith), max_eq_left (by linarith)]

/-- The tent over the next cell. -/
theorem tent1 (g : ℝ) : max (((1 : ℝ) : EReal) - max (((⌊g - 1 / 2⌋ : ℝ) : EReal) + ((3 / 2 : ℝ) : EReal) - (g : EReal))
    (-(((⌊g - 1 / 2⌋ : ℝ) : EReal) + ((3 / 2 : ℝ) : EReal) - (g : EReal)))) ((0 : ℝ) : EReal) = ((frac g : ℝ) : EReal) := by
  have h0 := frac_nonneg g
  have h1 := frac_le g
  rw [← EReal.coe_add, ← EReal.coe_sub, ← EReal.coe_neg, coe_max, ← EReal.coe_sub, coe_max]
  congr 1
  have e : (⌊g - 1 / 2⌋ : ℝ) + 3 / 2 - g = 1 - frac g := by unfold frac; ring
  rw [e, max_eq_left (show -(1 - frac g) ≤ 1 - frac g by linarith), max_eq_left (by linarith)]
  ring

/-- The coordinate of pixel `n` of 512 over sixteen cells. -/
def coord (n : ℕ) : ℝ := (n + 1 / 2) * 16 / 512

theorem floor_coord (n : ℕ) : ⌊coord n - 1 / 2⌋ = ((n : ℤ) - 16) / 32 := by
  rw [Int.floor_eq_iff]
  have h1 := Int.emod_add_mul_ediv ((n : ℤ) - 16) 32
  have h2 := Int.emod_nonneg ((n : ℤ) - 16) (show (32 : ℤ) ≠ 0 by decide)
  have h3 := Int.emod_lt_of_pos ((n : ℤ) - 16) (show (0 : ℤ) < 32 by decide)
  have h4 : ((n : ℤ) - 16) % 32 ≤ 31 := by omega
  generalize ((n : ℤ) - 16) / 32 = q at *
  generalize ((n : ℤ) - 16) % 32 = r at *
  have h1' : (r : ℝ) + 32 * q = n - 16 := by exact_mod_cast h1
  have h2' : (0 : ℝ) ≤ r := by exact_mod_cast h2
  have h4' : (r : ℝ) ≤ 31 := by exact_mod_cast h4
  unfold coord
  constructor <;> linarith

theorem cell_coord0 (n : ℕ) (hn : n < 512) : cell 15 ⌊coord n - 1 / 2⌋ = (n - 16) / 32 := by
  rw [floor_coord]; unfold cell; omega
theorem cell_coord1 (n : ℕ) (hn : n < 512) : cell 15 (⌊coord n - 1 / 2⌋ + 1) = min 15 ((n + 16) / 32) := by
  rw [floor_coord]; unfold cell; omega

end Cert.Proof.Value

end
-- ==== Proof.KerVal.lean ====
/- The kernel's pixel over the extended reals: eight entries of the grid, weighed. -/
module

public import proofs.«01_k».proof.Proof.Base
public import proofs.«01_k».proof.Proof.Reals

@[expose] public section

noncomputable section

namespace Cert.Proof.Value

open Idealize.ShloMosaic Cert.Proof.Tile

theorem bl_coe (w a b : ℝ) : bl (F := Ideal) (w : EReal) (a : EReal) (b : EReal) = ((a + w * (b - a) : ℝ) : EReal) := by
  show (a : EReal) + (w : EReal) * ((b : EReal) - (a : EReal)) = _
  rw [← EReal.coe_sub, ← EReal.coe_mul, ← EReal.coe_add]

/-! ## Along z -/

theorem tzS_coe (g : ℝ) : tzS (F := Ideal) (g : EReal) = ((8 * g + 15 / 2 : ℝ) : EReal) := by
  show (g : EReal) * Ideal.ofBits .f32 0x41000000#32 + Ideal.ofBits .f32 0x40F00000#32 = _
  rw [c_eight, c_15_2, ← EReal.coe_mul, ← EReal.coe_add, mul_comm]

/-- The scaled guide's integer part, as a whole number. -/
def fzI (g : ℝ) : ℤ := max (-(2 ^ 31)) (min (2 ^ 31 - 1) (if 0 ≤ 8 * g + 15 / 2 then ⌊8 * g + 15 / 2⌋ else ⌈8 * g + 15 / 2⌉))

theorem fzS_coe (g : ℝ) : fzS (F := Ideal) (g : EReal) = BitVec.ofInt 32 (fzI g) := by
  show Ideal.fptosi 32 (tzS (F := Ideal) (g : EReal)) = _
  rw [tzS_coe]
  unfold fzI
  generalize 8 * g + 15 / 2 = t
  show BitVec.ofInt 32 (max (-((2 ^ (32 - 1) : ℕ) : ℤ)) (min (((2 ^ (32 - 1) : ℕ) : ℤ) - 1) (if 0 ≤ t then ⌊t⌋ else ⌈t⌉))) = _
  norm_num

theorem fzI_le (g : ℝ) : fzI g ≤ 2 ^ 31 - 1 := by unfold fzI; omega
theorem le_fzI (g : ℝ) : -(2 ^ 31) ≤ fzI g := by unfold fzI; omega

theorem fzS_toInt (g : ℝ) : (fzS (F := Ideal) (g : EReal)).toInt = fzI g := by
  have h1 := fzI_le g
  have h2 := le_fzI g
  rw [fzS_coe, BitVec.toInt_ofInt, Int.bmod_eq_of_le (by norm_num at *; omega) (by norm_num at *; omega)]

/-- The integer part and the floor: the same, or both far off the grid on one side. -/
theorem fzI_cases (g : ℝ) (h : -2 ^ 27 ≤ g) :
    (fzI g = ⌊8 * g - 1 / 2⌋ + 8 ∨ (fzI g ≤ 0 ∧ ⌊8 * g - 1 / 2⌋ ≤ -8) ∨ (15 ≤ fzI g ∧ 7 ≤ ⌊8 * g - 1 / 2⌋)) ∧ -(2 ^ 30) ≤ fzI g := by
  have e : ⌊8 * g + 15 / 2⌋ = ⌊8 * g - 1 / 2⌋ + 8 := by
    rw [show 8 * g + 15 / 2 = (8 * g - 1 / 2) + ((8 : ℤ) : ℝ) by push_cast; ring, Int.floor_add_intCast]
  unfold fzI
  split
  · rename_i h0
    have hf : 0 ≤ ⌊8 * g + 15 / 2⌋ := Int.floor_nonneg.mpr h0
    rw [e] at *
    omega
  · rename_i h0
    rw [not_le] at h0
    have hc : ⌈8 * g + 15 / 2⌉ ≤ 0 := Int.ceil_le.mpr (by push_cast; exact h0.le)
    have hl : -(2 ^ 30) ≤ ⌈8 * g + 15 / 2⌉ := by
      have h1 := Int.le_ceil (8 * g + 15 / 2)
      have h2 : ((-(2 ^ 30) : ℤ) : ℝ) ≤ ⌈8 * g + 15 / 2⌉ := by push_cast; linarith
      exact_mod_cast h2
    have hf : ⌊8 * g + 15 / 2⌋ < 0 := Int.floor_lt.mpr (by push_cast; exact h0)
    omega

theorem zS_coe (g : ℝ) (h : -2 ^ 27 ≤ g) (k : BitVec 32) (hk : 0 ≤ k.toInt) (hk' : k.toInt ≤ 8) :
    zS (F := Ideal) (g : EReal) k = (min 7 (max 0 (fzI g - k.toInt))).toNat := by
  have h1 := fzI_le g
  have h2 := (fzI_cases g h).2
  rw [zS_eq, BitVec.toInt_sub, fzS_toInt, Int.bmod_eq_of_le (by norm_num at *; omega) (by norm_num at *; omega)]

theorem z0_coe (g : ℝ) (h : -2 ^ 27 ≤ g) : zS (F := Ideal) (g : EReal) 8#32 = cell 7 ⌊8 * g - 1 / 2⌋ := by
  rw [zS_coe g h _ (by decide) (by decide), show (8#32).toInt = 8 from by decide]
  have := (fzI_cases g h).1
  unfold cell
  omega
theorem z1_coe (g : ℝ) (h : -2 ^ 27 ≤ g) : zS (F := Ideal) (g : EReal) 7#32 = cell 7 (⌊8 * g - 1 / 2⌋ + 1) := by
  rw [zS_coe g h _ (by decide) (by decide), show (7#32).toInt = 7 from by decide]
  have := (fzI_cases g h).1
  unfold cell
  omega

/-- The weight along z is the tent's, wherever it matters. -/
theorem dz_coe (g : ℝ) (h : -2 ^ 27 ≤ g) : ∃ d : ℝ, dzS (F := Ideal) (g : EReal) = (d : EReal)
    ∧ (d = frac (8 * g) ∨ cell 7 ⌊8 * g - 1 / 2⌋ = cell 7 (⌊8 * g - 1 / 2⌋ + 1)) := by
  refine ⟨8 * g + 15 / 2 - fzI g, ?_, ?_⟩
  · show tzS (F := Ideal) (g : EReal) - (((fzS (F := Ideal) (g : EReal)).toInt : ℝ) : EReal) = _
    rw [tzS_coe, fzS_toInt, ← EReal.coe_sub]
  · rcases (fzI_cases g h).1 with h1 | h1 | h1
    · left
      rw [h1]; unfold frac; push_cast; ring
    · right
      unfold cell; omega
    · right
      unfold cell; omega

/-! ## Along y -/

theorem shr5 : ∀ h : Fin 512, (Scalar.shrsi (Scalar.subi (BitVec.ofNat 32 h.val) 16#32) 5#32).toInt = ((h.val : ℤ) - 16) / 32 := by decide +kernel

theorem dyS_coe (h : ℕ) (hh : h < 512) : dyS (F := Ideal) (BitVec.ofNat 32 h) = ((frac (coord h) : ℝ) : EReal) := by
  show ((((BitVec.ofNat 32 h).toInt : ℝ) : EReal) + Ideal.ofBits .f32 0x3F000000#32) * Ideal.ofBits .f32 0x3D000000#32 - Ideal.ofBits .f32 0x3F000000#32
    - (((Scalar.shrsi (Scalar.subi (BitVec.ofNat 32 h) 16#32) 5#32).toInt : ℝ) : EReal) = _
  rw [shr5 ⟨h, hh⟩, c_half, c_32th, ← EReal.coe_add, ← EReal.coe_mul, ← EReal.coe_sub, ← EReal.coe_sub]
  congr 1
  have e : (BitVec.ofNat 32 h).toInt = (h : ℤ) := by
    rw [BitVec.toInt_ofNat', Int.bmod_eq_of_le (by norm_num at *) (by norm_num at *; omega)]
  unfold frac
  rw [floor_coord, e]
  unfold coord
  push_cast
  ring

/-! ## The eight entries -/

/-- A coefficient: the grid's eight entries about a point, weighed. -/
def coef (G : ℕ → ℕ → ℕ → ℝ) (z0 z1 y0 y1 x0 x1 : ℕ) (dz dy dx : ℝ) : ℝ :=
  G z0 y0 x0 * ((1 - dz) * (1 - dy) * (1 - dx)) + G z0 y0 x1 * ((1 - dz) * (1 - dy) * dx)
    + G z0 y1 x0 * ((1 - dz) * dy * (1 - dx)) + G z0 y1 x1 * ((1 - dz) * dy * dx)
    + G z1 y0 x0 * (dz * (1 - dy) * (1 - dx)) + G z1 y0 x1 * (dz * (1 - dy) * dx)
    + G z1 y1 x0 * (dz * dy * (1 - dx)) + G z1 y1 x1 * (dz * dy * dx)

theorem coef_same (G : ℕ → ℕ → ℕ → ℝ) (z y0 y1 x0 x1 : ℕ) (dz dz' dy dx : ℝ) : coef G z z y0 y1 x0 x1 dz dy dx = coef G z z y0 y1 x0 x1 dz' dy dx := by
  unfold coef; ring

theorem cS_coe (G : ℕ → EReal) (R : ℕ → ℕ → ℕ → ℝ) (kk h x0 x1 z0 z1 : ℕ) (dx dz : ℝ) (hh : h < 512)
    (hG : ∀ z y x, z < 8 → y < 16 → x < 16 → G (256 * (8 * kk + z) + (16 * y + x)) = (R z y x : EReal))
    (h0 : x0 < 16) (h1 : x1 < 16) (hz0 : z0 < 8) (hz1 : z1 < 8) :
    cS (F := Ideal) (dx : EReal) (dz : EReal) x0 x1 z0 z1 (Trow (F := Ideal) G h) kk
      = ((coef R z0 z1 (Y0 h) (Y1 h) x0 x1 dz (frac (coord h)) dx : ℝ) : EReal) := by
  have hy0 : Y0 h < 16 := by unfold Y0; omega
  have hy1 : Y1 h < 16 := by unfold Y1; omega
  unfold cS Trow
  rw [dyS_coe h hh, hG z0 _ _ hz0 hy0 h0, hG z0 _ _ hz0 hy1 h0, hG z0 _ _ hz0 hy0 h1, hG z0 _ _ hz0 hy1 h1,
    hG z1 _ _ hz1 hy0 h0, hG z1 _ _ hz1 hy1 h0, hG z1 _ _ hz1 hy0 h1, hG z1 _ _ hz1 hy1 h1]
  simp only [bl_coe]
  congr 1
  unfold coef
  ring

/-- A coefficient as the kernel has it, at a pixel, is the eight entries weighed by the tents. -/
theorem coef_ker (G : ℕ → EReal) (R : ℕ → ℕ → ℕ → ℝ) (kk h x : ℕ) (g : ℝ) (hh : h < 512) (hx : x < 512) (hg : -2 ^ 27 ≤ g)
    (hG : ∀ z y x, z < 8 → y < 16 → x < 16 → G (256 * (8 * kk + z) + (16 * y + x)) = (R z y x : EReal)) :
    cS (F := Ideal) ((frac (coord x) : ℝ) : EReal) (dzS (F := Ideal) (g : EReal)) ((x - 16) / 32) (min 15 ((x + 16) / 32))
        (zS (F := Ideal) (g : EReal) 8#32) (zS (F := Ideal) (g : EReal) 7#32) (Trow (F := Ideal) G h) kk
      = ((coef R (cell 7 ⌊8 * g - 1 / 2⌋) (cell 7 (⌊8 * g - 1 / 2⌋ + 1)) (cell 15 ⌊coord h - 1 / 2⌋) (cell 15 (⌊coord h - 1 / 2⌋ + 1))
          (cell 15 ⌊coord x - 1 / 2⌋) (cell 15 (⌊coord x - 1 / 2⌋ + 1)) (frac (8 * g)) (frac (coord h)) (frac (coord x)) : ℝ) : EReal) := by
  obtain ⟨d, hd, hd'⟩ := dz_coe g hg
  rw [hd, z0_coe g hg, z1_coe g hg, cell_coord0 h hh, cell_coord1 h hh, cell_coord0 x hx, cell_coord1 x hx]
  have hz0 := cell_le 7 ⌊8 * g - 1 / 2⌋
  have hz1 := cell_le 7 (⌊8 * g - 1 / 2⌋ + 1)
  rw [cS_coe G R kk h _ _ _ _ _ _ hh hG (by omega) (by omega) (by omega) (by omega)]
  show ((coef R _ _ ((h - 16) / 32) (min 15 ((h + 16) / 32)) _ _ _ _ _ : ℝ) : EReal) = _
  rcases hd' with rfl | hz
  · rfl
  · rw [← hz, coef_same R _ _ _ _ _ d (frac (8 * g))]

end Cert.Proof.Value

end
-- ==== Proof.KerOut.lean ====
/- What the kernel's program leaves at an index of its result. -/
module

public import proofs.«01_k».proof.Proof.Launch
public import Idealize.ShloMosaic.Lib.Pointwise
public import proofs.«01_k».proof.Proof.KerVal

@[expose] public section

noncomputable section

namespace Cert.Proof.Value

open Cert.KernelIdeal Cert.KernelIdeal.Gen
open Idealize.ShloMosaic
open Cert.Proof.Tile (outOf v3L args rd rd2 a2 a3 a4 a5 a6 a7 a8 args_f2 args_f3 args_f4 x0_eq x1_eq dx_eq)

variable (m : (ℓ : Loc nD τ sig) → Buf (Elt Ideal) ℓ) (d : Dev nD)

/-- The arguments, as arrays. -/
abbrev grid : FVec Ideal S4x12x8x16x16 .f32 := m ((SparseCore.T d).loc main_arg0)
abbrev guide : FVec Ideal S4x512x512 .f32 := m ((SparseCore.T d).loc main_arg1)
abbrev image : FVec Ideal S4x3x512x512 .f32 := m ((SparseCore.T d).loc main_arg2)

theorem tix2 {M N : ℕ} [NeZero M] [NeZero N] (r n : ℕ) (hr : r < M) (hn : n < N) : Tile.ix2 (M := M) (N := N) r n = ix2 ⟨r, hr⟩ ⟨n, hn⟩ := by
  funext a
  refine Fin.ext ?_
  match a with
  | 0 => exact Nat.mod_eq_of_lt hr
  | 1 => exact Nat.mod_eq_of_lt hn

/-! ## The operands -/

theorem f2_at (b : Fin 4) (k : Fin 12) (z : Fin 8) (y x : Fin 16) :
    (rd2 a2 (args m d).f2 b (256 * (8 * k + z) + (16 * y + x)) : EReal) = grid m d (ix5 b k z y x) := by
  rw [args_f2]
  show shapeCast S4x24576 (grid m d) shapeCasts_S4x12x8x16x16_S4x24576 (Tile.ix2 (M := 4) (N := 24576) b (256 * (8 * k + z) + (16 * y + x))) = _
  rw [tix2 _ _ b.isLt (by omega)]
  pointwise

theorem f3_at (b : Fin 4) (h w : Fin 512) : (rd2 a3 (args m d).f3 b (512 * h + w) : EReal) = guide m d (ix3 b h w) := by
  rw [args_f3]
  show shapeCast S4x262144 (guide m d) shapeCasts_S4x512x512_S4x262144 (Tile.ix2 (M := 4) (N := 262144) b (512 * h + w)) = _
  rw [tix2 _ _ b.isLt (by omega)]
  pointwise

theorem f4_at (b : Fin 4) (i : Fin 3) (h w : Fin 512) : (rd2 a4 (args m d).f4 (3 * b + i) (512 * h + w) : EReal) = image m d (ix4 b i h w) := by
  rw [args_f4]
  show shapeCast S12x262144 (image m d) shapeCasts_S4x3x512x512_S12x262144 (Tile.ix2 (M := 12) (N := 262144) (3 * b + i) (512 * h + w)) = _
  rw [tix2 _ _ (by omega) (by omega)]
  pointwise

theorem out_cast (g : FVec Ideal S12x262144 .f32) (b : Fin 4) (o : Fin 3) (h w : Fin 512) :
    shapeCast S4x3x512x512 g shapeCasts_S12x262144_S4x3x512x512 (ix4 b o h w) = g (ix2 ⟨3 * b + o, by omega⟩ ⟨512 * h + w, by omega⟩) := by
  pointwise
  exact congrArg₂ (fun i j => g (ix2 i j)) (Fin.ext (show b.val * 3 + o.val = 3 * b.val + o.val by omega)) (Fin.ext (show h.val * 512 + w.val = 512 * h.val + w.val by omega))

theorem out_at (g : Buf (Elt Ideal) (v3L d)) (b : Fin 4) (o : Fin 3) (h w : Fin 512) :
    (outOf d g : FVec Ideal S4x3x512x512 .f32) (ix4 b o h w) = (rd2 a8 g (3 * b + o) (512 * h + w) : EReal) := by
  show shapeCast S4x3x512x512 (g : S12x262144.Idx → Ideal .f32) shapeCasts_S12x262144_S4x3x512x512 (ix4 b o h w)
    = (g : S12x262144.Idx → Ideal .f32) (Tile.ix2 (M := 12) (N := 262144) (3 * b + o) (512 * h + w))
  rw [tix2 _ _ (by omega) (by omega)]
  exact out_cast g b o h w

/-! ## The weights along the columns -/

theorem lit2_val : ∀ i : Fin 32, Ideal.ofBits .f32 (lit2 ⟨i, by omega⟩) = (((2 * ((i.val + 16) % 32) + 1 : ℕ) / 2 ^ 6 : ℝ) : EReal) := by
  have h1 : ∀ i : Fin 32, ((lit2 ⟨i, by omega⟩ : BitVec 32).extractLsb' 31 1 == 1#1) = false := by decide +kernel
  have h2 : ∀ i : Fin 32, ((lit2 ⟨i, by omega⟩ : BitVec 32).extractLsb' 23 8).toNat ≠ 255 := by decide +kernel
  have h3 : ∀ i : Fin 32, ((lit2 ⟨i, by omega⟩ : BitVec 32).extractLsb' 23 8).toNat ≠ 0 := by decide +kernel
  have h4 : ∀ i : Fin 32, (2 ^ 23 + ((lit2 ⟨i, by omega⟩ : BitVec 32).extractLsb' 0 23).toNat) * 2 ^ ((lit2 ⟨i, by omega⟩ : BitVec 32).extractLsb' 23 8).toNat * 2 ^ 6
      = (2 * ((i.val + 16) % 32) + 1) * 2 ^ 150 := by decide +kernel
  exact fun i => ofBits_pos _ _ 6 (h1 i) (h2 i) (h3 i) (h4 i)

theorem frac_coord (x : ℕ) : frac (coord x) = ((2 * ((x % 32 + 16) % 32) + 1 : ℕ) : ℝ) / 2 ^ 6 := by
  unfold frac
  rw [floor_coord]
  unfold coord
  have e : (((x : ℤ) - 16) / 32) * 32 + ((x % 32 + 16) % 32 : ℕ) + 16 = (x : ℤ) := by omega
  generalize ((x : ℤ) - 16) / 32 = q at e ⊢
  generalize (x % 32 + 16) % 32 = r at e ⊢
  have e' : (q : ℝ) * 32 + (r : ℝ) + 16 = (x : ℝ) := by exact_mod_cast e
  push_cast at e' ⊢
  linarith

theorem dx_at (x : ℕ) (hx : x < 512) : (rd a7 (args m d).f7 x : EReal) = ((frac (coord x) : ℝ) : EReal) := by
  rw [dx_eq m d x hx, frac_coord x]
  exact lit2_val ⟨x % 32, Nat.mod_lt _ (by decide)⟩

/-! ## The result -/

theorem val_at (b : Fin 4) (o : Fin 3) (h w : Fin 512) (R : ℕ → ℕ → ℕ → ℕ → ℝ) (g : ℝ) (hg : -2 ^ 27 ≤ g)
    (hR : ∀ (k : Fin 12) (z : Fin 8) (y x : Fin 16), grid m d (ix5 b k z y x) = (R k z y x : EReal)) (eg : guide m d (ix3 b h w) = (g : EReal)) :
    let C : ℕ → EReal := fun k => ((coef (R k) (cell 7 ⌊8 * g - 1 / 2⌋) (cell 7 (⌊8 * g - 1 / 2⌋ + 1)) (cell 15 ⌊coord h - 1 / 2⌋) (cell 15 (⌊coord h - 1 / 2⌋ + 1))
      (cell 15 ⌊coord w - 1 / 2⌋) (cell 15 (⌊coord w - 1 / 2⌋ + 1)) (frac (8 * g)) (frac (coord h)) (frac (coord w)) : ℝ) : EReal)
    ((args m d).val (3 * b + o) (512 * h + w) : EReal)
      = C (4 * o + 0) * image m d (ix4 b 0 h w) + C (4 * o + 1) * image m d (ix4 b 1 h w) + C (4 * o + 2) * image m d (ix4 b 2 h w) + C (4 * o + 3) := by
  intro C
  have en : (512 * h.val + w.val) % 512 = w := by omega
  have en' : (512 * h.val + w.val) / 512 = h := by omega
  have eb : (3 * b.val + o.val) / 3 = b := by omega
  have eo : (3 * b.val + o.val) % 3 = o := by omega
  unfold Tile.Args.val
  rw [eb, eo]
  unfold Tile.pixN
  dsimp only
  rw [en, en', x0_eq m d w w.isLt, x1_eq m d w w.isLt, dx_at m d w w.isLt, f3_at, eg]
  have t0 : (BitVec.ofNat 32 ((w.val - 16) / 32)).toNat = (w.val - 16) / 32 := by rw [BitVec.toNat_ofNat]; omega
  have t1 : (BitVec.ofNat 32 (min 15 ((w.val + 16) / 32))).toNat = min 15 ((w.val + 16) / 32) := by rw [BitVec.toNat_ofNat]; omega
  rw [t0, t1]
  have ck : ∀ i : Fin 4, _ = C (4 * o + i) := fun i => coef_ker (rd2 a2 (args m d).f2 b) (R (4 * o + i)) (4 * o + i) h w g h.isLt w.isLt hg
    (fun z y x hz hy hx => (f2_at m d b ⟨4 * o + i, by omega⟩ ⟨z, hz⟩ ⟨y, hy⟩ ⟨x, hx⟩).trans (hR ⟨4 * o + i, by omega⟩ ⟨z, hz⟩ ⟨y, hy⟩ ⟨x, hx⟩))
  unfold Tile.pixS
  have c0 := ck 0
  have c1 := ck 1
  have c2 := ck 2
  have c3 := ck 3
  have i0 := f4_at m d b 0 h w
  have i1 := f4_at m d b 1 h w
  have i2 := f4_at m d b 2 h w
  dsimp only
  refine congrArg₂ (· + ·) (congrArg₂ (· + ·) (congrArg₂ (· + ·) (congrArg₂ (· * ·) c0 i0) (congrArg₂ (· * ·) c1 i1)) (congrArg₂ (· * ·) c2 i2)) c3

end Cert.Proof.Value

end
-- ==== Proof.RefGather.lean ====
/- The reference's gather out of the grid, at an index; and one of its eight terms. -/
module

public import proofs.«01_k».proof.Proof.Gen.ReferenceIdeal
public import Idealize.ShloMosaic.Lib.Pointwise
public import proofs.«01_k».proof.Proof.Reals

@[expose] public section

noncomputable section

namespace Cert.Proof.Value

open Cert.ReferenceIdeal Cert.ReferenceIdeal.Gen
open Idealize.ShloMosaic

abbrev gd := gather_S4x12x8x16x16_S4x512x512x3_S4x12x512x512_1_234_0_0_234_3_112111

/-- The grid's entry that the start indices at a pixel name, each kept on its axis. -/
theorem gather_grid {α : Type} (x : S4x12x8x16x16.Idx → α) (idx : IVec S4x512x512x3 32) (b : Fin 4) (k : Fin 12) (h w : Fin 512) :
    Host.gather gd x idx (ix4 b k h w)
      = x (ix5 b k ⟨min (idx (ix4 b h w 0)).toInt.toNat 7, by omega⟩ ⟨min (idx (ix4 b h w 1)).toInt.toNat 15, by omega⟩
          ⟨min (idx (ix4 b h w 2)).toInt.toNat 15, by omega⟩) := by
  unfold Host.gather
  congr 1
  funext a
  refine Fin.ext ?_
  show gd.start (ix4 b k h w) idx a + gd.batchCoord (ix4 b k h w) a + gd.offCoord (ix4 b k h w) a = _
  have hsi : ∀ c : Fin 3, gd.siIdx (ix4 b k h w) c = ix4 b h w c := by
    intro c
    funext e
    refine Fin.ext ?_
    match e with
    | ⟨0, _⟩ => rfl
    | ⟨1, _⟩ => rfl
    | ⟨2, _⟩ => rfl
    | ⟨3, _⟩ => rfl
  match a with
  | ⟨0, _⟩ =>
    rw [GatherDims.start_batching _ _ _ _ (show (0 : Fin 5) ∈ [(0 : Fin 5)] by decide),
      GatherDims.offCoord_eq_zero _ _ _ (fun h => ((GatherDims.mem_sKept _ _).mp h).2 (show (0 : Fin 5) ∈ [(0 : Fin 5)] by decide))]
    unfold GatherDims.batchCoord
    rw [dif_pos (show (⟨0, by decide⟩ : Fin S4x12x8x16x16.rank) ∈ gd.operandBatchingDims by decide)]
    exact (Nat.add_zero _).trans ((Nat.zero_add _).trans rfl)
  | ⟨1, _⟩ =>
    rw [GatherDims.batchCoord_eq_zero _ _ _ (show (1 : Fin 5) ∉ [(0 : Fin 5)] by decide)]
    unfold GatherDims.start
    rw [dif_neg (show (⟨1, by decide⟩ : Fin S4x12x8x16x16.rank) ∉ gd.startIndexMap by decide)]
    unfold GatherDims.offCoord
    rw [dif_pos ((GatherDims.mem_sKept _ _).mpr ⟨show (1 : Fin 5) ∉ [(2 : Fin 5), 3, 4] by decide, show (1 : Fin 5) ∉ [(0 : Fin 5)] by decide⟩)]
    exact (Nat.zero_add _).trans rfl
  | ⟨2, _⟩ =>
    rw [GatherDims.batchCoord_eq_zero _ _ _ (show (2 : Fin 5) ∉ [(0 : Fin 5)] by decide),
      GatherDims.offCoord_eq_zero _ _ _ (fun h => ((GatherDims.mem_sKept _ _).mp h).1 (show (2 : Fin 5) ∈ [(2 : Fin 5), 3, 4] by decide))]
    unfold GatherDims.start
    rw [dif_pos (show (⟨2, by decide⟩ : Fin S4x12x8x16x16.rank) ∈ gd.startIndexMap by decide)]
    exact congrArg (fun i => min (idx i).toInt.toNat 7) (hsi 0)
  | ⟨3, _⟩ =>
    rw [GatherDims.batchCoord_eq_zero _ _ _ (show (3 : Fin 5) ∉ [(0 : Fin 5)] by decide),
      GatherDims.offCoord_eq_zero _ _ _ (fun h => ((GatherDims.mem_sKept _ _).mp h).1 (show (3 : Fin 5) ∈ [(2 : Fin 5), 3, 4] by decide))]
    unfold GatherDims.start
    rw [dif_pos (show (⟨3, by decide⟩ : Fin S4x12x8x16x16.rank) ∈ gd.startIndexMap by decide)]
    exact congrArg (fun i => min (idx i).toInt.toNat 15) (hsi 1)
  | ⟨4, _⟩ =>
    rw [GatherDims.batchCoord_eq_zero _ _ _ (show (4 : Fin 5) ∉ [(0 : Fin 5)] by decide),
      GatherDims.offCoord_eq_zero _ _ _ (fun h => ((GatherDims.mem_sKept _ _).mp h).1 (show (4 : Fin 5) ∈ [(2 : Fin 5), 3, 4] by decide))]
    unfold GatherDims.start
    rw [dif_pos (show (⟨4, by decide⟩ : Fin S4x12x8x16x16.rank) ∈ gd.startIndexMap by decide)]
    exact congrArg (fun i => min (idx i).toInt.toNat 15) (hsi 2)

/-- An index as the gather takes it: a negative one counted from the end. -/
def wrap (n : BitVec 32) (Z : IVec S4x512x512 32) : IVec S4x512x512x1 32 :=
  broadcastInDim S4x512x512x1 ![0, 1, 2] bcast_S4x512x512_S4x512x512x1_0_1_2
    (select (cmpi .slt Z (broadcastInDim S4x512x512 ![] bcast_S_S4x512x512 (constantI S_ 32 0#32)))
      (addi Z (broadcastInDim S4x512x512 ![] bcast_S_S4x512x512 (constantI S_ 32 n))) Z)

theorem wrap_apply (n : BitVec 32) (Z : IVec S4x512x512 32) (b : Fin 4) (h w : Fin 512) (z : ℕ) (hz : z < 16) (e : Z (ix3 b h w) = BitVec.ofNat 32 z) :
    wrap n Z (ix4 b h w 0) = BitVec.ofNat 32 z := by
  unfold wrap
  pointwise
  rw [e]
  interval_cases z <;> rfl

/-- One of the eight terms: an entry of the grid, weighed. -/
def term (A : FVec Ideal S4x12x8x16x16 .f32) (Z Y X : IVec S4x512x512 32) (wz : FVec Ideal S4x512x512 .f32) (wy wx : FVec Ideal S512 .f32) :
    FVec Ideal S4x12x512x512 .f32 :=
  mulf (Host.gather gd A ((concatenate S4x512x512x3 3 [⟨S4x512x512x1, (wrap 8#32 Z : (⟨S4x512x512x1, .i32⟩ : BufTy).Contents (Elt Ideal))⟩,
      ⟨S4x512x512x1, (wrap 16#32 Y : (⟨S4x512x512x1, .i32⟩ : BufTy).Contents (Elt Ideal))⟩,
      ⟨S4x512x512x1, (wrap 16#32 X : (⟨S4x512x512x1, .i32⟩ : BufTy).Contents (Elt Ideal))⟩]
      concatenates_S4x512x512x1_S4x512x512x1_S4x512x512x1_S4x512x512x3_d3 : (⟨S4x512x512x3, .i32⟩ : BufTy).Contents (Elt Ideal))))
    (broadcastInDim S4x12x512x512 ![0, 1, 2, 3] bcast_S4x1x512x512_S4x12x512x512_0_1_2_3 (broadcastInDim S4x1x512x512 ![0, 2, 3] bcast_S4x512x512_S4x1x512x512_0_2_3
      (mulf (mulf wz (broadcastInDim S4x512x512 ![0, 1, 2] bcast_S1x512x1_S4x512x512_0_1_2 (broadcastInDim S1x512x1 ![1] bcast_S512_S1x512x1_1 wy)))
        (broadcastInDim S4x512x512 ![0, 1, 2] bcast_S1x1x512_S4x512x512_0_1_2 (broadcastInDim S1x1x512 ![2] bcast_S512_S1x1x512_2 wx)))))

theorem term_apply (A : FVec Ideal S4x12x8x16x16 .f32) (Z Y X : IVec S4x512x512 32) (wz : FVec Ideal S4x512x512 .f32) (wy wx : FVec Ideal S512 .f32)
    (b : Fin 4) (k : Fin 12) (h w : Fin 512) (z y x : ℕ) (hz : z < 8) (hy : y < 16) (hx : x < 16)
    (eZ : Z (ix3 b h w) = BitVec.ofNat 32 z) (eY : Y (ix3 b h w) = BitVec.ofNat 32 y) (eX : X (ix3 b h w) = BitVec.ofNat 32 x) :
    term A Z Y X wz wy wx (ix4 b k h w) = A (ix5 b k ⟨z, hz⟩ ⟨y, hy⟩ ⟨x, hx⟩) * (wz (ix3 b h w) * wy (ix1 h) * wx (ix1 w)) := by
  have lo : ∀ v : ℕ, v < 16 → (BitVec.ofNat 32 v).toInt.toNat = v := by
    intro v hv
    interval_cases v <;> rfl
  have e0 := wrap_apply 8#32 Z b h w z (by omega) eZ
  have e1 := wrap_apply 16#32 Y b h w y hy eY
  have e2 := wrap_apply 16#32 X b h w x hx eX
  unfold term
  rw [mulf_apply, gather_grid]
  generalize wrap 8#32 Z = WZ at e0 ⊢
  generalize wrap 16#32 Y = WY at e1 ⊢
  generalize wrap 16#32 X = WX at e2 ⊢
  refine congrArg₂ (· * ·) (congrArg A ?_) ?_
  · pointwise
    congr 1 <;> refine Fin.ext ?_
    · show min (WZ (ix4 b h w 0)).toInt.toNat 7 = z
      rw [e0, lo z (by omega)]
      omega
    · show min (WY (ix4 b h w 0)).toInt.toNat 15 = y
      rw [e1, lo y hy]
      omega
    · show min (WX (ix4 b h w 0)).toInt.toNat 15 = x
      rw [e2, lo x hx]
      omega
  · pointwise

end Cert.Proof.Value

end
-- ==== Proof.RefVal.lean ====
/- What the reference leaves at an index: the interpolated coefficients, and their product with the image. -/
module

public import proofs.«01_k».proof.Proof.Gen.ReferenceIdeal.Run
public import Idealize.ShloMosaic.Lib.Pointwise
public import Idealize.ShloMosaic.Lib.IdealHost
public import proofs.«01_k».proof.Proof.KerVal
public import proofs.«01_k».proof.Proof.RefGather

@[expose] public section

noncomputable section

namespace Cert.Proof.Value

open Cert.ReferenceIdeal Cert.ReferenceIdeal.Gen Cert.ReferenceIdeal.Value
open Idealize.ShloMosaic

variable (V : Valuation τ sig (Elt Ideal))

/-! ## The axes -/

theorem word15 : (((15#32).toInt : ℝ) : EReal) = (((15 : ℕ) : ℝ) : EReal) := by
  rw [show (15#32).toInt = 15 by decide]; norm_cast
theorem word7 : (((7#32).toInt : ℝ) : EReal) = (((7 : ℕ) : ℝ) : EReal) := by
  rw [show (7#32).toInt = 7 by decide]; norm_cast
theorem word0 : (((0#32).toInt : ℝ) : EReal) = ((0 : ℝ) : EReal) := by
  rw [show (0#32).toInt = 0 by decide]; norm_cast

theorem coord_eq (x : ℕ) (hx : x < 512) :
    Ideal.div ((((((BitVec.ofNat 32 x).toInt : ℝ) : EReal) + Ideal.ofBits .f32 0x3F000000#32) * Ideal.ofBits .f32 0x41800000#32))
      (Ideal.ofBits .f32 0x44000000#32) = (coord x : EReal) := by
  have e : (BitVec.ofNat 32 x).toInt = (x : ℤ) := by
    rw [BitVec.toInt_eq_toNat_of_lt (by rw [BitVec.toNat_ofNat]; omega), BitVec.toNat_ofNat]
    omega
  rw [e, c_half, c_sixteen, c_512, ← EReal.coe_add, ← EReal.coe_mul, Ideal.div_coe (by norm_num : (512 : ℝ) ≠ 0)]
  rw [show coord x = (x + 1 / 2) * 16 * (1 / 512) by unfold coord; ring]
  norm_cast

theorem v6_at (x : Fin 512) : res_main_v6 V (ix1 x) = (coord x : EReal) := coord_eq x x.isLt
theorem v13_at (y : Fin 512) : res_main_v13 V (ix1 y) = (coord y : EReal) := coord_eq y y.isLt

section OneAxis

/-- From a coordinate, the whole number below it less a half. -/
theorem below (a : EReal) (g : ℝ) (e : a = (g : EReal)) :
    Ideal.liftRound Int.floor (a - Ideal.ofBits .f32 0x3F000000#32) = ((⌊g - 1 / 2⌋ : ℝ) : EReal) := by
  rw [e, c_half, ← EReal.coe_sub]; exact floor_coe _

theorem near (f a : EReal) (g : ℝ) (ef : f = ((⌊g - 1 / 2⌋ : ℝ) : EReal)) (e : a = (g : EReal)) :
    max (Ideal.ofBits .f32 0x3F800000#32 - max (f + Ideal.ofBits .f32 0x3F000000#32 - a) (-(f + Ideal.ofBits .f32 0x3F000000#32 - a)))
      (Ideal.ofBits .f32 0x00000000#32) = ((1 - frac g : ℝ) : EReal) := by
  rw [ef, e, c_one, c_half, c_zero]; exact tent0 g
theorem far (f a : EReal) (g : ℝ) (ef : f = ((⌊g - 1 / 2⌋ : ℝ) : EReal)) (e : a = (g : EReal)) :
    max (Ideal.ofBits .f32 0x3F800000#32 - max (f + Ideal.ofBits .f32 0x3FC00000#32 - a) (-(f + Ideal.ofBits .f32 0x3FC00000#32 - a)))
      (Ideal.ofBits .f32 0x00000000#32) = ((frac g : ℝ) : EReal) := by
  rw [ef, e, c_one, c_three_halves, c_zero]; exact tent1 g

theorem cellA (n : ℕ) (hn : n < 2 ^ 31) (w : BitVec 32) (ew : ((w.toInt : ℝ) : EReal) = ((n : ℝ) : EReal)) (f : EReal) (i : ℤ) (ef : f = ((i : ℝ) : EReal)) :
    Ideal.fptosi 32 (min ((w.toInt : ℝ) : EReal) (max (((0#32).toInt : ℝ) : EReal) f)) = BitVec.ofNat 32 (cell n i) := by
  rw [ew, word0, ef]; exact clip_word n hn i
theorem cellB (n : ℕ) (hn : n < 2 ^ 31) (w : BitVec 32) (ew : ((w.toInt : ℝ) : EReal) = ((n : ℝ) : EReal)) (f : EReal) (i : ℤ) (ef : f = ((i : ℝ) : EReal)) :
    Ideal.fptosi 32 (min ((w.toInt : ℝ) : EReal) (max (((0#32).toInt : ℝ) : EReal) (f + Ideal.ofBits .f32 0x3F800000#32)))
      = BitVec.ofNat 32 (cell n (i + 1)) :=
  cellA n hn w ew _ _ (by rw [ef, c_one, ← EReal.coe_add]; push_cast; rfl)

end OneAxis

theorem v18_at (x : Fin 512) : res_main_v18 V (ix1 x) = ((⌊coord x - 1 / 2⌋ : ℝ) : EReal) := below _ _ (v6_at V x)
theorem v21_at (y : Fin 512) : res_main_v21 V (ix1 y) = ((⌊coord y - 1 / 2⌋ : ℝ) : EReal) := below _ _ (v13_at V y)
theorem v34_at (x : Fin 512) : res_main_v34 V (ix1 x) = ((1 - frac (coord x) : ℝ) : EReal) := near _ _ _ (v18_at V x) (v6_at V x)
theorem v46_at (x : Fin 512) : res_main_v46 V (ix1 x) = ((frac (coord x) : ℝ) : EReal) := far _ _ _ (v18_at V x) (v6_at V x)
theorem v56_at (y : Fin 512) : res_main_v56 V (ix1 y) = ((1 - frac (coord y) : ℝ) : EReal) := near _ _ _ (v21_at V y) (v13_at V y)
theorem v68_at (y : Fin 512) : res_main_v68 V (ix1 y) = ((frac (coord y) : ℝ) : EReal) := far _ _ _ (v21_at V y) (v13_at V y)
theorem v26_at (x : Fin 512) : res_main_v26 V (ix1 x) = BitVec.ofNat 32 (cell 15 ⌊coord x - 1 / 2⌋) := cellA 15 (by decide) _ word15 _ _ (v18_at V x)
theorem v38_at (x : Fin 512) : res_main_v38 V (ix1 x) = BitVec.ofNat 32 (cell 15 (⌊coord x - 1 / 2⌋ + 1)) := cellB 15 (by decide) _ word15 _ _ (v18_at V x)
theorem v48_at (y : Fin 512) : res_main_v48 V (ix1 y) = BitVec.ofNat 32 (cell 15 ⌊coord y - 1 / 2⌋) := cellA 15 (by decide) _ word15 _ _ (v21_at V y)
theorem v60_at (y : Fin 512) : res_main_v60 V (ix1 y) = BitVec.ofNat 32 (cell 15 (⌊coord y - 1 / 2⌋ + 1)) := cellB 15 (by decide) _ word15 _ _ (v21_at V y)

section Depth

variable (b : Fin 4) (h w : Fin 512) (g : ℝ) (hg : (V (Proc.devRef .tc main_arg1) : FVec Ideal S4x512x512 .f32) (ix3 b h w) = (g : EReal))
include hg

theorem v15_at : res_main_v15 V (ix3 b h w) = ((8 * g : ℝ) : EReal) := by
  have e : ∀ a : EReal, a = (g : EReal) → a * Ideal.ofBits .f32 0x41000000#32 = ((8 * g : ℝ) : EReal) := by
    intro a ea
    rw [ea, c_eight, ← EReal.coe_mul, mul_comm]
  exact e _ hg
theorem v24_at : res_main_v24 V (ix3 b h w) = ((⌊8 * g - 1 / 2⌋ : ℝ) : EReal) := below _ _ (v15_at V b h w g hg)
theorem v78_at : res_main_v78 V (ix3 b h w) = ((1 - frac (8 * g) : ℝ) : EReal) := near _ _ _ (v24_at V b h w g hg) (v15_at V b h w g hg)
theorem v90_at : res_main_v90 V (ix3 b h w) = ((frac (8 * g) : ℝ) : EReal) := far _ _ _ (v24_at V b h w g hg) (v15_at V b h w g hg)
theorem v70_at : res_main_v70 V (ix3 b h w) = BitVec.ofNat 32 (cell 7 ⌊8 * g - 1 / 2⌋) := cellA 7 (by decide) _ word7 _ _ (v24_at V b h w g hg)
theorem v82_at : res_main_v82 V (ix3 b h w) = BitVec.ofNat 32 (cell 7 (⌊8 * g - 1 / 2⌋ + 1)) := cellB 7 (by decide) _ word7 _ _ (v24_at V b h w g hg)

end Depth

/-! ## The coefficients -/

/-- A row of words, one for each image row, at every pixel. -/
def overY (W : IVec S512 32) : IVec S4x512x512 32 :=
  broadcastInDim S4x512x512 ![0, 1, 2] bcast_S1x512x1_S4x512x512_0_1_2 (broadcastInDim S1x512x1 ![1] bcast_S512_S1x512x1_1 W)
/-- A row of words, one for each image column, at every pixel. -/
def overX (W : IVec S512 32) : IVec S4x512x512 32 :=
  broadcastInDim S4x512x512 ![0, 1, 2] bcast_S1x1x512_S4x512x512_0_1_2 (broadcastInDim S1x1x512 ![2] bcast_S512_S1x1x512_2 W)

theorem overY_apply (W : IVec S512 32) (b : Fin 4) (h w : Fin 512) : overY W (ix3 b h w) = W (ix1 h) := by
  unfold overY; pointwise
theorem overX_apply (W : IVec S512 32) (b : Fin 4) (h w : Fin 512) : overX W (ix3 b h w) = W (ix1 w) := by
  unfold overX; pointwise

/-- All twelve coefficients of every pixel. -/
def coeffs : FVec Ideal S4x12x512x512 .f32 :=
  let A : FVec Ideal S4x12x8x16x16 .f32 := V (Proc.devRef .tc main_arg0)
  let Z0 := res_main_v70 V
  let Z1 := res_main_v82 V
  let Y0 := res_main_v48 V
  let Y1 := res_main_v60 V
  let X0 := res_main_v26 V
  let X1 := res_main_v38 V
  addf (addf (addf (addf (addf (addf (addf (addf (broadcastInDim S4x12x512x512 ![] bcast_S_S4x12x512x512 (constant S_ .f32 0x00000000#32))
    (term A Z0 (overY Y0) (overX X0) (res_main_v78 V) (res_main_v56 V) (res_main_v34 V)))
    (term A Z0 (overY Y0) (overX X1) (res_main_v78 V) (res_main_v56 V) (res_main_v46 V)))
    (term A Z0 (overY Y1) (overX X0) (res_main_v78 V) (res_main_v68 V) (res_main_v34 V)))
    (term A Z0 (overY Y1) (overX X1) (res_main_v78 V) (res_main_v68 V) (res_main_v46 V)))
    (term A Z1 (overY Y0) (overX X0) (res_main_v90 V) (res_main_v56 V) (res_main_v34 V)))
    (term A Z1 (overY Y0) (overX X1) (res_main_v90 V) (res_main_v56 V) (res_main_v46 V)))
    (term A Z1 (overY Y1) (overX X0) (res_main_v90 V) (res_main_v68 V) (res_main_v34 V)))
    (term A Z1 (overY Y1) (overX X1) (res_main_v90 V) (res_main_v68 V) (res_main_v46 V))

theorem v364_eq : res_main_v364 V = shapeCast S4x3x4x512x512 (coeffs V) shapeCasts_S4x12x512x512_S4x3x4x512x512 := rfl

theorem coeffs_apply (b : Fin 4) (k : Fin 12) (h w : Fin 512) (R : ℕ → ℕ → ℕ → ℝ) (g : ℝ)
    (hR : ∀ (z : Fin 8) (y x : Fin 16), (V (Proc.devRef .tc main_arg0) : FVec Ideal S4x12x8x16x16 .f32) (ix5 b k z y x) = (R z y x : EReal))
    (hg : (V (Proc.devRef .tc main_arg1) : FVec Ideal S4x512x512 .f32) (ix3 b h w) = (g : EReal)) :
    coeffs V (ix4 b k h w) = ((coef R (cell 7 ⌊8 * g - 1 / 2⌋) (cell 7 (⌊8 * g - 1 / 2⌋ + 1)) (cell 15 ⌊coord h - 1 / 2⌋) (cell 15 (⌊coord h - 1 / 2⌋ + 1))
      (cell 15 ⌊coord w - 1 / 2⌋) (cell 15 (⌊coord w - 1 / 2⌋ + 1)) (frac (8 * g)) (frac (coord h)) (frac (coord w)) : ℝ) : EReal) := by
  have c7 : ∀ f, cell 7 f < 8 := fun f => Nat.lt_succ_of_le (cell_le 7 f)
  have c15 : ∀ f, cell 15 f < 16 := fun f => Nat.lt_succ_of_le (cell_le 15 f)
  have t := fun Z Y X wz wy wx fz fy fx eZ eY eX => term_apply (V (Proc.devRef .tc main_arg0)) Z Y X wz wy wx b k h w
    (cell 7 fz) (cell 15 fy) (cell 15 fx) (c7 fz) (c15 fy) (c15 fx) eZ eY eX
  have Y0 := (overY_apply (res_main_v48 V) b h w).trans (v48_at V h)
  have Y1 := (overY_apply (res_main_v60 V) b h w).trans (v60_at V h)
  have X0 := (overX_apply (res_main_v26 V) b h w).trans (v26_at V w)
  have X1 := (overX_apply (res_main_v38 V) b h w).trans (v38_at V w)
  have Z0 := v70_at V b h w g hg
  have Z1 := v82_at V b h w g hg
  unfold coeffs
  simp only [addf_apply]
  rw [t _ _ _ _ _ _ _ _ _ Z0 Y0 X0, t _ _ _ _ _ _ _ _ _ Z0 Y0 X1, t _ _ _ _ _ _ _ _ _ Z0 Y1 X0, t _ _ _ _ _ _ _ _ _ Z0 Y1 X1,
    t _ _ _ _ _ _ _ _ _ Z1 Y0 X0, t _ _ _ _ _ _ _ _ _ Z1 Y0 X1, t _ _ _ _ _ _ _ _ _ Z1 Y1 X0, t _ _ _ _ _ _ _ _ _ Z1 Y1 X1]
  simp only [hR, v78_at V b h w g hg, v90_at V b h w g hg, v34_at, v46_at, v56_at, v68_at]
  rw [show (broadcastInDim S4x12x512x512 ![] bcast_S_S4x12x512x512 (constant (F := Ideal) S_ .f32 0x00000000#32)) (ix4 b k h w) = ((0 : ℝ) : EReal) from c_zero]
  have addE : ∀ a b : EReal, FloatOps.addf (F := Ideal) (φ := .f32) a b = a + b := fun _ _ => rfl
  simp only [addE, ← EReal.coe_mul, ← EReal.coe_add]
  unfold coef
  rw [zero_add]

/-! ## The result -/

/-- The reference's result, of the image and the coefficients. -/
def refOut (I : FVec Ideal S4x3x512x512 .f32) (C : FVec Ideal S4x12x512x512 .f32) : FVec Ideal S4x3x512x512 .f32 :=
  addf (transpose S4x3x512x512 [0, 3, 1, 2] (Host.dotGeneral dot_S4x3x512x512_S4x3x3x512x512_S4x512x512x3_1_2_n_1_023_034 none I
      (extractStridedSlice S4x3x3x512x512 ![0, 0, 0, 0, 0] (shapeCast S4x3x4x512x512 C shapeCasts_S4x12x512x512_S4x3x4x512x512)
        slices_S4x3x4x512x512_S4x3x3x512x512_0_0_0_0_0)) transposes_S4x512x512x3_S4x3x512x512_0_3_1_2)
    (shapeCast _ (extractStridedSlice S4x3x1x512x512 ![0, 0, 3, 0, 0] (shapeCast S4x3x4x512x512 C shapeCasts_S4x12x512x512_S4x3x4x512x512)
      slices_S4x3x4x512x512_S4x3x1x512x512_0_0_3_0_0) shapeCasts_S4x3x1x512x512_S4x3x512x512)

theorem refOut_apply (I : FVec Ideal S4x3x512x512 .f32) (C : FVec Ideal S4x12x512x512 .f32) (b : Fin 4) (o : Fin 3) (h w : Fin 512) :
    refOut I C (ix4 b o h w) = (∑ i : Fin 3, I (ix4 b i h w) * C (ix4 b ⟨o * 4 + i, by omega⟩ h w)) + C (ix4 b ⟨o * 4 + 3, by omega⟩ h w) := by
  unfold refOut
  pointwise

end Cert.Proof.Value

end
-- ==== Proof.Value.lean ====
/- The value claim: over the reals the kernel's result is the reference's, under the precondition. -/
module

public import proofs.«01_k».proof.Defs
public import Idealize.ShloMosaic.Lib.ReduceAll
public import proofs.«01_k».proof.Proof.KerOut
public import proofs.«01_k».proof.Proof.RefVal

@[expose] public section

noncomputable section

namespace Cert.Proof.Value

open Idealize.ShloMosaic Idealize.SL.Sem

/-! ## The precondition -/

/-- The side conditions the precondition states. -/
theorem preFacts : Cert.Pre_in_reach.Facts where
  bcast_S_S4x12x8x16x16 := by decide
  reducesTo_S4x12x8x16x16_S_d0_1_2_3_4 := by decide
  h_S_ := by decide
  bcast_S_S4x512x512 := by decide
  reducesTo_S4x512x512_S_d0_1_2 := by decide

theorem and_one (a b : BitVec 1) (e : a &&& b = 1#1) : a = 1#1 ∧ b = 1#1 := by
  revert a b; decide

theorem lt_of_cmp (x y : EReal) (e : Ideal.cmp .olt x y = 1#1) : x < y := by
  unfold Ideal.cmp at e
  by_contra h
  simp [h] at e
theorem le_of_cmp (x y : EReal) (e : Ideal.cmp .oge x y = 1#1) : y ≤ x := by
  unfold Ideal.cmp at e
  by_contra h
  simp [h] at e

/-- A number of finite size is a real. -/
theorem real_of_abs (x : EReal) (e : max x (-x) < ⊤) : ((x.toReal : ℝ) : EReal) = x := by
  refine EReal.coe_toReal ?_ ?_
  · rintro rfl; simp at e
  · rintro rfl; simp at e

theorem pre_reads (A : FVec Ideal ⟨5, ![4, 12, 8, 16, 16]⟩ .f32) (B : FVec Ideal ⟨3, ![4, 512, 512]⟩ .f32) (I : FVec Ideal ⟨4, ![4, 3, 512, 512]⟩ .f32)
    (h : @Cert.Pre_in_reach.fn preFacts Ideal _ A B I = fun _ => 1#1) :
    (∀ i, (((A i : EReal).toReal : ℝ) : EReal) = A i) ∧ ∀ i, (((B i : EReal).toReal : ℝ) : EReal) = B i ∧ -2 ^ 27 ≤ (B i : EReal).toReal := by
  have h0 := congrFun h ix0
  dsimp only [Cert.Pre_in_reach.fn] at h0
  obtain ⟨h12, h3⟩ := and_one _ _ h0
  obtain ⟨h1, h2⟩ := and_one _ _ h12
  haveI : Subsingleton Cert.Pre_in_reach.S_.Idx := ⟨fun a b => funext fun i => i.elim0⟩
  have g1 := fun i => Host.reduce_andi_all _ _ _ _ _ h1 i
  have g2 := fun i => Host.reduce_andi_all _ _ _ _ _ h2 i
  have g3 := fun i => Host.reduce_andi_all _ _ _ _ _ h3 i
  refine ⟨fun i => real_of_abs _ ?_, fun i => ?_⟩
  · have e := lt_of_cmp (max (A i : EReal) (-(A i : EReal))) (Ideal.ofBits .f32 0x7F800000#32) (g1 i)
    rwa [c_inf] at e
  · have e := lt_of_cmp (max (B i : EReal) (-(B i : EReal))) (Ideal.ofBits .f32 0x7F800000#32) (g2 i)
    rw [c_inf] at e
    have r := real_of_abs _ e
    have l := le_of_cmp (B i : EReal) (Ideal.ofBits .f32 0xCD000000#32) (g3 i)
    rw [c_low, ← r] at l
    exact ⟨r, EReal.coe_le_coe_iff.mp l⟩

/-! ## The two results -/

/-- At every index the kernel's result is the reference's. -/
theorem out_eq (m : (ℓ : Loc Cert.KernelIdeal.nD Cert.KernelIdeal.τ Cert.KernelIdeal.sig) → Buf (Elt Ideal) ℓ)
    (d : Dev Cert.KernelIdeal.nD) (V : Valuation Cert.ReferenceIdeal.τ Cert.ReferenceIdeal.sig (Elt Ideal))
    (e0 : V (Proc.devRef .tc Cert.ReferenceIdeal.main_arg0) = grid m d) (e1 : V (Proc.devRef .tc Cert.ReferenceIdeal.main_arg1) = guide m d)
    (hA : ∀ i, (((grid m d i : EReal).toReal : ℝ) : EReal) = grid m d i)
    (hB : ∀ i, (((guide m d i : EReal).toReal : ℝ) : EReal) = guide m d i ∧ -2 ^ 27 ≤ (guide m d i : EReal).toReal)
    (g : Buf (Elt Ideal) (Tile.v3L d)) (hv : ∀ r < 12, ∀ n < 262144, Tile.rd2 Tile.a8 g r n = (Tile.args m d).val r n) :
    Tile.outOf d g = refOut (image m d) (coeffs V) := by
  refine funext fun (j : (⟨4, ![4, 3, 512, 512]⟩ : Shape).Idx) => ?_
  obtain ⟨b, o, h, w, rfl⟩ : ∃ (b : Fin 4) (o : Fin 3) (h w : Fin 512), j = ix4 b o h w :=
    ⟨j 0, j 1, j 2, j 3, by funext a; match a with | 0 => rfl | 1 => rfl | 2 => rfl | 3 => rfl⟩
  let R : ℕ → ℕ → ℕ → ℕ → ℝ := fun k z y x =>
    if hh : k < 12 ∧ z < 8 ∧ y < 16 ∧ x < 16 then (grid m d (ix5 b ⟨k, hh.1⟩ ⟨z, hh.2.1⟩ ⟨y, hh.2.2.1⟩ ⟨x, hh.2.2.2⟩) : EReal).toReal else 0
  have hR : ∀ (k : Fin 12) (z : Fin 8) (y x : Fin 16), grid m d (ix5 b k z y x) = (R k z y x : EReal) := by
    intro k z y x
    have e : R k z y x = (grid m d (ix5 b k z y x) : EReal).toReal := dif_pos ⟨k.isLt, z.isLt, y.isLt, x.isLt⟩
    rw [e]
    exact (hA _).symm
  obtain ⟨hg, hl⟩ := hB (ix3 b h w)
  refine (out_at d g b o h w).trans ((hv _ (by omega) _ (by omega)).trans ((val_at m d b o h w R _ hl hR hg.symm).trans ?_))
  have hC := fun k : Fin 12 => coeffs_apply V b k h w (R k) _
    (fun z y x => (congrFun e0 (ix5 b k z y x)).trans (hR k z y x)) ((congrFun e1 (ix3 b h w)).trans hg.symm)
  refine Eq.trans ?_ (refOut_apply (image m d) (coeffs V) b o h w).symm
  rw [hC, Fin.sum_univ_three, hC, hC, hC]
  dsimp only
  rw [Nat.mul_comm 4 o.val]
  refine congrArg₂ (· + ·) (congrArg₂ (· + ·) (congrArg₂ (· + ·) ?_ ?_) ?_) rfl <;> exact EReal.mul_comm _ _

/-! ## The claim -/

theorem algebraic : Cert.algebraic_KernelIdeal_ReferenceIdeal_pre_in_reach (hPre_in_reach := preFacts) := by
  intro m g m' g' hpre hag
  have hp := fun c => pre_reads _ _ _ (hpre c)
  have he : ∀ c (f : Buf (Elt Ideal) (Tile.v3L c)), (∀ r < 12, ∀ n < 262144, Tile.rd2 Tile.a8 f r n = (Tile.args m c).val r n) →
      Tile.outOf c f = refOut (image m c) (coeffs (StableHlo.launchContents m' c)) :=
    fun c f hf => out_eq m c (StableHlo.launchContents m' c) (hag c).1 (hag c).2.1 (hp c).1 (hp c).2 f hf
  refine ⟨fun c => refOut (image m c) (coeffs (StableHlo.launchContents m' c)), ?_, ?_⟩
  · refine (θ_run Cert.KernelIdeal.defs _ _).mono (fun r hr c => ?_) (Tile.run_main (F := Ideal) m g)
    obtain ⟨h0, h1, h2, f, hf, h4⟩ := hr.1 c
    exact ⟨h4.trans (he c f hf), h0, h1, h2⟩
  · refine (θ_run Cert.ReferenceIdeal.defs _ _).mono (fun r hr c => ?_) (Cert.ReferenceIdeal.Value.run (F := Ideal) m' g')
    obtain ⟨h4, h0, h1, h2⟩ := hr c
    refine ⟨h4.trans ?_, h0, h1, h2⟩
    rw [v364_eq]
    exact congrArg (fun I => refOut I (coeffs (StableHlo.launchContents m' c))) (hag c).2.2

end Cert.Proof.Value

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Value.preFacts, frame_kernel, frame_kernelIdeal,
    fun m ρ _ => frame_kernelIdeal m ρ trivial, frame_reference, fun m ρ _ => frame_reference m ρ trivial, trivial, Value.algebraic⟩

end Cert.Proof

end
